-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates [hPre_finite_gates : Cert.Pre_finite_gates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates [hPre_finite_gates : Cert.Pre_finite_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_start [hPre_finite_start : Cert.Pre_finite_start.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_start.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_start [hPre_finite_start : Cert.Pre_finite_start.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_start.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_gates [hKernelIdeal : Cert.KernelIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_gates [hReferenceIdeal : Cert.ReferenceIdeal.Facts] [hPre_finite_gates : Cert.Pre_finite_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Kernel8Ideal_pre_finite_start [hKernel8Ideal : Cert.Kernel8Ideal.Facts] [hPre_finite_start : Cert.Pre_finite_start.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_start m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Reference8Ideal_pre_finite_start [hReference8Ideal : Cert.Reference8Ideal.Facts] [hPre_finite_start : Cert.Pre_finite_start.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_start m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def preserves_Kernel_KernelIdeal : Prop :=
  True

def algebraic_KernelIdeal_ReferenceIdeal_pre_finite_gates [hKernelIdeal : Cert.KernelIdeal.Facts] [hReferenceIdeal : Cert.ReferenceIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)) (v2 : (c : Dev Cert.KernelIdeal.nD) → Buf (Elt Ideal) ((c.tc : Thread Cert.KernelIdeal.nD Cert.KernelIdeal.τ).loc Cert.KernelIdeal.main_v28_2)) (v3 : (c : Dev Cert.KernelIdeal.nD) → Buf (Elt Ideal) ((c.tc : Thread Cert.KernelIdeal.nD Cert.KernelIdeal.τ).loc Cert.KernelIdeal.main_v28_3)) (v4 : (c : Dev Cert.KernelIdeal.nD) → Buf (Elt Ideal) ((c.tc : Thread Cert.KernelIdeal.nD Cert.KernelIdeal.τ).loc Cert.KernelIdeal.main_v28_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_v28_2) = v2 c
          ∧ r.2.mem ((c.tc : Thread Cert.KernelIdeal.nD Cert.KernelIdeal.τ).loc Cert.KernelIdeal.main_v28_3) = v3 c
          ∧ r.2.mem ((c.tc : Thread Cert.KernelIdeal.nD Cert.KernelIdeal.τ).loc Cert.KernelIdeal.main_v28_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v218) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v106) = v2 c
          ∧ r.2.mem ((c.tc : Thread Cert.ReferenceIdeal.nD Cert.ReferenceIdeal.τ).loc Cert.ReferenceIdeal.main_v219) = v3 c
          ∧ r.2.mem ((c.tc : Thread Cert.ReferenceIdeal.nD Cert.ReferenceIdeal.τ).loc Cert.ReferenceIdeal.main_v193) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_v65) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v65) = v0 c
          ∧ r.2.mem ((c.tc : Thread Cert.Reference5Ideal.nD Cert.Reference5Ideal.τ).loc Cert.Reference5Ideal.main_v66) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v56) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v15)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v33) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_finite_start [hKernel8Ideal : Cert.Kernel8Ideal.Facts] [hReference8Ideal : Cert.Reference8Ideal.Facts] [hPre_finite_start : Cert.Pre_finite_start.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_start m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v28_1)) (v1 : (c : Dev Cert.Kernel8Ideal.nD) → Buf (Elt Ideal) ((c.tc : Thread Cert.Kernel8Ideal.nD Cert.Kernel8Ideal.τ).loc Cert.Kernel8Ideal.main_v28_2)) (v2 : (c : Dev Cert.Kernel8Ideal.nD) → Buf (Elt Ideal) ((c.tc : Thread Cert.Kernel8Ideal.nD Cert.Kernel8Ideal.τ).loc Cert.Kernel8Ideal.main_v28_3)) (v3 : (c : Dev Cert.Kernel8Ideal.nD) → Buf (Elt Ideal) ((c.tc : Thread Cert.Kernel8Ideal.nD Cert.Kernel8Ideal.τ).loc Cert.Kernel8Ideal.main_v28_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v28_1) = v0 c
          ∧ r.2.mem ((c.tc : Thread Cert.Kernel8Ideal.nD Cert.Kernel8Ideal.τ).loc Cert.Kernel8Ideal.main_v28_2) = v1 c
          ∧ r.2.mem ((c.tc : Thread Cert.Kernel8Ideal.nD Cert.Kernel8Ideal.τ).loc Cert.Kernel8Ideal.main_v28_3) = v2 c
          ∧ r.2.mem ((c.tc : Thread Cert.Kernel8Ideal.nD Cert.Kernel8Ideal.τ).loc Cert.Kernel8Ideal.main_v28_4) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v40) = v0 c
          ∧ r.2.mem ((c.tc : Thread Cert.Reference8Ideal.nD Cert.Reference8Ideal.τ).loc Cert.Reference8Ideal.main_v46) = v1 c
          ∧ r.2.mem ((c.tc : Thread Cert.Reference8Ideal.nD Cert.Reference8Ideal.τ).loc Cert.Reference8Ideal.main_v108) = v2 c
          ∧ r.2.mem ((c.tc : Thread Cert.Reference8Ideal.nD Cert.Reference8Ideal.τ).loc Cert.Reference8Ideal.main_v107) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_gates : Cert.Pre_finite_gates.Facts) (hPre_finite_start : Cert.Pre_finite_start.Facts),
    quiescent_Kernel (hKernel := hKernel)
    ∧ quiescent_KernelIdeal (hKernelIdeal := hKernelIdeal)
    ∧ quiescent_KernelIdeal_pre_finite_gates (hKernelIdeal := hKernelIdeal) (hPre_finite_gates := hPre_finite_gates)
    ∧ quiescent_ReferenceIdeal (hReferenceIdeal := hReferenceIdeal)
    ∧ quiescent_ReferenceIdeal_pre_finite_gates (hReferenceIdeal := hReferenceIdeal) (hPre_finite_gates := hPre_finite_gates)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_start (hKernel8Ideal := hKernel8Ideal) (hPre_finite_start := hPre_finite_start)
    ∧ quiescent_Reference8Ideal (hReference8Ideal := hReference8Ideal)
    ∧ quiescent_Reference8Ideal_pre_finite_start (hReference8Ideal := hReference8Ideal) (hPre_finite_start := hPre_finite_start)
    ∧ preserves_Kernel_KernelIdeal
    ∧ algebraic_KernelIdeal_ReferenceIdeal_pre_finite_gates (hKernelIdeal := hKernelIdeal) (hReferenceIdeal := hReferenceIdeal) (hPre_finite_gates := hPre_finite_gates)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_start (hKernel8Ideal := hKernel8Ideal) (hReference8Ideal := hReference8Ideal) (hPre_finite_start := hPre_finite_start)
-- ==== Pre_finite_gates.lean ====
abbrev S1024x4104 : Shape := ⟨2, ![1024, 4104]⟩
abbrev S128x4x128x128 : Shape := ⟨4, ![128, 4, 128, 128]⟩
abbrev S128x4x128 : Shape := ⟨3, ![128, 4, 128]⟩
abbrev S128x4 : Shape := ⟨2, ![128, 4]⟩
abbrev S4 : Shape := ⟨1, ![4]⟩
abbrev S4x128 : Shape := ⟨2, ![4, 128]⟩
abbrev S2x512 : Shape := ⟨2, ![2, 512]⟩
abbrev S_ : Shape := ⟨0, ![]⟩

class Facts : Prop where
  bcast_S_S1024x4104 : S_.BroadcastsInDim S1024x4104 (![] : Fin 0 → Fin S1024x4104.rank)
  reducesTo_S1024x4104_S_d0_1 : S1024x4104.ReducesTo [0, 1] S_
  h_S_ : 0 < S_.numel
  bcast_S_S4 : S_.BroadcastsInDim S4 (![] : Fin 0 → Fin S4.rank)
  reducesTo_S4_S_d0 : S4.ReducesTo [0] S_
  bcast_S_S2x512 : S_.BroadcastsInDim S2x512 (![] : Fin 0 → Fin S2x512.rank)
  reducesTo_S2x512_S_d0_1 : S2x512.ReducesTo [0, 1] S_

variable [Facts]

def fn {F : FTy → Type} [FloatOps F] (main_arg0 : FVec F S1024x4104 .f32) (main_arg1 : FVec F S128x4x128x128 .f32) (main_arg2 : FVec F S128x4x128 .f32) (main_arg3 : FVec F S128x4 .f32) (main_arg4 : FVec F S128x4x128x128 .f32) (main_arg5 : FVec F S4 .f32) (main_arg6 : FVec F S4x128 .f32) (main_arg7 : FVec F S4x128 .f32) (main_arg8 : FVec F S2x512 .f32) : IVec S_ 1 :=
  let main_v0 : FVec F S1024x4104 .f32 := Host.absf main_arg0
  let main_cst : FVec F S_ .f32 := constant S_ .f32 0x7F800000#32
  let main_v1 : FVec F S1024x4104 .f32 := broadcastInDim S1024x4104 ![] bcast_S_S1024x4104 main_cst
  let main_v2 : IVec S1024x4104 1 := cmpf .olt main_v0 main_v1
  let main_c : IVec S_ 1 := constantI S_ 1 1#1
  let main_v3 : IVec S_ 1 := (fun x v => Host.reduce IntOp.andi x v reducesTo_S1024x4104_S_d0_1 h_S_) main_v2 main_c
  let main_v4 : FVec F S4 .f32 := Host.absf main_arg5
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S2x512 .f32 := Host.absf main_arg8
  let main_cst_2 : FVec F S_ .f32 := constant S_ .f32 0x7F800000#32
  let main_v10 : FVec F S2x512 .f32 := broadcastInDim S2x512 ![] bcast_S_S2x512 main_cst_2
  let main_v11 : IVec S2x512 1 := cmpf .olt main_v9 main_v10
  let main_c_3 : IVec S_ 1 := constantI S_ 1 1#1
  let main_v12 : IVec S_ 1 := (fun x v => Host.reduce IntOp.andi x v reducesTo_S2x512_S_d0_1 h_S_) main_v11 main_c_3
  let main_v13 : IVec S_ 1 := andi main_v8 main_v12
  main_v13
-- ==== Pre_finite_start.lean ====
abbrev S16384x4104 : Shape := ⟨2, ![16384, 4104]⟩
abbrev S1x4x128x128 : Shape := ⟨4, ![1, 4, 128, 128]⟩
abbrev S1x4x128 : Shape := ⟨3, ![1, 4, 128]⟩
abbrev S1x4 : Shape := ⟨2, ![1, 4]⟩
abbrev S4 : Shape := ⟨1, ![4]⟩
abbrev S4x128 : Shape := ⟨2, ![4, 128]⟩
abbrev S2x512 : Shape := ⟨2, ![2, 512]⟩
abbrev S_ : Shape := ⟨0, ![]⟩

class Facts : Prop where
  bcast_S_S16384x4104 : S_.BroadcastsInDim S16384x4104 (![] : Fin 0 → Fin S16384x4104.rank)
  reducesTo_S16384x4104_S_d0_1 : S16384x4104.ReducesTo [0, 1] S_
  h_S_ : 0 < S_.numel
  bcast_S_S1x4 : S_.BroadcastsInDim S1x4 (![] : Fin 0 → Fin S1x4.rank)
  reducesTo_S1x4_S_d0_1 : S1x4.ReducesTo [0, 1] S_
  bcast_S_S4 : S_.BroadcastsInDim S4 (![] : Fin 0 → Fin S4.rank)
  reducesTo_S4_S_d0 : S4.ReducesTo [0] S_
  bcast_S_S2x512 : S_.BroadcastsInDim S2x512 (![] : Fin 0 → Fin S2x512.rank)
  reducesTo_S2x512_S_d0_1 : S2x512.ReducesTo [0, 1] S_

variable [Facts]

def fn_part1 {F : FTy → Type} [FloatOps F] (main_v13 : IVec S_ 1) (main_v16 : IVec S2x512 1) : IVec S_ 1 :=
  let main_c_5 : IVec S_ 1 := constantI S_ 1 1#1
  let main_v17 : IVec S_ 1 := (fun x v => Host.reduce IntOp.andi x v reducesTo_S2x512_S_d0_1 h_S_) main_v16 main_c_5
  let main_v18 : IVec S_ 1 := andi main_v13 main_v17
  main_v18

def fn {F : FTy → Type} [FloatOps F] (main_arg0 : FVec F S16384x4104 .f32) (main_arg1 : FVec F S1x4x128x128 .f32) (main_arg2 : FVec F S1x4x128 .f32) (main_arg3 : FVec F S1x4 .f32) (main_arg4 : FVec F S1x4x128x128 .f32) (main_arg5 : FVec F S4 .f32) (main_arg6 : FVec F S4x128 .f32) (main_arg7 : FVec F S4x128 .f32) (main_arg8 : FVec F S2x512 .f32) : IVec S_ 1 :=
  let main_v0 : FVec F S16384x4104 .f32 := Host.absf main_arg0
  let main_cst : FVec F S_ .f32 := constant S_ .f32 0x7F800000#32
  let main_v1 : FVec F S16384x4104 .f32 := broadcastInDim S16384x4104 ![] bcast_S_S16384x4104 main_cst
  let main_v2 : IVec S16384x4104 1 := cmpf .olt main_v0 main_v1
  let main_c : IVec S_ 1 := constantI S_ 1 1#1
  let main_v3 : IVec S_ 1 := (fun x v => Host.reduce IntOp.andi x v reducesTo_S16384x4104_S_d0_1 h_S_) main_v2 main_c
  let main_v4 : FVec F S1x4 .f32 := Host.absf main_arg3
  let main_cst_0 : FVec F S_ .f32 := constant S_ .f32 0x7F800000#32
  let main_v5 : FVec F S1x4 .f32 := broadcastInDim S1x4 ![] bcast_S_S1x4 main_cst_0
  let main_v6 : IVec S1x4 1 := cmpf .olt main_v4 main_v5
  let main_c_1 : IVec S_ 1 := constantI S_ 1 1#1
  let main_v7 : IVec S_ 1 := (fun x v => Host.reduce IntOp.andi x v reducesTo_S1x4_S_d0_1 h_S_) main_v6 main_c_1
  let main_v8 : IVec S_ 1 := andi main_v3 main_v7
  let main_v9 : FVec F S4 .f32 := Host.absf main_arg5
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S2x512 .f32 := Host.absf main_arg8
  let main_cst_4 : FVec F S_ .f32 := constant S_ .f32 0x7F800000#32
  let main_v15 : FVec F S2x512 .f32 := broadcastInDim S2x512 ![] bcast_S_S2x512 main_cst_4
  let main_v16 : IVec S2x512 1 := cmpf .olt main_v14 main_v15
  fn_part1 (F := F) main_v13 main_v16
-- ==== Kernel.lean ====
abbrev S1024x4104 : Shape := ⟨2, ![1024, 4104]⟩
abbrev S128x4x128x128 : Shape := ⟨4, ![128, 4, 128, 128]⟩
abbrev S128x4x128 : Shape := ⟨3, ![128, 4, 128]⟩
abbrev S128x4 : Shape := ⟨2, ![128, 4]⟩
abbrev S4 : Shape := ⟨1, ![4]⟩
abbrev S4x128 : Shape := ⟨2, ![4, 128]⟩
abbrev S2x512 : Shape := ⟨2, ![2, 512]⟩
abbrev S1024x2048 : Shape := ⟨2, ![1024, 2048]⟩
abbrev S1024x8 : Shape := ⟨2, ![1024, 8]⟩
abbrev S_ : Shape := ⟨0, ![]⟩
abbrev S1024x120 : Shape := ⟨2, ![1024, 120]⟩
abbrev S1024x4224 : Shape := ⟨2, ![1024, 4224]⟩
abbrev S1x128 : Shape := ⟨2, ![1, 128]⟩
abbrev S1 : Shape := ⟨1, ![1]⟩
abbrev S2 : Shape := ⟨1, ![2]⟩
abbrev S512 : Shape := ⟨1, ![512]⟩
abbrev S1x512 : Shape := ⟨2, ![1, 512]⟩
abbrev S128x1x4 : Shape := ⟨3, ![128, 1, 4]⟩
abbrev S1024x1024 : Shape := ⟨2, ![1024, 1024]⟩
abbrev S32x4224 : Shape := ⟨2, ![32, 4224]⟩
abbrev S4x4x128x128 : Shape := ⟨4, ![4, 4, 128, 128]⟩
abbrev S4x4x128 : Shape := ⟨3, ![4, 4, 128]⟩
abbrev S4x1x4 : Shape := ⟨3, ![4, 1, 4]⟩
abbrev S32x1024 : Shape := ⟨2, ![32, 1024]⟩
abbrev S1x1x128x128 : Shape := ⟨4, ![1, 1, 128, 128]⟩
abbrev S128x128 : Shape := ⟨2, ![128, 128]⟩
abbrev S8x8 : Shape := ⟨2, ![8, 8]⟩
abbrev S8x128 : Shape := ⟨2, ![8, 128]⟩
abbrev S1x4x128 : Shape := ⟨3, ![1, 4, 128]⟩
abbrev S1x1x4 : Shape := ⟨3, ![1, 1, 4]⟩
abbrev S1x4 : Shape := ⟨2, ![1, 4]⟩
abbrev S1x1 : Shape := ⟨2, ![1, 1]⟩
abbrev S8x1 : Shape := ⟨2, ![8, 1]⟩
abbrev S8 : Shape := ⟨1, ![8]⟩
abbrev S128 : Shape := ⟨1, ![128]⟩
abbrev S1x8x128 : Shape := ⟨3, ![1, 8, 128]⟩
abbrev S1x1x128 : Shape := ⟨3, ![1, 1, 128]⟩

abbrev nBuf : Space → Nat
  | .hbm => 51
  | .vmem => 24
  | .smem => 0
  | _ => 0

abbrev bufTy : (tb : Table) → Fin (tcTables nBuf tb) → BufTy
  | .hbm, ⟨0, _⟩ => ⟨S1024x4104, .f32⟩
  | .hbm, ⟨1, _⟩ => ⟨S128x4x128x128, .f32⟩
  | .hbm, ⟨2, _⟩ => ⟨S128x4x128, .f32⟩
  | .hbm, ⟨3, _⟩ => ⟨S128x4, .f32⟩
  | .hbm, ⟨4, _⟩ => ⟨S128x4x128x128, .f32⟩
  | .hbm, ⟨5, _⟩ => ⟨S4, .f32⟩
  | .hbm, ⟨6, _⟩ => ⟨S4x128, .f32⟩
  | .hbm, ⟨7, _⟩ => ⟨S4x128, .f32⟩
  | .hbm, ⟨8, _⟩ => ⟨S2x512, .f32⟩
  | .hbm, ⟨9, _⟩ => ⟨S1024x2048, .f32⟩
  | .hbm, ⟨10, _⟩ => ⟨S1024x2048, .f32⟩
  | .hbm, ⟨11, _⟩ => ⟨S1024x8, .f32⟩
  | .hbm, ⟨12, _⟩ => ⟨S_, .f32⟩
  | .hbm, ⟨13, _⟩ => ⟨S1024x120, .f32⟩
  | .hbm, ⟨14, _⟩ => ⟨S1024x4224, .f32⟩
  | .hbm, ⟨15, _⟩ => ⟨S_, .f32⟩
  | .hbm, ⟨16, _⟩ => ⟨S1x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128, .f32⟩
  | .hbm, ⟨23, _⟩ => ⟨S_, .f32⟩
  | .hbm, ⟨24, _⟩ => ⟨S512, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S1x512, .f32⟩
  | .hbm, ⟨29, _⟩ => ⟨S2x512, .f32⟩
  | .hbm, ⟨30, _⟩ => ⟨S2x512, .f32⟩
  | .hbm, ⟨31, _⟩ => ⟨S2x512, .f32⟩
  | .hbm, ⟨32, _⟩ => ⟨S_, .f32⟩
  | .hbm, ⟨33, _⟩ => ⟨S512, .f32⟩
  | .hbm, ⟨34, _⟩ => ⟨S1x512, .f32⟩
  | .hbm, ⟨35, _⟩ => ⟨S2x512, .f32⟩
  | .hbm, ⟨36, _⟩ => ⟨S2x512, .f32⟩
  | .hbm, ⟨37, _⟩ => ⟨S_, .f32⟩
  | .hbm, ⟨38, _⟩ => ⟨S_, .f32⟩
  | .hbm, ⟨39, _⟩ => ⟨S2x512, .f32⟩
  | .hbm, ⟨40, _⟩ => ⟨S1x512, .f32⟩
  | .hbm, ⟨41, _⟩ => ⟨S512, .f32⟩
  | .hbm, ⟨42, _⟩ => ⟨S1x512, .f32⟩
  | .hbm, ⟨43, _⟩ => ⟨S128x1x4, .f32⟩
  | .hbm, ⟨44, _⟩ => ⟨S1x512, .f32⟩
  | .hbm, ⟨45, _⟩ => ⟨S1x512, .f32⟩
  | .hbm, ⟨46, _⟩ => ⟨S1024x1024, .bf16⟩
  | .hbm, ⟨47, _⟩ => ⟨S128x4x128x128, .f32⟩
  | .hbm, ⟨48, _⟩ => ⟨S128x4x128, .f32⟩
  | .hbm, ⟨49, _⟩ => ⟨S128x1x4, .f32⟩
  | .hbm, ⟨50, _⟩ => ⟨S128x4x128x128, .f32⟩
  | .local _ .vmem, ⟨0, _⟩ => ⟨S32x4224, .f32⟩
  | .local _ .vmem, ⟨1, _⟩ => ⟨S32x4224, .f32⟩
  | .local _ .vmem, ⟨2, _⟩ => ⟨S4x4x128x128, .f32⟩
  | .local _ .vmem, ⟨3, _⟩ => ⟨S4x4x128x128, .f32⟩
  | .local _ .vmem, ⟨4, _⟩ => ⟨S4x4x128, .f32⟩
  | .local _ .vmem, ⟨5, _⟩ => ⟨S4x4x128, .f32⟩
  | .local _ .vmem, ⟨6, _⟩ => ⟨S4x1x4, .f32⟩
  | .local _ .vmem, ⟨7, _⟩ => ⟨S4x1x4, .f32⟩
  | .local _ .vmem, ⟨8, _⟩ => ⟨S4x4x128x128, .f32⟩
  | .local _ .vmem, ⟨9, _⟩ => ⟨S4x4x128x128, .f32⟩
  | .local _ .vmem, ⟨10, _⟩ => ⟨S1x128, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S32x1024, .bf16⟩
  | .local _ .vmem, ⟨15, _⟩ => ⟨S32x1024, .bf16⟩
  | .local _ .vmem, ⟨16, _⟩ => ⟨S4x4x128x128, .f32⟩
  | .local _ .vmem, ⟨17, _⟩ => ⟨S4x4x128x128, .f32⟩
  | .local _ .vmem, ⟨18, _⟩ => ⟨S4x4x128, .f32⟩
  | .local _ .vmem, ⟨19, _⟩ => ⟨S4x4x128, .f32⟩
  | .local _ .vmem, ⟨20, _⟩ => ⟨S4x1x4, .f32⟩
  | .local _ .vmem, ⟨21, _⟩ => ⟨S4x1x4, .f32⟩
  | .local _ .vmem, ⟨22, _⟩ => ⟨S4x4x128x128, .f32⟩
  | .local _ .vmem, ⟨23, _⟩ => ⟨S4x4x128x128, .f32⟩
  | _, _ => ⟨S1024x4104, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call0_call0_cst : Ref sig .tc := ⟨.hbm, 37, rfl⟩
abbrev main_call0_call0_v0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev main_v28_2 : Ref sig .tc := ⟨.hbm, 48, rfl⟩
abbrev main_v28_3 : Ref sig .tc := ⟨.hbm, 49, rfl⟩
abbrev main_v28_4 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x4224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S32x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S4x4x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S4x1x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S4x4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S1024x4104 : Shape := ⟨2, ![1024, 4104]⟩
abbrev S128x4x128x128 : Shape := ⟨4, ![128, 4, 128, 128]⟩
abbrev S128x4x128 : Shape := ⟨3, ![128, 4, 128]⟩
abbrev S128x4 : Shape := ⟨2, ![128, 4]⟩
abbrev S4 : Shape := ⟨1, ![4]⟩
abbrev S4x128 : Shape := ⟨2, ![4, 128]⟩
abbrev S2x512 : Shape := ⟨2, ![2, 512]⟩
abbrev S_ : Shape := ⟨0, ![]⟩
abbrev S512 : Shape := ⟨1, ![512]⟩
abbrev S1x512 : Shape := ⟨2, ![1, 512]⟩
abbrev S128x8x4104 : Shape := ⟨3, ![128, 8, 4104]⟩
abbrev S128x8x512 : Shape := ⟨3, ![128, 8, 512]⟩
abbrev S128x8x4x128 : Shape := ⟨4, ![128, 8, 4, 128]⟩
abbrev S128x8x4 : Shape := ⟨3, ![128, 8, 4]⟩
abbrev S1x1x4 : Shape := ⟨3, ![1, 1, 4]⟩
abbrev S128x4x8 : Shape := ⟨3, ![128, 4, 8]⟩
abbrev S8x8 : Shape := ⟨2, ![8, 8]⟩
abbrev S128x4x8x1 : Shape := ⟨4, ![128, 4, 8, 1]⟩
abbrev S128x4x1x8 : Shape := ⟨4, ![128, 4, 1, 8]⟩
abbrev S128x4x8x8 : Shape := ⟨4, ![128, 4, 8, 8]⟩
abbrev S128x4x1 : Shape := ⟨3, ![128, 4, 1]⟩
abbrev S128x4x8x128 : Shape := ⟨4, ![128, 4, 8, 128]⟩
abbrev S128x8x4x1 : Shape := ⟨4, ![128, 8, 4, 1]⟩
abbrev S128x4x1x1 : Shape := ⟨4, ![128, 4, 1, 1]⟩
abbrev S1x1x4x128 : Shape := ⟨4, ![1, 1, 4, 128]⟩
abbrev S1x8x8x1x1 : Shape := ⟨5, ![1, 8, 8, 1, 1]⟩
abbrev S128x8x1x4x128 : Shape := ⟨5, ![128, 8, 1, 4, 128]⟩
abbrev S128x1x8x4x128 : Shape := ⟨5, ![128, 1, 8, 4, 128]⟩
abbrev S128x8x8x4x128 : Shape := ⟨5, ![128, 8, 8, 4, 128]⟩
abbrev S128x8x8x4 : Shape := ⟨4, ![128, 8, 8, 4]⟩
abbrev S128x4x128x8 : Shape := ⟨4, ![128, 4, 128, 8]⟩
abbrev S128x1x4x128 : Shape := ⟨4, ![128, 1, 4, 128]⟩
abbrev S128x4x128x1 : Shape := ⟨4, ![128, 4, 128, 1]⟩
abbrev S128x8x1024 : Shape := ⟨3, ![128, 8, 1024]⟩
abbrev S1024x1024 : Shape := ⟨2, ![1024, 1024]⟩
abbrev S128x1x4 : Shape := ⟨3, ![128, 1, 4]⟩

abbrev nBuf : Space → Nat
  | .hbm => 299
  | .vmem => 0
  | .smem => 0
  | _ => 0

abbrev hbmTy0_0 (i : Nat) : BufTy := match i % 128 with
  | 0 => ⟨S1024x4104, .f32⟩
  | 1 => ⟨S128x4x128x128, .f32⟩
  | 2 => ⟨S128x4x128, .f32⟩
  | 3 => ⟨S128x4, .f32⟩
  | 4 => ⟨S128x4x128x128, .f32⟩
  | 5 => ⟨S4, .f32⟩
  | 6 => ⟨S4x128, .f32⟩
  | 7 => ⟨S4x128, .f32⟩
  | 8 => ⟨S2x512, .f32⟩
  | 9 => ⟨S_, .f32⟩
  | 10 => ⟨S512, .f32⟩
  | 11 => ⟨S_, .f32⟩
  | 12 => ⟨S512, .f32⟩
  | 13 => ⟨S512, .f32⟩
  | 14 => ⟨S1x512, .f32⟩
  | 15 => ⟨S2x512, .f32⟩
  | 16 => ⟨S2x512, .f32⟩
  | 17 => ⟨S2x512, .f32⟩
  | 18 => ⟨S_, .f32⟩
  | 19 => ⟨S512, .f32⟩
  | 20 => ⟨S1x512, .f32⟩
  | 21 => ⟨S2x512, .f32⟩
  | 22 => ⟨S2x512, .f32⟩
  | 23 => ⟨S_, .f32⟩
  | 24 => ⟨S_, .f32⟩
  | 25 => ⟨S2x512, .f32⟩
  | 26 => ⟨S1x512, .f32⟩
  | 27 => ⟨S512, .f32⟩
  | 28 => ⟨S4x128, .f32⟩
  | 29 => ⟨S128x8x4104, .f32⟩
  | 30 => ⟨S128x8x512, .f32⟩
  | 31 => ⟨S128x8x4x128, .f32⟩
  | 32 => ⟨S128x8x512, .f32⟩
  | 33 => ⟨S128x8x4x128, .f32⟩
  | 34 => ⟨S128x8x512, .f32⟩
  | 35 => ⟨S128x8x4x128, .f32⟩
  | 36 => ⟨S128x8x512, .f32⟩
  | 37 => ⟨S128x8x4x128, .f32⟩
  | 38 => ⟨S128x8x4, .f32⟩
  | 39 => ⟨S128x8x4, .f32⟩
  | 40 => ⟨S128x8x512, .f32⟩
  | 41 => ⟨S128x8x4x128, .f32⟩
  | 42 => ⟨S128x8x512, .f32⟩
  | 43 => ⟨S128x8x4x128, .f32⟩
  | 44 => ⟨S128x8x512, .f32⟩
  | 45 => ⟨S128x8x4x128, .f32⟩
  | 46 => ⟨S128x8x512, .f32⟩
  | 47 => ⟨S128x8x4x128, .f32⟩
  | 48 => ⟨S_, .f32⟩
  | 49 => ⟨S128x8x4x128, .f32⟩
  | 50 => ⟨S128x8x4x128, .f32⟩
  | 51 => ⟨S1x1x4, .f32⟩
  | 52 => ⟨S128x8x4, .f32⟩
  | 53 => ⟨S128x8x4, .f32⟩
  | 54 => ⟨S128x8x4, .f32⟩
  | 55 => ⟨S_, .f32⟩
  | 56 => ⟨S128x8x4, .f32⟩
  | 57 => ⟨S128x8x4, .f32⟩
  | 58 => ⟨S128x8x4, .f32⟩
  | 59 => ⟨S128x8x4, .f32⟩
  | 60 => ⟨S128x8x4, .i1⟩
  | 61 => ⟨S128x8x4, .f32⟩
  | 62 => ⟨S128x8x4, .f32⟩
  | 63 => ⟨S128x8x4, .f32⟩
  | 64 => ⟨S128x8x4, .f32⟩
  | 65 => ⟨S128x8x4, .f32⟩
  | 66 => ⟨S128x8x4, .f32⟩
  | 67 => ⟨S128x8x4, .f32⟩
  | 68 => ⟨S128x8x4, .f32⟩
  | 69 => ⟨S128x8x4, .f32⟩
  | 70 => ⟨S_, .f32⟩
  | 71 => ⟨S_, .f32⟩
  | 72 => ⟨S128x8x4, .f32⟩
  | 73 => ⟨S128x4x8, .f32⟩
  | 74 => ⟨S_, .i1⟩
  | 75 => ⟨S8x8, .i1⟩
  | 76 => ⟨S8x8, .i32⟩
  | 77 => ⟨S_, .i32⟩
  | 78 => ⟨S8x8, .i32⟩
  | 79 => ⟨S8x8, .i32⟩
  | 80 => ⟨S8x8, .i32⟩
  | 81 => ⟨S8x8, .i1⟩
  | 82 => ⟨S_, .i1⟩
  | 83 => ⟨S8x8, .i1⟩
  | 84 => ⟨S8x8, .i1⟩
  | 85 => ⟨S128x4x8x1, .f32⟩
  | 86 => ⟨S128x4x1x8, .f32⟩
  | 87 => ⟨S128x4x8x8, .f32⟩
  | 88 => ⟨S128x4x8x8, .f32⟩
  | 89 => ⟨S128x4x8x8, .f32⟩
  | 90 => ⟨S128x4x8, .f32⟩
  | 91 => ⟨S128x4x1x8, .f32⟩
  | 92 => ⟨S128x4x8x8, .f32⟩
  | 93 => ⟨S128x4x8x8, .f32⟩
  | 94 => ⟨S_, .f32⟩
  | 95 => ⟨S_, .f32⟩
  | 96 => ⟨S128x4x8x8, .i1⟩
  | 97 => ⟨S128x4x8x8, .f32⟩
  | 98 => ⟨S128x4x8x8, .f32⟩
  | 99 => ⟨S128x4x1, .f32⟩
  | 100 => ⟨S128x4x8, .f32⟩
  | 101 => ⟨S128x4x8, .f32⟩
  | 102 => ⟨S_, .f32⟩
  | 103 => ⟨S128x4x8, .f32⟩
  | 104 => ⟨S128x4x8, .f32⟩
  | 105 => ⟨S128x4x1, .f32⟩
  | 106 => ⟨S128x4x8, .f32⟩
  | 107 => ⟨S128x4x8, .f32⟩
  | 108 => ⟨S128x4x8, .f32⟩
  | 109 => ⟨S128x4x8, .f32⟩
  | 110 => ⟨S128x4x8x1, .f32⟩
  | 111 => ⟨S128x4x8x8, .f32⟩
  | 112 => ⟨S128x4x8x8, .f32⟩
  | 113 => ⟨S128x4x8x8, .f32⟩
  | 114 => ⟨S128x4x8x8, .f32⟩
  | 115 => ⟨S128x4x8x8, .f32⟩
  | 116 => ⟨S128x4x8x1, .f32⟩
  | 117 => ⟨S128x4x8x128, .f32⟩
  | 118 => ⟨S128x4x8x128, .f32⟩
  | 119 => ⟨S128x4x8x128, .f32⟩
  | 120 => ⟨S128x4x8x128, .f32⟩
  | 121 => ⟨S128x4x8x128, .f32⟩
  | 122 => ⟨S128x4x8, .f32⟩
  | 123 => ⟨S128x4x8, .f32⟩
  | 124 => ⟨S_, .f32⟩
  | 125 => ⟨S128x4x8, .f32⟩
  | 126 => ⟨S128x4x8, .f32⟩
  | 127 => ⟨S128x4x8, .f32⟩
  | _ => ⟨S1024x4104, .f32⟩

abbrev hbmTy0_1 (i : Nat) : BufTy := match i % 128 with
  | 0 => ⟨S128x4x8, .f32⟩
  | 1 => ⟨S128x4x8, .f32⟩
  | 2 => ⟨S128x4x8, .f32⟩
  | 3 => ⟨S128x4x8x1, .f32⟩
  | 4 => ⟨S128x4x8x128, .f32⟩
  | 5 => ⟨S128x4x8x128, .f32⟩
  | 6 => ⟨S128x4x1x8, .f32⟩
  | 7 => ⟨S128x4x8, .f32⟩
  | 8 => ⟨S128x8x4, .f32⟩
  | 9 => ⟨S128x8x4x1, .f32⟩
  | 10 => ⟨S128x8x4x128, .f32⟩
  | 11 => ⟨S128x8x4x128, .f32⟩
  | 12 => ⟨S128x4x1, .f32⟩
  | 13 => ⟨S128x4, .f32⟩
  | 14 => ⟨S128x4x1x1, .f32⟩
  | 15 => ⟨S128x4x128x128, .f32⟩
  | 16 => ⟨S128x4x128x128, .f32⟩
  | 17 => ⟨S128x4x128x128, .f32⟩
  | 18 => ⟨S128x4x128x128, .f32⟩
  | 19 => ⟨S128x4x1, .f32⟩
  | 20 => ⟨S128x4, .f32⟩
  | 21 => ⟨S128x4x1, .f32⟩
  | 22 => ⟨S128x4x128, .f32⟩
  | 23 => ⟨S128x4x128, .f32⟩
  | 24 => ⟨S_, .f32⟩
  | 25 => ⟨S128x4x128, .f32⟩
  | 26 => ⟨S128x4x128, .f32⟩
  | 27 => ⟨S128x4x1, .f32⟩
  | 28 => ⟨S128x4, .f32⟩
  | 29 => ⟨S128x8x4x128, .f32⟩
  | 30 => ⟨S128x8x4x128, .f32⟩
  | 31 => ⟨S_, .f32⟩
  | 32 => ⟨S128x8x4x128, .f32⟩
  | 33 => ⟨S128x8x4x128, .f32⟩
  | 34 => ⟨S_, .f32⟩
  | 35 => ⟨S128x8x4x128, .f32⟩
  | 36 => ⟨S128x8x4x128, .f32⟩
  | 37 => ⟨S128x8x4x128, .f32⟩
  | 38 => ⟨S128x8x4x128, .f32⟩
  | 39 => ⟨S_, .f32⟩
  | 40 => ⟨S128x8x4, .f32⟩
  | 41 => ⟨S128x8x4x1, .f32⟩
  | 42 => ⟨S_, .f32⟩
  | 43 => ⟨S128x8x4x1, .f32⟩
  | 44 => ⟨S128x8x4x1, .f32⟩
  | 45 => ⟨S_, .f32⟩
  | 46 => ⟨S128x8x4x1, .f32⟩
  | 47 => ⟨S128x8x4x1, .f32⟩
  | 48 => ⟨S128x8x4x1, .f32⟩
  | 49 => ⟨S128x8x4x128, .f32⟩
  | 50 => ⟨S128x8x4x128, .f32⟩
  | 51 => ⟨S1x1x4x128, .f32⟩
  | 52 => ⟨S128x8x4x128, .f32⟩
  | 53 => ⟨S128x8x4x128, .f32⟩
  | 54 => ⟨S128x8x4x128, .f32⟩
  | 55 => ⟨S_, .f32⟩
  | 56 => ⟨S4x128, .f32⟩
  | 57 => ⟨S4x128, .f32⟩
  | 58 => ⟨S128x8x4x128, .f32⟩
  | 59 => ⟨S128x8x4x128, .f32⟩
  | 60 => ⟨S_, .f32⟩
  | 61 => ⟨S128x8x4x128, .f32⟩
  | 62 => ⟨S128x8x4x128, .f32⟩
  | 63 => ⟨S_, .f32⟩
  | 64 => ⟨S128x8x4x128, .f32⟩
  | 65 => ⟨S128x8x4x128, .f32⟩
  | 66 => ⟨S1x1x4x128, .f32⟩
  | 67 => ⟨S128x8x4x128, .f32⟩
  | 68 => ⟨S128x8x4x128, .f32⟩
  | 69 => ⟨S1x1x4x128, .f32⟩
  | 70 => ⟨S128x8x4x128, .f32⟩
  | 71 => ⟨S128x8x4x128, .f32⟩
  | 72 => ⟨S128x8x4x128, .f32⟩
  | 73 => ⟨S_, .f32⟩
  | 74 => ⟨S4x128, .f32⟩
  | 75 => ⟨S4x128, .f32⟩
  | 76 => ⟨S128x8x4x128, .f32⟩
  | 77 => ⟨S128x8x4x128, .f32⟩
  | 78 => ⟨S128x8x4x128, .f32⟩
  | 79 => ⟨S_, .f32⟩
  | 80 => ⟨S128x8x4x128, .f32⟩
  | 81 => ⟨S128x8x4x128, .f32⟩
  | 82 => ⟨S_, .f32⟩
  | 83 => ⟨S128x8x4x128, .f32⟩
  | 84 => ⟨S128x8x4x128, .f32⟩
  | 85 => ⟨S1x1x4x128, .f32⟩
  | 86 => ⟨S128x8x4x128, .f32⟩
  | 87 => ⟨S128x8x4x128, .f32⟩
  | 88 => ⟨S128x8x4x128, .f32⟩
  | 89 => ⟨S128x8x4x128, .f32⟩
  | 90 => ⟨S_, .f32⟩
  | 91 => ⟨S128x8x4x128, .f32⟩
  | 92 => ⟨S128x8x4x128, .f32⟩
  | 93 => ⟨S_, .f32⟩
  | 94 => ⟨S128x8x4x128, .f32⟩
  | 95 => ⟨S128x8x4x128, .f32⟩
  | 96 => ⟨S128x8x4x128, .f32⟩
  | 97 => ⟨S_, .f32⟩
  | 98 => ⟨S_, .f32⟩
  | 99 => ⟨S128x8x4x128, .f32⟩
  | 100 => ⟨S1x8x8x1x1, .i1⟩
  | 101 => ⟨S128x8x1x4x128, .f32⟩
  | 102 => ⟨S128x1x8x4x128, .f32⟩
  | 103 => ⟨S128x8x8x4x128, .f32⟩
  | 104 => ⟨S128x8x8x4x128, .f32⟩
  | 105 => ⟨S128x8x8x4x128, .f32⟩
  | 106 => ⟨S_, .f32⟩
  | 107 => ⟨S_, .f32⟩
  | 108 => ⟨S128x8x8x4x128, .i1⟩
  | 109 => ⟨S128x8x8x4x128, .f32⟩
  | 110 => ⟨S128x8x8x4x128, .f32⟩
  | 111 => ⟨S128x8x8x4x128, .f32⟩
  | 112 => ⟨S128x8x1x4x128, .f32⟩
  | 113 => ⟨S128x8x8x4x128, .f32⟩
  | 114 => ⟨S128x8x8x4x128, .f32⟩
  | 115 => ⟨S128x1x8x4x128, .f32⟩
  | 116 => ⟨S128x8x8x4x128, .f32⟩
  | 117 => ⟨S128x8x8x4x128, .f32⟩
  | 118 => ⟨S_, .f32⟩
  | 119 => ⟨S128x8x8x4, .f32⟩
  | 120 => ⟨S128x8x4x128, .f32⟩
  | 121 => ⟨S128x8x4x128, .f32⟩
  | 122 => ⟨S128x4x128x8, .f32⟩
  | 123 => ⟨S128x8x4x128, .f32⟩
  | 124 => ⟨S128x4x128x8, .f32⟩
  | 125 => ⟨S128x8x4x128, .f32⟩
  | 126 => ⟨S128x8x4x128, .f32⟩
  | 127 => ⟨S128x1x4x128, .f32⟩
  | _ => ⟨S1024x4104, .f32⟩

abbrev hbmTy0_2 (i : Nat) : BufTy := match i % 128 with
  | 0 => ⟨S128x4x128, .f32⟩
  | 1 => ⟨S128x1x4x128, .f32⟩
  | 2 => ⟨S128x8x4x128, .f32⟩
  | 3 => ⟨S128x8x4x128, .f32⟩
  | 4 => ⟨S128x8x4x128, .f32⟩
  | 5 => ⟨S128x8x4x128, .f32⟩
  | 6 => ⟨S128x4x128, .f32⟩
  | 7 => ⟨S128x4x128x1, .f32⟩
  | 8 => ⟨S128x4x128x128, .f32⟩
  | 9 => ⟨S128x4x128x128, .f32⟩
  | 10 => ⟨S128x4x128x128, .f32⟩
  | 11 => ⟨S128x4x128x128, .f32⟩
  | 12 => ⟨S128x8x4x128, .f32⟩
  | 13 => ⟨S128x8x4x128, .f32⟩
  | 14 => ⟨S_, .f32⟩
  | 15 => ⟨S128x8x4x128, .f32⟩
  | 16 => ⟨S128x8x4x128, .f32⟩
  | 17 => ⟨S_, .f32⟩
  | 18 => ⟨S128x8x4x128, .f32⟩
  | 19 => ⟨S128x8x4x128, .f32⟩
  | 20 => ⟨S128x8x4x128, .f32⟩
  | 21 => ⟨S_, .f32⟩
  | 22 => ⟨S128x8x4, .f32⟩
  | 23 => ⟨S128x8x4x1, .f32⟩
  | 24 => ⟨S_, .f32⟩
  | 25 => ⟨S128x8x4x1, .f32⟩
  | 26 => ⟨S128x8x4x1, .f32⟩
  | 27 => ⟨S_, .f32⟩
  | 28 => ⟨S128x8x4x1, .f32⟩
  | 29 => ⟨S128x8x4x1, .f32⟩
  | 30 => ⟨S128x8x4x1, .f32⟩
  | 31 => ⟨S128x8x4x128, .f32⟩
  | 32 => ⟨S128x8x4x128, .f32⟩
  | 33 => ⟨S1x1x4x128, .f32⟩
  | 34 => ⟨S128x8x4x128, .f32⟩
  | 35 => ⟨S128x8x4x128, .f32⟩
  | 36 => ⟨S128x8x4x128, .f32⟩
  | 37 => ⟨S128x8x512, .f32⟩
  | 38 => ⟨S128x8x512, .f32⟩
  | 39 => ⟨S128x8x1024, .f32⟩
  | 40 => ⟨S1024x1024, .f32⟩
  | 41 => ⟨S1024x1024, .bf16⟩
  | 42 => ⟨S128x1x4, .f32⟩
  | _ => ⟨S1024x4104, .f32⟩

abbrev hbmTy (i : Nat) : BufTy := match i / 128 with
  | 0 => hbmTy0_0 i
  | 1 => hbmTy0_1 i
  | 2 => hbmTy0_2 i
  | _ => ⟨S1024x4104, .f32⟩

abbrev bufTy : (tb : Table) → Fin (tcTables nBuf tb) → BufTy
  | .hbm, ⟨i, _⟩ => hbmTy i
  | _, _ => ⟨S1024x4104, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_call0_cst : Ref sig .tc := ⟨.hbm, 23, rfl⟩
abbrev main_call0_call0_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call1_v0 : Ref sig .tc := ⟨.hbm, 54, rfl⟩
abbrev main_call1_call0_cst : Ref sig .tc := ⟨.hbm, 55, rfl⟩
abbrev main_call1_call0_v0 : Ref sig .tc := ⟨.hbm, 56, rfl⟩
abbrev main_call1_call0_v1 : Ref sig .tc := ⟨.hbm, 57, rfl⟩
abbrev main_call1_call0_v2 : Ref sig .tc := ⟨.hbm, 58, rfl⟩
abbrev main_call1_call0_v3 : Ref sig .tc := ⟨.hbm, 59, rfl⟩
abbrev main_call1_call0_v4 : Ref sig .tc := ⟨.hbm, 60, rfl⟩
abbrev main_call1_call0_v5 : Ref sig .tc := ⟨.hbm, 61, rfl⟩
abbrev main_call1_call0_v6 : Ref sig .tc := ⟨.hbm, 62, rfl⟩
abbrev main_call1_call0_v7 : Ref sig .tc := ⟨.hbm, 63, rfl⟩
abbrev main_call1_call0_v8 : Ref sig .tc := ⟨.hbm, 64, rfl⟩
abbrev main_call1_call0_v9 : Ref sig .tc := ⟨.hbm, 65, rfl⟩
abbrev main_call1_call0_v10 : Ref sig .tc := ⟨.hbm, 66, rfl⟩
abbrev main_call1_call0_v11 : Ref sig .tc := ⟨.hbm, 67, rfl⟩
abbrev main_call1_v1 : Ref sig .tc := ⟨.hbm, 68, rfl⟩
abbrev main_v39 : Ref sig .tc := ⟨.hbm, 69, rfl⟩
abbrev main_call2_call0_cst : Ref sig .tc := ⟨.hbm, 70, rfl⟩
abbrev main_call2_call0_v0 : Ref sig .tc := ⟨.hbm, 71, rfl⟩
abbrev main_v40 : Ref sig .tc := ⟨.hbm, 72, rfl⟩
abbrev main_v41 : Ref sig .tc := ⟨.hbm, 73, rfl⟩
abbrev main_c : Ref sig .tc := ⟨.hbm, 74, rfl⟩
abbrev main_v42 : Ref sig .tc := ⟨.hbm, 75, rfl⟩
abbrev main_call3_v0 : Ref sig .tc := ⟨.hbm, 76, rfl⟩
abbrev main_call3_c : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_c_0 : Ref sig .tc := ⟨.hbm, 82, rfl⟩
abbrev main_call3_v5 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_3 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_4 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_cst_5 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_6 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_cst_7 : Ref sig .tc := ⟨.hbm, 159, rfl⟩
abbrev main_v111 : Ref sig .tc := ⟨.hbm, 160, rfl⟩
abbrev main_v112 : Ref sig .tc := ⟨.hbm, 161, rfl⟩
abbrev main_cst_8 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_9 : Ref sig .tc := ⟨.hbm, 167, rfl⟩
abbrev main_v117 : Ref sig .tc := ⟨.hbm, 168, rfl⟩
abbrev main_v118 : Ref sig .tc := ⟨.hbm, 169, rfl⟩
abbrev main_cst_10 : Ref sig .tc := ⟨.hbm, 170, rfl⟩
abbrev main_v119 : Ref sig .tc := ⟨.hbm, 171, rfl⟩
abbrev main_v120 : Ref sig .tc := ⟨.hbm, 172, rfl⟩
abbrev main_cst_11 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_cst_12 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_13 : Ref sig .tc := ⟨.hbm, 188, rfl⟩
abbrev main_v134 : Ref sig .tc := ⟨.hbm, 189, rfl⟩
abbrev main_v135 : Ref sig .tc := ⟨.hbm, 190, rfl⟩
abbrev main_cst_14 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_cst_15 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_cst_16 : Ref sig .tc := ⟨.hbm, 207, rfl⟩
abbrev main_v150 : Ref sig .tc := ⟨.hbm, 208, rfl⟩
abbrev main_v151 : Ref sig .tc := ⟨.hbm, 209, rfl⟩
abbrev main_cst_17 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_call5_v0 : Ref sig .tc := ⟨.hbm, 216, rfl⟩
abbrev main_call5_v1 : Ref sig .tc := ⟨.hbm, 217, rfl⟩
abbrev main_call5_cst : Ref sig .tc := ⟨.hbm, 218, rfl⟩
abbrev main_call5_v2 : Ref sig .tc := ⟨.hbm, 219, rfl⟩
abbrev main_call5_v3 : Ref sig .tc := ⟨.hbm, 220, rfl⟩
abbrev main_call5_cst_0 : Ref sig .tc := ⟨.hbm, 221, rfl⟩
abbrev main_call5_v4 : Ref sig .tc := ⟨.hbm, 222, rfl⟩
abbrev main_call5_v5 : Ref sig .tc := ⟨.hbm, 223, rfl⟩
abbrev main_v157 : Ref sig .tc := ⟨.hbm, 224, rfl⟩
abbrev main_call6_call0_cst : Ref sig .tc := ⟨.hbm, 225, rfl⟩
abbrev main_call6_call0_v0 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_cst_18 : Ref sig .tc := ⟨.hbm, 234, rfl⟩
abbrev main_call7_v0 : Ref sig .tc := ⟨.hbm, 235, rfl⟩
abbrev main_call7_v1 : Ref sig .tc := ⟨.hbm, 236, rfl⟩
abbrev main_call7_v2 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_cst_19 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_cst_20 : Ref sig .tc := ⟨.hbm, 270, rfl⟩
abbrev main_v196 : Ref sig .tc := ⟨.hbm, 271, rfl⟩
abbrev main_v197 : Ref sig .tc := ⟨.hbm, 272, rfl⟩
abbrev main_cst_21 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_cst_22 : Ref sig .tc := ⟨.hbm, 277, rfl⟩
abbrev main_v201 : Ref sig .tc := ⟨.hbm, 278, rfl⟩
abbrev main_v202 : Ref sig .tc := ⟨.hbm, 279, rfl⟩
abbrev main_cst_23 : Ref sig .tc := ⟨.hbm, 280, rfl⟩
abbrev main_v203 : Ref sig .tc := ⟨.hbm, 281, rfl⟩
abbrev main_v204 : Ref sig .tc := ⟨.hbm, 282, rfl⟩
abbrev main_cst_24 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩

abbrev nD : Nat := 1
abbrev τ : Topo := Topo.v7x

variable {F : FTy → Type} [FloatOps F]
-- ==== Kernel2.lean ====
abbrev S1024x1024 : Shape := ⟨2, ![1024, 1024]⟩
abbrev S128x2x2816 : Shape := ⟨3, ![128, 2, 2816]⟩
abbrev S1024x5632 : Shape := ⟨2, ![1024, 5632]⟩
abbrev S5632 : Shape := ⟨1, ![5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S1x5632 : Shape := ⟨2, ![1, 5632]⟩
abbrev S1x2816 : Shape := ⟨2, ![1, 2816]⟩
abbrev S1x1024 : Shape := ⟨2, ![1, 1024]⟩
abbrev S256x1024 : Shape := ⟨2, ![256, 1024]⟩
abbrev S32x2x2816 : Shape := ⟨3, ![32, 2, 2816]⟩
abbrev S32x16x2816 : Shape := ⟨3, ![32, 16, 2816]⟩
abbrev S256x5632 : Shape := ⟨2, ![256, 5632]⟩
abbrev S256x2816 : Shape := ⟨2, ![256, 2816]⟩
abbrev S32x8x2816 : Shape := ⟨3, ![32, 8, 2816]⟩
abbrev S1x1x2816 : Shape := ⟨3, ![1, 1, 2816]⟩
abbrev S256 : Shape := ⟨1, ![256]⟩
abbrev S256x1 : Shape := ⟨2, ![256, 1]⟩

abbrev nBuf : Space → Nat
  | .hbm => 19
  | .vmem => 17
  | .smem => 0
  | _ => 0

abbrev bufTy : (tb : Table) → Fin (tcTables nBuf tb) → BufTy
  | .hbm, ⟨0, _⟩ => ⟨S1024x1024, .f32⟩
  | .hbm, ⟨1, _⟩ => ⟨S128x2x2816, .f32⟩
  | .hbm, ⟨2, _⟩ => ⟨S1024x5632, .f32⟩
  | .hbm, ⟨3, _⟩ => ⟨S5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x5632, .bf16⟩
  | .hbm, ⟨11, _⟩ => ⟨S1x5632, .f32⟩
  | .hbm, ⟨12, _⟩ => ⟨S1x2816, .f32⟩
  | .hbm, ⟨13, _⟩ => ⟨S2816x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1024x1024, .f32⟩
  | .hbm, ⟨18, _⟩ => ⟨S128x2x2816, .f32⟩
  | .local _ .vmem, ⟨0, _⟩ => ⟨S256x1024, .f32⟩
  | .local _ .vmem, ⟨1, _⟩ => ⟨S256x1024, .f32⟩
  | .local _ .vmem, ⟨2, _⟩ => ⟨S32x2x2816, .f32⟩
  | .local _ .vmem, ⟨3, _⟩ => ⟨S32x2x2816, .f32⟩
  | .local _ .vmem, ⟨4, _⟩ => ⟨S1024x5632, .bf16⟩
  | .local _ .vmem, ⟨5, _⟩ => ⟨S1x5632, .f32⟩
  | .local _ .vmem, ⟨6, _⟩ => ⟨S3x2816, .f32⟩
  | .local _ .vmem, ⟨7, _⟩ => ⟨S1x2816, .f32⟩
  | .local _ .vmem, ⟨8, _⟩ => ⟨S2816x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S32x2x2816, .f32⟩
  | .local _ .vmem, ⟨15, _⟩ => ⟨S32x2x2816, .f32⟩
  | .local _ .vmem, ⟨16, _⟩ => ⟨S32x16x2816, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x2x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x2x2816 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S1024x1024 : Shape := ⟨2, ![1024, 1024]⟩
abbrev S128x2x2816 : Shape := ⟨3, ![128, 2, 2816]⟩
abbrev S1024x5632 : Shape := ⟨2, ![1024, 5632]⟩
abbrev S5632 : Shape := ⟨1, ![5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S128x8x1024 : Shape := ⟨3, ![128, 8, 1024]⟩
abbrev S128x8x5632 : Shape := ⟨3, ![128, 8, 5632]⟩
abbrev S1x1x5632 : Shape := ⟨3, ![1, 1, 5632]⟩
abbrev S128x8x2816 : Shape := ⟨3, ![128, 8, 2816]⟩
abbrev S128x10x2816 : Shape := ⟨3, ![128, 10, 2816]⟩
abbrev S1x2816 : Shape := ⟨2, ![1, 2816]⟩
abbrev S1x1x2816 : Shape := ⟨3, ![1, 1, 2816]⟩
abbrev S_ : Shape := ⟨0, ![]⟩
abbrev S1x1x1024 : Shape := ⟨3, ![1, 1, 1024]⟩
abbrev S128x8 : Shape := ⟨2, ![128, 8]⟩
abbrev S128x8x1 : Shape := ⟨3, ![128, 8, 1]⟩

abbrev nBuf : Space → Nat
  | .hbm => 90
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S128x2x2816, .f32⟩
  | .hbm, ⟨2, _⟩ => ⟨S1024x5632, .f32⟩
  | .hbm, ⟨3, _⟩ => ⟨S5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S128x8x1024, .f32⟩
  | .hbm, ⟨11, _⟩ => ⟨S128x8x5632, .f32⟩
  | .hbm, ⟨12, _⟩ => ⟨S1x1x5632, .f32⟩
  | .hbm, ⟨13, _⟩ => ⟨S128x8x5632, .f32⟩
  | .hbm, ⟨14, _⟩ => ⟨S128x8x5632, .f32⟩
  | .hbm, ⟨15, _⟩ => ⟨S128x8x2816, .f32⟩
  | .hbm, ⟨16, _⟩ => ⟨S128x8x2816, .f32⟩
  | .hbm, ⟨17, _⟩ => ⟨S128x10x2816, .f32⟩
  | .hbm, ⟨18, _⟩ => ⟨S128x8x2816, .f32⟩
  | .hbm, ⟨19, _⟩ => ⟨S1x2816, .f32⟩
  | .hbm, ⟨20, _⟩ => ⟨S2816, .f32⟩
  | .hbm, ⟨21, _⟩ => ⟨S1x1x2816, .f32⟩
  | .hbm, ⟨22, _⟩ => ⟨S128x8x2816, .f32⟩
  | .hbm, ⟨23, _⟩ => ⟨S128x8x2816, .f32⟩
  | .hbm, ⟨24, _⟩ => ⟨S1x1x2816, .f32⟩
  | .hbm, ⟨25, _⟩ => ⟨S128x8x2816, .f32⟩
  | .hbm, ⟨26, _⟩ => ⟨S128x8x2816, .f32⟩
  | .hbm, ⟨27, _⟩ => ⟨S128x8x2816, .f32⟩
  | .hbm, ⟨28, _⟩ => ⟨S1x2816, .f32⟩
  | .hbm, ⟨29, _⟩ => ⟨S2816, .f32⟩
  | .hbm, ⟨30, _⟩ => ⟨S1x1x2816, .f32⟩
  | .hbm, ⟨31, _⟩ => ⟨S128x8x2816, .f32⟩
  | .hbm, ⟨32, _⟩ => ⟨S128x8x2816, .f32⟩
  | .hbm, ⟨33, _⟩ => ⟨S128x8x2816, .f32⟩
  | .hbm, ⟨34, _⟩ => ⟨S128x8x2816, .f32⟩
  | .hbm, ⟨35, _⟩ => ⟨S1x2816, .f32⟩
  | .hbm, ⟨36, _⟩ => ⟨S2816, .f32⟩
  | .hbm, ⟨37, _⟩ => ⟨S1x1x2816, .f32⟩
  | .hbm, ⟨38, _⟩ => ⟨S128x8x2816, .f32⟩
  | .hbm, ⟨39, _⟩ => ⟨S128x8x2816, .f32⟩
  | .hbm, ⟨40, _⟩ => ⟨S128x8x2816, .f32⟩
  | .hbm, ⟨41, _⟩ => ⟨S128x8x2816, .f32⟩
  | .hbm, ⟨42, _⟩ => ⟨S128x8x2816, .f32⟩
  | .hbm, ⟨43, _⟩ => ⟨S_, .f32⟩
  | .hbm, ⟨44, _⟩ => ⟨S128x8x2816, .f32⟩
  | .hbm, ⟨45, _⟩ => ⟨S128x8x2816, .f32⟩
  | .hbm, ⟨46, _⟩ => ⟨S_, .f32⟩
  | .hbm, ⟨47, _⟩ => ⟨S128x8x2816, .f32⟩
  | .hbm, ⟨48, _⟩ => ⟨S128x8x2816, .f32⟩
  | .hbm, ⟨49, _⟩ => ⟨S128x8x2816, .f32⟩
  | .hbm, ⟨50, _⟩ => ⟨S128x8x2816, .f32⟩
  | .hbm, ⟨51, _⟩ => ⟨S128x8x1024, .f32⟩
  | .hbm, ⟨52, _⟩ => ⟨S1x1x1024, .f32⟩
  | .hbm, ⟨53, _⟩ => ⟨S128x8x1024, .f32⟩
  | .hbm, ⟨54, _⟩ => ⟨S128x8x1024, .f32⟩
  | .hbm, ⟨55, _⟩ => ⟨S_, .f32⟩
  | .hbm, ⟨56, _⟩ => ⟨S128x8x1024, .f32⟩
  | .hbm, ⟨57, _⟩ => ⟨S128x8x1024, .f32⟩
  | .hbm, ⟨58, _⟩ => ⟨S128x8x1024, .f32⟩
  | .hbm, ⟨59, _⟩ => ⟨S_, .f32⟩
  | .hbm, ⟨60, _⟩ => ⟨S128x8, .f32⟩
  | .hbm, ⟨61, _⟩ => ⟨S128x8x1, .f32⟩
  | .hbm, ⟨62, _⟩ => ⟨S_, .f32⟩
  | .hbm, ⟨63, _⟩ => ⟨S128x8x1, .f32⟩
  | .hbm, ⟨64, _⟩ => ⟨S128x8x1, .f32⟩
  | .hbm, ⟨65, _⟩ => ⟨S128x8x1024, .f32⟩
  | .hbm, ⟨66, _⟩ => ⟨S128x8x1024, .f32⟩
  | .hbm, ⟨67, _⟩ => ⟨S128x8x1024, .f32⟩
  | .hbm, ⟨68, _⟩ => ⟨S_, .f32⟩
  | .hbm, ⟨69, _⟩ => ⟨S128x8, .f32⟩
  | .hbm, ⟨70, _⟩ => ⟨S128x8x1, .f32⟩
  | .hbm, ⟨71, _⟩ => ⟨S_, .f32⟩
  | .hbm, ⟨72, _⟩ => ⟨S128x8x1, .f32⟩
  | .hbm, ⟨73, _⟩ => ⟨S128x8x1, .f32⟩
  | .hbm, ⟨74, _⟩ => ⟨S128x8x1024, .f32⟩
  | .hbm, ⟨75, _⟩ => ⟨S128x8x1024, .f32⟩
  | .hbm, ⟨76, _⟩ => ⟨S_, .f32⟩
  | .hbm, ⟨77, _⟩ => ⟨S128x8x1, .f32⟩
  | .hbm, ⟨78, _⟩ => ⟨S128x8x1, .f32⟩
  | .hbm, ⟨79, _⟩ => ⟨S128x8x1, .f32⟩
  | .hbm, ⟨80, _⟩ => ⟨S128x8x1024, .f32⟩
  | .hbm, ⟨81, _⟩ => ⟨S128x8x1024, .f32⟩
  | .hbm, ⟨82, _⟩ => ⟨S1x1x1024, .f32⟩
  | .hbm, ⟨83, _⟩ => ⟨S128x8x1024, .f32⟩
  | .hbm, ⟨84, _⟩ => ⟨S128x8x1024, .f32⟩
  | .hbm, ⟨85, _⟩ => ⟨S1x1x1024, .f32⟩
  | .hbm, ⟨86, _⟩ => ⟨S128x8x1024, .f32⟩
  | .hbm, ⟨87, _⟩ => ⟨S128x8x1024, .f32⟩
  | .hbm, ⟨88, _⟩ => ⟨S1024x1024, .f32⟩
  | .hbm, ⟨89, _⟩ => ⟨S128x2x2816, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_0 : Ref sig .tc := ⟨.hbm, 59, rfl⟩
abbrev main_v40 : Ref sig .tc := ⟨.hbm, 60, rfl⟩
abbrev main_v41 : Ref sig .tc := ⟨.hbm, 61, rfl⟩
abbrev main_cst_1 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_2 : Ref sig .tc := ⟨.hbm, 68, rfl⟩
abbrev main_v47 : Ref sig .tc := ⟨.hbm, 69, rfl⟩
abbrev main_v48 : Ref sig .tc := ⟨.hbm, 70, rfl⟩
abbrev main_cst_3 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_4 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== Kernel3.lean ====
abbrev S128x8x1024 : Shape := ⟨3, ![128, 8, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 12
  | .smem => 0
  | _ => 0

abbrev bufTy : (tb : Table) → Fin (tcTables nBuf tb) → BufTy
  | .hbm, ⟨0, _⟩ => ⟨S128x8x1024, .f32⟩
  | .hbm, ⟨1, _⟩ => ⟨S1024x1024, .bf16⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1x1024, .f32⟩
  | .hbm, ⟨10, _⟩ => ⟨S1x1024, .f32⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S128x8x1024 : Shape := ⟨3, ![128, 8, 1024]⟩
abbrev S1024x1024 : Shape := ⟨2, ![1024, 1024]⟩
abbrev S1024 : Shape := ⟨1, ![1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1x1024 : Shape := ⟨2, ![1, 1024]⟩
abbrev S1024x1 : Shape := ⟨2, ![1024, 1]⟩

abbrev nBuf : Space → Nat
  | .hbm => 76
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024x1024, .bf16⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S128x8, .f32⟩
  | .hbm, ⟨10, _⟩ => ⟨S128x8x1, .f32⟩
  | .hbm, ⟨11, _⟩ => ⟨S_, .f32⟩
  | .hbm, ⟨12, _⟩ => ⟨S128x8x1, .f32⟩
  | .hbm, ⟨13, _⟩ => ⟨S128x8x1, .f32⟩
  | .hbm, ⟨14, _⟩ => ⟨S128x8x1024, .f32⟩
  | .hbm, ⟨15, _⟩ => ⟨S128x8x1024, .f32⟩
  | .hbm, ⟨16, _⟩ => ⟨S128x8x1024, .f32⟩
  | .hbm, ⟨17, _⟩ => ⟨S_, .f32⟩
  | .hbm, ⟨18, _⟩ => ⟨S128x8, .f32⟩
  | .hbm, ⟨19, _⟩ => ⟨S128x8x1, .f32⟩
  | .hbm, ⟨20, _⟩ => ⟨S_, .f32⟩
  | .hbm, ⟨21, _⟩ => ⟨S128x8x1, .f32⟩
  | .hbm, ⟨22, _⟩ => ⟨S128x8x1, .f32⟩
  | .hbm, ⟨23, _⟩ => ⟨S128x8x1024, .f32⟩
  | .hbm, ⟨24, _⟩ => ⟨S128x8x1024, .f32⟩
  | .hbm, ⟨25, _⟩ => ⟨S_, .f32⟩
  | .hbm, ⟨26, _⟩ => ⟨S128x8x1, .f32⟩
  | .hbm, ⟨27, _⟩ => ⟨S128x8x1, .f32⟩
  | .hbm, ⟨28, _⟩ => ⟨S128x8x1, .f32⟩
  | .hbm, ⟨29, _⟩ => ⟨S128x8x1024, .f32⟩
  | .hbm, ⟨30, _⟩ => ⟨S128x8x1024, .f32⟩
  | .hbm, ⟨31, _⟩ => ⟨S1x1x1024, .f32⟩
  | .hbm, ⟨32, _⟩ => ⟨S128x8x1024, .f32⟩
  | .hbm, ⟨33, _⟩ => ⟨S128x8x1024, .f32⟩
  | .hbm, ⟨34, _⟩ => ⟨S1x1x1024, .f32⟩
  | .hbm, ⟨35, _⟩ => ⟨S128x8x1024, .f32⟩
  | .hbm, ⟨36, _⟩ => ⟨S128x8x1024, .f32⟩
  | .hbm, ⟨37, _⟩ => ⟨S1024x1024, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S1x1024, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S_, .f32⟩
  | .hbm, ⟨48, _⟩ => ⟨S1024, .f32⟩
  | .hbm, ⟨49, _⟩ => ⟨S1024x1, .f32⟩
  | .hbm, ⟨50, _⟩ => ⟨S_, .f32⟩
  | .hbm, ⟨51, _⟩ => ⟨S1024x1, .f32⟩
  | .hbm, ⟨52, _⟩ => ⟨S1024x1, .f32⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S_, .f32⟩
  | .hbm, ⟨57, _⟩ => ⟨S1024, .f32⟩
  | .hbm, ⟨58, _⟩ => ⟨S1024x1, .f32⟩
  | .hbm, ⟨59, _⟩ => ⟨S_, .f32⟩
  | .hbm, ⟨60, _⟩ => ⟨S1024x1, .f32⟩
  | .hbm, ⟨61, _⟩ => ⟨S1024x1, .f32⟩
  | .hbm, ⟨62, _⟩ => ⟨S1024x1024, .f32⟩
  | .hbm, ⟨63, _⟩ => ⟨S1024x1024, .f32⟩
  | .hbm, ⟨64, _⟩ => ⟨S_, .f32⟩
  | .hbm, ⟨65, _⟩ => ⟨S1024x1, .f32⟩
  | .hbm, ⟨66, _⟩ => ⟨S1024x1, .f32⟩
  | .hbm, ⟨67, _⟩ => ⟨S1024x1, .f32⟩
  | .hbm, ⟨68, _⟩ => ⟨S1024x1024, .f32⟩
  | .hbm, ⟨69, _⟩ => ⟨S1024x1024, .f32⟩
  | .hbm, ⟨70, _⟩ => ⟨S1x1024, .f32⟩
  | .hbm, ⟨71, _⟩ => ⟨S1024x1024, .f32⟩
  | .hbm, ⟨72, _⟩ => ⟨S1024x1024, .f32⟩
  | .hbm, ⟨73, _⟩ => ⟨S1x1024, .f32⟩
  | .hbm, ⟨74, _⟩ => ⟨S1024x1024, .f32⟩
  | .hbm, ⟨75, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Kernel4.lean ====
abbrev S128x8x1024 : Shape := ⟨3, ![128, 8, 1024]⟩
abbrev S1024 : Shape := ⟨1, ![1024]⟩
abbrev S1024x4104 : Shape := ⟨2, ![1024, 4104]⟩
abbrev S4104 : Shape := ⟨1, ![4104]⟩
abbrev S1024x2048 : Shape := ⟨2, ![1024, 2048]⟩
abbrev S1024x8 : Shape := ⟨2, ![1024, 8]⟩
abbrev S_ : Shape := ⟨0, ![]⟩
abbrev S1024x120 : Shape := ⟨2, ![1024, 120]⟩
abbrev S1024x4224 : Shape := ⟨2, ![1024, 4224]⟩
abbrev S2048 : Shape := ⟨1, ![2048]⟩
abbrev S8 : Shape := ⟨1, ![8]⟩
abbrev S120 : Shape := ⟨1, ![120]⟩
abbrev S4224 : Shape := ⟨1, ![4224]⟩
abbrev S1x4224 : Shape := ⟨2, ![1, 4224]⟩
abbrev S1024x1024 : Shape := ⟨2, ![1024, 1024]⟩
abbrev S1x1024 : Shape := ⟨2, ![1, 1024]⟩
abbrev S256x1024 : Shape := ⟨2, ![256, 1024]⟩
abbrev S256x4224 : Shape := ⟨2, ![256, 4224]⟩
abbrev S256 : Shape := ⟨1, ![256]⟩
abbrev S256x1 : Shape := ⟨2, ![256, 1]⟩

abbrev nBuf : Space → Nat
  | .hbm => 23
  | .vmem => 8
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024, .f32⟩
  | .hbm, ⟨3, _⟩ => ⟨S1024x4104, .f32⟩
  | .hbm, ⟨4, _⟩ => ⟨S4104, .f32⟩
  | .hbm, ⟨5, _⟩ => ⟨S1024x4104, .bf16⟩
  | .hbm, ⟨6, _⟩ => ⟨S1024x2048, .bf16⟩
  | .hbm, ⟨7, _⟩ => ⟨S1024x2048, .bf16⟩
  | .hbm, ⟨8, _⟩ => ⟨S1024x8, .bf16⟩
  | .hbm, ⟨9, _⟩ => ⟨S_, .bf16⟩
  | .hbm, ⟨10, _⟩ => ⟨S1024x120, .bf16⟩
  | .hbm, ⟨11, _⟩ => ⟨S1024x4224, .bf16⟩
  | .hbm, ⟨12, _⟩ => ⟨S2048, .f32⟩
  | .hbm, ⟨13, _⟩ => ⟨S2048, .f32⟩
  | .hbm, ⟨14, _⟩ => ⟨S8, .f32⟩
  | .hbm, ⟨15, _⟩ => ⟨S_, .f32⟩
  | .hbm, ⟨16, _⟩ => ⟨S120, .f32⟩
  | .hbm, ⟨17, _⟩ => ⟨S4224, .f32⟩
  | .hbm, ⟨18, _⟩ => ⟨S1x4224, .f32⟩
  | .hbm, ⟨19, _⟩ => ⟨S1024x1024, .f32⟩
  | .hbm, ⟨20, _⟩ => ⟨S1x1024, .f32⟩
  | .hbm, ⟨21, _⟩ => ⟨S1x1024, .f32⟩
  | .hbm, ⟨22, _⟩ => ⟨S1024x4224, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x4224, .bf16⟩
  | .local _ .vmem, ⟨5, _⟩ => ⟨S1x4224, .f32⟩
  | .local _ .vmem, ⟨6, _⟩ => ⟨S256x4224, .f32⟩
  | .local _ .vmem, ⟨7, _⟩ => ⟨S256x4224, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4224 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4224 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S128x8x1024 : Shape := ⟨3, ![128, 8, 1024]⟩
abbrev S1024 : Shape := ⟨1, ![1024]⟩
abbrev S1024x4104 : Shape := ⟨2, ![1024, 4104]⟩
abbrev S4104 : Shape := ⟨1, ![4104]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x4104 : Shape := ⟨3, ![128, 8, 4104]⟩
abbrev S1x1x4104 : Shape := ⟨3, ![1, 1, 4104]⟩
abbrev S1024x2048 : Shape := ⟨2, ![1024, 2048]⟩
abbrev S1024x8 : Shape := ⟨2, ![1024, 8]⟩
abbrev S1024x120 : Shape := ⟨2, ![1024, 120]⟩
abbrev S1024x4224 : Shape := ⟨2, ![1024, 4224]⟩

abbrev nBuf : Space → Nat
  | .hbm => 45
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024, .f32⟩
  | .hbm, ⟨3, _⟩ => ⟨S1024x4104, .f32⟩
  | .hbm, ⟨4, _⟩ => ⟨S4104, .f32⟩
  | .hbm, ⟨5, _⟩ => ⟨S_, .f32⟩
  | .hbm, ⟨6, _⟩ => ⟨S128x8, .f32⟩
  | .hbm, ⟨7, _⟩ => ⟨S128x8x1, .f32⟩
  | .hbm, ⟨8, _⟩ => ⟨S_, .f32⟩
  | .hbm, ⟨9, _⟩ => ⟨S128x8x1, .f32⟩
  | .hbm, ⟨10, _⟩ => ⟨S128x8x1, .f32⟩
  | .hbm, ⟨11, _⟩ => ⟨S128x8x1024, .f32⟩
  | .hbm, ⟨12, _⟩ => ⟨S128x8x1024, .f32⟩
  | .hbm, ⟨13, _⟩ => ⟨S128x8x1024, .f32⟩
  | .hbm, ⟨14, _⟩ => ⟨S_, .f32⟩
  | .hbm, ⟨15, _⟩ => ⟨S128x8, .f32⟩
  | .hbm, ⟨16, _⟩ => ⟨S128x8x1, .f32⟩
  | .hbm, ⟨17, _⟩ => ⟨S_, .f32⟩
  | .hbm, ⟨18, _⟩ => ⟨S128x8x1, .f32⟩
  | .hbm, ⟨19, _⟩ => ⟨S128x8x1, .f32⟩
  | .hbm, ⟨20, _⟩ => ⟨S128x8x1024, .f32⟩
  | .hbm, ⟨21, _⟩ => ⟨S128x8x1024, .f32⟩
  | .hbm, ⟨22, _⟩ => ⟨S_, .f32⟩
  | .hbm, ⟨23, _⟩ => ⟨S128x8x1, .f32⟩
  | .hbm, ⟨24, _⟩ => ⟨S128x8x1, .f32⟩
  | .hbm, ⟨25, _⟩ => ⟨S128x8x1, .f32⟩
  | .hbm, ⟨26, _⟩ => ⟨S128x8x1024, .f32⟩
  | .hbm, ⟨27, _⟩ => ⟨S128x8x1024, .f32⟩
  | .hbm, ⟨28, _⟩ => ⟨S1x1x1024, .f32⟩
  | .hbm, ⟨29, _⟩ => ⟨S128x8x1024, .f32⟩
  | .hbm, ⟨30, _⟩ => ⟨S128x8x1024, .f32⟩
  | .hbm, ⟨31, _⟩ => ⟨S1x1x1024, .f32⟩
  | .hbm, ⟨32, _⟩ => ⟨S128x8x1024, .f32⟩
  | .hbm, ⟨33, _⟩ => ⟨S128x8x1024, .f32⟩
  | .hbm, ⟨34, _⟩ => ⟨S128x8x4104, .f32⟩
  | .hbm, ⟨35, _⟩ => ⟨S1x1x4104, .f32⟩
  | .hbm, ⟨36, _⟩ => ⟨S128x8x4104, .f32⟩
  | .hbm, ⟨37, _⟩ => ⟨S128x8x4104, .f32⟩
  | .hbm, ⟨38, _⟩ => ⟨S1024x4104, .f32⟩
  | .hbm, ⟨39, _⟩ => ⟨S1024x2048, .f32⟩
  | .hbm, ⟨40, _⟩ => ⟨S1024x2048, .f32⟩
  | .hbm, ⟨41, _⟩ => ⟨S1024x8, .f32⟩
  | .hbm, ⟨42, _⟩ => ⟨S_, .f32⟩
  | .hbm, ⟨43, _⟩ => ⟨S1024x120, .f32⟩
  | .hbm, ⟨44, _⟩ => ⟨S1024x4224, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel5.lean ====
abbrev S16384x1024 : Shape := ⟨2, ![16384, 1024]⟩
abbrev S1x2x2816 : Shape := ⟨3, ![1, 2, 2816]⟩
abbrev S1024x5632 : Shape := ⟨2, ![1024, 5632]⟩
abbrev S5632 : Shape := ⟨1, ![5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S1x5632 : Shape := ⟨2, ![1, 5632]⟩
abbrev S1x2816 : Shape := ⟨2, ![1, 2816]⟩
abbrev S1x1024 : Shape := ⟨2, ![1, 1024]⟩
abbrev S8x2x2816 : Shape := ⟨3, ![8, 2, 2816]⟩
abbrev S256x1024 : Shape := ⟨2, ![256, 1024]⟩
abbrev S1x264x2816 : Shape := ⟨3, ![1, 264, 2816]⟩
abbrev S256x5632 : Shape := ⟨2, ![256, 5632]⟩
abbrev S256x2816 : Shape := ⟨2, ![256, 2816]⟩
abbrev S1x256x2816 : Shape := ⟨3, ![1, 256, 2816]⟩
abbrev S1x1x2816 : Shape := ⟨3, ![1, 1, 2816]⟩
abbrev S256 : Shape := ⟨1, ![256]⟩
abbrev S256x1 : Shape := ⟨2, ![256, 1]⟩

abbrev nBuf : Space → Nat
  | .hbm => 19
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x2x2816, .f32⟩
  | .hbm, ⟨2, _⟩ => ⟨S1024x5632, .f32⟩
  | .hbm, ⟨3, _⟩ => ⟨S5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x5632, .bf16⟩
  | .hbm, ⟨11, _⟩ => ⟨S1x5632, .f32⟩
  | .hbm, ⟨12, _⟩ => ⟨S1x2816, .f32⟩
  | .hbm, ⟨13, _⟩ => ⟨S2816x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S16384x1024, .f32⟩
  | .hbm, ⟨18, _⟩ => ⟨S8x2x2816, .f32⟩
  | .local _ .vmem, ⟨0, _⟩ => ⟨S256x1024, .f32⟩
  | .local _ .vmem, ⟨1, _⟩ => ⟨S256x1024, .f32⟩
  | .local _ .vmem, ⟨2, _⟩ => ⟨S1x2x2816, .f32⟩
  | .local _ .vmem, ⟨3, _⟩ => ⟨S1024x5632, .bf16⟩
  | .local _ .vmem, ⟨4, _⟩ => ⟨S1x5632, .f32⟩
  | .local _ .vmem, ⟨5, _⟩ => ⟨S3x2816, .f32⟩
  | .local _ .vmem, ⟨6, _⟩ => ⟨S1x2816, .f32⟩
  | .local _ .vmem, ⟨7, _⟩ => ⟨S2816x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S1x2x2816, .f32⟩
  | .local _ .vmem, ⟨14, _⟩ => ⟨S1x2x2816, .f32⟩
  | .local _ .vmem, ⟨15, _⟩ => ⟨S1x264x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x2816 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference5Ideal.lean ====
abbrev S16384x1024 : Shape := ⟨2, ![16384, 1024]⟩
abbrev S1x2x2816 : Shape := ⟨3, ![1, 2, 2816]⟩
abbrev S1024x5632 : Shape := ⟨2, ![1024, 5632]⟩
abbrev S5632 : Shape := ⟨1, ![5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S8x2048x1024 : Shape := ⟨3, ![8, 2048, 1024]⟩
abbrev S8x2048x5632 : Shape := ⟨3, ![8, 2048, 5632]⟩
abbrev S1x1x5632 : Shape := ⟨3, ![1, 1, 5632]⟩
abbrev S8x2048x2816 : Shape := ⟨3, ![8, 2048, 2816]⟩
abbrev S8x2x2816 : Shape := ⟨3, ![8, 2, 2816]⟩
abbrev S8x2050x2816 : Shape := ⟨3, ![8, 2050, 2816]⟩
abbrev S1x2816 : Shape := ⟨2, ![1, 2816]⟩
abbrev S1x1x2816 : Shape := ⟨3, ![1, 1, 2816]⟩
abbrev S_ : Shape := ⟨0, ![]⟩
abbrev S1x1x1024 : Shape := ⟨3, ![1, 1, 1024]⟩
abbrev S8x2048 : Shape := ⟨2, ![8, 2048]⟩
abbrev S8x2048x1 : Shape := ⟨3, ![8, 2048, 1]⟩

abbrev nBuf : Space → Nat
  | .hbm => 91
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x2x2816, .f32⟩
  | .hbm, ⟨2, _⟩ => ⟨S1024x5632, .f32⟩
  | .hbm, ⟨3, _⟩ => ⟨S5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S8x2048x1024, .f32⟩
  | .hbm, ⟨11, _⟩ => ⟨S8x2048x5632, .f32⟩
  | .hbm, ⟨12, _⟩ => ⟨S1x1x5632, .f32⟩
  | .hbm, ⟨13, _⟩ => ⟨S8x2048x5632, .f32⟩
  | .hbm, ⟨14, _⟩ => ⟨S8x2048x5632, .f32⟩
  | .hbm, ⟨15, _⟩ => ⟨S8x2048x2816, .f32⟩
  | .hbm, ⟨16, _⟩ => ⟨S8x2048x2816, .f32⟩
  | .hbm, ⟨17, _⟩ => ⟨S8x2x2816, .f32⟩
  | .hbm, ⟨18, _⟩ => ⟨S8x2050x2816, .f32⟩
  | .hbm, ⟨19, _⟩ => ⟨S8x2048x2816, .f32⟩
  | .hbm, ⟨20, _⟩ => ⟨S1x2816, .f32⟩
  | .hbm, ⟨21, _⟩ => ⟨S2816, .f32⟩
  | .hbm, ⟨22, _⟩ => ⟨S1x1x2816, .f32⟩
  | .hbm, ⟨23, _⟩ => ⟨S8x2048x2816, .f32⟩
  | .hbm, ⟨24, _⟩ => ⟨S8x2048x2816, .f32⟩
  | .hbm, ⟨25, _⟩ => ⟨S1x1x2816, .f32⟩
  | .hbm, ⟨26, _⟩ => ⟨S8x2048x2816, .f32⟩
  | .hbm, ⟨27, _⟩ => ⟨S8x2048x2816, .f32⟩
  | .hbm, ⟨28, _⟩ => ⟨S8x2048x2816, .f32⟩
  | .hbm, ⟨29, _⟩ => ⟨S1x2816, .f32⟩
  | .hbm, ⟨30, _⟩ => ⟨S2816, .f32⟩
  | .hbm, ⟨31, _⟩ => ⟨S1x1x2816, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S1x2816, .f32⟩
  | .hbm, ⟨37, _⟩ => ⟨S2816, .f32⟩
  | .hbm, ⟨38, _⟩ => ⟨S1x1x2816, .f32⟩
  | .hbm, ⟨39, _⟩ => ⟨S8x2048x2816, .f32⟩
  | .hbm, ⟨40, _⟩ => ⟨S8x2048x2816, .f32⟩
  | .hbm, ⟨41, _⟩ => ⟨S8x2048x2816, .f32⟩
  | .hbm, ⟨42, _⟩ => ⟨S8x2048x2816, .f32⟩
  | .hbm, ⟨43, _⟩ => ⟨S8x2048x2816, .f32⟩
  | .hbm, ⟨44, _⟩ => ⟨S_, .f32⟩
  | .hbm, ⟨45, _⟩ => ⟨S8x2048x2816, .f32⟩
  | .hbm, ⟨46, _⟩ => ⟨S8x2048x2816, .f32⟩
  | .hbm, ⟨47, _⟩ => ⟨S_, .f32⟩
  | .hbm, ⟨48, _⟩ => ⟨S8x2048x2816, .f32⟩
  | .hbm, ⟨49, _⟩ => ⟨S8x2048x2816, .f32⟩
  | .hbm, ⟨50, _⟩ => ⟨S8x2048x2816, .f32⟩
  | .hbm, ⟨51, _⟩ => ⟨S8x2048x2816, .f32⟩
  | .hbm, ⟨52, _⟩ => ⟨S8x2048x1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | .hbm, ⟨56, _⟩ => ⟨S_, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S_, .f32⟩
  | .hbm, ⟨70, _⟩ => ⟨S8x2048, .f32⟩
  | .hbm, ⟨71, _⟩ => ⟨S8x2048x1, .f32⟩
  | .hbm, ⟨72, _⟩ => ⟨S_, .f32⟩
  | .hbm, ⟨73, _⟩ => ⟨S8x2048x1, .f32⟩
  | .hbm, ⟨74, _⟩ => ⟨S8x2048x1, .f32⟩
  | .hbm, ⟨75, _⟩ => ⟨S8x2048x1024, .f32⟩
  | .hbm, ⟨76, _⟩ => ⟨S8x2048x1024, .f32⟩
  | .hbm, ⟨77, _⟩ => ⟨S_, .f32⟩
  | .hbm, ⟨78, _⟩ => ⟨S8x2048x1, .f32⟩
  | .hbm, ⟨79, _⟩ => ⟨S8x2048x1, .f32⟩
  | .hbm, ⟨80, _⟩ => ⟨S8x2048x1, .f32⟩
  | .hbm, ⟨81, _⟩ => ⟨S8x2048x1024, .f32⟩
  | .hbm, ⟨82, _⟩ => ⟨S8x2048x1024, .f32⟩
  | .hbm, ⟨83, _⟩ => ⟨S1x1x1024, .f32⟩
  | .hbm, ⟨84, _⟩ => ⟨S8x2048x1024, .f32⟩
  | .hbm, ⟨85, _⟩ => ⟨S8x2048x1024, .f32⟩
  | .hbm, ⟨86, _⟩ => ⟨S1x1x1024, .f32⟩
  | .hbm, ⟨87, _⟩ => ⟨S8x2048x1024, .f32⟩
  | .hbm, ⟨88, _⟩ => ⟨S8x2048x1024, .f32⟩
  | .hbm, ⟨89, _⟩ => ⟨S16384x1024, .f32⟩
  | .hbm, ⟨90, _⟩ => ⟨S8x2x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_0 : Ref sig .tc := ⟨.hbm, 60, rfl⟩
abbrev main_v41 : Ref sig .tc := ⟨.hbm, 61, rfl⟩
abbrev main_v42 : Ref sig .tc := ⟨.hbm, 62, rfl⟩
abbrev main_cst_1 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_2 : Ref sig .tc := ⟨.hbm, 69, rfl⟩
abbrev main_v48 : Ref sig .tc := ⟨.hbm, 70, rfl⟩
abbrev main_v49 : Ref sig .tc := ⟨.hbm, 71, rfl⟩
abbrev main_cst_3 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_4 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Kernel6.lean ====
abbrev S8x2048x1024 : Shape := ⟨3, ![8, 2048, 1024]⟩
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S16384x1024, .bf16⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S16384x1024, .f32⟩
  | .hbm, ⟨9, _⟩ => ⟨S1x1024, .f32⟩
  | .hbm, ⟨10, _⟩ => ⟨S1x1024, .f32⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S8x2048x1024 : Shape := ⟨3, ![8, 2048, 1024]⟩
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024 : Shape := ⟨2, ![1, 1024]⟩
abbrev S16384 : Shape := ⟨1, ![16384]⟩
abbrev S16384x1 : Shape := ⟨2, ![16384, 1]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x1024, .bf16⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S1x1x1024, .f32⟩
  | .hbm, ⟨35, _⟩ => ⟨S8x2048x1024, .f32⟩
  | .hbm, ⟨36, _⟩ => ⟨S8x2048x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S1x1024, .f32⟩
  | .hbm, ⟨71, _⟩ => ⟨S16384x1024, .f32⟩
  | .hbm, ⟨72, _⟩ => ⟨S16384x1024, .f32⟩
  | .hbm, ⟨73, _⟩ => ⟨S1x1024, .f32⟩
  | .hbm, ⟨74, _⟩ => ⟨S16384x1024, .f32⟩
  | .hbm, ⟨75, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Kernel7.lean ====
abbrev S8x2048x1024 : Shape := ⟨3, ![8, 2048, 1024]⟩
abbrev S1024 : Shape := ⟨1, ![1024]⟩
abbrev S1024x4104 : Shape := ⟨2, ![1024, 4104]⟩
abbrev S4104 : Shape := ⟨1, ![4104]⟩
abbrev S1024x2048 : Shape := ⟨2, ![1024, 2048]⟩
abbrev S1024x8 : Shape := ⟨2, ![1024, 8]⟩
abbrev S_ : Shape := ⟨0, ![]⟩
abbrev S1024x120 : Shape := ⟨2, ![1024, 120]⟩
abbrev S1024x4224 : Shape := ⟨2, ![1024, 4224]⟩
abbrev S2048 : Shape := ⟨1, ![2048]⟩
abbrev S8 : Shape := ⟨1, ![8]⟩
abbrev S120 : Shape := ⟨1, ![120]⟩
abbrev S4224 : Shape := ⟨1, ![4224]⟩
abbrev S1x4224 : Shape := ⟨2, ![1, 4224]⟩
abbrev S16384x1024 : Shape := ⟨2, ![16384, 1024]⟩
abbrev S1x1024 : Shape := ⟨2, ![1, 1024]⟩
abbrev S16384x4224 : Shape := ⟨2, ![16384, 4224]⟩
abbrev S256x1024 : Shape := ⟨2, ![256, 1024]⟩
abbrev S256x4224 : Shape := ⟨2, ![256, 4224]⟩
abbrev S256 : Shape := ⟨1, ![256]⟩
abbrev S256x1 : Shape := ⟨2, ![256, 1]⟩

abbrev nBuf : Space → Nat
  | .hbm => 23
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1024x4104, .f32⟩
  | .hbm, ⟨4, _⟩ => ⟨S4104, .f32⟩
  | .hbm, ⟨5, _⟩ => ⟨S1024x4104, .bf16⟩
  | .hbm, ⟨6, _⟩ => ⟨S1024x2048, .bf16⟩
  | .hbm, ⟨7, _⟩ => ⟨S1024x2048, .bf16⟩
  | .hbm, ⟨8, _⟩ => ⟨S1024x8, .bf16⟩
  | .hbm, ⟨9, _⟩ => ⟨S_, .bf16⟩
  | .hbm, ⟨10, _⟩ => ⟨S1024x120, .bf16⟩
  | .hbm, ⟨11, _⟩ => ⟨S1024x4224, .bf16⟩
  | .hbm, ⟨12, _⟩ => ⟨S2048, .f32⟩
  | .hbm, ⟨13, _⟩ => ⟨S2048, .f32⟩
  | .hbm, ⟨14, _⟩ => ⟨S8, .f32⟩
  | .hbm, ⟨15, _⟩ => ⟨S_, .f32⟩
  | .hbm, ⟨16, _⟩ => ⟨S120, .f32⟩
  | .hbm, ⟨17, _⟩ => ⟨S4224, .f32⟩
  | .hbm, ⟨18, _⟩ => ⟨S1x4224, .f32⟩
  | .hbm, ⟨19, _⟩ => ⟨S16384x1024, .f32⟩
  | .hbm, ⟨20, _⟩ => ⟨S1x1024, .f32⟩
  | .hbm, ⟨21, _⟩ => ⟨S1x1024, .f32⟩
  | .hbm, ⟨22, _⟩ => ⟨S16384x4224, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x4224, .bf16⟩
  | .local _ .vmem, ⟨5, _⟩ => ⟨S1x4224, .f32⟩
  | .local _ .vmem, ⟨6, _⟩ => ⟨S256x4224, .f32⟩
  | .local _ .vmem, ⟨7, _⟩ => ⟨S256x4224, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4224 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4224 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S8x2048x1024 : Shape := ⟨3, ![8, 2048, 1024]⟩
abbrev S1024 : Shape := ⟨1, ![1024]⟩
abbrev S1024x4104 : Shape := ⟨2, ![1024, 4104]⟩
abbrev S4104 : Shape := ⟨1, ![4104]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4104 : Shape := ⟨3, ![8, 2048, 4104]⟩
abbrev S1x1x4104 : Shape := ⟨3, ![1, 1, 4104]⟩
abbrev S16384x4104 : Shape := ⟨2, ![16384, 4104]⟩
abbrev S16384x2048 : Shape := ⟨2, ![16384, 2048]⟩
abbrev S16384x8 : Shape := ⟨2, ![16384, 8]⟩
abbrev S16384x120 : Shape := ⟨2, ![16384, 120]⟩
abbrev S16384x4224 : Shape := ⟨2, ![16384, 4224]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1024x4104, .f32⟩
  | .hbm, ⟨4, _⟩ => ⟨S4104, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S8x2048x4104, .f32⟩
  | .hbm, ⟨35, _⟩ => ⟨S1x1x4104, .f32⟩
  | .hbm, ⟨36, _⟩ => ⟨S8x2048x4104, .f32⟩
  | .hbm, ⟨37, _⟩ => ⟨S8x2048x4104, .f32⟩
  | .hbm, ⟨38, _⟩ => ⟨S16384x4104, .f32⟩
  | .hbm, ⟨39, _⟩ => ⟨S16384x2048, .f32⟩
  | .hbm, ⟨40, _⟩ => ⟨S16384x2048, .f32⟩
  | .hbm, ⟨41, _⟩ => ⟨S16384x8, .f32⟩
  | .hbm, ⟨42, _⟩ => ⟨S_, .f32⟩
  | .hbm, ⟨43, _⟩ => ⟨S16384x120, .f32⟩
  | .hbm, ⟨44, _⟩ => ⟨S16384x4224, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel8.lean ====
abbrev S16384x4104 : Shape := ⟨2, ![16384, 4104]⟩
abbrev S1x4x128x128 : Shape := ⟨4, ![1, 4, 128, 128]⟩
abbrev S1x4x128 : Shape := ⟨3, ![1, 4, 128]⟩
abbrev S1x4 : Shape := ⟨2, ![1, 4]⟩
abbrev S4 : Shape := ⟨1, ![4]⟩
abbrev S4x128 : Shape := ⟨2, ![4, 128]⟩
abbrev S2x512 : Shape := ⟨2, ![2, 512]⟩
abbrev S16384x2048 : Shape := ⟨2, ![16384, 2048]⟩
abbrev S16384x8 : Shape := ⟨2, ![16384, 8]⟩
abbrev S_ : Shape := ⟨0, ![]⟩
abbrev S16384x120 : Shape := ⟨2, ![16384, 120]⟩
abbrev S16384x4224 : Shape := ⟨2, ![16384, 4224]⟩
abbrev S1x128 : Shape := ⟨2, ![1, 128]⟩
abbrev S1 : Shape := ⟨1, ![1]⟩
abbrev S2 : Shape := ⟨1, ![2]⟩
abbrev S512 : Shape := ⟨1, ![512]⟩
abbrev S1x512 : Shape := ⟨2, ![1, 512]⟩
abbrev S1x1x4 : Shape := ⟨3, ![1, 1, 4]⟩
abbrev S16384x1024 : Shape := ⟨2, ![16384, 1024]⟩
abbrev S8x4x128x128 : Shape := ⟨4, ![8, 4, 128, 128]⟩
abbrev S8x4x128 : Shape := ⟨3, ![8, 4, 128]⟩
abbrev S8x1x4 : Shape := ⟨3, ![8, 1, 4]⟩
abbrev S128x4224 : Shape := ⟨2, ![128, 4224]⟩
abbrev S128x1024 : Shape := ⟨2, ![128, 1024]⟩
abbrev S1x1x128x128 : Shape := ⟨4, ![1, 1, 128, 128]⟩
abbrev S128x128 : Shape := ⟨2, ![128, 128]⟩
abbrev S1x1 : Shape := ⟨2, ![1, 1]⟩
abbrev S128x1 : Shape := ⟨2, ![128, 1]⟩
abbrev S128 : Shape := ⟨1, ![128]⟩
abbrev S16x8x128 : Shape := ⟨3, ![16, 8, 128]⟩
abbrev S16x1x128 : Shape := ⟨3, ![16, 1, 128]⟩
abbrev S8x128 : Shape := ⟨2, ![8, 128]⟩
abbrev S16x128 : Shape := ⟨2, ![16, 128]⟩
abbrev S32x128 : Shape := ⟨2, ![32, 128]⟩
abbrev S64x128 : Shape := ⟨2, ![64, 128]⟩

abbrev nBuf : Space → Nat
  | .hbm => 51
  | .vmem => 20
  | .smem => 0
  | _ => 0

abbrev bufTy : (tb : Table) → Fin (tcTables nBuf tb) → BufTy
  | .hbm, ⟨0, _⟩ => ⟨S16384x4104, .f32⟩
  | .hbm, ⟨1, _⟩ => ⟨S1x4x128x128, .f32⟩
  | .hbm, ⟨2, _⟩ => ⟨S1x4x128, .f32⟩
  | .hbm, ⟨3, _⟩ => ⟨S1x4, .f32⟩
  | .hbm, ⟨4, _⟩ => ⟨S1x4x128x128, .f32⟩
  | .hbm, ⟨5, _⟩ => ⟨S4, .f32⟩
  | .hbm, ⟨6, _⟩ => ⟨S4x128, .f32⟩
  | .hbm, ⟨7, _⟩ => ⟨S4x128, .f32⟩
  | .hbm, ⟨8, _⟩ => ⟨S2x512, .f32⟩
  | .hbm, ⟨9, _⟩ => ⟨S16384x2048, .f32⟩
  | .hbm, ⟨10, _⟩ => ⟨S16384x2048, .f32⟩
  | .hbm, ⟨11, _⟩ => ⟨S16384x8, .f32⟩
  | .hbm, ⟨12, _⟩ => ⟨S_, .f32⟩
  | .hbm, ⟨13, _⟩ => ⟨S16384x120, .f32⟩
  | .hbm, ⟨14, _⟩ => ⟨S16384x4224, .f32⟩
  | .hbm, ⟨15, _⟩ => ⟨S_, .f32⟩
  | .hbm, ⟨16, _⟩ => ⟨S1x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128, .f32⟩
  | .hbm, ⟨23, _⟩ => ⟨S_, .f32⟩
  | .hbm, ⟨24, _⟩ => ⟨S512, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S1x512, .f32⟩
  | .hbm, ⟨29, _⟩ => ⟨S2x512, .f32⟩
  | .hbm, ⟨30, _⟩ => ⟨S2x512, .f32⟩
  | .hbm, ⟨31, _⟩ => ⟨S2x512, .f32⟩
  | .hbm, ⟨32, _⟩ => ⟨S_, .f32⟩
  | .hbm, ⟨33, _⟩ => ⟨S512, .f32⟩
  | .hbm, ⟨34, _⟩ => ⟨S1x512, .f32⟩
  | .hbm, ⟨35, _⟩ => ⟨S2x512, .f32⟩
  | .hbm, ⟨36, _⟩ => ⟨S2x512, .f32⟩
  | .hbm, ⟨37, _⟩ => ⟨S_, .f32⟩
  | .hbm, ⟨38, _⟩ => ⟨S_, .f32⟩
  | .hbm, ⟨39, _⟩ => ⟨S2x512, .f32⟩
  | .hbm, ⟨40, _⟩ => ⟨S1x512, .f32⟩
  | .hbm, ⟨41, _⟩ => ⟨S512, .f32⟩
  | .hbm, ⟨42, _⟩ => ⟨S1x512, .f32⟩
  | .hbm, ⟨43, _⟩ => ⟨S1x1x4, .f32⟩
  | .hbm, ⟨44, _⟩ => ⟨S1x512, .f32⟩
  | .hbm, ⟨45, _⟩ => ⟨S1x512, .f32⟩
  | .hbm, ⟨46, _⟩ => ⟨S16384x1024, .bf16⟩
  | .hbm, ⟨47, _⟩ => ⟨S8x4x128x128, .f32⟩
  | .hbm, ⟨48, _⟩ => ⟨S8x4x128, .f32⟩
  | .hbm, ⟨49, _⟩ => ⟨S8x1x4, .f32⟩
  | .hbm, ⟨50, _⟩ => ⟨S8x4x128x128, .f32⟩
  | .local _ .vmem, ⟨0, _⟩ => ⟨S128x4224, .f32⟩
  | .local _ .vmem, ⟨1, _⟩ => ⟨S128x4224, .f32⟩
  | .local _ .vmem, ⟨2, _⟩ => ⟨S1x4x128x128, .f32⟩
  | .local _ .vmem, ⟨3, _⟩ => ⟨S1x4x128, .f32⟩
  | .local _ .vmem, ⟨4, _⟩ => ⟨S1x1x4, .f32⟩
  | .local _ .vmem, ⟨5, _⟩ => ⟨S1x4x128x128, .f32⟩
  | .local _ .vmem, ⟨6, _⟩ => ⟨S1x128, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S128x1024, .bf16⟩
  | .local _ .vmem, ⟨11, _⟩ => ⟨S128x1024, .bf16⟩
  | .local _ .vmem, ⟨12, _⟩ => ⟨S1x4x128x128, .f32⟩
  | .local _ .vmem, ⟨13, _⟩ => ⟨S1x4x128x128, .f32⟩
  | .local _ .vmem, ⟨14, _⟩ => ⟨S1x4x128, .f32⟩
  | .local _ .vmem, ⟨15, _⟩ => ⟨S1x4x128, .f32⟩
  | .local _ .vmem, ⟨16, _⟩ => ⟨S1x1x4, .f32⟩
  | .local _ .vmem, ⟨17, _⟩ => ⟨S1x1x4, .f32⟩
  | .local _ .vmem, ⟨18, _⟩ => ⟨S1x4x128x128, .f32⟩
  | .local _ .vmem, ⟨19, _⟩ => ⟨S1x4x128x128, .f32⟩
  | _, _ => ⟨S16384x4104, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call0_call0_cst : Ref sig .tc := ⟨.hbm, 37, rfl⟩
abbrev main_call0_call0_v0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev main_v28_2 : Ref sig .tc := ⟨.hbm, 48, rfl⟩
abbrev main_v28_3 : Ref sig .tc := ⟨.hbm, 49, rfl⟩
abbrev main_v28_4 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x4224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference8Ideal.lean ====
abbrev S16384x4104 : Shape := ⟨2, ![16384, 4104]⟩
abbrev S1x4x128x128 : Shape := ⟨4, ![1, 4, 128, 128]⟩
abbrev S1x4x128 : Shape := ⟨3, ![1, 4, 128]⟩
abbrev S1x4 : Shape := ⟨2, ![1, 4]⟩
abbrev S4 : Shape := ⟨1, ![4]⟩
abbrev S4x128 : Shape := ⟨2, ![4, 128]⟩
abbrev S2x512 : Shape := ⟨2, ![2, 512]⟩
abbrev S8x2048x4104 : Shape := ⟨3, ![8, 2048, 4104]⟩
abbrev S8x2048x512 : Shape := ⟨3, ![8, 2048, 512]⟩
abbrev S8x2048x4x128 : Shape := ⟨4, ![8, 2048, 4, 128]⟩
abbrev S_ : Shape := ⟨0, ![]⟩
abbrev S8x2048x4 : Shape := ⟨3, ![8, 2048, 4]⟩
abbrev S1x1x4 : Shape := ⟨3, ![1, 1, 4]⟩
abbrev S8x1x4 : Shape := ⟨3, ![8, 1, 4]⟩
abbrev S8x4 : Shape := ⟨2, ![8, 4]⟩
abbrev S8x2048x4x1 : Shape := ⟨4, ![8, 2048, 4, 1]⟩
abbrev S8x4x1x1 : Shape := ⟨4, ![8, 4, 1, 1]⟩
abbrev S8x4x128x128 : Shape := ⟨4, ![8, 4, 128, 128]⟩
abbrev S8x4x1 : Shape := ⟨3, ![8, 4, 1]⟩
abbrev S8x4x128 : Shape := ⟨3, ![8, 4, 128]⟩
abbrev S512 : Shape := ⟨1, ![512]⟩
abbrev S1x512 : Shape := ⟨2, ![1, 512]⟩
abbrev S1x1x4x128 : Shape := ⟨4, ![1, 1, 4, 128]⟩
abbrev S8x1x4x128 : Shape := ⟨4, ![8, 1, 4, 128]⟩
abbrev S8x4x128x1 : Shape := ⟨4, ![8, 4, 128, 1]⟩

abbrev nBuf : Space → Nat
  | .hbm => 151
  | .vmem => 0
  | .smem => 0
  | _ => 0

abbrev hbmTy0_0 (i : Nat) : BufTy := match i % 128 with
  | 0 => ⟨S16384x4104, .f32⟩
  | 1 => ⟨S1x4x128x128, .f32⟩
  | 2 => ⟨S1x4x128, .f32⟩
  | 3 => ⟨S1x4, .f32⟩
  | 4 => ⟨S1x4x128x128, .f32⟩
  | 5 => ⟨S4, .f32⟩
  | 6 => ⟨S4x128, .f32⟩
  | 7 => ⟨S4x128, .f32⟩
  | 8 => ⟨S2x512, .f32⟩
  | 9 => ⟨S8x2048x4104, .f32⟩
  | 10 => ⟨S8x2048x512, .f32⟩
  | 11 => ⟨S8x2048x4x128, .f32⟩
  | 12 => ⟨S_, .f32⟩
  | 13 => ⟨S8x2048x4x128, .f32⟩
  | 14 => ⟨S8x2048x4x128, .f32⟩
  | 15 => ⟨S8x2048x512, .f32⟩
  | 16 => ⟨S8x2048x4x128, .f32⟩
  | 17 => ⟨S8x2048x4, .f32⟩
  | 18 => ⟨S8x2048x4, .f32⟩
  | 19 => ⟨S1x1x4, .f32⟩
  | 20 => ⟨S8x2048x4, .f32⟩
  | 21 => ⟨S8x2048x4, .f32⟩
  | 22 => ⟨S8x2048x4, .f32⟩
  | 23 => ⟨S_, .f32⟩
  | 24 => ⟨S8x2048x4, .f32⟩
  | 25 => ⟨S8x2048x4, .f32⟩
  | 26 => ⟨S8x2048x4, .f32⟩
  | 27 => ⟨S8x2048x4, .f32⟩
  | 28 => ⟨S8x2048x4, .i1⟩
  | 29 => ⟨S8x2048x4, .f32⟩
  | 30 => ⟨S8x2048x4, .f32⟩
  | 31 => ⟨S8x2048x4, .f32⟩
  | 32 => ⟨S8x2048x4, .f32⟩
  | 33 => ⟨S8x2048x4, .f32⟩
  | 34 => ⟨S8x2048x4, .f32⟩
  | 35 => ⟨S8x2048x4, .f32⟩
  | 36 => ⟨S8x2048x4, .f32⟩
  | 37 => ⟨S8x2048x4, .f32⟩
  | 38 => ⟨S_, .f32⟩
  | 39 => ⟨S_, .f32⟩
  | 40 => ⟨S8x2048x4, .f32⟩
  | 41 => ⟨S8x1x4, .f32⟩
  | 42 => ⟨S8x4, .f32⟩
  | 43 => ⟨S8x1x4, .f32⟩
  | 44 => ⟨S8x2048x4, .f32⟩
  | 45 => ⟨S8x2048x4, .f32⟩
  | 46 => ⟨S8x2048x4, .f32⟩
  | 47 => ⟨S8x4, .f32⟩
  | 48 => ⟨S8x4, .f32⟩
  | 49 => ⟨S_, .f32⟩
  | 50 => ⟨S8x4, .f32⟩
  | 51 => ⟨S8x4, .f32⟩
  | 52 => ⟨S8x4, .f32⟩
  | 53 => ⟨S8x4, .f32⟩
  | 54 => ⟨S8x4, .f32⟩
  | 55 => ⟨S8x4, .f32⟩
  | 56 => ⟨S8x1x4, .f32⟩
  | 57 => ⟨S8x2048x4, .f32⟩
  | 58 => ⟨S8x2048x4, .f32⟩
  | 59 => ⟨S8x2048x4, .f32⟩
  | 60 => ⟨S8x2048x4x1, .f32⟩
  | 61 => ⟨S8x2048x4x128, .f32⟩
  | 62 => ⟨S8x2048x4x128, .f32⟩
  | 63 => ⟨S8x4x1x1, .f32⟩
  | 64 => ⟨S8x4x128x128, .f32⟩
  | 65 => ⟨S8x4x128x128, .f32⟩
  | 66 => ⟨S8x4x128x128, .f32⟩
  | 67 => ⟨S8x4x128x128, .f32⟩
  | 68 => ⟨S8x4x128x128, .f32⟩
  | 69 => ⟨S8x4x1, .f32⟩
  | 70 => ⟨S8x4x128, .f32⟩
  | 71 => ⟨S8x4x128, .f32⟩
  | 72 => ⟨S8x4x128, .f32⟩
  | 73 => ⟨S_, .f32⟩
  | 74 => ⟨S8x4x128, .f32⟩
  | 75 => ⟨S8x4x128, .f32⟩
  | 76 => ⟨S8x2048x512, .f32⟩
  | 77 => ⟨S8x2048x4x128, .f32⟩
  | 78 => ⟨S8x2048x512, .f32⟩
  | 79 => ⟨S8x2048x4x128, .f32⟩
  | 80 => ⟨S_, .f32⟩
  | 81 => ⟨S512, .f32⟩
  | 82 => ⟨S_, .f32⟩
  | 83 => ⟨S512, .f32⟩
  | 84 => ⟨S512, .f32⟩
  | 85 => ⟨S1x512, .f32⟩
  | 86 => ⟨S2x512, .f32⟩
  | 87 => ⟨S2x512, .f32⟩
  | 88 => ⟨S2x512, .f32⟩
  | 89 => ⟨S_, .f32⟩
  | 90 => ⟨S512, .f32⟩
  | 91 => ⟨S1x512, .f32⟩
  | 92 => ⟨S2x512, .f32⟩
  | 93 => ⟨S2x512, .f32⟩
  | 94 => ⟨S_, .f32⟩
  | 95 => ⟨S_, .f32⟩
  | 96 => ⟨S2x512, .f32⟩
  | 97 => ⟨S1x512, .f32⟩
  | 98 => ⟨S512, .f32⟩
  | 99 => ⟨S4x128, .f32⟩
  | 100 => ⟨S_, .f32⟩
  | 101 => ⟨S4x128, .f32⟩
  | 102 => ⟨S4x128, .f32⟩
  | 103 => ⟨S8x2048x4x128, .f32⟩
  | 104 => ⟨S8x2048x4x128, .f32⟩
  | 105 => ⟨S_, .f32⟩
  | 106 => ⟨S8x2048x4x128, .f32⟩
  | 107 => ⟨S8x2048x4x128, .f32⟩
  | 108 => ⟨S_, .f32⟩
  | 109 => ⟨S8x2048x4x128, .f32⟩
  | 110 => ⟨S8x2048x4x128, .f32⟩
  | 111 => ⟨S1x1x4x128, .f32⟩
  | 112 => ⟨S8x2048x4x128, .f32⟩
  | 113 => ⟨S8x2048x4x128, .f32⟩
  | 114 => ⟨S1x1x4x128, .f32⟩
  | 115 => ⟨S8x2048x4x128, .f32⟩
  | 116 => ⟨S8x2048x4x128, .f32⟩
  | 117 => ⟨S8x2048x4x128, .f32⟩
  | 118 => ⟨S_, .f32⟩
  | 119 => ⟨S_, .f32⟩
  | 120 => ⟨S8x2048x4x128, .f32⟩
  | 121 => ⟨S8x1x4x128, .f32⟩
  | 122 => ⟨S8x4x128, .f32⟩
  | 123 => ⟨S8x1x4x128, .f32⟩
  | 124 => ⟨S8x2048x4x128, .f32⟩
  | 125 => ⟨S8x2048x4x128, .f32⟩
  | 126 => ⟨S8x2048x4x128, .f32⟩
  | 127 => ⟨S_, .f32⟩
  | _ => ⟨S16384x4104, .f32⟩

abbrev hbmTy0_1 (i : Nat) : BufTy := match i % 128 with
  | 0 => ⟨S4x128, .f32⟩
  | 1 => ⟨S4x128, .f32⟩
  | 2 => ⟨S8x2048x4x128, .f32⟩
  | 3 => ⟨S8x2048x4x128, .f32⟩
  | 4 => ⟨S8x2048x4x128, .f32⟩
  | 5 => ⟨S_, .f32⟩
  | 6 => ⟨S8x2048x4x128, .f32⟩
  | 7 => ⟨S8x2048x4x128, .f32⟩
  | 8 => ⟨S_, .f32⟩
  | 9 => ⟨S8x2048x4x128, .f32⟩
  | 10 => ⟨S8x2048x4x128, .f32⟩
  | 11 => ⟨S1x1x4x128, .f32⟩
  | 12 => ⟨S8x2048x4x128, .f32⟩
  | 13 => ⟨S8x2048x4x128, .f32⟩
  | 14 => ⟨S8x2048x4x128, .f32⟩
  | 15 => ⟨S8x4x128, .f32⟩
  | 16 => ⟨S8x4x128x1, .f32⟩
  | 17 => ⟨S8x4x128x128, .f32⟩
  | 18 => ⟨S8x4x128x128, .f32⟩
  | 19 => ⟨S8x4x128x128, .f32⟩
  | 20 => ⟨S8x4x128x128, .f32⟩
  | 21 => ⟨S8x4x128x128, .f32⟩
  | 22 => ⟨S8x1x4, .f32⟩
  | _ => ⟨S16384x4104, .f32⟩

abbrev hbmTy (i : Nat) : BufTy := match i / 128 with
  | 0 => hbmTy0_0 i
  | 1 => hbmTy0_1 i
  | _ => ⟨S16384x4104, .f32⟩

abbrev bufTy : (tb : Table) → Fin (tcTables nBuf tb) → BufTy
  | .hbm, ⟨i, _⟩ => hbmTy i
  | _, _ => ⟨S16384x4104, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v12 : Ref sig .tc := ⟨.hbm, 37, rfl⟩
abbrev main_call1_call0_cst : Ref sig .tc := ⟨.hbm, 38, rfl⟩
abbrev main_call1_call0_v0 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_0 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_1 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_2 : Ref sig .tc := ⟨.hbm, 80, rfl⟩
abbrev main_v51 : Ref sig .tc := ⟨.hbm, 81, rfl⟩
abbrev main_cst_3 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_4 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_call2_call0_cst : Ref sig .tc := ⟨.hbm, 94, rfl⟩
abbrev main_call2_call0_v0 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_5 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_6 : Ref sig .tc := ⟨.hbm, 105, rfl⟩
abbrev main_v70 : Ref sig .tc := ⟨.hbm, 106, rfl⟩
abbrev main_v71 : Ref sig .tc := ⟨.hbm, 107, rfl⟩
abbrev main_cst_7 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_call3_call0_cst : Ref sig .tc := ⟨.hbm, 118, rfl⟩
abbrev main_call3_call0_v0 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_8 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_9 : Ref sig .tc := ⟨.hbm, 133, rfl⟩
abbrev main_v93 : Ref sig .tc := ⟨.hbm, 134, rfl⟩
abbrev main_v94 : Ref sig .tc := ⟨.hbm, 135, rfl⟩
abbrev main_cst_10 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩

abbrev nD : Nat := 1
abbrev τ : Topo := Topo.v7x

variable {F : FTy → Type} [FloatOps F]
-- ==== Proof.Sample.Math.lean ====
/-
  The mathematics of the two head groups over extended reals, one sequence and one head at a time,
  as the reference states it, and the scalar facts that carry the kernel's forms to it.
-/
module

public import Idealize.ShloMosaic.Lib.Pointwise
public import Mathlib.Analysis.SpecialFunctions.Pow.Real

@[expose] public section

noncomputable section

namespace Cert.Sample

open Idealize.ShloMosaic

/-! ## Finite extended reals -/

theorem ninf : Ideal.ofBits .f32 4286578688#32 = ⊥ := by
  simp [Ideal.ofBits, Ideal.ieee]

/-- `x` is a real number. -/
def IsR (x : EReal) : Prop := ∃ r : ℝ, x = (r : EReal)

theorem isR_coe (r : ℝ) : IsR (r : EReal) := ⟨r, rfl⟩
theorem isR_zero : IsR 0 := ⟨0, rfl⟩
theorem isR_one : IsR 1 := ⟨1, rfl⟩
theorem IsR.add {x y : EReal} : IsR x → IsR y → IsR (x + y) := by
  rintro ⟨a, rfl⟩ ⟨b, rfl⟩; exact ⟨a + b, by push_cast; rfl⟩
theorem IsR.sub {x y : EReal} : IsR x → IsR y → IsR (x - y) := by
  rintro ⟨a, rfl⟩ ⟨b, rfl⟩; exact ⟨a - b, by push_cast; rfl⟩
theorem IsR.mul {x y : EReal} : IsR x → IsR y → IsR (x * y) := by
  rintro ⟨a, rfl⟩ ⟨b, rfl⟩; exact ⟨a * b, by push_cast; rfl⟩
theorem IsR.neg {x : EReal} : IsR x → IsR (-x) := by
  rintro ⟨a, rfl⟩; exact ⟨-a, by push_cast; rfl⟩
theorem IsR.max {x y : EReal} : IsR x → IsR y → IsR (max x y) := by
  intro hx hy
  rcases max_choice x y with h | h <;> rw [h] <;> assumption
theorem isR_sum {ι : Type} (s : Finset ι) (f : ι → EReal) (h : ∀ i ∈ s, IsR (f i)) :
    IsR (∑ i ∈ s, f i) := by
  classical
  induction s using Finset.induction_on with
  | empty => exact ⟨0, by simp⟩
  | insert a s ha ih =>
    rw [Finset.sum_insert ha]
    exact (h a (by simp)).add (ih fun i hi => h i (by simp [hi]))
theorem IsR.sub_self {x : EReal} : IsR x → x - x = 0 := by
  rintro ⟨a, rfl⟩; rw [← EReal.coe_sub]; simp
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Exponentials -/

theorem exp_coe (r : ℝ) : Ideal.exp (r : EReal) = ((Real.exp r : ℝ) : EReal) := rfl
theorem isR_exp {x : EReal} : IsR x → IsR (Ideal.exp x) := by
  rintro ⟨a, rfl⟩; exact ⟨_, rfl⟩

/-- The power of two at `x` times minus the binary logarithm of `e` is `exp (−x)`. -/
theorem exp2_scaled (x : EReal) :
    Ideal.exp2 (x * ((-((Real.log 2)⁻¹) : ℝ) : EReal)) = Ideal.exp (-x) := by
  have hl : 0 < Real.log 2 := Real.log_pos (by norm_num)
  have hc : (-((Real.log 2)⁻¹) : ℝ) < 0 := by simpa using inv_pos.mpr hl
  induction x using EReal.rec with
  | bot => rw [EReal.bot_mul_coe_of_neg hc, EReal.neg_bot]; rfl
  | top => rw [EReal.top_mul_coe_of_neg hc, EReal.neg_top]; rfl
  | coe r =>
    rw [← EReal.coe_mul, ← EReal.coe_neg]
    show ((Real.rpow 2 _ : ℝ) : EReal) = ((Real.exp _ : ℝ) : EReal)
    congr 1
    show (2 : ℝ) ^ (r * -(Real.log 2)⁻¹) = _
    rw [Real.rpow_def_of_pos (by norm_num)]
    congr 1
    field_simp

/-! ## The logistic function -/

/-- `1 / (1 + exp (−x))`. -/
def sg (x : EReal) : EReal := Ideal.div 1 (1 + Ideal.exp (-x))

/-- `log (1 / (1 + exp (−x)))`, as the maximum-shifted form. -/
def lgs (x : EReal) : EReal :=
  -(max (-x) 0 + Ideal.log1p (Ideal.exp (-(max (-x) (-(-x))))))

theorem div_coe (a b : ℝ) (hb : b ≠ 0) :
    Ideal.div (a : EReal) (b : EReal) = ((a / b : ℝ) : EReal) := by
  unfold Ideal.div
  rw [if_neg (by exact_mod_cast hb), ← EReal.coe_inv, ← EReal.coe_mul, div_eq_mul_inv]

theorem sg_coe (r : ℝ) : sg (r : EReal) = (((1 + Real.exp (-r))⁻¹ : ℝ) : EReal) := by
  have h : (1 + Real.exp (-r) : ℝ) ≠ 0 := by positivity
  unfold sg
  rw [← EReal.coe_neg, exp_coe, ← EReal.coe_one, ← EReal.coe_add, div_coe _ _ h, one_div]

theorem isR_sg {x : EReal} : IsR x → IsR (sg x) := by
  rintro ⟨a, rfl⟩; exact ⟨_, sg_coe a⟩

theorem isR_lgs {x : EReal} : IsR x → IsR (lgs x) := by
  rintro ⟨a, rfl⟩
  unfold lgs
  have h1 : IsR (-(a : EReal)) := (isR_coe a).neg
  refine ((h1.max isR_zero).add ?_).neg
  obtain ⟨c, hc⟩ := isR_exp (h1.max h1.neg).neg
  have hp : 0 < 1 + Real.exp (-(max (-a) (-(-a)))) := by positivity
  have he : Ideal.exp (-(max (-(a : EReal)) (-(-(a : EReal)))))
      = ((Real.exp (-(max (-a) (-(-a)))) : ℝ) : EReal) := by
    rw [← exp_coe]; congr 1
  rw [he]
  unfold Ideal.log1p
  rw [← EReal.coe_one, ← EReal.coe_add]
  exact ⟨Real.log (1 + Real.exp (-(max (-a) (-(-a))))), by
    show (if _ then _ else _) = _
    rw [if_neg (not_le.mpr hp)]⟩

/-! ## The matrix memory -/

/-- Cumulative sums along time. -/
def cum (f : Fin 8 → EReal) (t : Fin 8) : EReal := ∑ s, if s ≤ t then f s else 0

theorem isR_cum {f : Fin 8 → EReal} (h : ∀ s, IsR (f s)) (t : Fin 8) : IsR (cum f t) := by
  refine isR_sum _ _ fun s _ => ?_
  split
  · exact h s
  · exact isR_zero

/-- The log decay from step `s` to step `t`. -/
def dm (b i : Fin 8 → EReal) (t s : Fin 8) : EReal := if s ≤ t then b t - b s + i s else ⊥
/-- The stabiliser. -/
def mx (b i : Fin 8 → EReal) (m0 : EReal) (t : Fin 8) : EReal :=
  max (b t + m0) (Finset.univ.fold max ⊥ fun s => dm b i t s)
/-- The weight of the incoming state. -/
def dec (b i : Fin 8 → EReal) (m0 : EReal) (t : Fin 8) : EReal :=
  Ideal.exp (b t + m0 - mx b i m0 t)
/-- The weight of step `s` at step `t`. -/
def wt (b i : Fin 8 → EReal) (m0 : EReal) (t s : Fin 8) : EReal :=
  Ideal.exp (dm b i t s - mx b i m0 t)

/-- The weighted scores. -/
def sw (b i : Fin 8 → EReal) (m0 : EReal) (q k : Fin 8 → Fin 128 → EReal) (t s : Fin 8) : EReal :=
  wt b i m0 t s * ∑ c, q t c * k s c
/-- The readout's numerator. -/
def num (b i : Fin 8 → EReal) (m0 : EReal) (q k v : Fin 8 → Fin 128 → EReal)
    (C : Fin 128 → Fin 128 → EReal) (t : Fin 8) (e : Fin 128) : EReal :=
  dec b i m0 t * (∑ c, q t c * C c e) + ∑ s, sw b i m0 q k t s * v s e
/-- The readout's denominator. -/
def den (b i : Fin 8 → EReal) (m0 : EReal) (q k : Fin 8 → Fin 128 → EReal)
    (n : Fin 128 → EReal) (t : Fin 8) : EReal :=
  dec b i m0 t * (∑ c, q t c * n c) + ∑ s, sw b i m0 q k t s
/-- The readout. -/
def ro (b i : Fin 8 → EReal) (m0 : EReal) (q k v : Fin 8 → Fin 128 → EReal)
    (C : Fin 128 → Fin 128 → EReal) (n : Fin 128 → EReal) (t : Fin 8) (e : Fin 128) : EReal :=
  Ideal.div (num b i m0 q k v C t e)
    (max (max (den b i m0 q k n t) (-(den b i m0 q k n t))) (Ideal.exp (-(mx b i m0 t))))
/-- The outgoing matrix memory. -/
def cNew (b i : Fin 8 → EReal) (m0 : EReal) (k v : Fin 8 → Fin 128 → EReal)
    (C : Fin 128 → Fin 128 → EReal) (c e : Fin 128) : EReal :=
  dec b i m0 7 * C c e + ∑ s, wt b i m0 7 s * k s c * v s e
/-- The outgoing normaliser. -/
def nNew (b i : Fin 8 → EReal) (m0 : EReal) (k : Fin 8 → Fin 128 → EReal)
    (n : Fin 128 → EReal) (c : Fin 128) : EReal :=
  dec b i m0 7 * n c + ∑ s, wt b i m0 7 s * k s c

/-- Root-mean-square normalisation, scaled and gated. -/
def gated (o x : Fin 8 → Fin 128 → EReal) (g : Fin 128 → EReal) (t : Fin 8) (e : Fin 128) : EReal :=
  sg (o t e) * (x t e * Ideal.rsqrt (Ideal.div (∑ c, x t c * x t c) (Ideal.ofBits .f32 0x43000000#32)
    + Ideal.ofBits .f32 0x358637BD#32) * g e)

/-! ## The gated linear recurrence -/

/-- The forget gate. -/
def fg (lb : EReal) (x : EReal) : EReal := lb + (1 - lb) * sg x
/-- The recurrence's key. -/
def kg (lb : EReal) (x : EReal) : EReal := (1 - lb) * sg (-x)
/-- The cumulated log forget gate. -/
def al (lb : Fin 128 → EReal) (f : Fin 8 → Fin 128 → EReal) (t : Fin 8) (c : Fin 128) : EReal :=
  cum (fun s => Ideal.log (fg (lb c) (f s c))) t
/-- The query. -/
def qs (x : EReal) : EReal := x * sg x
/-- The scores. -/
def sc (lb : Fin 128 → EReal) (q f : Fin 8 → Fin 128 → EReal) (t s : Fin 8) : EReal :=
  ∑ c, qs (q t c) * Ideal.exp (if s ≤ t then al lb f t c - al lb f s c else ⊥) * kg (lb c) (f s c)
/-- The recurrence's readout, the state with its key axis first. -/
def lro (lb : Fin 128 → EReal) (q f v : Fin 8 → Fin 128 → EReal) (S : Fin 128 → Fin 128 → EReal)
    (t : Fin 8) (e : Fin 128) : EReal :=
  (∑ c, S c e * (qs (q t c) * Ideal.exp (al lb f t c))) + ∑ s, v s e * sc lb q f t s
/-- The outgoing state. -/
def sNew (lb : Fin 128 → EReal) (f v : Fin 8 → Fin 128 → EReal) (S : Fin 128 → Fin 128 → EReal)
    (c e : Fin 128) : EReal :=
  Ideal.exp (al lb f 7 c) * S c e
    + ∑ s, Ideal.exp (al lb f 7 c - al lb f s c) * kg (lb c) (f s c) * v s e

/-- A number strictly between zero and one. -/
def Unit01 (x : EReal) : Prop := ∃ r : ℝ, x = (r : EReal) ∧ 0 < r ∧ r < 1

theorem Unit01.isR {x : EReal} : Unit01 x → IsR x := fun ⟨r, h, _⟩ => ⟨r, h⟩

theorem fg_unit {lb x : EReal} (hl : Unit01 lb) (hx : IsR x) : Unit01 (fg lb x) := by
  obtain ⟨l, rfl, h0, h1⟩ := hl
  obtain ⟨r, rfl⟩ := hx
  have he : 0 < Real.exp (-r) := Real.exp_pos _
  have hs : 0 < (1 + Real.exp (-r))⁻¹ := by positivity
  have hs1 : (1 + Real.exp (-r))⁻¹ < 1 := inv_lt_one_of_one_lt₀ (by linarith)
  refine ⟨l + (1 - l) * (1 + Real.exp (-r))⁻¹, ?_, by nlinarith, by nlinarith⟩
  unfold fg
  rw [sg_coe]; push_cast; rfl

/-- The log forget gate is a real, at most zero, and its exponential the gate. -/
theorem log_fg {lb x : EReal} (hl : Unit01 lb) (hx : IsR x) :
    ∃ r : ℝ, Ideal.log (fg lb x) = (r : EReal) ∧ r ≤ 0 ∧ fg lb x = ((Real.exp r : ℝ) : EReal) := by
  obtain ⟨y, hy, h0, h1⟩ := fg_unit hl hx
  refine ⟨Real.log y, ?_, (Real.log_nonpos h0.le h1.le), ?_⟩
  · rw [hy]; show (if _ then _ else _) = _; rw [if_neg (not_le.mpr h0)]
  · rw [Real.exp_log h0, hy]

theorem isR_qs {x : EReal} (h : IsR x) : IsR (qs x) := h.mul (isR_sg h)

theorem kg_isR {lb x : EReal} (hl : Unit01 lb) (hx : IsR x) : IsR (kg lb x) :=
  (isR_one.sub hl.isR).mul (isR_sg hx.neg)

/-- The kernel's form of the key. -/
theorem kg_div {lb x : EReal} (hl : IsR lb) (hx : IsR x) :
    Ideal.div (1 - lb) (1 + Ideal.exp x) = kg lb x := by
  obtain ⟨l, rfl⟩ := hl
  obtain ⟨r, rfl⟩ := hx
  have h : (1 + Real.exp r : ℝ) ≠ 0 := by positivity
  unfold kg
  rw [← EReal.coe_neg, sg_coe, neg_neg, exp_coe, ← EReal.coe_one, ← EReal.coe_add, ← EReal.coe_sub,
    div_coe _ _ h, ← EReal.coe_mul, div_eq_mul_inv]

end Cert.Sample
-- ==== Proof.Sample.Window.lean ====
/-
  A cumulative sum along one axis, as the host's windowed sum spells it, is the sum over the
  positions up to the one read.
-/
module

public import proofs.«01_k».proof.Proof.Sample.Math
public import Idealize.ShloMosaic.PureOps.Ideal.Laws

@[expose] public section

noncomputable section

namespace Cert.Sample

open Idealize.ShloMosaic

theorem foldl_add {α : Type} (l : List α) (g : α → EReal) (v : EReal) :
    l.foldl (fun r n => r + g n) v = v + (l.map g).sum := by
  induction l generalizing v with
  | nil => simp
  | cons a l ih => rw [List.foldl_cons, ih, List.map_cons, List.sum_cons, add_assoc]

/-- The host's windowed sum as a sum over the window's positions. -/
theorem reduceWindowAdd_eq {s t u : Shape} (w st lo hi : Fin s.rank → Nat) (x : FVec Ideal s .f32)
    (init : u.Idx → Ideal .f32) (h : s.ReduceWindows w st lo hi t) (hu : 0 < u.numel) (j : t.Idx)
    (h0 : init (Shape.Idx.first hu) = (0 : EReal)) :
    Host.reduceWindowAdd w st lo hi x init h hu j
      = ∑ n : Fin (⟨s.rank, w⟩ : Shape).numel, (
        let p : Fin s.rank → Nat := fun a =>
          (j (a.cast h.1.symm)).val * st a + ((⟨s.rank, w⟩ : Shape).rowMajor.symm n a).val
        if hin : ∀ a, lo a ≤ p a ∧ p a - lo a < s.size a then
          (x (fun a => ⟨p a - lo a, (hin a).2⟩) : EReal) else 0) := by
  show Host.reduceWindow (· + ·) w st lo hi x (fun _ : (⟨0, ![]⟩ : Shape).Idx =>
    init (Shape.Idx.first hu)) h (by decide) j = _
  unfold Host.reduceWindow
  simp only [h0]
  rw [foldl_add, zero_add, ← List.ofFn_eq_map, List.sum_ofFn]

/-- Eight window positions padded seven low: the positions up to `t`. -/
theorem window8 (f : Fin 8 → EReal) (t : Fin 8) :
    (∑ n : Fin 8, if h : 7 ≤ t.val + n.val then f ⟨t.val + n.val - 7, by omega⟩ else 0)
      = cum f t := by
  unfold cum
  fin_cases t <;> simp [Fin.sum_univ_eight]

end Cert.Sample
-- ==== Proof.Sample.Reference.lean ====
/-
  The reference's arrays read at an index: each is the mathematics of Math.lean at one sequence and
  one head.
-/
module

public import proofs.«01_k».proof.Proof.Gen.ReferenceIdeal.Read
public import proofs.«01_k».proof.Proof.Sample.Window

@[expose] public section

noncomputable section

namespace Cert.Sample

open Idealize.ShloMosaic Cert.ReferenceIdeal Cert.ReferenceIdeal.Read

/-! ## Cumulative sums -/

theorem cumsum3 (x : FVec Ideal S128x8x4 .f32) (b : Fin 128) (t : Fin 8) (h : Fin 4)
    (init : FVec Ideal S_ .f32) (h0 : init (Shape.Idx.first Gen.h_S_) = (0 : EReal)) :
    Host.reduceWindowAdd ![1, 8, 1] ![1, 1, 1] ![0, 7, 0] ![0, 0, 0] x init
      Gen.reduceWindows_S128x8x4_S128x8x4_w1s1p0_0_w8s1p7_0_w1s1p0_0 Gen.h_S_ (ix3 b t h)
      = cum (fun s => x (ix3 b s h)) t := by
  rw [reduceWindowAdd_eq _ _ _ _ _ _ _ _ _ h0, ← window8]
  refine Finset.sum_congr rfl fun (n : Fin 8) _ => ?_
  have hn : ∀ n : Fin 8, ∀ a : Fin 3, ((⟨3, ![1, 8, 1]⟩ : Shape).rowMajor.symm n a).val
      = if a = 1 then n.val else 0 := by decide
  have e0 : ((Shape.rowMajor (⟨3, ![1, 8, 1]⟩ : Shape)).symm n 0).val = 0 := hn n 0
  have e1 : ((Shape.rowMajor (⟨3, ![1, 8, 1]⟩ : Shape)).symm n 1).val = n.val := hn n 1
  have e2 : ((Shape.rowMajor (⟨3, ![1, 8, 1]⟩ : Shape)).symm n 2).val = 0 := hn n 2
  have hb := b.isLt; have ht := t.isLt; have hh := h.isLt; have hnl := n.isLt
  by_cases h7 : 7 ≤ t.val + n.val
  · rw [dif_pos h7, dif_pos]
    · refine congrArg x (funext fun a => Fin.ext ?_)
      match a with
      | ⟨0, _⟩ => show b.val * 1 + ((Shape.rowMajor (⟨3, ![1, 8, 1]⟩ : Shape)).symm n 0).val - 0 = b.val; omega
      | ⟨1, _⟩ => show t.val * 1 + ((Shape.rowMajor (⟨3, ![1, 8, 1]⟩ : Shape)).symm n 1).val - 7 = t.val + n.val - 7; omega
      | ⟨2, _⟩ => show h.val * 1 + ((Shape.rowMajor (⟨3, ![1, 8, 1]⟩ : Shape)).symm n 2).val - 0 = h.val; omega
    · intro a
      match a with
      | ⟨0, _⟩ => show 0 ≤ b.val * 1 + ((Shape.rowMajor (⟨3, ![1, 8, 1]⟩ : Shape)).symm n 0).val ∧ b.val * 1 + ((Shape.rowMajor (⟨3, ![1, 8, 1]⟩ : Shape)).symm n 0).val - 0 < 128; omega
      | ⟨1, _⟩ => show 7 ≤ t.val * 1 + ((Shape.rowMajor (⟨3, ![1, 8, 1]⟩ : Shape)).symm n 1).val ∧ t.val * 1 + ((Shape.rowMajor (⟨3, ![1, 8, 1]⟩ : Shape)).symm n 1).val - 7 < 8; omega
      | ⟨2, _⟩ => show 0 ≤ h.val * 1 + ((Shape.rowMajor (⟨3, ![1, 8, 1]⟩ : Shape)).symm n 2).val ∧ h.val * 1 + ((Shape.rowMajor (⟨3, ![1, 8, 1]⟩ : Shape)).symm n 2).val - 0 < 4; omega
  · rw [dif_neg h7, dif_neg]
    intro hall
    have h1 : 7 ≤ t.val * 1 + ((Shape.rowMajor (⟨3, ![1, 8, 1]⟩ : Shape)).symm n 1).val := (hall 1).1
    omega

theorem cumsum4 (x : FVec Ideal S128x8x4x128 .f32) (b : Fin 128) (t : Fin 8) (h : Fin 4)
    (c : Fin 128) (init : FVec Ideal S_ .f32)
    (h0 : init (Shape.Idx.first Gen.h_S_) = (0 : EReal)) :
    Host.reduceWindowAdd ![1, 8, 1, 1] ![1, 1, 1, 1] ![0, 7, 0, 0] ![0, 0, 0, 0] x init
      Gen.reduceWindows_S128x8x4x128_S128x8x4x128_w1s1p0_0_w8s1p7_0_w1s1p0_0_w1s1p0_0 Gen.h_S_
      (ix4 b t h c) = cum (fun s => x (ix4 b s h c)) t := by
  rw [reduceWindowAdd_eq _ _ _ _ _ _ _ _ _ h0, ← window8]
  refine Finset.sum_congr rfl fun (n : Fin 8) _ => ?_
  have hn : ∀ n : Fin 8, ∀ a : Fin 4, ((⟨4, ![1, 8, 1, 1]⟩ : Shape).rowMajor.symm n a).val
      = if a = 1 then n.val else 0 := by decide
  have e0 : ((Shape.rowMajor (⟨4, ![1, 8, 1, 1]⟩ : Shape)).symm n 0).val = 0 := hn n 0
  have e1 : ((Shape.rowMajor (⟨4, ![1, 8, 1, 1]⟩ : Shape)).symm n 1).val = n.val := hn n 1
  have e2 : ((Shape.rowMajor (⟨4, ![1, 8, 1, 1]⟩ : Shape)).symm n 2).val = 0 := hn n 2
  have e3 : ((Shape.rowMajor (⟨4, ![1, 8, 1, 1]⟩ : Shape)).symm n 3).val = 0 := hn n 3
  have hb := b.isLt; have ht := t.isLt; have hh := h.isLt; have hnl := n.isLt; have hc := c.isLt
  by_cases h7 : 7 ≤ t.val + n.val
  · rw [dif_pos h7, dif_pos]
    · refine congrArg x (funext fun a => Fin.ext ?_)
      match a with
      | ⟨0, _⟩ => show b.val * 1 + ((Shape.rowMajor (⟨4, ![1, 8, 1, 1]⟩ : Shape)).symm n 0).val - 0 = b.val; omega
      | ⟨1, _⟩ => show t.val * 1 + ((Shape.rowMajor (⟨4, ![1, 8, 1, 1]⟩ : Shape)).symm n 1).val - 7 = t.val + n.val - 7; omega
      | ⟨2, _⟩ => show h.val * 1 + ((Shape.rowMajor (⟨4, ![1, 8, 1, 1]⟩ : Shape)).symm n 2).val - 0 = h.val; omega
      | ⟨3, _⟩ => show c.val * 1 + ((Shape.rowMajor (⟨4, ![1, 8, 1, 1]⟩ : Shape)).symm n 3).val - 0 = c.val; omega
    · intro a
      match a with
      | ⟨0, _⟩ => show 0 ≤ b.val * 1 + ((Shape.rowMajor (⟨4, ![1, 8, 1, 1]⟩ : Shape)).symm n 0).val ∧ b.val * 1 + ((Shape.rowMajor (⟨4, ![1, 8, 1, 1]⟩ : Shape)).symm n 0).val - 0 < 128; omega
      | ⟨1, _⟩ => show 7 ≤ t.val * 1 + ((Shape.rowMajor (⟨4, ![1, 8, 1, 1]⟩ : Shape)).symm n 1).val ∧ t.val * 1 + ((Shape.rowMajor (⟨4, ![1, 8, 1, 1]⟩ : Shape)).symm n 1).val - 7 < 8; omega
      | ⟨2, _⟩ => show 0 ≤ h.val * 1 + ((Shape.rowMajor (⟨4, ![1, 8, 1, 1]⟩ : Shape)).symm n 2).val ∧ h.val * 1 + ((Shape.rowMajor (⟨4, ![1, 8, 1, 1]⟩ : Shape)).symm n 2).val - 0 < 4; omega
      | ⟨3, _⟩ => show 0 ≤ c.val * 1 + ((Shape.rowMajor (⟨4, ![1, 8, 1, 1]⟩ : Shape)).symm n 3).val ∧ c.val * 1 + ((Shape.rowMajor (⟨4, ![1, 8, 1, 1]⟩ : Shape)).symm n 3).val - 0 < 128; omega
  · rw [dif_neg h7, dif_neg]
    intro hall
    have h1 : 7 ≤ t.val * 1 + ((Shape.rowMajor (⟨4, ![1, 8, 1, 1]⟩ : Shape)).symm n 1).val := (hall 1).1
    omega

/-! ## The projection's columns -/

/-- Row `t` of sequence `b`. -/
abbrev rowP (b : Fin 128) (t : Fin 8) : Fin 1024 := ⟨b.val * 8 + t.val, by omega⟩
/-- Lane `c` of head `h` in the group of columns that starts at `o`. -/
abbrev colP (o : Fin 3593) (h : Fin 4) (c : Fin 128) : Fin 4104 :=
  ⟨o.val + (h.val * 128 + c.val), by omega⟩
/-- Gate `h` in the group of four columns that starts at `o`. -/
abbrev colG (o : Fin 4101) (h : Fin 4) : Fin 4104 := ⟨o.val + h.val, by omega⟩

variable (x0 : FVec Ideal S1024x4104 .f32) (x1 : FVec Ideal S128x4x128x128 .f32)
  (x2 : FVec Ideal S128x4x128 .f32) (x3 : FVec Ideal S128x4 .f32)
  (x4 : FVec Ideal S128x4x128x128 .f32) (x5 : FVec Ideal S4 .f32) (x6 x7 : FVec Ideal S4x128 .f32)
  (x8 : FVec Ideal S2x512 .f32) (b : Fin 128) (h : Fin 4)

/-- A group of the projection's columns, one sequence and head. -/
abbrev pj (o : Fin 3593) (t : Fin 8) (c : Fin 128) : EReal := x0 (ix2 (rowP b t) (colP o h c))
/-- The log forget gates of one sequence and head. -/
abbrev lfA (t : Fin 8) : EReal := lgs (x0 (ix2 (rowP b t) (colG 2052 h)) + x5 (ix1 h))
/-- The cumulated log forget gates. -/
abbrev bA (t : Fin 8) : EReal := cum (lfA x0 x5 b h) t
/-- The input gates. -/
abbrev iA (t : Fin 8) : EReal := x0 (ix2 (rowP b t) (colG 2048 h))
/-- The scaled keys. -/
abbrev kA (t : Fin 8) (c : Fin 128) : EReal :=
  pj x0 b h 512 t c * Ideal.ofBits .f32 0x3DB504F3#32

theorem v17_at (t c) : val_main_v17 (F := Ideal) x0 (ix4 b t h c) = pj x0 b h 0 t c := by
  pointwise [val_main_v17, val_main_v16, val_main_v15]
  refine congrArg x0 (congrArg (ix2 _) (Fin.ext ?_))
  show h.val * 128 + c.val = 0 + (h.val * 128 + c.val)
  omega
theorem v35_at (t c) : val_main_v35 (F := Ideal) x0 (ix4 b t h c) = kA x0 b h t c := by
  pointwise [val_main_v35, val_main_v34, val_main_cst_2, val_main_v19, val_main_v18, val_main_v15]; rfl
theorem v21_at (t c) : val_main_v21 (F := Ideal) x0 (ix4 b t h c) = pj x0 b h 1024 t c := by
  pointwise [val_main_v21, val_main_v20, val_main_v15]; rfl
theorem v23_at (t c) : val_main_v23 (F := Ideal) x0 (ix4 b t h c) = pj x0 b h 1536 t c := by
  pointwise [val_main_v23, val_main_v22, val_main_v15]; rfl
theorem v27_at (t c) : val_main_v27 (F := Ideal) x0 (ix4 b t h c) = pj x0 b h 2056 t c := by
  pointwise [val_main_v27, val_main_v26, val_main_v15]; rfl
theorem v29_at (t c) : val_main_v29 (F := Ideal) x0 (ix4 b t h c) = pj x0 b h 2568 t c := by
  pointwise [val_main_v29, val_main_v28, val_main_v15]; rfl
theorem v31_at (t c) : val_main_v31 (F := Ideal) x0 (ix4 b t h c) = pj x0 b h 3080 t c := by
  pointwise [val_main_v31, val_main_v30, val_main_v15]; rfl
theorem v33_at (t c) : val_main_v33 (F := Ideal) x0 (ix4 b t h c) = pj x0 b h 3592 t c := by
  pointwise [val_main_v33, val_main_v32, val_main_v15]; rfl
theorem v24_at (t) : val_main_v24 (F := Ideal) x0 (ix3 b t h) = iA x0 b h t := by
  pointwise [val_main_v24, val_main_v15]; rfl

/-! ## The matrix memory -/

theorem v39_at (t) : val_main_v39 (F := Ideal) x0 x5 (ix3 b t h) = lfA x0 x5 b h t := by
  pointwise [val_main_v39, val_main_call1_v1, val_main_call1_call0_v11, val_main_call1_call0_v10,
    val_main_call1_call0_v9, val_main_call1_call0_v8, val_main_call1_call0_v7,
    val_main_call1_call0_v6, val_main_call1_call0_v5, val_main_call1_call0_v4,
    val_main_call1_call0_v3, val_main_call1_call0_v2, val_main_call1_call0_v1,
    val_main_call1_call0_v0, val_main_call1_call0_cst, val_main_call1_v0, val_main_v38,
    val_main_v37, val_main_v36, val_main_v25, val_main_v15]
  rw [lfA, lgs, if_neg (fun h => h rfl)]
  rfl

theorem v40_at (t) : val_main_v40 (F := Ideal) x0 x5 (ix3 b t h) = bA x0 x5 b h t := by
  rw [val_main_v40, cumsum3]
  · simp only [v39_at]
  · pointwise [val_main_call2_call0_v0, val_main_call2_call0_cst]

theorem causal_at (t s : Fin 8) :
    val_main_v43 (F := Ideal) (ix2 t s) = if s ≤ t then 1#1 else 0#1 := by
  pointwise [val_main_v43, val_main_call3_v5, val_main_call3_c_0, val_main_call3_v4,
    val_main_call3_v3, val_main_call3_v2, val_main_call3_v1, val_main_call3_c, val_main_call3_v0,
    val_main_v42, val_main_c]
  revert t s; decide

theorem v53_at (t s) : val_main_v53 (F := Ideal) x0 x5 (ix4 b h t s)
    = dm (bA x0 x5 b h) (iA x0 b h) t s := by
  pointwise [val_main_v53, val_main_v52, val_main_v51, val_main_v50, val_main_v49, val_main_v48,
    val_main_v47, val_main_v46, val_main_v45, val_main_v44, val_main_v41, val_main_call4_v1,
    val_main_call4_v2, val_main_call4_v0, val_main_cst_3]
  rw [causal_at, v40_at, v40_at, v24_at, dm]
  by_cases hs : s ≤ t
  · rw [if_pos hs, if_pos hs]; rfl
  · rw [if_neg hs, if_neg hs]; exact ninf

theorem v58_at (t) : val_main_v58 (F := Ideal) x0 x3 x5 (ix3 b h t)
    = mx (bA x0 x5 b h) (iA x0 b h) (x3 (ix2 b h)) t := by
  pointwise [val_main_v58, val_main_v57, val_main_v56, val_main_v55, val_main_v54, val_main_v41,
    val_main_cst_4]
  simp only [v53_at, v40_at, ninf]
  rfl

theorem v63_at (t) : val_main_v63 (F := Ideal) x0 x3 x5 (ix3 b h t)
    = dec (bA x0 x5 b h) (iA x0 b h) (x3 (ix2 b h)) t := by
  pointwise [val_main_v63, val_main_v62, val_main_v61, val_main_v60, val_main_v59, val_main_v41]
  simp only [v40_at, v58_at]
  rfl
theorem v67_at (t s) : val_main_v67 (F := Ideal) x0 x3 x5 (ix4 b h t s)
    = wt (bA x0 x5 b h) (iA x0 b h) (x3 (ix2 b h)) t s := by
  pointwise [val_main_v67, val_main_v66, val_main_v65, val_main_v64]
  simp only [v53_at, v58_at]
  rfl
theorem v69_at (t s) : val_main_v69 (F := Ideal) x0 x3 x5 (ix4 b h t s)
    = sw (bA x0 x5 b h) (iA x0 b h) (x3 (ix2 b h)) (pj x0 b h 0) (kA x0 b h) t s := by
  pointwise [val_main_v69, val_main_v68]
  simp only [v67_at, v17_at, v35_at]
  rfl

/-- The matrix memory's parameters of one sequence and head. -/
abbrev CA (c e : Fin 128) : EReal := x1 (ix4 b h c e)

theorem v86_at (t : Fin 8) (e : Fin 128) : val_main_v86 (F := Ideal) x0 x1 x2 x3 x5 (ix4 b h t e)
    = ro (bA x0 x5 b h) (iA x0 b h) (x3 (ix2 b h)) (pj x0 b h 0) (kA x0 b h) (pj x0 b h 1024)
        (CA x1 b h) (fun c => x2 (ix3 b h c)) t e := by
  pointwise [val_main_v86, val_main_v85, val_main_v84, val_main_v83, val_main_v82, val_main_v81,
    val_main_v80, val_main_v79, val_main_v78, val_main_v77, val_main_v76, val_main_v75,
    val_main_v74, val_main_v73, val_main_v72, val_main_v71, val_main_v70, val_main_cst_5]
  simp only [v69_at, v17_at, v21_at, v63_at, v58_at, Ideal.ofBits_zero_f32, zero_add]
  rfl
theorem v99_at (c e : Fin 128) : val_main_v99 (F := Ideal) x0 x1 x3 x5 (ix4 b h c e)
    = cNew (bA x0 x5 b h) (iA x0 b h) (x3 (ix2 b h)) (kA x0 b h) (pj x0 b h 1024)
        (CA x1 b h) c e := by
  pointwise [val_main_v99, val_main_v98, val_main_v97, val_main_v96, val_main_v95, val_main_v94,
    val_main_v93, val_main_v92, val_main_v91, val_main_v90, val_main_v89, val_main_v88,
    val_main_v87]
  simp only [v67_at, v35_at, v21_at, v63_at]
  rfl
theorem v106_at (c : Fin 128) : val_main_v106 (F := Ideal) x0 x2 x3 x5 (ix3 b h c)
    = nNew (bA x0 x5 b h) (iA x0 b h) (x3 (ix2 b h)) (kA x0 b h) (fun c => x2 (ix3 b h c)) c := by
  pointwise [val_main_v106, val_main_v105, val_main_v104, val_main_v103, val_main_v102,
    val_main_v101, val_main_v100, val_main_v92, val_main_v91, val_main_v90, val_main_v89,
    val_main_v88, val_main_v87, val_main_cst_6]
  simp only [v67_at, v35_at, v21_at, v63_at, Ideal.ofBits_zero_f32, zero_add]
  rfl
theorem v219_at : val_main_v219 (F := Ideal) x0 x3 x5 (ix3 b (0 : Fin 1) h)
    = mx (bA x0 x5 b h) (iA x0 b h) (x3 (ix2 b h)) 7 := by
  pointwise [val_main_v219, val_main_v108, val_main_v107]
  simp only [v58_at]
theorem v129_at (t : Fin 8) (e : Fin 128) : val_main_v129 (F := Ideal) x0 x1 x2 x3 x5 x6 (ix4 b t h e)
    = gated (pj x0 b h 1536) (ro (bA x0 x5 b h) (iA x0 b h) (x3 (ix2 b h)) (pj x0 b h 0)
        (kA x0 b h) (pj x0 b h 1024) (CA x1 b h) (fun c => x2 (ix3 b h c)))
        (fun c => x6 (ix2 h c)) t e := by
  pointwise [val_main_v129, val_main_v128, val_main_v127, val_main_v126, val_main_v125,
    val_main_v124, val_main_v123, val_main_v122, val_main_v121, val_main_v120, val_main_v119,
    val_main_v118, val_main_v117, val_main_v116, val_main_v115, val_main_v114, val_main_v113,
    val_main_v112, val_main_v111, val_main_v110, val_main_v109, val_main_cst_7, val_main_cst_8,
    val_main_cst_9, val_main_cst_10, val_main_cst_11]
  simp only [v86_at, v23_at]
  rfl

/-! ## The decaying memory -/

/-- The forget floor of one head. -/
abbrev lbA (c : Fin 128) : EReal := val_main_v14 (F := Ideal) x8 (ix2 h c)

theorem v143_at (t : Fin 8) (c : Fin 128) : val_main_v143 (F := Ideal) x0 x8 (ix4 b t h c)
    = fg (lbA x8 h c) (pj x0 b h 2568 t c) := by
  pointwise [val_main_v143, val_main_v142, val_main_v141, val_main_v140, val_main_v139, val_main_v138,
    val_main_v137, val_main_v136, val_main_v135, val_main_v134, val_main_v133,
    val_main_v132, val_main_v131, val_main_v130, val_main_cst_12, val_main_cst_13,
    val_main_cst_14]
  simp only [v29_at]
  rfl
theorem v156_at (t : Fin 8) (c : Fin 128) : val_main_v156 (F := Ideal) x0 x8 (ix4 b t h c)
    = kg (lbA x8 h c) (pj x0 b h 2568 t c) := by
  pointwise [val_main_v156, val_main_v155, val_main_v154, val_main_v153, val_main_v152, val_main_v151,
    val_main_v150, val_main_v149, val_main_v148, val_main_v147, val_main_v146,
    val_main_v145, val_main_cst_15, val_main_cst_16, val_main_cst_17]
  simp only [v29_at]
  rfl
theorem v157_at (t : Fin 8) (c : Fin 128) : val_main_v157 (F := Ideal) x0 (ix4 b t h c)
    = qs (pj x0 b h 2056 t c) := by
  pointwise [val_main_v157, val_main_call5_v5, val_main_call5_v4, val_main_call5_v3, val_main_call5_v2,
    val_main_call5_v1, val_main_call5_v0, val_main_call5_cst, val_main_call5_cst_0]
  simp only [v27_at]
  rfl
theorem v144_at (t : Fin 8) (c : Fin 128) : val_main_v144 (F := Ideal) x0 x8 (ix4 b t h c)
    = Ideal.log (fg (lbA x8 h c) (pj x0 b h 2568 t c)) := by
  pointwise [val_main_v144]
  rw [v143_at]
theorem v158_at (t : Fin 8) (c : Fin 128) : val_main_v158 (F := Ideal) x0 x8 (ix4 b t h c)
    = al (lbA x8 h) (pj x0 b h 2568) t c := by
  rw [val_main_v158, cumsum4]
  · simp only [v144_at]
    rfl
  · pointwise [val_main_call6_call0_v0, val_main_call6_call0_cst]
theorem v166_at (t s : Fin 8) (c : Fin 128) : val_main_v166 (F := Ideal) x0 x8 (ix5 b t s h c)
    = Ideal.exp (if s ≤ t then al (lbA x8 h) (pj x0 b h 2568) t c
        - al (lbA x8 h) (pj x0 b h 2568) s c else ⊥) := by
  pointwise [val_main_v166, val_main_v165, val_main_v164, val_main_v163, val_main_v162, val_main_v161,
    val_main_v160, val_main_v159, val_main_call7_v0, val_main_call7_v1, val_main_call7_v2,
    val_main_cst_18]
  rw [causal_at, v158_at, v158_at]
  by_cases hs : s ≤ t
  · rw [if_pos hs, if_pos hs]; rfl
  · rw [if_neg hs, if_neg hs]; exact congrArg Ideal.exp ninf
theorem v173_at (t s : Fin 8) : val_main_v173 (F := Ideal) x0 x8 (ix4 b t s h)
    = sc (lbA x8 h) (pj x0 b h 2056) (pj x0 b h 2568) t s := by
  pointwise [val_main_v173, val_main_v172, val_main_v171, val_main_v170, val_main_v169, val_main_v168,
    val_main_v167, val_main_cst_19]
  simp only [v157_at, v156_at, v166_at, Ideal.ofBits_zero_f32, zero_add]
  rfl

/-- The decaying memory's state of one sequence and head. -/
abbrev SA (c e : Fin 128) : EReal := x4 (ix4 b h c e)

theorem v180_at (t : Fin 8) (e : Fin 128) : val_main_v180 (F := Ideal) x0 x4 x8 (ix4 b t h e)
    = lro (lbA x8 h) (pj x0 b h 2056) (pj x0 b h 2568) (pj x0 b h 3080) (SA x4 b h) t e := by
  pointwise [val_main_v180, val_main_v179, val_main_v178, val_main_v177, val_main_v176, val_main_v175,
    val_main_v174]
  simp only [v157_at, v158_at, v173_at, v31_at]
  rfl
theorem v193_at (c e : Fin 128) : val_main_v193 (F := Ideal) x0 x4 x8 (ix4 b h c e)
    = sNew (lbA x8 h) (pj x0 b h 2568) (pj x0 b h 3080) (SA x4 b h) c e := by
  pointwise [val_main_v193, val_main_v192, val_main_v191, val_main_v190, val_main_v189, val_main_v188,
    val_main_v187, val_main_v186, val_main_v185, val_main_v184, val_main_v183,
    val_main_v182, val_main_v181]
  simp only [v156_at, v158_at, v31_at]
  rfl
theorem v213_at (t : Fin 8) (e : Fin 128) : val_main_v213 (F := Ideal) x0 x4 x7 x8 (ix4 b t h e)
    = gated (pj x0 b h 3592) (lro (lbA x8 h) (pj x0 b h 2056) (pj x0 b h 2568) (pj x0 b h 3080)
        (SA x4 b h)) (fun c => x7 (ix2 h c)) t e := by
  pointwise [val_main_v213, val_main_v212, val_main_v211, val_main_v210, val_main_v209, val_main_v208,
    val_main_v207, val_main_v206, val_main_v205, val_main_v204, val_main_v203,
    val_main_v202, val_main_v201, val_main_v200, val_main_v199, val_main_v198,
    val_main_v197, val_main_v196, val_main_v195, val_main_v194, val_main_cst_20,
    val_main_cst_21, val_main_cst_22, val_main_cst_23, val_main_cst_24]
  simp only [v180_at, v33_at]
  rfl
end Cert.Sample
-- ==== Proof.Sample.Mixed.lean ====
/-
  The reference's mixed heads, and its forget floor: a number strictly between zero and one wherever
  the logits are finite.
-/
module

public import proofs.«01_k».proof.Proof.Sample.Reference

@[expose] public section

noncomputable section

namespace Cert.Sample

open Idealize.ShloMosaic Cert.ReferenceIdeal Cert.ReferenceIdeal.Read

variable (x0 : FVec Ideal S1024x4104 .f32) (x1 : FVec Ideal S128x4x128x128 .f32)
  (x2 : FVec Ideal S128x4x128 .f32) (x3 : FVec Ideal S128x4 .f32)
  (x4 : FVec Ideal S128x4x128x128 .f32) (x5 : FVec Ideal S4 .f32) (x6 x7 : FVec Ideal S4x128 .f32)
  (x8 : FVec Ideal S2x512 .f32) (b : Fin 128) (h : Fin 4)

/-- Lane `e` of head `h` among the mixed columns. -/
abbrev colM (h : Fin 4) (e : Fin 128) : Fin 512 := ⟨h.val * 128 + e.val, by omega⟩

theorem v214_at (t : Fin 8) (e : Fin 128) :
    val_main_v214 (F := Ideal) x0 x1 x2 x3 x5 x6 (ix3 b t (colM h e))
      = val_main_v129 (F := Ideal) x0 x1 x2 x3 x5 x6 (ix4 b t h e) := by
  pointwise [val_main_v214]
  congr 2 <;> refine Fin.ext ?_
  · show (h.val * 128 + e.val) / 128 = h.val; omega
  · show (h.val * 128 + e.val) % 128 = e.val; omega
theorem v215_at (t : Fin 8) (e : Fin 128) :
    val_main_v215 (F := Ideal) x0 x4 x7 x8 (ix3 b t (colM h e))
      = val_main_v213 (F := Ideal) x0 x4 x7 x8 (ix4 b t h e) := by
  pointwise [val_main_v215]
  congr 2 <;> refine Fin.ext ?_
  · show (h.val * 128 + e.val) / 128 = h.val; omega
  · show (h.val * 128 + e.val) % 128 = e.val; omega

theorem v218_row (t : Fin 8) (c : Fin 1024) :
    val_main_v218 (F := Ideal) x0 x1 x2 x3 x4 x5 x6 x7 x8 (ix2 (rowP b t) c)
      = val_main_v216 (F := Ideal) x0 x1 x2 x3 x4 x5 x6 x7 x8 (ix3 b t c) := by
  pointwise [val_main_v218, val_main_v217]
  congr 2 <;> refine Fin.ext ?_
  · show (b.val * 8 + t.val) / 8 = b.val; omega
  · show (b.val * 8 + t.val) % 8 = t.val; omega

theorem v218_A (t : Fin 8) (e : Fin 128) :
    val_main_v218 (F := Ideal) x0 x1 x2 x3 x4 x5 x6 x7 x8
        (ix2 (rowP b t) ⟨h.val * 128 + e.val, by omega⟩)
      = val_main_v129 (F := Ideal) x0 x1 x2 x3 x5 x6 (ix4 b t h e) := by
  rw [v218_row, ← v214_at]
  pointwise [val_main_v216]
  exact dif_pos (by omega)
theorem v218_B (t : Fin 8) (e : Fin 128) :
    val_main_v218 (F := Ideal) x0 x1 x2 x3 x4 x5 x6 x7 x8
        (ix2 (rowP b t) ⟨512 + (h.val * 128 + e.val), by omega⟩)
      = val_main_v213 (F := Ideal) x0 x4 x7 x8 (ix4 b t h e) := by
  rw [v218_row, ← v215_at]
  pointwise [val_main_v216]

theorem v11_at (c : Fin 512) : val_main_v11 (F := Ideal) x8 (ix2 (0 : Fin 2) c)
    = val_main_v10 (F := Ideal) x8 (ix2 (0 : Fin 2) c) := by
  rw [val_main_v11, reduceWindowAdd_eq]
  · have e0 : ∀ n : Fin 2, ((Shape.rowMajor (⟨2, ![2, 1]⟩ : Shape)).symm n 0).val = n.val := by
      decide
    have e1 : ∀ n : Fin 2, ((Shape.rowMajor (⟨2, ![2, 1]⟩ : Shape)).symm n 1).val = 0 := by decide
    have hc := c.isLt
    refine (Finset.sum_eq_single (1 : Fin 2) ?_ ?_).trans ?_
    · intro n _ hn
      have hn0 : n.val = 0 := by omega
      have f0 := e0 n
      refine dif_neg fun hall => ?_
      have h1 : 1 ≤ 0 * 1 + ((Shape.rowMajor (⟨2, ![2, 1]⟩ : Shape)).symm n 0).val := (hall 0).1
      omega
    · exact fun h => absurd (Finset.mem_univ _) h
    · have f0 : _ = 1 := e0 1
      have f1 := e1 1
      refine (dif_pos ?_).trans ?_
      · intro a
        match a with
        | ⟨0, _⟩ =>
          show 1 ≤ 0 * 1 + ((Shape.rowMajor (⟨2, ![2, 1]⟩ : Shape)).symm (1 : Fin 2) 0).val
            ∧ 0 * 1 + ((Shape.rowMajor (⟨2, ![2, 1]⟩ : Shape)).symm (1 : Fin 2) 0).val - 1 < 2
          omega
        | ⟨1, _⟩ =>
          show 0 ≤ c.val * 1 + ((Shape.rowMajor (⟨2, ![2, 1]⟩ : Shape)).symm (1 : Fin 2) 1).val
            ∧ c.val * 1 + ((Shape.rowMajor (⟨2, ![2, 1]⟩ : Shape)).symm (1 : Fin 2) 1).val - 0 < 512
          omega
      · refine congrArg (val_main_v10 (F := Ideal) x8) (funext fun a => Fin.ext ?_)
        match a with
        | ⟨0, _⟩ =>
          show 0 * 1 + ((Shape.rowMajor (⟨2, ![2, 1]⟩ : Shape)).symm (1 : Fin 2) 0).val - 1 = 0
          omega
        | ⟨1, _⟩ =>
          show c.val * 1 + ((Shape.rowMajor (⟨2, ![2, 1]⟩ : Shape)).symm (1 : Fin 2) 1).val - 0 = c.val
          omega
  · pointwise [val_main_call0_call0_v0, val_main_call0_call0_cst]

theorem lb_at (c : Fin 128) :
    lbA x8 h c = val_main_v10 (F := Ideal) x8 (ix2 (0 : Fin 2) (colM h c)) := by
  rw [← v11_at]
  pointwise [lbA, val_main_v14, val_main_v13, val_main_v12]

/-- A softmax over two finite logits is strictly between zero and one. -/
theorem lb_unit (hx : ∀ r c, IsR (x8 (ix2 r c))) (c : Fin 128) : Unit01 (lbA x8 h c) := by
  rw [lb_at]
  pointwise [val_main_v10, val_main_v9, val_main_v8, val_main_v7, val_main_v6, val_main_v5,
    val_main_v4, val_main_v3, val_main_v2, val_main_v1, val_main_v0, val_main_cst,
    val_main_cst_0, val_main_cst_1]
  obtain ⟨a, ha⟩ := hx 0 (colM h c)
  obtain ⟨d, hd⟩ := hx 1 (colM h c)
  set M : EReal := max (Ideal.ofBits FTy.f32 4286578688#32)
    (Finset.fold max (Ideal.ofBits FTy.f32 4286578688#32) (fun x => x8 (ix2 x (colM h c)))
      Finset.univ) with hM
  show Unit01 (Ideal.div (Ideal.exp (x8 (ix2 0 (colM h c)) - M))
    (∑ x : Fin 2, Ideal.exp (x8 (ix2 x (colM h c)) - M)))
  obtain ⟨m, hm⟩ : IsR M := by
    rw [hM, ninf, show (Finset.univ : Finset (Fin 2)) = {0, 1} from rfl, Finset.fold_insert (by decide),
      Finset.fold_singleton, ha, hd]
    simp only [max_bot_left, max_bot_right]
    exact IsR.max ⟨_, rfl⟩ ⟨_, rfl⟩
  rw [hm]
  rw [Fin.sum_univ_two, ha, hd, ← EReal.coe_sub, ← EReal.coe_sub, exp_coe, exp_coe,
    ← EReal.coe_add, div_coe _ _ (by positivity)]
  refine ⟨_, rfl, by positivity, ?_⟩
  rw [div_lt_one (by positivity)]
  linarith [Real.exp_pos (d - m)]

end Cert.Sample
-- ==== Proof.Sample.Unit.lean ====
/-
  The sample mixer's work for ONE sequence and ONE head, as functions of the vectors loaded for
  them.  The printed kernel repeats these operations for its four sequences and four heads; here
  each is written once, over any float reading, with the head a parameter.
-/
module

public import proofs.«01_k».proof.KernelIdeal

@[expose] public section

noncomputable section

namespace Cert.Sample

open Idealize.ShloMosaic Cert.KernelIdeal Cert.KernelIdeal.Facts₀

variable {F : FTy → Type} [FloatOps F] [Facts₀]

/-! ## Where a head's numbers lie -/

/-- The lane of head `h`'s forget gate. -/
theorem slices_col (h : Fin 4) : S8x128.Slices ![0, 4 + h.val] S8x1 := by revert h; decide
/-- The lane of head `h`'s input gate. -/
theorem slices_colI (h : Fin 4) : S8x128.Slices ![0, h.val] S8x1 := by revert h; decide
/-- Head `h`'s entry of the stabiliser row. -/
theorem slices_lane4 (h : Fin 4) : S1x4.Slices ![0, h.val] S1x1 := by revert h; decide
/-- Head `h`'s row of the normaliser. -/
theorem slices_row4 (h : Fin 4) : S4x128.Slices ![h.val, 0] S1x128 := by revert h; decide
/-- Row `r` of eight time steps. -/
theorem slices_time (r : Fin 8) : S1x8x128.Slices ![0, r.val, 0] S1x1x128 := by revert r; decide

/-! ## Small numbers and masks -/

/-- The scalar zero. -/
abbrev c0 : F .f32 := Scalar.ofBits .f32 0x00000000#32
/-- The scalar one. -/
abbrev c1 : F .f32 := Scalar.ofBits .f32 0x3F800000#32
/-- The scalar `−∞`. -/
abbrev cninf : F .f32 := Scalar.ofBits .f32 0xFF800000#32
/-- The row number of an 8×8 matrix. -/
def row8 : IVec S8x8 32 := iota .tc S8x8 32 [0] iota_S8x8_d0_w32
/-- The column number of an 8×8 matrix. -/
def col8 : IVec S8x8 32 := iota .tc S8x8 32 [1] iota_S8x8_d1_w32
/-- The entries on and below the diagonal. -/
def causal : IVec S8x8 1 := cmpi .sle col8 row8
/-- Ones on and below the diagonal. -/
def tril : FVec F S8x8 .f32 := sitofp .f32 (extui 32 causal natLt_1_32)
/-- The level of an entry: the highest differing bit of row and column below the diagonal, `−2` on
    it, `−1` above it. -/
def level : IVec S8x8 32 :=
  select (cmpi .sgt row8 col8)
    (subi (broadcast S8x8 31#32) (ctlz (xori row8 col8)))
    (select (cmpi .eq row8 col8) (broadcast S8x8 4294967294#32) (broadcast S8x8 4294967295#32))
/-- The lane number. -/
def lane : IVec S8x128 32 := iota .tc S8x128 32 [1] iota_S8x128_d1_w32
/-- The lanes of the forget gates. -/
def isF : IVec S8x128 1 :=
  andi (cmpi .sge lane (broadcast S8x128 4#32)) (cmpi .slt lane (broadcast S8x128 8#32))

/-! ## Shared pieces -/

/-- Cumulative sums along time: the triangular product. -/
def cumRows (x : FVec F S8x128 .f32) : FVec F S8x128 .f32 :=
  matmul dot_S8x8_S8x128_S8x128_1_0_0_1_n_n (some .fp32) tril x (constant S8x128 .f32 0x00000000#32)

/-- The logarithm of the logistic function. -/
def logSig (x : FVec F S8x128 .f32) : FVec F S8x128 .f32 :=
  have nx : FVec F S8x128 .f32 := subf (broadcast S8x128 c0) x
  have d : FVec F S8x128 .f32 := subf nx (broadcast S8x128 c0)
  subf (broadcast S8x128 c0)
    (select (cmpf .one d d) (addf nx (broadcast S8x128 c0))
      (addf (maximumf nx (broadcast S8x128 c0))
        (log1p (exp (subf (broadcast S8x128 c0) (absf d))))))

/-- The logistic function. -/
def logis (x : FVec F S8x128 .f32) : FVec F S8x128 .f32 :=
  divf (broadcast S8x128 c1)
    (addf (broadcast S8x128 c1) (exp (subf (broadcast S8x128 c0) x)))

/-- A row of 128 on each of the eight time steps. -/
def onRows (x : FVec F S1x128 .f32) : FVec F S8x128 .f32 :=
  broadcastTo S8x128 x broadcasts_S1x128_S8x128
/-- A column of eight on each of the 128 lanes. -/
def onLanes (x : FVec F S8x1 .f32) : FVec F S8x128 .f32 :=
  broadcastTo S8x128 x broadcasts_S8x1_S8x128
/-- The last time step. -/
def lastRow (x : FVec F S8x128 .f32) : FVec F S1x128 .f32 :=
  extractStridedSlice S1x128 ![7, 0] x slices_S8x128_o7_0_S1x128
/-- Head `h`'s input gates. -/
def gateCol (h : Fin 4) (x : FVec F S8x128 .f32) : FVec F S8x1 .f32 :=
  extractStridedSlice S8x1 ![0, h.val] x (slices_colI h)
/-- Head `h`'s lane. -/
def headCol (h : Fin 4) (x : FVec F S8x128 .f32) : FVec F S8x1 .f32 :=
  extractStridedSlice S8x1 ![0, 4 + h.val] x (slices_col h)
/-- A float block rounded to the shorter format. -/
def bf (x : FVec F S8x128 .f32) : FVec F S8x128 .bf16 := truncf .bf16 x bitsLt_bf16_f32
/-- Row sums of 128 lanes. -/
def sumLanes (x : FVec F S8x128 .f32) : FVec F S8x1 .f32 :=
  shapeCast S8x1 (multiReduction .add [1] S8 x 0x00000000#32 reduces_S8x128_S8 (.inl rfl) rfl)
    shapeCasts_S8_S8x1

/-- Root-mean-square normalisation of each row, scaled lane by lane. -/
def rmsScale (x : FVec F S8x128 .f32) (g : FVec F S1x128 .f32) : FVec F S8x128 .f32 :=
  mulf (mulf x (onLanes (rsqrt (addf
      (divf (sumLanes (mulf x x)) (broadcast S8x1 (Scalar.ofBits .f32 0x43000000#32)))
      (broadcast S8x1 (Scalar.ofBits .f32 0x358637BD#32))))))
    (onRows g)

/-! ## The gates of one sequence -/

/-- Lanes 0–3 the input gates, lanes 4–7 the cumulated log forget gates, the rest zero. -/
def gates (gt : FVec F S8x128 .f32) (bf_ : FVec F S1x128 .f32) : FVec F S8x128 .f32 :=
  select isF
    (cumRows (select isF (logSig (addf gt (onRows bf_))) (broadcast S8x128 c0)))
    (select (cmpi .slt lane (broadcast S8x128 4#32)) gt (broadcast S8x128 c0))

/-- One at head `h`'s forget gate, minus one at its input gate, zero at the other lanes. -/
def pick (h : Fin 4) : FVec F S8x128 .f32 :=
  select (cmpi .eq lane (broadcast S8x128 (BitVec.ofNat 32 (4 + h.val)))) (broadcast S8x128 c1)
    (select (cmpi .eq lane (broadcast S8x128 (BitVec.ofNat 32 h.val)))
      (broadcast S8x128 (Scalar.ofBits .f32 0xBF800000#32)) (broadcast S8x128 c0))

/-- Head `h`'s log decays between time steps, `−∞` above the diagonal. -/
def dMat (h : Fin 4) (z : FVec F S8x128 .f32) : FVec F S8x8 .f32 :=
  select causal
    (subf (broadcastTo S8x8 (headCol h z) broadcasts_S8x1_S8x8)
      (matmul dot_S8x128_S8x128_S8x8_1_1_0_0_n_n (some .fp32) (pick h) z
        (constant S8x8 .f32 0x00000000#32)))
    (broadcast S8x8 cninf)

/-- The log weight of the incoming state at each step. -/
def rCol (h : Fin 4) (z : FVec F S8x128 .f32) (m0 : FVec F S1x4 .f32) : FVec F S8x1 .f32 :=
  addf (headCol h z)
    (broadcastTo S8x1 (extractStridedSlice S1x1 ![0, h.val] m0 (slices_lane4 h))
      broadcasts_S1x1_S8x1)

/-- The stabiliser at each step. -/
def mCol (h : Fin 4) (z : FVec F S8x128 .f32) (m0 : FVec F S1x4 .f32) : FVec F S8x1 .f32 :=
  maximumf (rCol h z m0)
    (shapeCast S8x1
      (multiReduction .maximumf [1] S8 (dMat h z) 0xFF800000#32 reduces_S8x8_S8 (.inl rfl) rfl)
      shapeCasts_S8_S8x1)

/-- The weight of the incoming state at each step. -/
def decCol (h : Fin 4) (z : FVec F S8x128 .f32) (m0 : FVec F S1x4 .f32) : FVec F S8x1 .f32 :=
  exp (subf (rCol h z m0) (mCol h z m0))

/-- The lower bound of the denominator at each step. -/
def floorCol (h : Fin 4) (z : FVec F S8x128 .f32) (m0 : FVec F S1x4 .f32) : FVec F S8x1 .f32 :=
  exp (subf (broadcast S8x1 c0) (mCol h z m0))

/-- The last entry of a column. -/
def lastCell (x : FVec F S8x1 .f32) : FVec F S1x1 .f32 :=
  extractStridedSlice S1x1 ![7, 0] x slices_S8x1_o7_0_S1x1

/-- The weight of each step in the outgoing state. -/
def wCol (h : Fin 4) (z : FVec F S8x128 .f32) (m0 : FVec F S1x4 .f32) : FVec F S8x1 .f32 :=
  exp (subf
    (addf (subf (broadcastTo S8x1 (lastCell (headCol h z)) broadcasts_S1x1_S8x1) (headCol h z))
      (gateCol h z))
    (broadcastTo S8x1 (lastCell (mCol h z m0)) broadcasts_S1x1_S8x1))

/-! ## The matrix memory of one head -/

/-- Head `h`'s normalised attention weights before normalisation. -/
def swMat (h : Fin 4) (z : FVec F S8x128 .f32) (m0 : FVec F S1x4 .f32)
    (q k : FVec F S8x128 .f32) : FVec F S8x8 .f32 :=
  mulf (exp (subf (dMat h z)
      (broadcastTo S8x8 (mCol h z m0) broadcasts_S8x1_S8x8)))
    (matmul dot_S8x128_S8x128_S8x8_1_1_0_0_n_n none (bf q) (bf k)
      (constant S8x8 .f32 0x00000000#32))

/-- The keys, scaled. -/
def kScale (k : FVec F S8x128 .f32) : FVec F S8x128 .f32 :=
  mulf k (broadcast S8x128 (Scalar.ofBits .f32 0x3DB504F3#32))

/-- Head `h`'s row of the normaliser. -/
def nRow (h : Fin 4) (n : FVec F S4x128 .f32) : FVec F S1x128 .f32 :=
  extractStridedSlice S1x128 ![h.val, 0] n (slices_row4 h)

/-- The numerator of head `h`'s readout. -/
def numer (h : Fin 4) (z : FVec F S8x128 .f32) (m0 : FVec F S1x4 .f32)
    (q k v : FVec F S8x128 .f32) (C : FVec F S128x128 .f32) : FVec F S8x128 .f32 :=
  addf (mulf (onLanes (decCol h z m0))
      (matmul dot_S8x128_S128x128_S8x128_1_0_0_1_n_n none (bf q)
        (truncf .bf16 C bitsLt_bf16_f32) (constant S8x128 .f32 0x00000000#32)))
    (matmul dot_S8x8_S8x128_S8x128_1_0_0_1_n_n none
      (truncf .bf16 (swMat h z m0 q k) bitsLt_bf16_f32) (bf v)
      (constant S8x128 .f32 0x00000000#32))

/-- The denominator of head `h`'s readout, before its lower bound. -/
def denom (h : Fin 4) (z : FVec F S8x128 .f32) (m0 : FVec F S1x4 .f32)
    (q k : FVec F S8x128 .f32) (n : FVec F S4x128 .f32) : FVec F S8x1 .f32 :=
  addf (mulf (decCol h z m0) (sumLanes (mulf q (onRows (nRow h n)))))
    (shapeCast S8x1
      (multiReduction .add [1] S8 (swMat h z m0 q k) 0x00000000#32 reduces_S8x8_S8 (.inl rfl) rfl)
      shapeCasts_S8_S8x1)

/-- Head `h`'s readout of the matrix memory. -/
def hid (h : Fin 4) (z : FVec F S8x128 .f32) (m0 : FVec F S1x4 .f32)
    (q k v : FVec F S8x128 .f32) (C : FVec F S128x128 .f32) (n : FVec F S4x128 .f32) :
    FVec F S8x128 .f32 :=
  divf (numer h z m0 q k v C)
    (onLanes (maximumf (absf (denom h z m0 q k n)) (floorCol h z m0)))

/-- Head `h`'s gated, normalised readout: the kernel's first half of `mix`. -/
def outA (h : Fin 4) (z : FVec F S8x128 .f32) (m0 : FVec F S1x4 .f32)
    (q k v o : FVec F S8x128 .f32) (C : FVec F S128x128 .f32) (n : FVec F S4x128 .f32)
    (g : FVec F S1x128 .f32) : FVec F S8x128 .bf16 :=
  bf (mulf (logis o) (rmsScale (hid h z m0 q k v C n) g))

/-- Head `h`'s outgoing matrix memory. -/
def newC (h : Fin 4) (z : FVec F S8x128 .f32) (m0 : FVec F S1x4 .f32)
    (k v : FVec F S8x128 .f32) (C : FVec F S128x128 .f32) : FVec F S128x128 .f32 :=
  addf (mulf (broadcastTo S128x128 (lastCell (decCol h z m0)) broadcasts_S1x1_S128x128) C)
    (matmul dot_S8x128_S8x128_S128x128_0_0_1_1_n_n none (bf k)
      (bf (mulf (onLanes (wCol h z m0)) v)) (constant S128x128 .f32 0x00000000#32))

/-- Head `h`'s outgoing normaliser. -/
def newN (h : Fin 4) (z : FVec F S8x128 .f32) (m0 : FVec F S1x4 .f32)
    (k : FVec F S8x128 .f32) (n : FVec F S4x128 .f32) : FVec F S1x128 .f32 :=
  addf (mulf (broadcastTo S1x128 (lastCell (decCol h z m0)) broadcasts_S1x1_S1x128)
      (nRow h n))
    (shapeCast S1x128
      (multiReduction .add [0] S128 (mulf (onLanes (wCol h z m0)) k) 0x00000000#32
        reduces_S8x128_S128 (.inl rfl) rfl)
      shapeCasts_S128_S1x128)

/-- The four heads' outgoing normalisers. -/
def newNAll (z : FVec F S8x128 .f32) (m0 : FVec F S1x4 .f32)
    (k0 k1 k2 k3 : FVec F S8x128 .f32) (n : FVec F S4x128 .f32) : FVec F S4x128 .f32 :=
  concatenate S4x128 0
    [⟨S1x128, newN 0 z m0 k0 n⟩, ⟨S1x128, newN 1 z m0 k1 n⟩, ⟨S1x128, newN 2 z m0 k2 n⟩,
      ⟨S1x128, newN 3 z m0 k3 n⟩]
    concatenates_S1x128_S1x128_S1x128_S1x128_S4x128_d0

/-- Head `h`'s outgoing stabiliser on the four lanes. -/
def mLast (h : Fin 4) (z : FVec F S8x128 .f32) (m0 : FVec F S1x4 .f32) : FVec F S1x4 .f32 :=
  broadcastTo S1x4
    (shapeCast S1x1 (lastCell (mCol h z m0)) shapeCasts_S1x1_S1x1) broadcasts_S1x1_S1x4

/-- The lane number of a row of four. -/
def lane4 : IVec S1x4 32 := iota .tc S1x4 32 [1] iota_S1x4_d1_w32

/-- The four heads' outgoing stabilisers. -/
def newM (z : FVec F S8x128 .f32) (m0 : FVec F S1x4 .f32) : FVec F S1x4 .f32 :=
  select (cmpi .eq lane4 (broadcast S1x4 3#32)) (mLast 3 z m0)
    (select (cmpi .eq lane4 (broadcast S1x4 2#32)) (mLast 2 z m0)
      (select (cmpi .eq lane4 (broadcast S1x4 1#32)) (mLast 1 z m0)
        (select (cmpi .eq lane4 (broadcast S1x4 0#32)) (mLast 0 z m0) m0)))

/-! ## The gated linear recurrence of one head -/

/-- The forget gate above its lower bound. -/
def fGate (f : FVec F S8x128 .f32) (lb : FVec F S1x128 .f32) : FVec F S8x128 .f32 :=
  addf (onRows lb)
    (mulf (onRows (subf (broadcast S1x128 c1) lb)) (logis f))

/-- The recurrence's keys. -/
def kGate (f : FVec F S8x128 .f32) (lb : FVec F S1x128 .f32) : FVec F S8x128 .f32 :=
  mulf (onRows (subf (broadcast S1x128 c1) lb)) (logis (subf (broadcast S8x128 c0) f))

/-- The recurrence's queries. -/
def qAct (q : FVec F S8x128 .f32) : FVec F S8x128 .f32 := mulf q (logis q)

/-- The cumulated log forget gates. -/
def aSeq (f : FVec F S8x128 .f32) (lb : FVec F S1x128 .f32) : FVec F S8x128 .f32 :=
  cumRows (log (fGate f lb))

/-- The rows whose number has bit `b`. -/
def hasBit (b : BitVec 32) : IVec S8x128 1 :=
  cmpi .ne (andi (iota .tc S8x128 32 [0] iota_S8x128_d0_w32) (broadcast S8x128 b))
    (broadcast S8x128 0#32)

/-- Row `r` of the cumulated gates, on every step. -/
def pivotRow (r : Fin 8) (a : FVec F S8x128 .f32) : FVec F S1x8x128 .f32 :=
  broadcastTo S1x8x128
    (shapeCast S1x1x128
      (extractStridedSlice S1x1x128 ![0, r.val, 0]
        (shapeCast S1x8x128 a shapeCasts_S8x128_S1x8x128) (slices_time r))
      shapeCasts_S1x1x128_S1x1x128)
    broadcasts_S1x1x128_S1x8x128

/-- The decay to the pivot rows `p`. -/
def toPivot (a p : FVec F S8x128 .f32) : FVec F S8x128 .f32 :=
  exp (subf (broadcast S8x128 c0) (absf (subf a p)))

/-- The products of a block with itself, time step against time step. -/
def selfProd (x : FVec F S8x128 .f32) : FVec F S8x8 .f32 :=
  matmul dot_S8x128_S8x128_S8x8_1_1_0_0_n_n none (bf x) (bf x) (constant S8x8 .f32 0x00000000#32)

/-- The scores of the pairs of level 2. -/
def score2 (q k a : FVec F S8x128 .f32) : FVec F S8x8 .f32 :=
  selfProd (mulf (select (hasBit 4#32) q k)
    (toPivot a (shapeCast S8x128 (pivotRow 3 a) shapeCasts_S1x8x128_S8x128)))

/-- The scores of the pairs of level 1. -/
def score1 (q k a : FVec F S8x128 .f32) : FVec F S8x8 .f32 :=
  selfProd (mulf (select (hasBit 2#32) q k)
    (toPivot a (shapeCast S8x128
      (select (cmpi .sge (iota .tc S1x8x128 32 [1] iota_S1x8x128_d1_w32) (broadcast S1x8x128 4#32))
        (pivotRow 5 a) (pivotRow 1 a))
      shapeCasts_S1x8x128_S8x128)))

/-- The scores of the pairs of level 0. -/
def score0 (q k g : FVec F S8x128 .f32) : FVec F S8x8 .f32 :=
  selfProd (mulf (select (hasBit 1#32) q k)
    (select (hasBit 1#32) g (broadcast S8x128 c1)))

/-- The scores on the diagonal. -/
def scoreD (q k : FVec F S8x128 .f32) : FVec F S8x8 .f32 :=
  matmul dot_S8x128_S8x128_S8x8_1_1_0_0_n_n none (bf q) (bf k) (constant S8x8 .f32 0x00000000#32)

/-- All scores of the recurrence, picked by level. -/
def scores (q f : FVec F S8x128 .f32) (lb : FVec F S1x128 .f32) : FVec F S8x8 .f32 :=
  select (cmpi .eq level (broadcast S8x8 2#32)) (score2 (qAct q) (kGate f lb) (aSeq f lb))
    (select (cmpi .eq level (broadcast S8x8 1#32)) (score1 (qAct q) (kGate f lb) (aSeq f lb))
      (select (cmpi .eq level (broadcast S8x8 0#32)) (score0 (qAct q) (kGate f lb) (fGate f lb))
        (select (cmpi .eq level (broadcast S8x8 4294967294#32)) (scoreD (qAct q) (kGate f lb))
          (broadcast S8x8 c0))))

/-- The recurrence's readout; the state is held with its value axis first. -/
def linOut (q f iv : FVec F S8x128 .f32) (lb : FVec F S1x128 .f32)
    (S : FVec F S128x128 .f32) : FVec F S8x128 .f32 :=
  addf
    (matmul dot_S8x128_S128x128_S8x128_1_1_0_0_n_n none (bf (mulf (qAct q) (exp (aSeq f lb))))
      (truncf .bf16 S bitsLt_bf16_f32) (constant S8x128 .f32 0x00000000#32))
    (matmul dot_S8x8_S8x128_S8x128_1_0_0_1_n_n none
      (truncf .bf16 (scores q f lb) bitsLt_bf16_f32) (bf iv) (constant S8x128 .f32 0x00000000#32))

/-- The recurrence's gated, normalised readout: the kernel's second half of `mix`. -/
def outB (q f iv gb : FVec F S8x128 .f32) (lb g : FVec F S1x128 .f32)
    (S : FVec F S128x128 .f32) : FVec F S8x128 .bf16 :=
  bf (mulf (logis gb) (rmsScale (linOut q f iv lb S) g))

/-- The recurrence's outgoing state, value axis first. -/
def newS (f iv : FVec F S8x128 .f32) (lb : FVec F S1x128 .f32)
    (S : FVec F S128x128 .f32) : FVec F S128x128 .f32 :=
  addf (mulf (broadcastTo S128x128 (exp (lastRow (aSeq f lb))) broadcasts_S1x128_S128x128) S)
    (matmul dot_S8x128_S8x128_S128x128_0_0_1_1_n_n none (bf iv)
      (bf (mulf (kGate f lb) (exp (subf (onRows (lastRow (aSeq f lb))) (aSeq f lb)))))
      (constant S128x128 .f32 0x00000000#32))

end Cert.Sample
-- ==== Proof.Sample.Block.lean ====
/-
  The pieces that one grid step of the sample mixer stores: for each of its four sequences and four
  heads, the unit's functions of what that unit loads.
-/
module

public import proofs.«01_k».proof.Proof.Sample.Unit
public import proofs.«01_k».proof.Proof.Gen.KernelIdeal.Frame

@[expose] public section

noncomputable section

namespace Cert.Sample

open Idealize.ShloMosaic Idealize.SL.Sem Cert.KernelIdeal Cert.KernelIdeal.Gen

variable {F : FTy → Type} [FloatOps F]

/-! ## Where a unit's numbers lie in the windows -/

theorem inbP (s : Fin 4) (o : Nat) (ho : o + 128 ≤ 4224) :
    ∀ a, (![8 * s.val, o] : Fin 2 → Nat) a + S8x128.size a ≤ S32x4224.size a := fun a =>
  match a with
  | ⟨0, _⟩ => (by omega : 8 * s.val + 8 ≤ 32)
  | ⟨1, _⟩ => ho
theorem inbR (h : Fin 4) :
    ∀ a, (![0, 128 * h.val] : Fin 2 → Nat) a + S1x128.size a ≤ S1x512.size a := fun a =>
  match a with
  | ⟨0, _⟩ => Nat.le_refl 1
  | ⟨1, _⟩ => (by omega : 128 * h.val + 128 ≤ 512)
theorem inbU (s h : Fin 4) :
    ∀ a, (![s.val, h.val, 0, 0] : Fin 4 → Nat) a + S1x1x128x128.size a ≤ S4x4x128x128.size a := fun a =>
  match a with
  | ⟨0, _⟩ => (by omega : s.val + 1 ≤ 4)
  | ⟨1, _⟩ => (by omega : h.val + 1 ≤ 4)
  | ⟨2, _⟩ => Nat.le_refl 128
  | ⟨3, _⟩ => Nat.le_refl 128
theorem inbN (s : Fin 4) :
    ∀ a, (![s.val, 0, 0] : Fin 3 → Nat) a + S1x4x128.size a ≤ S4x4x128.size a := fun a =>
  match a with
  | ⟨0, _⟩ => (by omega : s.val + 1 ≤ 4)
  | ⟨1, _⟩ => Nat.le_refl 4
  | ⟨2, _⟩ => Nat.le_refl 128
theorem inbM (s : Fin 4) :
    ∀ a, (![s.val, 0, 0] : Fin 3 → Nat) a + S1x1x4.size a ≤ S4x1x4.size a := fun a =>
  match a with
  | ⟨0, _⟩ => (by omega : s.val + 1 ≤ 4)
  | ⟨1, _⟩ => Nat.le_refl 1
  | ⟨2, _⟩ => Nat.le_refl 4
theorem inbO (s : Fin 4) (o : Nat) (ho : o + 128 ≤ 1024) :
    ∀ a, (![8 * s.val, o] : Fin 2 → Nat) a + S8x128.size a ≤ S32x1024.size a := fun a =>
  match a with
  | ⟨0, _⟩ => (by omega : 8 * s.val + 8 ≤ 32)
  | ⟨1, _⟩ => ho
theorem inbAllU : ∀ a, (![0, 0, 0, 0] : Fin 4 → Nat) a + S4x4x128x128.size a ≤ S4x4x128x128.size a := by
  decide
theorem inbAllN : ∀ a, (![0, 0, 0] : Fin 3 → Nat) a + S4x4x128.size a ≤ S4x4x128.size a := by decide
theorem inbAllM : ∀ a, (![0, 0, 0] : Fin 3 → Nat) a + S4x1x4.size a ≤ S4x1x4.size a := by decide
theorem inbB : ∀ a, (![0, 0] : Fin 2 → Nat) a + S1x128.size a ≤ S1x128.size a := by decide

/-- Sequence `s`'s eight rows, 128 columns from `o`. -/
abbrev rectP (s : Fin 4) (o : Nat) (ho : o + 128 ≤ 4224) : Rect S32x4224 :=
  Rect.unit ![8 * s.val, o] S8x128.size (inbP s o ho)
/-- Head `h`'s part of a row over the heads. -/
abbrev rectR (h : Fin 4) : Rect S1x512 := Rect.unit ![0, 128 * h.val] S1x128.size (inbR h)
/-- A unit's matrix. -/
abbrev rectU (s h : Fin 4) : Rect S4x4x128x128 :=
  Rect.unit ![s.val, h.val, 0, 0] S1x1x128x128.size (inbU s h)
/-- A sequence's normalisers. -/
abbrev rectN (s : Fin 4) : Rect S4x4x128 := Rect.unit ![s.val, 0, 0] S1x4x128.size (inbN s)
/-- A sequence's stabilisers. -/
abbrev rectM (s : Fin 4) : Rect S4x1x4 := Rect.unit ![s.val, 0, 0] S1x1x4.size (inbM s)
/-- Sequence `s`'s eight rows of the result, 128 columns from `o`. -/
abbrev rectO (s : Fin 4) (o : Nat) (ho : o + 128 ≤ 1024) : Rect S32x1024 :=
  Rect.unit ![8 * s.val, o] S8x128.size (inbO s o ho)

/-! ## What a unit loads -/

/-- Eight rows and 128 columns of the projection. -/
def ldP (a : Memref sig .tc .vmem S32x4224 .f32) (ha : a.IsWhole) (x : Vec F S32x4224 .f32)
    (s : Fin 4) (o : Nat) (ho : o + 128 ≤ 4224) : FVec F S8x128 .f32 :=
  shapeCast S8x128 (View.readAt (Elt F) a.view (rectP s o ho).toLoadRect (ha.unread x))
    shapeCasts_S8x128_S8x128
/-- Head `h`'s columns of part `j` of the projection. -/
def ldH (a : Memref sig .tc .vmem S32x4224 .f32) (ha : a.IsWhole) (x : Vec F S32x4224 .f32)
    (j : Fin 8) (s h : Fin 4) : FVec F S8x128 .f32 :=
  ldP a ha x s (512 * j.val + 128 * h.val) (by omega)
/-- Head `h`'s part of a row over the heads. -/
def ldR (a : Memref sig .tc .vmem S1x512 .f32) (ha : a.IsWhole) (x : Vec F S1x512 .f32)
    (h : Fin 4) : FVec F S1x128 .f32 :=
  shapeCast S1x128 (View.readAt (Elt F) a.view (rectR h).toLoadRect (ha.unread x))
    shapeCasts_S1x128_S1x128
/-- The bias row. -/
def ldB (a : Memref sig .tc .vmem S1x128 .f32) (ha : a.IsWhole) (x : Vec F S1x128 .f32) :
    FVec F S1x128 .f32 :=
  shapeCast S1x128 (View.readAt (Elt F) a.view (Rect.unit ![0, 0] S1x128.size inbB).toLoadRect
    (ha.unread x)) shapeCasts_S1x128_S1x128

/-- The first piece of the matrix memory: the whole incoming state. -/
def firstC (a : Memref sig .tc .vmem S4x4x128x128 .f32) (ha : a.IsWhole)
    (x : Vec F S4x4x128x128 .f32) : List (View.Piece (Elt F) S4x4x128x128 .f32) :=
  [⟨Rect.unit ![0, 0, 0, 0] S4x4x128x128.size inbAllU,
    View.readAt (Elt F) a.view (Rect.unit ![0, 0, 0, 0] S4x4x128x128.size inbAllU).toLoadRect
      (ha.unread x)⟩]
/-- The first piece of the normalisers. -/
def firstN (a : Memref sig .tc .vmem S4x4x128 .f32) (ha : a.IsWhole)
    (x : Vec F S4x4x128 .f32) : List (View.Piece (Elt F) S4x4x128 .f32) :=
  [⟨Rect.unit ![0, 0, 0] S4x4x128.size inbAllN,
    View.readAt (Elt F) a.view (Rect.unit ![0, 0, 0] S4x4x128.size inbAllN).toLoadRect
      (ha.unread x)⟩]
/-- The first piece of the stabilisers. -/
def firstM (a : Memref sig .tc .vmem S4x1x4 .f32) (ha : a.IsWhole)
    (x : Vec F S4x1x4 .f32) : List (View.Piece (Elt F) S4x1x4 .f32) :=
  [⟨Rect.unit ![0, 0, 0] S4x1x4.size inbAllM,
    shapeCast S4x1x4
      (View.readAt (Elt F) a.view (Rect.unit ![0, 0, 0] S4x1x4.size inbAllM).toLoadRect
        (ha.unread x)) shapeCasts_S4x1x4_S4x1x4⟩]
/-- A unit's matrix as a plain matrix. -/
def flat (x : FVec F S1x1x128x128 .f32) : FVec F S128x128 .f32 :=
  shapeCast S128x128 x shapeCasts_S1x1x128x128_S128x128
/-- A plain matrix as a unit's. -/
def unflat (x : FVec F S128x128 .f32) : FVec F S1x1x128x128 .f32 :=
  shapeCast S1x1x128x128 x shapeCasts_S128x128_S1x1x128x128
/-- A unit's matrix transposed. -/
def flip (x : FVec F S1x1x128x128 .f32) : FVec F S1x1x128x128 .f32 :=
  unflat (transpose S128x128 [1, 0] (flat x) transposes_S128x128_p1_0_S128x128)
/-- The units, last first. -/
def units : List (Fin 4 × Fin 4) :=
  [(3, 3), (3, 2), (3, 1), (3, 0), (2, 3), (2, 2), (2, 1), (2, 0),
    (1, 3), (1, 2), (1, 1), (1, 0), (0, 3), (0, 2), (0, 1), (0, 0)]
/-- The first pieces of the recurrence's state: each unit's incoming matrix, value axis first. -/
def firstS (a : Memref sig .tc .vmem S4x4x128x128 .f32) (ha : a.IsWhole)
    (x : Vec F S4x4x128x128 .f32) : List (View.Piece (Elt F) S4x4x128x128 .f32) :=
  units.map fun u => ⟨rectU u.1 u.2,
    flip (View.readAt (Elt F) a.view (rectU u.1 u.2).toLoadRect (ha.unread x))⟩

/-- A unit's matrix read back. -/
def ldU (a : Memref sig .tc .vmem S4x4x128x128 .f32)
    (L : List (View.Piece (Elt F) S4x4x128x128 .f32)) (s h : Fin 4) : FVec F S128x128 .f32 :=
  flat (a.view.readCov L (rectU s h).toLoadRect)
/-- A sequence's normalisers read back. -/
def ldN (a : Memref sig .tc .vmem S4x4x128 .f32)
    (L : List (View.Piece (Elt F) S4x4x128 .f32)) (s : Fin 4) : FVec F S4x128 .f32 :=
  shapeCast S4x128 (a.view.readCov L (rectN s).toLoadRect) shapeCasts_S1x4x128_S4x128
/-- A sequence's stabilisers read back. -/
def ldM (a : Memref sig .tc .vmem S4x1x4 .f32)
    (L : List (View.Piece (Elt F) S4x1x4 .f32)) (s : Fin 4) : FVec F S1x4 .f32 :=
  shapeCast S1x4 (a.view.readCov L (rectM s).toLoadRect) shapeCasts_S1x1x4_S1x4

/-- A sequence's gates. -/
def ldZ (a : Memref sig .tc .vmem S32x4224 .f32) (ha : a.IsWhole) (x : Vec F S32x4224 .f32)
    (b : Memref sig .tc .vmem S1x128 .f32) (hb : b.IsWhole) (y : Vec F S1x128 .f32) (s : Fin 4) :
    FVec F S8x128 .f32 :=
  gates (ldP a ha x s 4096 (by omega)) (ldB b hb y)

/-! ## The pieces stored -/

section
variable
  (arg2 : Memref sig .tc .vmem S32x4224 .f32) (harg2 : arg2.IsWhole)
  (arg3 : Memref sig .tc .vmem S4x4x128x128 .f32) (harg3 : arg3.IsWhole)
  (arg4 : Memref sig .tc .vmem S4x4x128 .f32) (harg4 : arg4.IsWhole)
  (arg5 : Memref sig .tc .vmem S4x1x4 .f32) (harg5 : arg5.IsWhole)
  (arg6 : Memref sig .tc .vmem S4x4x128x128 .f32) (harg6 : arg6.IsWhole)
  (arg7 : Memref sig .tc .vmem S1x128 .f32) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S1x512 .f32) (harg10 : arg10.IsWhole)
  (arg12 : Memref sig .tc .vmem S4x4x128x128 .f32)
  (arg13 : Memref sig .tc .vmem S4x4x128 .f32)
  (arg14 : Memref sig .tc .vmem S4x1x4 .f32)
  (arg15 : Memref sig .tc .vmem S4x4x128x128 .f32)
  (x0 : Vec F S32x4224 .f32) (x1 : Vec F S4x4x128x128 .f32) (x2 : Vec F S4x4x128 .f32) (x3 : Vec F S4x1x4 .f32) (x4 : Vec F S4x4x128x128 .f32) (x5 : Vec F S1x128 .f32) (x6 : Vec F S1x512 .f32) (x7 : Vec F S1x512 .f32) (x8 : Vec F S1x512 .f32)

/-- A unit's first half of `mix`. -/
def vA (s h : Fin 4) : FVec F S8x128 .bf16 :=
  outA h (ldZ arg2 harg2 x0 arg7 harg7 x5 s) (ldM arg14 (firstM arg5 harg5 x3) s)
    (ldH arg2 harg2 x0 0 s h) (kScale (ldH arg2 harg2 x0 1 s h)) (ldH arg2 harg2 x0 2 s h)
    (ldH arg2 harg2 x0 3 s h) (ldU arg12 (firstC arg3 harg3 x1) s h)
    (ldN arg13 (firstN arg4 harg4 x2) s) (ldR arg8 harg8 x6 h)
/-- A unit's outgoing matrix memory. -/
def vC (s h : Fin 4) : FVec F S128x128 .f32 :=
  newC h (ldZ arg2 harg2 x0 arg7 harg7 x5 s) (ldM arg14 (firstM arg5 harg5 x3) s)
    (kScale (ldH arg2 harg2 x0 1 s h)) (ldH arg2 harg2 x0 2 s h)
    (ldU arg12 (firstC arg3 harg3 x1) s h)
/-- A sequence's outgoing normalisers. -/
def vN (s : Fin 4) : FVec F S4x128 .f32 :=
  newNAll (ldZ arg2 harg2 x0 arg7 harg7 x5 s) (ldM arg14 (firstM arg5 harg5 x3) s)
    (kScale (ldH arg2 harg2 x0 1 s 0)) (kScale (ldH arg2 harg2 x0 1 s 1))
    (kScale (ldH arg2 harg2 x0 1 s 2)) (kScale (ldH arg2 harg2 x0 1 s 3))
    (ldN arg13 (firstN arg4 harg4 x2) s)
/-- A sequence's outgoing stabilisers. -/
def vM (s : Fin 4) : FVec F S1x4 .f32 :=
  newM (ldZ arg2 harg2 x0 arg7 harg7 x5 s) (ldM arg14 (firstM arg5 harg5 x3) s)
/-- A unit's second half of `mix`. -/
def vB (s h : Fin 4) : FVec F S8x128 .bf16 :=
  outB (ldH arg2 harg2 x0 4 s h) (ldH arg2 harg2 x0 5 s h) (ldH arg2 harg2 x0 6 s h)
    (ldH arg2 harg2 x0 7 s h) (ldR arg10 harg10 x8 h) (ldR arg9 harg9 x7 h)
    (ldU arg15 (firstS arg6 harg6 x4) s h)
/-- A unit's outgoing recurrence state, value axis first. -/
def vS (s h : Fin 4) : FVec F S128x128 .f32 :=
  newS (ldH arg2 harg2 x0 5 s h) (ldH arg2 harg2 x0 6 s h) (ldR arg10 harg10 x8 h)
    (ldU arg15 (firstS arg6 harg6 x4) s h)
end

/-- Each unit's matrix of the list read back, transposed and stored again, unit after unit. -/
def flips (a : Memref sig .tc .vmem S4x4x128x128 .f32)
    (L : List (View.Piece (Elt F) S4x4x128x128 .f32)) :
    List (Fin 4 × Fin 4) → List (View.Piece (Elt F) S4x4x128x128 .f32)
  | [] => L
  | u :: us => ⟨rectU u.1 u.2, flip (a.view.readCov (flips a L us) (rectU u.1 u.2).toLoadRect)⟩
      :: flips a L us

end Cert.Sample
-- ==== Proof.Sample.Loads.lean ====
/-
  What the loads of one grid step read, entry by entry, and what a list of stored pieces leaves at a
  unit's place.
-/
module

public import proofs.«01_k».proof.Proof.Sample.Block
public import Idealize.ShloMosaic.Lib.Pointwise
public import Idealize.ShloMosaic.Lib.Pipeline.ValueKit.Basic

@[expose] public section

noncomputable section

namespace Cert.Sample

open Idealize.ShloMosaic Idealize.SL.Sem Cert.KernelIdeal Cert.KernelIdeal.Gen

/-! ## Lists of pieces over rectangles -/

section
variable {Val : EltTy → Type} {s : Shape} {e : EltTy} [∀ e, Nonempty (Val e)] {α : Type}

theorem canon_map_skip (us : List α) (R : α → Rect s) (P : (k : α) → (R k).shape.Idx → Val e)
    (rest : List (View.Piece Val s e)) (y : s.Idx) (hd : ∀ k ∈ us, y ∉ (R k).set) :
    View.canon (us.map (fun k => (⟨R k, P k⟩ : View.Piece Val s e)) ++ rest) y
      = View.canon rest y := by
  induction us with
  | nil => rfl
  | cons k us ih =>
    have h1 := hd k List.mem_cons_self
    have h2 := ih fun k hk => hd k (List.mem_cons_of_mem _ hk)
    rw [List.map_cons, List.cons_append, View.canon_cons_of_not_mem _ _ h1, h2]

theorem canon_map_at (us : List α) (R : α → Rect s) (P : (k : α) → (R k).shape.Idx → Val e)
    (rest : List (View.Piece Val s e)) (u : α) (hu : u ∈ us) (x : (R u).shape.Idx)
    (hd : ∀ k ∈ us, k ≠ u → (R u).emb x ∉ (R k).set) :
    View.canon (us.map (fun k => (⟨R k, P k⟩ : View.Piece Val s e)) ++ rest) ((R u).emb x)
      = P u x := by
  induction us with
  | nil => exact absurd hu List.not_mem_nil
  | cons k us ih =>
    rw [List.map_cons, List.cons_append]
    by_cases hk : k = u
    · subst hk
      exact View.canon_cons_emb _ _ _ _
    · have h1 := hd k List.mem_cons_self hk
      rw [View.canon_cons_of_not_mem _ _ h1]
      exact ih ((List.mem_cons.mp hu).resolve_left fun h => hk h.symm)
        fun k hk => hd k (List.mem_cons_of_mem _ hk)
end

/-! ## Places -/

theorem embU (s h : Fin 4) (c e : Fin 128) :
    (rectU s h).emb (ix4 (0 : Fin 1) (0 : Fin 1) c e) = ix4 s h c e := by
  funext a
  match a with
  | ⟨0, _⟩ => exact Fin.ext (by show s.val + 1 * 0 = s.val; omega)
  | ⟨1, _⟩ => exact Fin.ext (by show h.val + 1 * 0 = h.val; omega)
  | ⟨2, _⟩ => exact Fin.ext (by show 0 + 1 * c.val = c.val; omega)
  | ⟨3, _⟩ => exact Fin.ext (by show 0 + 1 * e.val = e.val; omega)

theorem embN (s h : Fin 4) (c : Fin 128) :
    (rectN s).emb (ix3 (0 : Fin 1) h c) = ix3 s h c := by
  funext a
  match a with
  | ⟨0, _⟩ => exact Fin.ext (by show s.val + 1 * 0 = s.val; omega)
  | ⟨1, _⟩ => exact Fin.ext (by show 0 + 1 * h.val = h.val; omega)
  | ⟨2, _⟩ => exact Fin.ext (by show 0 + 1 * c.val = c.val; omega)

theorem embM (s h : Fin 4) :
    (rectM s).emb (ix3 (0 : Fin 1) (0 : Fin 1) h) = ix3 s (0 : Fin 1) h := by
  funext a
  match a with
  | ⟨0, _⟩ => exact Fin.ext (by show s.val + 1 * 0 = s.val; omega)
  | ⟨1, _⟩ => exact Fin.ext (by show 0 + 1 * 0 = 0; omega)
  | ⟨2, _⟩ => exact Fin.ext (by show 0 + 1 * h.val = h.val; omega)

theorem embO (s : Fin 4) (o : Nat) (ho : o + 128 ≤ 1024) (t : Fin 8) (e : Fin 128) :
    (rectO s o ho).emb (ix2 t e)
      = ix2 (⟨8 * s.val + t.val, by omega⟩ : Fin 32) (⟨o + e.val, by omega⟩ : Fin 1024) := by
  funext a
  match a with
  | ⟨0, _⟩ => exact Fin.ext (by show 8 * s.val + 1 * t.val = 8 * s.val + t.val; omega)
  | ⟨1, _⟩ => exact Fin.ext (by show o + 1 * e.val = o + e.val; omega)

theorem embP (s : Fin 4) (o : Nat) (ho : o + 128 ≤ 4224) (t : Fin 8) (e : Fin 128) :
    (rectP s o ho).emb (ix2 t e)
      = ix2 (⟨8 * s.val + t.val, by omega⟩ : Fin 32) (⟨o + e.val, by omega⟩ : Fin 4224) := by
  funext a
  match a with
  | ⟨0, _⟩ => exact Fin.ext (by show 8 * s.val + 1 * t.val = 8 * s.val + t.val; omega)
  | ⟨1, _⟩ => exact Fin.ext (by show o + 1 * e.val = o + e.val; omega)

theorem embR (h : Fin 4) (e : Fin 128) :
    (rectR h).emb (ix2 (0 : Fin 1) e)
      = ix2 (0 : Fin 1) (⟨128 * h.val + e.val, by omega⟩ : Fin 512) := by
  funext a
  match a with
  | ⟨0, _⟩ => exact Fin.ext (by show 0 + 1 * 0 = 0; omega)
  | ⟨1, _⟩ => exact Fin.ext (by show 128 * h.val + 1 * e.val = 128 * h.val + e.val; omega)

theorem notU {s h s' h' : Fin 4} (hn : (s', h') ≠ (s, h)) (c e : Fin 128) :
    ix4 s h c e ∉ (rectU s' h').set := fun hm => hn (by
  have m := Rect.mem_set_unit.mp hm
  have m0 : s'.val ≤ s.val ∧ s.val < s'.val + 1 := m 0
  have m1 : h'.val ≤ h.val ∧ h.val < h'.val + 1 := m 1
  rw [Fin.ext (by omega : s'.val = s.val), Fin.ext (by omega : h'.val = h.val)])

theorem notN {s s' : Fin 4} (hn : s' ≠ s) (h : Fin 4) (c : Fin 128) :
    ix3 s h c ∉ (rectN s').set := fun hm => hn (by
  have m0 : s'.val ≤ s.val ∧ s.val < s'.val + 1 := Rect.mem_set_unit.mp hm 0
  exact Fin.ext (by omega))

theorem notM {s s' : Fin 4} (hn : s' ≠ s) (h : Fin 4) :
    ix3 s (0 : Fin 1) h ∉ (rectM s').set := fun hm => hn (by
  have m0 : s'.val ≤ s.val ∧ s.val < s'.val + 1 := Rect.mem_set_unit.mp hm 0
  exact Fin.ext (by omega))

theorem mem_units (u : Fin 4 × Fin 4) : u ∈ units := by revert u; decide
theorem mem_seqs (s : Fin 4) : s ∈ ([3, 2, 1, 0] : List (Fin 4)) := by revert s; decide
theorem units_nodup : units.Nodup := by decide

/-! ## Loads -/

variable {F : FTy → Type} [FloatOps F]

theorem cast8 (v : FVec F S8x128 .f32) : shapeCast S8x128 v shapeCasts_S8x128_S8x128 = v :=
  shapeCast_self _ _
theorem cast1 (v : FVec F S1x128 .f32) : shapeCast S1x128 v shapeCasts_S1x128_S1x128 = v :=
  shapeCast_self _ _
theorem castM4 (v : FVec F S4x1x4 .f32) : shapeCast S4x1x4 v shapeCasts_S4x1x4_S4x1x4 = v :=
  shapeCast_self _ _
theorem castN (v : FVec F S1x4x128 .f32) (h : Fin 4) (c : Fin 128) :
    shapeCast S4x128 v shapeCasts_S1x4x128_S4x128 (ix2 h c) = v (ix3 (0 : Fin 1) h c) := by
  pointwise []
theorem castM (v : FVec F S1x1x4 .f32) (h : Fin 4) :
    shapeCast S1x4 v shapeCasts_S1x1x4_S1x4 (ix2 (0 : Fin 1) h)
      = v (ix3 (0 : Fin 1) (0 : Fin 1) h) := by
  pointwise []

theorem ldP_apply (a : Memref sig .tc .vmem S32x4224 .f32) (ha : a.IsWhole)
    (x : Vec F S32x4224 .f32) (s : Fin 4) (o : Nat) (ho : o + 128 ≤ 4224) (t : Fin 8)
    (e : Fin 128) : ldP a ha x s o ho (ix2 t e)
      = x (ix2 (⟨8 * s.val + t.val, by omega⟩ : Fin 32) (⟨o + e.val, by omega⟩ : Fin 4224)) := by
  refine (congrFun (cast8 _) _).trans ?_
  rw [View.readAt_eq_ld, ha.read_unread, ← embP s o ho t e]
  rfl

theorem ldH_apply (a : Memref sig .tc .vmem S32x4224 .f32) (ha : a.IsWhole)
    (x : Vec F S32x4224 .f32) (j : Fin 8) (s h : Fin 4) (t : Fin 8) (e : Fin 128) :
    ldH a ha x j s h (ix2 t e)
      = x (ix2 (⟨8 * s.val + t.val, by omega⟩ : Fin 32)
          (⟨512 * j.val + 128 * h.val + e.val, by omega⟩ : Fin 4224)) := by
  rw [ldH, ldP_apply]

theorem ldR_apply (a : Memref sig .tc .vmem S1x512 .f32) (ha : a.IsWhole)
    (x : Vec F S1x512 .f32) (h : Fin 4) (e : Fin 128) : ldR a ha x h (ix2 (0 : Fin 1) e)
      = x (ix2 (0 : Fin 1) (⟨128 * h.val + e.val, by omega⟩ : Fin 512)) := by
  refine (congrFun (cast1 _) _).trans ?_
  rw [View.readAt_eq_ld, ha.read_unread, ← embR h e]
  rfl

theorem ldB_apply (a : Memref sig .tc .vmem S1x128 .f32) (ha : a.IsWhole)
    (x : Vec F S1x128 .f32) (e : Fin 128) :
    ldB a ha x (ix2 (0 : Fin 1) e) = x (ix2 (0 : Fin 1) e) := by
  refine (congrFun (cast1 _) _).trans ?_
  rw [View.readAt_eq_ld, ha.read_unread]
  refine congrArg x (funext fun a => ?_)
  match a with
  | ⟨0, _⟩ => exact Fin.ext (by show 0 + 1 * 0 = 0; omega)
  | ⟨1, _⟩ => exact Fin.ext (by show 0 + 1 * e.val = e.val; omega)

theorem flat_apply (x : FVec F S1x1x128x128 .f32) (c e : Fin 128) :
    flat x (ix2 c e) = x (ix4 (0 : Fin 1) (0 : Fin 1) c e) := by
  pointwise [flat]
theorem unflat_apply (x : FVec F S128x128 .f32) (c e : Fin 128) :
    unflat x (ix4 (0 : Fin 1) (0 : Fin 1) c e) = x (ix2 c e) := by
  pointwise [unflat]
theorem flip_apply (x : FVec F S1x1x128x128 .f32) (c e : Fin 128) :
    flip x (ix4 (0 : Fin 1) (0 : Fin 1) c e) = x (ix4 (0 : Fin 1) (0 : Fin 1) e c) := by
  rw [flip, unflat_apply, ← flat_apply x]
  generalize flat x = y
  pointwise []

theorem canon_firstC (a : Memref sig .tc .vmem S4x4x128x128 .f32) (ha : a.IsWhole)
    (x : Vec F S4x4x128x128 .f32) : View.canon (firstC a ha x) = x := by
  rw [firstC, View.canon_cons_unit_lit _ _ _ (by decide)]
  rw [View.readAt_eq_ld, ha.read_unread]
  exact funext fun j => congrArg x (funext fun a => Fin.ext (by
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega
    | ⟨3, _⟩ => show 0 + 1 * (j 3).val = (j 3).val; omega))

theorem canon_firstN (a : Memref sig .tc .vmem S4x4x128 .f32) (ha : a.IsWhole)
    (x : Vec F S4x4x128 .f32) : View.canon (firstN a ha x) = x := by
  rw [firstN, View.canon_cons_unit_lit _ _ _ (by decide)]
  rw [View.readAt_eq_ld, ha.read_unread]
  exact funext fun j => congrArg x (funext fun a => Fin.ext (by
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega))

theorem canon_firstM (a : Memref sig .tc .vmem S4x1x4 .f32) (ha : a.IsWhole)
    (x : Vec F S4x1x4 .f32) : View.canon (firstM a ha x) = x := by
  rw [firstM, View.canon_cons_unit_lit _ _ _ (by decide)]
  refine (castM4 _).trans ?_
  rw [View.readAt_eq_ld, ha.read_unread]
  exact funext fun j => congrArg x (funext fun a => Fin.ext (by
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega))

theorem canon_firstS (a : Memref sig .tc .vmem S4x4x128x128 .f32) (ha : a.IsWhole)
    (x : Vec F S4x4x128x128 .f32) (s h : Fin 4) (c e : Fin 128) :
    View.canon (firstS a ha x) (ix4 s h e c) = x (ix4 s h c e) := by
  have hc := canon_map_at (Val := Elt F) (e := .f32) units (fun u => rectU u.1 u.2)
    (fun u => flip (View.readAt (Elt F) a.view (rectU u.1 u.2).toLoadRect (ha.unread x)))
    [] (s, h) (mem_units _) (ix4 (0 : Fin 1) (0 : Fin 1) e c)
    (fun k _ hk => by rw [embU]; exact notU hk e c)
  rw [List.append_nil, embU] at hc
  rw [firstS, hc, flip_apply, View.readAt_eq_ld, ha.read_unread, ← embU s h c e]
  rfl

theorem ldU_apply (a : Memref sig .tc .vmem S4x4x128x128 .f32)
    (L : List (View.Piece (Elt F) S4x4x128x128 .f32)) (s h : Fin 4) (c e : Fin 128) :
    ldU a L s h (ix2 c e) = View.canon L (ix4 s h c e) := by
  rw [ldU, flat_apply, View.readCov_eq_canon', ← embU s h c e]
  rfl

theorem ldN_apply (a : Memref sig .tc .vmem S4x4x128 .f32)
    (L : List (View.Piece (Elt F) S4x4x128 .f32)) (s h : Fin 4) (c : Fin 128) :
    ldN a L s (ix2 h c) = View.canon L (ix3 s h c) := by
  rw [← embN s h c]
  refine (castN _ h c).trans ?_
  rw [View.readCov_eq_canon']
  rfl

theorem ldM_apply (a : Memref sig .tc .vmem S4x1x4 .f32)
    (L : List (View.Piece (Elt F) S4x1x4 .f32)) (s h : Fin 4) :
    ldM a L s (ix2 (0 : Fin 1) h) = View.canon L (ix3 s (0 : Fin 1) h) := by
  rw [← embM s h]
  refine (castM _ h).trans ?_
  rw [View.readCov_eq_canon']
  rfl

/-! ## The transposes that close the last step -/

/-- The piece that stores unit `k`'s matrix transposed. -/
abbrev flipAt (a : Memref sig .tc .vmem S4x4x128x128 .f32)
    (L : List (View.Piece (Elt F) S4x4x128x128 .f32)) (k : Fin 4 × Fin 4) :
    View.Piece (Elt F) S4x4x128x128 .f32 :=
  ⟨rectU k.1 k.2, flip (a.view.readCov L (rectU k.1 k.2).toLoadRect)⟩

theorem canon_flips (a : Memref sig .tc .vmem S4x4x128x128 .f32)
    (L : List (View.Piece (Elt F) S4x4x128x128 .f32)) (s h : Fin 4) (us : List (Fin 4 × Fin 4))
    (hn : us.Nodup) (c e : Fin 128) :
    ((s, h) ∉ us → View.canon (flips a L us) (ix4 s h c e) = View.canon L (ix4 s h c e))
      ∧ ((s, h) ∈ us → View.canon (flips a L us) (ix4 s h c e) = View.canon L (ix4 s h e c)) := by
  induction us generalizing c e with
  | nil => exact ⟨fun _ => rfl, fun hm => absurd hm List.not_mem_nil⟩
  | cons k us ih =>
    have hn' := List.nodup_cons.mp hn
    constructor
    · intro hm
      have hk : k ≠ (s, h) := fun hk => hm (by rw [hk]; exact List.mem_cons_self)
      have hd : ix4 s h c e ∉ (rectU k.1 k.2).set := @notU s h k.1 k.2 hk c e
      refine (View.canon_cons_of_not_mem (flipAt a (flips a L us) k) _ hd).trans ?_
      exact (ih hn'.2 c e).1 fun h' => hm (List.mem_cons_of_mem _ h')
    · intro hm
      by_cases hk : k = (s, h)
      · subst hk
        rw [flips, ← embU s h c e]
        refine (View.canon_cons_emb _ _ _ _).trans ?_
        rw [flip_apply, View.readCov_eq_canon']
        refine Eq.trans (congrArg (View.canon (flips a L us)) (embU s h e c)) ?_
        exact (ih hn'.2 e c).1 hn'.1
      · have hd : ix4 s h c e ∉ (rectU k.1 k.2).set := @notU s h k.1 k.2 hk c e
        refine (View.canon_cons_of_not_mem (flipAt a (flips a L us) k) _ hd).trans ?_
        exact (ih hn'.2 c e).2 ((List.mem_cons.mp hm).resolve_left fun h' => hk h'.symm)

end Cert.Sample
-- ==== Proof.Sample.Reading.lean ====
/-
  The unit's functions read at an index over extended reals: each is the mathematics of Math.lean at
  the unit's time step and lane.
-/
module

public import proofs.«01_k».proof.Proof.Sample.Unit
public import proofs.«01_k».proof.Proof.Sample.Math

@[expose] public section

noncomputable section

namespace Cert.Sample

open Idealize.ShloMosaic Cert.KernelIdeal Cert.KernelIdeal.Facts₀

variable [Facts₀]

/-! ## Scalars -/

theorem absf_max (x : Ideal .f32) : FloatOps.absf x = max x (-x) := rfl
theorem sle8 (s r : Fin 8) : IntOp.cmpi .sle (BitVec.ofNat 32 s.val) (BitVec.ofNat 32 r.val)
    = if s ≤ r then 1#1 else 0#1 := by revert s r; decide
theorem select_sle8 {α : Type} (s r : Fin 8) (x y : α) :
    Scalar.select (IntOp.cmpi .sle (BitVec.ofNat 32 s.val) (BitVec.ofNat 32 r.val)) x y
      = if s ≤ r then x else y := by
  rw [sle8]; split <;> rfl
theorem sitofp_sle8 (s r : Fin 8) :
    (FloatOps.sitofp .f32 (BitVec.setWidth 32
      (IntOp.cmpi .sle (BitVec.ofNat 32 s.val) (BitVec.ofNat 32 r.val))) : Ideal .f32)
      = if s ≤ r then (1 : EReal) else 0 := by
  rw [sle8]
  show (((BitVec.setWidth 32 _).toInt : ℝ) : EReal) = _
  split <;> simp

/-- The lane of head `h`'s forget gate. -/
abbrev laneF (h : Fin 4) : Fin 128 := ⟨4 + h.val, by omega⟩
/-- The lane of head `h`'s input gate. -/
abbrev laneI (h : Fin 4) : Fin 128 := ⟨h.val, by omega⟩

/-! ## Shared pieces -/

theorem cumRows_apply (x : FVec Ideal S8x128 .f32) (r : Fin 8) (l : Fin 128)
    : cumRows x (ix2 r l) = cum (fun s => x (ix2 s l)) r := by
  pointwise [cumRows, tril, causal, row8, col8]
  simp only [sitofp_sle8]
  unfold cum
  refine Finset.sum_congr rfl fun s _ => ?_
  split <;> simp

theorem logSig_apply (x : FVec Ideal S8x128 .f32) (r : Fin 8) (l : Fin 128) :
    logSig x (ix2 r l) = lgs (x (ix2 r l)) := by
  pointwise [logSig]
  rw [if_neg (by simp), absf_max, lgs]
  simp only [zero_sub]

theorem logis_apply (x : FVec Ideal S8x128 .f32) (r : Fin 8) (l : Fin 128) :
    logis x (ix2 r l) = sg (x (ix2 r l)) := by
  pointwise [logis]
  simp only [sg, zero_sub]

theorem rmsScale_apply (x : FVec Ideal S8x128 .f32) (g : FVec Ideal S1x128 .f32) (r : Fin 8)
    (l : Fin 128) : rmsScale x g (ix2 r l) =
      x (ix2 r l) * Ideal.rsqrt (Ideal.div (∑ c, x (ix2 r c) * x (ix2 r c))
        (Ideal.ofBits .f32 0x43000000#32) + Ideal.ofBits .f32 0x358637BD#32) * g (ix2 0 l) := by
  pointwise [rmsScale, onLanes, onRows, sumLanes]

theorem gateCol_apply (h : Fin 4) (x : FVec Ideal S8x128 .f32) (r : Fin 8) :
    gateCol h x (ix2 r 0) = x (ix2 r (laneI h)) := by
  pointwise [gateCol]

theorem headCol_apply (h : Fin 4) (x : FVec Ideal S8x128 .f32) (r : Fin 8) :
    headCol h x (ix2 r 0) = x (ix2 r (laneF h)) := by
  pointwise [headCol]

/-! ## The gates -/

theorem gates_F (h : Fin 4) (gt : FVec Ideal S8x128 .f32) (b : FVec Ideal S1x128 .f32) (r : Fin 8)
    : gates gt b (ix2 r (laneF h))
      = cum (fun s => lgs (gt (ix2 s (laneF h)) + b (ix2 0 (laneF h)))) r := by
  have hF : ∀ s : Fin 8, isF (ix2 s (laneF h)) = 1#1 := by
    intro s; pointwise [isF, lane]; fin_cases h <;> rfl
  have key : ∀ s : Fin 8, (select isF (logSig (addf gt (onRows b))) (broadcast S8x128 c0)
      : FVec Ideal S8x128 .f32) (ix2 s (laneF h)) = lgs (gt (ix2 s (laneF h)) + b (ix2 0 (laneF h))) := by
    intro s
    show Scalar.select (isF (ix2 s (laneF h))) _ _ = _
    rw [hF, ValueIdx.select_one, logSig_apply]
    congr 1
    pointwise [onRows]
  show Scalar.select (isF (ix2 r (laneF h))) _ _ = _
  rw [hF, ValueIdx.select_one, cumRows_apply]
  simp only [key]

theorem gates_I (h : Fin 4) (gt : FVec Ideal S8x128 .f32) (b : FVec Ideal S1x128 .f32) (r : Fin 8) :
    gates gt b (ix2 r (laneI h)) = gt (ix2 r (laneI h)) := by
  have hF : isF (ix2 r (laneI h)) = 0#1 := by
    pointwise [isF, lane]; fin_cases h <;> rfl
  show Scalar.select (isF (ix2 r (laneI h))) _ _ = _
  rw [hF, ValueIdx.select_zero]
  pointwise [lane]
  fin_cases h <;> rfl

/-! ## The stabiliser and its weights -/

section Gates

variable (z : FVec Ideal S8x128 .f32) (m0 : FVec Ideal S1x4 .f32) (h : Fin 4)

/-- Head `h`'s cumulated log forget gates. -/
abbrev bAt (t : Fin 8) : EReal := z (ix2 t (laneF h))
/-- Head `h`'s input gates. -/
abbrev iAt (t : Fin 8) : EReal := z (ix2 t (laneI h))

variable (hb : ∀ t, IsR (bAt z h t)) (hi : ∀ t, IsR (iAt z h t))
include hb hi

omit hb hi in
theorem pick_apply (r : Fin 8) (l : Fin 128) : (pick h : FVec Ideal S8x128 .f32) (ix2 r l)
    = if l = laneF h then (1 : EReal) else if l = laneI h then -1 else 0 := by
  have hm : Ideal.ofBits .f32 0xBF800000#32 = (-1 : EReal) := by
    simp [Ideal.ofBits, Ideal.ieee]
    rw [← EReal.coe_mul, ← EReal.coe_one]
    congr 1
    norm_num
  have hs : ∀ (n : Nat) (hn : n < 128) (x y : EReal),
      Scalar.select (IntOp.cmpi .eq (BitVec.ofNat 32 l.val) (BitVec.ofNat 32 n)) x y
        = if l = ⟨n, hn⟩ then x else y := by
    intro n hn x y
    show Scalar.select (BitVec.ofBool (BitVec.ofNat 32 l.val == BitVec.ofNat 32 n)) x y = _
    by_cases e : l = ⟨n, hn⟩
    · rw [if_pos e, e]; simp [Scalar.select]
    · rw [if_neg e]
      have : (BitVec.ofNat 32 l.val == BitVec.ofNat 32 n) = false := by
        rw [beq_eq_false_iff_ne]
        intro hh
        apply e; apply Fin.ext
        have := congrArg BitVec.toNat hh
        simp only [BitVec.toNat_ofNat] at this
        show l.val = n
        omega
      rw [this]; rfl
  pointwise [pick, lane]
  rw [hs _ (by omega), hs _ (by omega), hm]

omit hb hi in
theorem pick_sum (t : Fin 8) (x : Fin 128 → EReal) :
    ∑ l, (pick h : FVec Ideal S8x128 .f32) (ix2 t l) * x l = x (laneF h) - x (laneI h) := by
  have hne : laneF h ≠ laneI h := by
    intro e; have := congrArg Fin.val e; simp only [laneF, laneI] at this; omega
  simp only [pick_apply]
  rw [Finset.sum_eq_add (laneF h) (laneI h) hne]
  · rw [if_pos rfl, if_neg hne.symm, if_pos rfl, one_mul, neg_one_mul, sub_eq_add_neg]
  · rintro l - ⟨h1, h2⟩; rw [if_neg h1, if_neg h2, zero_mul]
  · intro hh; exact absurd (Finset.mem_univ _) hh
  · intro hh; exact absurd (Finset.mem_univ _) hh

theorem dMat_apply (t s : Fin 8) : dMat h z (ix2 t s) = dm (bAt z h) (iAt z h) t s := by
  pointwise [dMat, causal, row8, col8]
  rw [select_sle8, ninf, dm, pick_sum, headCol_apply]
  split
  · obtain ⟨x, hx⟩ := hb t; obtain ⟨y, hy⟩ := hb s; obtain ⟨w, hw⟩ := hi s
    simp only [bAt, iAt] at hx hy hw ⊢
    rw [hx, hy, hw]; norm_cast; ring_nf
  · rfl

omit hb hi in
theorem rCol_apply (t : Fin 8) : rCol h z m0 (ix2 t 0) = bAt z h t + m0 (ix2 0 h) := by
  pointwise [rCol]
  rw [headCol_apply]

theorem mCol_apply (t : Fin 8) :
    mCol h z m0 (ix2 t 0) = mx (bAt z h) (iAt z h) (m0 (ix2 0 h)) t := by
  pointwise [mCol]
  rw [rCol_apply, mx, ninf]
  simp only [dMat_apply z h hb hi]

theorem decCol_apply (t : Fin 8) :
    decCol h z m0 (ix2 t 0) = dec (bAt z h) (iAt z h) (m0 (ix2 0 h)) t := by
  pointwise [decCol]
  rw [rCol_apply, mCol_apply z m0 h hb hi, dec]

theorem floorCol_apply (t : Fin 8) :
    floorCol h z m0 (ix2 t 0) = Ideal.exp (-(mx (bAt z h) (iAt z h) (m0 (ix2 0 h)) t)) := by
  pointwise [floorCol]
  rw [mCol_apply z m0 h hb hi, zero_sub]

theorem wCol_apply (s : Fin 8) :
    wCol h z m0 (ix2 s 0) = wt (bAt z h) (iAt z h) (m0 (ix2 0 h)) 7 s := by
  pointwise [wCol, lastCell]
  have h7 : s ≤ 7 := Fin.le_last s
  rw [mCol_apply z m0 h hb hi, gateCol_apply, headCol_apply, headCol_apply, wt, dm, if_pos h7]

/-! ## The matrix memory -/

variable (q k v o : FVec Ideal S8x128 .f32) (C : FVec Ideal S128x128 .f32)
  (n : FVec Ideal S4x128 .f32)

/-- A block's entry by time step and lane. -/
abbrev ent (x : FVec Ideal S8x128 .f32) (t : Fin 8) (c : Fin 128) : EReal := x (ix2 t c)
/-- A square block's entry. -/
abbrev ent2 (x : FVec Ideal S128x128 .f32) (c e : Fin 128) : EReal := x (ix2 c e)

theorem swMat_apply (t s : Fin 8) : swMat h z m0 q k (ix2 t s)
    = sw (bAt z h) (iAt z h) (m0 (ix2 0 h)) (ent q) (ent k) t s := by
  pointwise [swMat, bf]
  rw [dMat_apply z h hb hi, mCol_apply z m0 h hb hi, sw, wt]

theorem numer_apply (t : Fin 8) (e : Fin 128) : numer h z m0 q k v C (ix2 t e)
    = num (bAt z h) (iAt z h) (m0 (ix2 0 h)) (ent q) (ent k) (ent v) (ent2 C) t e := by
  pointwise [numer, onLanes, bf]
  rw [decCol_apply z m0 h hb hi, num]
  simp only [swMat_apply z m0 h hb hi]

theorem denom_apply (t : Fin 8) : denom h z m0 q k n (ix2 t 0)
    = den (bAt z h) (iAt z h) (m0 (ix2 0 h)) (ent q) (ent k) (fun c => n (ix2 h c)) t := by
  pointwise [denom, sumLanes, onRows, nRow]
  rw [decCol_apply z m0 h hb hi, den]
  simp only [swMat_apply z m0 h hb hi]

theorem hid_apply (t : Fin 8) (e : Fin 128) : hid h z m0 q k v C n (ix2 t e)
    = ro (bAt z h) (iAt z h) (m0 (ix2 0 h)) (ent q) (ent k) (ent v) (ent2 C)
        (fun c => n (ix2 h c)) t e := by
  pointwise [hid, onLanes]
  rw [numer_apply z m0 h hb hi, absf_max, denom_apply z m0 h hb hi,
    floorCol_apply z m0 h hb hi, ro]

theorem outA_apply (g : FVec Ideal S1x128 .f32) (t : Fin 8) (e : Fin 128) :
    outA h z m0 q k v o C n g (ix2 t e)
      = gated (ent o) (ro (bAt z h) (iAt z h) (m0 (ix2 0 h)) (ent q) (ent k) (ent v) (ent2 C)
        (fun c => n (ix2 h c))) (fun c => g (ix2 0 c)) t e := by
  pointwise [outA, bf]
  rw [logis_apply, rmsScale_apply, gated]
  simp only [hid_apply z m0 h hb hi]

theorem newC_apply (c e : Fin 128) : newC h z m0 k v C (ix2 c e)
    = cNew (bAt z h) (iAt z h) (m0 (ix2 0 h)) (ent k) (ent v) (ent2 C) c e := by
  pointwise [newC, onLanes, bf, lastCell]
  rw [decCol_apply z m0 h hb hi, cNew]
  congr 1
  refine Finset.sum_congr rfl fun s _ => ?_
  rw [wCol_apply z m0 h hb hi, ← mul_assoc, mul_comm (k _) (wt _ _ _ _ _)]

theorem newN_apply (c : Fin 128) : newN h z m0 k n (ix2 0 c)
    = nNew (bAt z h) (iAt z h) (m0 (ix2 0 h)) (ent k) (fun c => n (ix2 h c)) c := by
  pointwise [newN, onLanes, lastCell, nRow]
  rw [decCol_apply z m0 h hb hi, nNew]
  congr 1
  refine Finset.sum_congr rfl fun s _ => ?_
  rw [wCol_apply z m0 h hb hi]

theorem mLast_apply (l : Fin 4) : mLast h z m0 (ix2 0 l)
    = mx (bAt z h) (iAt z h) (m0 (ix2 0 h)) 7 := by
  pointwise [mLast, lastCell]
  rw [mCol_apply z m0 h hb hi]

omit hb hi in
theorem newM_at : newM z m0 (ix2 0 h) = mLast h z m0 (ix2 0 h) := by
  pointwise [newM, lane4]
  fin_cases h <;> rfl

theorem newM_apply : newM z m0 (ix2 0 h) = mx (bAt z h) (iAt z h) (m0 (ix2 0 h)) 7 := by
  rw [newM_at, mLast_apply z m0 h hb hi]

omit hb hi in
theorem newNAll_at (ks : Fin 4 → FVec Ideal S8x128 .f32) (c : Fin 128) :
    newNAll z m0 (ks 0) (ks 1) (ks 2) (ks 3) n (ix2 h c) = newN h z m0 (ks h) n (ix2 0 c) := by
  pointwise [newNAll]
  fin_cases h <;> rfl

theorem newNAll_apply (ks : Fin 4 → FVec Ideal S8x128 .f32) (c : Fin 128) :
    newNAll z m0 (ks 0) (ks 1) (ks 2) (ks 3) n (ix2 h c)
      = nNew (bAt z h) (iAt z h) (m0 (ix2 0 h)) (ent (ks h)) (fun c => n (ix2 h c)) c := by
  rw [newNAll_at, newN_apply z m0 h hb hi]

end Gates

end Cert.Sample
-- ==== Proof.Sample.Recurrence.lean ====
/-
  The gated linear recurrence's unit functions read at an index over extended reals.  The kernel
  factors each decay between two steps through a step between them, chosen by the level of the pair;
  every gate lies strictly between zero and one, so the factors multiply to the decay itself.
-/
module

public import proofs.«01_k».proof.Proof.Sample.Reading

@[expose] public section

noncomputable section

namespace Cert.Sample

open Idealize.ShloMosaic Cert.KernelIdeal Cert.KernelIdeal.Facts₀

variable [Facts₀]

theorem coe_max (a b : ℝ) : ((max a b : ℝ) : EReal) = max (a : EReal) (b : EReal) :=
  EReal.coe_strictMono.monotone.map_max

section Rec

variable (q f iv gb : FVec Ideal S8x128 .f32) (lb : FVec Ideal S1x128 .f32)

/-- A row's entry by lane. -/
abbrev ent1 (x : FVec Ideal S1x128 .f32) (c : Fin 128) : EReal := x (ix2 0 c)

theorem fGate_apply (t : Fin 8) (c : Fin 128) :
    fGate f lb (ix2 t c) = fg (ent1 lb c) (ent f t c) := by
  pointwise [fGate, onRows]
  rw [logis_apply, fg]

theorem qAct_apply (t : Fin 8) (c : Fin 128) : qAct q (ix2 t c) = qs (ent q t c) := by
  pointwise [qAct]
  rw [logis_apply, qs]

variable (hq : ∀ t c, IsR (ent q t c)) (hf : ∀ t c, IsR (ent f t c)) (hl : ∀ c, Unit01 (ent1 lb c))

theorem kGate_apply (t : Fin 8) (c : Fin 128) :
    kGate f lb (ix2 t c) = kg (ent1 lb c) (ent f t c) := by
  pointwise [kGate, onRows]
  rw [logis_apply, kg]
  pointwise []
  rw [zero_sub]

theorem aSeq_apply (t : Fin 8) (c : Fin 128) :
    aSeq f lb (ix2 t c) = al (ent1 lb) (ent f) t c := by
  have h : ∀ s, log (fGate f lb) (ix2 s c) = Ideal.log (fg (ent1 lb c) (ent f s c)) := fun s => by
    rw [← fGate_apply]; rfl
  rw [aSeq, cumRows_apply, al]
  simp only [h]

end Rec

/-! ## The decays -/

/-- What is known of the cumulated gates on one lane: real, decreasing, one step's decay the gate. -/
structure Decays (a g : Fin 8 → EReal) : Prop where
  real : ∃ α : Fin 8 → ℝ, (∀ t, a t = (α t : EReal)) ∧ (∀ s t, s ≤ t → α t ≤ α s) ∧
    ∀ s t : Fin 8, t.val = s.val + 1 → g t = ((Real.exp (α t - α s) : ℝ) : EReal)

theorem decays (lb : EReal) (f : Fin 8 → EReal) (hl : Unit01 lb) (hf : ∀ t, IsR (f t)) :
    Decays (cum fun s => Ideal.log (fg lb (f s))) (fun t => fg lb (f t)) := by
  choose r hr h0 he using fun t => log_fg hl (hf t)
  have hc : ∀ t, cum (fun s => Ideal.log (fg lb (f s))) t
      = ((∑ s, if s ≤ t then r s else 0 : ℝ) : EReal) := by
    intro t
    rw [coe_sum]; unfold cum
    refine Finset.sum_congr rfl fun s _ => ?_
    show (if s ≤ t then Ideal.log (fg lb (f s)) else 0) = _
    rw [hr s]; split <;> simp
  refine ⟨fun t => ∑ s, if s ≤ t then r s else 0, hc, ?_, ?_⟩
  · intro s t hst
    refine Finset.sum_le_sum fun u _ => ?_
    by_cases h1 : u ≤ s
    · rw [if_pos h1, if_pos (h1.trans hst)]
    · rw [if_neg h1]; split
      · exact h0 u
      · exact le_rfl
  · intro s t hst
    show fg lb (f t) = _
    rw [he t]
    congr 2
    rw [← Finset.sum_sub_distrib, Finset.sum_eq_single t]
    · rw [if_pos le_rfl, if_neg (by rw [Fin.le_def]; omega), sub_zero]
    · intro u _ hu
      by_cases h1 : u ≤ s
      · rw [if_pos h1, if_pos (h1.trans (by rw [Fin.le_def]; omega)), sub_self]
      · rw [if_neg h1, if_neg, sub_self]
        intro h2
        apply hu; apply Fin.ext
        rw [Fin.le_def] at h1 h2
        omega
    · intro h; exact absurd (Finset.mem_univ t) h

/-- A decay through a pivot between its two steps. -/
theorem Decays.pivot {a g : Fin 8 → EReal} (d : Decays a g) {t p s : Fin 8} (h1 : p ≤ t)
    (h2 : s ≤ p) (x y : EReal) :
    x * Ideal.exp (-(max (a t - a p) (-(a t - a p)))) * (y * Ideal.exp (-(max (a s - a p) (-(a s - a p)))))
      = x * Ideal.exp (a t - a s) * y := by
  obtain ⟨α, ha, hm, -⟩ := d.real
  have e1 : -(max (a t - a p) (-(a t - a p))) = ((α t - α p : ℝ) : EReal) := by
    rw [ha, ha, ← EReal.coe_sub, ← EReal.coe_neg, ← coe_max, ← EReal.coe_neg]
    congr 1
    have := hm p t h1
    rw [max_eq_right (by linarith)]; ring
  have e2 : -(max (a s - a p) (-(a s - a p))) = ((α p - α s : ℝ) : EReal) := by
    rw [ha, ha, ← EReal.coe_sub, ← EReal.coe_neg, ← coe_max, ← EReal.coe_neg]
    congr 1
    have := hm s p h2
    rw [max_eq_left (by linarith)]; ring
  have e3 : a t - a s = ((α t - α s : ℝ) : EReal) := by rw [ha, ha, ← EReal.coe_sub]
  rw [e1, e2, e3, exp_coe, exp_coe, exp_coe]
  have : ((Real.exp (α t - α s) : ℝ) : EReal)
      = ((Real.exp (α t - α p) : ℝ) : EReal) * ((Real.exp (α p - α s) : ℝ) : EReal) := by
    rw [← EReal.coe_mul, ← Real.exp_add]; congr 2; ring
  rw [this]
  ac_rfl

/-- A decay over one step. -/
theorem Decays.step {a g : Fin 8 → EReal} (d : Decays a g) {t s : Fin 8} (h : t.val = s.val + 1) :
    g t = Ideal.exp (a t - a s) := by
  obtain ⟨α, ha, -, hg⟩ := d.real
  rw [hg s t h, ha, ha, ← EReal.coe_sub, exp_coe]

/-- No decay over no step. -/
theorem Decays.refl {a g : Fin 8 → EReal} (d : Decays a g) (t : Fin 8) :
    Ideal.exp (a t - a t) = 1 := by
  obtain ⟨α, ha, -, -⟩ := d.real
  rw [ha, ← EReal.coe_sub, exp_coe, sub_self, Real.exp_zero]; rfl

/-! ## The scores -/

/-- The rows whose number has a given bit. -/
theorem bit_select (b : BitVec 32) (t : Fin 8) {α : Type} (x y : α) :
    Scalar.select (IntOp.cmpi .ne (IntOp.andi (BitVec.ofNat 32 t.val) b) 0#32) x y
      = if BitVec.ofNat 32 t.val &&& b ≠ 0#32 then x else y := by
  show Scalar.select (BitVec.ofBool ((BitVec.ofNat 32 t.val &&& b) != 0#32)) x y = _
  by_cases h : BitVec.ofNat 32 t.val &&& b = 0#32
  · rw [if_neg (not_not.mpr h), h]; rfl
  · rw [if_pos h, bne_iff_ne.mpr h]; rfl

section Scores

variable (q k a g : FVec Ideal S8x128 .f32)

theorem score2_apply (t s : Fin 8) : score2 q k a (ix2 t s) =
    ∑ c, (if BitVec.ofNat 32 t.val &&& 4#32 ≠ 0#32 then ent q t c else ent k t c)
        * Ideal.exp (-(max (ent a t c - ent a 3 c) (-(ent a t c - ent a 3 c))))
      * ((if BitVec.ofNat 32 s.val &&& 4#32 ≠ 0#32 then ent q s c else ent k s c)
        * Ideal.exp (-(max (ent a s c - ent a 3 c) (-(ent a s c - ent a 3 c))))) := by
  pointwise [score2, selfProd, hasBit, toPivot, pivotRow, bf]
  simp only [bit_select, zero_sub, absf_max]

theorem score1_apply (t s : Fin 8) : score1 q k a (ix2 t s) =
    ∑ c, (if BitVec.ofNat 32 t.val &&& 2#32 ≠ 0#32 then ent q t c else ent k t c)
        * Ideal.exp (-(max (ent a t c - ent a (if 4 ≤ t then 5 else 1) c)
            (-(ent a t c - ent a (if 4 ≤ t then 5 else 1) c))))
      * ((if BitVec.ofNat 32 s.val &&& 2#32 ≠ 0#32 then ent q s c else ent k s c)
        * Ideal.exp (-(max (ent a s c - ent a (if 4 ≤ s then 5 else 1) c)
            (-(ent a s c - ent a (if 4 ≤ s then 5 else 1) c))))) := by
  have hp : ∀ (t : Fin 8) (x y : EReal),
      Scalar.select (IntOp.cmpi .sge (BitVec.ofNat 32 t.val) 4#32) x y = if 4 ≤ t then x else y := by
    intro t x y; fin_cases t <;> rfl
  have hi : ∀ (t : Fin 8) (c : Fin 128), (if 4 ≤ t then a (ix2 5 c) else a (ix2 1 c))
      = ent a (if 4 ≤ t then 5 else 1) c := by
    intro t c; split <;> rfl
  pointwise [score1, selfProd, hasBit, toPivot, pivotRow, bf]
  simp only [bit_select, zero_sub, absf_max, hp, hi]

theorem score0_apply (t s : Fin 8) : score0 q k g (ix2 t s) =
    ∑ c, (if BitVec.ofNat 32 t.val &&& 1#32 ≠ 0#32 then ent q t c else ent k t c)
        * (if BitVec.ofNat 32 t.val &&& 1#32 ≠ 0#32 then ent g t c else 1)
      * ((if BitVec.ofNat 32 s.val &&& 1#32 ≠ 0#32 then ent q s c else ent k s c)
        * (if BitVec.ofNat 32 s.val &&& 1#32 ≠ 0#32 then ent g s c else 1)) := by
  pointwise [score0, selfProd, hasBit, bf]
  simp only [bit_select]

theorem scoreD_apply (t s : Fin 8) : scoreD q k (ix2 t s) = ∑ c, ent q t c * ent k s c := by
  pointwise [scoreD, bf]

end Scores

/-- The level of a pair of steps, by cases. -/
def lev (t s : Fin 8) : BitVec 32 :=
  if s < t then 31#32 - IntOp.ctlz (BitVec.ofNat 32 t.val ^^^ BitVec.ofNat 32 s.val)
  else if t = s then 4294967294#32 else 4294967295#32

theorem level_apply (t s : Fin 8) : level (ix2 t s) = lev t s := by
  pointwise [level, row8, col8]
  revert t s; decide

/-- A pair of level 2 is cut by step 3. -/
theorem lev_two : ∀ t s : Fin 8, lev t s = 2#32 → BitVec.ofNat 32 t.val &&& 4#32 ≠ 0#32 ∧
    ¬ (BitVec.ofNat 32 s.val &&& 4#32 ≠ 0#32) ∧ 3 ≤ t ∧ s ≤ 3 := by decide

/-- A pair of level 1 is cut by the second step of its half. -/
theorem lev_one : ∀ t s : Fin 8, lev t s = 1#32 → BitVec.ofNat 32 t.val &&& 2#32 ≠ 0#32 ∧
    ¬ (BitVec.ofNat 32 s.val &&& 2#32 ≠ 0#32) ∧ (if 4 ≤ t then 5 else 1) ≤ t ∧
    s ≤ (if 4 ≤ t then 5 else 1) ∧ (4 ≤ s ↔ 4 ≤ t) := by decide

/-- A pair of level 0 is two neighbours. -/
theorem lev_zero : ∀ t s : Fin 8, lev t s = 0#32 → BitVec.ofNat 32 t.val &&& 1#32 ≠ 0#32 ∧
    ¬ (BitVec.ofNat 32 s.val &&& 1#32 ≠ 0#32) ∧ t.val = s.val + 1 := by decide

/-- The diagonal's level. -/
theorem lev_diag : ∀ t s : Fin 8, lev t s = 4294967294#32 → t = s := by decide

/-- Every pair on or below the diagonal has one of the four levels. -/
theorem lev_rest : ∀ t s : Fin 8, lev t s ≠ 2#32 → lev t s ≠ 1#32 → lev t s ≠ 0#32 →
    lev t s ≠ 4294967294#32 → ¬ s ≤ t := by decide

theorem select_eq {α : Type} (w v : BitVec 32) (x y : α) :
    Scalar.select (IntOp.cmpi .eq w v) x y = if w = v then x else y := by
  show Scalar.select (BitVec.ofBool (w == v)) x y = _
  by_cases h : w = v
  · subst h; rw [if_pos rfl, beq_self_eq_true]; rfl
  · rw [if_neg h, beq_eq_false_iff_ne.mpr h]; rfl

section Readout

variable (q f iv gb : FVec Ideal S8x128 .f32) (lb g : FVec Ideal S1x128 .f32)
  (S : FVec Ideal S128x128 .f32)
  (hf : ∀ t c, IsR (ent f t c)) (hl : ∀ c, Unit01 (ent1 lb c))
include hf hl

theorem scores_apply (t s : Fin 8) :
    scores q f lb (ix2 t s) = sc (ent1 lb) (ent q) (ent f) t s := by
  have hd : ∀ c, Decays (fun t => al (ent1 lb) (ent f) t c) (fun t => fg (ent1 lb c) (ent f t c)) :=
    fun c => decays _ _ (hl c) fun t => hf t c
  pointwise [scores]
  rw [level_apply]
  simp only [select_eq, score2_apply, score1_apply, score0_apply, scoreD_apply, ent, qAct_apply,
    kGate_apply f lb, aSeq_apply f lb, fGate_apply]
  unfold sc
  by_cases h2 : lev t s = 2#32
  · obtain ⟨bt, bs, h3, h4⟩ := lev_two t s h2
    rw [if_pos h2]
    simp only [if_pos bt, if_neg bs, if_pos (h4.trans h3)]
    exact Finset.sum_congr rfl fun c _ => (hd c).pivot h3 h4 _ _
  rw [if_neg h2]
  by_cases h1 : lev t s = 1#32
  · obtain ⟨bt, bs, h3, h4, h5⟩ := lev_one t s h1
    rw [if_pos h1]
    simp only [if_pos bt, if_neg bs, h5, if_pos (h4.trans h3)]
    exact Finset.sum_congr rfl fun c _ => (hd c).pivot h3 h4 _ _
  rw [if_neg h1]
  by_cases h0 : lev t s = 0#32
  · obtain ⟨bt, bs, h3⟩ := lev_zero t s h0
    have hle : s ≤ t := by rw [Fin.le_def]; omega
    rw [if_pos h0]
    simp only [if_pos bt, if_neg bs, mul_one, if_pos hle]
    exact Finset.sum_congr rfl fun c _ => by rw [← (hd c).step h3]
  rw [if_neg h0]
  by_cases hD : lev t s = 4294967294#32
  · obtain rfl := lev_diag t s hD
    rw [if_pos hD]
    simp only [if_pos (le_refl t)]
    exact Finset.sum_congr rfl fun c _ => by rw [(hd c).refl, mul_one]
  rw [if_neg hD]
  simp only [if_neg (lev_rest t s h2 h1 h0 hD)]
  refine (Finset.sum_eq_zero fun c _ => ?_).symm
  show _ * 0 * _ = (0 : EReal)
  rw [mul_zero, zero_mul]

theorem linOut_apply (t : Fin 8) (e : Fin 128) : linOut q f iv lb S (ix2 t e)
    = lro (ent1 lb) (ent q) (ent f) (ent iv) (fun c e => ent2 S e c) t e := by
  pointwise [linOut, bf]
  simp only [qAct_apply, aSeq_apply f lb, scores_apply q f lb hf hl]
  unfold lro
  congr 1
  · exact Finset.sum_congr rfl fun c _ => mul_comm _ _
  · exact Finset.sum_congr rfl fun c _ => mul_comm _ _

theorem outB_apply (t : Fin 8) (e : Fin 128) : outB q f iv gb lb g S (ix2 t e)
    = gated (ent gb) (lro (ent1 lb) (ent q) (ent f) (ent iv) (fun c e => ent2 S e c)) (ent1 g) t e := by
  pointwise [outB, bf]
  rw [logis_apply, rmsScale_apply, gated]
  simp only [linOut_apply q f iv lb S hf hl]

theorem newS_apply (c e : Fin 128) : newS f iv lb S (ix2 e c)
    = sNew (ent1 lb) (ent f) (ent iv) (fun c e => ent2 S e c) c e := by
  pointwise [newS, bf, onRows, lastRow]
  simp only [aSeq_apply f lb, kGate_apply f lb]
  unfold sNew
  congr 1
  exact Finset.sum_congr rfl fun s _ => by simp only [ent]; ac_rfl

end Readout

end Cert.Sample
-- ==== Proof.Sample.Step.lean ====
/-
  One grid step of the sample mixer against the reference: where the windows hold the reference's
  numbers, each unit's stored vectors are the reference's.
-/
module

public import proofs.«01_k».proof.Proof.Sample.Loads
public import proofs.«01_k».proof.Proof.Sample.Reading
public import proofs.«01_k».proof.Proof.Sample.Recurrence
public import proofs.«01_k».proof.Proof.Sample.Mixed

@[expose] public section

noncomputable section

namespace Cert.Sample

open Idealize.ShloMosaic Idealize.SL.Sem Cert.KernelIdeal Cert.KernelIdeal.Gen

/-- The windows' contents `x…` are, for sequence `s`, the reference's arguments `y…` of sequence
    `b`. -/
structure Holds (s : Fin 4) (b : Fin 128)
    (x0 : Vec Ideal S32x4224 .f32) (x1 : Vec Ideal S4x4x128x128 .f32) (x2 : Vec Ideal S4x4x128 .f32)
    (x3 : Vec Ideal S4x1x4 .f32) (x4 : Vec Ideal S4x4x128x128 .f32) (x5 : Vec Ideal S1x128 .f32)
    (x6 x7 x8 : Vec Ideal S1x512 .f32)
    (y0 : FVec Ideal ReferenceIdeal.S1024x4104 .f32)
    (y1 : FVec Ideal ReferenceIdeal.S128x4x128x128 .f32)
    (y2 : FVec Ideal ReferenceIdeal.S128x4x128 .f32) (y3 : FVec Ideal ReferenceIdeal.S128x4 .f32)
    (y4 : FVec Ideal ReferenceIdeal.S128x4x128x128 .f32) (y5 : FVec Ideal ReferenceIdeal.S4 .f32)
    (y6 y7 : FVec Ideal ReferenceIdeal.S4x128 .f32)
    (y8 : FVec Ideal ReferenceIdeal.S2x512 .f32) : Prop where
  lo : ∀ (t : Fin 8) (c : Fin 2048), x0 (ix2 (⟨8 * s.val + t.val, by omega⟩ : Fin 32)
    (⟨c.val, by omega⟩ : Fin 4224)) = y0 (ix2 (rowP b t) (⟨c.val, by omega⟩ : Fin 4104))
  hi : ∀ (t : Fin 8) (c : Fin 2048), x0 (ix2 (⟨8 * s.val + t.val, by omega⟩ : Fin 32)
    (⟨2048 + c.val, by omega⟩ : Fin 4224)) = y0 (ix2 (rowP b t) (⟨2056 + c.val, by omega⟩ : Fin 4104))
  gt : ∀ (t : Fin 8) (c : Fin 8), x0 (ix2 (⟨8 * s.val + t.val, by omega⟩ : Fin 32)
    (⟨4096 + c.val, by omega⟩ : Fin 4224)) = y0 (ix2 (rowP b t) (⟨2048 + c.val, by omega⟩ : Fin 4104))
  C : ∀ h c e, x1 (ix4 s h c e) = y1 (ix4 b h c e)
  n : ∀ h c, x2 (ix3 s h c) = y2 (ix3 b h c)
  m : ∀ h, x3 (ix3 s (0 : Fin 1) h) = y3 (ix2 b h)
  S : ∀ h c e, x4 (ix4 s h c e) = y4 (ix4 b h c e)
  bias : ∀ h, x5 (ix2 (0 : Fin 1) (laneF h)) = y5 (ix1 h)
  ga : ∀ (h : Fin 4) (e : Fin 128),
    x6 (ix2 (0 : Fin 1) (⟨128 * h.val + e.val, by omega⟩ : Fin 512)) = y6 (ix2 h e)
  gb : ∀ (h : Fin 4) (e : Fin 128),
    x7 (ix2 (0 : Fin 1) (⟨128 * h.val + e.val, by omega⟩ : Fin 512)) = y7 (ix2 h e)
  lb : ∀ (h : Fin 4) (e : Fin 128),
    x8 (ix2 (0 : Fin 1) (⟨128 * h.val + e.val, by omega⟩ : Fin 512)) = lbA y8 h e

section
variable
  (arg2 : Memref sig .tc .vmem S32x4224 .f32) (harg2 : arg2.IsWhole)
  (arg3 : Memref sig .tc .vmem S4x4x128x128 .f32) (harg3 : arg3.IsWhole)
  (arg4 : Memref sig .tc .vmem S4x4x128 .f32) (harg4 : arg4.IsWhole)
  (arg5 : Memref sig .tc .vmem S4x1x4 .f32) (harg5 : arg5.IsWhole)
  (arg6 : Memref sig .tc .vmem S4x4x128x128 .f32) (harg6 : arg6.IsWhole)
  (arg7 : Memref sig .tc .vmem S1x128 .f32) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S1x512 .f32) (harg10 : arg10.IsWhole)
  (arg12 : Memref sig .tc .vmem S4x4x128x128 .f32)
  (arg13 : Memref sig .tc .vmem S4x4x128 .f32)
  (arg14 : Memref sig .tc .vmem S4x1x4 .f32)
  (arg15 : Memref sig .tc .vmem S4x4x128x128 .f32)
  (x0 : Vec Ideal S32x4224 .f32) (x1 : Vec Ideal S4x4x128x128 .f32) (x2 : Vec Ideal S4x4x128 .f32) (x3 : Vec Ideal S4x1x4 .f32) (x4 : Vec Ideal S4x4x128x128 .f32) (x5 : Vec Ideal S1x128 .f32) (x6 : Vec Ideal S1x512 .f32) (x7 : Vec Ideal S1x512 .f32) (x8 : Vec Ideal S1x512 .f32)
  {y0 : FVec Ideal ReferenceIdeal.S1024x4104 .f32}
  {y1 : FVec Ideal ReferenceIdeal.S128x4x128x128 .f32}
  {y2 : FVec Ideal ReferenceIdeal.S128x4x128 .f32} {y3 : FVec Ideal ReferenceIdeal.S128x4 .f32}
  {y4 : FVec Ideal ReferenceIdeal.S128x4x128x128 .f32} {y5 : FVec Ideal ReferenceIdeal.S4 .f32}
  {y6 y7 : FVec Ideal ReferenceIdeal.S4x128 .f32} {y8 : FVec Ideal ReferenceIdeal.S2x512 .f32}
  {s : Fin 4} {b : Fin 128} (H : Holds s b x0 x1 x2 x3 x4 x5 x6 x7 x8 y0 y1 y2 y3 y4 y5 y6 y7 y8)
include H

theorem lo_at (j : Fin 4) (h : Fin 4) (t : Fin 8) (c : Fin 128) :
    ldH arg2 harg2 x0 ⟨j.val, by omega⟩ s h (ix2 t c)
      = pj y0 b h ⟨512 * j.val, by omega⟩ t c := by
  rw [ldH_apply]
  refine Eq.trans ?_ ((H.lo t ⟨512 * j.val + 128 * h.val + c.val, by omega⟩).trans ?_)
  · rfl
  · refine congrArg (fun l => y0 (ix2 (rowP b t) l)) (Fin.ext ?_)
    show 512 * j.val + 128 * h.val + c.val = 512 * j.val + (h.val * 128 + c.val)
    omega
theorem hi_at (j : Fin 4) (h : Fin 4) (t : Fin 8) (c : Fin 128) :
    ldH arg2 harg2 x0 ⟨4 + j.val, by omega⟩ s h (ix2 t c)
      = pj y0 b h ⟨2056 + 512 * j.val, by omega⟩ t c := by
  rw [ldH_apply]
  refine Eq.trans ?_ ((H.hi t ⟨512 * j.val + 128 * h.val + c.val, by omega⟩).trans ?_)
  · refine congrArg (fun l => x0 (ix2 _ l)) (Fin.ext ?_)
    show 512 * (4 + j.val) + 128 * h.val + c.val = 2048 + (512 * j.val + 128 * h.val + c.val)
    omega
  · refine congrArg (fun l => y0 (ix2 (rowP b t) l)) (Fin.ext ?_)
    show 2056 + (512 * j.val + 128 * h.val + c.val) = 2056 + 512 * j.val + (h.val * 128 + c.val)
    omega

theorem q_at (h) : ent (ldH arg2 harg2 x0 0 s h) = pj y0 b h 0 :=
  funext fun t => funext fun c => lo_at arg2 harg2 x0 x1 x2 x3 x4 x5 x6 x7 x8 H 0 h t c
theorem k_at (h) : ent (kScale (ldH arg2 harg2 x0 1 s h)) = kA y0 b h := by
  funext t c
  have e := lo_at arg2 harg2 x0 x1 x2 x3 x4 x5 x6 x7 x8 H 1 h t c
  show kScale (ldH arg2 harg2 x0 1 s h) (ix2 t c) = _
  pointwise [kScale]
  exact congrArg (fun r => r * Ideal.ofBits .f32 0x3DB504F3#32) e
theorem v_at (h) : ent (ldH arg2 harg2 x0 2 s h) = pj y0 b h 1024 :=
  funext fun t => funext fun c => lo_at arg2 harg2 x0 x1 x2 x3 x4 x5 x6 x7 x8 H 2 h t c
theorem o_at (h) : ent (ldH arg2 harg2 x0 3 s h) = pj y0 b h 1536 :=
  funext fun t => funext fun c => lo_at arg2 harg2 x0 x1 x2 x3 x4 x5 x6 x7 x8 H 3 h t c
theorem q2_at (h) : ent (ldH arg2 harg2 x0 4 s h) = pj y0 b h 2056 :=
  funext fun t => funext fun c => hi_at arg2 harg2 x0 x1 x2 x3 x4 x5 x6 x7 x8 H 0 h t c
theorem f_at (h) : ent (ldH arg2 harg2 x0 5 s h) = pj y0 b h 2568 :=
  funext fun t => funext fun c => hi_at arg2 harg2 x0 x1 x2 x3 x4 x5 x6 x7 x8 H 1 h t c
theorem iv_at (h) : ent (ldH arg2 harg2 x0 6 s h) = pj y0 b h 3080 :=
  funext fun t => funext fun c => hi_at arg2 harg2 x0 x1 x2 x3 x4 x5 x6 x7 x8 H 2 h t c
theorem go_at (h) : ent (ldH arg2 harg2 x0 7 s h) = pj y0 b h 3592 :=
  funext fun t => funext fun c => hi_at arg2 harg2 x0 x1 x2 x3 x4 x5 x6 x7 x8 H 3 h t c

theorem z_i (h) : iAt (ldZ arg2 harg2 x0 arg7 harg7 x5 s) h = iA y0 b h := by
  funext t
  show ldZ arg2 harg2 x0 arg7 harg7 x5 s (ix2 t (laneI h)) = _
  rw [ldZ, gates_I, ldP_apply]
  exact H.gt t ⟨h.val, by omega⟩
theorem z_b (h) : bAt (ldZ arg2 harg2 x0 arg7 harg7 x5 s) h = bA y0 y5 b h := by
  funext t
  show ldZ arg2 harg2 x0 arg7 harg7 x5 s (ix2 t (laneF h)) = _
  rw [ldZ, gates_F]
  refine congrArg (fun f => cum f t) (funext fun r => ?_)
  rw [ldP_apply, ldB_apply, H.bias]
  refine congrArg (fun r => lgs (r + y5 (ix1 h))) ?_
  refine Eq.trans (H.gt r ⟨4 + h.val, by omega⟩) ?_
  refine congrArg (fun l => y0 (ix2 (rowP b r) l)) (Fin.ext ?_)
  show 2048 + (4 + h.val) = 2052 + h.val
  omega
theorem m_at (h) : ldM arg14 (firstM arg5 harg5 x3) s (ix2 (0 : Fin 1) h) = y3 (ix2 b h) := by
  rw [ldM_apply, canon_firstM, H.m]
theorem C_at (h) : ent2 (ldU arg12 (firstC arg3 harg3 x1) s h) = CA y1 b h := by
  funext c e
  show ldU arg12 (firstC arg3 harg3 x1) s h (ix2 c e) = _
  rw [ldU_apply, canon_firstC, H.C]
theorem n_at (h) (c : Fin 128) :
    ldN arg13 (firstN arg4 harg4 x2) s (ix2 h c) = y2 (ix3 b h c) := by
  rw [ldN_apply, canon_firstN, H.n]
theorem S_at (h) (c e : Fin 128) : ldU arg15 (firstS arg6 harg6 x4) s h (ix2 e c) = CA y4 b h c e := by
  rw [ldU_apply, canon_firstS, H.S]
theorem ga_at (h) (e : Fin 128) : ldR arg8 harg8 x6 h (ix2 (0 : Fin 1) e) = y6 (ix2 h e) := by
  rw [ldR_apply, H.ga]
theorem gb_at (h) : ent1 (ldR arg9 harg9 x7 h) = fun e => y7 (ix2 h e) := by
  funext e
  show ldR arg9 harg9 x7 h (ix2 (0 : Fin 1) e) = _
  rw [ldR_apply, H.gb]
theorem l_at (h) : ent1 (ldR arg10 harg10 x8 h) = lbA y8 h := by
  funext e
  show ldR arg10 harg10 x8 h (ix2 (0 : Fin 1) e) = _
  rw [ldR_apply, H.lb]

section
variable (hb : ∀ h t, IsR (bA y0 y5 b h t)) (hi : ∀ h t, IsR (iA y0 b h t))
include hb hi

theorem bAt_real (h t) : IsR (bAt (ldZ arg2 harg2 x0 arg7 harg7 x5 s) h t) := by
  rw [z_b arg2 harg2 arg7 harg7 x0 x1 x2 x3 x4 x5 x6 x7 x8 H]; exact hb h t
theorem iAt_real (h t) : IsR (iAt (ldZ arg2 harg2 x0 arg7 harg7 x5 s) h t) := by
  rw [z_i arg2 harg2 arg7 harg7 x0 x1 x2 x3 x4 x5 x6 x7 x8 H]; exact hi h t

theorem vA_eq (h : Fin 4) (t : Fin 8) (e : Fin 128) :
    vA arg2 harg2 arg3 harg3 arg4 harg4 arg5 harg5 arg7 harg7 arg8 harg8 arg12 arg13 arg14
      x0 x1 x2 x3 x5 x6 s h (ix2 t e)
      = ReferenceIdeal.Read.val_main_v129 (F := Ideal) y0 y1 y2 y3 y5 y6 (ix4 b t h e) := by
  rw [v129_at]
  refine (outA_apply _ _ h
    (bAt_real arg2 harg2 arg7 harg7 x0 x1 x2 x3 x4 x5 x6 x7 x8 H hb hi h)
    (iAt_real arg2 harg2 arg7 harg7 x0 x1 x2 x3 x4 x5 x6 x7 x8 H hb hi h) _ _ _ _ _ _ _ t e).trans ?_
  simp only [z_b arg2 harg2 arg7 harg7 x0 x1 x2 x3 x4 x5 x6 x7 x8 H,
    z_i arg2 harg2 arg7 harg7 x0 x1 x2 x3 x4 x5 x6 x7 x8 H,
    m_at arg5 harg5 arg14 x0 x1 x2 x3 x4 x5 x6 x7 x8 H,
    q_at arg2 harg2 x0 x1 x2 x3 x4 x5 x6 x7 x8 H, k_at arg2 harg2 x0 x1 x2 x3 x4 x5 x6 x7 x8 H,
    v_at arg2 harg2 x0 x1 x2 x3 x4 x5 x6 x7 x8 H, o_at arg2 harg2 x0 x1 x2 x3 x4 x5 x6 x7 x8 H,
    C_at arg3 harg3 arg12 x0 x1 x2 x3 x4 x5 x6 x7 x8 H,
    n_at arg4 harg4 arg13 x0 x1 x2 x3 x4 x5 x6 x7 x8 H,
    ga_at arg8 harg8 x0 x1 x2 x3 x4 x5 x6 x7 x8 H]

theorem vC_eq (h : Fin 4) (c e : Fin 128) :
    vC arg2 harg2 arg3 harg3 arg5 harg5 arg7 harg7 arg12 arg14 x0 x1 x3 x5 s h (ix2 c e)
      = ReferenceIdeal.Read.val_main_v99 (F := Ideal) y0 y1 y3 y5 (ix4 b h c e) := by
  rw [v99_at]
  refine (newC_apply _ _ h
    (bAt_real arg2 harg2 arg7 harg7 x0 x1 x2 x3 x4 x5 x6 x7 x8 H hb hi h)
    (iAt_real arg2 harg2 arg7 harg7 x0 x1 x2 x3 x4 x5 x6 x7 x8 H hb hi h) _ _ _ c e).trans ?_
  simp only [z_b arg2 harg2 arg7 harg7 x0 x1 x2 x3 x4 x5 x6 x7 x8 H,
    z_i arg2 harg2 arg7 harg7 x0 x1 x2 x3 x4 x5 x6 x7 x8 H,
    m_at arg5 harg5 arg14 x0 x1 x2 x3 x4 x5 x6 x7 x8 H,
    k_at arg2 harg2 x0 x1 x2 x3 x4 x5 x6 x7 x8 H,
    v_at arg2 harg2 x0 x1 x2 x3 x4 x5 x6 x7 x8 H,
    C_at arg3 harg3 arg12 x0 x1 x2 x3 x4 x5 x6 x7 x8 H]

theorem vN_eq (h : Fin 4) (c : Fin 128) :
    vN arg2 harg2 arg4 harg4 arg5 harg5 arg7 harg7 arg13 arg14 x0 x2 x3 x5 s (ix2 h c)
      = ReferenceIdeal.Read.val_main_v106 (F := Ideal) y0 y2 y3 y5 (ix3 b h c) := by
  rw [v106_at]
  refine (newNAll_apply _ _ h
    (bAt_real arg2 harg2 arg7 harg7 x0 x1 x2 x3 x4 x5 x6 x7 x8 H hb hi h)
    (iAt_real arg2 harg2 arg7 harg7 x0 x1 x2 x3 x4 x5 x6 x7 x8 H hb hi h) _
    (fun h => kScale (ldH arg2 harg2 x0 1 s h)) c).trans ?_
  simp only [z_b arg2 harg2 arg7 harg7 x0 x1 x2 x3 x4 x5 x6 x7 x8 H,
    z_i arg2 harg2 arg7 harg7 x0 x1 x2 x3 x4 x5 x6 x7 x8 H,
    m_at arg5 harg5 arg14 x0 x1 x2 x3 x4 x5 x6 x7 x8 H,
    k_at arg2 harg2 x0 x1 x2 x3 x4 x5 x6 x7 x8 H,
    n_at arg4 harg4 arg13 x0 x1 x2 x3 x4 x5 x6 x7 x8 H]

theorem vM_eq (h : Fin 4) :
    vM arg2 harg2 arg5 harg5 arg7 harg7 arg14 x0 x3 x5 s (ix2 (0 : Fin 1) h)
      = ReferenceIdeal.Read.val_main_v219 (F := Ideal) y0 y3 y5 (ix3 b (0 : Fin 1) h) := by
  rw [v219_at]
  refine (newM_apply _ _ h
    (bAt_real arg2 harg2 arg7 harg7 x0 x1 x2 x3 x4 x5 x6 x7 x8 H hb hi h)
    (iAt_real arg2 harg2 arg7 harg7 x0 x1 x2 x3 x4 x5 x6 x7 x8 H hb hi h)).trans ?_
  simp only [z_b arg2 harg2 arg7 harg7 x0 x1 x2 x3 x4 x5 x6 x7 x8 H,
    z_i arg2 harg2 arg7 harg7 x0 x1 x2 x3 x4 x5 x6 x7 x8 H,
    m_at arg5 harg5 arg14 x0 x1 x2 x3 x4 x5 x6 x7 x8 H]
end

section
variable (hf : ∀ h t c, IsR (pj y0 b h 2568 t c)) (hl : ∀ h c, Unit01 (lbA y8 h c))
include hf hl

theorem vB_eq (h : Fin 4) (t : Fin 8) (e : Fin 128) :
    vB arg2 harg2 arg6 harg6 arg9 harg9 arg10 harg10 arg15 x0 x4 x7 x8 s h (ix2 t e)
      = ReferenceIdeal.Read.val_main_v213 (F := Ideal) y0 y4 y7 y8 (ix4 b t h e) := by
  rw [v213_at]
  refine (outB_apply _ _ _ _ _ _ _
    (by rw [f_at arg2 harg2 x0 x1 x2 x3 x4 x5 x6 x7 x8 H]; exact hf h)
    (by rw [l_at arg10 harg10 x0 x1 x2 x3 x4 x5 x6 x7 x8 H]; exact hl h) t e).trans ?_
  simp only [q2_at arg2 harg2 x0 x1 x2 x3 x4 x5 x6 x7 x8 H,
    f_at arg2 harg2 x0 x1 x2 x3 x4 x5 x6 x7 x8 H, iv_at arg2 harg2 x0 x1 x2 x3 x4 x5 x6 x7 x8 H,
    go_at arg2 harg2 x0 x1 x2 x3 x4 x5 x6 x7 x8 H, l_at arg10 harg10 x0 x1 x2 x3 x4 x5 x6 x7 x8 H,
    gb_at arg9 harg9 x0 x1 x2 x3 x4 x5 x6 x7 x8 H,
    S_at arg6 harg6 arg15 x0 x1 x2 x3 x4 x5 x6 x7 x8 H]
theorem vS_eq (h : Fin 4) (c e : Fin 128) :
    vS arg2 harg2 arg6 harg6 arg10 harg10 arg15 x0 x4 x8 s h (ix2 e c)
      = ReferenceIdeal.Read.val_main_v193 (F := Ideal) y0 y4 y8 (ix4 b h c e) := by
  rw [v193_at]
  refine (newS_apply _ _ _ _
    (by rw [f_at arg2 harg2 x0 x1 x2 x3 x4 x5 x6 x7 x8 H]; exact hf h)
    (by rw [l_at arg10 harg10 x0 x1 x2 x3 x4 x5 x6 x7 x8 H]; exact hl h) c e).trans ?_
  simp only [
    f_at arg2 harg2 x0 x1 x2 x3 x4 x5 x6 x7 x8 H, iv_at arg2 harg2 x0 x1 x2 x3 x4 x5 x6 x7 x8 H,
    l_at arg10 harg10 x0 x1 x2 x3 x4 x5 x6 x7 x8 H,
    S_at arg6 harg6 arg15 x0 x1 x2 x3 x4 x5 x6 x7 x8 H]

end

end

end Cert.Sample
-- ==== Proof.Sample.Host.lean ====
/-
  The sample mixer's host operations before its region: what the region's input arrays hold.
-/
module

public import proofs.«01_k».proof.Proof.Sample.Mixed
public import proofs.«01_k».proof.Proof.Gen.KernelIdeal.Frame.Runs
public import proofs.«01_k».proof.Proof.Sample.Step
public import Idealize.ShloMosaic.Lib.Routing.OpsOrder

@[expose] public section

noncomputable section

namespace Cert.Sample

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (c : Dev nD)

/-- The projection's columns regrouped: the gates' eight columns last, padded with zeros. -/
def regroup (x : FVec F S1024x4104 .f32) : FVec F S1024x4224 .f32 :=
  concatenate S1024x4224 1
    [⟨S1024x2048, extractStridedSlice S1024x2048 ![0, 0] x slices_S1024x4104_S1024x2048_0_0⟩,
     ⟨S1024x2048, extractStridedSlice S1024x2048 ![0, 2056] x slices_S1024x4104_S1024x2048_0_2056⟩,
     ⟨S1024x8, extractStridedSlice S1024x8 ![0, 2048] x slices_S1024x4104_S1024x8_0_2048⟩,
     ⟨S1024x120, broadcastInDim S1024x120 ![] bcast_S_S1024x120 (constant S_ .f32 0x00000000#32)⟩]
    concatenates_S1024x2048_S1024x2048_S1024x8_S1024x120_S1024x4224_d1

/-- The forget gates' bias in lanes four to seven of a row of zeros. -/
def biasRow (x : FVec F S4 .f32) : FVec F S1x128 .f32 :=
  Host.scatter scatter_S1x128_S2_S4_0_0_01_0 (fun _ b => b)
    (broadcastInDim S1x128 ![] bcast_S_S1x128 (constant S_ .f32 0x00000000#32))
    (concatenate S2 0 [⟨S1, broadcastInDim S1 ![] bcast_S_S1 (constantI S_ 32 0#32)⟩,
      ⟨S1, broadcastInDim S1 ![] bcast_S_S1 (constantI S_ 32 4#32)⟩] concatenates_S1_S1_S2_d0) x

theorem V_v4 : V m c main_v4 = regroup (m ((c : Thread nD τ).loc main_arg0)) := by
  sl_kernel_rfl
theorem V_v9 : V m c main_v9 = biasRow (m ((c : Thread nD τ).loc main_arg5)) := by
  sl_kernel_rfl
theorem V_v25 : V m c main_v25 = shapeCast S128x1x4 (m ((c : Thread nD τ).loc main_arg3)) shapeCasts_S128x4_S128x1x4 := by
  sl_kernel_rfl
theorem V_v26 : V m c main_v26 = shapeCast S1x512 (m ((c : Thread nD τ).loc main_arg6)) shapeCasts_S4x128_S1x512 := by
  sl_kernel_rfl
theorem V_v27 : V m c main_v27 = shapeCast S1x512 (m ((c : Thread nD τ).loc main_arg7)) shapeCasts_S4x128_S1x512 := by
  sl_kernel_rfl
theorem V_v24 : V m c main_v24 = shapeCast S1x512
    (shapeCast S512 (ReferenceIdeal.Read.val_main_v12 (F := F) (m ((c : Thread nD τ).loc main_arg8))) shapeCasts_S1x512_S512)
    shapeCasts_S512_S1x512 := by
  sl_kernel_rfl

/-! ## Entries -/

theorem regroup_lo (x : FVec F S1024x4104 .f32) (r : Fin 1024) (l : Fin 2048) :
    regroup x (ix2 r (⟨l.val, by omega⟩ : Fin 4224)) = x (ix2 r (⟨l.val, by omega⟩ : Fin 4104)) := by
  pointwise [regroup]
theorem regroup_hi (x : FVec F S1024x4104 .f32) (r : Fin 1024) (l : Fin 2048) :
    regroup x (ix2 r (⟨2048 + l.val, by omega⟩ : Fin 4224))
      = x (ix2 r (⟨2056 + l.val, by omega⟩ : Fin 4104)) := by
  pointwise [regroup]
theorem regroup_gt (x : FVec F S1024x4104 .f32) (r : Fin 1024) (l : Fin 8) :
    regroup x (ix2 r (⟨4096 + l.val, by omega⟩ : Fin 4224))
      = x (ix2 r (⟨2048 + l.val, by omega⟩ : Fin 4104)) := by
  pointwise [regroup]
  rw [dif_neg (by omega), dif_neg (by omega), dif_pos (by omega)]
  refine congrArg (fun k => x (ix2 r k)) (Fin.ext ?_)
  show 2048 + (4096 + l.val - 2048 - 2048) = 2048 + l.val
  omega

/-- Where the bias's four entries go. -/
theorem biasRow_place (n : Fin 4) :
    scatter_S1x128_S2_S4_0_0_01_0.resultIdx? (S4.rowMajor.symm n)
      (concatenate S2 0 [⟨S1, broadcastInDim S1 ![] bcast_S_S1 (constantI S_ 32 0#32)⟩,
        ⟨S1, broadcastInDim S1 ![] bcast_S_S1 (constantI S_ 32 4#32)⟩] concatenates_S1_S1_S2_d0)
      = some (ix2 (0 : Fin 1) (laneF n)) := by
  revert n
  decide +kernel
theorem fold_pick {α : Type} (P : Fin 4 → Prop) [DecidablePred P] (v : Fin 4 → α) (h : Fin 4)
    (hP : ∀ n, P n ↔ n = h) (z : α) :
    List.foldl (fun a n => if P n then v n else a) z (List.finRange 4) = v h := by
  have hL : List.finRange 4 = [0, 1, 2, 3] := by decide
  rw [hL]
  simp only [List.foldl_cons, List.foldl_nil, hP]
  obtain rfl | rfl | rfl | rfl := (by decide : ∀ h : Fin 4, h = 0 ∨ h = 1 ∨ h = 2 ∨ h = 3) h
  all_goals rfl
theorem biasRow_at (x : FVec F S4 .f32) (h : Fin 4) :
    biasRow x (ix2 (0 : Fin 1) (laneF h)) = x (ix1 h) := by
  rw [biasRow, ← Idealize.ShloMosaic.Routing.scatterIn_finRange, Idealize.ShloMosaic.Routing.scatterIn_at]
  have hn : ∀ n h : Fin 4, (ix2 (0 : Fin 1) (laneF n) = ix2 (0 : Fin 1) (laneF h)) ↔ n = h := by
    decide +kernel
  have h0 : ∀ n : Fin 4, (S4.rowMajor.symm n 0).val = n.val := by decide
  have hx : ∀ n : Fin 4, S4.rowMajor.symm n = ix1 n := fun n => funext fun a => by
    obtain rfl : a = (0 : Fin 1) := Subsingleton.elim (α := Fin 1) _ _
    exact Fin.ext (h0 n)
  refine (fold_pick _ _ h (fun n => ?_) _).trans (congrArg x (hx h))
  rw [biasRow_place, Option.some.injEq, hn]

theorem row_at (x : FVec F S4x128 .f32) (h : Fin 4) (e : Fin 128) :
    shapeCast S1x512 x shapeCasts_S4x128_S1x512
      (ix2 (0 : Fin 1) (⟨128 * h.val + e.val, by omega⟩ : Fin 512)) = x (ix2 h e) := by
  pointwise []
theorem lane_at (x : FVec F S128x4 .f32) (b : Fin 128) (h : Fin 4) :
    shapeCast S128x1x4 x shapeCasts_S128x4_S128x1x4 (ix3 b (0 : Fin 1) h) = x (ix2 b h) := by
  pointwise []
theorem lbRow_at (x : FVec Ideal S2x512 .f32) (h : Fin 4) (e : Fin 128) :
    shapeCast S1x512 (shapeCast S512 (ReferenceIdeal.Read.val_main_v12 (F := Ideal) x)
      shapeCasts_S1x512_S512) shapeCasts_S512_S1x512
      (ix2 (0 : Fin 1) (⟨128 * h.val + e.val, by omega⟩ : Fin 512)) = lbA x h e := by
  rw [lb_at, ← v11_at]
  pointwise [ReferenceIdeal.Read.val_main_v12]
  refine congrArg (fun k => ReferenceIdeal.Read.val_main_v11 (F := Ideal) x (ix2 0 k)) (Fin.ext ?_)
  show 128 * h.val + e.val = h.val * 128 + e.val
  omega

/-! ## Blocks -/

theorem idx0 : ∀ t : Fin grid0.N, win0_0.index t 0 = t.val ∧ win0_0.index t 1 = 0 := by decide +kernel
theorem emb0 (t : Fin grid0.N) (a : Fin 32) (b : Fin 4224) :
    ((cfg0.win 0).blk t).view.emb (ix2 a b)
      = ix2 (⟨32 * t.val + a.val, by have := t.isLt; have h : grid0.N = 32 := rfl; omega⟩ : Fin 1024) b := by
  obtain ⟨e0, e1⟩ := idx0 t
  funext a'
  match a' with
  | ⟨0, _⟩ => exact Fin.ext (by show win0_0.index t 0 * 32 + 1 * a.val = 32 * t.val + a.val; omega)
  | ⟨1, _⟩ => exact Fin.ext (by show win0_0.index t 1 * 4224 + 1 * b.val = b.val; omega)
theorem idx1 : ∀ t : Fin grid0.N, win0_1.index t 0 = t.val ∧ win0_1.index t 1 = 0 ∧ win0_1.index t 2 = 0 ∧ win0_1.index t 3 = 0 := by decide +kernel
theorem emb1 (t : Fin grid0.N) (a : Fin 4) (b : Fin 4) (d : Fin 128) (e : Fin 128) :
    ((cfg0.win 1).blk t).view.emb (ix4 a b d e)
      = ix4 (⟨4 * t.val + a.val, by have := t.isLt; have h : grid0.N = 32 := rfl; omega⟩ : Fin 128) b d e := by
  obtain ⟨e0, e1, e2, e3⟩ := idx1 t
  funext a'
  match a' with
  | ⟨0, _⟩ => exact Fin.ext (by show win0_1.index t 0 * 4 + 1 * a.val = 4 * t.val + a.val; omega)
  | ⟨1, _⟩ => exact Fin.ext (by show win0_1.index t 1 * 4 + 1 * b.val = b.val; omega)
  | ⟨2, _⟩ => exact Fin.ext (by show win0_1.index t 2 * 128 + 1 * d.val = d.val; omega)
  | ⟨3, _⟩ => exact Fin.ext (by show win0_1.index t 3 * 128 + 1 * e.val = e.val; omega)
theorem idx2 : ∀ t : Fin grid0.N, win0_2.index t 0 = t.val ∧ win0_2.index t 1 = 0 ∧ win0_2.index t 2 = 0 := by decide +kernel
theorem emb2 (t : Fin grid0.N) (a : Fin 4) (b : Fin 4) (d : Fin 128) :
    ((cfg0.win 2).blk t).view.emb (ix3 a b d)
      = ix3 (⟨4 * t.val + a.val, by have := t.isLt; have h : grid0.N = 32 := rfl; omega⟩ : Fin 128) b d := by
  obtain ⟨e0, e1, e2⟩ := idx2 t
  funext a'
  match a' with
  | ⟨0, _⟩ => exact Fin.ext (by show win0_2.index t 0 * 4 + 1 * a.val = 4 * t.val + a.val; omega)
  | ⟨1, _⟩ => exact Fin.ext (by show win0_2.index t 1 * 4 + 1 * b.val = b.val; omega)
  | ⟨2, _⟩ => exact Fin.ext (by show win0_2.index t 2 * 128 + 1 * d.val = d.val; omega)
theorem idx3 : ∀ t : Fin grid0.N, win0_3.index t 0 = t.val ∧ win0_3.index t 1 = 0 ∧ win0_3.index t 2 = 0 := by decide +kernel
theorem emb3 (t : Fin grid0.N) (a : Fin 4) (b : Fin 1) (d : Fin 4) :
    ((cfg0.win 3).blk t).view.emb (ix3 a b d)
      = ix3 (⟨4 * t.val + a.val, by have := t.isLt; have h : grid0.N = 32 := rfl; omega⟩ : Fin 128) b d := by
  obtain ⟨e0, e1, e2⟩ := idx3 t
  funext a'
  match a' with
  | ⟨0, _⟩ => exact Fin.ext (by show win0_3.index t 0 * 4 + 1 * a.val = 4 * t.val + a.val; omega)
  | ⟨1, _⟩ => exact Fin.ext (by show win0_3.index t 1 * 1 + 1 * b.val = b.val; omega)
  | ⟨2, _⟩ => exact Fin.ext (by show win0_3.index t 2 * 4 + 1 * d.val = d.val; omega)
theorem idx4 : ∀ t : Fin grid0.N, win0_4.index t 0 = t.val ∧ win0_4.index t 1 = 0 ∧ win0_4.index t 2 = 0 ∧ win0_4.index t 3 = 0 := by decide +kernel
theorem emb4 (t : Fin grid0.N) (a : Fin 4) (b : Fin 4) (d : Fin 128) (e : Fin 128) :
    ((cfg0.win 4).blk t).view.emb (ix4 a b d e)
      = ix4 (⟨4 * t.val + a.val, by have := t.isLt; have h : grid0.N = 32 := rfl; omega⟩ : Fin 128) b d e := by
  obtain ⟨e0, e1, e2, e3⟩ := idx4 t
  funext a'
  match a' with
  | ⟨0, _⟩ => exact Fin.ext (by show win0_4.index t 0 * 4 + 1 * a.val = 4 * t.val + a.val; omega)
  | ⟨1, _⟩ => exact Fin.ext (by show win0_4.index t 1 * 4 + 1 * b.val = b.val; omega)
  | ⟨2, _⟩ => exact Fin.ext (by show win0_4.index t 2 * 128 + 1 * d.val = d.val; omega)
  | ⟨3, _⟩ => exact Fin.ext (by show win0_4.index t 3 * 128 + 1 * e.val = e.val; omega)
theorem idx5 : ∀ t : Fin grid0.N, win0_5.index t 0 = 0 ∧ win0_5.index t 1 = 0 := by decide +kernel
theorem emb5 (t : Fin grid0.N) (a : Fin 1) (b : Fin 128) :
    ((cfg0.win 5).blk t).view.emb (ix2 a b)
      = ix2 a b := by
  obtain ⟨e0, e1⟩ := idx5 t
  funext a'
  match a' with
  | ⟨0, _⟩ => exact Fin.ext (by show win0_5.index t 0 * 1 + 1 * a.val = a.val; omega)
  | ⟨1, _⟩ => exact Fin.ext (by show win0_5.index t 1 * 128 + 1 * b.val = b.val; omega)
theorem idx6 : ∀ t : Fin grid0.N, win0_6.index t 0 = 0 ∧ win0_6.index t 1 = 0 := by decide +kernel
theorem emb6 (t : Fin grid0.N) (a : Fin 1) (b : Fin 512) :
    ((cfg0.win 6).blk t).view.emb (ix2 a b)
      = ix2 a b := by
  obtain ⟨e0, e1⟩ := idx6 t
  funext a'
  match a' with
  | ⟨0, _⟩ => exact Fin.ext (by show win0_6.index t 0 * 1 + 1 * a.val = a.val; omega)
  | ⟨1, _⟩ => exact Fin.ext (by show win0_6.index t 1 * 512 + 1 * b.val = b.val; omega)
theorem idx7 : ∀ t : Fin grid0.N, win0_7.index t 0 = 0 ∧ win0_7.index t 1 = 0 := by decide +kernel
theorem emb7 (t : Fin grid0.N) (a : Fin 1) (b : Fin 512) :
    ((cfg0.win 7).blk t).view.emb (ix2 a b)
      = ix2 a b := by
  obtain ⟨e0, e1⟩ := idx7 t
  funext a'
  match a' with
  | ⟨0, _⟩ => exact Fin.ext (by show win0_7.index t 0 * 1 + 1 * a.val = a.val; omega)
  | ⟨1, _⟩ => exact Fin.ext (by show win0_7.index t 1 * 512 + 1 * b.val = b.val; omega)
theorem idx8 : ∀ t : Fin grid0.N, win0_8.index t 0 = 0 ∧ win0_8.index t 1 = 0 := by decide +kernel
theorem emb8 (t : Fin grid0.N) (a : Fin 1) (b : Fin 512) :
    ((cfg0.win 8).blk t).view.emb (ix2 a b)
      = ix2 a b := by
  obtain ⟨e0, e1⟩ := idx8 t
  funext a'
  match a' with
  | ⟨0, _⟩ => exact Fin.ext (by show win0_8.index t 0 * 1 + 1 * a.val = a.val; omega)
  | ⟨1, _⟩ => exact Fin.ext (by show win0_8.index t 1 * 512 + 1 * b.val = b.val; omega)
theorem idx9 : ∀ t : Fin grid0.N, win0_9.index t 0 = t.val ∧ win0_9.index t 1 = 0 := by decide +kernel
theorem emb9 (t : Fin grid0.N) (a : Fin 32) (b : Fin 1024) :
    ((cfg0.win 9).blk t).view.emb (ix2 a b)
      = ix2 (⟨32 * t.val + a.val, by have := t.isLt; have h : grid0.N = 32 := rfl; omega⟩ : Fin 1024) b := by
  obtain ⟨e0, e1⟩ := idx9 t
  funext a'
  match a' with
  | ⟨0, _⟩ => exact Fin.ext (by show win0_9.index t 0 * 32 + 1 * a.val = 32 * t.val + a.val; omega)
  | ⟨1, _⟩ => exact Fin.ext (by show win0_9.index t 1 * 1024 + 1 * b.val = b.val; omega)
theorem idx10 : ∀ t : Fin grid0.N, win0_10.index t 0 = t.val ∧ win0_10.index t 1 = 0 ∧ win0_10.index t 2 = 0 ∧ win0_10.index t 3 = 0 := by decide +kernel
theorem emb10 (t : Fin grid0.N) (a : Fin 4) (b : Fin 4) (d : Fin 128) (e : Fin 128) :
    ((cfg0.win 10).blk t).view.emb (ix4 a b d e)
      = ix4 (⟨4 * t.val + a.val, by have := t.isLt; have h : grid0.N = 32 := rfl; omega⟩ : Fin 128) b d e := by
  obtain ⟨e0, e1, e2, e3⟩ := idx10 t
  funext a'
  match a' with
  | ⟨0, _⟩ => exact Fin.ext (by show win0_10.index t 0 * 4 + 1 * a.val = 4 * t.val + a.val; omega)
  | ⟨1, _⟩ => exact Fin.ext (by show win0_10.index t 1 * 4 + 1 * b.val = b.val; omega)
  | ⟨2, _⟩ => exact Fin.ext (by show win0_10.index t 2 * 128 + 1 * d.val = d.val; omega)
  | ⟨3, _⟩ => exact Fin.ext (by show win0_10.index t 3 * 128 + 1 * e.val = e.val; omega)
theorem idx11 : ∀ t : Fin grid0.N, win0_11.index t 0 = t.val ∧ win0_11.index t 1 = 0 ∧ win0_11.index t 2 = 0 := by decide +kernel
theorem emb11 (t : Fin grid0.N) (a : Fin 4) (b : Fin 4) (d : Fin 128) :
    ((cfg0.win 11).blk t).view.emb (ix3 a b d)
      = ix3 (⟨4 * t.val + a.val, by have := t.isLt; have h : grid0.N = 32 := rfl; omega⟩ : Fin 128) b d := by
  obtain ⟨e0, e1, e2⟩ := idx11 t
  funext a'
  match a' with
  | ⟨0, _⟩ => exact Fin.ext (by show win0_11.index t 0 * 4 + 1 * a.val = 4 * t.val + a.val; omega)
  | ⟨1, _⟩ => exact Fin.ext (by show win0_11.index t 1 * 4 + 1 * b.val = b.val; omega)
  | ⟨2, _⟩ => exact Fin.ext (by show win0_11.index t 2 * 128 + 1 * d.val = d.val; omega)
theorem idx12 : ∀ t : Fin grid0.N, win0_12.index t 0 = t.val ∧ win0_12.index t 1 = 0 ∧ win0_12.index t 2 = 0 := by decide +kernel
theorem emb12 (t : Fin grid0.N) (a : Fin 4) (b : Fin 1) (d : Fin 4) :
    ((cfg0.win 12).blk t).view.emb (ix3 a b d)
      = ix3 (⟨4 * t.val + a.val, by have := t.isLt; have h : grid0.N = 32 := rfl; omega⟩ : Fin 128) b d := by
  obtain ⟨e0, e1, e2⟩ := idx12 t
  funext a'
  match a' with
  | ⟨0, _⟩ => exact Fin.ext (by show win0_12.index t 0 * 4 + 1 * a.val = 4 * t.val + a.val; omega)
  | ⟨1, _⟩ => exact Fin.ext (by show win0_12.index t 1 * 1 + 1 * b.val = b.val; omega)
  | ⟨2, _⟩ => exact Fin.ext (by show win0_12.index t 2 * 4 + 1 * d.val = d.val; omega)
theorem idx13 : ∀ t : Fin grid0.N, win0_13.index t 0 = t.val ∧ win0_13.index t 1 = 0 ∧ win0_13.index t 2 = 0 ∧ win0_13.index t 3 = 0 := by decide +kernel
theorem emb13 (t : Fin grid0.N) (a : Fin 4) (b : Fin 4) (d : Fin 128) (e : Fin 128) :
    ((cfg0.win 13).blk t).view.emb (ix4 a b d e)
      = ix4 (⟨4 * t.val + a.val, by have := t.isLt; have h : grid0.N = 32 := rfl; omega⟩ : Fin 128) b d e := by
  obtain ⟨e0, e1, e2, e3⟩ := idx13 t
  funext a'
  match a' with
  | ⟨0, _⟩ => exact Fin.ext (by show win0_13.index t 0 * 4 + 1 * a.val = 4 * t.val + a.val; omega)
  | ⟨1, _⟩ => exact Fin.ext (by show win0_13.index t 1 * 4 + 1 * b.val = b.val; omega)
  | ⟨2, _⟩ => exact Fin.ext (by show win0_13.index t 2 * 128 + 1 * d.val = d.val; omega)
  | ⟨3, _⟩ => exact Fin.ext (by show win0_13.index t 3 * 128 + 1 * e.val = e.val; omega)

end Cert.Sample
-- ==== Proof.Sample.Pieces.lean ====
/-
  One grid step's stores, window by window, are the pieces of `Block`.
-/
module

public import proofs.«01_k».proof.Proof.Sample.Block

@[expose] public section

noncomputable section

namespace Cert.Sample

open Idealize.ShloMosaic Idealize.SL.Sem Cert.KernelIdeal Cert.KernelIdeal.Gen

variable {F : FTy → Type} [FloatOps F]

/-- The mixed heads. -/
theorem pieces9 (c : Dev nD) (i : grid0.Coords) (arg2 : Memref sig .tc .vmem S32x4224 .f32) (harg2 : arg2.IsWhole) (arg3 : Memref sig .tc .vmem S4x4x128x128 .f32) (harg3 : arg3.IsWhole) (arg4 : Memref sig .tc .vmem S4x4x128 .f32) (harg4 : arg4.IsWhole) (arg5 : Memref sig .tc .vmem S4x1x4 .f32) (harg5 : arg5.IsWhole) (arg6 : Memref sig .tc .vmem S4x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S32x1024 .bf16) (harg11 : arg11.IsWhole) (arg12 : Memref sig .tc .vmem S4x4x128x128 .f32) (harg12 : arg12.IsWhole) (arg13 : Memref sig .tc .vmem S4x4x128 .f32) (harg13 : arg13.IsWhole) (arg14 : Memref sig .tc .vmem S4x1x4 .f32) (harg14 : arg14.IsWhole) (arg15 : Memref sig .tc .vmem S4x4x128x128 .f32) (harg15 : arg15.IsWhole) (hc0 : cond0_0 i) (hc1 : cond0_1 i)
    (x0 : Vec F S32x4224 .f32) (x1 : Vec F S4x4x128x128 .f32) (x2 : Vec F S4x4x128 .f32) (x3 : Vec F S4x1x4 .f32) (x4 : Vec F S4x4x128x128 .f32) (x5 : Vec F S1x128 .f32) (x6 : Vec F S1x512 .f32) (x7 : Vec F S1x512 .f32) (x8 : Vec F S1x512 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).1
      = units.map (fun u => (⟨rectO u.1 (512 + 128 * u.2.val) (by omega),
          vB arg2 harg2 arg6 harg6 arg9 harg9 arg10 harg10 arg15 x0 x4 x7 x8 u.1 u.2⟩ : View.Piece (Elt F) S32x1024 .bf16))
        ++ units.map (fun u => (⟨rectO u.1 (128 * u.2.val) (by omega),
          vA arg2 harg2 arg3 harg3 arg4 harg4 arg5 harg5 arg7 harg7 arg8 harg8 arg12 arg13 arg14 x0 x1 x2 x3 x5 x6 u.1 u.2⟩ : View.Piece (Elt F) S32x1024 .bf16)) := by
  sl_kernel_rfl

/-- The matrix memories. -/
theorem pieces10 (c : Dev nD) (i : grid0.Coords) (arg2 : Memref sig .tc .vmem S32x4224 .f32) (harg2 : arg2.IsWhole) (arg3 : Memref sig .tc .vmem S4x4x128x128 .f32) (harg3 : arg3.IsWhole) (arg4 : Memref sig .tc .vmem S4x4x128 .f32) (harg4 : arg4.IsWhole) (arg5 : Memref sig .tc .vmem S4x1x4 .f32) (harg5 : arg5.IsWhole) (arg6 : Memref sig .tc .vmem S4x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S32x1024 .bf16) (harg11 : arg11.IsWhole) (arg12 : Memref sig .tc .vmem S4x4x128x128 .f32) (harg12 : arg12.IsWhole) (arg13 : Memref sig .tc .vmem S4x4x128 .f32) (harg13 : arg13.IsWhole) (arg14 : Memref sig .tc .vmem S4x1x4 .f32) (harg14 : arg14.IsWhole) (arg15 : Memref sig .tc .vmem S4x4x128x128 .f32) (harg15 : arg15.IsWhole) (hc0 : cond0_0 i) (hc1 : cond0_1 i)
    (x0 : Vec F S32x4224 .f32) (x1 : Vec F S4x4x128x128 .f32) (x2 : Vec F S4x4x128 .f32) (x3 : Vec F S4x1x4 .f32) (x4 : Vec F S4x4x128x128 .f32) (x5 : Vec F S1x128 .f32) (x6 : Vec F S1x512 .f32) (x7 : Vec F S1x512 .f32) (x8 : Vec F S1x512 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.1
      = units.map (fun u => (⟨rectU u.1 u.2,
          unflat (vC arg2 harg2 arg3 harg3 arg5 harg5 arg7 harg7 arg12 arg14 x0 x1 x3 x5 u.1 u.2)⟩ : View.Piece (Elt F) S4x4x128x128 .f32))
        ++ firstC arg3 harg3 x1 := by
  sl_kernel_rfl

/-- The normalisers. -/
theorem pieces11 (c : Dev nD) (i : grid0.Coords) (arg2 : Memref sig .tc .vmem S32x4224 .f32) (harg2 : arg2.IsWhole) (arg3 : Memref sig .tc .vmem S4x4x128x128 .f32) (harg3 : arg3.IsWhole) (arg4 : Memref sig .tc .vmem S4x4x128 .f32) (harg4 : arg4.IsWhole) (arg5 : Memref sig .tc .vmem S4x1x4 .f32) (harg5 : arg5.IsWhole) (arg6 : Memref sig .tc .vmem S4x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S32x1024 .bf16) (harg11 : arg11.IsWhole) (arg12 : Memref sig .tc .vmem S4x4x128x128 .f32) (harg12 : arg12.IsWhole) (arg13 : Memref sig .tc .vmem S4x4x128 .f32) (harg13 : arg13.IsWhole) (arg14 : Memref sig .tc .vmem S4x1x4 .f32) (harg14 : arg14.IsWhole) (arg15 : Memref sig .tc .vmem S4x4x128x128 .f32) (harg15 : arg15.IsWhole) (hc0 : cond0_0 i) (hc1 : cond0_1 i)
    (x0 : Vec F S32x4224 .f32) (x1 : Vec F S4x4x128x128 .f32) (x2 : Vec F S4x4x128 .f32) (x3 : Vec F S4x1x4 .f32) (x4 : Vec F S4x4x128x128 .f32) (x5 : Vec F S1x128 .f32) (x6 : Vec F S1x512 .f32) (x7 : Vec F S1x512 .f32) (x8 : Vec F S1x512 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.1
      = [3, 2, 1, 0].map (fun s => (⟨rectN s,
          shapeCast S1x4x128 (vN arg2 harg2 arg4 harg4 arg5 harg5 arg7 harg7 arg13 arg14 x0 x2 x3 x5 s) shapeCasts_S4x128_S1x4x128⟩ : View.Piece (Elt F) S4x4x128 .f32))
        ++ firstN arg4 harg4 x2 := by
  sl_kernel_rfl

/-- The stabilisers. -/
theorem pieces12 (c : Dev nD) (i : grid0.Coords) (arg2 : Memref sig .tc .vmem S32x4224 .f32) (harg2 : arg2.IsWhole) (arg3 : Memref sig .tc .vmem S4x4x128x128 .f32) (harg3 : arg3.IsWhole) (arg4 : Memref sig .tc .vmem S4x4x128 .f32) (harg4 : arg4.IsWhole) (arg5 : Memref sig .tc .vmem S4x1x4 .f32) (harg5 : arg5.IsWhole) (arg6 : Memref sig .tc .vmem S4x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S32x1024 .bf16) (harg11 : arg11.IsWhole) (arg12 : Memref sig .tc .vmem S4x4x128x128 .f32) (harg12 : arg12.IsWhole) (arg13 : Memref sig .tc .vmem S4x4x128 .f32) (harg13 : arg13.IsWhole) (arg14 : Memref sig .tc .vmem S4x1x4 .f32) (harg14 : arg14.IsWhole) (arg15 : Memref sig .tc .vmem S4x4x128x128 .f32) (harg15 : arg15.IsWhole) (hc0 : cond0_0 i) (hc1 : cond0_1 i)
    (x0 : Vec F S32x4224 .f32) (x1 : Vec F S4x4x128x128 .f32) (x2 : Vec F S4x4x128 .f32) (x3 : Vec F S4x1x4 .f32) (x4 : Vec F S4x4x128x128 .f32) (x5 : Vec F S1x128 .f32) (x6 : Vec F S1x512 .f32) (x7 : Vec F S1x512 .f32) (x8 : Vec F S1x512 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.1
      = [3, 2, 1, 0].map (fun s => (⟨rectM s,
          shapeCast S1x1x4 (vM arg2 harg2 arg5 harg5 arg7 harg7 arg14 x0 x3 x5 s) shapeCasts_S1x4_S1x1x4⟩ : View.Piece (Elt F) S4x1x4 .f32))
        ++ firstM arg5 harg5 x3 := by
  sl_kernel_rfl

/-- The recurrence states. -/
theorem pieces13 (c : Dev nD) (i : grid0.Coords) (arg2 : Memref sig .tc .vmem S32x4224 .f32) (harg2 : arg2.IsWhole) (arg3 : Memref sig .tc .vmem S4x4x128x128 .f32) (harg3 : arg3.IsWhole) (arg4 : Memref sig .tc .vmem S4x4x128 .f32) (harg4 : arg4.IsWhole) (arg5 : Memref sig .tc .vmem S4x1x4 .f32) (harg5 : arg5.IsWhole) (arg6 : Memref sig .tc .vmem S4x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S32x1024 .bf16) (harg11 : arg11.IsWhole) (arg12 : Memref sig .tc .vmem S4x4x128x128 .f32) (harg12 : arg12.IsWhole) (arg13 : Memref sig .tc .vmem S4x4x128 .f32) (harg13 : arg13.IsWhole) (arg14 : Memref sig .tc .vmem S4x1x4 .f32) (harg14 : arg14.IsWhole) (arg15 : Memref sig .tc .vmem S4x4x128x128 .f32) (harg15 : arg15.IsWhole) (hc0 : cond0_0 i) (hc1 : cond0_1 i)
    (x0 : Vec F S32x4224 .f32) (x1 : Vec F S4x4x128x128 .f32) (x2 : Vec F S4x4x128 .f32) (x3 : Vec F S4x1x4 .f32) (x4 : Vec F S4x4x128x128 .f32) (x5 : Vec F S1x128 .f32) (x6 : Vec F S1x512 .f32) (x7 : Vec F S1x512 .f32) (x8 : Vec F S1x512 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.2.1
      = flips arg15 (units.map (fun u => (⟨rectU u.1 u.2,
          unflat (vS arg2 harg2 arg6 harg6 arg10 harg10 arg15 x0 x4 x8 u.1 u.2)⟩ : View.Piece (Elt F) S4x4x128x128 .f32))
        ++ firstS arg6 harg6 x4) units := by
  sl_kernel_rfl

end Cert.Sample
-- ==== Proof.Sample.Left.lean ====
/-
  What one grid step of the sample mixer leaves in its five windows, entry by entry: the reference's
  numbers.
-/
module

public import proofs.«01_k».proof.Proof.Sample.Step
public import proofs.«01_k».proof.Proof.Sample.Pieces
public import proofs.«01_k».proof.Proof.Gen.KernelIdeal.Frame

@[expose] public section

noncomputable section

namespace Cert.Sample

open Idealize.ShloMosaic Idealize.SL.Sem Cert.KernelIdeal Cert.KernelIdeal.Gen

/-- A first-half column lies in no second-half piece. -/
theorem notHi (s s' h' : Fin 4) (t : Fin 8) (l : Nat) (hl : l < 512) :
    ix2 (⟨8 * s.val + t.val, by omega⟩ : Fin 32) (⟨l, by omega⟩ : Fin 1024)
      ∉ (rectO s' (512 + 128 * h'.val) (by omega)).set := fun hm => by
  have m1 : 512 + 128 * h'.val ≤ l ∧ l < 512 + 128 * h'.val + 128 := Rect.mem_set_unit.mp hm 1
  omega

/-- Different units' pieces of one half do not meet. -/
theorem notO {s h s' h' : Fin 4} (hn : (s', h') ≠ (s, h)) (o : Nat) (ho : o ≤ 512) (t : Fin 8)
    (e : Fin 128) :
    ix2 (⟨8 * s.val + t.val, by omega⟩ : Fin 32) (⟨o + 128 * h.val + e.val, by omega⟩ : Fin 1024)
      ∉ (rectO s' (o + 128 * h'.val) (by omega)).set := fun hm => hn (by
  have m := Rect.mem_set_unit.mp hm
  have m0 : 8 * s'.val ≤ 8 * s.val + t.val ∧ 8 * s.val + t.val < 8 * s'.val + 8 := m 0
  have m1 : o + 128 * h'.val ≤ o + 128 * h.val + e.val
    ∧ o + 128 * h.val + e.val < o + 128 * h'.val + 128 := m 1
  rw [Fin.ext (by omega : s'.val = s.val), Fin.ext (by omega : h'.val = h.val)])

/-- The matrix memories. -/
theorem left10 (c : Dev nD) (i : grid0.Coords) (arg2 : Memref sig .tc .vmem S32x4224 .f32) (harg2 : arg2.IsWhole) (arg3 : Memref sig .tc .vmem S4x4x128x128 .f32) (harg3 : arg3.IsWhole) (arg4 : Memref sig .tc .vmem S4x4x128 .f32) (harg4 : arg4.IsWhole) (arg5 : Memref sig .tc .vmem S4x1x4 .f32) (harg5 : arg5.IsWhole) (arg6 : Memref sig .tc .vmem S4x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S32x1024 .bf16) (harg11 : arg11.IsWhole) (arg12 : Memref sig .tc .vmem S4x4x128x128 .f32) (harg12 : arg12.IsWhole) (arg13 : Memref sig .tc .vmem S4x4x128 .f32) (harg13 : arg13.IsWhole) (arg14 : Memref sig .tc .vmem S4x1x4 .f32) (harg14 : arg14.IsWhole) (arg15 : Memref sig .tc .vmem S4x4x128x128 .f32) (harg15 : arg15.IsWhole) (hc0 : cond0_0 i) (hc1 : cond0_1 i)
    (x0 : Vec Ideal S32x4224 .f32) (x1 : Vec Ideal S4x4x128x128 .f32) (x2 : Vec Ideal S4x4x128 .f32) (x3 : Vec Ideal S4x1x4 .f32) (x4 : Vec Ideal S4x4x128x128 .f32) (x5 : Vec Ideal S1x128 .f32) (x6 : Vec Ideal S1x512 .f32) (x7 : Vec Ideal S1x512 .f32) (x8 : Vec Ideal S1x512 .f32)
    {y0 : FVec Ideal ReferenceIdeal.S1024x4104 .f32}
    {y1 : FVec Ideal ReferenceIdeal.S128x4x128x128 .f32}
    {y2 : FVec Ideal ReferenceIdeal.S128x4x128 .f32} {y3 : FVec Ideal ReferenceIdeal.S128x4 .f32}
    {y4 : FVec Ideal ReferenceIdeal.S128x4x128x128 .f32} {y5 : FVec Ideal ReferenceIdeal.S4 .f32}
    {y6 y7 : FVec Ideal ReferenceIdeal.S4x128 .f32} {y8 : FVec Ideal ReferenceIdeal.S2x512 .f32}
    {s : Fin 4} {b : Fin 128} (H : Holds s b x0 x1 x2 x3 x4 x5 x6 x7 x8 y0 y1 y2 y3 y4 y5 y6 y7 y8)
    (hb : ∀ (h : Fin 4) (t : Fin 8), IsR (bA y0 y5 b h t))
    (hi : ∀ (h : Fin 4) (t : Fin 8), IsR (iA y0 b h t))
    (h : Fin 4) (c' e : Fin 128) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 (ix4 s h c' e)
      = ReferenceIdeal.Read.val_main_v99 (F := Ideal) y0 y1 y3 y5 (ix4 b h c' e) := by
  refine (congrFun (View.read_writes_junk_eq_canon VO0_10 _) _).trans ?_
  refine (congrArg (fun L => View.canon L _) (pieces10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8)).trans ?_
  rw [← vC_eq arg2 harg2 arg3 harg3 arg5 harg5 arg7 harg7 arg12 arg14 x0 x1 x2 x3 x4 x5 x6 x7 x8 H hb hi h c' e]
  rw [← unflat_apply (vC arg2 harg2 arg3 harg3 arg5 harg5 arg7 harg7 arg12 arg14 x0 x1 x3 x5 s h)]
  refine Eq.trans ?_ (canon_map_at (Val := Elt Ideal) (e := .f32) units (fun u => rectU u.1 u.2)
    (fun u => unflat (vC arg2 harg2 arg3 harg3 arg5 harg5 arg7 harg7 arg12 arg14 x0 x1 x3 x5 u.1 u.2)) (firstC arg3 harg3 x1)
    (s, h) (mem_units _) (ix4 (0 : Fin 1) (0 : Fin 1) c' e) fun k _ hk => ?_)
  · exact congrArg _ (embU s h c' e).symm
  · rw [embU]
    exact notU hk c' e

/-- The normalisers. -/
theorem left11 (c : Dev nD) (i : grid0.Coords) (arg2 : Memref sig .tc .vmem S32x4224 .f32) (harg2 : arg2.IsWhole) (arg3 : Memref sig .tc .vmem S4x4x128x128 .f32) (harg3 : arg3.IsWhole) (arg4 : Memref sig .tc .vmem S4x4x128 .f32) (harg4 : arg4.IsWhole) (arg5 : Memref sig .tc .vmem S4x1x4 .f32) (harg5 : arg5.IsWhole) (arg6 : Memref sig .tc .vmem S4x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S32x1024 .bf16) (harg11 : arg11.IsWhole) (arg12 : Memref sig .tc .vmem S4x4x128x128 .f32) (harg12 : arg12.IsWhole) (arg13 : Memref sig .tc .vmem S4x4x128 .f32) (harg13 : arg13.IsWhole) (arg14 : Memref sig .tc .vmem S4x1x4 .f32) (harg14 : arg14.IsWhole) (arg15 : Memref sig .tc .vmem S4x4x128x128 .f32) (harg15 : arg15.IsWhole) (hc0 : cond0_0 i) (hc1 : cond0_1 i)
    (x0 : Vec Ideal S32x4224 .f32) (x1 : Vec Ideal S4x4x128x128 .f32) (x2 : Vec Ideal S4x4x128 .f32) (x3 : Vec Ideal S4x1x4 .f32) (x4 : Vec Ideal S4x4x128x128 .f32) (x5 : Vec Ideal S1x128 .f32) (x6 : Vec Ideal S1x512 .f32) (x7 : Vec Ideal S1x512 .f32) (x8 : Vec Ideal S1x512 .f32)
    {y0 : FVec Ideal ReferenceIdeal.S1024x4104 .f32}
    {y1 : FVec Ideal ReferenceIdeal.S128x4x128x128 .f32}
    {y2 : FVec Ideal ReferenceIdeal.S128x4x128 .f32} {y3 : FVec Ideal ReferenceIdeal.S128x4 .f32}
    {y4 : FVec Ideal ReferenceIdeal.S128x4x128x128 .f32} {y5 : FVec Ideal ReferenceIdeal.S4 .f32}
    {y6 y7 : FVec Ideal ReferenceIdeal.S4x128 .f32} {y8 : FVec Ideal ReferenceIdeal.S2x512 .f32}
    {s : Fin 4} {b : Fin 128} (H : Holds s b x0 x1 x2 x3 x4 x5 x6 x7 x8 y0 y1 y2 y3 y4 y5 y6 y7 y8)
    (hb : ∀ (h : Fin 4) (t : Fin 8), IsR (bA y0 y5 b h t))
    (hi : ∀ (h : Fin 4) (t : Fin 8), IsR (iA y0 b h t))
    (h : Fin 4) (c' : Fin 128) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 (ix3 s h c')
      = ReferenceIdeal.Read.val_main_v106 (F := Ideal) y0 y2 y3 y5 (ix3 b h c') := by
  refine (congrFun (View.read_writes_junk_eq_canon VO0_11 _) _).trans ?_
  refine (congrArg (fun L => View.canon L _) (pieces11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8)).trans ?_
  rw [← vN_eq arg2 harg2 arg4 harg4 arg5 harg5 arg7 harg7 arg13 arg14 x0 x1 x2 x3 x4 x5 x6 x7 x8 H hb hi h c']
  refine Eq.trans ?_ ((canon_map_at (Val := Elt Ideal) (e := .f32) [3, 2, 1, 0] (fun s => rectN s)
    (fun s => shapeCast S1x4x128 (vN arg2 harg2 arg4 harg4 arg5 harg5 arg7 harg7 arg13 arg14 x0 x2 x3 x5 s)
      shapeCasts_S4x128_S1x4x128) (firstN arg4 harg4 x2)
    s (mem_seqs _) (ix3 (0 : Fin 1) h c') fun k _ hk => ?_).trans ?_)
  · exact congrArg _ (embN s h c').symm
  · rw [embN]
    exact notN hk h c'
  · generalize vN arg2 harg2 arg4 harg4 arg5 harg5 arg7 harg7 arg13 arg14 x0 x2 x3 x5 s = v
    pointwise []

/-- The stabilisers. -/
theorem left12 (c : Dev nD) (i : grid0.Coords) (arg2 : Memref sig .tc .vmem S32x4224 .f32) (harg2 : arg2.IsWhole) (arg3 : Memref sig .tc .vmem S4x4x128x128 .f32) (harg3 : arg3.IsWhole) (arg4 : Memref sig .tc .vmem S4x4x128 .f32) (harg4 : arg4.IsWhole) (arg5 : Memref sig .tc .vmem S4x1x4 .f32) (harg5 : arg5.IsWhole) (arg6 : Memref sig .tc .vmem S4x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S32x1024 .bf16) (harg11 : arg11.IsWhole) (arg12 : Memref sig .tc .vmem S4x4x128x128 .f32) (harg12 : arg12.IsWhole) (arg13 : Memref sig .tc .vmem S4x4x128 .f32) (harg13 : arg13.IsWhole) (arg14 : Memref sig .tc .vmem S4x1x4 .f32) (harg14 : arg14.IsWhole) (arg15 : Memref sig .tc .vmem S4x4x128x128 .f32) (harg15 : arg15.IsWhole) (hc0 : cond0_0 i) (hc1 : cond0_1 i)
    (x0 : Vec Ideal S32x4224 .f32) (x1 : Vec Ideal S4x4x128x128 .f32) (x2 : Vec Ideal S4x4x128 .f32) (x3 : Vec Ideal S4x1x4 .f32) (x4 : Vec Ideal S4x4x128x128 .f32) (x5 : Vec Ideal S1x128 .f32) (x6 : Vec Ideal S1x512 .f32) (x7 : Vec Ideal S1x512 .f32) (x8 : Vec Ideal S1x512 .f32)
    {y0 : FVec Ideal ReferenceIdeal.S1024x4104 .f32}
    {y1 : FVec Ideal ReferenceIdeal.S128x4x128x128 .f32}
    {y2 : FVec Ideal ReferenceIdeal.S128x4x128 .f32} {y3 : FVec Ideal ReferenceIdeal.S128x4 .f32}
    {y4 : FVec Ideal ReferenceIdeal.S128x4x128x128 .f32} {y5 : FVec Ideal ReferenceIdeal.S4 .f32}
    {y6 y7 : FVec Ideal ReferenceIdeal.S4x128 .f32} {y8 : FVec Ideal ReferenceIdeal.S2x512 .f32}
    {s : Fin 4} {b : Fin 128} (H : Holds s b x0 x1 x2 x3 x4 x5 x6 x7 x8 y0 y1 y2 y3 y4 y5 y6 y7 y8)
    (hb : ∀ (h : Fin 4) (t : Fin 8), IsR (bA y0 y5 b h t))
    (hi : ∀ (h : Fin 4) (t : Fin 8), IsR (iA y0 b h t))
    (h : Fin 4) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 (ix3 s (0 : Fin 1) h)
      = ReferenceIdeal.Read.val_main_v219 (F := Ideal) y0 y3 y5 (ix3 b (0 : Fin 1) h) := by
  refine (congrFun (View.read_writes_junk_eq_canon VO0_12 _) _).trans ?_
  refine (congrArg (fun L => View.canon L _) (pieces12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8)).trans ?_
  rw [← vM_eq arg2 harg2 arg5 harg5 arg7 harg7 arg14 x0 x1 x2 x3 x4 x5 x6 x7 x8 H hb hi h]
  refine Eq.trans ?_ ((canon_map_at (Val := Elt Ideal) (e := .f32) [3, 2, 1, 0] (fun s => rectM s)
    (fun s => shapeCast S1x1x4 (vM arg2 harg2 arg5 harg5 arg7 harg7 arg14 x0 x3 x5 s)
      shapeCasts_S1x4_S1x1x4) (firstM arg5 harg5 x3)
    s (mem_seqs _) (ix3 (0 : Fin 1) (0 : Fin 1) h) fun k _ hk => ?_).trans ?_)
  · exact congrArg _ (embM s h).symm
  · rw [embM]
    exact notM hk h
  · generalize vM arg2 harg2 arg5 harg5 arg7 harg7 arg14 x0 x3 x5 s = v
    pointwise []

/-- The recurrence states. -/
theorem left13 (c : Dev nD) (i : grid0.Coords) (arg2 : Memref sig .tc .vmem S32x4224 .f32) (harg2 : arg2.IsWhole) (arg3 : Memref sig .tc .vmem S4x4x128x128 .f32) (harg3 : arg3.IsWhole) (arg4 : Memref sig .tc .vmem S4x4x128 .f32) (harg4 : arg4.IsWhole) (arg5 : Memref sig .tc .vmem S4x1x4 .f32) (harg5 : arg5.IsWhole) (arg6 : Memref sig .tc .vmem S4x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S32x1024 .bf16) (harg11 : arg11.IsWhole) (arg12 : Memref sig .tc .vmem S4x4x128x128 .f32) (harg12 : arg12.IsWhole) (arg13 : Memref sig .tc .vmem S4x4x128 .f32) (harg13 : arg13.IsWhole) (arg14 : Memref sig .tc .vmem S4x1x4 .f32) (harg14 : arg14.IsWhole) (arg15 : Memref sig .tc .vmem S4x4x128x128 .f32) (harg15 : arg15.IsWhole) (hc0 : cond0_0 i) (hc1 : cond0_1 i)
    (x0 : Vec Ideal S32x4224 .f32) (x1 : Vec Ideal S4x4x128x128 .f32) (x2 : Vec Ideal S4x4x128 .f32) (x3 : Vec Ideal S4x1x4 .f32) (x4 : Vec Ideal S4x4x128x128 .f32) (x5 : Vec Ideal S1x128 .f32) (x6 : Vec Ideal S1x512 .f32) (x7 : Vec Ideal S1x512 .f32) (x8 : Vec Ideal S1x512 .f32)
    {y0 : FVec Ideal ReferenceIdeal.S1024x4104 .f32}
    {y1 : FVec Ideal ReferenceIdeal.S128x4x128x128 .f32}
    {y2 : FVec Ideal ReferenceIdeal.S128x4x128 .f32} {y3 : FVec Ideal ReferenceIdeal.S128x4 .f32}
    {y4 : FVec Ideal ReferenceIdeal.S128x4x128x128 .f32} {y5 : FVec Ideal ReferenceIdeal.S4 .f32}
    {y6 y7 : FVec Ideal ReferenceIdeal.S4x128 .f32} {y8 : FVec Ideal ReferenceIdeal.S2x512 .f32}
    {s : Fin 4} {b : Fin 128} (H : Holds s b x0 x1 x2 x3 x4 x5 x6 x7 x8 y0 y1 y2 y3 y4 y5 y6 y7 y8)
    (hf : ∀ (h : Fin 4) (t : Fin 8) (c : Fin 128), IsR (pj y0 b h 2568 t c))
    (hl : ∀ (h : Fin 4) (c : Fin 128), Unit01 (lbA y8 h c))
    (h : Fin 4) (c' e : Fin 128) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 (ix4 s h c' e)
      = ReferenceIdeal.Read.val_main_v193 (F := Ideal) y0 y4 y8 (ix4 b h c' e) := by
  refine (congrFun (View.read_writes_junk_eq_canon VO0_13 _) _).trans ?_
  refine (congrArg (fun L => View.canon L _) (pieces13 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8)).trans ?_
  refine ((canon_flips arg15 _ s h units units_nodup c' e).2 (mem_units _)).trans ?_
  rw [← vS_eq arg2 harg2 arg6 harg6 arg10 harg10 arg15 x0 x1 x2 x3 x4 x5 x6 x7 x8 H hf hl h c' e]
  rw [← unflat_apply (vS arg2 harg2 arg6 harg6 arg10 harg10 arg15 x0 x4 x8 s h)]
  refine Eq.trans ?_ (canon_map_at (Val := Elt Ideal) (e := .f32) units (fun u => rectU u.1 u.2)
    (fun u => unflat (vS arg2 harg2 arg6 harg6 arg10 harg10 arg15 x0 x4 x8 u.1 u.2)) (firstS arg6 harg6 x4)
    (s, h) (mem_units _) (ix4 (0 : Fin 1) (0 : Fin 1) e c') fun k _ hk => ?_)
  · exact congrArg _ (embU s h e c').symm
  · rw [embU]
    exact notU hk e c'

/-- The first half of the mix. -/
theorem left9A (c : Dev nD) (i : grid0.Coords) (arg2 : Memref sig .tc .vmem S32x4224 .f32) (harg2 : arg2.IsWhole) (arg3 : Memref sig .tc .vmem S4x4x128x128 .f32) (harg3 : arg3.IsWhole) (arg4 : Memref sig .tc .vmem S4x4x128 .f32) (harg4 : arg4.IsWhole) (arg5 : Memref sig .tc .vmem S4x1x4 .f32) (harg5 : arg5.IsWhole) (arg6 : Memref sig .tc .vmem S4x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S32x1024 .bf16) (harg11 : arg11.IsWhole) (arg12 : Memref sig .tc .vmem S4x4x128x128 .f32) (harg12 : arg12.IsWhole) (arg13 : Memref sig .tc .vmem S4x4x128 .f32) (harg13 : arg13.IsWhole) (arg14 : Memref sig .tc .vmem S4x1x4 .f32) (harg14 : arg14.IsWhole) (arg15 : Memref sig .tc .vmem S4x4x128x128 .f32) (harg15 : arg15.IsWhole) (hc0 : cond0_0 i) (hc1 : cond0_1 i)
    (x0 : Vec Ideal S32x4224 .f32) (x1 : Vec Ideal S4x4x128x128 .f32) (x2 : Vec Ideal S4x4x128 .f32) (x3 : Vec Ideal S4x1x4 .f32) (x4 : Vec Ideal S4x4x128x128 .f32) (x5 : Vec Ideal S1x128 .f32) (x6 : Vec Ideal S1x512 .f32) (x7 : Vec Ideal S1x512 .f32) (x8 : Vec Ideal S1x512 .f32)
    {y0 : FVec Ideal ReferenceIdeal.S1024x4104 .f32}
    {y1 : FVec Ideal ReferenceIdeal.S128x4x128x128 .f32}
    {y2 : FVec Ideal ReferenceIdeal.S128x4x128 .f32} {y3 : FVec Ideal ReferenceIdeal.S128x4 .f32}
    {y4 : FVec Ideal ReferenceIdeal.S128x4x128x128 .f32} {y5 : FVec Ideal ReferenceIdeal.S4 .f32}
    {y6 y7 : FVec Ideal ReferenceIdeal.S4x128 .f32} {y8 : FVec Ideal ReferenceIdeal.S2x512 .f32}
    {s : Fin 4} {b : Fin 128} (H : Holds s b x0 x1 x2 x3 x4 x5 x6 x7 x8 y0 y1 y2 y3 y4 y5 y6 y7 y8)
    (hb : ∀ (h : Fin 4) (t : Fin 8), IsR (bA y0 y5 b h t))
    (hi : ∀ (h : Fin 4) (t : Fin 8), IsR (iA y0 b h t))
    (h : Fin 4) (t : Fin 8) (e : Fin 128) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 (ix2 (⟨8 * s.val + t.val, by omega⟩ : Fin 32) (⟨128 * h.val + e.val, by omega⟩ : Fin 1024))
      = ReferenceIdeal.Read.val_main_v129 (F := Ideal) y0 y1 y2 y3 y5 y6 (ix4 b t h e) := by
  refine (congrFun (View.read_writes_junk_eq_canon VO0_9 _) _).trans ?_
  refine (congrArg (fun L => View.canon L _) (pieces9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8)).trans ?_
  refine (canon_map_skip (Val := Elt Ideal) (e := .bf16) units
    (fun u => rectO u.1 (512 + 128 * u.2.val) (by omega)) (fun u => vB arg2 harg2 arg6 harg6 arg9 harg9 arg10 harg10 arg15 x0 x4 x7 x8 u.1 u.2)
    (units.map (fun u => (⟨rectO u.1 (128 * u.2.val) (by omega), vA arg2 harg2 arg3 harg3 arg4 harg4 arg5 harg5 arg7 harg7 arg8 harg8 arg12 arg13 arg14 x0 x1 x2 x3 x5 x6 u.1 u.2⟩ : View.Piece (Elt Ideal) S32x1024 .bf16))) (ix2 (⟨8 * s.val + t.val, by omega⟩ : Fin 32) (⟨128 * h.val + e.val, by omega⟩ : Fin 1024))
    ?_).trans ?_
  · exact fun k _ => notHi s k.1 k.2 t (128 * h.val + e.val) (by omega)
  rw [← vA_eq arg2 harg2 arg3 harg3 arg4 harg4 arg5 harg5 arg7 harg7 arg8 harg8 arg12 arg13 arg14 x0 x1 x2 x3 x4 x5 x6 x7 x8 H hb hi h t e]
  refine Eq.trans ?_ (canon_map_at (Val := Elt Ideal) (e := .bf16) units
    (fun u => rectO u.1 (128 * u.2.val) (by omega)) (fun u => vA arg2 harg2 arg3 harg3 arg4 harg4 arg5 harg5 arg7 harg7 arg8 harg8 arg12 arg13 arg14 x0 x1 x2 x3 x5 x6 u.1 u.2) []
    (s, h) (mem_units _) (ix2 t e) fun k _ hk => ?_)
  · rw [List.append_nil]
    exact congrArg _ (embO s _ _ t e).symm
  · rw [embO]
    have := notO (h := h) (s := s) hk 0 (by omega) t e
    simpa only [Nat.zero_add] using this

/-- The second half of the mix. -/
theorem left9B (c : Dev nD) (i : grid0.Coords) (arg2 : Memref sig .tc .vmem S32x4224 .f32) (harg2 : arg2.IsWhole) (arg3 : Memref sig .tc .vmem S4x4x128x128 .f32) (harg3 : arg3.IsWhole) (arg4 : Memref sig .tc .vmem S4x4x128 .f32) (harg4 : arg4.IsWhole) (arg5 : Memref sig .tc .vmem S4x1x4 .f32) (harg5 : arg5.IsWhole) (arg6 : Memref sig .tc .vmem S4x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S32x1024 .bf16) (harg11 : arg11.IsWhole) (arg12 : Memref sig .tc .vmem S4x4x128x128 .f32) (harg12 : arg12.IsWhole) (arg13 : Memref sig .tc .vmem S4x4x128 .f32) (harg13 : arg13.IsWhole) (arg14 : Memref sig .tc .vmem S4x1x4 .f32) (harg14 : arg14.IsWhole) (arg15 : Memref sig .tc .vmem S4x4x128x128 .f32) (harg15 : arg15.IsWhole) (hc0 : cond0_0 i) (hc1 : cond0_1 i)
    (x0 : Vec Ideal S32x4224 .f32) (x1 : Vec Ideal S4x4x128x128 .f32) (x2 : Vec Ideal S4x4x128 .f32) (x3 : Vec Ideal S4x1x4 .f32) (x4 : Vec Ideal S4x4x128x128 .f32) (x5 : Vec Ideal S1x128 .f32) (x6 : Vec Ideal S1x512 .f32) (x7 : Vec Ideal S1x512 .f32) (x8 : Vec Ideal S1x512 .f32)
    {y0 : FVec Ideal ReferenceIdeal.S1024x4104 .f32}
    {y1 : FVec Ideal ReferenceIdeal.S128x4x128x128 .f32}
    {y2 : FVec Ideal ReferenceIdeal.S128x4x128 .f32} {y3 : FVec Ideal ReferenceIdeal.S128x4 .f32}
    {y4 : FVec Ideal ReferenceIdeal.S128x4x128x128 .f32} {y5 : FVec Ideal ReferenceIdeal.S4 .f32}
    {y6 y7 : FVec Ideal ReferenceIdeal.S4x128 .f32} {y8 : FVec Ideal ReferenceIdeal.S2x512 .f32}
    {s : Fin 4} {b : Fin 128} (H : Holds s b x0 x1 x2 x3 x4 x5 x6 x7 x8 y0 y1 y2 y3 y4 y5 y6 y7 y8)
    (hf : ∀ (h : Fin 4) (t : Fin 8) (c : Fin 128), IsR (pj y0 b h 2568 t c))
    (hl : ∀ (h : Fin 4) (c : Fin 128), Unit01 (lbA y8 h c))
    (h : Fin 4) (t : Fin 8) (e : Fin 128) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 (ix2 (⟨8 * s.val + t.val, by omega⟩ : Fin 32) (⟨512 + 128 * h.val + e.val, by omega⟩ : Fin 1024))
      = ReferenceIdeal.Read.val_main_v213 (F := Ideal) y0 y4 y7 y8 (ix4 b t h e) := by
  refine (congrFun (View.read_writes_junk_eq_canon VO0_9 _) _).trans ?_
  refine (congrArg (fun L => View.canon L _) (pieces9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8)).trans ?_
  rw [← vB_eq arg2 harg2 arg6 harg6 arg9 harg9 arg10 harg10 arg15 x0 x1 x2 x3 x4 x5 x6 x7 x8 H hf hl h t e]
  refine Eq.trans ?_ (canon_map_at (Val := Elt Ideal) (e := .bf16) units
    (fun u => rectO u.1 (512 + 128 * u.2.val) (by omega)) (fun u => vB arg2 harg2 arg6 harg6 arg9 harg9 arg10 harg10 arg15 x0 x4 x7 x8 u.1 u.2)
    (units.map (fun u => (⟨rectO u.1 (128 * u.2.val) (by omega), vA arg2 harg2 arg3 harg3 arg4 harg4 arg5 harg5 arg7 harg7 arg8 harg8 arg12 arg13 arg14 x0 x1 x2 x3 x5 x6 u.1 u.2⟩ : View.Piece (Elt Ideal) S32x1024 .bf16)))
    (s, h) (mem_units _) (ix2 t e) fun k _ hk => ?_)
  · exact congrArg _ (embO s _ _ t e).symm
  · rw [embO]
    exact notO (h := h) (s := s) hk 512 (by omega) t e

end Cert.Sample
-- ==== Proof.Sample.Arrays.lean ====
/-
  The sample mixer's result arrays: at every index, the reference's numbers.
-/
module

public import proofs.«01_k».proof.Proof.Sample.Host
public import proofs.«01_k».proof.Proof.Sample.Left
public import proofs.«01_k».proof.Proof.Gen.KernelIdeal.Value

@[expose] public section

noncomputable section

namespace Cert.Sample

open Idealize.ShloMosaic Idealize.ShloMosaic.TcCoe Idealize.SL.Sem Cert.KernelIdeal Cert.KernelIdeal.Gen

variable (m : (ℓ : Loc nD τ sig) → Buf (Elt Ideal) ℓ) (c : Dev nD)

/-- The sequence held at place `s` of step `t`. -/
abbrev seqOf (t : Fin grid0.N) (s : Fin 4) : Fin 128 :=
  ⟨4 * t.val + s.val, by have := t.isLt; have h : grid0.N = 32 := rfl; omega⟩

theorem row_eq (t : Fin grid0.N) (s : Fin 4) (r : Fin 8)
    (h : 32 * t.val + (8 * s.val + r.val) < 1024) :
    (⟨32 * t.val + (8 * s.val + r.val), h⟩ : Fin 1024) = rowP (seqOf t s) r :=
  Fin.ext (by show 32 * t.val + (8 * s.val + r.val) = (4 * t.val + s.val) * 8 + r.val; omega)

theorem in_lo (t : Fin grid0.N) (s : Fin 4) (r : Fin 8) (l : Fin 2048) :
    iblk m c 0 t (ix2 (⟨8 * s.val + r.val, by omega⟩ : Fin 32) (⟨l.val, by omega⟩ : Fin 4224))
      = m ((c : Thread nD τ).loc main_arg0) (ix2 (rowP (seqOf t s) r) (⟨l.val, by omega⟩ : Fin 4104)) := by
  show V m c main_v4 (((cfg0.win 0).blk t).view.emb (ix2 _ _)) = _
  rw [emb0, V_v4]
  exact (regroup_lo (F := Ideal) _ _ l).trans (by rw [row_eq])
theorem in_hi (t : Fin grid0.N) (s : Fin 4) (r : Fin 8) (l : Fin 2048) :
    iblk m c 0 t (ix2 (⟨8 * s.val + r.val, by omega⟩ : Fin 32) (⟨2048 + l.val, by omega⟩ : Fin 4224))
      = m ((c : Thread nD τ).loc main_arg0) (ix2 (rowP (seqOf t s) r) (⟨2056 + l.val, by omega⟩ : Fin 4104)) := by
  show V m c main_v4 (((cfg0.win 0).blk t).view.emb (ix2 _ _)) = _
  rw [emb0, V_v4]
  exact (regroup_hi (F := Ideal) _ _ l).trans (by rw [row_eq])
theorem in_gt (t : Fin grid0.N) (s : Fin 4) (r : Fin 8) (l : Fin 8) :
    iblk m c 0 t (ix2 (⟨8 * s.val + r.val, by omega⟩ : Fin 32) (⟨4096 + l.val, by omega⟩ : Fin 4224))
      = m ((c : Thread nD τ).loc main_arg0) (ix2 (rowP (seqOf t s) r) (⟨2048 + l.val, by omega⟩ : Fin 4104)) := by
  show V m c main_v4 (((cfg0.win 0).blk t).view.emb (ix2 _ _)) = _
  rw [emb0, V_v4]
  exact (regroup_gt (F := Ideal) _ _ l).trans (by rw [row_eq])
theorem in_C (t : Fin grid0.N) (s : Fin 4) (h : Fin 4) (d e : Fin 128) :
    iblk m c 1 t (ix4 s h d e)
      = m ((c : Thread nD τ).loc main_arg1) (ix4 (seqOf t s) h d e) := by
  show V m c main_arg1 (((cfg0.win 1).blk t).view.emb (ix4 _ _ _ _)) = _
  rw [emb1, V_main_arg1]

theorem in_n (t : Fin grid0.N) (s : Fin 4) (h : Fin 4) (d : Fin 128) :
    iblk m c 2 t (ix3 s h d)
      = m ((c : Thread nD τ).loc main_arg2) (ix3 (seqOf t s) h d) := by
  show V m c main_arg2 (((cfg0.win 2).blk t).view.emb (ix3 _ _ _)) = _
  rw [emb2, V_main_arg2]

theorem in_m (t : Fin grid0.N) (s : Fin 4) (h : Fin 4) :
    iblk m c 3 t (ix3 s (0 : Fin 1) h)
      = m ((c : Thread nD τ).loc main_arg3) (ix2 (seqOf t s) h) := by
  show V m c main_v25 (((cfg0.win 3).blk t).view.emb (ix3 _ _ _)) = _
  rw [emb3, V_v25]
  exact lane_at (F := Ideal) _ _ h
theorem in_S (t : Fin grid0.N) (s : Fin 4) (h : Fin 4) (d e : Fin 128) :
    iblk m c 4 t (ix4 s h d e)
      = m ((c : Thread nD τ).loc main_arg4) (ix4 (seqOf t s) h d e) := by
  show V m c main_arg4 (((cfg0.win 4).blk t).view.emb (ix4 _ _ _ _)) = _
  rw [emb4, V_main_arg4]

theorem in_bias (t : Fin grid0.N) (s : Fin 4) (h : Fin 4) :
    iblk m c 5 t (ix2 (0 : Fin 1) (laneF h))
      = m ((c : Thread nD τ).loc main_arg5) (ix1 h) := by
  show V m c main_v9 (((cfg0.win 5).blk t).view.emb (ix2 _ _)) = _
  rw [emb5, V_v9]
  exact biasRow_at (F := Ideal) _ h
theorem in_ga (t : Fin grid0.N) (s : Fin 4) (h : Fin 4) (e : Fin 128) :
    iblk m c 6 t (ix2 (0 : Fin 1) (⟨128 * h.val + e.val, by omega⟩ : Fin 512))
      = m ((c : Thread nD τ).loc main_arg6) (ix2 h e) := by
  show V m c main_v26 (((cfg0.win 6).blk t).view.emb (ix2 _ _)) = _
  rw [emb6, V_v26]
  exact row_at (F := Ideal) _ h e
theorem in_gb (t : Fin grid0.N) (s : Fin 4) (h : Fin 4) (e : Fin 128) :
    iblk m c 7 t (ix2 (0 : Fin 1) (⟨128 * h.val + e.val, by omega⟩ : Fin 512))
      = m ((c : Thread nD τ).loc main_arg7) (ix2 h e) := by
  show V m c main_v27 (((cfg0.win 7).blk t).view.emb (ix2 _ _)) = _
  rw [emb7, V_v27]
  exact row_at (F := Ideal) _ h e
theorem in_lb (t : Fin grid0.N) (s : Fin 4) (h : Fin 4) (e : Fin 128) :
    iblk m c 8 t (ix2 (0 : Fin 1) (⟨128 * h.val + e.val, by omega⟩ : Fin 512))
      = lbA (m ((c : Thread nD τ).loc main_arg8)) h e := by
  show V m c main_v24 (((cfg0.win 8).blk t).view.emb (ix2 _ _)) = _
  rw [emb8, V_v24]
  exact lbRow_at _ h e

/-- At every step the input windows hold the reference's arguments. -/
theorem holds (t : Fin grid0.N) (s : Fin 4) : Holds s (seqOf t s)
    (iblk m c 0 t) (iblk m c 1 t) (iblk m c 2 t) (iblk m c 3 t) (iblk m c 4 t) (iblk m c 5 t)
    (iblk m c 6 t) (iblk m c 7 t) (iblk m c 8 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) where
  lo := in_lo m c t s
  hi := in_hi m c t s
  gt := in_gt m c t s
  C := in_C m c t s
  n := in_n m c t s
  m := in_m m c t s
  S := in_S m c t s
  bias := in_bias m c t s
  ga := in_ga m c t s
  gb := in_gb m c t s
  lb := in_lb m c t s

/-- The two halves of what makes the arithmetic exact: real gates. -/
structure Gates (y0 : FVec Ideal ReferenceIdeal.S1024x4104 .f32) (y5 : FVec Ideal ReferenceIdeal.S4 .f32)
    (y8 : FVec Ideal ReferenceIdeal.S2x512 .f32) : Prop where
  b : ∀ (b : Fin 128) (h : Fin 4) (t : Fin 8), IsR (bA y0 y5 b h t)
  i : ∀ (b : Fin 128) (h : Fin 4) (t : Fin 8), IsR (iA y0 b h t)
  f : ∀ (b : Fin 128) (h : Fin 4) (t : Fin 8) (d : Fin 128), IsR (pj y0 b h 2568 t d)
  l : ∀ (h : Fin 4) (d : Fin 128), Unit01 (lbA y8 h d)

theorem flush9 : ∀ t : Fin grid0.N, (cfg0.win 9).flush t = true := by decide +kernel
theorem flush10 : ∀ t : Fin grid0.N, (cfg0.win 10).flush t = true := by decide +kernel
theorem flush11 : ∀ t : Fin grid0.N, (cfg0.win 11).flush t = true := by decide +kernel
theorem flush12 : ∀ t : Fin grid0.N, (cfg0.win 12).flush t = true := by decide +kernel
theorem flush13 : ∀ t : Fin grid0.N, (cfg0.win 13).flush t = true := by decide +kernel

variable (G : Gates (m ((c : Thread nD τ).loc main_arg0)) (m ((c : Thread nD τ).loc main_arg5)) (m ((c : Thread nD τ).loc main_arg8)))
include G

open Cert.KernelIdeal.Value

theorem C_blk (t : Fin grid0.N) (s : Fin 4) (h : Fin 4) (d e : Fin 128) :
    (dats m 0 c).arrAt 10 cfg0.N (ix4 (seqOf t s) h d e)
      = ReferenceIdeal.Read.val_main_v99 (F := Ideal) (m ((c : Thread nD τ).loc main_arg0)) (m ((c : Thread nD τ).loc main_arg1)) (m ((c : Thread nD τ).loc main_arg3)) (m ((c : Thread nD τ).loc main_arg5)) (ix4 (seqOf t s) h d e) := by
  have hk := congrFun (blocks10 m c t (by exact flush10 t)) (ix4 s h d e)
  rw [flushed10_A] at hk
  refine Eq.trans (Eq.trans ?_ hk) (left10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (hcond0_0 t) (hcond0_1 t) (iblk m c 0 t) (iblk m c 1 t) (iblk m c 2 t) (iblk m c 3 t) (iblk m c 4 t) (iblk m c 5 t) (iblk m c 6 t) (iblk m c 7 t) (iblk m c 8 t) (holds m c t s) (G.b _) (G.i _) h d e)
  exact congrArg _ (emb10 t  s h d e).symm

theorem N_blk (t : Fin grid0.N) (s : Fin 4) (h : Fin 4) (d : Fin 128) :
    (dats m 0 c).arrAt 11 cfg0.N (ix3 (seqOf t s) h d)
      = ReferenceIdeal.Read.val_main_v106 (F := Ideal) (m ((c : Thread nD τ).loc main_arg0)) (m ((c : Thread nD τ).loc main_arg2)) (m ((c : Thread nD τ).loc main_arg3)) (m ((c : Thread nD τ).loc main_arg5)) (ix3 (seqOf t s) h d) := by
  have hk := congrFun (blocks11 m c t (by exact flush11 t)) (ix3 s h d)
  rw [flushed11_A] at hk
  refine Eq.trans (Eq.trans ?_ hk) (left11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (hcond0_0 t) (hcond0_1 t) (iblk m c 0 t) (iblk m c 1 t) (iblk m c 2 t) (iblk m c 3 t) (iblk m c 4 t) (iblk m c 5 t) (iblk m c 6 t) (iblk m c 7 t) (iblk m c 8 t) (holds m c t s) (G.b _) (G.i _) h d)
  exact congrArg _ (emb11 t  s h d).symm

theorem M_blk (t : Fin grid0.N) (s : Fin 4) (h : Fin 4) :
    (dats m 0 c).arrAt 12 cfg0.N (ix3 (seqOf t s) (0 : Fin 1) h)
      = ReferenceIdeal.Read.val_main_v219 (F := Ideal) (m ((c : Thread nD τ).loc main_arg0)) (m ((c : Thread nD τ).loc main_arg3)) (m ((c : Thread nD τ).loc main_arg5)) (ix3 (seqOf t s) (0 : Fin 1) h) := by
  have hk := congrFun (blocks12 m c t (by exact flush12 t)) (ix3 s (0 : Fin 1) h)
  rw [flushed12_A] at hk
  refine Eq.trans (Eq.trans ?_ hk) (left12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (hcond0_0 t) (hcond0_1 t) (iblk m c 0 t) (iblk m c 1 t) (iblk m c 2 t) (iblk m c 3 t) (iblk m c 4 t) (iblk m c 5 t) (iblk m c 6 t) (iblk m c 7 t) (iblk m c 8 t) (holds m c t s) (G.b _) (G.i _) h)
  exact congrArg _ (emb12 t  s (0 : Fin 1) h).symm

theorem S_blk (t : Fin grid0.N) (s : Fin 4) (h : Fin 4) (d e : Fin 128) :
    (dats m 0 c).arrAt 13 cfg0.N (ix4 (seqOf t s) h d e)
      = ReferenceIdeal.Read.val_main_v193 (F := Ideal) (m ((c : Thread nD τ).loc main_arg0)) (m ((c : Thread nD τ).loc main_arg4)) (m ((c : Thread nD τ).loc main_arg8)) (ix4 (seqOf t s) h d e) := by
  have hk := congrFun (blocks13 m c t (by exact flush13 t)) (ix4 s h d e)
  rw [flushed13_A] at hk
  refine Eq.trans (Eq.trans ?_ hk) (left13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (hcond0_0 t) (hcond0_1 t) (iblk m c 0 t) (iblk m c 1 t) (iblk m c 2 t) (iblk m c 3 t) (iblk m c 4 t) (iblk m c 5 t) (iblk m c 6 t) (iblk m c 7 t) (iblk m c 8 t) (holds m c t s) (G.f _) G.l h d e)
  exact congrArg _ (emb13 t  s h d e).symm

theorem mixA_blk (t : Fin grid0.N) (s : Fin 4) (h : Fin 4) (r : Fin 8) (d : Fin 128) :
    (dats m 0 c).arrAt 9 cfg0.N (ix2 (rowP (seqOf t s) r) (⟨128 * h.val + d.val, by omega⟩ : Fin 1024))
      = ReferenceIdeal.Read.val_main_v218 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (rowP (seqOf t s) r) (⟨128 * h.val + d.val, by omega⟩ : Fin 1024)) := by
  have hk := congrFun (blocks9 m c t (by exact flush9 t))
    (ix2 (⟨8 * s.val + r.val, by omega⟩ : Fin 32) (⟨128 * h.val + d.val, by omega⟩ : Fin 1024))
  rw [flushed9_A] at hk
  refine Eq.trans (Eq.trans ?_ hk) ((left9A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (hcond0_0 t) (hcond0_1 t) (iblk m c 0 t) (iblk m c 1 t) (iblk m c 2 t) (iblk m c 3 t) (iblk m c 4 t) (iblk m c 5 t) (iblk m c 6 t) (iblk m c 7 t) (iblk m c 8 t) (holds m c t s) (G.b _) (G.i _) h r d).trans
    ((congrArg _ (congrArg (ix2 _) (Fin.ext ?_))).trans (v218_A (b := seqOf t s) (h := h) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) r d)).symm)
  · refine congrArg _ (Eq.trans ?_ (emb9 t (⟨8 * s.val + r.val, by omega⟩ : Fin 32) (⟨128 * h.val + d.val, by omega⟩ : Fin 1024)).symm)
    exact congrArg (fun k => ix2 k (⟨128 * h.val + d.val, by omega⟩ : Fin 1024)) (row_eq t s r _).symm
  · show 128 * h.val + d.val = h.val * 128 + d.val
    omega

theorem mixB_blk (t : Fin grid0.N) (s : Fin 4) (h : Fin 4) (r : Fin 8) (d : Fin 128) :
    (dats m 0 c).arrAt 9 cfg0.N (ix2 (rowP (seqOf t s) r) (⟨512 + 128 * h.val + d.val, by omega⟩ : Fin 1024))
      = ReferenceIdeal.Read.val_main_v218 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (rowP (seqOf t s) r) (⟨512 + 128 * h.val + d.val, by omega⟩ : Fin 1024)) := by
  have hk := congrFun (blocks9 m c t (by exact flush9 t))
    (ix2 (⟨8 * s.val + r.val, by omega⟩ : Fin 32) (⟨512 + 128 * h.val + d.val, by omega⟩ : Fin 1024))
  rw [flushed9_A] at hk
  refine Eq.trans (Eq.trans ?_ hk) ((left9B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (hcond0_0 t) (hcond0_1 t) (iblk m c 0 t) (iblk m c 1 t) (iblk m c 2 t) (iblk m c 3 t) (iblk m c 4 t) (iblk m c 5 t) (iblk m c 6 t) (iblk m c 7 t) (iblk m c 8 t) (holds m c t s) (G.f _) G.l h r d).trans
    ((congrArg _ (congrArg (ix2 _) (Fin.ext ?_))).trans (v218_B (b := seqOf t s) (h := h) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) r d)).symm)
  · refine congrArg _ (Eq.trans ?_ (emb9 t (⟨8 * s.val + r.val, by omega⟩ : Fin 32) (⟨512 + 128 * h.val + d.val, by omega⟩ : Fin 1024)).symm)
    exact congrArg (fun k => ix2 k (⟨512 + 128 * h.val + d.val, by omega⟩ : Fin 1024)) (row_eq t s r _).symm
  · show 512 + 128 * h.val + d.val = 512 + (h.val * 128 + d.val)
    omega

omit G in
/-- Every sequence is held at some place of some step. -/
theorem seq_cases (b : Fin 128) : ∃ t s, b = seqOf t s :=
  ⟨⟨b.val / 4, by have h : grid0.N = 32 := rfl; omega⟩, ⟨b.val % 4, by omega⟩,
    Fin.ext (by show b.val = 4 * (b.val / 4) + b.val % 4; omega)⟩

theorem C_arr : (dats m 0 c).arrAt 10 cfg0.N
    = ReferenceIdeal.Read.val_main_v99 (F := Ideal) (m ((c : Thread nD τ).loc main_arg0)) (m ((c : Thread nD τ).loc main_arg1)) (m ((c : Thread nD τ).loc main_arg3)) (m ((c : Thread nD τ).loc main_arg5)) := by
  refine funext fun j => ?_
  refine (congrArg _ (ValueIdx.eq_ix4 (n0 := 128) j)).trans
    (Eq.trans ?_ (congrArg _ (ValueIdx.eq_ix4 (n0 := 128) j)).symm)
  obtain ⟨t, s, hb⟩ := seq_cases (j 0)
  rw [hb]
  exact C_blk m c G t s (j 1) (j 2) (j 3)

theorem N_arr : (dats m 0 c).arrAt 11 cfg0.N
    = ReferenceIdeal.Read.val_main_v106 (F := Ideal) (m ((c : Thread nD τ).loc main_arg0)) (m ((c : Thread nD τ).loc main_arg2)) (m ((c : Thread nD τ).loc main_arg3)) (m ((c : Thread nD τ).loc main_arg5)) := by
  refine funext fun j => ?_
  refine (congrArg _ (ValueIdx.eq_ix3 (n0 := 128) j)).trans
    (Eq.trans ?_ (congrArg _ (ValueIdx.eq_ix3 (n0 := 128) j)).symm)
  obtain ⟨t, s, hb⟩ := seq_cases (j 0)
  rw [hb]
  exact N_blk m c G t s (j 1) (j 2)

theorem M_arr : (dats m 0 c).arrAt 12 cfg0.N
    = ReferenceIdeal.Read.val_main_v219 (F := Ideal) (m ((c : Thread nD τ).loc main_arg0)) (m ((c : Thread nD τ).loc main_arg3)) (m ((c : Thread nD τ).loc main_arg5)) := by
  refine funext fun j => ?_
  refine (congrArg _ (ValueIdx.eq_ix3 (n0 := 128) j)).trans
    (Eq.trans ?_ (congrArg _ (ValueIdx.eq_ix3 (n0 := 128) j)).symm)
  obtain ⟨t, s, hb⟩ := seq_cases (j 0)
  have h1 : j 1 = (0 : Fin 1) := Subsingleton.elim (α := Fin 1) _ _
  rw [hb, h1]
  exact M_blk m c G t s (j 2)

theorem S_arr : (dats m 0 c).arrAt 13 cfg0.N
    = ReferenceIdeal.Read.val_main_v193 (F := Ideal) (m ((c : Thread nD τ).loc main_arg0)) (m ((c : Thread nD τ).loc main_arg4)) (m ((c : Thread nD τ).loc main_arg8)) := by
  refine funext fun j => ?_
  refine (congrArg _ (ValueIdx.eq_ix4 (n0 := 128) j)).trans
    (Eq.trans ?_ (congrArg _ (ValueIdx.eq_ix4 (n0 := 128) j)).symm)
  obtain ⟨t, s, hb⟩ := seq_cases (j 0)
  rw [hb]
  exact S_blk m c G t s (j 1) (j 2) (j 3)

theorem mix_at (a l : Fin 1024) : (dats m 0 c).arrAt 9 cfg0.N (ix2 a l)
    = ReferenceIdeal.Read.val_main_v218 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 a l) := by
  obtain ⟨t, s, hb⟩ := seq_cases ⟨a.val / 8, by omega⟩
  have hb' : a.val / 8 = 4 * t.val + s.val := congrArg Fin.val hb
  have ha : a = rowP (seqOf t s) ⟨a.val % 8, by omega⟩ :=
    Fin.ext (by show a.val = (4 * t.val + s.val) * 8 + a.val % 8; omega)
  rw [ha]
  rcases Nat.lt_or_ge l.val 512 with hl | hl
  · have e := mixA_blk m c G t s ⟨l.val / 128, by omega⟩ ⟨a.val % 8, by omega⟩ ⟨l.val % 128, by omega⟩
    have hi : (⟨128 * (l.val / 128) + l.val % 128, by omega⟩ : Fin 1024) = l :=
      Fin.ext (by show 128 * (l.val / 128) + l.val % 128 = l.val; omega)
    rw [hi] at e
    exact e
  · have e := mixB_blk m c G t s ⟨(l.val - 512) / 128, by omega⟩ ⟨a.val % 8, by omega⟩
      ⟨(l.val - 512) % 128, by omega⟩
    have hi : (⟨512 + 128 * ((l.val - 512) / 128) + (l.val - 512) % 128, by omega⟩ : Fin 1024) = l :=
      Fin.ext (by show 512 + 128 * ((l.val - 512) / 128) + (l.val - 512) % 128 = l.val; omega)
    rw [hi] at e
    exact e
theorem mix_arr : (dats m 0 c).arrAt 9 cfg0.N
    = ReferenceIdeal.Read.val_main_v218 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine funext fun j => ?_
  refine (congrArg _ (ValueIdx.eq_ix2 (n0 := 1024) (n1 := 1024) j)).trans
    (Eq.trans ?_ (congrArg _ (ValueIdx.eq_ix2 (n0 := 1024) (n1 := 1024) j)).symm)
  exact mix_at m c G (j 0) (j 1)

end Cert.Sample
-- ==== Proof.Sample.Finite.lean ====
/-
  What the precondition gives: every entry of the projection, of the forget bias and of the logits is
  a real number, hence so are the gates, and the forget floor lies strictly between zero and one.
-/
module

public import proofs.«01_k».proof.Proof.Sample.Arrays
public import proofs.«01_k».proof.Pre_finite_gates
public import Idealize.ShloMosaic.Lib.ReduceAll
public import Idealize.ShloMosaic.Lib.Affine
public import Idealize.ShloMosaic.Lib.Pointwise.Select

@[expose] public section

noncomputable section

namespace Cert.Sample

open Idealize.ShloMosaic

/-- The shapes the precondition names. -/
instance preFacts : Cert.Pre_finite_gates.Facts where
  bcast_S_S1024x4104 := by decide
  reducesTo_S1024x4104_S_d0_1 := by decide
  h_S_ := by decide
  bcast_S_S4 := by decide
  reducesTo_S4_S_d0 := by decide
  bcast_S_S2x512 := by decide
  reducesTo_S2x512_S_d0_1 := by decide

/-- An entry below infinity in absolute value is a real number. -/
theorem isR_of_lt (x : EReal)
    (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  have hlt : max x (-x) < ⊤ := (Ideal.cmp_olt_eq_one _ _).mp h
  rw [max_lt_iff] at hlt
  induction x with
  | bot => exact absurd hlt.2 (by simp)
  | top => exact absurd hlt.1 (by simp)
  | coe r => exact ⟨r, rfl⟩

variable (x0 : FVec Ideal Cert.Pre_finite_gates.S1024x4104 .f32)
  (x1 : FVec Ideal Cert.Pre_finite_gates.S128x4x128x128 .f32)
  (x2 : FVec Ideal Cert.Pre_finite_gates.S128x4x128 .f32)
  (x3 : FVec Ideal Cert.Pre_finite_gates.S128x4 .f32)
  (x4 : FVec Ideal Cert.Pre_finite_gates.S128x4x128x128 .f32)
  (x5 : FVec Ideal Cert.Pre_finite_gates.S4 .f32)
  (x6 x7 : FVec Ideal Cert.Pre_finite_gates.S4x128 .f32)
  (x8 : FVec Ideal Cert.Pre_finite_gates.S2x512 .f32)

/-- The precondition, read entry by entry. -/
theorem pre_real (h : Cert.Pre_finite_gates.fn (F := Ideal) x0 x1 x2 x3 x4 x5 x6 x7 x8 = fun _ => 1#1) :
    (∀ i, IsR (x0 i)) ∧ (∀ i, IsR (x5 i)) ∧ ∀ i, IsR (x8 i) := by
  have e := congrFun h (fun a => a.elim0)
  obtain ⟨e01, e2⟩ := IntOp.andi_eq_one.mp e
  obtain ⟨e0, e1⟩ := IntOp.andi_eq_one.mp e01
  haveI : Subsingleton Cert.Pre_finite_gates.S_.Idx := ⟨fun a b => funext fun k => k.elim0⟩
  exact ⟨fun i => isR_of_lt _ (Host.reduce_andi_all _ _ _ _ _ e0 i),
    fun i => isR_of_lt _ (Host.reduce_andi_all _ _ _ _ _ e1 i),
    fun i => isR_of_lt _ (Host.reduce_andi_all _ _ _ _ _ e2 i)⟩

/-- Under the precondition the gates are real. -/
theorem gates_of_pre
    (h : Cert.Pre_finite_gates.fn (F := Ideal) x0 x1 x2 x3 x4 x5 x6 x7 x8 = fun _ => 1#1) :
    Gates x0 x5 x8 := by
  obtain ⟨h0, h5, h8⟩ := pre_real x0 x1 x2 x3 x4 x5 x6 x7 x8 h
  exact ⟨fun b h t => isR_cum (fun s => isR_lgs ((h0 _).add (h5 _))) t, fun b h t => h0 _,
    fun b h t d => h0 _, fun h d => lb_unit _ _ (fun r c => h8 _) d⟩

end Cert.Sample

end
-- ==== Proof.Sample.Algebraic.lean ====
/-
  The kernel and the reference give the same five results: both hold the reference's values of the
  arguments.
-/
module

public import proofs.«01_k».proof.Defs
public import proofs.«01_k».proof.Proof.Sample.Finite
public import proofs.«01_k».proof.Proof.Gen.ReferenceIdeal.Run

@[expose] public section

noncomputable section

namespace Cert.Sample

open Cert.KernelIdeal Cert.KernelIdeal.Gen Idealize.ShloMosaic Idealize.ShloMosaic.TcCoe Idealize.SL.Sem
open Idealize.ShloMosaic.StableHlo
open Cert.ReferenceIdeal.Read (val_main_v218 val_main_v99 val_main_v106 val_main_v219 val_main_v193
  val_main_v218_eq val_main_v99_eq val_main_v106_eq val_main_v219_eq val_main_v193_eq)

/-- The two programs agree on all five results wherever the gates are finite. -/
theorem algebraic :
    Cert.algebraic_KernelIdeal_ReferenceIdeal_pre_finite_gates (hKernelIdeal := Cert.KernelIdeal.Gen.facts)
      (hReferenceIdeal := Cert.ReferenceIdeal.Gen.facts) (hPre_finite_gates := preFacts) := by
  intro m g m' g' hpre hargs
  refine ⟨fun c => val_main_v218 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)),
    fun c => val_main_v99 (F := Ideal) (m (c.tc.loc main_arg0)) (m (c.tc.loc main_arg1)) (m (c.tc.loc main_arg3)) (m (c.tc.loc main_arg5)),
    fun c => val_main_v106 (F := Ideal) (m (c.tc.loc main_arg0)) (m (c.tc.loc main_arg2)) (m (c.tc.loc main_arg3)) (m (c.tc.loc main_arg5)),
    fun c => val_main_v219 (F := Ideal) (m (c.tc.loc main_arg0)) (m (c.tc.loc main_arg3)) (m (c.tc.loc main_arg5)),
    fun c => val_main_v193 (F := Ideal) (m (c.tc.loc main_arg0)) (m (c.tc.loc main_arg4)) (m (c.tc.loc main_arg8)), ?_, ?_⟩
  · refine (θ_run Cert.KernelIdeal.defs _ _).mono (fun r h c => ?_) (Cert.KernelIdeal.Value.run_blocks (F := Ideal) m g)
    have G := gates_of_pre _ _ _ _ _ _ _ _ _ (hpre c)
    obtain ⟨h0, h1, h2, h3, h4, hk⟩ := h c
    exact ⟨h0.trans (mix_arr m c G), h1.trans (C_arr m c G), h2.trans (N_arr m c G),
      h3.trans (M_arr m c G), h4.trans (S_arr m c G), hk⟩
  · refine (θ_run Cert.ReferenceIdeal.defs _ _).mono (fun r h c => ?_) (Cert.ReferenceIdeal.Value.run (F := Ideal) m' g')
    obtain ⟨h0, h1, h2, h3, h4, hk⟩ := h c
    obtain ⟨a0, a1, a2, a3, a4, a5, a6, a7, a8⟩ := hargs c
    have e0 := h0.trans (val_main_v218_eq (F := Ideal) (launchContents m' c))
    have e1 := h1.trans (val_main_v99_eq (F := Ideal) (launchContents m' c))
    have e2 := h2.trans (val_main_v106_eq (F := Ideal) (launchContents m' c))
    have e3 := h3.trans (val_main_v219_eq (F := Ideal) (launchContents m' c))
    have e4 := h4.trans (val_main_v193_eq (F := Ideal) (launchContents m' c))
    have f0 : val_main_v218 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8))
        = val_main_v218 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) := by
      rw [a0, a1, a2, a3, a4, a5, a6, a7, a8]
    have f1 : val_main_v99 (F := Ideal) (m' (c.tc.loc Cert.ReferenceIdeal.main_arg0)) (m' (c.tc.loc Cert.ReferenceIdeal.main_arg1)) (m' (c.tc.loc Cert.ReferenceIdeal.main_arg3)) (m' (c.tc.loc Cert.ReferenceIdeal.main_arg5))
        = val_main_v99 (F := Ideal) (m (c.tc.loc main_arg0)) (m (c.tc.loc main_arg1)) (m (c.tc.loc main_arg3)) (m (c.tc.loc main_arg5)) := by
      rw [a0, a1, a3, a5]
    have f2 : val_main_v106 (F := Ideal) (m' (c.tc.loc Cert.ReferenceIdeal.main_arg0)) (m' (c.tc.loc Cert.ReferenceIdeal.main_arg2)) (m' (c.tc.loc Cert.ReferenceIdeal.main_arg3)) (m' (c.tc.loc Cert.ReferenceIdeal.main_arg5))
        = val_main_v106 (F := Ideal) (m (c.tc.loc main_arg0)) (m (c.tc.loc main_arg2)) (m (c.tc.loc main_arg3)) (m (c.tc.loc main_arg5)) := by
      rw [a0, a2, a3, a5]
    have f3 : val_main_v219 (F := Ideal) (m' (c.tc.loc Cert.ReferenceIdeal.main_arg0)) (m' (c.tc.loc Cert.ReferenceIdeal.main_arg3)) (m' (c.tc.loc Cert.ReferenceIdeal.main_arg5))
        = val_main_v219 (F := Ideal) (m (c.tc.loc main_arg0)) (m (c.tc.loc main_arg3)) (m (c.tc.loc main_arg5)) := by
      rw [a0, a3, a5]
    have f4 : val_main_v193 (F := Ideal) (m' (c.tc.loc Cert.ReferenceIdeal.main_arg0)) (m' (c.tc.loc Cert.ReferenceIdeal.main_arg4)) (m' (c.tc.loc Cert.ReferenceIdeal.main_arg8))
        = val_main_v193 (F := Ideal) (m (c.tc.loc main_arg0)) (m (c.tc.loc main_arg4)) (m (c.tc.loc main_arg8)) := by
      rw [a0, a4, a8]
    exact ⟨e0.trans f0, e1.trans f1, e2.trans f2, e3.trans f3, e4.trans f4, hk⟩

end Cert.Sample

end
-- ==== Proof.Ffn.Math.lean ====
/-
  The mathematics of the layer's row-wise calls over extended reals: a row's normalisation, and the
  feed-forward network of one sequence of eight time steps.
-/
module

public import Idealize.ShloMosaic.Lib.Pointwise
public import Mathlib.Analysis.SpecialFunctions.Pow.Real

@[expose] public section

noncomputable section

namespace Cert.Ffn

open Idealize.ShloMosaic

/-- A row's mean. -/
def mean (x : Fin 1024 → EReal) : EReal := Ideal.div (∑ k, x k) (Ideal.ofBits .f32 0x44800000#32)

/-- A row normalised, scaled and shifted. -/
def nrm (x g b : Fin 1024 → EReal) (l : Fin 1024) : EReal :=
  (x l - mean x) * Ideal.rsqrt (Ideal.div (∑ k, (x k - mean x) * (x k - mean x))
    (Ideal.ofBits .f32 0x44800000#32) + Ideal.ofBits .f32 0x3727C5AC#32) * g l + b l

/-- The gate's activation. -/
def silu (x : EReal) : EReal :=
  x * Ideal.div (Ideal.ofBits .f32 0x3F800000#32) (Ideal.ofBits .f32 0x3F800000#32 + Ideal.exp (-x))

/-- A sequence's two past rows followed by its eight new ones. -/
def full (cs : Fin 2 → Fin 2816 → EReal) (u : Fin 8 → Fin 2816 → EReal) (p : Fin 10) (j : Fin 2816) :
    EReal :=
  if h : p.val < 2 then cs ⟨p.val, h⟩ j else u ⟨p.val - 2, by omega⟩ j

/-- The causal convolution of width three. -/
def conv (cs : Fin 2 → Fin 2816 → EReal) (u : Fin 8 → Fin 2816 → EReal)
    (wc : Fin 3 → Fin 2816 → EReal) (bc : Fin 2816 → EReal) (t : Fin 8) (j : Fin 2816) : EReal :=
  bc j + full cs u ⟨t.val, by omega⟩ j * wc 0 j + full cs u ⟨1 + t.val, by omega⟩ j * wc 1 j
    + full cs u ⟨2 + t.val, by omega⟩ j * wc 2 j

/-- The same with the current row's product added first. -/
theorem conv_eq (cs : Fin 2 → Fin 2816 → EReal) (u : Fin 8 → Fin 2816 → EReal)
    (wc : Fin 3 → Fin 2816 → EReal) (bc : Fin 2816 → EReal) (t : Fin 8) (j : Fin 2816) :
    bc j + u t j * wc 2 j + full cs u ⟨t.val, by omega⟩ j * wc 0 j
        + full cs u ⟨1 + t.val, by omega⟩ j * wc 1 j
      = conv cs u wc bc t j := by
  have h : full cs u ⟨2 + t.val, by omega⟩ j = u t j := by
    unfold full
    rw [dif_neg (by show ¬ 2 + t.val < 2; omega)]
    exact congrArg (fun k => u k j) (Fin.ext (by show 2 + t.val - 2 = t.val; omega))
  unfold conv
  rw [h]
  ac_rfl

/-- A row entering the last normalisation: the residual and the gated product's projection. -/
def res (x : Fin 1024 → EReal) (a : Fin 2816 → EReal) (wd : Fin 2816 → Fin 1024 → EReal)
    (bd : Fin 1024 → EReal) (l : Fin 1024) : EReal :=
  Ideal.ofBits .f32 0x3F9837F0#32 * x l + (∑ j, a j * wd j l + bd l)

end Cert.Ffn

end

end
-- ==== Proof.Ffn.Payload.lean ====
/-
  The feed-forward kernel's pure values read at an index over extended reals.
-/
module

public import proofs.«01_k».proof.Proof.Ffn.Math
public import proofs.«01_k».proof.Proof.Gen.Kernel2Ideal.Frame

@[expose] public section

noncomputable section

namespace Cert.Ffn

open Idealize.ShloMosaic Idealize.SL.Sem Cert.Kernel2Ideal Cert.Kernel2Ideal.Gen

variable (v3 : Vec Ideal S256x1024 .f32) (v5 : Vec Ideal S1024x5632 .bf16) (v8 : Vec Ideal S1x5632 .f32)

/-- Time step `t` of the sequence at place `s`. -/
abbrev row (s : Fin 32) (t : Fin 8) : Fin 256 := ⟨s.val * 8 + t.val, by omega⟩

theorem up_apply (r : Fin 256) (l : Fin 5632) :
    k0_pay3 (F := Ideal) v3 v5 v8 (ix2 r l)
      = ∑ k : Fin 1024, v3 (ix2 r k) * v5 (ix2 k l) + v8 (ix2 (0 : Fin 1) l) := by
  pointwise [k0_pay3]

theorem u_apply (s : Fin 32) (t : Fin 8) (j : Fin 2816) :
    k0_pay4 (F := Ideal) v3 v5 v8 (ix3 s t j)
      = k0_pay3 (F := Ideal) v3 v5 v8 (ix2 (row s t) (⟨j.val, by omega⟩ : Fin 5632)) := by
  unfold k0_pay4
  generalize k0_pay3 (F := Ideal) v3 v5 v8 = y
  pointwise []

theorem gate_apply (s : Fin 32) (t : Fin 8) (j : Fin 2816) :
    k0_pay5 (F := Ideal) v3 v5 v8 (ix3 s t j)
      = k0_pay3 (F := Ideal) v3 v5 v8 (ix2 (row s t) (⟨2816 + j.val, by omega⟩ : Fin 5632)) := by
  unfold k0_pay5
  generalize k0_pay3 (F := Ideal) v3 v5 v8 = y
  pointwise []

theorem stored_eq : k0_pay6 (F := Ideal) v3 v5 v8 = k0_pay4 (F := Ideal) v3 v5 v8 :=
  shapeCast_self _ _

theorem first_apply (v19 : Vec Ideal S1x2816 .f32) (v21 : Vec Ideal S1x2816 .f32)
    (v28 : Vec Ideal S32x8x2816 .f32) (v29 : Vec Ideal S1x2816 .f32) (s : Fin 32) (t : Fin 8)
    (j : Fin 2816) :
    k0_pay7 (F := Ideal) v3 v5 v8 v19 v21 v28 v29 (ix3 s t j)
      = v19 (ix2 (0 : Fin 1) j) + k0_pay4 (F := Ideal) v3 v5 v8 (ix3 s t j) * v21 (ix2 (0 : Fin 1) j)
        + v28 (ix3 s t j) * v29 (ix2 (0 : Fin 1) j) := by
  unfold k0_pay7
  generalize k0_pay4 (F := Ideal) v3 v5 v8 = y
  pointwise []

theorem res_apply (v15 v33 v34 : Vec Ideal S32x8x2816 .f32) (v35 : Vec Ideal S1x2816 .f32)
    (v56 : Vec Ideal S2816x1024 .bf16) (v59 : Vec Ideal S1x1024 .f32) (s : Fin 32) (t : Fin 8)
    (l : Fin 1024) :
    k0_pay9 (F := Ideal) v3 v15 v33 v34 v35 v56 v59 (ix2 (row s t) l)
      = res (fun k => v3 (ix2 (row s t) k))
          (fun j => silu (v33 (ix3 s t j) + v34 (ix3 s t j) * v35 (ix2 (0 : Fin 1) j)) * v15 (ix3 s t j))
          (fun j k => v56 (ix2 j k)) (fun k => v59 (ix2 (0 : Fin 1) k)) l := by
  have hs : (⟨(s.val * 8 + t.val) / 8, by omega⟩ : Fin 32) = s := Fin.ext (by show (s.val * 8 + t.val) / 8 = s.val; omega)
  have ht : (⟨(s.val * 8 + t.val) % 8, by omega⟩ : Fin 8) = t := Fin.ext (by show (s.val * 8 + t.val) % 8 = t.val; omega)
  pointwise [k0_pay9, res, silu]
  simp only [hs, ht, zero_sub]

theorem nrm_apply (v65 : Vec Ideal S256x1024 .f32) (v67 v68 : Vec Ideal S1x1024 .f32) (r : Fin 256)
    (l : Fin 1024) :
    k0_pay1 (F := Ideal) v65 v67 v68 (ix2 r l)
      = nrm (fun k => v65 (ix2 r k)) (fun k => v67 (ix2 (0 : Fin 1) k))
          (fun k => v68 (ix2 (0 : Fin 1) k)) l := by
  pointwise [k0_pay1, nrm, mean]

end Cert.Ffn

end

end
-- ==== Proof.Ffn.Pieces.lean ====
/-
  One grid step of the feed-forward kernel: the vectors it loads, what its scratch holds, and the two
  stores it makes.
-/
module

public import proofs.«01_k».proof.Proof.Gen.Kernel2Ideal.Frame
public import Idealize.ShloMosaic.Lib.Pointwise

@[expose] public section

noncomputable section

namespace Cert.Ffn

open Idealize.ShloMosaic Idealize.SL.Sem Cert.Kernel2Ideal Cert.Kernel2Ideal.Gen

variable {F : FTy → Type} [FloatOps F]

/-- A load of a whole buffer. -/
abbrev all {S : Shape} {e : EltTy} (a : Memref sig .tc .vmem S e) (ha : a.IsWhole)
    (x : S.Idx → Elt F e) {off : Fin S.rank → Nat} (inb : ∀ a, off a + S.size a ≤ S.size a) :
    S.Idx → Elt F e :=
  View.readAt (Elt F) a.view (Rect.unit off S.size inb).toLoadRect (ha.unread x)

/-- A load of a whole buffer is what it holds. -/
theorem all_eq {S : Shape} {e : EltTy} (a : Memref sig .tc .vmem S e) (ha : a.IsWhole)
    (x : S.Idx → Elt F e) {off : Fin S.rank → Nat} (inb : ∀ a, off a + S.size a ≤ S.size a)
    (h : ∀ a, off a = 0) : all a ha x inb = x := by
  unfold all
  rw [View.readAt_eq_ld, ha.read_unread]
  exact funext fun j => congrArg x (funext fun a => Fin.ext (by
    show off a + 1 * (j a).val = (j a).val
    rw [h a]; omega))

/-- The convolution's weights at tap `o`. -/
abbrev tap (a : Memref sig .tc .vmem S3x2816 .f32) (ha : a.IsWhole) (x : Vec F S3x2816 .f32) (o : Nat)
    (inb : ∀ a, (![o, 0] : Fin 2 → Nat) a + S1x2816.size a ≤ S3x2816.size a) : Vec F S1x2816 .f32 :=
  View.readAt (Elt F) a.view (Rect.unit (s := S3x2816) ![o, 0] S1x2816.size inb).toLoadRect (ha.unread x)

theorem tap_apply (a : Memref sig .tc .vmem S3x2816 .f32) (ha : a.IsWhole) (x : Vec F S3x2816 .f32)
    (o : Fin 3) (inb : ∀ a, (![o.val, 0] : Fin 2 → Nat) a + S1x2816.size a ≤ S3x2816.size a)
    (j : Fin 2816) : tap a ha x o.val inb (ix2 (0 : Fin 1) j) = x (ix2 o j) := by
  unfold tap
  rw [View.readAt_eq_ld, ha.read_unread]
  exact congrArg x (funext fun a => match a with
    | ⟨0, _⟩ => Fin.ext (by show o.val + 1 * 0 = o.val; omega)
    | ⟨1, _⟩ => Fin.ext (by show 0 + 1 * j.val = j.val; omega))

/-- The scratch: the incoming rows at six and seven, then the new rows from eight. -/
abbrev scratch (cs : FVec F S32x2x2816 .f32) (u : FVec F S32x8x2816 .f32) :
    List (View.Piece (Elt F) S32x16x2816 .f32) :=
  [⟨Rect.unit ![0, 8, 0] S32x8x2816.size inb_S32x16x2816_S32x8x2816_0_8_0, u⟩,
   ⟨Rect.unit ![0, 6, 0] S32x2x2816.size inb_S32x16x2816_S32x2x2816_0_6_0, cs⟩]

section
variable (c : Dev nD) (i : grid0.Coords) (arg2 : Memref sig .tc .vmem S256x1024 .f32) (harg2 : arg2.IsWhole) (arg3 : Memref sig .tc .vmem S32x2x2816 .f32) (harg3 : arg3.IsWhole) (arg4 : Memref sig .tc .vmem S1024x5632 .bf16) (harg4 : arg4.IsWhole) (arg5 : Memref sig .tc .vmem S1x5632 .f32) (harg5 : arg5.IsWhole) (arg6 : Memref sig .tc .vmem S3x2816 .f32) (harg6 : arg6.IsWhole) (arg7 : Memref sig .tc .vmem S1x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S32x2x2816 .f32) (harg13 : arg13.IsWhole) (arg14 : Memref sig .tc .vmem S32x16x2816 .f32) (harg14 : arg14.IsWhole) (hc0 : cond0_0 i)
    (x0 : Vec F S256x1024 .f32) (x1 : Vec F S32x2x2816 .f32) (x2 : Vec F S1024x5632 .bf16) (x3 : Vec F S1x5632 .f32) (x4 : Vec F S3x2816 .f32) (x5 : Vec F S1x2816 .f32) (x6 : Vec F S2816x1024 .bf16) (x7 : Vec F S1x1024 .f32) (x8 : Vec F S1x1024 .f32) (x9 : Vec F S1x1024 .f32)

/-- The scratch after both stores. -/
abbrev scr : List (View.Piece (Elt F) S32x16x2816 .f32) :=
  scratch (k0_pay2 (all arg3 harg3 x1 inb_S32x2x2816_S32x2x2816_0_0_0))
    (k0_pay6 (all arg2 harg2 x0 inb_S256x1024_S256x1024_0_0)
      (all arg4 harg4 x2 inb_S1024x5632_S1024x5632_0_0) (all arg5 harg5 x3 inb_S1x5632_S1x5632_0_0))

/-- The last two rows, read back. -/
abbrev tail : FVec F S32x2x2816 .f32 :=
  arg14.view.readCov (scr arg2 harg2 arg3 harg3 arg4 harg4 arg5 harg5 x0 x1 x2 x3)
    (Rect.unit (s := S32x16x2816) ![0, 14, 0] S32x2x2816.size inb_S32x16x2816_S32x2x2816_0_14_0).toLoadRect

/-- The rows entering the normalisation. -/
abbrev resid : FVec F S256x1024 .f32 :=
  k0_pay9 (all arg2 harg2 x0 inb_S256x1024_S256x1024_0_0)
    (k0_pay5 (all arg2 harg2 x0 inb_S256x1024_S256x1024_0_0)
      (all arg4 harg4 x2 inb_S1024x5632_S1024x5632_0_0) (all arg5 harg5 x3 inb_S1x5632_S1x5632_0_0))
    (k0_pay7 (all arg2 harg2 x0 inb_S256x1024_S256x1024_0_0)
      (all arg4 harg4 x2 inb_S1024x5632_S1024x5632_0_0) (all arg5 harg5 x3 inb_S1x5632_S1x5632_0_0)
      (all arg7 harg7 x5 inb_S1x2816_S1x2816_0_0)
      (tap arg6 harg6 x4 2 inb_S3x2816_S1x2816_2_0)
      (arg14.view.readCov (scr arg2 harg2 arg3 harg3 arg4 harg4 arg5 harg5 x0 x1 x2 x3)
        (Rect.unit (s := S32x16x2816) ![0, 6, 0] S32x8x2816.size inb_S32x16x2816_S32x8x2816_0_6_0).toLoadRect)
      (tap arg6 harg6 x4 0 inb_S3x2816_S1x2816_0_0))
    (arg14.view.readCov (scr arg2 harg2 arg3 harg3 arg4 harg4 arg5 harg5 x0 x1 x2 x3)
      (Rect.unit (s := S32x16x2816) ![0, 7, 0] S32x8x2816.size inb_S32x16x2816_S32x8x2816_0_7_0).toLoadRect)
    (tap arg6 harg6 x4 1 inb_S3x2816_S1x2816_1_0)
    (all arg8 harg8 x6 inb_S2816x1024_S2816x1024_0_0) (all arg9 harg9 x7 inb_S1x1024_S1x1024_0_0)

/-- The store of the normalised rows. -/
theorem pieces10 : (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1
    = [⟨Rect.unit ![0, 0] S256x1024.size inb_S256x1024_S256x1024_0_0,
        k0_pay1 (resid arg2 harg2 arg3 harg3 arg4 harg4 arg5 harg5 arg6 harg6 arg7 harg7 arg8 harg8 arg9 harg9 arg14 x0 x1 x2 x3 x4 x5 x6 x7)
          (k0_pay10 (all arg10 harg10 x8 inb_S1x1024_S1x1024_0_0))
          (all arg11 harg11 x9 inb_S1x1024_S1x1024_0_0)⟩] := by
  sl_kernel_rfl

/-- The store of the last two rows. -/
theorem pieces11 : (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1
    = [⟨Rect.unit ![0, 0, 0] S32x2x2816.size inb_S32x2x2816_S32x2x2816_0_0_0,
        tail arg2 harg2 arg3 harg3 arg4 harg4 arg5 harg5 arg14 x0 x1 x2 x3⟩] := by
  sl_kernel_rfl

end

end Cert.Ffn

end

end
-- ==== Proof.Ffn.Reference.lean ====
/-
  The feed-forward network's reference at an index: the mathematics of Math.lean.
-/
module

public import proofs.«01_k».proof.Proof.Ffn.Math
public import proofs.«01_k».proof.Proof.Gen.Reference2Ideal.Read

@[expose] public section

noncomputable section

namespace Cert.Ffn

open Idealize.ShloMosaic Idealize.SL.Sem Cert.Reference2Ideal Cert.Reference2Ideal.Read

variable (y0 : FVec Ideal S1024x1024 .f32) (y1 : FVec Ideal S128x2x2816 .f32)
  (y2 : FVec Ideal S1024x5632 .f32) (y3 : FVec Ideal S5632 .f32) (y4 : FVec Ideal S3x2816 .f32)
  (y5 : FVec Ideal S2816 .f32) (y6 : FVec Ideal S2816x1024 .f32) (y7 y8 y9 : FVec Ideal S1024 .f32)
  (b : Fin 128)

/-- Time step `t` of sequence `b`. -/
abbrev rowR (b : Fin 128) (t : Fin 8) : Fin 1024 := ⟨b.val * 8 + t.val, by omega⟩

/-- The sequence's projection. -/
def upR (t : Fin 8) (l : Fin 5632) : EReal :=
  ∑ k : Fin 1024, y0 (ix2 (rowR b t) k) * y2 (ix2 k l) + y3 (ix1 l)
/-- Its first half. -/
def uR (t : Fin 8) (j : Fin 2816) : EReal := upR y0 y2 y3 b t ⟨j.val, by omega⟩
/-- Its second half. -/
def gR (t : Fin 8) (j : Fin 2816) : EReal := upR y0 y2 y3 b t ⟨2816 + j.val, by omega⟩
/-- The convolution. -/
def convR (t : Fin 8) (j : Fin 2816) : EReal :=
  conv (fun p j => y1 (ix3 b p j)) (uR y0 y2 y3 b) (fun k j => y4 (ix2 k j)) (fun j => y5 (ix1 j)) t j
/-- The rows entering the normalisation. -/
def resR (t : Fin 8) (l : Fin 1024) : EReal :=
  res (fun k => y0 (ix2 (rowR b t) k))
    (fun j => silu (convR y0 y1 y2 y3 y4 y5 b t j) * gR y0 y2 y3 b t j)
    (fun j k => y6 (ix2 j k)) (fun k => y7 (ix1 k)) l

theorem v4_at (t : Fin 8) (l : Fin 5632) :
    val_main_v4 (F := Ideal) y0 y2 y3 (ix3 b t l) = upR y0 y2 y3 b t l := by
  pointwise [val_main_v4, val_main_v3, val_main_v2, val_main_v1, val_main_v0, upR]

theorem v5_at (t : Fin 8) (j : Fin 2816) :
    val_main_v5 (F := Ideal) y0 y2 y3 (ix3 b t j) = uR y0 y2 y3 b t j := by
  unfold uR
  rw [← v4_at]
  unfold val_main_v5
  generalize val_main_v4 (F := Ideal) y0 y2 y3 = y
  pointwise []

theorem v6_at (t : Fin 8) (j : Fin 2816) :
    val_main_v6 (F := Ideal) y0 y2 y3 (ix3 b t j) = gR y0 y2 y3 b t j := by
  unfold gR
  rw [← v4_at]
  unfold val_main_v6
  generalize val_main_v4 (F := Ideal) y0 y2 y3 = y
  pointwise []

theorem v7_at (p : Fin 10) (j : Fin 2816) :
    val_main_v7 (F := Ideal) y0 y1 y2 y3 (ix3 b p j)
      = full (fun p j => y1 (ix3 b p j)) (uR y0 y2 y3 b) p j := by
  have h := v5_at y0 y2 y3 b
  unfold val_main_v7 full
  generalize val_main_v5 (F := Ideal) y0 y2 y3 = y at h ⊢
  simp only [← h]
  pointwise []

theorem v30_at (t : Fin 8) (j : Fin 2816) :
    val_main_v30 (F := Ideal) y0 y1 y2 y3 y4 y5 (ix3 b t j) = convR y0 y1 y2 y3 y4 y5 b t j := by
  have h := v7_at y0 y1 y2 y3 b
  unfold convR conv
  simp only [← h]
  simp only [val_main_v30, val_main_v29, val_main_v28, val_main_v27, val_main_v26, val_main_v25,
    val_main_v24, val_main_v23, val_main_v22, val_main_v21, val_main_v20, val_main_v19, val_main_v18,
    val_main_v17, val_main_v16, val_main_v15, val_main_v14, val_main_v13, val_main_v12, val_main_v11,
    val_main_v10, val_main_v9, val_main_v8]
  generalize val_main_v7 (F := Ideal) y0 y1 y2 y3 = y
  pointwise []

theorem v32_at (t : Fin 8) (j : Fin 2816) :
    val_main_v32 (F := Ideal) y0 y1 y2 y3 y4 y5 (ix3 b t j)
      = silu (convR y0 y1 y2 y3 y4 y5 b t j) * gR y0 y2 y3 b t j := by
  rw [← v6_at, ← v30_at]
  simp only [val_main_v32, val_main_v31, val_main_call0_v5, val_main_call0_v4, val_main_call0_cst_0,
    val_main_call0_v3, val_main_call0_v2, val_main_call0_cst, val_main_call0_v1, val_main_call0_v0]
  generalize val_main_v30 (F := Ideal) y0 y1 y2 y3 y4 y5 = y
  generalize val_main_v6 (F := Ideal) y0 y2 y3 = z
  pointwise [silu]

theorem v39_at (t : Fin 8) (l : Fin 1024) :
    val_main_v39 (F := Ideal) y0 y1 y2 y3 y4 y5 y6 y7 (ix3 b t l)
      = resR y0 y1 y2 y3 y4 y5 y6 y7 b t l := by
  have h := v32_at y0 y1 y2 y3 y4 y5 b t
  unfold resR res
  simp only [← h]
  simp only [val_main_v39, val_main_v38, val_main_v37, val_main_cst, val_main_v36, val_main_v35,
    val_main_v34, val_main_v33, val_main_v0]
  generalize val_main_v32 (F := Ideal) y0 y1 y2 y3 y4 y5 = y
  pointwise []

theorem v63_at (t : Fin 8) (l : Fin 1024) :
    val_main_v63 (F := Ideal) y0 y1 y2 y3 y4 y5 y6 y7 y8 y9 (ix3 b t l)
      = nrm (resR y0 y1 y2 y3 y4 y5 y6 y7 b t) (fun k => y8 (ix1 k)) (fun k => y9 (ix1 k)) l := by
  have h : resR y0 y1 y2 y3 y4 y5 y6 y7 b t
      = fun l => val_main_v39 (F := Ideal) y0 y1 y2 y3 y4 y5 y6 y7 (ix3 b t l) :=
    funext fun l => (v39_at y0 y1 y2 y3 y4 y5 y6 y7 b t l).symm
  rw [h]
  simp only [val_main_v63, val_main_v62, val_main_v61, val_main_v60, val_main_v59, val_main_v58,
    val_main_v57, val_main_v56, val_main_v55, val_main_v54, val_main_v53, val_main_cst_4, val_main_v52,
    val_main_v51, val_main_v50, val_main_v49, val_main_cst_3, val_main_v48, val_main_v47,
    val_main_cst_2, val_main_v46, val_main_v45, val_main_v44, val_main_v43, val_main_v42,
    val_main_cst_1, val_main_v41, val_main_v40, val_main_cst_0]
  generalize val_main_v39 (F := Ideal) y0 y1 y2 y3 y4 y5 y6 y7 = y
  pointwise [nrm, mean]

/-- The normalised rows. -/
theorem v64_at (t : Fin 8) (l : Fin 1024) :
    val_main_v64 (F := Ideal) y0 y1 y2 y3 y4 y5 y6 y7 y8 y9 (ix2 (rowR b t) l)
      = nrm (resR y0 y1 y2 y3 y4 y5 y6 y7 b t) (fun k => y8 (ix1 k)) (fun k => y9 (ix1 k)) l := by
  rw [← v63_at]
  have hs : (⟨(b.val * 8 + t.val) / 8, by omega⟩ : Fin 128) = b := Fin.ext (by show (b.val * 8 + t.val) / 8 = b.val; omega)
  have ht : (⟨(b.val * 8 + t.val) % 8, by omega⟩ : Fin 8) = t := Fin.ext (by show (b.val * 8 + t.val) % 8 = t.val; omega)
  unfold val_main_v64
  generalize val_main_v63 (F := Ideal) y0 y1 y2 y3 y4 y5 y6 y7 y8 y9 = y
  pointwise []
  rw [hs, ht]

/-- The last two rows of the sequence's convolution input. -/
theorem v65_at (p : Fin 2) (j : Fin 2816) :
    val_main_v65 (F := Ideal) y0 y1 y2 y3 (ix3 b p j)
      = full (fun p j => y1 (ix3 b p j)) (uR y0 y2 y3 b) ⟨8 + p.val, by omega⟩ j := by
  rw [← v7_at]
  unfold val_main_v65
  generalize val_main_v7 (F := Ideal) y0 y1 y2 y3 = y
  pointwise []

end Cert.Ffn

end

end
-- ==== Proof.Ffn.Left.lean ====
/-
  What one grid step of the feed-forward kernel leaves in its two windows, entry by entry: the
  reference's numbers.
-/
module

public import proofs.«01_k».proof.Proof.Ffn.Payload
public import proofs.«01_k».proof.Proof.Ffn.Pieces
public import proofs.«01_k».proof.Proof.Ffn.Reference
public import Idealize.ShloMosaic.Lib.Pipeline.ValueKit.Basic

@[expose] public section

noncomputable section

namespace Cert.Ffn

open Idealize.ShloMosaic Idealize.SL.Sem Cert.Kernel2Ideal Cert.Kernel2Ideal.Gen

/-- Sequence `s` of the step's blocks is sequence `b` of the reference's arguments. -/
structure Holds (s : Fin 32) (b : Fin 128) (x0 : Vec Ideal S256x1024 .f32) (x1 : Vec Ideal S32x2x2816 .f32) (x2 : Vec Ideal S1024x5632 .bf16) (x3 : Vec Ideal S1x5632 .f32) (x4 : Vec Ideal S3x2816 .f32) (x5 : Vec Ideal S1x2816 .f32) (x6 : Vec Ideal S2816x1024 .bf16) (x7 : Vec Ideal S1x1024 .f32) (x8 : Vec Ideal S1x1024 .f32) (x9 : Vec Ideal S1x1024 .f32)
    (y0 : FVec Ideal Reference2Ideal.S1024x1024 .f32) (y1 : FVec Ideal Reference2Ideal.S128x2x2816 .f32)
    (y2 : FVec Ideal Reference2Ideal.S1024x5632 .f32) (y3 : FVec Ideal Reference2Ideal.S5632 .f32)
    (y4 : FVec Ideal Reference2Ideal.S3x2816 .f32) (y5 : FVec Ideal Reference2Ideal.S2816 .f32)
    (y6 : FVec Ideal Reference2Ideal.S2816x1024 .f32) (y7 y8 y9 : FVec Ideal Reference2Ideal.S1024 .f32) : Prop where
  h0 : ∀ (t : Fin 8) (k : Fin 1024), x0 (ix2 (row s t) k) = y0 (ix2 (rowR b t) k)
  h1 : ∀ (p : Fin 2) (j : Fin 2816), x1 (ix3 s p j) = y1 (ix3 b p j)
  h2 : ∀ (k : Fin 1024) (l : Fin 5632), x2 (ix2 k l) = y2 (ix2 k l)
  h3 : ∀ l : Fin 5632, x3 (ix2 (0 : Fin 1) l) = y3 (ix1 l)
  h4 : ∀ (k : Fin 3) (j : Fin 2816), x4 (ix2 k j) = y4 (ix2 k j)
  h5 : ∀ j : Fin 2816, x5 (ix2 (0 : Fin 1) j) = y5 (ix1 j)
  h6 : ∀ (j : Fin 2816) (k : Fin 1024), x6 (ix2 j k) = y6 (ix2 j k)
  h7 : ∀ k : Fin 1024, x7 (ix2 (0 : Fin 1) k) = y7 (ix1 k)
  h8 : ∀ k : Fin 1024, x8 (ix2 (0 : Fin 1) k) = y8 (ix1 k)
  h9 : ∀ k : Fin 1024, x9 (ix2 (0 : Fin 1) k) = y9 (ix1 k)

/-! ## The scratch -/

theorem at6 (s : Fin 32) (p : Fin 2) (j : Fin 2816) :
    (Rect.unit (s := S32x16x2816) ![0, 6, 0] S32x2x2816.size inb_S32x16x2816_S32x2x2816_0_6_0).emb (ix3 s p j)
      = ix3 s (⟨6 + p.val, by omega⟩ : Fin 16) j := by
  funext a
  match a with
  | ⟨0, _⟩ => exact Fin.ext (by show 0 + 1 * s.val = s.val; omega)
  | ⟨1, _⟩ => exact Fin.ext (by show 6 + 1 * p.val = 6 + p.val; omega)
  | ⟨2, _⟩ => exact Fin.ext (by show 0 + 1 * j.val = j.val; omega)

theorem at8 (s : Fin 32) (t : Fin 8) (j : Fin 2816) :
    (Rect.unit (s := S32x16x2816) ![0, 8, 0] S32x8x2816.size inb_S32x16x2816_S32x8x2816_0_8_0).emb (ix3 s t j)
      = ix3 s (⟨8 + t.val, by omega⟩ : Fin 16) j := by
  funext a
  match a with
  | ⟨0, _⟩ => exact Fin.ext (by show 0 + 1 * s.val = s.val; omega)
  | ⟨1, _⟩ => exact Fin.ext (by show 8 + 1 * t.val = 8 + t.val; omega)
  | ⟨2, _⟩ => exact Fin.ext (by show 0 + 1 * j.val = j.val; omega)

/-- Rows six to fifteen of the scratch are the two past rows and the eight new ones. -/
theorem scratch_at (cs : FVec Ideal S32x2x2816 .f32) (u : FVec Ideal S32x8x2816 .f32) (s : Fin 32)
    (p : Fin 10) (j : Fin 2816) :
    View.canon (scratch cs u) (ix3 s (⟨6 + p.val, by omega⟩ : Fin 16) j)
      = full (fun p j => cs (ix3 s p j)) (fun t j => u (ix3 s t j)) p j := by
  unfold full
  by_cases h : p.val < 2
  · rw [dif_pos h]
    refine (View.canon_cons_of_not_mem _ _ fun hm => ?_).trans ?_
    · have m1 : 8 ≤ 6 + p.val ∧ 6 + p.val < 8 + 8 := Rect.mem_set_unit.mp (show ix3 s (⟨6 + p.val, by omega⟩ : Fin 16) j ∈ (Rect.unit (s := S32x16x2816) ![0, 8, 0] S32x8x2816.size inb_S32x16x2816_S32x8x2816_0_8_0).set from hm) 1
      omega
    · exact (congrArg _ (at6 s ⟨p.val, h⟩ j).symm).trans (View.canon_cons_emb _ _ _ _)
  · rw [dif_neg h]
    have e : ix3 s (⟨6 + p.val, by omega⟩ : Fin 16) j
        = ix3 s (⟨8 + (⟨p.val - 2, by omega⟩ : Fin 8).val, by show 8 + (p.val - 2) < 16; omega⟩ : Fin 16) j := by
      refine congrArg (fun k => ix3 s k j) (Fin.ext ?_)
      show 6 + p.val = 8 + (p.val - 2)
      omega
    rw [e]
    exact (congrArg _ (at8 s ⟨p.val - 2, by omega⟩ j).symm).trans (View.canon_cons_emb _ _ _ _)

/-- Eight rows read back from row `o`. -/
theorem read8 (a : Memref sig .tc .vmem S32x16x2816 .f32) (L : List (View.Piece (Elt Ideal) S32x16x2816 .f32))
    (o : Nat) (ho : o + 8 ≤ 16) (inb : ∀ a, (![0, o, 0] : Fin 3 → Nat) a + S32x8x2816.size a ≤ S32x16x2816.size a)
    (s : Fin 32) (t : Fin 8) (j : Fin 2816) :
    a.view.readCov L (Rect.unit (s := S32x16x2816) ![0, o, 0] S32x8x2816.size inb).toLoadRect (ix3 s t j)
      = View.canon L (ix3 s (⟨o + t.val, by omega⟩ : Fin 16) j) := by
  rw [View.readCov_eq_canon']
  refine congrArg _ (funext fun a => ?_)
  match a with
  | ⟨0, _⟩ => exact Fin.ext (by show 0 + 1 * s.val = s.val; omega)
  | ⟨1, _⟩ => exact Fin.ext (by show o + 1 * t.val = o + t.val; omega)
  | ⟨2, _⟩ => exact Fin.ext (by show 0 + 1 * j.val = j.val; omega)

/-- The last two rows read back. -/
theorem read2 (a : Memref sig .tc .vmem S32x16x2816 .f32) (L : List (View.Piece (Elt Ideal) S32x16x2816 .f32))
    (s : Fin 32) (p : Fin 2) (j : Fin 2816) :
    a.view.readCov L (Rect.unit (s := S32x16x2816) ![0, 14, 0] S32x2x2816.size inb_S32x16x2816_S32x2x2816_0_14_0).toLoadRect (ix3 s p j)
      = View.canon L (ix3 s (⟨6 + (⟨8 + p.val, by omega⟩ : Fin 10).val, by show 6 + (8 + p.val) < 16; omega⟩ : Fin 16) j) := by
  rw [View.readCov_eq_canon']
  refine congrArg _ (funext fun a => ?_)
  match a with
  | ⟨0, _⟩ => exact Fin.ext (by show 0 + 1 * s.val = s.val; omega)
  | ⟨1, _⟩ => exact Fin.ext (by show 14 + 1 * p.val = 6 + (8 + p.val); omega)
  | ⟨2, _⟩ => exact Fin.ext (by show 0 + 1 * j.val = j.val; omega)

section
variable {s : Fin 32} {b : Fin 128} {x0 : Vec Ideal S256x1024 .f32} {x1 : Vec Ideal S32x2x2816 .f32} {x2 : Vec Ideal S1024x5632 .bf16} {x3 : Vec Ideal S1x5632 .f32} {x4 : Vec Ideal S3x2816 .f32} {x5 : Vec Ideal S1x2816 .f32} {x6 : Vec Ideal S2816x1024 .bf16} {x7 : Vec Ideal S1x1024 .f32} {x8 : Vec Ideal S1x1024 .f32} {x9 : Vec Ideal S1x1024 .f32}
    {y0 : FVec Ideal Reference2Ideal.S1024x1024 .f32} {y1 : FVec Ideal Reference2Ideal.S128x2x2816 .f32}
    {y2 : FVec Ideal Reference2Ideal.S1024x5632 .f32} {y3 : FVec Ideal Reference2Ideal.S5632 .f32}
    {y4 : FVec Ideal Reference2Ideal.S3x2816 .f32} {y5 : FVec Ideal Reference2Ideal.S2816 .f32}
    {y6 : FVec Ideal Reference2Ideal.S2816x1024 .f32} {y7 y8 y9 : FVec Ideal Reference2Ideal.S1024 .f32}
    (H : Holds s b x0 x1 x2 x3 x4 x5 x6 x7 x8 x9 y0 y1 y2 y3 y4 y5 y6 y7 y8 y9)
include H

theorem up_eq (t : Fin 8) (l : Fin 5632) :
    k0_pay3 (F := Ideal) x0 x2 x3 (ix2 (row s t) l) = upR y0 y2 y3 b t l := by
  rw [up_apply, upR, H.h3]
  simp only [H.h0, H.h2]

theorem u_eq (t : Fin 8) (j : Fin 2816) :
    k0_pay4 (F := Ideal) x0 x2 x3 (ix3 s t j) = uR y0 y2 y3 b t j :=
  (u_apply x0 x2 x3 s t j).trans (up_eq H t _)

theorem gate_eq (t : Fin 8) (j : Fin 2816) :
    k0_pay5 (F := Ideal) x0 x2 x3 (ix3 s t j) = gR y0 y2 y3 b t j :=
  (gate_apply x0 x2 x3 s t j).trans (up_eq H t _)

/-- The scratch's rows are the reference's. -/
theorem scr_eq (p : Fin 10) (j : Fin 2816) :
    View.canon (scratch (k0_pay2 (F := Ideal) x1) (k0_pay6 (F := Ideal) x0 x2 x3))
        (ix3 s (⟨6 + p.val, by omega⟩ : Fin 16) j)
      = full (fun p j => y1 (ix3 b p j)) (uR y0 y2 y3 b) p j := by
  rw [scratch_at]
  have h2 : k0_pay2 (F := Ideal) x1 = x1 := shapeCast_self _ _
  rw [h2, stored_eq]
  simp only [H.h1, u_eq H]
end

section
variable (c : Dev nD) (i : grid0.Coords) (arg2 : Memref sig .tc .vmem S256x1024 .f32) (harg2 : arg2.IsWhole) (arg3 : Memref sig .tc .vmem S32x2x2816 .f32) (harg3 : arg3.IsWhole) (arg4 : Memref sig .tc .vmem S1024x5632 .bf16) (harg4 : arg4.IsWhole) (arg5 : Memref sig .tc .vmem S1x5632 .f32) (harg5 : arg5.IsWhole) (arg6 : Memref sig .tc .vmem S3x2816 .f32) (harg6 : arg6.IsWhole) (arg7 : Memref sig .tc .vmem S1x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S32x2x2816 .f32) (harg13 : arg13.IsWhole) (arg14 : Memref sig .tc .vmem S32x16x2816 .f32) (harg14 : arg14.IsWhole) (hc0 : cond0_0 i)
    (x0 : Vec Ideal S256x1024 .f32) (x1 : Vec Ideal S32x2x2816 .f32) (x2 : Vec Ideal S1024x5632 .bf16) (x3 : Vec Ideal S1x5632 .f32) (x4 : Vec Ideal S3x2816 .f32) (x5 : Vec Ideal S1x2816 .f32) (x6 : Vec Ideal S2816x1024 .bf16) (x7 : Vec Ideal S1x1024 .f32) (x8 : Vec Ideal S1x1024 .f32) (x9 : Vec Ideal S1x1024 .f32)
    {y0 : FVec Ideal Reference2Ideal.S1024x1024 .f32} {y1 : FVec Ideal Reference2Ideal.S128x2x2816 .f32}
    {y2 : FVec Ideal Reference2Ideal.S1024x5632 .f32} {y3 : FVec Ideal Reference2Ideal.S5632 .f32}
    {y4 : FVec Ideal Reference2Ideal.S3x2816 .f32} {y5 : FVec Ideal Reference2Ideal.S2816 .f32}
    {y6 : FVec Ideal Reference2Ideal.S2816x1024 .f32} {y7 y8 y9 : FVec Ideal Reference2Ideal.S1024 .f32}
    {s : Fin 32} {b : Fin 128}
    (H : Holds s b x0 x1 x2 x3 x4 x5 x6 x7 x8 x9 y0 y1 y2 y3 y4 y5 y6 y7 y8 y9)

include H in
theorem resid_eq (t : Fin 8) (l : Fin 1024) :
    resid arg2 harg2 arg3 harg3 arg4 harg4 arg5 harg5 arg6 harg6 arg7 harg7 arg8 harg8 arg9 harg9 arg14 x0 x1 x2 x3 x4 x5 x6 x7
        (ix2 (row s t) l)
      = resR y0 y1 y2 y3 y4 y5 y6 y7 b t l := by
  unfold resid scr
  rw [all_eq arg2 harg2 x0 _ (by decide), all_eq arg3 harg3 x1 _ (by decide),
    all_eq arg4 harg4 x2 _ (by decide), all_eq arg5 harg5 x3 _ (by decide),
    all_eq arg7 harg7 x5 _ (by decide), all_eq arg8 harg8 x6 _ (by decide),
    all_eq arg9 harg9 x7 _ (by decide)]
  rw [res_apply]
  unfold resR
  have h6 : ∀ j, arg14.view.readCov (scratch (k0_pay2 (F := Ideal) x1) (k0_pay6 (F := Ideal) x0 x2 x3))
      (Rect.unit (s := S32x16x2816) ![0, 6, 0] S32x8x2816.size inb_S32x16x2816_S32x8x2816_0_6_0).toLoadRect (ix3 s t j)
        = full (fun p j => y1 (ix3 b p j)) (uR y0 y2 y3 b) ⟨t.val, by omega⟩ j := fun j =>
    (read8 arg14 _ 6 (by omega) _ s t j).trans (scr_eq H ⟨t.val, by omega⟩ j)
  have h7 : ∀ j, arg14.view.readCov (scratch (k0_pay2 (F := Ideal) x1) (k0_pay6 (F := Ideal) x0 x2 x3))
      (Rect.unit (s := S32x16x2816) ![0, 7, 0] S32x8x2816.size inb_S32x16x2816_S32x8x2816_0_7_0).toLoadRect (ix3 s t j)
        = full (fun p j => y1 (ix3 b p j)) (uR y0 y2 y3 b) ⟨1 + t.val, by omega⟩ j := fun j => by
    refine (read8 arg14 _ 7 (by omega) _ s t j).trans (Eq.trans ?_ (scr_eq H ⟨1 + t.val, by omega⟩ j))
    refine congrArg (fun k => View.canon _ (ix3 s k j)) (Fin.ext ?_)
    show 7 + t.val = 6 + (1 + t.val)
    omega
  have hc : ∀ j, k0_pay7 (F := Ideal) x0 x2 x3 x5 (tap arg6 harg6 x4 2 inb_S3x2816_S1x2816_2_0)
        (arg14.view.readCov (scratch (k0_pay2 (F := Ideal) x1) (k0_pay6 (F := Ideal) x0 x2 x3))
          (Rect.unit (s := S32x16x2816) ![0, 6, 0] S32x8x2816.size inb_S32x16x2816_S32x8x2816_0_6_0).toLoadRect)
        (tap arg6 harg6 x4 0 inb_S3x2816_S1x2816_0_0) (ix3 s t j)
      + arg14.view.readCov (scratch (k0_pay2 (F := Ideal) x1) (k0_pay6 (F := Ideal) x0 x2 x3))
          (Rect.unit (s := S32x16x2816) ![0, 7, 0] S32x8x2816.size inb_S32x16x2816_S32x8x2816_0_7_0).toLoadRect (ix3 s t j)
        * tap arg6 harg6 x4 1 inb_S3x2816_S1x2816_1_0 (ix2 (0 : Fin 1) j)
      = convR y0 y1 y2 y3 y4 y5 b t j := fun j => by
    rw [first_apply, h6, h7, u_eq H, H.h5]
    rw [show tap arg6 harg6 x4 2 inb_S3x2816_S1x2816_2_0 (ix2 (0 : Fin 1) j) = y4 (ix2 (2 : Fin 3) j) from
      (tap_apply arg6 harg6 x4 2 _ j).trans (H.h4 2 j)]
    rw [show tap arg6 harg6 x4 1 inb_S3x2816_S1x2816_1_0 (ix2 (0 : Fin 1) j) = y4 (ix2 (1 : Fin 3) j) from
      (tap_apply arg6 harg6 x4 1 _ j).trans (H.h4 1 j)]
    rw [show tap arg6 harg6 x4 0 inb_S3x2816_S1x2816_0_0 (ix2 (0 : Fin 1) j) = y4 (ix2 (0 : Fin 3) j) from
      (tap_apply arg6 harg6 x4 0 _ j).trans (H.h4 0 j)]
    exact conv_eq _ _ (fun k j => y4 (ix2 k j)) (fun j => y5 (ix1 j)) t j
  simp only [hc, gate_eq H, H.h0, H.h6, H.h7]

include H in
/-- The normalised rows. -/
theorem left10 (t : Fin 8) (l : Fin 1024) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 (row s t) l)
      = Reference2Ideal.Read.val_main_v64 (F := Ideal) y0 y1 y2 y3 y4 y5 y6 y7 y8 y9 (ix2 (rowR b t) l) := by
  refine (congrFun (View.read_writes_junk_eq_canon VO0_10 _) _).trans ?_
  refine (congrArg (fun L => View.canon L _) (pieces10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)).trans ?_
  rw [View.canon_cons_unit_lit _ _ _ (by decide), nrm_apply, v64_at]
  have h10 : k0_pay10 (F := Ideal) (all arg10 harg10 x8 inb_S1x1024_S1x1024_0_0) = x8 :=
    (shapeCast_self _ _).trans (all_eq arg10 harg10 x8 _ (by decide))
  rw [h10, all_eq arg11 harg11 x9 _ (by decide)]
  simp only [resid_eq arg2 harg2 arg3 harg3 arg4 harg4 arg5 harg5 arg6 harg6 arg7 harg7 arg8 harg8 arg9 harg9 arg14 x0 x1 x2 x3 x4 x5 x6 x7 x8 x9 H,
    H.h8, H.h9]

include H in
/-- The last two rows. -/
theorem left11 (p : Fin 2) (j : Fin 2816) :
    out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix3 s p j)
      = Reference2Ideal.Read.val_main_v65 (F := Ideal) y0 y1 y2 y3 (ix3 b p j) := by
  refine (congrFun (View.read_writes_junk_eq_canon VO0_11 _) _).trans ?_
  refine (congrArg (fun L => View.canon L _) (pieces11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)).trans ?_
  rw [View.canon_cons_unit_lit _ _ _ (by decide), v65_at]
  unfold tail scr
  rw [all_eq arg2 harg2 x0 _ (by decide), all_eq arg3 harg3 x1 _ (by decide),
    all_eq arg4 harg4 x2 _ (by decide), all_eq arg5 harg5 x3 _ (by decide)]
  exact (read2 arg14 _ s p j).trans (scr_eq H ⟨8 + p.val, by omega⟩ j)

end

end Cert.Ffn

end

end
-- ==== Proof.Ffn.Host.lean ====
/-
  The feed-forward kernel's host operations before its region, and its blocks: what each step's input
  windows hold.
-/
module

public import proofs.«01_k».proof.Proof.Ffn.Left
public import proofs.«01_k».proof.Proof.Gen.Kernel2Ideal.Frame.Runs

@[expose] public section

noncomputable section

namespace Cert.Ffn

open Idealize.ShloMosaic Idealize.ShloMosaic.TcCoe Idealize.SL.Sem Cert.Kernel2Ideal Cert.Kernel2Ideal.Gen

section
variable {F : FTy → Type} [FloatOps F]
variable (m : (ℓ : Loc nD τ sig) → Buf (Elt F) ℓ) (c : Dev nD)

theorem V_v0 : V m c main_v0 = truncf .bf16 (show FVec F S1024x5632 .f32 from m ((c : Thread nD τ).loc main_arg2)) bitsLt_bf16_f32 := by
  sl_kernel_rfl
theorem V_v1 : V m c main_v1 = shapeCast S1x5632 (m ((c : Thread nD τ).loc main_arg3)) shapeCasts_S5632_S1x5632 := by
  sl_kernel_rfl
theorem V_v2 : V m c main_v2 = shapeCast S1x2816 (m ((c : Thread nD τ).loc main_arg5)) shapeCasts_S2816_S1x2816 := by
  sl_kernel_rfl
theorem V_v3 : V m c main_v3 = truncf .bf16 (show FVec F S2816x1024 .f32 from m ((c : Thread nD τ).loc main_arg6)) bitsLt_bf16_f32 := by
  sl_kernel_rfl
theorem V_v4 : V m c main_v4 = shapeCast S1x1024 (m ((c : Thread nD τ).loc main_arg7)) shapeCasts_S1024_S1x1024 := by
  sl_kernel_rfl
theorem V_v5 : V m c main_v5 = shapeCast S1x1024 (m ((c : Thread nD τ).loc main_arg8)) shapeCasts_S1024_S1x1024 := by
  sl_kernel_rfl
theorem V_v6 : V m c main_v6 = shapeCast S1x1024 (m ((c : Thread nD τ).loc main_arg9)) shapeCasts_S1024_S1x1024 := by
  sl_kernel_rfl

theorem row5632_at (x : FVec F S5632 .f32) (l : Fin 5632) :
    shapeCast S1x5632 x shapeCasts_S5632_S1x5632 (ix2 (0 : Fin 1) l) = x (ix1 l) := by
  pointwise []
theorem row2816_at (x : FVec F S2816 .f32) (l : Fin 2816) :
    shapeCast S1x2816 x shapeCasts_S2816_S1x2816 (ix2 (0 : Fin 1) l) = x (ix1 l) := by
  pointwise []
theorem row1024_at (x : FVec F S1024 .f32) (l : Fin 1024) :
    shapeCast S1x1024 x shapeCasts_S1024_S1x1024 (ix2 (0 : Fin 1) l) = x (ix1 l) := by
  pointwise []
end

/-! ## Blocks -/

theorem idx0 : ∀ t : Fin grid0.N, win0_0.index t 0 = t.val ∧ win0_0.index t 1 = 0 := by decide +kernel
theorem emb0 (t : Fin grid0.N) (a : Fin 256) (b : Fin 1024) :
    ((cfg0.win 0).blk t).view.emb (ix2 a b)
      = ix2 (⟨256 * t.val + a.val, by have := t.isLt; have h : grid0.N = 4 := rfl; omega⟩ : Fin 1024) b := by
  obtain ⟨e0, e1⟩ := idx0 t
  funext a'
  match a' with
  | ⟨0, _⟩ => exact Fin.ext (by show win0_0.index t 0 * 256 + 1 * a.val = 256 * t.val + a.val; omega)
  | ⟨1, _⟩ => exact Fin.ext (by show win0_0.index t 1 * 1024 + 1 * b.val = b.val; omega)

theorem idx1 : ∀ t : Fin grid0.N, win0_1.index t 0 = t.val ∧ win0_1.index t 1 = 0 ∧ win0_1.index t 2 = 0 := by decide +kernel
theorem emb1 (t : Fin grid0.N) (a : Fin 32) (b : Fin 2) (d : Fin 2816) :
    ((cfg0.win 1).blk t).view.emb (ix3 a b d)
      = ix3 (⟨32 * t.val + a.val, by have := t.isLt; have h : grid0.N = 4 := rfl; omega⟩ : Fin 128) b d := by
  obtain ⟨e0, e1, e2⟩ := idx1 t
  funext a'
  match a' with
  | ⟨0, _⟩ => exact Fin.ext (by show win0_1.index t 0 * 32 + 1 * a.val = 32 * t.val + a.val; omega)
  | ⟨1, _⟩ => exact Fin.ext (by show win0_1.index t 1 * 2 + 1 * b.val = b.val; omega)
  | ⟨2, _⟩ => exact Fin.ext (by show win0_1.index t 2 * 2816 + 1 * d.val = d.val; omega)

theorem idx2 : ∀ t : Fin grid0.N, win0_2.index t 0 = 0 ∧ win0_2.index t 1 = 0 := by decide +kernel
theorem emb2 (t : Fin grid0.N) (a : Fin 1024) (b : Fin 5632) :
    ((cfg0.win 2).blk t).view.emb (ix2 a b)
      = ix2 a b := by
  obtain ⟨e0, e1⟩ := idx2 t
  funext a'
  match a' with
  | ⟨0, _⟩ => exact Fin.ext (by show win0_2.index t 0 * 1024 + 1 * a.val = a.val; omega)
  | ⟨1, _⟩ => exact Fin.ext (by show win0_2.index t 1 * 5632 + 1 * b.val = b.val; omega)

theorem idx3 : ∀ t : Fin grid0.N, win0_3.index t 0 = 0 ∧ win0_3.index t 1 = 0 := by decide +kernel
theorem emb3 (t : Fin grid0.N) (a : Fin 1) (b : Fin 5632) :
    ((cfg0.win 3).blk t).view.emb (ix2 a b)
      = ix2 a b := by
  obtain ⟨e0, e1⟩ := idx3 t
  funext a'
  match a' with
  | ⟨0, _⟩ => exact Fin.ext (by show win0_3.index t 0 * 1 + 1 * a.val = a.val; omega)
  | ⟨1, _⟩ => exact Fin.ext (by show win0_3.index t 1 * 5632 + 1 * b.val = b.val; omega)

theorem idx4 : ∀ t : Fin grid0.N, win0_4.index t 0 = 0 ∧ win0_4.index t 1 = 0 := by decide +kernel
theorem emb4 (t : Fin grid0.N) (a : Fin 3) (b : Fin 2816) :
    ((cfg0.win 4).blk t).view.emb (ix2 a b)
      = ix2 a b := by
  obtain ⟨e0, e1⟩ := idx4 t
  funext a'
  match a' with
  | ⟨0, _⟩ => exact Fin.ext (by show win0_4.index t 0 * 3 + 1 * a.val = a.val; omega)
  | ⟨1, _⟩ => exact Fin.ext (by show win0_4.index t 1 * 2816 + 1 * b.val = b.val; omega)

theorem idx5 : ∀ t : Fin grid0.N, win0_5.index t 0 = 0 ∧ win0_5.index t 1 = 0 := by decide +kernel
theorem emb5 (t : Fin grid0.N) (a : Fin 1) (b : Fin 2816) :
    ((cfg0.win 5).blk t).view.emb (ix2 a b)
      = ix2 a b := by
  obtain ⟨e0, e1⟩ := idx5 t
  funext a'
  match a' with
  | ⟨0, _⟩ => exact Fin.ext (by show win0_5.index t 0 * 1 + 1 * a.val = a.val; omega)
  | ⟨1, _⟩ => exact Fin.ext (by show win0_5.index t 1 * 2816 + 1 * b.val = b.val; omega)

theorem idx6 : ∀ t : Fin grid0.N, win0_6.index t 0 = 0 ∧ win0_6.index t 1 = 0 := by decide +kernel
theorem emb6 (t : Fin grid0.N) (a : Fin 2816) (b : Fin 1024) :
    ((cfg0.win 6).blk t).view.emb (ix2 a b)
      = ix2 a b := by
  obtain ⟨e0, e1⟩ := idx6 t
  funext a'
  match a' with
  | ⟨0, _⟩ => exact Fin.ext (by show win0_6.index t 0 * 2816 + 1 * a.val = a.val; omega)
  | ⟨1, _⟩ => exact Fin.ext (by show win0_6.index t 1 * 1024 + 1 * b.val = b.val; omega)

theorem idx7 : ∀ t : Fin grid0.N, win0_7.index t 0 = 0 ∧ win0_7.index t 1 = 0 := by decide +kernel
theorem emb7 (t : Fin grid0.N) (a : Fin 1) (b : Fin 1024) :
    ((cfg0.win 7).blk t).view.emb (ix2 a b)
      = ix2 a b := by
  obtain ⟨e0, e1⟩ := idx7 t
  funext a'
  match a' with
  | ⟨0, _⟩ => exact Fin.ext (by show win0_7.index t 0 * 1 + 1 * a.val = a.val; omega)
  | ⟨1, _⟩ => exact Fin.ext (by show win0_7.index t 1 * 1024 + 1 * b.val = b.val; omega)

theorem idx8 : ∀ t : Fin grid0.N, win0_8.index t 0 = 0 ∧ win0_8.index t 1 = 0 := by decide +kernel
theorem emb8 (t : Fin grid0.N) (a : Fin 1) (b : Fin 1024) :
    ((cfg0.win 8).blk t).view.emb (ix2 a b)
      = ix2 a b := by
  obtain ⟨e0, e1⟩ := idx8 t
  funext a'
  match a' with
  | ⟨0, _⟩ => exact Fin.ext (by show win0_8.index t 0 * 1 + 1 * a.val = a.val; omega)
  | ⟨1, _⟩ => exact Fin.ext (by show win0_8.index t 1 * 1024 + 1 * b.val = b.val; omega)

theorem idx9 : ∀ t : Fin grid0.N, win0_9.index t 0 = 0 ∧ win0_9.index t 1 = 0 := by decide +kernel
theorem emb9 (t : Fin grid0.N) (a : Fin 1) (b : Fin 1024) :
    ((cfg0.win 9).blk t).view.emb (ix2 a b)
      = ix2 a b := by
  obtain ⟨e0, e1⟩ := idx9 t
  funext a'
  match a' with
  | ⟨0, _⟩ => exact Fin.ext (by show win0_9.index t 0 * 1 + 1 * a.val = a.val; omega)
  | ⟨1, _⟩ => exact Fin.ext (by show win0_9.index t 1 * 1024 + 1 * b.val = b.val; omega)

theorem idx10 : ∀ t : Fin grid0.N, win0_10.index t 0 = t.val ∧ win0_10.index t 1 = 0 := by decide +kernel
theorem emb10 (t : Fin grid0.N) (a : Fin 256) (b : Fin 1024) :
    ((cfg0.win 10).blk t).view.emb (ix2 a b)
      = ix2 (⟨256 * t.val + a.val, by have := t.isLt; have h : grid0.N = 4 := rfl; omega⟩ : Fin 1024) b := by
  obtain ⟨e0, e1⟩ := idx10 t
  funext a'
  match a' with
  | ⟨0, _⟩ => exact Fin.ext (by show win0_10.index t 0 * 256 + 1 * a.val = 256 * t.val + a.val; omega)
  | ⟨1, _⟩ => exact Fin.ext (by show win0_10.index t 1 * 1024 + 1 * b.val = b.val; omega)

theorem idx11 : ∀ t : Fin grid0.N, win0_11.index t 0 = t.val ∧ win0_11.index t 1 = 0 ∧ win0_11.index t 2 = 0 := by decide +kernel
theorem emb11 (t : Fin grid0.N) (a : Fin 32) (b : Fin 2) (d : Fin 2816) :
    ((cfg0.win 11).blk t).view.emb (ix3 a b d)
      = ix3 (⟨32 * t.val + a.val, by have := t.isLt; have h : grid0.N = 4 := rfl; omega⟩ : Fin 128) b d := by
  obtain ⟨e0, e1, e2⟩ := idx11 t
  funext a'
  match a' with
  | ⟨0, _⟩ => exact Fin.ext (by show win0_11.index t 0 * 32 + 1 * a.val = 32 * t.val + a.val; omega)
  | ⟨1, _⟩ => exact Fin.ext (by show win0_11.index t 1 * 2 + 1 * b.val = b.val; omega)
  | ⟨2, _⟩ => exact Fin.ext (by show win0_11.index t 2 * 2816 + 1 * d.val = d.val; omega)

variable (m : (ℓ : Loc nD τ sig) → Buf (Elt Ideal) ℓ) (c : Dev nD)

/-- The sequence held at place `s` of step `t`. -/
abbrev seqOf (t : Fin grid0.N) (s : Fin 32) : Fin 128 :=
  ⟨32 * t.val + s.val, by have := t.isLt; have h : grid0.N = 4 := rfl; omega⟩

theorem row_eq (t : Fin grid0.N) (s : Fin 32) (r : Fin 8)
    (h : 256 * t.val + (s.val * 8 + r.val) < 1024) :
    (⟨256 * t.val + (s.val * 8 + r.val), h⟩ : Fin 1024) = rowR (seqOf t s) r :=
  Fin.ext (by show 256 * t.val + (s.val * 8 + r.val) = (32 * t.val + s.val) * 8 + r.val; omega)

theorem in0 (t : Fin grid0.N) (s : Fin 32) (r : Fin 8) (k : Fin 1024) :
    iblk m c 0 t (ix2 (row s r) k) = m ((c : Thread nD τ).loc main_arg0) (ix2 (rowR (seqOf t s) r) k) := by
  show V m c main_arg0 (((cfg0.win 0).blk t).view.emb (ix2 _ _)) = _
  rw [emb0, V_main_arg0]
  exact congrArg (fun a => m ((c : Thread nD τ).loc main_arg0) (ix2 a k)) (row_eq t s r _)
theorem in1 (t : Fin grid0.N) (s : Fin 32) (p : Fin 2) (j : Fin 2816) :
    iblk m c 1 t (ix3 s p j) = m ((c : Thread nD τ).loc main_arg1) (ix3 (seqOf t s) p j) := by
  show V m c main_arg1 (((cfg0.win 1).blk t).view.emb (ix3 _ _ _)) = _
  rw [emb1, V_main_arg1]
theorem in2 (t : Fin grid0.N) (k : Fin 1024) (l : Fin 5632) :
    iblk m c 2 t (ix2 k l) = m ((c : Thread nD τ).loc main_arg2) (ix2 k l) := by
  show V m c main_v0 (((cfg0.win 2).blk t).view.emb (ix2 _ _)) = _
  rw [emb2, V_v0]
  rfl
theorem in3 (t : Fin grid0.N) (l : Fin 5632) :
    iblk m c 3 t (ix2 (0 : Fin 1) l) = m ((c : Thread nD τ).loc main_arg3) (ix1 l) := by
  show V m c main_v1 (((cfg0.win 3).blk t).view.emb (ix2 _ _)) = _
  rw [emb3, V_v1]
  exact row5632_at (F := Ideal) _ l
theorem in4 (t : Fin grid0.N) (k : Fin 3) (j : Fin 2816) :
    iblk m c 4 t (ix2 k j) = m ((c : Thread nD τ).loc main_arg4) (ix2 k j) := by
  show V m c main_arg4 (((cfg0.win 4).blk t).view.emb (ix2 _ _)) = _
  rw [emb4, V_main_arg4]
theorem in5 (t : Fin grid0.N) (l : Fin 2816) :
    iblk m c 5 t (ix2 (0 : Fin 1) l) = m ((c : Thread nD τ).loc main_arg5) (ix1 l) := by
  show V m c main_v2 (((cfg0.win 5).blk t).view.emb (ix2 _ _)) = _
  rw [emb5, V_v2]
  exact row2816_at (F := Ideal) _ l
theorem in6 (t : Fin grid0.N) (k : Fin 2816) (l : Fin 1024) :
    iblk m c 6 t (ix2 k l) = m ((c : Thread nD τ).loc main_arg6) (ix2 k l) := by
  show V m c main_v3 (((cfg0.win 6).blk t).view.emb (ix2 _ _)) = _
  rw [emb6, V_v3]
  rfl
theorem in7 (t : Fin grid0.N) (l : Fin 1024) :
    iblk m c 7 t (ix2 (0 : Fin 1) l) = m ((c : Thread nD τ).loc main_arg7) (ix1 l) := by
  show V m c main_v4 (((cfg0.win 7).blk t).view.emb (ix2 _ _)) = _
  rw [emb7, V_v4]
  exact row1024_at (F := Ideal) _ l
theorem in8 (t : Fin grid0.N) (l : Fin 1024) :
    iblk m c 8 t (ix2 (0 : Fin 1) l) = m ((c : Thread nD τ).loc main_arg8) (ix1 l) := by
  show V m c main_v5 (((cfg0.win 8).blk t).view.emb (ix2 _ _)) = _
  rw [emb8, V_v5]
  exact row1024_at (F := Ideal) _ l
theorem in9 (t : Fin grid0.N) (l : Fin 1024) :
    iblk m c 9 t (ix2 (0 : Fin 1) l) = m ((c : Thread nD τ).loc main_arg9) (ix1 l) := by
  show V m c main_v6 (((cfg0.win 9).blk t).view.emb (ix2 _ _)) = _
  rw [emb9, V_v6]
  exact row1024_at (F := Ideal) _ l

end Cert.Ffn

end

end
-- ==== Proof.Ffn.Algebraic.lean ====
/-
  The feed-forward kernel's result arrays are the reference's.
-/
module

public import proofs.«01_k».proof.Proof.Ffn.Host
public import proofs.«01_k».proof.Proof.Gen.Kernel2Ideal.Value
public import proofs.«01_k».proof.Proof.Gen.Reference2Ideal.Run
public import proofs.«01_k».proof.Defs

@[expose] public section

noncomputable section

namespace Cert.Ffn

open Idealize.ShloMosaic Idealize.ShloMosaic.TcCoe Idealize.SL.Sem Cert.Kernel2Ideal Cert.Kernel2Ideal.Gen
open Idealize.ShloMosaic.StableHlo
open Cert.Kernel2Ideal.Value
open Cert.Reference2Ideal.Read (val_main_v64 val_main_v65 val_main_v64_eq val_main_v65_eq)

variable (m : (ℓ : Loc nD τ sig) → Buf (Elt Ideal) ℓ) (c : Dev nD)

/-- At every step the input windows hold the reference's arguments. -/
theorem holds (t : Fin grid0.N) (s : Fin 32) : Holds s (seqOf t s)
    (iblk m c 0 t) (iblk m c 1 t) (iblk m c 2 t) (iblk m c 3 t) (iblk m c 4 t) (iblk m c 5 t) (iblk m c 6 t) (iblk m c 7 t) (iblk m c 8 t) (iblk m c 9 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) where
  h0 := in0 m c t s
  h1 := in1 m c t s
  h2 := in2 m c t
  h3 := in3 m c t
  h4 := in4 m c t
  h5 := in5 m c t
  h6 := in6 m c t
  h7 := in7 m c t
  h8 := in8 m c t
  h9 := in9 m c t

theorem flush10 : ∀ t : Fin grid0.N, (cfg0.win 10).flush t = true := by decide +kernel
theorem flush11 : ∀ t : Fin grid0.N, (cfg0.win 11).flush t = true := by decide +kernel

theorem out_blk (t : Fin grid0.N) (s : Fin 32) (r : Fin 8) (l : Fin 1024) :
    (dats m 0 c).arrAt 10 cfg0.N (ix2 (rowR (seqOf t s) r) l)
      = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
          (ix2 (rowR (seqOf t s) r) l) := by
  have hk := congrFun (blocks10 m c t (by exact flush10 t)) (ix2 (row s r) l)
  rw [flushed10_A] at hk
  refine Eq.trans (Eq.trans ?_ hk) (left10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hcond0_0 t)
    (iblk m c 0 t) (iblk m c 1 t) (iblk m c 2 t) (iblk m c 3 t) (iblk m c 4 t) (iblk m c 5 t) (iblk m c 6 t) (iblk m c 7 t) (iblk m c 8 t) (iblk m c 9 t)
    (holds m c t s) r l)
  refine congrArg _ (Eq.trans ?_ (emb10 t (row s r) l).symm)
  exact congrArg (fun a => ix2 a l) (row_eq t s r _).symm

theorem state_blk (t : Fin grid0.N) (s : Fin 32) (p : Fin 2) (j : Fin 2816) :
    (dats m 0 c).arrAt 11 cfg0.N (ix3 (seqOf t s) p j)
      = val_main_v65 (F := Ideal) (m ((c : Thread nD τ).loc main_arg0)) (m ((c : Thread nD τ).loc main_arg1)) (m ((c : Thread nD τ).loc main_arg2)) (m ((c : Thread nD τ).loc main_arg3)) (ix3 (seqOf t s) p j) := by
  have hk := congrFun (blocks11 m c t (by exact flush11 t)) (ix3 s p j)
  rw [flushed11_A] at hk
  refine Eq.trans (Eq.trans ?_ hk) (left11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hcond0_0 t)
    (iblk m c 0 t) (iblk m c 1 t) (iblk m c 2 t) (iblk m c 3 t) (iblk m c 4 t) (iblk m c 5 t) (iblk m c 6 t) (iblk m c 7 t) (iblk m c 8 t) (iblk m c 9 t)
    (holds m c t s) p j)
  exact congrArg _ (emb11 t s p j).symm

/-- Every sequence is held at some place of some step. -/
theorem seq_cases (b : Fin 128) : ∃ t s, b = seqOf t s :=
  ⟨⟨b.val / 32, by have h : grid0.N = 4 := rfl; omega⟩, ⟨b.val % 32, by omega⟩,
    Fin.ext (by show b.val = 32 * (b.val / 32) + b.val % 32; omega)⟩

theorem out_at (r : Fin 1024) (l : Fin 1024) : (dats m 0 c).arrAt 10 cfg0.N (ix2 r l)
    = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r l) := by
  obtain ⟨t, s, h⟩ := seq_cases ⟨r.val / 8, by omega⟩
  have e : r = rowR (seqOf t s) ⟨r.val % 8, by omega⟩ := by
    rw [← h]
    exact Fin.ext (by show r.val = r.val / 8 * 8 + r.val % 8; omega)
  rw [e]
  exact out_blk m c t s _ l

theorem out_arr : (dats m 0 c).arrAt 10 cfg0.N
    = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine funext fun j => ?_
  refine (congrArg _ (ValueIdx.eq_ix2 (n0 := 1024) (n1 := 1024) j)).trans
    (Eq.trans ?_ (congrArg _ (ValueIdx.eq_ix2 (n0 := 1024) (n1 := 1024) j)).symm)
  exact out_at m c (j 0) (j 1)

theorem state_arr : (dats m 0 c).arrAt 11 cfg0.N
    = val_main_v65 (F := Ideal) (m ((c : Thread nD τ).loc main_arg0)) (m ((c : Thread nD τ).loc main_arg1)) (m ((c : Thread nD τ).loc main_arg2)) (m ((c : Thread nD τ).loc main_arg3)) := by
  refine funext fun j => ?_
  refine (congrArg _ (ValueIdx.eq_ix3 (n0 := 128) j)).trans
    (Eq.trans ?_ (congrArg _ (ValueIdx.eq_ix3 (n0 := 128) j)).symm)
  obtain ⟨t, s, h⟩ := seq_cases (j 0)
  rw [h]
  exact state_blk m c t s _ _

/-- The two programs agree on both results. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => val_main_v64 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)),
    fun c => val_main_v65 (F := Ideal) (m (c.tc.loc main_arg0)) (m (c.tc.loc main_arg1)) (m (c.tc.loc main_arg2)) (m (c.tc.loc main_arg3)), ?_, ?_⟩
  · refine (θ_run Cert.Kernel2Ideal.defs _ _).mono (fun r h c => ?_) (Cert.Kernel2Ideal.Value.run_blocks (F := Ideal) m g)
    obtain ⟨h0, h1, hk⟩ := h c
    exact ⟨h0.trans (out_arr m c), h1.trans (state_arr m c), hk⟩
  · refine (θ_run Cert.Reference2Ideal.defs _ _).mono (fun r h c => ?_) (Cert.Reference2Ideal.Value.run (F := Ideal) m' g')
    obtain ⟨h0, h1, hk⟩ := h c
    obtain ⟨a0, a1, a2, a3, a4, a5, a6, a7, a8, a9⟩ := hargs c
    have e0 := h0.trans (val_main_v64_eq (F := Ideal) m' c)
    have e1 := h1.trans (val_main_v65_eq (F := Ideal) (m' (c.tc.loc Cert.Reference2Ideal.main_arg0)) (m' (c.tc.loc Cert.Reference2Ideal.main_arg1)) (m' (c.tc.loc Cert.Reference2Ideal.main_arg2)) (m' (c.tc.loc Cert.Reference2Ideal.main_arg3)))
    have f0 : val_main_v64 (F := Ideal) (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4)) (m' (c.tc.loc Cert.Reference2Ideal.main_arg5)) (m' (c.tc.loc Cert.Reference2Ideal.main_arg6)) (m' (c.tc.loc Cert.Reference2Ideal.main_arg7)) (m' (c.tc.loc Cert.Reference2Ideal.main_arg8)) (m' (c.tc.loc Cert.Reference2Ideal.main_arg9))
        = val_main_v64 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) := by
      rw [a0, a1, a2, a3, a4, a5, a6, a7, a8, a9]
    have f1 : val_main_v65 (F := Ideal) (m' (c.tc.loc Cert.Reference2Ideal.main_arg0)) (m' (c.tc.loc Cert.Reference2Ideal.main_arg1)) (m' (c.tc.loc Cert.Reference2Ideal.main_arg2)) (m' (c.tc.loc Cert.Reference2Ideal.main_arg3))
        = val_main_v65 (F := Ideal) (m (c.tc.loc main_arg0)) (m (c.tc.loc main_arg1)) (m (c.tc.loc main_arg2)) (m (c.tc.loc main_arg3)) := by
      rw [a0, a1, a2, a3]
    exact ⟨e0.trans f0, e1.trans f1, hk⟩

end Cert.Ffn

end

end
-- ==== Proof.Out.Math.lean ====
/-
  The output projection's mathematics over extended reals.
-/
module

public import proofs.«01_k».proof.Proof.Ffn.Math

@[expose] public section

noncomputable section

namespace Cert.Out

open Idealize.ShloMosaic
open Cert.Ffn (nrm)

/-- The sequence row `r` belongs to. -/
abbrev sq (r : Fin 1024) : Fin 128 := ⟨r.val / 8, by omega⟩
/-- Its time step. -/
abbrev st (r : Fin 1024) : Fin 8 := ⟨r.val % 8, by omega⟩

/-- A row entering the second normalisation: the scaled normalised input and the mixer row's projection. -/
def sum (x g b m : Fin 1024 → EReal) (w : Fin 1024 → Fin 1024 → EReal) (bo : Fin 1024 → EReal)
    (l : Fin 1024) : EReal :=
  Ideal.ofBits .f32 0x3F9837F0#32 * nrm x g b l + (∑ k, m k * w k l + bo l)

end Cert.Out

end

end
-- ==== Proof.Out.Payload.lean ====
/-
  The output projection's block of results read at an index over extended reals.
-/
module

public import proofs.«01_k».proof.Proof.Out.Math
public import proofs.«01_k».proof.Proof.Gen.Kernel3Ideal.Frame

@[expose] public section

noncomputable section

namespace Cert.Out

open Idealize.ShloMosaic Idealize.SL.Sem
open Cert.Kernel3Ideal Cert.Kernel3Ideal.Gen
open Cert.Ffn (nrm mean)

theorem sum_apply (v0 : Vec Ideal S256x1024 .f32) (v2 v4 : Vec Ideal S1x1024 .f32)
    (v26 : Vec Ideal S256x1024 .bf16) (v27 : Vec Ideal S1024x1024 .bf16) (v30 : Vec Ideal S1x1024 .f32)
    (r : Fin 256) (l : Fin 1024) :
    k0_pay2 (F := Ideal) v0 v2 v4 v26 v27 v30 (ix2 r l)
      = sum (fun k => v0 (ix2 r k)) (fun k => v2 (ix2 (0 : Fin 1) k)) (fun k => v4 (ix2 (0 : Fin 1) k))
          (fun k => v26 (ix2 r k)) (fun k l => v27 (ix2 k l)) (fun k => v30 (ix2 (0 : Fin 1) k)) l := by
  pointwise [k0_pay2, sum, nrm, mean]

theorem nrm_apply (v65 : Vec Ideal S256x1024 .f32) (v67 v68 : Vec Ideal S1x1024 .f32) (r : Fin 256)
    (l : Fin 1024) :
    k0_pay1 (F := Ideal) v65 v67 v68 (ix2 r l)
      = nrm (fun k => v65 (ix2 r k)) (fun k => v67 (ix2 (0 : Fin 1) k))
          (fun k => v68 (ix2 (0 : Fin 1) k)) l := by
  pointwise [k0_pay1, nrm, mean]

theorem hz : (![0, 0] : Fin 2 → Nat) = fun _ => 0 := by decide

variable (x0 : Vec Ideal S256x1024 .f32) (x1 : Vec Ideal S256x1024 .bf16) (x2 x3 : Vec Ideal S1x1024 .f32)
  (x4 : Vec Ideal S1024x1024 .bf16) (x5 x6 x7 : Vec Ideal S1x1024 .f32)

/-- What a step leaves in its block of the result. -/
theorem out_apply (r : Fin 256) (l : Fin 1024) :
    out0_8 (F := Ideal) x0 x1 x2 x3 x4 x5 x6 x7 (ix2 r l)
      = nrm (sum (fun k => x0 (ix2 r k)) (fun k => x2 (ix2 (0 : Fin 1) k)) (fun k => x3 (ix2 (0 : Fin 1) k))
          (fun k => x1 (ix2 r k)) (fun k l => x4 (ix2 k l)) (fun k => x5 (ix2 (0 : Fin 1) k)))
          (fun k => x6 (ix2 (0 : Fin 1) k)) (fun k => x7 (ix2 (0 : Fin 1) k)) l := by
  unfold out0_8
  rw [View.canon_unit_zero hz, View.ld_unit_zero hz, View.ld_unit_zero hz, View.ld_unit_zero hz,
    View.ld_unit_zero hz, View.ld_unit_zero hz, View.ld_unit_zero hz, View.ld_unit_zero hz,
    View.ld_unit_zero hz, nrm_apply]
  simp only [sum_apply]

end Cert.Out

end

end
-- ==== Proof.Out.Host.lean ====
/-
  The output projection's host operations before its region, and its blocks: what each step's input
  windows hold.
-/
module

public import proofs.«01_k».proof.Proof.Out.Payload

@[expose] public section

noncomputable section

namespace Cert.Out

open Idealize.ShloMosaic Idealize.ShloMosaic.TcCoe Idealize.SL.Sem
open Cert.Kernel3Ideal Cert.Kernel3Ideal.Gen

section
variable {F : FTy → Type} [FloatOps F]
variable (m : (ℓ : Loc nD τ sig) → Buf (Elt F) ℓ) (c : Dev nD)

theorem V_v0 : V m c main_v0 = shapeCast S1024x1024 (m ((c : Thread nD τ).loc main_arg0)) shapeCasts_S128x8x1024_S1024x1024 := by
  sl_kernel_rfl
theorem V_v1 : V m c main_v1 = shapeCast S1x1024 (m ((c : Thread nD τ).loc main_arg2)) shapeCasts_S1024_S1x1024 := by
  sl_kernel_rfl
theorem V_v2 : V m c main_v2 = shapeCast S1x1024 (m ((c : Thread nD τ).loc main_arg3)) shapeCasts_S1024_S1x1024 := by
  sl_kernel_rfl
theorem V_v3 : V m c main_v3 = truncf .bf16 (show FVec F S1024x1024 .f32 from m ((c : Thread nD τ).loc main_arg4)) bitsLt_bf16_f32 := by
  sl_kernel_rfl
theorem V_v4 : V m c main_v4 = shapeCast S1x1024 (m ((c : Thread nD τ).loc main_arg5)) shapeCasts_S1024_S1x1024 := by
  sl_kernel_rfl
theorem V_v5 : V m c main_v5 = shapeCast S1x1024 (m ((c : Thread nD τ).loc main_arg6)) shapeCasts_S1024_S1x1024 := by
  sl_kernel_rfl
theorem V_v6 : V m c main_v6 = shapeCast S1x1024 (m ((c : Thread nD τ).loc main_arg7)) shapeCasts_S1024_S1x1024 := by
  sl_kernel_rfl
end

/-! ## Entries -/

theorem rows_at (x : FVec Ideal S128x8x1024 .f32) (r : Fin 1024) (k : Fin 1024) :
    shapeCast S1024x1024 x shapeCasts_S128x8x1024_S1024x1024 (ix2 r k) = x (ix3 (sq r) (st r) k) := by
  pointwise []
theorem row1024_at (x : FVec Ideal S1024 .f32) (l : Fin 1024) :
    shapeCast S1x1024 x shapeCasts_S1024_S1x1024 (ix2 (0 : Fin 1) l) = x (ix1 l) := by
  pointwise []

/-! ## Blocks -/

/-- Row `r` of step `t`'s block. -/
abbrev at4 (t : Fin grid0.N) (r : Fin 256) : Fin 1024 :=
  ⟨256 * t.val + r.val, by have := t.isLt; have h : grid0.N = 4 := rfl; omega⟩

theorem idx0 : ∀ t : Fin grid0.N, win0_0.index t 0 = t.val ∧ win0_0.index t 1 = 0 := by decide +kernel
theorem emb0 (t : Fin grid0.N) (a : Fin 256) (b : Fin 1024) :
    ((cfg0.win 0).blk t).view.emb (ix2 a b) = ix2 (at4 t a) b := by
  obtain ⟨e0, e1⟩ := idx0 t
  funext a'
  match a' with
  | ⟨0, _⟩ => exact Fin.ext (by show win0_0.index t 0 * 256 + 1 * a.val = 256 * t.val + a.val; omega)
  | ⟨1, _⟩ => exact Fin.ext (by show win0_0.index t 1 * 1024 + 1 * b.val = b.val; omega)

theorem idx1 : ∀ t : Fin grid0.N, win0_1.index t 0 = t.val ∧ win0_1.index t 1 = 0 := by decide +kernel
theorem emb1 (t : Fin grid0.N) (a : Fin 256) (b : Fin 1024) :
    ((cfg0.win 1).blk t).view.emb (ix2 a b) = ix2 (at4 t a) b := by
  obtain ⟨e0, e1⟩ := idx1 t
  funext a'
  match a' with
  | ⟨0, _⟩ => exact Fin.ext (by show win0_1.index t 0 * 256 + 1 * a.val = 256 * t.val + a.val; omega)
  | ⟨1, _⟩ => exact Fin.ext (by show win0_1.index t 1 * 1024 + 1 * b.val = b.val; omega)

theorem idx2 : ∀ t : Fin grid0.N, win0_2.index t 0 = 0 ∧ win0_2.index t 1 = 0 := by decide +kernel
theorem emb2 (t : Fin grid0.N) (a : Fin 1) (b : Fin 1024) :
    ((cfg0.win 2).blk t).view.emb (ix2 a b) = ix2 a b := by
  obtain ⟨e0, e1⟩ := idx2 t
  funext a'
  match a' with
  | ⟨0, _⟩ => exact Fin.ext (by show win0_2.index t 0 * 1 + 1 * a.val = a.val; omega)
  | ⟨1, _⟩ => exact Fin.ext (by show win0_2.index t 1 * 1024 + 1 * b.val = b.val; omega)

theorem idx3 : ∀ t : Fin grid0.N, win0_3.index t 0 = 0 ∧ win0_3.index t 1 = 0 := by decide +kernel
theorem emb3 (t : Fin grid0.N) (a : Fin 1) (b : Fin 1024) :
    ((cfg0.win 3).blk t).view.emb (ix2 a b) = ix2 a b := by
  obtain ⟨e0, e1⟩ := idx3 t
  funext a'
  match a' with
  | ⟨0, _⟩ => exact Fin.ext (by show win0_3.index t 0 * 1 + 1 * a.val = a.val; omega)
  | ⟨1, _⟩ => exact Fin.ext (by show win0_3.index t 1 * 1024 + 1 * b.val = b.val; omega)

theorem idx4 : ∀ t : Fin grid0.N, win0_4.index t 0 = 0 ∧ win0_4.index t 1 = 0 := by decide +kernel
theorem emb4 (t : Fin grid0.N) (a : Fin 1024) (b : Fin 1024) :
    ((cfg0.win 4).blk t).view.emb (ix2 a b) = ix2 a b := by
  obtain ⟨e0, e1⟩ := idx4 t
  funext a'
  match a' with
  | ⟨0, _⟩ => exact Fin.ext (by show win0_4.index t 0 * 1024 + 1 * a.val = a.val; omega)
  | ⟨1, _⟩ => exact Fin.ext (by show win0_4.index t 1 * 1024 + 1 * b.val = b.val; omega)

theorem idx5 : ∀ t : Fin grid0.N, win0_5.index t 0 = 0 ∧ win0_5.index t 1 = 0 := by decide +kernel
theorem emb5 (t : Fin grid0.N) (a : Fin 1) (b : Fin 1024) :
    ((cfg0.win 5).blk t).view.emb (ix2 a b) = ix2 a b := by
  obtain ⟨e0, e1⟩ := idx5 t
  funext a'
  match a' with
  | ⟨0, _⟩ => exact Fin.ext (by show win0_5.index t 0 * 1 + 1 * a.val = a.val; omega)
  | ⟨1, _⟩ => exact Fin.ext (by show win0_5.index t 1 * 1024 + 1 * b.val = b.val; omega)

theorem idx6 : ∀ t : Fin grid0.N, win0_6.index t 0 = 0 ∧ win0_6.index t 1 = 0 := by decide +kernel
theorem emb6 (t : Fin grid0.N) (a : Fin 1) (b : Fin 1024) :
    ((cfg0.win 6).blk t).view.emb (ix2 a b) = ix2 a b := by
  obtain ⟨e0, e1⟩ := idx6 t
  funext a'
  match a' with
  | ⟨0, _⟩ => exact Fin.ext (by show win0_6.index t 0 * 1 + 1 * a.val = a.val; omega)
  | ⟨1, _⟩ => exact Fin.ext (by show win0_6.index t 1 * 1024 + 1 * b.val = b.val; omega)

theorem idx7 : ∀ t : Fin grid0.N, win0_7.index t 0 = 0 ∧ win0_7.index t 1 = 0 := by decide +kernel
theorem emb7 (t : Fin grid0.N) (a : Fin 1) (b : Fin 1024) :
    ((cfg0.win 7).blk t).view.emb (ix2 a b) = ix2 a b := by
  obtain ⟨e0, e1⟩ := idx7 t
  funext a'
  match a' with
  | ⟨0, _⟩ => exact Fin.ext (by show win0_7.index t 0 * 1 + 1 * a.val = a.val; omega)
  | ⟨1, _⟩ => exact Fin.ext (by show win0_7.index t 1 * 1024 + 1 * b.val = b.val; omega)

theorem idx8 : ∀ t : Fin grid0.N, win0_8.index t 0 = t.val ∧ win0_8.index t 1 = 0 := by decide +kernel
theorem emb8 (t : Fin grid0.N) (a : Fin 256) (b : Fin 1024) :
    ((cfg0.win 8).blk t).view.emb (ix2 a b) = ix2 (at4 t a) b := by
  obtain ⟨e0, e1⟩ := idx8 t
  funext a'
  match a' with
  | ⟨0, _⟩ => exact Fin.ext (by show win0_8.index t 0 * 256 + 1 * a.val = 256 * t.val + a.val; omega)
  | ⟨1, _⟩ => exact Fin.ext (by show win0_8.index t 1 * 1024 + 1 * b.val = b.val; omega)

variable (m : (ℓ : Loc nD τ sig) → Buf (Elt Ideal) ℓ) (c : Dev nD)

theorem in0 (t : Fin grid0.N) (r : Fin 256) (k : Fin 1024) :
    iblk m c 0 t (ix2 r k) = m ((c : Thread nD τ).loc main_arg0) (ix3 (sq (at4 t r)) (st (at4 t r)) k) := by
  show V m c main_v0 (((cfg0.win 0).blk t).view.emb (ix2 _ _)) = _
  rw [emb0, V_v0]
  exact rows_at _ _ _
theorem in1 (t : Fin grid0.N) (r : Fin 256) (k : Fin 1024) :
    iblk m c 1 t (ix2 r k) = m ((c : Thread nD τ).loc main_arg1) (ix2 (at4 t r) k) := by
  show V m c main_arg1 (((cfg0.win 1).blk t).view.emb (ix2 _ _)) = _
  rw [emb1, V_main_arg1]
theorem in2 (t : Fin grid0.N) (l : Fin 1024) :
    iblk m c 2 t (ix2 (0 : Fin 1) l) = m ((c : Thread nD τ).loc main_arg2) (ix1 l) := by
  show V m c main_v1 (((cfg0.win 2).blk t).view.emb (ix2 _ _)) = _
  rw [emb2, V_v1]
  exact row1024_at _ l
theorem in3 (t : Fin grid0.N) (l : Fin 1024) :
    iblk m c 3 t (ix2 (0 : Fin 1) l) = m ((c : Thread nD τ).loc main_arg3) (ix1 l) := by
  show V m c main_v2 (((cfg0.win 3).blk t).view.emb (ix2 _ _)) = _
  rw [emb3, V_v2]
  exact row1024_at _ l
theorem in4 (t : Fin grid0.N) (k : Fin 1024) (l : Fin 1024) :
    iblk m c 4 t (ix2 k l) = m ((c : Thread nD τ).loc main_arg4) (ix2 k l) := by
  show V m c main_v3 (((cfg0.win 4).blk t).view.emb (ix2 _ _)) = _
  rw [emb4, V_v3]
  rfl
theorem in5 (t : Fin grid0.N) (l : Fin 1024) :
    iblk m c 5 t (ix2 (0 : Fin 1) l) = m ((c : Thread nD τ).loc main_arg5) (ix1 l) := by
  show V m c main_v4 (((cfg0.win 5).blk t).view.emb (ix2 _ _)) = _
  rw [emb5, V_v4]
  exact row1024_at _ l
theorem in6 (t : Fin grid0.N) (l : Fin 1024) :
    iblk m c 6 t (ix2 (0 : Fin 1) l) = m ((c : Thread nD τ).loc main_arg6) (ix1 l) := by
  show V m c main_v5 (((cfg0.win 6).blk t).view.emb (ix2 _ _)) = _
  rw [emb6, V_v5]
  exact row1024_at _ l
theorem in7 (t : Fin grid0.N) (l : Fin 1024) :
    iblk m c 7 t (ix2 (0 : Fin 1) l) = m ((c : Thread nD τ).loc main_arg7) (ix1 l) := by
  show V m c main_v6 (((cfg0.win 7).blk t).view.emb (ix2 _ _)) = _
  rw [emb7, V_v6]
  exact row1024_at _ l

end Cert.Out

end

end
-- ==== Proof.Out.Reference.lean ====
/-
  The output projection's reference read at an index over extended reals.
-/
module

public import proofs.«01_k».proof.Proof.Out.Math
public import proofs.«01_k».proof.Proof.Gen.Reference3Ideal.Read

@[expose] public section

noncomputable section

namespace Cert.Out

open Idealize.ShloMosaic Idealize.SL.Sem
open Cert.Reference3Ideal Cert.Reference3Ideal.Read
open Cert.Ffn (nrm mean)

variable (y0 : FVec Ideal S128x8x1024 .f32) (y1 : FVec Ideal S1024x1024 .bf16) (y2 y3 : FVec Ideal S1024 .f32)
  (y4 : FVec Ideal S1024x1024 .f32) (y5 y6 y7 : FVec Ideal S1024 .f32)

theorem v23_at (b : Fin 128) (t : Fin 8) (l : Fin 1024) :
    val_main_v23 (F := Ideal) y0 y2 y3 (ix3 b t l)
      = nrm (fun k => y0 (ix3 b t k)) (fun k => y2 (ix1 k)) (fun k => y3 (ix1 k)) l := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst_3, val_main_cst_2, val_main_cst_1, val_main_cst_0, val_main_cst,
    nrm, mean]

/-- The row entering the second normalisation. -/
def sumR (r : Fin 1024) : Fin 1024 → EReal :=
  sum (fun k => y0 (ix3 (sq r) (st r) k)) (fun k => y2 (ix1 k)) (fun k => y3 (ix1 k))
    (fun k => y1 (ix2 r k)) (fun k l => y4 (ix2 k l)) (fun k => y5 (ix1 k))

theorem v32_at (r : Fin 1024) (l : Fin 1024) :
    val_main_v32 (F := Ideal) y0 y1 y2 y3 y4 y5 (ix2 r l) = sumR y0 y1 y2 y3 y4 y5 r l := by
  have h := v23_at y0 y2 y3
  unfold sumR sum
  simp only [← h]
  simp only [val_main_v32, val_main_v31, val_main_v30, val_main_v29, val_main_v28, val_main_v27,
    val_main_v26, val_main_v25, val_main_cst_4, val_main_v24]
  generalize val_main_v23 (F := Ideal) y0 y2 y3 = y
  pointwise []

theorem v56_at (r : Fin 1024) (l : Fin 1024) :
    val_main_v56 (F := Ideal) y0 y1 y2 y3 y4 y5 y6 y7 (ix2 r l)
      = nrm (sumR y0 y1 y2 y3 y4 y5 r) (fun k => y6 (ix1 k)) (fun k => y7 (ix1 k)) l := by
  have h : sumR y0 y1 y2 y3 y4 y5 r = fun l => val_main_v32 (F := Ideal) y0 y1 y2 y3 y4 y5 (ix2 r l) :=
    funext fun l => (v32_at y0 y1 y2 y3 y4 y5 r l).symm
  rw [h]
  simp only [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33,
    val_main_cst_5, val_main_cst_6, val_main_cst_7, val_main_cst_8, val_main_cst_9]
  generalize val_main_v32 (F := Ideal) y0 y1 y2 y3 y4 y5 = y
  pointwise [nrm, mean]

end Cert.Out

end

end
-- ==== Proof.Out.Algebraic.lean ====
/-
  The output projection's result array is the reference's.
-/
module

public import proofs.«01_k».proof.Proof.Out.Host
public import proofs.«01_k».proof.Proof.Out.Reference
public import proofs.«01_k».proof.Proof.Gen.Kernel3Ideal.Value
public import proofs.«01_k».proof.Proof.Gen.Reference3Ideal.Run
public import proofs.«01_k».proof.Defs

@[expose] public section

noncomputable section

namespace Cert.Out

open Idealize.ShloMosaic Idealize.ShloMosaic.TcCoe Idealize.SL.Sem Idealize.ShloMosaic.StableHlo
open Cert.Kernel3Ideal Cert.Kernel3Ideal.Gen Cert.Kernel3Ideal.Value
open Cert.Reference3Ideal.Read (val_main_v56 val_main_v56_eq)

variable (m : (ℓ : Loc nD τ sig) → Buf (Elt Ideal) ℓ) (c : Dev nD)

theorem flush8 : ∀ t : Fin grid0.N, (cfg0.win 8).flush t = true := by decide +kernel

theorem blk_at (t : Fin grid0.N) (r : Fin 256) (l : Fin 1024) :
    (dats m 0 c).arrAt 8 cfg0.N (ix2 (at4 t r) l)
      = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (at4 t r) l) := by
  have hk := congrFun (blocks8 m c t (by exact flush8 t)) (ix2 r l)
  rw [flushed8] at hk
  refine Eq.trans (Eq.trans (congrArg _ (emb8 t r l).symm) hk) (Eq.trans (show _ = out0_8 (iblk m c 0 t) (iblk m c 1 t) (iblk m c 2 t) (iblk m c 3 t) (iblk m c 4 t) (iblk m c 5 t) (iblk m c 6 t) (iblk m c 7 t) (ix2 r l) from rfl) ?_)
  rw [out_apply, v56_at]
  unfold sumR
  simp only [in0 m c t, in1 m c t, in2 m c t, in3 m c t, in4 m c t, in5 m c t, in6 m c t, in7 m c t]

/-- Every row is in some step's block. -/
theorem row_cases (r : Fin 1024) : ∃ t s, r = at4 t s :=
  ⟨⟨r.val / 256, by have h : grid0.N = 4 := rfl; omega⟩, ⟨r.val % 256, by omega⟩,
    Fin.ext (by show r.val = 256 * (r.val / 256) + r.val % 256; omega)⟩

theorem arr_at (r : Fin 1024) (l : Fin 1024) : (dats m 0 c).arrAt 8 cfg0.N (ix2 r l)
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 r l) := by
  obtain ⟨t, s, rfl⟩ := row_cases r
  exact blk_at m c t s l

theorem arr_eq : (dats m 0 c).arrAt 8 cfg0.N
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine funext fun j => ?_
  refine (congrArg _ (ValueIdx.eq_ix2 (n0 := 1024) (n1 := 1024) j)).trans
    (Eq.trans ?_ (congrArg _ (ValueIdx.eq_ix2 (n0 := 1024) (n1 := 1024) j)).symm)
  exact arr_at m c (j 0) (j 1)

/-- The two programs agree on the result. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => val_main_v56 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)), ?_, ?_⟩
  · refine (θ_run Cert.Kernel3Ideal.defs _ _).mono (fun r h c => ?_) (Cert.Kernel3Ideal.Value.run_blocks (F := Ideal) m g)
    obtain ⟨h0, hk⟩ := h c
    exact ⟨h0.trans (arr_eq m c), hk⟩
  · refine (θ_run Cert.Reference3Ideal.defs _ _).mono (fun r h c => ?_) (Cert.Reference3Ideal.Value.run (F := Ideal) m' g')
    obtain ⟨h0, hk⟩ := h c
    obtain ⟨a0, a1, a2, a3, a4, a5, a6, a7⟩ := hargs c
    have e0 := h0.trans (val_main_v56_eq (F := Ideal) m' c)
    have f0 : val_main_v56 (F := Ideal) (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6)) (m' (c.tc.loc Cert.Reference3Ideal.main_arg7))
        = val_main_v56 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
      rw [a0, a1, a2, a3, a4, a5, a6, a7]
    exact ⟨e0.trans f0, hk⟩

end Cert.Out

end

end
-- ==== Proof.In.Math.lean ====
/-
  The input projection's mathematics over extended reals: a row of 4104 columns regrouped into 4224.
-/
module

public import proofs.«01_k».proof.Proof.Ffn.Math

@[expose] public section

noncomputable section

namespace Cert.In

open Idealize.ShloMosaic

/-- The sequence row `r` belongs to. -/
abbrev sq (r : Fin 1024) : Fin 128 := ⟨r.val / 8, by omega⟩
/-- Its time step. -/
abbrev st (r : Fin 1024) : Fin 8 := ⟨r.val % 8, by omega⟩

/-- The columns regrouped: the gates' eight columns last, padded with zeros. -/
def pick (f : Fin 4104 → EReal) (l : Fin 4224) : EReal :=
  if h : l.val < 2048 then f ⟨l.val, by omega⟩
  else if h' : l.val < 4096 then f ⟨l.val + 8, by omega⟩
  else if h'' : l.val < 4104 then f ⟨l.val - 2048, by omega⟩
  else 0

/-- The same with each group's columns counted from its own start. -/
theorem pick_eq (f : Fin 4104 → EReal) (l : Fin 4224) : pick f l =
    if h : l.val < 2048 then f ⟨l.val, by omega⟩
    else if h' : l.val - 2048 < 2048 then f ⟨2056 + (l.val - 2048), by omega⟩
    else if h'' : l.val - 2048 - 2048 < 8 then f ⟨2048 + (l.val - 2048 - 2048), by omega⟩
    else 0 := by
  unfold pick
  by_cases h1 : l.val < 2048
  · rw [dif_pos h1, dif_pos h1]
  · rw [dif_neg h1, dif_neg h1]
    by_cases h2 : l.val < 4096
    · rw [dif_pos h2, dif_pos (show l.val - 2048 < 2048 by omega)]
      exact congrArg f (Fin.ext (by show l.val + 8 = 2056 + (l.val - 2048); omega))
    · rw [dif_neg h2, dif_neg (show ¬l.val - 2048 < 2048 by omega)]
      by_cases h3 : l.val < 4104
      · rw [dif_pos h3, dif_pos (show l.val - 2048 - 2048 < 8 by omega)]
        exact congrArg f (Fin.ext (by show l.val - 2048 = 2048 + (l.val - 2048 - 2048); omega))
      · rw [dif_neg h3, dif_neg (show ¬l.val - 2048 - 2048 < 8 by omega)]

/-- A product with regrouped columns is the product's columns regrouped. -/
theorem pick_sum (x : Fin 1024 → EReal) (w : Fin 1024 → Fin 4104 → EReal) (b : Fin 4104 → EReal)
    (l : Fin 4224) :
    ∑ k, x k * pick (w k) l + pick b l = pick (fun j => ∑ k, x k * w k j + b j) l := by
  unfold pick
  split
  · rfl
  · split
    · rfl
    · split
      · rfl
      · simp only [mul_zero, Finset.sum_const_zero, add_zero]

end Cert.In

end

end
-- ==== Proof.In.Payload.lean ====
/-
  The input projection's block of results read at an index over extended reals.
-/
module

public import proofs.«01_k».proof.Proof.In.Math
public import proofs.«01_k».proof.Proof.Gen.Kernel4Ideal.Frame

@[expose] public section

noncomputable section

namespace Cert.In

open Idealize.ShloMosaic Idealize.SL.Sem
open Cert.Kernel4Ideal Cert.Kernel4Ideal.Gen
open Cert.Ffn (nrm mean)

theorem proj_apply (v0 : Vec Ideal S256x1024 .f32) (v2 v4 : Vec Ideal S1x1024 .f32)
    (v27 : Vec Ideal S1024x4224 .bf16) (v30 : Vec Ideal S1x4224 .f32) (r : Fin 256) (l : Fin 4224) :
    k0_pay1 (F := Ideal) v0 v2 v4 v27 v30 (ix2 r l)
      = ∑ k, nrm (fun k => v0 (ix2 r k)) (fun k => v2 (ix2 (0 : Fin 1) k)) (fun k => v4 (ix2 (0 : Fin 1) k)) k
            * v27 (ix2 k l) + v30 (ix2 (0 : Fin 1) l) := by
  pointwise [k0_pay1, nrm, mean]

theorem hz : (![0, 0] : Fin 2 → Nat) = fun _ => 0 := by decide

variable (x0 : Vec Ideal S256x1024 .f32) (x1 x2 : Vec Ideal S1x1024 .f32)
  (x3 : Vec Ideal S1024x4224 .bf16) (x4 : Vec Ideal S1x4224 .f32)

/-- What a step leaves in its block of the result. -/
theorem out_apply (r : Fin 256) (l : Fin 4224) :
    out0_5 (F := Ideal) x0 x1 x2 x3 x4 (ix2 r l)
      = ∑ k, nrm (fun k => x0 (ix2 r k)) (fun k => x1 (ix2 (0 : Fin 1) k)) (fun k => x2 (ix2 (0 : Fin 1) k)) k
            * x3 (ix2 k l) + x4 (ix2 (0 : Fin 1) l) := by
  unfold out0_5
  rw [View.canon_unit_zero hz, View.ld_unit_zero hz, View.ld_unit_zero hz, View.ld_unit_zero hz,
    View.ld_unit_zero hz, View.ld_unit_zero hz, proj_apply]

end Cert.In

end

end
-- ==== Proof.In.Host.lean ====
/-
  The input projection's host operations before its region, and its blocks: what each step's input
  windows hold.
-/
module

public import proofs.«01_k».proof.Proof.In.Payload

@[expose] public section

noncomputable section

namespace Cert.In

open Idealize.ShloMosaic Idealize.ShloMosaic.TcCoe Idealize.SL.Sem
open Cert.Kernel4Ideal Cert.Kernel4Ideal.Gen

section
variable {F : FTy → Type} [FloatOps F]
variable (m : (ℓ : Loc nD τ sig) → Buf (Elt F) ℓ) (c : Dev nD)

/-- The weight's columns regrouped: the gates' eight columns last, padded with zeros. -/
def cols (x : FVec F S1024x4104 .bf16) : FVec F S1024x4224 .bf16 :=
  concatenate S1024x4224 1
    [⟨S1024x2048, extractStridedSlice S1024x2048 ![0, 0] x slices_S1024x4104_S1024x2048_0_0⟩,
     ⟨S1024x2048, extractStridedSlice S1024x2048 ![0, 2056] x slices_S1024x4104_S1024x2048_0_2056⟩,
     ⟨S1024x8, extractStridedSlice S1024x8 ![0, 2048] x slices_S1024x4104_S1024x8_0_2048⟩,
     ⟨S1024x120, broadcastInDim S1024x120 ![] bcast_S_S1024x120 (constant S_ .bf16 0x0000#16)⟩]
    concatenates_S1024x2048_S1024x2048_S1024x8_S1024x120_S1024x4224_d1

/-- The bias's entries regrouped likewise. -/
def ents (x : FVec F S4104 .f32) : FVec F S4224 .f32 :=
  concatenate S4224 0
    [⟨S2048, extractStridedSlice S2048 ![0] x slices_S4104_S2048_0⟩,
     ⟨S2048, extractStridedSlice S2048 ![2056] x slices_S4104_S2048_2056⟩,
     ⟨S8, extractStridedSlice S8 ![2048] x slices_S4104_S8_2048⟩,
     ⟨S120, broadcastInDim S120 ![] bcast_S_S120 (constant S_ .f32 0x00000000#32)⟩]
    concatenates_S2048_S2048_S8_S120_S4224_d0

theorem V_v5 : V m c main_v5
    = cols (truncf .bf16 (show FVec F S1024x4104 .f32 from m ((c : Thread nD τ).loc main_arg3)) bitsLt_bf16_f32) := by
  sl_kernel_rfl
theorem V_v11 : V m c main_v11 = shapeCast S1x4224 (ents (m ((c : Thread nD τ).loc main_arg4))) shapeCasts_S4224_S1x4224 := by
  sl_kernel_rfl
theorem V_v12 : V m c main_v12 = shapeCast S1024x1024 (m ((c : Thread nD τ).loc main_arg0)) shapeCasts_S128x8x1024_S1024x1024 := by
  sl_kernel_rfl
theorem V_v13 : V m c main_v13 = shapeCast S1x1024 (m ((c : Thread nD τ).loc main_arg1)) shapeCasts_S1024_S1x1024 := by
  sl_kernel_rfl
theorem V_v14 : V m c main_v14 = shapeCast S1x1024 (m ((c : Thread nD τ).loc main_arg2)) shapeCasts_S1024_S1x1024 := by
  sl_kernel_rfl
end

/-! ## Entries -/

theorem rows_at (x : FVec Ideal S128x8x1024 .f32) (r : Fin 1024) (k : Fin 1024) :
    shapeCast S1024x1024 x shapeCasts_S128x8x1024_S1024x1024 (ix2 r k) = x (ix3 (sq r) (st r) k) := by
  pointwise []
theorem row1024_at (x : FVec Ideal S1024 .f32) (l : Fin 1024) :
    shapeCast S1x1024 x shapeCasts_S1024_S1x1024 (ix2 (0 : Fin 1) l) = x (ix1 l) := by
  pointwise []
theorem cols_at (x : FVec Ideal S1024x4104 .bf16) (r : Fin 1024) (l : Fin 4224) :
    cols x (ix2 r l) = pick (fun j => x (ix2 r j)) l := by
  rw [pick_eq]
  pointwise [cols]
theorem ents_at (x : FVec Ideal S4104 .f32) (l : Fin 4224) :
    shapeCast S1x4224 (ents x) shapeCasts_S4224_S1x4224 (ix2 (0 : Fin 1) l) = pick (fun j => x (ix1 j)) l := by
  rw [pick_eq]
  pointwise [ents]

/-! ## Blocks -/

/-- Row `r` of step `t`'s block. -/
abbrev at4 (t : Fin grid0.N) (r : Fin 256) : Fin 1024 :=
  ⟨256 * t.val + r.val, by have := t.isLt; have h : grid0.N = 4 := rfl; omega⟩

theorem idx0 : ∀ t : Fin grid0.N, win0_0.index t 0 = t.val ∧ win0_0.index t 1 = 0 := by decide +kernel
theorem emb0 (t : Fin grid0.N) (a : Fin 256) (b : Fin 1024) :
    ((cfg0.win 0).blk t).view.emb (ix2 a b) = ix2 (at4 t a) b := by
  obtain ⟨e0, e1⟩ := idx0 t
  funext a'
  match a' with
  | ⟨0, _⟩ => exact Fin.ext (by show win0_0.index t 0 * 256 + 1 * a.val = 256 * t.val + a.val; omega)
  | ⟨1, _⟩ => exact Fin.ext (by show win0_0.index t 1 * 1024 + 1 * b.val = b.val; omega)

theorem idx1 : ∀ t : Fin grid0.N, win0_1.index t 0 = 0 ∧ win0_1.index t 1 = 0 := by decide +kernel
theorem emb1 (t : Fin grid0.N) (a : Fin 1) (b : Fin 1024) :
    ((cfg0.win 1).blk t).view.emb (ix2 a b) = ix2 a b := by
  obtain ⟨e0, e1⟩ := idx1 t
  funext a'
  match a' with
  | ⟨0, _⟩ => exact Fin.ext (by show win0_1.index t 0 * 1 + 1 * a.val = a.val; omega)
  | ⟨1, _⟩ => exact Fin.ext (by show win0_1.index t 1 * 1024 + 1 * b.val = b.val; omega)

theorem idx2 : ∀ t : Fin grid0.N, win0_2.index t 0 = 0 ∧ win0_2.index t 1 = 0 := by decide +kernel
theorem emb2 (t : Fin grid0.N) (a : Fin 1) (b : Fin 1024) :
    ((cfg0.win 2).blk t).view.emb (ix2 a b) = ix2 a b := by
  obtain ⟨e0, e1⟩ := idx2 t
  funext a'
  match a' with
  | ⟨0, _⟩ => exact Fin.ext (by show win0_2.index t 0 * 1 + 1 * a.val = a.val; omega)
  | ⟨1, _⟩ => exact Fin.ext (by show win0_2.index t 1 * 1024 + 1 * b.val = b.val; omega)

theorem idx3 : ∀ t : Fin grid0.N, win0_3.index t 0 = 0 ∧ win0_3.index t 1 = 0 := by decide +kernel
theorem emb3 (t : Fin grid0.N) (a : Fin 1024) (b : Fin 4224) :
    ((cfg0.win 3).blk t).view.emb (ix2 a b) = ix2 a b := by
  obtain ⟨e0, e1⟩ := idx3 t
  funext a'
  match a' with
  | ⟨0, _⟩ => exact Fin.ext (by show win0_3.index t 0 * 1024 + 1 * a.val = a.val; omega)
  | ⟨1, _⟩ => exact Fin.ext (by show win0_3.index t 1 * 4224 + 1 * b.val = b.val; omega)

theorem idx4 : ∀ t : Fin grid0.N, win0_4.index t 0 = 0 ∧ win0_4.index t 1 = 0 := by decide +kernel
theorem emb4 (t : Fin grid0.N) (a : Fin 1) (b : Fin 4224) :
    ((cfg0.win 4).blk t).view.emb (ix2 a b) = ix2 a b := by
  obtain ⟨e0, e1⟩ := idx4 t
  funext a'
  match a' with
  | ⟨0, _⟩ => exact Fin.ext (by show win0_4.index t 0 * 1 + 1 * a.val = a.val; omega)
  | ⟨1, _⟩ => exact Fin.ext (by show win0_4.index t 1 * 4224 + 1 * b.val = b.val; omega)

theorem idx5 : ∀ t : Fin grid0.N, win0_5.index t 0 = t.val ∧ win0_5.index t 1 = 0 := by decide +kernel
theorem emb5 (t : Fin grid0.N) (a : Fin 256) (b : Fin 4224) :
    ((cfg0.win 5).blk t).view.emb (ix2 a b) = ix2 (at4 t a) b := by
  obtain ⟨e0, e1⟩ := idx5 t
  funext a'
  match a' with
  | ⟨0, _⟩ => exact Fin.ext (by show win0_5.index t 0 * 256 + 1 * a.val = 256 * t.val + a.val; omega)
  | ⟨1, _⟩ => exact Fin.ext (by show win0_5.index t 1 * 4224 + 1 * b.val = b.val; omega)

variable (m : (ℓ : Loc nD τ sig) → Buf (Elt Ideal) ℓ) (c : Dev nD)

theorem in0 (t : Fin grid0.N) (r : Fin 256) (k : Fin 1024) :
    iblk m c 0 t (ix2 r k) = m ((c : Thread nD τ).loc main_arg0) (ix3 (sq (at4 t r)) (st (at4 t r)) k) := by
  show V m c main_v12 (((cfg0.win 0).blk t).view.emb (ix2 _ _)) = _
  rw [emb0, V_v12]
  exact rows_at _ _ _
theorem in1 (t : Fin grid0.N) (l : Fin 1024) :
    iblk m c 1 t (ix2 (0 : Fin 1) l) = m ((c : Thread nD τ).loc main_arg1) (ix1 l) := by
  show V m c main_v13 (((cfg0.win 1).blk t).view.emb (ix2 _ _)) = _
  rw [emb1, V_v13]
  exact row1024_at _ l
theorem in2 (t : Fin grid0.N) (l : Fin 1024) :
    iblk m c 2 t (ix2 (0 : Fin 1) l) = m ((c : Thread nD τ).loc main_arg2) (ix1 l) := by
  show V m c main_v14 (((cfg0.win 2).blk t).view.emb (ix2 _ _)) = _
  rw [emb2, V_v14]
  exact row1024_at _ l
theorem in3 (t : Fin grid0.N) (k : Fin 1024) (l : Fin 4224) :
    iblk m c 3 t (ix2 k l) = pick (fun j => m ((c : Thread nD τ).loc main_arg3) (ix2 k j)) l := by
  show V m c main_v5 (((cfg0.win 3).blk t).view.emb (ix2 _ _)) = _
  rw [emb3, V_v5]
  exact cols_at _ _ _
theorem in4 (t : Fin grid0.N) (l : Fin 4224) :
    iblk m c 4 t (ix2 (0 : Fin 1) l) = pick (fun j => m ((c : Thread nD τ).loc main_arg4) (ix1 j)) l := by
  show V m c main_v11 (((cfg0.win 4).blk t).view.emb (ix2 _ _)) = _
  rw [emb4, V_v11]
  exact ents_at _ _

end Cert.In

end

end
-- ==== Proof.In.Reference.lean ====
/-
  The input projection's reference read at an index over extended reals.
-/
module

public import proofs.«01_k».proof.Proof.In.Math
public import proofs.«01_k».proof.Proof.Gen.Reference4Ideal.Read

@[expose] public section

noncomputable section

namespace Cert.In

open Idealize.ShloMosaic Idealize.SL.Sem
open Cert.Reference4Ideal Cert.Reference4Ideal.Read
open Cert.Ffn (nrm mean)

variable (y0 : FVec Ideal S128x8x1024 .f32) (y1 y2 : FVec Ideal S1024 .f32)
  (y3 : FVec Ideal S1024x4104 .f32) (y4 : FVec Ideal S4104 .f32)

theorem v23_at (b : Fin 128) (t : Fin 8) (l : Fin 1024) :
    val_main_v23 (F := Ideal) y0 y1 y2 (ix3 b t l)
      = nrm (fun k => y0 (ix3 b t k)) (fun k => y1 (ix1 k)) (fun k => y2 (ix1 k)) l := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst_3, val_main_cst_2, val_main_cst_1, val_main_cst_0, val_main_cst,
    nrm, mean]

/-- A row's projection. -/
def projR (r : Fin 1024) (j : Fin 4104) : EReal :=
  ∑ k, nrm (fun k => y0 (ix3 (sq r) (st r) k)) (fun k => y1 (ix1 k)) (fun k => y2 (ix1 k)) k * y3 (ix2 k j)
    + y4 (ix1 j)

theorem v28_at (r : Fin 1024) (j : Fin 4104) :
    val_main_v28 (F := Ideal) y0 y1 y2 y3 y4 (ix2 r j) = projR y0 y1 y2 y3 y4 r j := by
  have h := v23_at y0 y1 y2
  unfold projR
  simp only [← h]
  simp only [val_main_v28, val_main_v27, val_main_v26, val_main_v25, val_main_v24]
  generalize val_main_v23 (F := Ideal) y0 y1 y2 = y
  pointwise []

theorem regroup_at (y : FVec Ideal S1024x4104 .f32) (r : Fin 1024) (l : Fin 4224) :
    concatenate S1024x4224 1
      [⟨S1024x2048, extractStridedSlice S1024x2048 ![0, 0] y Gen.slices_S1024x4104_S1024x2048_0_0⟩,
       ⟨S1024x2048, extractStridedSlice S1024x2048 ![0, 2056] y Gen.slices_S1024x4104_S1024x2048_0_2056⟩,
       ⟨S1024x8, extractStridedSlice S1024x8 ![0, 2048] y Gen.slices_S1024x4104_S1024x8_0_2048⟩,
       ⟨S1024x120, broadcastInDim S1024x120 ![] Gen.bcast_S_S1024x120 (constant (F := Ideal) S_ .f32 0x00000000#32)⟩]
      Gen.concatenates_S1024x2048_S1024x2048_S1024x8_S1024x120_S1024x4224_d1 (ix2 r l)
      = pick (fun l => y (ix2 r l)) l := by
  rw [pick_eq]
  pointwise []

theorem v33_at (r : Fin 1024) (l : Fin 4224) :
    val_main_v33 (F := Ideal) y0 y1 y2 y3 y4 (ix2 r l) = pick (projR y0 y1 y2 y3 y4 r) l := by
  have h : projR y0 y1 y2 y3 y4 r = fun l => val_main_v28 (F := Ideal) y0 y1 y2 y3 y4 (ix2 r l) :=
    funext fun l => (v28_at y0 y1 y2 y3 y4 r l).symm
  rw [h]
  exact regroup_at _ r l

end Cert.In

end

end
-- ==== Proof.In.Algebraic.lean ====
/-
  The input projection's result array is the reference's.
-/
module

public import proofs.«01_k».proof.Proof.In.Host
public import proofs.«01_k».proof.Proof.In.Reference
public import proofs.«01_k».proof.Proof.Gen.Kernel4Ideal.Value
public import proofs.«01_k».proof.Proof.Gen.Reference4Ideal.Run
public import proofs.«01_k».proof.Defs

@[expose] public section

noncomputable section

namespace Cert.In

open Idealize.ShloMosaic Idealize.ShloMosaic.TcCoe Idealize.SL.Sem Idealize.ShloMosaic.StableHlo
open Cert.Kernel4Ideal Cert.Kernel4Ideal.Gen Cert.Kernel4Ideal.Value
open Cert.Reference4Ideal.Read (val_main_v33 val_main_v33_eq)

variable (m : (ℓ : Loc nD τ sig) → Buf (Elt Ideal) ℓ) (c : Dev nD)

theorem flush5 : ∀ t : Fin grid0.N, (cfg0.win 5).flush t = true := by decide +kernel

theorem blk_at (t : Fin grid0.N) (r : Fin 256) (l : Fin 4224) :
    (dats m 0 c).arrAt 5 cfg0.N (ix2 (at4 t r) l)
      = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (at4 t r) l) := by
  have hk := congrFun (blocks5 m c t (by exact flush5 t)) (ix2 r l)
  rw [flushed5] at hk
  refine Eq.trans (Eq.trans (congrArg _ (emb5 t r l).symm) hk) (Eq.trans (show _ = out0_5 (iblk m c 0 t) (iblk m c 1 t) (iblk m c 2 t) (iblk m c 3 t) (iblk m c 4 t) (ix2 r l) from rfl) ?_)
  rw [out_apply, v33_at]
  simp only [in0 m c t, in1 m c t, in2 m c t, in3 m c t, in4 m c t]
  exact pick_sum _ (fun k j => _) (fun j => _) l

/-- Every row is in some step's block. -/
theorem row_cases (r : Fin 1024) : ∃ t s, r = at4 t s :=
  ⟨⟨r.val / 256, by have h : grid0.N = 4 := rfl; omega⟩, ⟨r.val % 256, by omega⟩,
    Fin.ext (by show r.val = 256 * (r.val / 256) + r.val % 256; omega)⟩

theorem arr_at (r : Fin 1024) (l : Fin 4224) : (dats m 0 c).arrAt 5 cfg0.N (ix2 r l)
    = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r l) := by
  obtain ⟨t, s, rfl⟩ := row_cases r
  exact blk_at m c t s l

theorem arr_eq : (dats m 0 c).arrAt 5 cfg0.N
    = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine funext fun j => ?_
  refine (congrArg _ (ValueIdx.eq_ix2 (n0 := 1024) (n1 := 4224) j)).trans
    (Eq.trans ?_ (congrArg _ (ValueIdx.eq_ix2 (n0 := 1024) (n1 := 4224) j)).symm)
  exact arr_at m c (j 0) (j 1)

/-- The two programs agree on the result. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => val_main_v33 (F := Ideal) (m (c.tc.loc main_arg0)) (m (c.tc.loc main_arg1)) (m (c.tc.loc main_arg2)) (m (c.tc.loc main_arg3)) (m (c.tc.loc main_arg4)), ?_, ?_⟩
  · refine (θ_run Cert.Kernel4Ideal.defs _ _).mono (fun r h c => ?_) (Cert.Kernel4Ideal.Value.run_blocks (F := Ideal) m g)
    obtain ⟨h0, hk⟩ := h c
    exact ⟨h0.trans (arr_eq m c), hk⟩
  · refine (θ_run Cert.Reference4Ideal.defs _ _).mono (fun r h c => ?_) (Cert.Reference4Ideal.Value.run (F := Ideal) m' g')
    obtain ⟨h0, hk⟩ := h c
    obtain ⟨a0, a1, a2, a3, a4⟩ := hargs c
    have e0 := h0.trans (val_main_v33_eq (F := Ideal) m' c)
    have f0 : val_main_v33 (F := Ideal) (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4))
        = val_main_v33 (F := Ideal) (m (c.tc.loc main_arg0)) (m (c.tc.loc main_arg1)) (m (c.tc.loc main_arg2)) (m (c.tc.loc main_arg3)) (m (c.tc.loc main_arg4)) := by
      rw [a0, a1, a2, a3, a4]
    exact ⟨e0.trans f0, hk⟩

end Cert.In

end

end
-- ==== Proof.Prompt.Run.lean ====
/-
  The prompt's feed-forward kernel, one grid step: a first step of a sequence loads the incoming rows
  into its scratch, a later one finds there the two rows the step before left.
-/
module

public import proofs.«01_k».proof.Proof.Gen.Kernel5Ideal.Frame
public import proofs.«01_k».proof.Proof.Gen.Kernel5Ideal.Skeleton

@[expose] public section

set_option maxRecDepth 16384

noncomputable section

namespace Cert.Prompt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

/-- A step is its sequence's first. -/
abbrev first (i : grid0.Coords) : Prop := (Scalar.cmpi .ne (Scalar.extui (Scalar.cmpi .eq (BitVec.ofNat 32 (i 1).val) 0#32)) 0#32) = 1#1

theorem first_of (t : Fin cfg0.N) (h : t.val % 8 = 0) : first (grid0.coords t) := by
  have ht : t.val < 64 := Nat.lt_of_lt_of_eq t.isLt N_0
  have e1 : (grid0.coords t 1).val = t.val / 1 % 8 := Pipeline.Grid.coords_val t 1 (by decide) rfl
  simp only [first, e1]
  word_cmp

theorem not_first_of (t : Fin cfg0.N) (h : t.val % 8 ≠ 0) : ¬ first (grid0.coords t) := by
  have ht : t.val < 64 := Nat.lt_of_lt_of_eq t.isLt N_0
  have e1 : (grid0.coords t 1).val = t.val / 1 % 8 := Pipeline.Grid.coords_val t 1 (by decide) rfl
  simp only [first, e1]
  word_cmp

/-- Rows six and seven of the scratch. -/
abbrev past : Rect S1x264x2816 := Rect.unit ![0, 6, 0] S1x2x2816.size inb_S1x264x2816_S1x2x2816_0_6_0

set_option maxHeartbeats 1000000 in
/-- The first step of a sequence: the step finds its scratch at anything. It leaves the inputs as they
    were, stores in its two windows, and leaves its last two new rows at rows six and seven. -/
noncomputable def runA (c : Dev nD) (i : grid0.Coords) (arg2 : Memref sig .tc .vmem S256x1024 .f32) (harg2 : arg2.IsWhole) (arg3 : Memref sig .tc .vmem S1x2x2816 .f32) (harg3 : arg3.IsWhole) (arg4 : Memref sig .tc .vmem S1024x5632 .bf16) (harg4 : arg4.IsWhole) (arg5 : Memref sig .tc .vmem S1x5632 .f32) (harg5 : arg5.IsWhole) (arg6 : Memref sig .tc .vmem S3x2816 .f32) (harg6 : arg6.IsWhole) (arg7 : Memref sig .tc .vmem S1x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S1x2x2816 .f32) (harg13 : arg13.IsWhole) (arg14 : Memref sig .tc .vmem S1x264x2816 .f32) (harg14 : arg14.IsWhole) (hc0 : first i)
    (x0 : Vec F S256x1024 .f32) (x1 : Vec F S1x2x2816 .f32) (x2 : Vec F S1024x5632 .bf16) (x3 : Vec F S1x5632 .f32) (x4 : Vec F S3x2816 .f32) (x5 : Vec F S1x2816 .f32) (x6 : Vec F S2816x1024 .bf16) (x7 : Vec F S1x1024 .f32) (x8 : Vec F S1x1024 .f32) (x9 : Vec F S1x1024 .f32) :
    Σ' (L10 : List (View.Piece (Elt F) S256x1024 .f32)), Σ' (L11 : List (View.Piece (Elt F) S1x2x2816 .f32)),
      Σ' (q : Vec F S1x2x2816 .f32), { LT : List (View.Piece (Elt F) S1x264x2816 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f (⟨past, q⟩ :: LT))) -∗ K ⟨⟩))
          ⊢ wp frame (wpE (defs₀ (F := F)) Variants.none c none) E (cc0_ffn_t256 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_ffn_t256_eq_skeleton]; unfold cc0_ffn_t256_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    iexists _; iexact HS0

set_option maxHeartbeats 1000000 in
/-- A later step of a sequence: the step finds rows six and seven of its scratch at `p`. It leaves the inputs as they
    were, stores in its two windows, and leaves its last two new rows at rows six and seven. -/
noncomputable def runB (c : Dev nD) (i : grid0.Coords) (arg2 : Memref sig .tc .vmem S256x1024 .f32) (harg2 : arg2.IsWhole) (arg3 : Memref sig .tc .vmem S1x2x2816 .f32) (harg3 : arg3.IsWhole) (arg4 : Memref sig .tc .vmem S1024x5632 .bf16) (harg4 : arg4.IsWhole) (arg5 : Memref sig .tc .vmem S1x5632 .f32) (harg5 : arg5.IsWhole) (arg6 : Memref sig .tc .vmem S3x2816 .f32) (harg6 : arg6.IsWhole) (arg7 : Memref sig .tc .vmem S1x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S1x2x2816 .f32) (harg13 : arg13.IsWhole) (arg14 : Memref sig .tc .vmem S1x264x2816 .f32) (harg14 : arg14.IsWhole) (hc0 : ¬ first i)
    (x0 : Vec F S256x1024 .f32) (x1 : Vec F S1x2x2816 .f32) (x2 : Vec F S1024x5632 .bf16) (x3 : Vec F S1x5632 .f32) (x4 : Vec F S3x2816 .f32) (x5 : Vec F S1x2816 .f32) (x6 : Vec F S2816x1024 .bf16) (x7 : Vec F S1x1024 .f32) (x8 : Vec F S1x1024 .f32) (x9 : Vec F S1x1024 .f32) (p : Vec F S1x2x2816 .f32) :
    Σ' (L10 : List (View.Piece (Elt F) S256x1024 .f32)), Σ' (L11 : List (View.Piece (Elt F) S1x2x2816 .f32)),
      Σ' (q : Vec F S1x2x2816 .f32), { LT : List (View.Piece (Elt F) S1x264x2816 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f [⟨past, p⟩])
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f (⟨past, q⟩ :: LT))) -∗ K ⟨⟩))
          ⊢ wp frame (wpE (defs₀ (F := F)) Variants.none c none) E (cc0_ffn_t256 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_ffn_t256_eq_skeleton]; unfold cc0_ffn_t256_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    iexists _; iexact HS0

end Cert.Prompt

end

end
-- ==== Proof.Prompt.Step.lean ====
/-
  The values of one grid step of the prompt's feed-forward kernel: its new rows, the rows it stores, and
  the two rows it passes on.
-/
module

public import proofs.«01_k».proof.Proof.Prompt.Run
public import Idealize.ShloMosaic.Lib.Pipeline.ValueKit.Basic
public import Idealize.ShloMosaic.Lib.VecWindow

@[expose] public section

set_option maxRecDepth 16384

noncomputable section

namespace Cert.Prompt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

/-! ## The values -/

/-- The scratch: the two past rows at six and seven, then the new rows from eight. -/
abbrev scratch (p : Vec F S1x2x2816 .f32) (u : Vec F S1x256x2816 .f32) :
    List (View.Piece (Elt F) S1x264x2816 .f32) :=
  [⟨Rect.unit ![0, 8, 0] S1x256x2816.size inb_S1x264x2816_S1x256x2816_0_8_0, u⟩, ⟨past, p⟩]

/-- The last two rows of the new ones. -/
abbrev last : Rect S1x256x2816 := Rect.unit ![0, 254, 0] S1x2x2816.size (by decide)

/-- The rows passed on: the last two of the new ones. -/
def passed (x0 : Vec F S256x1024 .f32) (x2 : Vec F S1024x5632 .bf16) (x3 : Vec F S1x5632 .f32) :
    Vec F S1x2x2816 .f32 := View.ld (k0_pay6 x0 x2 x3) last

/-- Rows of the scratch from row `o`. -/
abbrev seen (p : Vec F S1x2x2816 .f32) (u : Vec F S1x256x2816 .f32) (o : Nat)
    (inb : ∀ a, (![0, o, 0] : Fin 3 → Nat) a + S1x256x2816.size a ≤ S1x264x2816.size a) : Vec F S1x256x2816 .f32 :=
  View.ld (View.canon (scratch p u)) (Rect.unit (s := S1x264x2816) ![0, o, 0] S1x256x2816.size inb)

/-- The convolution's weights at tap `o`. -/
abbrev wts (x : Vec F S3x2816 .f32) (o : Nat)
    (inb : ∀ a, (![o, 0] : Fin 2 → Nat) a + S1x2816.size a ≤ S3x2816.size a) : Vec F S1x2816 .f32 :=
  View.ld x (Rect.unit (s := S3x2816) ![o, 0] S1x2816.size inb)

/-- The rows entering the normalisation. -/
def entering (p : Vec F S1x2x2816 .f32) (x0 : Vec F S256x1024 .f32) (x2 : Vec F S1024x5632 .bf16)
    (x3 : Vec F S1x5632 .f32) (x4 : Vec F S3x2816 .f32) (x5 : Vec F S1x2816 .f32)
    (x6 : Vec F S2816x1024 .bf16) (x7 : Vec F S1x1024 .f32) : FVec F S256x1024 .f32 :=
  k0_pay9 x0 (k0_pay5 x0 x2 x3)
    (k0_pay7 x0 x2 x3 x5 (wts x4 2 inb_S3x2816_S1x2816_2_0)
      (seen p (k0_pay6 x0 x2 x3) 6 inb_S1x264x2816_S1x256x2816_0_6_0) (wts x4 0 inb_S3x2816_S1x2816_0_0))
    (seen p (k0_pay6 x0 x2 x3) 7 inb_S1x264x2816_S1x256x2816_0_7_0)
    (wts x4 1 inb_S3x2816_S1x2816_1_0) x6 x7

/-- The rows the step stores. -/
def stored (p : Vec F S1x2x2816 .f32) (x0 : Vec F S256x1024 .f32) (x2 : Vec F S1024x5632 .bf16)
    (x3 : Vec F S1x5632 .f32) (x4 : Vec F S3x2816 .f32) (x5 : Vec F S1x2816 .f32)
    (x6 : Vec F S2816x1024 .bf16) (x7 x8 x9 : Vec F S1x1024 .f32) : FVec F S256x1024 .f32 :=
  k0_pay1 (entering p x0 x2 x3 x4 x5 x6 x7) (k0_pay10 x8) x9

/-! ## The loads -/

/-- A load of a whole buffer. -/
abbrev all {S : Shape} {e : EltTy} (a : Memref sig .tc .vmem S e) (ha : a.IsWhole)
    (x : S.Idx → Elt F e) {off : Fin S.rank → Nat} (inb : ∀ a, off a + S.size a ≤ S.size a) :
    S.Idx → Elt F e :=
  View.readAt (Elt F) a.view (Rect.unit off S.size inb).toLoadRect (ha.unread x)

/-- A load of a whole buffer is what it holds. -/
theorem all_eq {S : Shape} {e : EltTy} (a : Memref sig .tc .vmem S e) (ha : a.IsWhole)
    (x : S.Idx → Elt F e) {off : Fin S.rank → Nat} (inb : ∀ a, off a + S.size a ≤ S.size a)
    (h : ∀ a, off a = 0) : all a ha x inb = x := by
  unfold all
  rw [View.readAt_eq_ld, ha.read_unread]
  exact funext fun j => congrArg x (funext fun a => Fin.ext (by
    show off a + 1 * (j a).val = (j a).val
    rw [h a]; omega))

/-- A load of one tap's weights. -/
abbrev tap (a : Memref sig .tc .vmem S3x2816 .f32) (ha : a.IsWhole) (x : Vec F S3x2816 .f32) (o : Nat)
    (inb : ∀ a, (![o, 0] : Fin 2 → Nat) a + S1x2816.size a ≤ S3x2816.size a) : Vec F S1x2816 .f32 :=
  View.readAt (Elt F) a.view (Rect.unit (s := S3x2816) ![o, 0] S1x2816.size inb).toLoadRect (ha.unread x)

theorem tap_eq (a : Memref sig .tc .vmem S3x2816 .f32) (ha : a.IsWhole) (x : Vec F S3x2816 .f32)
    (o : Nat) (inb : ∀ a, (![o, 0] : Fin 2 → Nat) a + S1x2816.size a ≤ S3x2816.size a) :
    tap a ha x o inb = wts x o inb := by
  unfold tap
  rw [View.readAt_eq_ld, ha.read_unread]

/-- The scratch's last two rows are the new rows' last two. -/
theorem tail_eq (a : Memref sig .tc .vmem S1x264x2816 .f32) (p : Vec F S1x2x2816 .f32) (u : Vec F S1x256x2816 .f32) :
    a.view.readCov (scratch p u)
      (Rect.unit (s := S1x264x2816) ![0, 262, 0] S1x2x2816.size inb_S1x264x2816_S1x2x2816_0_262_0).toLoadRect
    = View.ld u last := by
  rw [View.readCov_eq_canon']
  refine funext fun y => ?_
  have e : (Rect.unit (s := S1x264x2816) ![0, 262, 0] S1x2x2816.size inb_S1x264x2816_S1x2x2816_0_262_0).toLoadRect.idx y
      = (Rect.unit (s := S1x264x2816) ![0, 8, 0] S1x256x2816.size inb_S1x264x2816_S1x256x2816_0_8_0).emb (last.idx y) := by
    funext a
    match a with
    | ⟨0, _⟩ => exact Fin.ext (by show 0 + 1 * (y 0).val = 0 + 1 * (0 + 1 * (y 0).val); omega)
    | ⟨1, _⟩ => exact Fin.ext (by show 262 + 1 * (y 1).val = 8 + 1 * (254 + 1 * (y 1).val); omega)
    | ⟨2, _⟩ => exact Fin.ext (by show 0 + 1 * (y 2).val = 0 + 1 * (0 + 1 * (y 2).val); omega)
  rw [e]
  exact View.canon_cons_emb _ _ _ _

/-! ## What the two runs leave -/

section
variable (c : Dev nD) (i : grid0.Coords) (arg2 : Memref sig .tc .vmem S256x1024 .f32) (harg2 : arg2.IsWhole) (arg3 : Memref sig .tc .vmem S1x2x2816 .f32) (harg3 : arg3.IsWhole) (arg4 : Memref sig .tc .vmem S1024x5632 .bf16) (harg4 : arg4.IsWhole) (arg5 : Memref sig .tc .vmem S1x5632 .f32) (harg5 : arg5.IsWhole) (arg6 : Memref sig .tc .vmem S3x2816 .f32) (harg6 : arg6.IsWhole) (arg7 : Memref sig .tc .vmem S1x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S1x2x2816 .f32) (harg13 : arg13.IsWhole) (arg14 : Memref sig .tc .vmem S1x264x2816 .f32) (harg14 : arg14.IsWhole)
    (x0 : Vec F S256x1024 .f32) (x1 : Vec F S1x2x2816 .f32) (x2 : Vec F S1024x5632 .bf16) (x3 : Vec F S1x5632 .f32) (x4 : Vec F S3x2816 .f32) (x5 : Vec F S1x2816 .f32) (x6 : Vec F S2816x1024 .bf16) (x7 : Vec F S1x1024 .f32) (x8 : Vec F S1x1024 .f32) (x9 : Vec F S1x1024 .f32) (p : Vec F S1x2x2816 .f32)

/-- The step's new rows, over its loads. -/
abbrev newL : Vec F S1x256x2816 .f32 :=
  k0_pay6 (all arg2 harg2 x0 inb_S256x1024_S256x1024_0_0)
    (all arg4 harg4 x2 inb_S1024x5632_S1024x5632_0_0) (all arg5 harg5 x3 inb_S1x5632_S1x5632_0_0)

/-- The rows passed on, over its loads. -/
abbrev passedL : Vec F S1x2x2816 .f32 :=
  arg14.view.readCov (scratch p (newL arg2 harg2 arg4 harg4 arg5 harg5 x0 x2 x3))
    (Rect.unit (s := S1x264x2816) ![0, 262, 0] S1x2x2816.size inb_S1x264x2816_S1x2x2816_0_262_0).toLoadRect

/-- The rows stored, over its loads. -/
abbrev storedL : FVec F S256x1024 .f32 :=
  k0_pay1 (k0_pay9 (all arg2 harg2 x0 inb_S256x1024_S256x1024_0_0)
    (k0_pay5 (all arg2 harg2 x0 inb_S256x1024_S256x1024_0_0)
      (all arg4 harg4 x2 inb_S1024x5632_S1024x5632_0_0) (all arg5 harg5 x3 inb_S1x5632_S1x5632_0_0))
    (k0_pay7 (all arg2 harg2 x0 inb_S256x1024_S256x1024_0_0)
      (all arg4 harg4 x2 inb_S1024x5632_S1024x5632_0_0) (all arg5 harg5 x3 inb_S1x5632_S1x5632_0_0)
      (all arg7 harg7 x5 inb_S1x2816_S1x2816_0_0)
      (tap arg6 harg6 x4 2 inb_S3x2816_S1x2816_2_0)
      (arg14.view.readCov (scratch p (newL arg2 harg2 arg4 harg4 arg5 harg5 x0 x2 x3))
        (Rect.unit (s := S1x264x2816) ![0, 6, 0] S1x256x2816.size inb_S1x264x2816_S1x256x2816_0_6_0).toLoadRect)
      (tap arg6 harg6 x4 0 inb_S3x2816_S1x2816_0_0))
    (arg14.view.readCov (scratch p (newL arg2 harg2 arg4 harg4 arg5 harg5 x0 x2 x3))
      (Rect.unit (s := S1x264x2816) ![0, 7, 0] S1x256x2816.size inb_S1x264x2816_S1x256x2816_0_7_0).toLoadRect)
    (tap arg6 harg6 x4 1 inb_S3x2816_S1x2816_1_0)
    (all arg8 harg8 x6 inb_S2816x1024_S2816x1024_0_0) (all arg9 harg9 x7 inb_S1x1024_S1x1024_0_0))
    (k0_pay10 (all arg10 harg10 x8 inb_S1x1024_S1x1024_0_0))
    (all arg11 harg11 x9 inb_S1x1024_S1x1024_0_0)

theorem passedL_eq : passedL arg2 harg2 arg4 harg4 arg5 harg5 arg14 x0 x2 x3 p = passed x0 x2 x3 := by
  unfold passedL newL passed
  rw [tail_eq, all_eq arg2 harg2 x0 _ (by decide), all_eq arg4 harg4 x2 _ (by decide),
    all_eq arg5 harg5 x3 _ (by decide)]

theorem storedL_eq : storedL arg2 harg2 arg4 harg4 arg5 harg5 arg6 harg6 arg7 harg7 arg8 harg8 arg9 harg9 arg10 harg10 arg11 harg11 arg14 x0 x2 x3 x4 x5 x6 x7 x8 x9 p
    = stored p x0 x2 x3 x4 x5 x6 x7 x8 x9 := by
  unfold storedL newL stored entering
  rw [all_eq arg2 harg2 x0 _ (by decide), all_eq arg4 harg4 x2 _ (by decide),
    all_eq arg5 harg5 x3 _ (by decide), all_eq arg7 harg7 x5 _ (by decide),
    all_eq arg8 harg8 x6 _ (by decide), all_eq arg9 harg9 x7 _ (by decide),
    all_eq arg10 harg10 x8 _ (by decide), all_eq arg11 harg11 x9 _ (by decide),
    tap_eq, tap_eq, tap_eq, View.readCov_eq_canon', View.readCov_eq_canon']
  rfl

theorem rowsA (hc0 : first i) : (runA c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1
    = [⟨Rect.unit ![0, 0] S256x1024.size inb_S256x1024_S256x1024_0_0,
        storedL arg2 harg2 arg4 harg4 arg5 harg5 arg6 harg6 arg7 harg7 arg8 harg8 arg9 harg9 arg10 harg10 arg11 harg11 arg14 x0 x2 x3 x4 x5 x6 x7 x8 x9 (k0_pay2 (all arg3 harg3 x1 inb_S1x2x2816_S1x2x2816_0_0_0))⟩] := by
  sl_kernel_rfl

theorem stateA (hc0 : first i) : (runA c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1
    = [⟨Rect.unit ![0, 0, 0] S1x2x2816.size inb_S1x2x2816_S1x2x2816_0_0_0,
        passedL arg2 harg2 arg4 harg4 arg5 harg5 arg14 x0 x2 x3 (k0_pay2 (all arg3 harg3 x1 inb_S1x2x2816_S1x2x2816_0_0_0))⟩] := by
  sl_kernel_rfl

theorem leftA (hc0 : first i) : (runA c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.1
    = k0_pay8 (passedL arg2 harg2 arg4 harg4 arg5 harg5 arg14 x0 x2 x3 (k0_pay2 (all arg3 harg3 x1 inb_S1x2x2816_S1x2x2816_0_0_0))) := by
  sl_kernel_rfl

/-- The rows the first step's run stores. -/
theorem read10A (hc0 : first i) (f : arg12.view.ty.Contents (Elt F)) :
    arg12.view.read (Elt F) (arg12.view.writes (Elt F) f (runA c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1)
      = stored x1 x0 x2 x3 x4 x5 x6 x7 x8 x9 := by
  rw [rowsA, View.read_writes_full, storedL_eq]
  congr 1
  exact (shapeCast_self _ _).trans (all_eq arg3 harg3 x1 _ (by decide))

/-- The state it stores. -/
theorem read11A (hc0 : first i) (f : arg13.view.ty.Contents (Elt F)) :
    arg13.view.read (Elt F) (arg13.view.writes (Elt F) f (runA c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1) = passed x0 x2 x3 := by
  rw [stateA, View.read_writes_full, passedL_eq]

/-- The rows it passes on. -/
theorem passedA (hc0 : first i) : (runA c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.1 = passed x0 x2 x3 := by
  rw [leftA, passedL_eq]
  exact shapeCast_self _ _

theorem rowsB (hc0 : ¬ first i) : (runB c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 p).1
    = [⟨Rect.unit ![0, 0] S256x1024.size inb_S256x1024_S256x1024_0_0,
        storedL arg2 harg2 arg4 harg4 arg5 harg5 arg6 harg6 arg7 harg7 arg8 harg8 arg9 harg9 arg10 harg10 arg11 harg11 arg14 x0 x2 x3 x4 x5 x6 x7 x8 x9 p⟩] := by
  sl_kernel_rfl

theorem stateB (hc0 : ¬ first i) : (runB c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 p).2.1
    = [⟨Rect.unit ![0, 0, 0] S1x2x2816.size inb_S1x2x2816_S1x2x2816_0_0_0,
        passedL arg2 harg2 arg4 harg4 arg5 harg5 arg14 x0 x2 x3 p⟩] := by
  sl_kernel_rfl

theorem leftB (hc0 : ¬ first i) : (runB c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 p).2.2.1
    = k0_pay8 (passedL arg2 harg2 arg4 harg4 arg5 harg5 arg14 x0 x2 x3 p) := by
  sl_kernel_rfl

/-- The rows the later step's run stores. -/
theorem read10B (hc0 : ¬ first i) (f : arg12.view.ty.Contents (Elt F)) :
    arg12.view.read (Elt F) (arg12.view.writes (Elt F) f (runB c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 p).1)
      = stored p x0 x2 x3 x4 x5 x6 x7 x8 x9 := by
  rw [rowsB, View.read_writes_full, storedL_eq]

/-- The state it stores. -/
theorem read11B (hc0 : ¬ first i) (f : arg13.view.ty.Contents (Elt F)) :
    arg13.view.read (Elt F) (arg13.view.writes (Elt F) f (runB c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 p).2.1) = passed x0 x2 x3 := by
  rw [stateB, View.read_writes_full, passedL_eq]

/-- The rows it passes on. -/
theorem passedB (hc0 : ¬ first i) : (runB c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 p).2.2.1 = passed x0 x2 x3 := by
  rw [leftB, passedL_eq]
  exact shapeCast_self _ _

end

end Cert.Prompt

end

end
-- ==== Proof.Prompt.Frame.lean ====
/-
  The run of the prompt's feed-forward kernel. Between two steps its scratch holds at rows six and seven
  the two rows the step before passed on; the first step of each sequence overwrites them.
-/
module

public import proofs.«01_k».proof.Proof.Prompt.Step
public import Idealize.ShloMosaic.Lib.Claim

@[expose] public section

set_option maxRecDepth 16384

noncomputable section

namespace Cert.Prompt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers -/

abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2x2816 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x5632 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x5632 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S3x2816 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2816 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2816x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1024 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x2x2816 .f32 := win0_11.stage (cfg0.slots t 11)
abbrev hs11 (t : Fin cfg0.N) : (ms11 t).IsWhole := hstage0_11 ((cfg0.slots t 11).cast nbuf0_11)
/-- The scratch. -/
abbrev scM : Memref sig .tc .vmem S1x264x2816 .f32 := Memref.whole cc0_scratch0

/-- What a region of this kernel may use besides its windows: the scratch at anything, and the generator. -/
theorem any_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What is held between steps -/

/-- Step `n`, counted round. -/
def step (n : ℕ) : Fin cfg0.N := ⟨n % cfg0.N, Nat.mod_lt n (by decide)⟩

theorem step_val (t : Fin cfg0.N) : step t.val = t := Fin.ext (Nat.mod_eq_of_lt t.isLt)

/-- The two rows step `n` passes on. -/
def held (c : Dev nD) (n : ℕ) : Vec F S1x2x2816 .f32 :=
  passed (iblk m c 0 (step n)) (iblk m c 2 (step n)) (iblk m c 3 (step n))

theorem held_at (c : Dev nD) (t : Fin cfg0.N) :
    held m c t.val = passed (iblk m c 0 t) (iblk m c 2 t) (iblk m c 3 t) := by
  unfold held
  rw [step_val]

/-- A scratch last written at the two past rows holds them, whatever was written before. -/
theorem keep (c : Dev nD) (f) (LT) (q q' : Vec F S1x2x2816 .f32) (h : q = q') :
    ((scM.view.loc (c : Thread nD τ) ↦[scM.view.set]{fullShare} scM.view.writes (Elt F) f (⟨past, q⟩ :: LT)) : sProp 𝕄)
      ⊢ iprop(∃ f, scM.view.loc (c : Thread nD τ) ↦[scM.view.set]{fullShare} scM.view.writes (Elt F) f [⟨past, q'⟩]) := by
  subst h
  iintro H
  iexists (scM.view.writes (Elt F) f LT)
  iexact H

/-- The two past rows step `t` works with. -/
def before (c : Dev nD) (t : Fin cfg0.N) : Vec F S1x2x2816 .f32 :=
  if t.val % 8 = 0 then iblk m c 1 t else held m c (t.val - 1)

/-- The scratch after step `n`, and the generator. -/
def kept (c : Dev nD) (n : ℕ) : sProp 𝕄 :=
  iprop((∃ f, scM.view.loc (c : Thread nD τ) ↦[scM.view.set]{fullShare} scM.view.writes (Elt F) f [⟨past, held m c n⟩])
    ∗ (∃ r, prngReg c r))

/-- What holds before step `n`. -/
def inv (c : Dev nD) : ℕ → sProp 𝕄
  | 0 => Pipeline.ΦA spec0 c
  | n + 1 => kept m c n

theorem kept_any (c : Dev nD) (n : ℕ) : kept m c n ⊢ (Pipeline.ΦA spec0 c : sProp 𝕄) := by
  rw [any_eq]
  unfold kept
  iintro ⟨⟨%f, HS⟩, Hg⟩
  isplitl [HS]
  · iexists _; unfold owns; iexists _; isplitr
    swap; · iexact HS
    ipureintro; rfl
  iexact Hg

theorem inv_any (c : Dev nD) (n : ℕ) : inv m c n ⊢ (Pipeline.ΦA spec0 c : sProp 𝕄) := by
  cases n with
  | zero => exact .rfl
  | succ n => exact kept_any m c n

theorem inv_pred (c : Dev nD) (n : ℕ) (h : n ≠ 0) : inv m c n = kept m c (n - 1) := by
  cases n with
  | zero => exact absurd rfl h
  | succ n => rfl

/-- The rows step `t` stores. -/
def rows (c : Dev nD) (t : Fin cfg0.N) : Vec F S256x1024 .f32 :=
  stored (before m c t) (iblk m c 0 t) (iblk m c 2 t) (iblk m c 3 t) (iblk m c 4 t) (iblk m c 5 t) (iblk m c 6 t) (iblk m c 7 t) (iblk m c 8 t) (iblk m c 9 t)

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => rows m c t
    | ⟨11, _⟩ => held m c t.val
  Φ t := inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = rows m c t := by dsimp only [dats]
theorem after11 (c : Dev nD) (t : Fin cfg0.N) : (dats m 0 c).after 11 t = held m c t.val := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-! ## One step -/

/-- What a step is called with, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t))

set_option maxHeartbeats 1200000 in
/-- The first step of a sequence. -/
theorem soundA (c : Dev nD) (t : Fin cfg0.N) (h : t.val % 8 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = kept m c t.val from rfl,
    show (dats m 0 c).owesAt () t.succ = (dats m 0 c).owesAt () t.castSucc from rfl,
    after0, after1, after2, after3, after4, after5, after6, after7, after8, after9, after10, after11]
  have e10 : rows m c t = stored (iblk m c 1 t) (iblk m c 0 t) (iblk m c 2 t) (iblk m c 3 t) (iblk m c 4 t) (iblk m c 5 t) (iblk m c 6 t) (iblk m c 7 t) (iblk m c 8 t) (iblk m c 9 t) := by
    unfold rows before; rw [if_pos h]
  rw [e10]
  unfold kept
  simp only [held_at]
  refine (show _ ⊢ iprop(iprop(iprop((∃ d, owns (c : Thread nD τ) scM fullShare d)) ∗ (∃ r, prngReg c r)) ∗ _) from
    sep_mono_left (((inv_any m c t.val)).trans (by rw [any_eq]))).trans ?_
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (first_of t h) (iblk m c 0 t) (iblk m c 1 t) (iblk m c 2 t) (iblk m c 3 t) (iblk m c 4 t) (iblk m c 5 t) (iblk m c 6 t) (iblk m c 7 t) (iblk m c 8 t) (iblk m c 9 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  iintro ⟨H0, H1, H2, H3, H4, H5, H6, H7, H8, H9, ⟨%e10, H10⟩, ⟨%e11, H11⟩, ⟨%fT0, HS0⟩⟩
  isplitl [HS0 Hg]
  · isplitl [HS0]
    · iapply (keep c _ _ _ _ (passedA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (first_of t h)))
      iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact read10A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (first_of t h) _
  unfold owns; iexists _; isplitr
  swap; · iexact H11
  ipureintro; exact read11A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (first_of t h) _

set_option maxHeartbeats 1200000 in
/-- A later step of a sequence. -/
theorem soundB (c : Dev nD) (t : Fin cfg0.N) (h : t.val % 8 ≠ 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = kept m c t.val from rfl,
    show (dats m 0 c).owesAt () t.succ = (dats m 0 c).owesAt () t.castSucc from rfl,
    after0, after1, after2, after3, after4, after5, after6, after7, after8, after9, after10, after11]
  have e10 : rows m c t = stored (held m c (t.val - 1)) (iblk m c 0 t) (iblk m c 2 t) (iblk m c 3 t) (iblk m c 4 t) (iblk m c 5 t) (iblk m c 6 t) (iblk m c 7 t) (iblk m c 8 t) (iblk m c 9 t) := by
    unfold rows before; rw [if_neg h]
  rw [e10]
  unfold kept
  simp only [held_at]
  rw [show (dats m 0 c).Φ t.castSucc = kept m c (t.val - 1) from inv_pred m c t.val (by intro e; rw [e] at h; exact h rfl)]
  unfold kept
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (not_first_of t h) (iblk m c 0 t) (iblk m c 1 t) (iblk m c 2 t) (iblk m c 3 t) (iblk m c 4 t) (iblk m c 5 t) (iblk m c 6 t) (iblk m c 7 t) (iblk m c 8 t) (iblk m c 9 t) (held m c (t.val - 1))).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  iintro ⟨H0, H1, H2, H3, H4, H5, H6, H7, H8, H9, ⟨%e10, H10⟩, ⟨%e11, H11⟩, ⟨%fT0, HS0⟩⟩
  isplitl [HS0 Hg]
  · isplitl [HS0]
    · iapply (keep c _ _ _ _ (passedB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (held m c (t.val - 1)) (not_first_of t h)))
      iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact read10B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (held m c (t.val - 1)) (not_first_of t h) _
  unfold owns; iexists _; isplitr
  swap; · iexact H11
  ipureintro; exact read11B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (held m c (t.val - 1)) (not_first_of t h) _

theorem sound (c : Dev nD) (t : Fin cfg0.N) :
    bodyPre m c t ⊢ wp frame (wpE (defs₀ (F := F)) Variants.none c none) Set.univ (bodyAt0 t) (fun _ => bodyPost m c t) := by
  by_cases h : t.val % 8 = 0
  · exact soundA m c t h
  · exact soundB m c t h

theorem row_eq (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound m c t) rfl .rfl fun _ => .rfl

/-! ## The run -/

set_option backward.isDefEq.respectTransparency.types false in
/-- The launch ends, with every array of the pipeline at what the steps left and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun c => inv_any m c cfg0.N)

theorem run_main : θ_run defs (onTc (τ := τ) (main (F := F))) (s₀ m ρ) (Pipeline.FramePost cfgs (dats m) 0 (V m)) :=
  (θ_run defs _ _).mono (fun _ h => h.1) (run_quiescent m ρ)

/-- The argument arrays end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ))
    ((θ_run defs _ _).mono (fun _ h => h.2) (run_quiescent m ρ))

end Cert.Prompt

end

end
-- ==== Proof.Prompt.Same.lean ====
/-
  The prompt's feed-forward kernel has the text of its idealization, so its run is that one's over
  bit-exact floats.
-/
module

public import proofs.«01_k».proof.Defs
public import proofs.«01_k».proof.Proof.Gen.Kernel5.Launch
public import proofs.«01_k».proof.Proof.Prompt.Frame

@[expose] public section

noncomputable section

namespace Cert.Prompt

open Idealize.ShloMosaic Idealize.SL.Sem

variable {F : FTy → Type} [FloatOps F]

theorem body_same : @Cert.Kernel5.cc0_ffn_t256 F _ _ = @Cert.Kernel5Ideal.cc0_ffn_t256 F _ _ := rfl

theorem bodies_same : @Cert.Kernel5.defs₀ F _ _ = @Cert.Kernel5Ideal.defs₀ F _ _ := by
  refine congrArg Defs.onTc (funext fun l => funext fun a => ?_)
  match l, a with
  | 0, (t, s) => rfl

theorem defs_same : @Cert.Kernel5.defs F _ _ = @Cert.Kernel5Ideal.defs F _ _ :=
  congrArg (Pipeline.defs Cert.Kernel5Ideal.pcfgs) bodies_same

end Cert.Prompt

end

end
-- ==== Proof.Prompt.Math.lean ====
/-
  The mathematics of the prompt's feed-forward network over extended reals: the causal convolution of one
  sequence of 2048 time steps.
-/
module

public import proofs.«01_k».proof.Proof.Ffn.Math

@[expose] public section

noncomputable section

namespace Cert.Prompt

open Idealize.ShloMosaic

/-- A sequence's two past rows followed by its new ones. -/
def full (cs : Fin 2 → Fin 2816 → EReal) (u : Fin 2048 → Fin 2816 → EReal) (p : Fin 2050) (j : Fin 2816) :
    EReal :=
  if h : p.val < 2 then cs ⟨p.val, h⟩ j else u ⟨p.val - 2, by omega⟩ j

theorem full_past (cs : Fin 2 → Fin 2816 → EReal) (u : Fin 2048 → Fin 2816 → EReal) (p : Fin 2050) (q : Fin 2)
    (h : p.val = q.val) (j : Fin 2816) : full cs u p j = cs q j := by
  unfold full
  rw [dif_pos (show p.val < 2 by omega)]
  exact congrArg (fun k => cs k j) (Fin.ext h)

theorem full_new (cs : Fin 2 → Fin 2816 → EReal) (u : Fin 2048 → Fin 2816 → EReal) (p : Fin 2050) (t : Fin 2048)
    (h : p.val = 2 + t.val) (j : Fin 2816) : full cs u p j = u t j := by
  unfold full
  rw [dif_neg (show ¬ p.val < 2 by omega)]
  exact congrArg (fun k => u k j) (Fin.ext (by show p.val - 2 = t.val; omega))

/-- The causal convolution of width three. -/
def conv (cs : Fin 2 → Fin 2816 → EReal) (u : Fin 2048 → Fin 2816 → EReal)
    (wc : Fin 3 → Fin 2816 → EReal) (bc : Fin 2816 → EReal) (t : Fin 2048) (j : Fin 2816) : EReal :=
  bc j + full cs u ⟨t.val, by omega⟩ j * wc 0 j + full cs u ⟨1 + t.val, by omega⟩ j * wc 1 j
    + full cs u ⟨2 + t.val, by omega⟩ j * wc 2 j

/-- The same with the current row's product added first. -/
theorem conv_eq (cs : Fin 2 → Fin 2816 → EReal) (u : Fin 2048 → Fin 2816 → EReal)
    (wc : Fin 3 → Fin 2816 → EReal) (bc : Fin 2816 → EReal) (t : Fin 2048) (j : Fin 2816) :
    bc j + u t j * wc 2 j + full cs u ⟨t.val, by omega⟩ j * wc 0 j
        + full cs u ⟨1 + t.val, by omega⟩ j * wc 1 j
      = conv cs u wc bc t j := by
  unfold conv
  rw [full_new cs u ⟨2 + t.val, by omega⟩ t rfl j]
  ac_rfl

end Cert.Prompt

end

end
-- ==== Proof.Prompt.Payload.lean ====
/-
  The prompt's feed-forward kernel's pure values read at an index over extended reals.
-/
module

public import proofs.«01_k».proof.Proof.Prompt.Math
public import proofs.«01_k».proof.Proof.Prompt.Frame

@[expose] public section

noncomputable section

namespace Cert.Prompt

open Idealize.ShloMosaic Idealize.SL.Sem Cert.Kernel5Ideal Cert.Kernel5Ideal.Gen

variable (v3 : Vec Ideal S256x1024 .f32) (v5 : Vec Ideal S1024x5632 .bf16) (v8 : Vec Ideal S1x5632 .f32)

theorem up_apply (r : Fin 256) (l : Fin 5632) :
    k0_pay3 (F := Ideal) v3 v5 v8 (ix2 r l)
      = ∑ k : Fin 1024, v3 (ix2 r k) * v5 (ix2 k l) + v8 (ix2 (0 : Fin 1) l) := by
  pointwise [k0_pay3]

theorem u_apply (t : Fin 256) (j : Fin 2816) :
    k0_pay4 (F := Ideal) v3 v5 v8 (ix3 (0 : Fin 1) t j)
      = k0_pay3 (F := Ideal) v3 v5 v8 (ix2 (t) (⟨j.val, by omega⟩ : Fin 5632)) := by
  unfold k0_pay4
  generalize k0_pay3 (F := Ideal) v3 v5 v8 = y
  pointwise []

theorem gate_apply (t : Fin 256) (j : Fin 2816) :
    k0_pay5 (F := Ideal) v3 v5 v8 (ix3 (0 : Fin 1) t j)
      = k0_pay3 (F := Ideal) v3 v5 v8 (ix2 (t) (⟨2816 + j.val, by omega⟩ : Fin 5632)) := by
  unfold k0_pay5
  generalize k0_pay3 (F := Ideal) v3 v5 v8 = y
  pointwise []

theorem stored_eq : k0_pay6 (F := Ideal) v3 v5 v8 = k0_pay4 (F := Ideal) v3 v5 v8 :=
  shapeCast_self _ _

theorem first_apply (v19 : Vec Ideal S1x2816 .f32) (v21 : Vec Ideal S1x2816 .f32)
    (v28 : Vec Ideal S1x256x2816 .f32) (v29 : Vec Ideal S1x2816 .f32) (t : Fin 256)
    (j : Fin 2816) :
    k0_pay7 (F := Ideal) v3 v5 v8 v19 v21 v28 v29 (ix3 (0 : Fin 1) t j)
      = v19 (ix2 (0 : Fin 1) j) + k0_pay4 (F := Ideal) v3 v5 v8 (ix3 (0 : Fin 1) t j) * v21 (ix2 (0 : Fin 1) j)
        + v28 (ix3 (0 : Fin 1) t j) * v29 (ix2 (0 : Fin 1) j) := by
  unfold k0_pay7
  generalize k0_pay4 (F := Ideal) v3 v5 v8 = y
  pointwise []

theorem res_apply (v15 v33 v34 : Vec Ideal S1x256x2816 .f32) (v35 : Vec Ideal S1x2816 .f32)
    (v56 : Vec Ideal S2816x1024 .bf16) (v59 : Vec Ideal S1x1024 .f32) (t : Fin 256)
    (l : Fin 1024) :
    k0_pay9 (F := Ideal) v3 v15 v33 v34 v35 v56 v59 (ix2 (t) l)
      = Ffn.res (fun k => v3 (ix2 (t) k))
          (fun j => Ffn.silu (v33 (ix3 (0 : Fin 1) t j) + v34 (ix3 (0 : Fin 1) t j) * v35 (ix2 (0 : Fin 1) j)) * v15 (ix3 (0 : Fin 1) t j))
          (fun j k => v56 (ix2 j k)) (fun k => v59 (ix2 (0 : Fin 1) k)) l := by
  pointwise [k0_pay9, Ffn.res, Ffn.silu]
  simp only [zero_sub]

theorem nrm_apply (v65 : Vec Ideal S256x1024 .f32) (v67 v68 : Vec Ideal S1x1024 .f32) (r : Fin 256)
    (l : Fin 1024) :
    k0_pay1 (F := Ideal) v65 v67 v68 (ix2 r l)
      = Ffn.nrm (fun k => v65 (ix2 r k)) (fun k => v67 (ix2 (0 : Fin 1) k))
          (fun k => v68 (ix2 (0 : Fin 1) k)) l := by
  pointwise [k0_pay1, Ffn.nrm, Ffn.mean]

end Cert.Prompt

end

end
-- ==== Proof.Prompt.Reference.lean ====
/-
  The prompt's feed-forward network's reference at an index: the mathematics of Math.lean.
-/
module

public import proofs.«01_k».proof.Proof.Prompt.Math
public import proofs.«01_k».proof.Proof.Gen.Reference5Ideal.Read

@[expose] public section

noncomputable section

namespace Cert.Prompt

open Idealize.ShloMosaic Idealize.SL.Sem Cert.Reference5Ideal Cert.Reference5Ideal.Read

variable (y0 : FVec Ideal S16384x1024 .f32) (y1 : FVec Ideal S1x2x2816 .f32)
  (y2 : FVec Ideal S1024x5632 .f32) (y3 : FVec Ideal S5632 .f32) (y4 : FVec Ideal S3x2816 .f32)
  (y5 : FVec Ideal S2816 .f32) (y6 : FVec Ideal S2816x1024 .f32) (y7 y8 y9 : FVec Ideal S1024 .f32)
  (b : Fin 8)

/-- Time step `t` of sequence `b`. -/
abbrev rowR (b : Fin 8) (t : Fin 2048) : Fin 16384 := ⟨b.val * 2048 + t.val, by omega⟩

/-- The sequence's projection. -/
def upR (t : Fin 2048) (l : Fin 5632) : EReal :=
  ∑ k : Fin 1024, y0 (ix2 (rowR b t) k) * y2 (ix2 k l) + y3 (ix1 l)
/-- Its first half. -/
def uR (t : Fin 2048) (j : Fin 2816) : EReal := upR y0 y2 y3 b t ⟨j.val, by omega⟩
/-- Its second half. -/
def gR (t : Fin 2048) (j : Fin 2816) : EReal := upR y0 y2 y3 b t ⟨2816 + j.val, by omega⟩
/-- The convolution. -/
def convR (t : Fin 2048) (j : Fin 2816) : EReal :=
  conv (fun p j => y1 (ix3 (0 : Fin 1) p j)) (uR y0 y2 y3 b) (fun k j => y4 (ix2 k j)) (fun j => y5 (ix1 j)) t j
/-- The rows entering the normalisation. -/
def resR (t : Fin 2048) (l : Fin 1024) : EReal :=
  Ffn.res (fun k => y0 (ix2 (rowR b t) k))
    (fun j => Ffn.silu (convR y0 y1 y2 y3 y4 y5 b t j) * gR y0 y2 y3 b t j)
    (fun j k => y6 (ix2 j k)) (fun k => y7 (ix1 k)) l

theorem v4_at (t : Fin 2048) (l : Fin 5632) :
    val_main_v4 (F := Ideal) y0 y2 y3 (ix3 b t l) = upR y0 y2 y3 b t l := by
  pointwise [val_main_v4, val_main_v3, val_main_v2, val_main_v1, val_main_v0, upR]

theorem v5_at (t : Fin 2048) (j : Fin 2816) :
    val_main_v5 (F := Ideal) y0 y2 y3 (ix3 b t j) = uR y0 y2 y3 b t j := by
  unfold uR
  rw [← v4_at]
  unfold val_main_v5
  generalize val_main_v4 (F := Ideal) y0 y2 y3 = y
  pointwise []

theorem v6_at (t : Fin 2048) (j : Fin 2816) :
    val_main_v6 (F := Ideal) y0 y2 y3 (ix3 b t j) = gR y0 y2 y3 b t j := by
  unfold gR
  rw [← v4_at]
  unfold val_main_v6
  generalize val_main_v4 (F := Ideal) y0 y2 y3 = y
  pointwise []

theorem v8_at (p : Fin 2050) (j : Fin 2816) :
    val_main_v8 (F := Ideal) y0 y1 y2 y3 (ix3 b p j)
      = full (fun p j => y1 (ix3 (0 : Fin 1) p j)) (uR y0 y2 y3 b) p j := by
  have h := v5_at y0 y2 y3 b
  unfold val_main_v8 full val_main_v7
  generalize val_main_v5 (F := Ideal) y0 y2 y3 = y at h ⊢
  simp only [← h]
  pointwise []

theorem v31_at (t : Fin 2048) (j : Fin 2816) :
    val_main_v31 (F := Ideal) y0 y1 y2 y3 y4 y5 (ix3 b t j) = convR y0 y1 y2 y3 y4 y5 b t j := by
  have h := v8_at y0 y1 y2 y3 b
  unfold convR conv
  simp only [← h]
  simp only [val_main_v31, val_main_v30, val_main_v29, val_main_v28, val_main_v27, val_main_v26,
    val_main_v25, val_main_v24, val_main_v23, val_main_v22, val_main_v21, val_main_v20, val_main_v19,
    val_main_v18, val_main_v17, val_main_v16, val_main_v15, val_main_v14, val_main_v13, val_main_v12,
    val_main_v11, val_main_v10, val_main_v9]
  generalize val_main_v8 (F := Ideal) y0 y1 y2 y3 = y
  pointwise []

theorem v33_at (t : Fin 2048) (j : Fin 2816) :
    val_main_v33 (F := Ideal) y0 y1 y2 y3 y4 y5 (ix3 b t j)
      = Ffn.silu (convR y0 y1 y2 y3 y4 y5 b t j) * gR y0 y2 y3 b t j := by
  rw [← v6_at, ← v31_at]
  simp only [val_main_v33, val_main_v32, val_main_call0_v5, val_main_call0_v4, val_main_call0_cst_0,
    val_main_call0_v3, val_main_call0_v2, val_main_call0_cst, val_main_call0_v1, val_main_call0_v0]
  generalize val_main_v31 (F := Ideal) y0 y1 y2 y3 y4 y5 = y
  generalize val_main_v6 (F := Ideal) y0 y2 y3 = z
  pointwise [Ffn.silu]

theorem v40_at (t : Fin 2048) (l : Fin 1024) :
    val_main_v40 (F := Ideal) y0 y1 y2 y3 y4 y5 y6 y7 (ix3 b t l)
      = resR y0 y1 y2 y3 y4 y5 y6 y7 b t l := by
  have h := v33_at y0 y1 y2 y3 y4 y5 b t
  unfold resR Ffn.res
  simp only [← h]
  simp only [val_main_v40, val_main_v39, val_main_v38, val_main_cst, val_main_v37, val_main_v36,
    val_main_v35, val_main_v34, val_main_v0]
  generalize val_main_v33 (F := Ideal) y0 y1 y2 y3 y4 y5 = y
  pointwise []

theorem v64_at (t : Fin 2048) (l : Fin 1024) :
    val_main_v64 (F := Ideal) y0 y1 y2 y3 y4 y5 y6 y7 y8 y9 (ix3 b t l)
      = Ffn.nrm (resR y0 y1 y2 y3 y4 y5 y6 y7 b t) (fun k => y8 (ix1 k)) (fun k => y9 (ix1 k)) l := by
  have h : resR y0 y1 y2 y3 y4 y5 y6 y7 b t
      = fun l => val_main_v40 (F := Ideal) y0 y1 y2 y3 y4 y5 y6 y7 (ix3 b t l) :=
    funext fun l => (v40_at y0 y1 y2 y3 y4 y5 y6 y7 b t l).symm
  rw [h]
  simp only [val_main_v64, val_main_v63, val_main_v62, val_main_v61, val_main_v60, val_main_v59,
    val_main_v58, val_main_v57, val_main_v56, val_main_v55, val_main_v54, val_main_cst_4, val_main_v53,
    val_main_v52, val_main_v51, val_main_v50, val_main_cst_3, val_main_v49, val_main_v48,
    val_main_cst_2, val_main_v47, val_main_v46, val_main_v45, val_main_v44, val_main_v43,
    val_main_cst_1, val_main_v42, val_main_v41, val_main_cst_0]
  generalize val_main_v40 (F := Ideal) y0 y1 y2 y3 y4 y5 y6 y7 = y
  pointwise [Ffn.nrm, Ffn.mean]

/-- The normalised rows. -/
theorem v65_at (t : Fin 2048) (l : Fin 1024) :
    val_main_v65 (F := Ideal) y0 y1 y2 y3 y4 y5 y6 y7 y8 y9 (ix2 (rowR b t) l)
      = Ffn.nrm (resR y0 y1 y2 y3 y4 y5 y6 y7 b t) (fun k => y8 (ix1 k)) (fun k => y9 (ix1 k)) l := by
  rw [← v64_at]
  have hs : (⟨(b.val * 2048 + t.val) / 2048, by omega⟩ : Fin 8) = b := Fin.ext (by show (b.val * 2048 + t.val) / 2048 = b.val; omega)
  have ht : (⟨(b.val * 2048 + t.val) % 2048, by omega⟩ : Fin 2048) = t := Fin.ext (by show (b.val * 2048 + t.val) % 2048 = t.val; omega)
  unfold val_main_v65
  generalize val_main_v64 (F := Ideal) y0 y1 y2 y3 y4 y5 y6 y7 y8 y9 = y
  pointwise []
  rw [hs, ht]

/-- The last two rows of the sequence's convolution input. -/
theorem v66_at (p : Fin 2) (j : Fin 2816) :
    val_main_v66 (F := Ideal) y0 y1 y2 y3 (ix3 b p j)
      = full (fun p j => y1 (ix3 (0 : Fin 1) p j)) (uR y0 y2 y3 b) ⟨2048 + p.val, by omega⟩ j := by
  rw [← v8_at]
  unfold val_main_v66
  generalize val_main_v8 (F := Ideal) y0 y1 y2 y3 = y
  pointwise []

end Cert.Prompt

end

end
-- ==== Proof.Prompt.Left.lean ====
/-
  What one grid step of the prompt's feed-forward kernel stores and passes on, entry by entry: the
  reference's numbers.
-/
module

public import proofs.«01_k».proof.Proof.Prompt.Payload
public import proofs.«01_k».proof.Proof.Prompt.Reference
public import Idealize.ShloMosaic.Lib.Pipeline.ValueKit.Basic

@[expose] public section

noncomputable section

namespace Cert.Prompt

open Idealize.ShloMosaic Idealize.SL.Sem Cert.Kernel5Ideal Cert.Kernel5Ideal.Gen

/-- Time step `r` of part `d` of a sequence. -/
abbrev at256 (d : Fin 8) (r : Fin 256) : Fin 2048 := ⟨256 * d.val + r.val, by omega⟩

/-- The step's blocks are part `d` of sequence `b` of the reference's arguments. -/
structure Holds (b d : Fin 8) (x0 : Vec Ideal S256x1024 .f32) (x2 : Vec Ideal S1024x5632 .bf16) (x3 : Vec Ideal S1x5632 .f32) (x4 : Vec Ideal S3x2816 .f32) (x5 : Vec Ideal S1x2816 .f32) (x6 : Vec Ideal S2816x1024 .bf16) (x7 : Vec Ideal S1x1024 .f32) (x8 : Vec Ideal S1x1024 .f32) (x9 : Vec Ideal S1x1024 .f32)
    (y0 : FVec Ideal Reference5Ideal.S16384x1024 .f32) (y1 : FVec Ideal Reference5Ideal.S1x2x2816 .f32)
    (y2 : FVec Ideal Reference5Ideal.S1024x5632 .f32) (y3 : FVec Ideal Reference5Ideal.S5632 .f32)
    (y4 : FVec Ideal Reference5Ideal.S3x2816 .f32) (y5 : FVec Ideal Reference5Ideal.S2816 .f32)
    (y6 : FVec Ideal Reference5Ideal.S2816x1024 .f32) (y7 y8 y9 : FVec Ideal Reference5Ideal.S1024 .f32) : Prop where
  h0 : ∀ (r : Fin 256) (k : Fin 1024), x0 (ix2 r k) = y0 (ix2 (rowR b (at256 d r)) k)
  h2 : ∀ (k : Fin 1024) (l : Fin 5632), x2 (ix2 k l) = y2 (ix2 k l)
  h3 : ∀ l : Fin 5632, x3 (ix2 (0 : Fin 1) l) = y3 (ix1 l)
  h4 : ∀ (k : Fin 3) (j : Fin 2816), x4 (ix2 k j) = y4 (ix2 k j)
  h5 : ∀ j : Fin 2816, x5 (ix2 (0 : Fin 1) j) = y5 (ix1 j)
  h6 : ∀ (j : Fin 2816) (k : Fin 1024), x6 (ix2 j k) = y6 (ix2 j k)
  h7 : ∀ k : Fin 1024, x7 (ix2 (0 : Fin 1) k) = y7 (ix1 k)
  h8 : ∀ k : Fin 1024, x8 (ix2 (0 : Fin 1) k) = y8 (ix1 k)
  h9 : ∀ k : Fin 1024, x9 (ix2 (0 : Fin 1) k) = y9 (ix1 k)

/-! ## The scratch -/

theorem at6 (p : Fin 2) (j : Fin 2816) : past.emb (ix3 (0 : Fin 1) p j) = ix3 (0 : Fin 1) (⟨6 + p.val, by omega⟩ : Fin 264) j := by
  funext a
  match a with
  | ⟨0, _⟩ => exact Fin.ext (by show 0 + 1 * 0 = 0; omega)
  | ⟨1, _⟩ => exact Fin.ext (by show 6 + 1 * p.val = 6 + p.val; omega)
  | ⟨2, _⟩ => exact Fin.ext (by show 0 + 1 * j.val = j.val; omega)

theorem at8 (t : Fin 256) (j : Fin 2816) :
    (Rect.unit (s := S1x264x2816) ![0, 8, 0] S1x256x2816.size inb_S1x264x2816_S1x256x2816_0_8_0).emb (ix3 (0 : Fin 1) t j)
      = ix3 (0 : Fin 1) (⟨8 + t.val, by omega⟩ : Fin 264) j := by
  funext a
  match a with
  | ⟨0, _⟩ => exact Fin.ext (by show 0 + 1 * 0 = 0; omega)
  | ⟨1, _⟩ => exact Fin.ext (by show 8 + 1 * t.val = 8 + t.val; omega)
  | ⟨2, _⟩ => exact Fin.ext (by show 0 + 1 * j.val = j.val; omega)

/-- Rows six and seven of the scratch are the past rows. -/
theorem scratch_past (p : Vec Ideal S1x2x2816 .f32) (u : Vec Ideal S1x256x2816 .f32) (q : Fin 2) (j : Fin 2816) :
    View.canon (scratch p u) (ix3 (0 : Fin 1) (⟨6 + q.val, by omega⟩ : Fin 264) j) = p (ix3 (0 : Fin 1) q j) := by
  refine (View.canon_cons_of_not_mem _ _ fun hm => ?_).trans ?_
  · have m1 : 8 ≤ 6 + q.val ∧ 6 + q.val < 8 + 256 := Rect.mem_set_unit.mp (show ix3 (0 : Fin 1) (⟨6 + q.val, by omega⟩ : Fin 264) j ∈ (Rect.unit (s := S1x264x2816) ![0, 8, 0] S1x256x2816.size inb_S1x264x2816_S1x256x2816_0_8_0).set from hm) 1
    omega
  · exact (congrArg _ (at6 q j).symm).trans (View.canon_cons_emb _ _ _ _)

/-- The rows from eight are the new ones. -/
theorem scratch_new (p : Vec Ideal S1x2x2816 .f32) (u : Vec Ideal S1x256x2816 .f32) (r : Fin 256) (j : Fin 2816) :
    View.canon (scratch p u) (ix3 (0 : Fin 1) (⟨8 + r.val, by omega⟩ : Fin 264) j) = u (ix3 (0 : Fin 1) r j) :=
  (congrArg _ (at8 r j).symm).trans (View.canon_cons_emb _ _ _ _)

/-- If the past rows and the new rows are a sequence's, so is the scratch from row six. -/
theorem scratch_at (cs : Fin 2 → Fin 2816 → EReal) (w : Fin 2048 → Fin 2816 → EReal) (d : Fin 8)
    (p : Vec Ideal S1x2x2816 .f32) (u : Vec Ideal S1x256x2816 .f32)
    (hp : ∀ (q : Fin 2) (j : Fin 2816), p (ix3 (0 : Fin 1) q j) = full cs w ⟨256 * d.val + q.val, by omega⟩ j)
    (hu : ∀ (r : Fin 256) (j : Fin 2816), u (ix3 (0 : Fin 1) r j) = w (at256 d r) j) (q : Fin 258) (j : Fin 2816) :
    View.canon (scratch p u) (ix3 (0 : Fin 1) (⟨6 + q.val, by omega⟩ : Fin 264) j)
      = full cs w ⟨256 * d.val + q.val, by omega⟩ j := by
  by_cases h : q.val < 2
  · exact (scratch_past p u ⟨q.val, h⟩ j).trans (hp ⟨q.val, h⟩ j)
  · have e : (⟨6 + q.val, by omega⟩ : Fin 264) = ⟨8 + (⟨q.val - 2, by omega⟩ : Fin 256).val, by show 8 + (q.val - 2) < 264; omega⟩ :=
      Fin.ext (by show 6 + q.val = 8 + (q.val - 2); omega)
    rw [e, scratch_new, hu]
    exact (full_new cs w _ _ (by show 256 * d.val + q.val = 2 + (256 * d.val + (q.val - 2)); omega) j).symm

/-- Rows of the scratch from row `o`. -/
theorem seen_at (p : Vec Ideal S1x2x2816 .f32) (u : Vec Ideal S1x256x2816 .f32) (o : Nat) (ho : o + 256 ≤ 264)
    (inb : ∀ a, (![0, o, 0] : Fin 3 → Nat) a + S1x256x2816.size a ≤ S1x264x2816.size a) (r : Fin 256) (j : Fin 2816) :
    seen p u o inb (ix3 (0 : Fin 1) r j) = View.canon (scratch p u) (ix3 (0 : Fin 1) (⟨o + r.val, by omega⟩ : Fin 264) j) := by
  refine congrArg (View.canon (scratch p u)) (funext fun a => ?_)
  match a with
  | ⟨0, _⟩ => exact Fin.ext (by show 0 + 1 * 0 = 0; omega)
  | ⟨1, _⟩ => exact Fin.ext (by show o + 1 * r.val = o + r.val; omega)
  | ⟨2, _⟩ => exact Fin.ext (by show 0 + 1 * j.val = j.val; omega)

theorem wts_at (x : Vec Ideal S3x2816 .f32) (o : Fin 3)
    (inb : ∀ a, (![o.val, 0] : Fin 2 → Nat) a + S1x2816.size a ≤ S3x2816.size a) (j : Fin 2816) :
    wts x o.val inb (ix2 (0 : Fin 1) j) = x (ix2 o j) :=
  congrArg x (funext fun a => match a with
    | ⟨0, _⟩ => Fin.ext (by show o.val + 1 * 0 = o.val; omega)
    | ⟨1, _⟩ => Fin.ext (by show 0 + 1 * j.val = j.val; omega))

theorem last_at (u : Vec Ideal S1x256x2816 .f32) (q : Fin 2) (j : Fin 2816) :
    View.ld u last (ix3 (0 : Fin 1) q j) = u (ix3 (0 : Fin 1) (⟨254 + q.val, by omega⟩ : Fin 256) j) :=
  congrArg u (funext fun a => match a with
    | ⟨0, _⟩ => Fin.ext (by show 0 + 1 * 0 = 0; omega)
    | ⟨1, _⟩ => Fin.ext (by show 254 + 1 * q.val = 254 + q.val; omega)
    | ⟨2, _⟩ => Fin.ext (by show 0 + 1 * j.val = j.val; omega))

section
variable {b d : Fin 8} {x0 : Vec Ideal S256x1024 .f32} {x2 : Vec Ideal S1024x5632 .bf16} {x3 : Vec Ideal S1x5632 .f32} {x4 : Vec Ideal S3x2816 .f32} {x5 : Vec Ideal S1x2816 .f32} {x6 : Vec Ideal S2816x1024 .bf16} {x7 : Vec Ideal S1x1024 .f32} {x8 : Vec Ideal S1x1024 .f32} {x9 : Vec Ideal S1x1024 .f32}
    {y0 : FVec Ideal Reference5Ideal.S16384x1024 .f32} {y1 : FVec Ideal Reference5Ideal.S1x2x2816 .f32}
    {y2 : FVec Ideal Reference5Ideal.S1024x5632 .f32} {y3 : FVec Ideal Reference5Ideal.S5632 .f32}
    {y4 : FVec Ideal Reference5Ideal.S3x2816 .f32} {y5 : FVec Ideal Reference5Ideal.S2816 .f32}
    {y6 : FVec Ideal Reference5Ideal.S2816x1024 .f32} {y7 y8 y9 : FVec Ideal Reference5Ideal.S1024 .f32}
    (H : Holds b d x0 x2 x3 x4 x5 x6 x7 x8 x9 y0 y1 y2 y3 y4 y5 y6 y7 y8 y9)
include H

theorem up_eq (r : Fin 256) (l : Fin 5632) :
    k0_pay3 (F := Ideal) x0 x2 x3 (ix2 r l) = upR y0 y2 y3 b (at256 d r) l := by
  rw [up_apply, upR, H.h3]
  simp only [H.h0, H.h2]

theorem u_eq (r : Fin 256) (j : Fin 2816) :
    k0_pay4 (F := Ideal) x0 x2 x3 (ix3 (0 : Fin 1) r j) = uR y0 y2 y3 b (at256 d r) j :=
  (u_apply x0 x2 x3 r j).trans (up_eq H r _)

theorem gate_eq (r : Fin 256) (j : Fin 2816) :
    k0_pay5 (F := Ideal) x0 x2 x3 (ix3 (0 : Fin 1) r j) = gR y0 y2 y3 b (at256 d r) j :=
  (gate_apply x0 x2 x3 r j).trans (up_eq H r _)

/-- The rows passed on are the ones the next part looks back to. -/
theorem passed_at (q : Fin 2) (j : Fin 2816) :
    passed (F := Ideal) x0 x2 x3 (ix3 (0 : Fin 1) q j)
      = full (fun p j => y1 (ix3 (0 : Fin 1) p j)) (uR y0 y2 y3 b) ⟨256 * d.val + 256 + q.val, by omega⟩ j := by
  unfold passed
  rw [last_at, stored_eq, u_eq H]
  exact (full_new _ _ _ _ (by show 256 * d.val + 256 + q.val = 2 + (256 * d.val + (254 + q.val)); omega) j).symm

variable (p : Vec Ideal S1x2x2816 .f32)
    (hp : ∀ (q : Fin 2) (j : Fin 2816), p (ix3 (0 : Fin 1) q j)
      = full (fun p j => y1 (ix3 (0 : Fin 1) p j)) (uR y0 y2 y3 b) ⟨256 * d.val + q.val, by omega⟩ j)
include hp

/-- The scratch's rows are the reference's. -/
theorem scr_eq (q : Fin 258) (j : Fin 2816) :
    View.canon (scratch p (k0_pay6 (F := Ideal) x0 x2 x3)) (ix3 (0 : Fin 1) (⟨6 + q.val, by omega⟩ : Fin 264) j)
      = full (fun p j => y1 (ix3 (0 : Fin 1) p j)) (uR y0 y2 y3 b) ⟨256 * d.val + q.val, by omega⟩ j := by
  rw [stored_eq]
  exact scratch_at _ _ d p _ hp (u_eq H) q j

theorem entering_at (r : Fin 256) (l : Fin 1024) :
    entering (F := Ideal) p x0 x2 x3 x4 x5 x6 x7 (ix2 r l) = resR y0 y1 y2 y3 y4 y5 y6 y7 b (at256 d r) l := by
  unfold entering
  rw [res_apply]
  unfold resR
  have h6 : ∀ j, seen p (k0_pay6 (F := Ideal) x0 x2 x3) 6 inb_S1x264x2816_S1x256x2816_0_6_0 (ix3 (0 : Fin 1) r j)
        = full (fun p j => y1 (ix3 (0 : Fin 1) p j)) (uR y0 y2 y3 b) ⟨(at256 d r).val, by omega⟩ j := fun j =>
    (seen_at p _ 6 (by omega) _ r j).trans (scr_eq H p hp ⟨r.val, by omega⟩ j)
  have h7 : ∀ j, seen p (k0_pay6 (F := Ideal) x0 x2 x3) 7 inb_S1x264x2816_S1x256x2816_0_7_0 (ix3 (0 : Fin 1) r j)
        = full (fun p j => y1 (ix3 (0 : Fin 1) p j)) (uR y0 y2 y3 b) ⟨1 + (at256 d r).val, by omega⟩ j := fun j => by
    refine (seen_at p _ 7 (by omega) _ r j).trans (Eq.trans ?_ ((scr_eq H p hp ⟨1 + r.val, by omega⟩ j).trans ?_))
    · refine congrArg (fun k => View.canon _ (ix3 (0 : Fin 1) k j)) (Fin.ext ?_)
      show 7 + r.val = 6 + (1 + r.val)
      omega
    · refine congrArg (fun k => full _ _ k j) (Fin.ext ?_)
      show 256 * d.val + (1 + r.val) = 1 + (256 * d.val + r.val)
      omega
  have hc : ∀ j, k0_pay7 (F := Ideal) x0 x2 x3 x5 (wts x4 2 inb_S3x2816_S1x2816_2_0)
        (seen p (k0_pay6 (F := Ideal) x0 x2 x3) 6 inb_S1x264x2816_S1x256x2816_0_6_0)
        (wts x4 0 inb_S3x2816_S1x2816_0_0) (ix3 (0 : Fin 1) r j)
      + seen p (k0_pay6 (F := Ideal) x0 x2 x3) 7 inb_S1x264x2816_S1x256x2816_0_7_0 (ix3 (0 : Fin 1) r j)
        * wts x4 1 inb_S3x2816_S1x2816_1_0 (ix2 (0 : Fin 1) j)
      = convR y0 y1 y2 y3 y4 y5 b (at256 d r) j := fun j => by
    rw [first_apply, h6, h7, u_eq H, H.h5]
    rw [show wts x4 2 inb_S3x2816_S1x2816_2_0 (ix2 (0 : Fin 1) j) = y4 (ix2 (2 : Fin 3) j) from
      (wts_at x4 2 _ j).trans (H.h4 2 j)]
    rw [show wts x4 1 inb_S3x2816_S1x2816_1_0 (ix2 (0 : Fin 1) j) = y4 (ix2 (1 : Fin 3) j) from
      (wts_at x4 1 _ j).trans (H.h4 1 j)]
    rw [show wts x4 0 inb_S3x2816_S1x2816_0_0 (ix2 (0 : Fin 1) j) = y4 (ix2 (0 : Fin 3) j) from
      (wts_at x4 0 _ j).trans (H.h4 0 j)]
    exact conv_eq _ _ (fun k j => y4 (ix2 k j)) (fun j => y5 (ix1 j)) (at256 d r) j
  simp only [hc, gate_eq H, H.h0, H.h6, H.h7]

/-- The normalised rows. -/
theorem stored_at (r : Fin 256) (l : Fin 1024) :
    stored (F := Ideal) p x0 x2 x3 x4 x5 x6 x7 x8 x9 (ix2 r l)
      = Reference5Ideal.Read.val_main_v65 (F := Ideal) y0 y1 y2 y3 y4 y5 y6 y7 y8 y9 (ix2 (rowR b (at256 d r)) l) := by
  unfold stored
  rw [nrm_apply, v65_at]
  have h10 : k0_pay10 (F := Ideal) x8 = x8 := shapeCast_self _ _
  rw [h10]
  simp only [entering_at H p hp, H.h8, H.h9]

end

end Cert.Prompt

end

end
-- ==== Proof.Prompt.Host.lean ====
/-
  The prompt's feed-forward kernel's host operations before its region, and its blocks: what each step's input
  windows hold.
-/
module

public import proofs.«01_k».proof.Proof.Prompt.Left

@[expose] public section

noncomputable section

namespace Cert.Prompt

open Idealize.ShloMosaic Idealize.ShloMosaic.TcCoe Idealize.SL.Sem Cert.Kernel5Ideal Cert.Kernel5Ideal.Gen

section
variable {F : FTy → Type} [FloatOps F]
variable (m : (ℓ : Loc nD τ sig) → Buf (Elt F) ℓ) (c : Dev nD)

theorem V_v0 : V m c main_v0 = truncf .bf16 (show FVec F S1024x5632 .f32 from m ((c : Thread nD τ).loc main_arg2)) bitsLt_bf16_f32 := by
  sl_kernel_rfl
theorem V_v1 : V m c main_v1 = shapeCast S1x5632 (m ((c : Thread nD τ).loc main_arg3)) shapeCasts_S5632_S1x5632 := by
  sl_kernel_rfl
theorem V_v2 : V m c main_v2 = shapeCast S1x2816 (m ((c : Thread nD τ).loc main_arg5)) shapeCasts_S2816_S1x2816 := by
  sl_kernel_rfl
theorem V_v3 : V m c main_v3 = truncf .bf16 (show FVec F S2816x1024 .f32 from m ((c : Thread nD τ).loc main_arg6)) bitsLt_bf16_f32 := by
  sl_kernel_rfl
theorem V_v4 : V m c main_v4 = shapeCast S1x1024 (m ((c : Thread nD τ).loc main_arg7)) shapeCasts_S1024_S1x1024 := by
  sl_kernel_rfl
theorem V_v5 : V m c main_v5 = shapeCast S1x1024 (m ((c : Thread nD τ).loc main_arg8)) shapeCasts_S1024_S1x1024 := by
  sl_kernel_rfl
theorem V_v6 : V m c main_v6 = shapeCast S1x1024 (m ((c : Thread nD τ).loc main_arg9)) shapeCasts_S1024_S1x1024 := by
  sl_kernel_rfl

theorem row5632_at (x : FVec F S5632 .f32) (l : Fin 5632) :
    shapeCast S1x5632 x shapeCasts_S5632_S1x5632 (ix2 (0 : Fin 1) l) = x (ix1 l) := by
  pointwise []
theorem row2816_at (x : FVec F S2816 .f32) (l : Fin 2816) :
    shapeCast S1x2816 x shapeCasts_S2816_S1x2816 (ix2 (0 : Fin 1) l) = x (ix1 l) := by
  pointwise []
theorem row1024_at (x : FVec F S1024 .f32) (l : Fin 1024) :
    shapeCast S1x1024 x shapeCasts_S1024_S1x1024 (ix2 (0 : Fin 1) l) = x (ix1 l) := by
  pointwise []
end

/-! ## Blocks -/

theorem idx0 : ∀ t : Fin grid0.N, win0_0.index t 0 = t.val ∧ win0_0.index t 1 = 0 := by decide +kernel
theorem emb0 (t : Fin grid0.N) (a : Fin 256) (b : Fin 1024) :
    ((cfg0.win 0).blk t).view.emb (ix2 a b)
      = ix2 (⟨256 * t.val + a.val, by have := t.isLt; have h : grid0.N = 64 := rfl; omega⟩ : Fin 16384) b := by
  obtain ⟨e0, e1⟩ := idx0 t
  funext a'
  match a' with
  | ⟨0, _⟩ => exact Fin.ext (by show win0_0.index t 0 * 256 + 1 * a.val = 256 * t.val + a.val; omega)
  | ⟨1, _⟩ => exact Fin.ext (by show win0_0.index t 1 * 1024 + 1 * b.val = b.val; omega)

theorem idx1 : ∀ t : Fin grid0.N, win0_1.index t 0 = 0 ∧ win0_1.index t 1 = 0 ∧ win0_1.index t 2 = 0 := by decide +kernel
theorem emb1 (t : Fin grid0.N) (b : Fin 2) (d : Fin 2816) :
    ((cfg0.win 1).blk t).view.emb (ix3 (0 : Fin 1) b d) = ix3 (0 : Fin 1) b d := by
  obtain ⟨e0, e1, e2⟩ := idx1 t
  funext a'
  match a' with
  | ⟨0, _⟩ => exact Fin.ext (by show win0_1.index t 0 * 1 + 1 * 0 = 0; omega)
  | ⟨1, _⟩ => exact Fin.ext (by show win0_1.index t 1 * 2 + 1 * b.val = b.val; omega)
  | ⟨2, _⟩ => exact Fin.ext (by show win0_1.index t 2 * 2816 + 1 * d.val = d.val; omega)

theorem idx2 : ∀ t : Fin grid0.N, win0_2.index t 0 = 0 ∧ win0_2.index t 1 = 0 := by decide +kernel
theorem emb2 (t : Fin grid0.N) (a : Fin 1024) (b : Fin 5632) :
    ((cfg0.win 2).blk t).view.emb (ix2 a b)
      = ix2 a b := by
  obtain ⟨e0, e1⟩ := idx2 t
  funext a'
  match a' with
  | ⟨0, _⟩ => exact Fin.ext (by show win0_2.index t 0 * 1024 + 1 * a.val = a.val; omega)
  | ⟨1, _⟩ => exact Fin.ext (by show win0_2.index t 1 * 5632 + 1 * b.val = b.val; omega)

theorem idx3 : ∀ t : Fin grid0.N, win0_3.index t 0 = 0 ∧ win0_3.index t 1 = 0 := by decide +kernel
theorem emb3 (t : Fin grid0.N) (a : Fin 1) (b : Fin 5632) :
    ((cfg0.win 3).blk t).view.emb (ix2 a b)
      = ix2 a b := by
  obtain ⟨e0, e1⟩ := idx3 t
  funext a'
  match a' with
  | ⟨0, _⟩ => exact Fin.ext (by show win0_3.index t 0 * 1 + 1 * a.val = a.val; omega)
  | ⟨1, _⟩ => exact Fin.ext (by show win0_3.index t 1 * 5632 + 1 * b.val = b.val; omega)

theorem idx4 : ∀ t : Fin grid0.N, win0_4.index t 0 = 0 ∧ win0_4.index t 1 = 0 := by decide +kernel
theorem emb4 (t : Fin grid0.N) (a : Fin 3) (b : Fin 2816) :
    ((cfg0.win 4).blk t).view.emb (ix2 a b)
      = ix2 a b := by
  obtain ⟨e0, e1⟩ := idx4 t
  funext a'
  match a' with
  | ⟨0, _⟩ => exact Fin.ext (by show win0_4.index t 0 * 3 + 1 * a.val = a.val; omega)
  | ⟨1, _⟩ => exact Fin.ext (by show win0_4.index t 1 * 2816 + 1 * b.val = b.val; omega)

theorem idx5 : ∀ t : Fin grid0.N, win0_5.index t 0 = 0 ∧ win0_5.index t 1 = 0 := by decide +kernel
theorem emb5 (t : Fin grid0.N) (a : Fin 1) (b : Fin 2816) :
    ((cfg0.win 5).blk t).view.emb (ix2 a b)
      = ix2 a b := by
  obtain ⟨e0, e1⟩ := idx5 t
  funext a'
  match a' with
  | ⟨0, _⟩ => exact Fin.ext (by show win0_5.index t 0 * 1 + 1 * a.val = a.val; omega)
  | ⟨1, _⟩ => exact Fin.ext (by show win0_5.index t 1 * 2816 + 1 * b.val = b.val; omega)

theorem idx6 : ∀ t : Fin grid0.N, win0_6.index t 0 = 0 ∧ win0_6.index t 1 = 0 := by decide +kernel
theorem emb6 (t : Fin grid0.N) (a : Fin 2816) (b : Fin 1024) :
    ((cfg0.win 6).blk t).view.emb (ix2 a b)
      = ix2 a b := by
  obtain ⟨e0, e1⟩ := idx6 t
  funext a'
  match a' with
  | ⟨0, _⟩ => exact Fin.ext (by show win0_6.index t 0 * 2816 + 1 * a.val = a.val; omega)
  | ⟨1, _⟩ => exact Fin.ext (by show win0_6.index t 1 * 1024 + 1 * b.val = b.val; omega)

theorem idx7 : ∀ t : Fin grid0.N, win0_7.index t 0 = 0 ∧ win0_7.index t 1 = 0 := by decide +kernel
theorem emb7 (t : Fin grid0.N) (a : Fin 1) (b : Fin 1024) :
    ((cfg0.win 7).blk t).view.emb (ix2 a b)
      = ix2 a b := by
  obtain ⟨e0, e1⟩ := idx7 t
  funext a'
  match a' with
  | ⟨0, _⟩ => exact Fin.ext (by show win0_7.index t 0 * 1 + 1 * a.val = a.val; omega)
  | ⟨1, _⟩ => exact Fin.ext (by show win0_7.index t 1 * 1024 + 1 * b.val = b.val; omega)

theorem idx8 : ∀ t : Fin grid0.N, win0_8.index t 0 = 0 ∧ win0_8.index t 1 = 0 := by decide +kernel
theorem emb8 (t : Fin grid0.N) (a : Fin 1) (b : Fin 1024) :
    ((cfg0.win 8).blk t).view.emb (ix2 a b)
      = ix2 a b := by
  obtain ⟨e0, e1⟩ := idx8 t
  funext a'
  match a' with
  | ⟨0, _⟩ => exact Fin.ext (by show win0_8.index t 0 * 1 + 1 * a.val = a.val; omega)
  | ⟨1, _⟩ => exact Fin.ext (by show win0_8.index t 1 * 1024 + 1 * b.val = b.val; omega)

theorem idx9 : ∀ t : Fin grid0.N, win0_9.index t 0 = 0 ∧ win0_9.index t 1 = 0 := by decide +kernel
theorem emb9 (t : Fin grid0.N) (a : Fin 1) (b : Fin 1024) :
    ((cfg0.win 9).blk t).view.emb (ix2 a b)
      = ix2 a b := by
  obtain ⟨e0, e1⟩ := idx9 t
  funext a'
  match a' with
  | ⟨0, _⟩ => exact Fin.ext (by show win0_9.index t 0 * 1 + 1 * a.val = a.val; omega)
  | ⟨1, _⟩ => exact Fin.ext (by show win0_9.index t 1 * 1024 + 1 * b.val = b.val; omega)

theorem idx10 : ∀ t : Fin grid0.N, win0_10.index t 0 = t.val ∧ win0_10.index t 1 = 0 := by decide +kernel
theorem emb10 (t : Fin grid0.N) (a : Fin 256) (b : Fin 1024) :
    ((cfg0.win 10).blk t).view.emb (ix2 a b)
      = ix2 (⟨256 * t.val + a.val, by have := t.isLt; have h : grid0.N = 64 := rfl; omega⟩ : Fin 16384) b := by
  obtain ⟨e0, e1⟩ := idx10 t
  funext a'
  match a' with
  | ⟨0, _⟩ => exact Fin.ext (by show win0_10.index t 0 * 256 + 1 * a.val = 256 * t.val + a.val; omega)
  | ⟨1, _⟩ => exact Fin.ext (by show win0_10.index t 1 * 1024 + 1 * b.val = b.val; omega)

theorem idx11 : ∀ t : Fin grid0.N, win0_11.index t 0 = t.val / 8 ∧ win0_11.index t 1 = 0 ∧ win0_11.index t 2 = 0 := by decide +kernel
theorem emb11 (t : Fin grid0.N) (b : Fin 2) (d : Fin 2816) :
    ((cfg0.win 11).blk t).view.emb (ix3 (0 : Fin 1) b d)
      = ix3 (⟨t.val / 8, by have := t.isLt; have h : grid0.N = 64 := rfl; omega⟩ : Fin 8) b d := by
  obtain ⟨e0, e1, e2⟩ := idx11 t
  funext a'
  match a' with
  | ⟨0, _⟩ => exact Fin.ext (by show win0_11.index t 0 * 1 + 1 * 0 = t.val / 8; omega)
  | ⟨1, _⟩ => exact Fin.ext (by show win0_11.index t 1 * 2 + 1 * b.val = b.val; omega)
  | ⟨2, _⟩ => exact Fin.ext (by show win0_11.index t 2 * 2816 + 1 * d.val = d.val; omega)

variable (m : (ℓ : Loc nD τ sig) → Buf (Elt Ideal) ℓ) (c : Dev nD)

/-- The sequence of step `t`. -/
abbrev seqOf (t : Fin grid0.N) : Fin 8 := ⟨t.val / 8, by have := t.isLt; have h : grid0.N = 64 := rfl; omega⟩
/-- The part of it that step `t` works on. -/
abbrev partOf (t : Fin grid0.N) : Fin 8 := ⟨t.val % 8, by omega⟩

theorem row_of (t : Fin grid0.N) (r : Fin 256) (h : 256 * t.val + r.val < 16384) :
    (⟨256 * t.val + r.val, h⟩ : Fin 16384) = rowR (seqOf t) (at256 (partOf t) r) :=
  Fin.ext (by show 256 * t.val + r.val = t.val / 8 * 2048 + (256 * (t.val % 8) + r.val); omega)

theorem in0 (t : Fin grid0.N) (r : Fin 256) (k : Fin 1024) :
    iblk m c 0 t (ix2 r k) = m ((c : Thread nD τ).loc main_arg0) (ix2 (rowR (seqOf t) (at256 (partOf t) r)) k) := by
  show V m c main_arg0 (((cfg0.win 0).blk t).view.emb (ix2 _ _)) = _
  rw [emb0, V_main_arg0]
  exact congrArg (fun a => m ((c : Thread nD τ).loc main_arg0) (ix2 a k)) (row_of t r _)
theorem in1 (t : Fin grid0.N) (p : Fin 2) (j : Fin 2816) :
    iblk m c 1 t (ix3 (0 : Fin 1) p j) = m ((c : Thread nD τ).loc main_arg1) (ix3 (0 : Fin 1) p j) := by
  show V m c main_arg1 (((cfg0.win 1).blk t).view.emb (ix3 _ _ _)) = _
  rw [emb1, V_main_arg1]
theorem in2 (t : Fin grid0.N) (k : Fin 1024) (l : Fin 5632) :
    iblk m c 2 t (ix2 k l) = m ((c : Thread nD τ).loc main_arg2) (ix2 k l) := by
  show V m c main_v0 (((cfg0.win 2).blk t).view.emb (ix2 _ _)) = _
  rw [emb2, V_v0]
  rfl
theorem in3 (t : Fin grid0.N) (l : Fin 5632) :
    iblk m c 3 t (ix2 (0 : Fin 1) l) = m ((c : Thread nD τ).loc main_arg3) (ix1 l) := by
  show V m c main_v1 (((cfg0.win 3).blk t).view.emb (ix2 _ _)) = _
  rw [emb3, V_v1]
  exact row5632_at (F := Ideal) _ l
theorem in4 (t : Fin grid0.N) (k : Fin 3) (j : Fin 2816) :
    iblk m c 4 t (ix2 k j) = m ((c : Thread nD τ).loc main_arg4) (ix2 k j) := by
  show V m c main_arg4 (((cfg0.win 4).blk t).view.emb (ix2 _ _)) = _
  rw [emb4, V_main_arg4]
theorem in5 (t : Fin grid0.N) (l : Fin 2816) :
    iblk m c 5 t (ix2 (0 : Fin 1) l) = m ((c : Thread nD τ).loc main_arg5) (ix1 l) := by
  show V m c main_v2 (((cfg0.win 5).blk t).view.emb (ix2 _ _)) = _
  rw [emb5, V_v2]
  exact row2816_at (F := Ideal) _ l
theorem in6 (t : Fin grid0.N) (k : Fin 2816) (l : Fin 1024) :
    iblk m c 6 t (ix2 k l) = m ((c : Thread nD τ).loc main_arg6) (ix2 k l) := by
  show V m c main_v3 (((cfg0.win 6).blk t).view.emb (ix2 _ _)) = _
  rw [emb6, V_v3]
  rfl
theorem in7 (t : Fin grid0.N) (l : Fin 1024) :
    iblk m c 7 t (ix2 (0 : Fin 1) l) = m ((c : Thread nD τ).loc main_arg7) (ix1 l) := by
  show V m c main_v4 (((cfg0.win 7).blk t).view.emb (ix2 _ _)) = _
  rw [emb7, V_v4]
  exact row1024_at (F := Ideal) _ l
theorem in8 (t : Fin grid0.N) (l : Fin 1024) :
    iblk m c 8 t (ix2 (0 : Fin 1) l) = m ((c : Thread nD τ).loc main_arg8) (ix1 l) := by
  show V m c main_v5 (((cfg0.win 8).blk t).view.emb (ix2 _ _)) = _
  rw [emb8, V_v5]
  exact row1024_at (F := Ideal) _ l
theorem in9 (t : Fin grid0.N) (l : Fin 1024) :
    iblk m c 9 t (ix2 (0 : Fin 1) l) = m ((c : Thread nD τ).loc main_arg9) (ix1 l) := by
  show V m c main_v6 (((cfg0.win 9).blk t).view.emb (ix2 _ _)) = _
  rw [emb9, V_v6]
  exact row1024_at (F := Ideal) _ l

end Cert.Prompt

end

end
-- ==== Proof.Prompt.Algebraic.lean ====
/-
  The prompt's feed-forward kernel's result arrays are the reference's.
-/
module

public import proofs.«01_k».proof.Proof.Prompt.Host
public import Idealize.ShloMosaic.Lib.Pipeline.Value
public import proofs.«01_k».proof.Proof.Gen.Reference5Ideal.Run
public import proofs.«01_k».proof.Defs

@[expose] public section

noncomputable section

namespace Cert.Prompt

open Idealize.ShloMosaic Idealize.ShloMosaic.TcCoe Idealize.SL.Sem Cert.Kernel5Ideal Cert.Kernel5Ideal.Gen
open Idealize.ShloMosaic.StableHlo
open Cert.Reference5Ideal.Read (val_main_v65 val_main_v66 val_main_v65_eq val_main_v66_eq)

variable (m : (ℓ : Loc nD τ sig) → Buf (Elt Ideal) ℓ) (c : Dev nD)

/-! ## What a step leaves -/

/-- At every step the input windows hold the reference's arguments. -/
theorem holds (t : Fin grid0.N) : Holds (seqOf t) (partOf t)
    (iblk m c 0 t) (iblk m c 2 t) (iblk m c 3 t) (iblk m c 4 t) (iblk m c 5 t) (iblk m c 6 t) (iblk m c 7 t) (iblk m c 8 t) (iblk m c 9 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) where
  h0 := in0 m c t
  h2 := in2 m c t
  h3 := in3 m c t
  h4 := in4 m c t
  h5 := in5 m c t
  h6 := in6 m c t
  h7 := in7 m c t
  h8 := in8 m c t
  h9 := in9 m c t

/-- The two rows a step passes on. -/
theorem held_eq (t : Fin grid0.N) (q : Fin 2) (j : Fin 2816) :
    held m c t.val (ix3 (0 : Fin 1) q j)
      = full (fun p j => m ((c : Thread nD τ).loc main_arg1) (ix3 (0 : Fin 1) p j))
          (uR (m ((c : Thread nD τ).loc main_arg0)) (m ((c : Thread nD τ).loc main_arg2)) (m ((c : Thread nD τ).loc main_arg3)) (seqOf t))
          ⟨256 * (partOf t).val + 256 + q.val, by omega⟩ j := by
  rw [held_at]
  exact passed_at (holds m c t) q j

/-- The two past rows a step works with. -/
theorem before_eq (t : Fin grid0.N) (q : Fin 2) (j : Fin 2816) :
    before m c t (ix3 (0 : Fin 1) q j)
      = full (fun p j => m ((c : Thread nD τ).loc main_arg1) (ix3 (0 : Fin 1) p j))
          (uR (m ((c : Thread nD τ).loc main_arg0)) (m ((c : Thread nD τ).loc main_arg2)) (m ((c : Thread nD τ).loc main_arg3)) (seqOf t))
          ⟨256 * (partOf t).val + q.val, by omega⟩ j := by
  unfold before
  by_cases h : t.val % 8 = 0
  · rw [if_pos h]
    refine (in1 m c t q j).trans (Eq.symm ?_)
    refine full_past _ _ _ q ?_ j
    show 256 * (t.val % 8) + q.val = q.val
    omega
  · rw [if_neg h]
    have hN : t.val - 1 < grid0.N := by have := t.isLt; omega
    refine (held_eq m c ⟨t.val - 1, hN⟩ q j).trans ?_
    have es : seqOf ⟨t.val - 1, hN⟩ = seqOf t := Fin.ext (by show (t.val - 1) / 8 = t.val / 8; omega)
    rw [es]
    refine congrArg (fun k => full _ _ k j) (Fin.ext ?_)
    show 256 * ((t.val - 1) % 8) + 256 + q.val = 256 * (t.val % 8) + q.val
    omega

/-! ## The final arrays -/

theorem flush10 : ∀ t : Fin grid0.N, (cfg0.win 10).flush t = true := by decide +kernel
theorem flush11 : ∀ t : Fin grid0.N, t.val % 8 = 7 → (cfg0.win 11).flush t = true := by decide +kernel

theorem apart10 : ∀ t t' : Fin grid0.N, win0_10.index t = win0_10.index t' → t = t' := fun t t' h =>
  Fin.ext ((idx10 t).1.symm.trans ((congrFun h 0).trans (idx10 t').1))

theorem last_of : ∀ t : Fin grid0.N, (cfg0.win 11).flush t = true → t.val % 8 = 7 := by decide +kernel

theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (apart10 t t' h)

theorem disjoint11 : ∀ t t' : Fin cfg0.N, (cfg0.win 11).flush t = true → (cfg0.win 11).flush t' = true → t ≠ t' →
    Disjoint ((cfg0.win 11).blk t).view.set ((cfg0.win 11).blk t').view.set :=
  fun t t' hf hf' hne => (cfg0.win 11).disjoint_blk fun h => hne (Fin.ext (by
    have e : t.val / 8 = t'.val / 8 := (idx11 t).1.symm.trans ((congrFun (show win0_11.index t = win0_11.index t' from h) 0).trans (idx11 t').1)
    have l := last_of t hf
    have l' := last_of t' hf'
    omega))

theorem blocks10 (t : Fin cfg0.N) :
    ((cfg0.win 10).blk t).view.read (Elt Ideal) ((dats m 0 c).arrAt 10 cfg0.N) = (cfg0.win 10).cut (grid0.coords t) (rows m c t) :=
  ((dats m 0 c).read_blk_arrAt_eq_flushed 10 disjoint10 cfg0.N t t.isLt (flush10 t)).trans (by
    show (cfg0.win 10).cut (grid0.coords t) ((dats m 0 c).after 10 t) = _
    rw [after10])

theorem blocks11 (t : Fin cfg0.N) (h : t.val % 8 = 7) :
    ((cfg0.win 11).blk t).view.read (Elt Ideal) ((dats m 0 c).arrAt 11 cfg0.N) = (cfg0.win 11).cut (grid0.coords t) (held m c t.val) :=
  ((dats m 0 c).read_blk_arrAt_eq_flushed 11 disjoint11 cfg0.N t t.isLt (flush11 t h)).trans (by
    show (cfg0.win 11).cut (grid0.coords t) ((dats m 0 c).after 11 t) = _
    rw [after11])

theorem out_blk (t : Fin grid0.N) (r : Fin 256) (l : Fin 1024) :
    (dats m 0 c).arrAt 10 cfg0.N (ix2 (rowR (seqOf t) (at256 (partOf t) r)) l)
      = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
          (ix2 (rowR (seqOf t) (at256 (partOf t) r)) l) := by
  have hk := congrFun (blocks10 m c t) (ix2 r l)
  refine Eq.trans (Eq.trans ?_ hk) (stored_at (holds m c t) (before m c t) (before_eq m c t) r l)
  refine congrArg _ (Eq.trans ?_ (emb10 t r l).symm)
  exact congrArg (fun a => ix2 a l) (row_of t r _).symm

theorem out_at (r : Fin 16384) (l : Fin 1024) : (dats m 0 c).arrAt 10 cfg0.N (ix2 r l)
    = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r l) := by
  have h : r.val / 256 < grid0.N := by have h : grid0.N = 64 := rfl; omega
  have e : r = rowR (seqOf ⟨r.val / 256, h⟩) (at256 (partOf ⟨r.val / 256, h⟩) ⟨r.val % 256, by omega⟩) :=
    Fin.ext (by show r.val = r.val / 256 / 8 * 2048 + (256 * (r.val / 256 % 8) + r.val % 256); omega)
  rw [e]
  exact out_blk m c _ _ l

theorem state_at (b : Fin 8) (p : Fin 2) (j : Fin 2816) :
    (dats m 0 c).arrAt 11 cfg0.N (ix3 b p j)
      = val_main_v66 (F := Ideal) (m ((c : Thread nD τ).loc main_arg0)) (m ((c : Thread nD τ).loc main_arg1)) (m ((c : Thread nD τ).loc main_arg2)) (m ((c : Thread nD τ).loc main_arg3)) (ix3 b p j) := by
  have hN : 8 * b.val + 7 < grid0.N := by have h : grid0.N = 64 := rfl; omega
  have es : seqOf ⟨8 * b.val + 7, hN⟩ = b := Fin.ext (by show (8 * b.val + 7) / 8 = b.val; omega)
  have hk := congrFun (blocks11 m c ⟨8 * b.val + 7, hN⟩ (by show (8 * b.val + 7) % 8 = 7; omega)) (ix3 (0 : Fin 1) p j)
  refine Eq.trans (Eq.trans ?_ hk) (Eq.trans (held_eq m c ⟨8 * b.val + 7, hN⟩ p j) ?_)
  · refine congrArg _ (Eq.trans ?_ (emb11 _ p j).symm)
    exact congrArg (fun a => ix3 a p j) es.symm
  · rw [v66_at, es]
    refine congrArg (fun k => full _ _ k j) (Fin.ext ?_)
    show 256 * ((8 * b.val + 7) % 8) + 256 + p.val = 2048 + p.val
    omega

theorem out_arr : (dats m 0 c).arrAt 10 cfg0.N
    = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine funext fun j => ?_
  refine (congrArg _ (ValueIdx.eq_ix2 (n0 := 16384) (n1 := 1024) j)).trans
    (Eq.trans ?_ (congrArg _ (ValueIdx.eq_ix2 (n0 := 16384) (n1 := 1024) j)).symm)
  exact out_at m c (j 0) (j 1)

theorem state_arr : (dats m 0 c).arrAt 11 cfg0.N
    = val_main_v66 (F := Ideal) (m ((c : Thread nD τ).loc main_arg0)) (m ((c : Thread nD τ).loc main_arg1)) (m ((c : Thread nD τ).loc main_arg2)) (m ((c : Thread nD τ).loc main_arg3)) := by
  refine funext fun j => ?_
  refine (congrArg _ (ValueIdx.eq_ix3 (n0 := 8) j)).trans
    (Eq.trans ?_ (congrArg _ (ValueIdx.eq_ix3 (n0 := 8) j)).symm)
  exact state_at m c (j 0) (j 1) (j 2)

/-- The launch ends with the two result arrays as the steps left them and the arguments as they were. -/
theorem run_values (ρ : Dev nD → PrngReg) :
    θ_run defs (onTc (τ := τ) (main (F := Ideal))) ⟨m, fun _ => 0, ρ⟩ fun r => ∀ c : Dev nD,
      r.2.mem ((c : Thread nD τ).loc main_v7_0) = (dats m 0 c).arrAt 10 cfg0.N
      ∧ r.2.mem ((c : Thread nD τ).loc main_v7_1) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h.1 c).1 10, (h.1 c).1 11, h.2.1 c⟩)
    (θ_run_and (run_main m ρ) (frame m ρ))

/-- The two programs agree on both results. -/
theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => val_main_v65 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)),
    fun c => val_main_v66 (F := Ideal) (m (c.tc.loc main_arg0)) (m (c.tc.loc main_arg1)) (m (c.tc.loc main_arg2)) (m (c.tc.loc main_arg3)), ?_, ?_⟩
  · refine (θ_run Cert.Kernel5Ideal.defs _ _).mono (fun r h c => ?_) (run_values m g)
    obtain ⟨h0, h1, hk⟩ := h c
    exact ⟨h0.trans (out_arr m c), h1.trans (state_arr m c), hk⟩
  · refine (θ_run Cert.Reference5Ideal.defs _ _).mono (fun r h c => ?_) (Cert.Reference5Ideal.Value.run (F := Ideal) m' g')
    obtain ⟨h0, h1, hk⟩ := h c
    obtain ⟨a0, a1, a2, a3, a4, a5, a6, a7, a8, a9⟩ := hargs c
    have e0 := h0.trans (val_main_v65_eq (F := Ideal) m' c)
    have e1 := h1.trans (val_main_v66_eq (F := Ideal) (m' (c.tc.loc Cert.Reference5Ideal.main_arg0)) (m' (c.tc.loc Cert.Reference5Ideal.main_arg1)) (m' (c.tc.loc Cert.Reference5Ideal.main_arg2)) (m' (c.tc.loc Cert.Reference5Ideal.main_arg3)))
    have f0 : val_main_v65 (F := Ideal) (m' (c.tc.loc Cert.Reference5Ideal.main_arg0)) (m' (c.tc.loc Cert.Reference5Ideal.main_arg1)) (m' (c.tc.loc Cert.Reference5Ideal.main_arg2)) (m' (c.tc.loc Cert.Reference5Ideal.main_arg3)) (m' (c.tc.loc Cert.Reference5Ideal.main_arg4)) (m' (c.tc.loc Cert.Reference5Ideal.main_arg5)) (m' (c.tc.loc Cert.Reference5Ideal.main_arg6)) (m' (c.tc.loc Cert.Reference5Ideal.main_arg7)) (m' (c.tc.loc Cert.Reference5Ideal.main_arg8)) (m' (c.tc.loc Cert.Reference5Ideal.main_arg9))
        = val_main_v65 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) := by
      rw [a0, a1, a2, a3, a4, a5, a6, a7, a8, a9]
    have f1 : val_main_v66 (F := Ideal) (m' (c.tc.loc Cert.Reference5Ideal.main_arg0)) (m' (c.tc.loc Cert.Reference5Ideal.main_arg1)) (m' (c.tc.loc Cert.Reference5Ideal.main_arg2)) (m' (c.tc.loc Cert.Reference5Ideal.main_arg3))
        = val_main_v66 (F := Ideal) (m (c.tc.loc main_arg0)) (m (c.tc.loc main_arg1)) (m (c.tc.loc main_arg2)) (m (c.tc.loc main_arg3)) := by
      rw [a0, a1, a2, a3]
    exact ⟨e0.trans f0, e1.trans f1, hk⟩

end Cert.Prompt

end

end
-- ==== Proof.PromptOut.Math.lean ====
/-
  A row of the prompt batch: its sequence and its time step.
-/
module

public import proofs.«01_k».proof.Proof.Out.Math

@[expose] public section

noncomputable section

namespace Cert.PromptOut

/-- The sequence row `r` belongs to. -/
abbrev sq (r : Fin 16384) : Fin 8 := ⟨r.val / 2048, by omega⟩
/-- Its time step. -/
abbrev st (r : Fin 16384) : Fin 2048 := ⟨r.val % 2048, by omega⟩

end Cert.PromptOut

end

end
-- ==== Proof.PromptOut.Payload.lean ====
/-
  The prompt's output projection's block of results read at an index over extended reals.
-/
module

public import proofs.«01_k».proof.Proof.PromptOut.Math
public import proofs.«01_k».proof.Proof.Gen.Kernel6Ideal.Frame

@[expose] public section

noncomputable section

namespace Cert.PromptOut

open Idealize.ShloMosaic Idealize.SL.Sem
open Cert.Kernel6Ideal Cert.Kernel6Ideal.Gen
open Cert.Ffn (nrm mean)
open Cert.Out (sum)

theorem sum_apply (v0 : Vec Ideal S256x1024 .f32) (v2 v4 : Vec Ideal S1x1024 .f32)
    (v26 : Vec Ideal S256x1024 .bf16) (v27 : Vec Ideal S1024x1024 .bf16) (v30 : Vec Ideal S1x1024 .f32)
    (r : Fin 256) (l : Fin 1024) :
    k0_pay2 (F := Ideal) v0 v2 v4 v26 v27 v30 (ix2 r l)
      = sum (fun k => v0 (ix2 r k)) (fun k => v2 (ix2 (0 : Fin 1) k)) (fun k => v4 (ix2 (0 : Fin 1) k))
          (fun k => v26 (ix2 r k)) (fun k l => v27 (ix2 k l)) (fun k => v30 (ix2 (0 : Fin 1) k)) l := by
  pointwise [k0_pay2, sum, nrm, mean]

theorem nrm_apply (v65 : Vec Ideal S256x1024 .f32) (v67 v68 : Vec Ideal S1x1024 .f32) (r : Fin 256)
    (l : Fin 1024) :
    k0_pay1 (F := Ideal) v65 v67 v68 (ix2 r l)
      = nrm (fun k => v65 (ix2 r k)) (fun k => v67 (ix2 (0 : Fin 1) k))
          (fun k => v68 (ix2 (0 : Fin 1) k)) l := by
  pointwise [k0_pay1, nrm, mean]

theorem hz : (![0, 0] : Fin 2 → Nat) = fun _ => 0 := by decide

variable (x0 : Vec Ideal S256x1024 .f32) (x1 : Vec Ideal S256x1024 .bf16) (x2 x3 : Vec Ideal S1x1024 .f32)
  (x4 : Vec Ideal S1024x1024 .bf16) (x5 x6 x7 : Vec Ideal S1x1024 .f32)

/-- What a step leaves in its block of the result. -/
theorem out_apply (r : Fin 256) (l : Fin 1024) :
    out0_8 (F := Ideal) x0 x1 x2 x3 x4 x5 x6 x7 (ix2 r l)
      = nrm (sum (fun k => x0 (ix2 r k)) (fun k => x2 (ix2 (0 : Fin 1) k)) (fun k => x3 (ix2 (0 : Fin 1) k))
          (fun k => x1 (ix2 r k)) (fun k l => x4 (ix2 k l)) (fun k => x5 (ix2 (0 : Fin 1) k)))
          (fun k => x6 (ix2 (0 : Fin 1) k)) (fun k => x7 (ix2 (0 : Fin 1) k)) l := by
  unfold out0_8
  rw [View.canon_unit_zero hz, View.ld_unit_zero hz, View.ld_unit_zero hz, View.ld_unit_zero hz,
    View.ld_unit_zero hz, View.ld_unit_zero hz, View.ld_unit_zero hz, View.ld_unit_zero hz,
    View.ld_unit_zero hz, nrm_apply]
  simp only [sum_apply]

end Cert.PromptOut

end

end
-- ==== Proof.PromptOut.Host.lean ====
/-
  The prompt's output projection's host operations before its region, and its blocks: what each step's input
  windows hold.
-/
module

public import proofs.«01_k».proof.Proof.PromptOut.Payload

@[expose] public section

noncomputable section

namespace Cert.PromptOut

open Idealize.ShloMosaic Idealize.ShloMosaic.TcCoe Idealize.SL.Sem
open Cert.Kernel6Ideal Cert.Kernel6Ideal.Gen

section
variable {F : FTy → Type} [FloatOps F]
variable (m : (ℓ : Loc nD τ sig) → Buf (Elt F) ℓ) (c : Dev nD)

theorem V_v0 : V m c main_v0 = shapeCast S16384x1024 (m ((c : Thread nD τ).loc main_arg0)) shapeCasts_S8x2048x1024_S16384x1024 := by
  sl_kernel_rfl
theorem V_v1 : V m c main_v1 = shapeCast S1x1024 (m ((c : Thread nD τ).loc main_arg2)) shapeCasts_S1024_S1x1024 := by
  sl_kernel_rfl
theorem V_v2 : V m c main_v2 = shapeCast S1x1024 (m ((c : Thread nD τ).loc main_arg3)) shapeCasts_S1024_S1x1024 := by
  sl_kernel_rfl
theorem V_v3 : V m c main_v3 = truncf .bf16 (show FVec F S1024x1024 .f32 from m ((c : Thread nD τ).loc main_arg4)) bitsLt_bf16_f32 := by
  sl_kernel_rfl
theorem V_v4 : V m c main_v4 = shapeCast S1x1024 (m ((c : Thread nD τ).loc main_arg5)) shapeCasts_S1024_S1x1024 := by
  sl_kernel_rfl
theorem V_v5 : V m c main_v5 = shapeCast S1x1024 (m ((c : Thread nD τ).loc main_arg6)) shapeCasts_S1024_S1x1024 := by
  sl_kernel_rfl
theorem V_v6 : V m c main_v6 = shapeCast S1x1024 (m ((c : Thread nD τ).loc main_arg7)) shapeCasts_S1024_S1x1024 := by
  sl_kernel_rfl
end

/-! ## Entries -/

theorem rows_at (x : FVec Ideal S8x2048x1024 .f32) (r : Fin 16384) (k : Fin 1024) :
    shapeCast S16384x1024 x shapeCasts_S8x2048x1024_S16384x1024 (ix2 r k) = x (ix3 (sq r) (st r) k) := by
  pointwise []
theorem row1024_at (x : FVec Ideal S1024 .f32) (l : Fin 1024) :
    shapeCast S1x1024 x shapeCasts_S1024_S1x1024 (ix2 (0 : Fin 1) l) = x (ix1 l) := by
  pointwise []

/-! ## Blocks -/

/-- Row `r` of step `t`'s block. -/
abbrev at4 (t : Fin grid0.N) (r : Fin 256) : Fin 16384 :=
  ⟨256 * t.val + r.val, by have := t.isLt; have h : grid0.N = 64 := rfl; omega⟩

theorem idx0 : ∀ t : Fin grid0.N, win0_0.index t 0 = t.val ∧ win0_0.index t 1 = 0 := by decide +kernel
theorem emb0 (t : Fin grid0.N) (a : Fin 256) (b : Fin 1024) :
    ((cfg0.win 0).blk t).view.emb (ix2 a b) = ix2 (at4 t a) b := by
  obtain ⟨e0, e1⟩ := idx0 t
  funext a'
  match a' with
  | ⟨0, _⟩ => exact Fin.ext (by show win0_0.index t 0 * 256 + 1 * a.val = 256 * t.val + a.val; omega)
  | ⟨1, _⟩ => exact Fin.ext (by show win0_0.index t 1 * 1024 + 1 * b.val = b.val; omega)

theorem idx1 : ∀ t : Fin grid0.N, win0_1.index t 0 = t.val ∧ win0_1.index t 1 = 0 := by decide +kernel
theorem emb1 (t : Fin grid0.N) (a : Fin 256) (b : Fin 1024) :
    ((cfg0.win 1).blk t).view.emb (ix2 a b) = ix2 (at4 t a) b := by
  obtain ⟨e0, e1⟩ := idx1 t
  funext a'
  match a' with
  | ⟨0, _⟩ => exact Fin.ext (by show win0_1.index t 0 * 256 + 1 * a.val = 256 * t.val + a.val; omega)
  | ⟨1, _⟩ => exact Fin.ext (by show win0_1.index t 1 * 1024 + 1 * b.val = b.val; omega)

theorem idx2 : ∀ t : Fin grid0.N, win0_2.index t 0 = 0 ∧ win0_2.index t 1 = 0 := by decide +kernel
theorem emb2 (t : Fin grid0.N) (a : Fin 1) (b : Fin 1024) :
    ((cfg0.win 2).blk t).view.emb (ix2 a b) = ix2 a b := by
  obtain ⟨e0, e1⟩ := idx2 t
  funext a'
  match a' with
  | ⟨0, _⟩ => exact Fin.ext (by show win0_2.index t 0 * 1 + 1 * a.val = a.val; omega)
  | ⟨1, _⟩ => exact Fin.ext (by show win0_2.index t 1 * 1024 + 1 * b.val = b.val; omega)

theorem idx3 : ∀ t : Fin grid0.N, win0_3.index t 0 = 0 ∧ win0_3.index t 1 = 0 := by decide +kernel
theorem emb3 (t : Fin grid0.N) (a : Fin 1) (b : Fin 1024) :
    ((cfg0.win 3).blk t).view.emb (ix2 a b) = ix2 a b := by
  obtain ⟨e0, e1⟩ := idx3 t
  funext a'
  match a' with
  | ⟨0, _⟩ => exact Fin.ext (by show win0_3.index t 0 * 1 + 1 * a.val = a.val; omega)
  | ⟨1, _⟩ => exact Fin.ext (by show win0_3.index t 1 * 1024 + 1 * b.val = b.val; omega)

theorem idx4 : ∀ t : Fin grid0.N, win0_4.index t 0 = 0 ∧ win0_4.index t 1 = 0 := by decide +kernel
theorem emb4 (t : Fin grid0.N) (a : Fin 1024) (b : Fin 1024) :
    ((cfg0.win 4).blk t).view.emb (ix2 a b) = ix2 a b := by
  obtain ⟨e0, e1⟩ := idx4 t
  funext a'
  match a' with
  | ⟨0, _⟩ => exact Fin.ext (by show win0_4.index t 0 * 1024 + 1 * a.val = a.val; omega)
  | ⟨1, _⟩ => exact Fin.ext (by show win0_4.index t 1 * 1024 + 1 * b.val = b.val; omega)

theorem idx5 : ∀ t : Fin grid0.N, win0_5.index t 0 = 0 ∧ win0_5.index t 1 = 0 := by decide +kernel
theorem emb5 (t : Fin grid0.N) (a : Fin 1) (b : Fin 1024) :
    ((cfg0.win 5).blk t).view.emb (ix2 a b) = ix2 a b := by
  obtain ⟨e0, e1⟩ := idx5 t
  funext a'
  match a' with
  | ⟨0, _⟩ => exact Fin.ext (by show win0_5.index t 0 * 1 + 1 * a.val = a.val; omega)
  | ⟨1, _⟩ => exact Fin.ext (by show win0_5.index t 1 * 1024 + 1 * b.val = b.val; omega)

theorem idx6 : ∀ t : Fin grid0.N, win0_6.index t 0 = 0 ∧ win0_6.index t 1 = 0 := by decide +kernel
theorem emb6 (t : Fin grid0.N) (a : Fin 1) (b : Fin 1024) :
    ((cfg0.win 6).blk t).view.emb (ix2 a b) = ix2 a b := by
  obtain ⟨e0, e1⟩ := idx6 t
  funext a'
  match a' with
  | ⟨0, _⟩ => exact Fin.ext (by show win0_6.index t 0 * 1 + 1 * a.val = a.val; omega)
  | ⟨1, _⟩ => exact Fin.ext (by show win0_6.index t 1 * 1024 + 1 * b.val = b.val; omega)

theorem idx7 : ∀ t : Fin grid0.N, win0_7.index t 0 = 0 ∧ win0_7.index t 1 = 0 := by decide +kernel
theorem emb7 (t : Fin grid0.N) (a : Fin 1) (b : Fin 1024) :
    ((cfg0.win 7).blk t).view.emb (ix2 a b) = ix2 a b := by
  obtain ⟨e0, e1⟩ := idx7 t
  funext a'
  match a' with
  | ⟨0, _⟩ => exact Fin.ext (by show win0_7.index t 0 * 1 + 1 * a.val = a.val; omega)
  | ⟨1, _⟩ => exact Fin.ext (by show win0_7.index t 1 * 1024 + 1 * b.val = b.val; omega)

theorem idx8 : ∀ t : Fin grid0.N, win0_8.index t 0 = t.val ∧ win0_8.index t 1 = 0 := by decide +kernel
theorem emb8 (t : Fin grid0.N) (a : Fin 256) (b : Fin 1024) :
    ((cfg0.win 8).blk t).view.emb (ix2 a b) = ix2 (at4 t a) b := by
  obtain ⟨e0, e1⟩ := idx8 t
  funext a'
  match a' with
  | ⟨0, _⟩ => exact Fin.ext (by show win0_8.index t 0 * 256 + 1 * a.val = 256 * t.val + a.val; omega)
  | ⟨1, _⟩ => exact Fin.ext (by show win0_8.index t 1 * 1024 + 1 * b.val = b.val; omega)

variable (m : (ℓ : Loc nD τ sig) → Buf (Elt Ideal) ℓ) (c : Dev nD)

theorem in0 (t : Fin grid0.N) (r : Fin 256) (k : Fin 1024) :
    iblk m c 0 t (ix2 r k) = m ((c : Thread nD τ).loc main_arg0) (ix3 (sq (at4 t r)) (st (at4 t r)) k) := by
  show V m c main_v0 (((cfg0.win 0).blk t).view.emb (ix2 _ _)) = _
  rw [emb0, V_v0]
  exact rows_at _ _ _
theorem in1 (t : Fin grid0.N) (r : Fin 256) (k : Fin 1024) :
    iblk m c 1 t (ix2 r k) = m ((c : Thread nD τ).loc main_arg1) (ix2 (at4 t r) k) := by
  show V m c main_arg1 (((cfg0.win 1).blk t).view.emb (ix2 _ _)) = _
  rw [emb1, V_main_arg1]
theorem in2 (t : Fin grid0.N) (l : Fin 1024) :
    iblk m c 2 t (ix2 (0 : Fin 1) l) = m ((c : Thread nD τ).loc main_arg2) (ix1 l) := by
  show V m c main_v1 (((cfg0.win 2).blk t).view.emb (ix2 _ _)) = _
  rw [emb2, V_v1]
  exact row1024_at _ l
theorem in3 (t : Fin grid0.N) (l : Fin 1024) :
    iblk m c 3 t (ix2 (0 : Fin 1) l) = m ((c : Thread nD τ).loc main_arg3) (ix1 l) := by
  show V m c main_v2 (((cfg0.win 3).blk t).view.emb (ix2 _ _)) = _
  rw [emb3, V_v2]
  exact row1024_at _ l
theorem in4 (t : Fin grid0.N) (k : Fin 1024) (l : Fin 1024) :
    iblk m c 4 t (ix2 k l) = m ((c : Thread nD τ).loc main_arg4) (ix2 k l) := by
  show V m c main_v3 (((cfg0.win 4).blk t).view.emb (ix2 _ _)) = _
  rw [emb4, V_v3]
  rfl
theorem in5 (t : Fin grid0.N) (l : Fin 1024) :
    iblk m c 5 t (ix2 (0 : Fin 1) l) = m ((c : Thread nD τ).loc main_arg5) (ix1 l) := by
  show V m c main_v4 (((cfg0.win 5).blk t).view.emb (ix2 _ _)) = _
  rw [emb5, V_v4]
  exact row1024_at _ l
theorem in6 (t : Fin grid0.N) (l : Fin 1024) :
    iblk m c 6 t (ix2 (0 : Fin 1) l) = m ((c : Thread nD τ).loc main_arg6) (ix1 l) := by
  show V m c main_v5 (((cfg0.win 6).blk t).view.emb (ix2 _ _)) = _
  rw [emb6, V_v5]
  exact row1024_at _ l
theorem in7 (t : Fin grid0.N) (l : Fin 1024) :
    iblk m c 7 t (ix2 (0 : Fin 1) l) = m ((c : Thread nD τ).loc main_arg7) (ix1 l) := by
  show V m c main_v6 (((cfg0.win 7).blk t).view.emb (ix2 _ _)) = _
  rw [emb7, V_v6]
  exact row1024_at _ l

end Cert.PromptOut

end

end
-- ==== Proof.PromptOut.Reference.lean ====
/-
  The prompt's output projection's reference read at an index over extended reals.
-/
module

public import proofs.«01_k».proof.Proof.PromptOut.Math
public import proofs.«01_k».proof.Proof.Gen.Reference6Ideal.Read

@[expose] public section

noncomputable section

namespace Cert.PromptOut

open Idealize.ShloMosaic Idealize.SL.Sem
open Cert.Reference6Ideal Cert.Reference6Ideal.Read
open Cert.Ffn (nrm mean)
open Cert.Out (sum)

variable (y0 : FVec Ideal S8x2048x1024 .f32) (y1 : FVec Ideal S16384x1024 .bf16) (y2 y3 : FVec Ideal S1024 .f32)
  (y4 : FVec Ideal S1024x1024 .f32) (y5 y6 y7 : FVec Ideal S1024 .f32)

theorem v23_at (b : Fin 8) (t : Fin 2048) (l : Fin 1024) :
    val_main_v23 (F := Ideal) y0 y2 y3 (ix3 b t l)
      = nrm (fun k => y0 (ix3 b t k)) (fun k => y2 (ix1 k)) (fun k => y3 (ix1 k)) l := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst_3, val_main_cst_2, val_main_cst_1, val_main_cst_0, val_main_cst,
    nrm, mean]

/-- The row entering the second normalisation. -/
def sumR (r : Fin 16384) : Fin 1024 → EReal :=
  sum (fun k => y0 (ix3 (sq r) (st r) k)) (fun k => y2 (ix1 k)) (fun k => y3 (ix1 k))
    (fun k => y1 (ix2 r k)) (fun k l => y4 (ix2 k l)) (fun k => y5 (ix1 k))

theorem v32_at (r : Fin 16384) (l : Fin 1024) :
    val_main_v32 (F := Ideal) y0 y1 y2 y3 y4 y5 (ix2 r l) = sumR y0 y1 y2 y3 y4 y5 r l := by
  have h := v23_at y0 y2 y3
  unfold sumR sum
  simp only [← h]
  simp only [val_main_v32, val_main_v31, val_main_v30, val_main_v29, val_main_v28, val_main_v27,
    val_main_v26, val_main_v25, val_main_cst_4, val_main_v24]
  generalize val_main_v23 (F := Ideal) y0 y2 y3 = y
  pointwise []

theorem v56_at (r : Fin 16384) (l : Fin 1024) :
    val_main_v56 (F := Ideal) y0 y1 y2 y3 y4 y5 y6 y7 (ix2 r l)
      = nrm (sumR y0 y1 y2 y3 y4 y5 r) (fun k => y6 (ix1 k)) (fun k => y7 (ix1 k)) l := by
  have h : sumR y0 y1 y2 y3 y4 y5 r = fun l => val_main_v32 (F := Ideal) y0 y1 y2 y3 y4 y5 (ix2 r l) :=
    funext fun l => (v32_at y0 y1 y2 y3 y4 y5 r l).symm
  rw [h]
  simp only [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33,
    val_main_cst_5, val_main_cst_6, val_main_cst_7, val_main_cst_8, val_main_cst_9]
  generalize val_main_v32 (F := Ideal) y0 y1 y2 y3 y4 y5 = y
  pointwise [nrm, mean]

end Cert.PromptOut

end

end
-- ==== Proof.PromptOut.Algebraic.lean ====
/-
  The prompt's output projection's result array is the reference's.
-/
module

public import proofs.«01_k».proof.Proof.PromptOut.Host
public import proofs.«01_k».proof.Proof.PromptOut.Reference
public import proofs.«01_k».proof.Proof.Gen.Kernel6Ideal.Value
public import proofs.«01_k».proof.Proof.Gen.Reference6Ideal.Run
public import proofs.«01_k».proof.Defs

@[expose] public section

noncomputable section

namespace Cert.PromptOut

open Idealize.ShloMosaic Idealize.ShloMosaic.TcCoe Idealize.SL.Sem Idealize.ShloMosaic.StableHlo
open Cert.Kernel6Ideal Cert.Kernel6Ideal.Gen Cert.Kernel6Ideal.Value
open Cert.Reference6Ideal.Read (val_main_v56 val_main_v56_eq)

variable (m : (ℓ : Loc nD τ sig) → Buf (Elt Ideal) ℓ) (c : Dev nD)

theorem flush8 : ∀ t : Fin grid0.N, (cfg0.win 8).flush t = true := by decide +kernel

theorem blk_at (t : Fin grid0.N) (r : Fin 256) (l : Fin 1024) :
    (dats m 0 c).arrAt 8 cfg0.N (ix2 (at4 t r) l)
      = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (at4 t r) l) := by
  have hk := congrFun (blocks8 m c t (by exact flush8 t)) (ix2 r l)
  rw [flushed8] at hk
  refine Eq.trans (Eq.trans (congrArg _ (emb8 t r l).symm) hk) (Eq.trans (show _ = out0_8 (iblk m c 0 t) (iblk m c 1 t) (iblk m c 2 t) (iblk m c 3 t) (iblk m c 4 t) (iblk m c 5 t) (iblk m c 6 t) (iblk m c 7 t) (ix2 r l) from rfl) ?_)
  rw [out_apply, v56_at]
  unfold sumR
  simp only [in0 m c t, in1 m c t, in2 m c t, in3 m c t, in4 m c t, in5 m c t, in6 m c t, in7 m c t]

/-- Every row is in some step's block. -/
theorem row_cases (r : Fin 16384) : ∃ t s, r = at4 t s :=
  ⟨⟨r.val / 256, by have h : grid0.N = 64 := rfl; omega⟩, ⟨r.val % 256, by omega⟩,
    Fin.ext (by show r.val = 256 * (r.val / 256) + r.val % 256; omega)⟩

theorem arr_at (r : Fin 16384) (l : Fin 1024) : (dats m 0 c).arrAt 8 cfg0.N (ix2 r l)
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 r l) := by
  obtain ⟨t, s, rfl⟩ := row_cases r
  exact blk_at m c t s l

theorem arr_eq : (dats m 0 c).arrAt 8 cfg0.N
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine funext fun j => ?_
  refine (congrArg _ (ValueIdx.eq_ix2 (n0 := 16384) (n1 := 1024) j)).trans
    (Eq.trans ?_ (congrArg _ (ValueIdx.eq_ix2 (n0 := 16384) (n1 := 1024) j)).symm)
  exact arr_at m c (j 0) (j 1)

/-- The two programs agree on the result. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => val_main_v56 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)), ?_, ?_⟩
  · refine (θ_run Cert.Kernel6Ideal.defs _ _).mono (fun r h c => ?_) (Cert.Kernel6Ideal.Value.run_blocks (F := Ideal) m g)
    obtain ⟨h0, hk⟩ := h c
    exact ⟨h0.trans (arr_eq m c), hk⟩
  · refine (θ_run Cert.Reference6Ideal.defs _ _).mono (fun r h c => ?_) (Cert.Reference6Ideal.Value.run (F := Ideal) m' g')
    obtain ⟨h0, hk⟩ := h c
    obtain ⟨a0, a1, a2, a3, a4, a5, a6, a7⟩ := hargs c
    have e0 := h0.trans (val_main_v56_eq (F := Ideal) m' c)
    have f0 : val_main_v56 (F := Ideal) (m' (c.tc.loc Cert.Reference6Ideal.main_arg0)) (m' (c.tc.loc Cert.Reference6Ideal.main_arg1)) (m' (c.tc.loc Cert.Reference6Ideal.main_arg2)) (m' (c.tc.loc Cert.Reference6Ideal.main_arg3)) (m' (c.tc.loc Cert.Reference6Ideal.main_arg4)) (m' (c.tc.loc Cert.Reference6Ideal.main_arg5)) (m' (c.tc.loc Cert.Reference6Ideal.main_arg6)) (m' (c.tc.loc Cert.Reference6Ideal.main_arg7))
        = val_main_v56 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
      rw [a0, a1, a2, a3, a4, a5, a6, a7]
    exact ⟨e0.trans f0, hk⟩

end Cert.PromptOut

end

end
-- ==== Proof.PromptIn.Payload.lean ====
/-
  The prompt's input projection's block of results read at an index over extended reals.
-/
module

public import proofs.«01_k».proof.Proof.In.Math
public import proofs.«01_k».proof.Proof.PromptOut.Math
public import proofs.«01_k».proof.Proof.Gen.Kernel7Ideal.Frame

@[expose] public section

noncomputable section

namespace Cert.PromptIn

open Cert.In (pick pick_eq pick_sum)
open Cert.PromptOut (sq st)
open Idealize.ShloMosaic Idealize.SL.Sem
open Cert.Kernel7Ideal Cert.Kernel7Ideal.Gen
open Cert.Ffn (nrm mean)

theorem proj_apply (v0 : Vec Ideal S256x1024 .f32) (v2 v4 : Vec Ideal S1x1024 .f32)
    (v27 : Vec Ideal S1024x4224 .bf16) (v30 : Vec Ideal S1x4224 .f32) (r : Fin 256) (l : Fin 4224) :
    k0_pay1 (F := Ideal) v0 v2 v4 v27 v30 (ix2 r l)
      = ∑ k, nrm (fun k => v0 (ix2 r k)) (fun k => v2 (ix2 (0 : Fin 1) k)) (fun k => v4 (ix2 (0 : Fin 1) k)) k
            * v27 (ix2 k l) + v30 (ix2 (0 : Fin 1) l) := by
  pointwise [k0_pay1, nrm, mean]

theorem hz : (![0, 0] : Fin 2 → Nat) = fun _ => 0 := by decide

variable (x0 : Vec Ideal S256x1024 .f32) (x1 x2 : Vec Ideal S1x1024 .f32)
  (x3 : Vec Ideal S1024x4224 .bf16) (x4 : Vec Ideal S1x4224 .f32)

/-- What a step leaves in its block of the result. -/
theorem out_apply (r : Fin 256) (l : Fin 4224) :
    out0_5 (F := Ideal) x0 x1 x2 x3 x4 (ix2 r l)
      = ∑ k, nrm (fun k => x0 (ix2 r k)) (fun k => x1 (ix2 (0 : Fin 1) k)) (fun k => x2 (ix2 (0 : Fin 1) k)) k
            * x3 (ix2 k l) + x4 (ix2 (0 : Fin 1) l) := by
  unfold out0_5
  rw [View.canon_unit_zero hz, View.ld_unit_zero hz, View.ld_unit_zero hz, View.ld_unit_zero hz,
    View.ld_unit_zero hz, View.ld_unit_zero hz, proj_apply]

end Cert.PromptIn

end

end
-- ==== Proof.PromptIn.Host.lean ====
/-
  The prompt's input projection's host operations before its region, and its blocks: what each step's input
  windows hold.
-/
module

public import proofs.«01_k».proof.Proof.PromptIn.Payload

@[expose] public section

noncomputable section

namespace Cert.PromptIn

open Cert.In (pick pick_eq pick_sum)
open Cert.PromptOut (sq st)
open Idealize.ShloMosaic Idealize.ShloMosaic.TcCoe Idealize.SL.Sem
open Cert.Kernel7Ideal Cert.Kernel7Ideal.Gen

section
variable {F : FTy → Type} [FloatOps F]
variable (m : (ℓ : Loc nD τ sig) → Buf (Elt F) ℓ) (c : Dev nD)

/-- The weight's columns regrouped: the gates' eight columns last, padded with zeros. -/
def cols (x : FVec F S1024x4104 .bf16) : FVec F S1024x4224 .bf16 :=
  concatenate S1024x4224 1
    [⟨S1024x2048, extractStridedSlice S1024x2048 ![0, 0] x slices_S1024x4104_S1024x2048_0_0⟩,
     ⟨S1024x2048, extractStridedSlice S1024x2048 ![0, 2056] x slices_S1024x4104_S1024x2048_0_2056⟩,
     ⟨S1024x8, extractStridedSlice S1024x8 ![0, 2048] x slices_S1024x4104_S1024x8_0_2048⟩,
     ⟨S1024x120, broadcastInDim S1024x120 ![] bcast_S_S1024x120 (constant S_ .bf16 0x0000#16)⟩]
    concatenates_S1024x2048_S1024x2048_S1024x8_S1024x120_S1024x4224_d1

/-- The bias's entries regrouped likewise. -/
def ents (x : FVec F S4104 .f32) : FVec F S4224 .f32 :=
  concatenate S4224 0
    [⟨S2048, extractStridedSlice S2048 ![0] x slices_S4104_S2048_0⟩,
     ⟨S2048, extractStridedSlice S2048 ![2056] x slices_S4104_S2048_2056⟩,
     ⟨S8, extractStridedSlice S8 ![2048] x slices_S4104_S8_2048⟩,
     ⟨S120, broadcastInDim S120 ![] bcast_S_S120 (constant S_ .f32 0x00000000#32)⟩]
    concatenates_S2048_S2048_S8_S120_S4224_d0

theorem V_v5 : V m c main_v5
    = cols (truncf .bf16 (show FVec F S1024x4104 .f32 from m ((c : Thread nD τ).loc main_arg3)) bitsLt_bf16_f32) := by
  sl_kernel_rfl
theorem V_v11 : V m c main_v11 = shapeCast S1x4224 (ents (m ((c : Thread nD τ).loc main_arg4))) shapeCasts_S4224_S1x4224 := by
  sl_kernel_rfl
theorem V_v12 : V m c main_v12 = shapeCast S16384x1024 (m ((c : Thread nD τ).loc main_arg0)) shapeCasts_S8x2048x1024_S16384x1024 := by
  sl_kernel_rfl
theorem V_v13 : V m c main_v13 = shapeCast S1x1024 (m ((c : Thread nD τ).loc main_arg1)) shapeCasts_S1024_S1x1024 := by
  sl_kernel_rfl
theorem V_v14 : V m c main_v14 = shapeCast S1x1024 (m ((c : Thread nD τ).loc main_arg2)) shapeCasts_S1024_S1x1024 := by
  sl_kernel_rfl
end

/-! ## Entries -/

theorem rows_at (x : FVec Ideal S8x2048x1024 .f32) (r : Fin 16384) (k : Fin 1024) :
    shapeCast S16384x1024 x shapeCasts_S8x2048x1024_S16384x1024 (ix2 r k) = x (ix3 (sq r) (st r) k) := by
  pointwise []
theorem row1024_at (x : FVec Ideal S1024 .f32) (l : Fin 1024) :
    shapeCast S1x1024 x shapeCasts_S1024_S1x1024 (ix2 (0 : Fin 1) l) = x (ix1 l) := by
  pointwise []
theorem cols_at (x : FVec Ideal S1024x4104 .bf16) (r : Fin 1024) (l : Fin 4224) :
    cols x (ix2 r l) = pick (fun j => x (ix2 r j)) l := by
  rw [pick_eq]
  pointwise [cols]
theorem ents_at (x : FVec Ideal S4104 .f32) (l : Fin 4224) :
    shapeCast S1x4224 (ents x) shapeCasts_S4224_S1x4224 (ix2 (0 : Fin 1) l) = pick (fun j => x (ix1 j)) l := by
  rw [pick_eq]
  pointwise [ents]

/-! ## Blocks -/

/-- Row `r` of step `t`'s block. -/
abbrev at4 (t : Fin grid0.N) (r : Fin 256) : Fin 16384 :=
  ⟨256 * t.val + r.val, by have := t.isLt; have h : grid0.N = 64 := rfl; omega⟩

theorem idx0 : ∀ t : Fin grid0.N, win0_0.index t 0 = t.val ∧ win0_0.index t 1 = 0 := by decide +kernel
theorem emb0 (t : Fin grid0.N) (a : Fin 256) (b : Fin 1024) :
    ((cfg0.win 0).blk t).view.emb (ix2 a b) = ix2 (at4 t a) b := by
  obtain ⟨e0, e1⟩ := idx0 t
  funext a'
  match a' with
  | ⟨0, _⟩ => exact Fin.ext (by show win0_0.index t 0 * 256 + 1 * a.val = 256 * t.val + a.val; omega)
  | ⟨1, _⟩ => exact Fin.ext (by show win0_0.index t 1 * 1024 + 1 * b.val = b.val; omega)

theorem idx1 : ∀ t : Fin grid0.N, win0_1.index t 0 = 0 ∧ win0_1.index t 1 = 0 := by decide +kernel
theorem emb1 (t : Fin grid0.N) (a : Fin 1) (b : Fin 1024) :
    ((cfg0.win 1).blk t).view.emb (ix2 a b) = ix2 a b := by
  obtain ⟨e0, e1⟩ := idx1 t
  funext a'
  match a' with
  | ⟨0, _⟩ => exact Fin.ext (by show win0_1.index t 0 * 1 + 1 * a.val = a.val; omega)
  | ⟨1, _⟩ => exact Fin.ext (by show win0_1.index t 1 * 1024 + 1 * b.val = b.val; omega)

theorem idx2 : ∀ t : Fin grid0.N, win0_2.index t 0 = 0 ∧ win0_2.index t 1 = 0 := by decide +kernel
theorem emb2 (t : Fin grid0.N) (a : Fin 1) (b : Fin 1024) :
    ((cfg0.win 2).blk t).view.emb (ix2 a b) = ix2 a b := by
  obtain ⟨e0, e1⟩ := idx2 t
  funext a'
  match a' with
  | ⟨0, _⟩ => exact Fin.ext (by show win0_2.index t 0 * 1 + 1 * a.val = a.val; omega)
  | ⟨1, _⟩ => exact Fin.ext (by show win0_2.index t 1 * 1024 + 1 * b.val = b.val; omega)

theorem idx3 : ∀ t : Fin grid0.N, win0_3.index t 0 = 0 ∧ win0_3.index t 1 = 0 := by decide +kernel
theorem emb3 (t : Fin grid0.N) (a : Fin 1024) (b : Fin 4224) :
    ((cfg0.win 3).blk t).view.emb (ix2 a b) = ix2 a b := by
  obtain ⟨e0, e1⟩ := idx3 t
  funext a'
  match a' with
  | ⟨0, _⟩ => exact Fin.ext (by show win0_3.index t 0 * 1024 + 1 * a.val = a.val; omega)
  | ⟨1, _⟩ => exact Fin.ext (by show win0_3.index t 1 * 4224 + 1 * b.val = b.val; omega)

theorem idx4 : ∀ t : Fin grid0.N, win0_4.index t 0 = 0 ∧ win0_4.index t 1 = 0 := by decide +kernel
theorem emb4 (t : Fin grid0.N) (a : Fin 1) (b : Fin 4224) :
    ((cfg0.win 4).blk t).view.emb (ix2 a b) = ix2 a b := by
  obtain ⟨e0, e1⟩ := idx4 t
  funext a'
  match a' with
  | ⟨0, _⟩ => exact Fin.ext (by show win0_4.index t 0 * 1 + 1 * a.val = a.val; omega)
  | ⟨1, _⟩ => exact Fin.ext (by show win0_4.index t 1 * 4224 + 1 * b.val = b.val; omega)

theorem idx5 : ∀ t : Fin grid0.N, win0_5.index t 0 = t.val ∧ win0_5.index t 1 = 0 := by decide +kernel
theorem emb5 (t : Fin grid0.N) (a : Fin 256) (b : Fin 4224) :
    ((cfg0.win 5).blk t).view.emb (ix2 a b) = ix2 (at4 t a) b := by
  obtain ⟨e0, e1⟩ := idx5 t
  funext a'
  match a' with
  | ⟨0, _⟩ => exact Fin.ext (by show win0_5.index t 0 * 256 + 1 * a.val = 256 * t.val + a.val; omega)
  | ⟨1, _⟩ => exact Fin.ext (by show win0_5.index t 1 * 4224 + 1 * b.val = b.val; omega)

variable (m : (ℓ : Loc nD τ sig) → Buf (Elt Ideal) ℓ) (c : Dev nD)

theorem in0 (t : Fin grid0.N) (r : Fin 256) (k : Fin 1024) :
    iblk m c 0 t (ix2 r k) = m ((c : Thread nD τ).loc main_arg0) (ix3 (sq (at4 t r)) (st (at4 t r)) k) := by
  show V m c main_v12 (((cfg0.win 0).blk t).view.emb (ix2 _ _)) = _
  rw [emb0, V_v12]
  exact rows_at _ _ _
theorem in1 (t : Fin grid0.N) (l : Fin 1024) :
    iblk m c 1 t (ix2 (0 : Fin 1) l) = m ((c : Thread nD τ).loc main_arg1) (ix1 l) := by
  show V m c main_v13 (((cfg0.win 1).blk t).view.emb (ix2 _ _)) = _
  rw [emb1, V_v13]
  exact row1024_at _ l
theorem in2 (t : Fin grid0.N) (l : Fin 1024) :
    iblk m c 2 t (ix2 (0 : Fin 1) l) = m ((c : Thread nD τ).loc main_arg2) (ix1 l) := by
  show V m c main_v14 (((cfg0.win 2).blk t).view.emb (ix2 _ _)) = _
  rw [emb2, V_v14]
  exact row1024_at _ l
theorem in3 (t : Fin grid0.N) (k : Fin 1024) (l : Fin 4224) :
    iblk m c 3 t (ix2 k l) = pick (fun j => m ((c : Thread nD τ).loc main_arg3) (ix2 k j)) l := by
  show V m c main_v5 (((cfg0.win 3).blk t).view.emb (ix2 _ _)) = _
  rw [emb3, V_v5]
  exact cols_at _ _ _
theorem in4 (t : Fin grid0.N) (l : Fin 4224) :
    iblk m c 4 t (ix2 (0 : Fin 1) l) = pick (fun j => m ((c : Thread nD τ).loc main_arg4) (ix1 j)) l := by
  show V m c main_v11 (((cfg0.win 4).blk t).view.emb (ix2 _ _)) = _
  rw [emb4, V_v11]
  exact ents_at _ _

end Cert.PromptIn

end

end
-- ==== Proof.PromptIn.Reference.lean ====
/-
  The prompt's input projection's reference read at an index over extended reals.
-/
module

public import proofs.«01_k».proof.Proof.In.Math
public import proofs.«01_k».proof.Proof.PromptOut.Math
public import proofs.«01_k».proof.Proof.Gen.Reference7Ideal.Read

@[expose] public section

noncomputable section

namespace Cert.PromptIn

open Cert.In (pick pick_eq pick_sum)
open Cert.PromptOut (sq st)
open Idealize.ShloMosaic Idealize.SL.Sem
open Cert.Reference7Ideal Cert.Reference7Ideal.Read
open Cert.Ffn (nrm mean)

variable (y0 : FVec Ideal S8x2048x1024 .f32) (y1 y2 : FVec Ideal S1024 .f32)
  (y3 : FVec Ideal S1024x4104 .f32) (y4 : FVec Ideal S4104 .f32)

theorem v23_at (b : Fin 8) (t : Fin 2048) (l : Fin 1024) :
    val_main_v23 (F := Ideal) y0 y1 y2 (ix3 b t l)
      = nrm (fun k => y0 (ix3 b t k)) (fun k => y1 (ix1 k)) (fun k => y2 (ix1 k)) l := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst_3, val_main_cst_2, val_main_cst_1, val_main_cst_0, val_main_cst,
    nrm, mean]

/-- A row's projection. -/
def projR (r : Fin 16384) (j : Fin 4104) : EReal :=
  ∑ k, nrm (fun k => y0 (ix3 (sq r) (st r) k)) (fun k => y1 (ix1 k)) (fun k => y2 (ix1 k)) k * y3 (ix2 k j)
    + y4 (ix1 j)

theorem v28_at (r : Fin 16384) (j : Fin 4104) :
    val_main_v28 (F := Ideal) y0 y1 y2 y3 y4 (ix2 r j) = projR y0 y1 y2 y3 y4 r j := by
  have h := v23_at y0 y1 y2
  unfold projR
  simp only [← h]
  simp only [val_main_v28, val_main_v27, val_main_v26, val_main_v25, val_main_v24]
  generalize val_main_v23 (F := Ideal) y0 y1 y2 = y
  pointwise []

theorem regroup_at (y : FVec Ideal S16384x4104 .f32) (r : Fin 16384) (l : Fin 4224) :
    concatenate S16384x4224 1
      [⟨S16384x2048, extractStridedSlice S16384x2048 ![0, 0] y Gen.slices_S16384x4104_S16384x2048_0_0⟩,
       ⟨S16384x2048, extractStridedSlice S16384x2048 ![0, 2056] y Gen.slices_S16384x4104_S16384x2048_0_2056⟩,
       ⟨S16384x8, extractStridedSlice S16384x8 ![0, 2048] y Gen.slices_S16384x4104_S16384x8_0_2048⟩,
       ⟨S16384x120, broadcastInDim S16384x120 ![] Gen.bcast_S_S16384x120 (constant (F := Ideal) S_ .f32 0x00000000#32)⟩]
      Gen.concatenates_S16384x2048_S16384x2048_S16384x8_S16384x120_S16384x4224_d1 (ix2 r l)
      = pick (fun l => y (ix2 r l)) l := by
  rw [pick_eq]
  pointwise []

theorem v33_at (r : Fin 16384) (l : Fin 4224) :
    val_main_v33 (F := Ideal) y0 y1 y2 y3 y4 (ix2 r l) = pick (projR y0 y1 y2 y3 y4 r) l := by
  have h : projR y0 y1 y2 y3 y4 r = fun l => val_main_v28 (F := Ideal) y0 y1 y2 y3 y4 (ix2 r l) :=
    funext fun l => (v28_at y0 y1 y2 y3 y4 r l).symm
  rw [h]
  exact regroup_at _ r l

end Cert.PromptIn

end

end
-- ==== Proof.PromptIn.Algebraic.lean ====
/-
  The prompt's input projection's result array is the reference's.
-/
module

public import proofs.«01_k».proof.Proof.PromptIn.Host
public import proofs.«01_k».proof.Proof.PromptIn.Reference
public import proofs.«01_k».proof.Proof.Gen.Kernel7Ideal.Value
public import proofs.«01_k».proof.Proof.Gen.Reference7Ideal.Run
public import proofs.«01_k».proof.Defs

@[expose] public section

noncomputable section

namespace Cert.PromptIn

open Cert.In (pick pick_eq pick_sum)
open Cert.PromptOut (sq st)
open Idealize.ShloMosaic Idealize.ShloMosaic.TcCoe Idealize.SL.Sem Idealize.ShloMosaic.StableHlo
open Cert.Kernel7Ideal Cert.Kernel7Ideal.Gen Cert.Kernel7Ideal.Value
open Cert.Reference7Ideal.Read (val_main_v33 val_main_v33_eq)

variable (m : (ℓ : Loc nD τ sig) → Buf (Elt Ideal) ℓ) (c : Dev nD)

theorem flush5 : ∀ t : Fin grid0.N, (cfg0.win 5).flush t = true := by decide +kernel

theorem blk_at (t : Fin grid0.N) (r : Fin 256) (l : Fin 4224) :
    (dats m 0 c).arrAt 5 cfg0.N (ix2 (at4 t r) l)
      = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (at4 t r) l) := by
  have hk := congrFun (blocks5 m c t (by exact flush5 t)) (ix2 r l)
  rw [flushed5] at hk
  refine Eq.trans (Eq.trans (congrArg _ (emb5 t r l).symm) hk) (Eq.trans (show _ = out0_5 (iblk m c 0 t) (iblk m c 1 t) (iblk m c 2 t) (iblk m c 3 t) (iblk m c 4 t) (ix2 r l) from rfl) ?_)
  rw [out_apply, v33_at]
  simp only [in0 m c t, in1 m c t, in2 m c t, in3 m c t, in4 m c t]
  exact pick_sum _ (fun k j => _) (fun j => _) l

/-- Every row is in some step's block. -/
theorem row_cases (r : Fin 16384) : ∃ t s, r = at4 t s :=
  ⟨⟨r.val / 256, by have h : grid0.N = 64 := rfl; omega⟩, ⟨r.val % 256, by omega⟩,
    Fin.ext (by show r.val = 256 * (r.val / 256) + r.val % 256; omega)⟩

theorem arr_at (r : Fin 16384) (l : Fin 4224) : (dats m 0 c).arrAt 5 cfg0.N (ix2 r l)
    = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r l) := by
  obtain ⟨t, s, rfl⟩ := row_cases r
  exact blk_at m c t s l

theorem arr_eq : (dats m 0 c).arrAt 5 cfg0.N
    = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine funext fun j => ?_
  refine (congrArg _ (ValueIdx.eq_ix2 (n0 := 16384) (n1 := 4224) j)).trans
    (Eq.trans ?_ (congrArg _ (ValueIdx.eq_ix2 (n0 := 16384) (n1 := 4224) j)).symm)
  exact arr_at m c (j 0) (j 1)

/-- The two programs agree on the result. -/
theorem algebraic : Cert.algebraic_Kernel7Ideal_Reference7Ideal (hKernel7Ideal := Cert.Kernel7Ideal.Gen.facts)
    (hReference7Ideal := Cert.Reference7Ideal.Gen.facts) := by
  intro m g m' g' _ hargs
  refine ⟨fun c => val_main_v33 (F := Ideal) (m (c.tc.loc main_arg0)) (m (c.tc.loc main_arg1)) (m (c.tc.loc main_arg2)) (m (c.tc.loc main_arg3)) (m (c.tc.loc main_arg4)), ?_, ?_⟩
  · refine (θ_run Cert.Kernel7Ideal.defs _ _).mono (fun r h c => ?_) (Cert.Kernel7Ideal.Value.run_blocks (F := Ideal) m g)
    obtain ⟨h0, hk⟩ := h c
    exact ⟨h0.trans (arr_eq m c), hk⟩
  · refine (θ_run Cert.Reference7Ideal.defs _ _).mono (fun r h c => ?_) (Cert.Reference7Ideal.Value.run (F := Ideal) m' g')
    obtain ⟨h0, hk⟩ := h c
    obtain ⟨a0, a1, a2, a3, a4⟩ := hargs c
    have e0 := h0.trans (val_main_v33_eq (F := Ideal) m' c)
    have f0 : val_main_v33 (F := Ideal) (m' (c.tc.loc Cert.Reference7Ideal.main_arg0)) (m' (c.tc.loc Cert.Reference7Ideal.main_arg1)) (m' (c.tc.loc Cert.Reference7Ideal.main_arg2)) (m' (c.tc.loc Cert.Reference7Ideal.main_arg3)) (m' (c.tc.loc Cert.Reference7Ideal.main_arg4))
        = val_main_v33 (F := Ideal) (m (c.tc.loc main_arg0)) (m (c.tc.loc main_arg1)) (m (c.tc.loc main_arg2)) (m (c.tc.loc main_arg3)) (m (c.tc.loc main_arg4)) := by
      rw [a0, a1, a2, a3, a4]
    exact ⟨e0.trans f0, hk⟩

end Cert.PromptIn

end

end
-- ==== Proof.PromptMix.Unit.lean ====
/-
  The prompt mixer's matrix memory for ONE head and one chunk of 128 positions, as functions of the
  vectors loaded for them.  The operations are those of the sample mixer with 128 time steps in the
  place of eight.
-/
module

public import proofs.«01_k».proof.Kernel8Ideal

@[expose] public section

noncomputable section

namespace Cert.PromptMix

open Idealize.ShloMosaic Cert.Kernel8Ideal Cert.Kernel8Ideal.Facts₀

variable {F : FTy → Type} [FloatOps F] [Facts₀]

/-! ## Where a head's numbers lie -/

/-- The lane of head `h`'s forget gate. -/
theorem slices_col (h : Fin 4) : S128x128.Slices ![0, 4 + h.val] S128x1 := by revert h; decide
/-- The lane of head `h`'s input gate. -/
theorem slices_colI (h : Fin 4) : S128x128.Slices ![0, h.val] S128x1 := by revert h; decide
/-- Head `h`'s entry of the stabiliser row. -/
theorem slices_lane4 (h : Fin 4) : S1x4.Slices ![0, h.val] S1x1 := by revert h; decide
/-- Head `h`'s row of the normaliser. -/
theorem slices_row4 (h : Fin 4) : S4x128.Slices ![h.val, 0] S1x128 := by revert h; decide
/-! ## Small numbers and masks -/

/-- The scalar zero. -/
abbrev c0 : F .f32 := Scalar.ofBits .f32 0x00000000#32
/-- The scalar one. -/
abbrev c1 : F .f32 := Scalar.ofBits .f32 0x3F800000#32
/-- The scalar `−∞`. -/
abbrev cninf : F .f32 := Scalar.ofBits .f32 0xFF800000#32
/-- The row number of an 128×128 matrix. -/
def rowN : IVec S128x128 32 := iota .tc S128x128 32 [0] iota_S128x128_d0_w32
/-- The column number of an 128×128 matrix. -/
def colN : IVec S128x128 32 := iota .tc S128x128 32 [1] iota_S128x128_d1_w32
/-- The entries on and below the diagonal. -/
def causal : IVec S128x128 1 := cmpi .sle colN rowN
/-- Ones on and below the diagonal. -/
def tril : FVec F S128x128 .f32 := sitofp .f32 (extui 32 causal natLt_1_32)
/-- The lane number. -/
def lane : IVec S128x128 32 := iota .tc S128x128 32 [1] iota_S128x128_d1_w32
/-- The lanes of the forget gates. -/
def isF : IVec S128x128 1 :=
  andi (cmpi .sge lane (broadcast S128x128 4#32)) (cmpi .slt lane (broadcast S128x128 8#32))

/-! ## Shared pieces -/

/-- Cumulative sums along time: the triangular product. -/
def cumRows (x : FVec F S128x128 .f32) : FVec F S128x128 .f32 :=
  matmul dot_S128x128_S128x128_S128x128_1_0_0_1_n_n (some .fp32) tril x (constant S128x128 .f32 0x00000000#32)

/-- The logarithm of the logistic function. -/
def logSig (x : FVec F S128x128 .f32) : FVec F S128x128 .f32 :=
  have nx : FVec F S128x128 .f32 := subf (broadcast S128x128 c0) x
  have d : FVec F S128x128 .f32 := subf nx (broadcast S128x128 c0)
  subf (broadcast S128x128 c0)
    (select (cmpf .one d d) (addf nx (broadcast S128x128 c0))
      (addf (maximumf nx (broadcast S128x128 c0))
        (log1p (exp (subf (broadcast S128x128 c0) (absf d))))))

/-- A row of 128 on each of the 128 time steps. -/
def onRows (x : FVec F S1x128 .f32) : FVec F S128x128 .f32 :=
  broadcastTo S128x128 x broadcasts_S1x128_S128x128
/-- A column of 128 on each of the 128 lanes. -/
def onLanes (x : FVec F S128x1 .f32) : FVec F S128x128 .f32 :=
  broadcastTo S128x128 x broadcasts_S128x1_S128x128
/-- Head `h`'s input gates. -/
def gateCol (h : Fin 4) (x : FVec F S128x128 .f32) : FVec F S128x1 .f32 :=
  extractStridedSlice S128x1 ![0, h.val] x (slices_colI h)
/-- Head `h`'s lane. -/
def headCol (h : Fin 4) (x : FVec F S128x128 .f32) : FVec F S128x1 .f32 :=
  extractStridedSlice S128x1 ![0, 4 + h.val] x (slices_col h)
/-- A float block rounded to the shorter format. -/
def bf (x : FVec F S128x128 .f32) : FVec F S128x128 .bf16 := truncf .bf16 x bitsLt_bf16_f32
/-! ## The gates of one sequence -/

/-- Lanes 0–3 the input gates, lanes 4–7 the cumulated log forget gates, the rest zero. -/
def gates (gt : FVec F S128x128 .f32) (bf_ : FVec F S1x128 .f32) : FVec F S128x128 .f32 :=
  select isF
    (cumRows (select isF (logSig (addf gt (onRows bf_))) (broadcast S128x128 c0)))
    (select (cmpi .slt lane (broadcast S128x128 4#32)) gt (broadcast S128x128 c0))

/-- One at head `h`'s forget gate, minus one at its input gate, zero at the other lanes. -/
def pick (h : Fin 4) : FVec F S128x128 .f32 :=
  select (cmpi .eq lane (broadcast S128x128 (BitVec.ofNat 32 (4 + h.val)))) (broadcast S128x128 c1)
    (select (cmpi .eq lane (broadcast S128x128 (BitVec.ofNat 32 h.val)))
      (broadcast S128x128 (Scalar.ofBits .f32 0xBF800000#32)) (broadcast S128x128 c0))

/-- Head `h`'s log decays between time steps, `−∞` above the diagonal. -/
def dMat (h : Fin 4) (z : FVec F S128x128 .f32) : FVec F S128x128 .f32 :=
  select causal
    (subf (broadcastTo S128x128 (headCol h z) broadcasts_S128x1_S128x128)
      (matmul dot_S128x128_S128x128_S128x128_1_1_0_0_n_n (some .fp32) (pick h) z
        (constant S128x128 .f32 0x00000000#32)))
    (broadcast S128x128 cninf)

/-- The log weight of the incoming state at each step. -/
def rCol (h : Fin 4) (z : FVec F S128x128 .f32) (m0 : FVec F S1x4 .f32) : FVec F S128x1 .f32 :=
  addf (headCol h z)
    (broadcastTo S128x1 (extractStridedSlice S1x1 ![0, h.val] m0 (slices_lane4 h))
      broadcasts_S1x1_S128x1)

/-- The stabiliser at each step. -/
def mCol (h : Fin 4) (z : FVec F S128x128 .f32) (m0 : FVec F S1x4 .f32) : FVec F S128x1 .f32 :=
  maximumf (rCol h z m0)
    (shapeCast S128x1
      (multiReduction .maximumf [1] S128 (dMat h z) 0xFF800000#32 reduces_S128x128_S128 (.inl rfl) rfl)
      shapeCasts_S128_S128x1)

/-- The weight of the incoming state at each step. -/
def decCol (h : Fin 4) (z : FVec F S128x128 .f32) (m0 : FVec F S1x4 .f32) : FVec F S128x1 .f32 :=
  exp (subf (rCol h z m0) (mCol h z m0))

/-- The last entry of a column. -/
def lastCell (x : FVec F S128x1 .f32) : FVec F S1x1 .f32 :=
  extractStridedSlice S1x1 ![127, 0] x slices_S128x1_o127_0_S1x1

/-- The weight of each step in the outgoing state. -/
def wCol (h : Fin 4) (z : FVec F S128x128 .f32) (m0 : FVec F S1x4 .f32) : FVec F S128x1 .f32 :=
  exp (subf
    (addf (subf (broadcastTo S128x1 (lastCell (headCol h z)) broadcasts_S1x1_S128x1) (headCol h z))
      (gateCol h z))
    (broadcastTo S128x1 (lastCell (mCol h z m0)) broadcasts_S1x1_S128x1))

/-! ## The matrix memory of one head -/

/-- The keys, scaled. -/
def kScale (k : FVec F S128x128 .f32) : FVec F S128x128 .f32 :=
  mulf k (broadcast S128x128 (Scalar.ofBits .f32 0x3DB504F3#32))

/-- Head `h`'s row of the normaliser. -/
def nRow (h : Fin 4) (n : FVec F S4x128 .f32) : FVec F S1x128 .f32 :=
  extractStridedSlice S1x128 ![h.val, 0] n (slices_row4 h)

/-- Head `h`'s outgoing matrix memory. -/
def newC (h : Fin 4) (z : FVec F S128x128 .f32) (m0 : FVec F S1x4 .f32)
    (k v : FVec F S128x128 .f32) (C : FVec F S128x128 .f32) : FVec F S128x128 .f32 :=
  addf (mulf (broadcastTo S128x128 (lastCell (decCol h z m0)) broadcasts_S1x1_S128x128) C)
    (matmul dot_S128x128_S128x128_S128x128_0_0_1_1_n_n none (bf k)
      (bf (mulf (onLanes (wCol h z m0)) v)) (constant S128x128 .f32 0x00000000#32))

/-- Head `h`'s outgoing normaliser. -/
def newN (h : Fin 4) (z : FVec F S128x128 .f32) (m0 : FVec F S1x4 .f32)
    (k : FVec F S128x128 .f32) (n : FVec F S4x128 .f32) : FVec F S1x128 .f32 :=
  addf (mulf (broadcastTo S1x128 (lastCell (decCol h z m0)) broadcasts_S1x1_S1x128)
      (nRow h n))
    (shapeCast S1x128
      (multiReduction .add [0] S128 (mulf (onLanes (wCol h z m0)) k) 0x00000000#32
        reduces_S128x128_S128_2 (.inl rfl) rfl)
      shapeCasts_S128_S1x128)

/-- The four heads' outgoing normalisers. -/
def newNAll (z : FVec F S128x128 .f32) (m0 : FVec F S1x4 .f32)
    (k0 k1 k2 k3 : FVec F S128x128 .f32) (n : FVec F S4x128 .f32) : FVec F S4x128 .f32 :=
  concatenate S4x128 0
    [⟨S1x128, newN 0 z m0 k0 n⟩, ⟨S1x128, newN 1 z m0 k1 n⟩, ⟨S1x128, newN 2 z m0 k2 n⟩,
      ⟨S1x128, newN 3 z m0 k3 n⟩]
    concatenates_S1x128_S1x128_S1x128_S1x128_S4x128_d0

/-- Head `h`'s outgoing stabiliser on the four lanes. -/
def mLast (h : Fin 4) (z : FVec F S128x128 .f32) (m0 : FVec F S1x4 .f32) : FVec F S1x4 .f32 :=
  broadcastTo S1x4
    (shapeCast S1x1 (lastCell (mCol h z m0)) shapeCasts_S1x1_S1x1) broadcasts_S1x1_S1x4

/-- The lane number of a row of four. -/
def lane4 : IVec S1x4 32 := iota .tc S1x4 32 [1] iota_S1x4_d1_w32

/-- The four heads' outgoing stabilisers. -/
def newM (z : FVec F S128x128 .f32) (m0 : FVec F S1x4 .f32) : FVec F S1x4 .f32 :=
  select (cmpi .eq lane4 (broadcast S1x4 3#32)) (mLast 3 z m0)
    (select (cmpi .eq lane4 (broadcast S1x4 2#32)) (mLast 2 z m0)
      (select (cmpi .eq lane4 (broadcast S1x4 1#32)) (mLast 1 z m0)
        (select (cmpi .eq lane4 (broadcast S1x4 0#32)) (mLast 0 z m0) m0)))

end Cert.PromptMix
-- ==== Proof.PromptMix.Block.lean ====
/-
  The pieces that one grid step of the prompt mixer stores for the matrix memory: for each of its
  four heads, the chunk's functions of what that head loads.
-/
module

public import proofs.«01_k».proof.Proof.PromptMix.Unit
public import proofs.«01_k».proof.Proof.Gen.Kernel8Ideal.Frame

@[expose] public section

noncomputable section

namespace Cert.PromptMix

open Idealize.ShloMosaic Idealize.SL.Sem Cert.Kernel8Ideal Cert.Kernel8Ideal.Gen

variable {F : FTy → Type} [FloatOps F]

/-! ## Where a head's numbers lie in the windows -/

theorem inbP (o : Nat) (ho : o + 128 ≤ 4224) :
    ∀ a, (![0, o] : Fin 2 → Nat) a + S128x128.size a ≤ S128x4224.size a := fun a =>
  match a with
  | ⟨0, _⟩ => Nat.le_refl 128
  | ⟨1, _⟩ => ho
theorem inbU (h : Fin 4) :
    ∀ a, (![0, h.val, 0, 0] : Fin 4 → Nat) a + S1x1x128x128.size a ≤ S1x4x128x128.size a := fun a =>
  match a with
  | ⟨0, _⟩ => Nat.le_refl 1
  | ⟨1, _⟩ => (by omega : h.val + 1 ≤ 4)
  | ⟨2, _⟩ => Nat.le_refl 128
  | ⟨3, _⟩ => Nat.le_refl 128
theorem inbAllU : ∀ a, (![0, 0, 0, 0] : Fin 4 → Nat) a + S1x4x128x128.size a ≤ S1x4x128x128.size a := by
  decide
theorem inbAllN : ∀ a, (![0, 0, 0] : Fin 3 → Nat) a + S1x4x128.size a ≤ S1x4x128.size a := by decide
theorem inbAllM : ∀ a, (![0, 0, 0] : Fin 3 → Nat) a + S1x1x4.size a ≤ S1x1x4.size a := by decide
theorem inbB : ∀ a, (![0, 0] : Fin 2 → Nat) a + S1x128.size a ≤ S1x128.size a := by decide

/-- The chunk's rows, 128 columns from `o`. -/
abbrev rectP (o : Nat) (ho : o + 128 ≤ 4224) : Rect S128x4224 :=
  Rect.unit ![0, o] S128x128.size (inbP o ho)
/-- A head's matrix. -/
abbrev rectU (h : Fin 4) : Rect S1x4x128x128 :=
  Rect.unit ![0, h.val, 0, 0] S1x1x128x128.size (inbU h)
/-- All four matrices. -/
abbrev rectA : Rect S1x4x128x128 := Rect.unit ![0, 0, 0, 0] S1x4x128x128.size inbAllU
/-- The normalisers. -/
abbrev rectN : Rect S1x4x128 := Rect.unit ![0, 0, 0] S1x4x128.size inbAllN
/-- The stabilisers. -/
abbrev rectM : Rect S1x1x4 := Rect.unit ![0, 0, 0] S1x1x4.size inbAllM

/-! ## What a head loads -/

/-- The chunk's rows and 128 columns of the projection. -/
def ldP (a : Memref sig .tc .vmem S128x4224 .f32) (ha : a.IsWhole) (x : Vec F S128x4224 .f32)
    (o : Nat) (ho : o + 128 ≤ 4224) : FVec F S128x128 .f32 :=
  shapeCast S128x128 (View.readAt (Elt F) a.view (rectP o ho).toLoadRect (ha.unread x))
    shapeCasts_S128x128_S128x128
/-- Head `h`'s columns of part `j` of the projection. -/
def ldH (a : Memref sig .tc .vmem S128x4224 .f32) (ha : a.IsWhole) (x : Vec F S128x4224 .f32)
    (j : Fin 8) (h : Fin 4) : FVec F S128x128 .f32 :=
  ldP a ha x (512 * j.val + 128 * h.val) (by omega)
/-- The bias row. -/
def ldB (a : Memref sig .tc .vmem S1x128 .f32) (ha : a.IsWhole) (x : Vec F S1x128 .f32) :
    FVec F S1x128 .f32 :=
  shapeCast S1x128 (View.readAt (Elt F) a.view (Rect.unit ![0, 0] S1x128.size inbB).toLoadRect
    (ha.unread x)) shapeCasts_S1x128_S1x128
/-- A whole window of matrices. -/
def allC (a : Memref sig .tc .vmem S1x4x128x128 .f32) (ha : a.IsWhole)
    (x : Vec F S1x4x128x128 .f32) : FVec F S1x4x128x128 .f32 :=
  View.readAt (Elt F) a.view rectA.toLoadRect (ha.unread x)
/-- A whole window of normalisers. -/
def allN (a : Memref sig .tc .vmem S1x4x128 .f32) (ha : a.IsWhole)
    (x : Vec F S1x4x128 .f32) : FVec F S1x4x128 .f32 :=
  View.readAt (Elt F) a.view rectN.toLoadRect (ha.unread x)
/-- A whole window of stabilisers. -/
def allM (a : Memref sig .tc .vmem S1x1x4 .f32) (ha : a.IsWhole)
    (x : Vec F S1x1x4 .f32) : FVec F S1x1x4 .f32 :=
  View.readAt (Elt F) a.view rectM.toLoadRect (ha.unread x)
/-- The first piece of the matrix memory: the initial state. -/
def firstC (a : Memref sig .tc .vmem S1x4x128x128 .f32) (ha : a.IsWhole)
    (x : Vec F S1x4x128x128 .f32) : List (View.Piece (Elt F) S1x4x128x128 .f32) :=
  [⟨rectA, allC a ha x⟩]
/-- The first piece of the normalisers. -/
def firstN (a : Memref sig .tc .vmem S1x4x128 .f32) (ha : a.IsWhole)
    (x : Vec F S1x4x128 .f32) : List (View.Piece (Elt F) S1x4x128 .f32) :=
  [⟨rectN, allN a ha x⟩]
/-- The first piece of the stabilisers. -/
def firstM (a : Memref sig .tc .vmem S1x1x4 .f32) (ha : a.IsWhole)
    (x : Vec F S1x1x4 .f32) : List (View.Piece (Elt F) S1x1x4 .f32) :=
  [⟨rectM, shapeCast S1x1x4 (allM a ha x) shapeCasts_S1x1x4_S1x1x4⟩]
/-- A head's matrix as a plain matrix. -/
def flat (x : FVec F S1x1x128x128 .f32) : FVec F S128x128 .f32 :=
  shapeCast S128x128 x shapeCasts_S1x1x128x128_S128x128
/-- A plain matrix as a head's. -/
def unflat (x : FVec F S128x128 .f32) : FVec F S1x1x128x128 .f32 :=
  shapeCast S1x1x128x128 x shapeCasts_S128x128_S1x1x128x128
/-- The heads, last first. -/
def heads : List (Fin 4) := [3, 2, 1, 0]

/-- A head's matrix read back after the pieces `L`. -/
def ldU (a : Memref sig .tc .vmem S1x4x128x128 .f32)
    (L : List (View.Piece (Elt F) S1x4x128x128 .f32)) (h : Fin 4) : FVec F S128x128 .f32 :=
  flat (a.view.readCov L (rectU h).toLoadRect)
/-- The normalisers read back after the pieces `L`. -/
def ldN (a : Memref sig .tc .vmem S1x4x128 .f32)
    (L : List (View.Piece (Elt F) S1x4x128 .f32)) : FVec F S4x128 .f32 :=
  shapeCast S4x128 (a.view.readCov L rectN.toLoadRect) shapeCasts_S1x4x128_S4x128
/-- The stabilisers read back after the pieces `L`. -/
def ldM (a : Memref sig .tc .vmem S1x1x4 .f32)
    (L : List (View.Piece (Elt F) S1x1x4 .f32)) : FVec F S1x4 .f32 :=
  shapeCast S1x4 (a.view.readCov L rectM.toLoadRect) shapeCasts_S1x1x4_S1x4

/-- A head's matrix that the chunk before left. -/
def reU (a : Memref sig .tc .vmem S1x4x128x128 .f32) (ha : a.IsWhole)
    (x : Vec F S1x4x128x128 .f32) (h : Fin 4) : FVec F S128x128 .f32 :=
  flat (View.readAt (Elt F) a.view (rectU h).toLoadRect (ha.unread x))
/-- The normalisers that the chunk before left. -/
def reN (a : Memref sig .tc .vmem S1x4x128 .f32) (ha : a.IsWhole) (x : Vec F S1x4x128 .f32) :
    FVec F S4x128 .f32 := shapeCast S4x128 (allN a ha x) shapeCasts_S1x4x128_S4x128
/-- The stabilisers that the chunk before left. -/
def reM (a : Memref sig .tc .vmem S1x1x4 .f32) (ha : a.IsWhole) (x : Vec F S1x1x4 .f32) :
    FVec F S1x4 .f32 := shapeCast S1x4 (allM a ha x) shapeCasts_S1x1x4_S1x4

/-- The chunk's gates. -/
def ldZ (a : Memref sig .tc .vmem S128x4224 .f32) (ha : a.IsWhole) (x : Vec F S128x4224 .f32)
    (b : Memref sig .tc .vmem S1x128 .f32) (hb : b.IsWhole) (y : Vec F S1x128 .f32) :
    FVec F S128x128 .f32 :=
  gates (ldP a ha x 4096 (by omega)) (ldB b hb y)

/-! ## The pieces stored -/

section
variable
  (arg2 : Memref sig .tc .vmem S128x4224 .f32) (harg2 : arg2.IsWhole)
  (arg7 : Memref sig .tc .vmem S1x128 .f32) (harg7 : arg7.IsWhole)
  (x0 : Vec F S128x4224 .f32) (x5 : Vec F S1x128 .f32)
  (m : FVec F S1x4 .f32) (n : FVec F S4x128 .f32) (C : Fin 4 → FVec F S128x128 .f32)

/-- A head's outgoing matrix memory. -/
def vC (h : Fin 4) : FVec F S128x128 .f32 :=
  newC h (ldZ arg2 harg2 x0 arg7 harg7 x5) m
    (kScale (ldH arg2 harg2 x0 1 h)) (ldH arg2 harg2 x0 2 h) (C h)
/-- The outgoing normalisers. -/
def vN : FVec F S4x128 .f32 :=
  newNAll (ldZ arg2 harg2 x0 arg7 harg7 x5) m
    (kScale (ldH arg2 harg2 x0 1 0)) (kScale (ldH arg2 harg2 x0 1 1))
    (kScale (ldH arg2 harg2 x0 1 2)) (kScale (ldH arg2 harg2 x0 1 3)) n
/-- The outgoing stabilisers. -/
def vM : FVec F S1x4 .f32 := newM (ldZ arg2 harg2 x0 arg7 harg7 x5) m

/-- The pieces of the matrix memory. -/
def piecesC : List (View.Piece (Elt F) S1x4x128x128 .f32) :=
  heads.map fun h => ⟨rectU h, unflat (vC arg2 harg2 arg7 harg7 x0 x5 m C h)⟩
/-- The piece of the normalisers. -/
def piecesN : List (View.Piece (Elt F) S1x4x128 .f32) :=
  [⟨rectN, shapeCast S1x4x128 (vN arg2 harg2 arg7 harg7 x0 x5 m n) shapeCasts_S4x128_S1x4x128⟩]
/-- The piece of the stabilisers. -/
def piecesM : List (View.Piece (Elt F) S1x1x4 .f32) :=
  [⟨rectM, shapeCast S1x1x4 (vM arg2 harg2 arg7 harg7 x0 x5 m) shapeCasts_S1x4_S1x1x4⟩]
end

end Cert.PromptMix
-- ==== Proof.PromptMix.CaseA.lean ====
/-
  Case A of the prompt mixer's grid step (a sequence's first chunk): what it leaves in the windows of the matrix memory
  is the list of pieces of Block.lean.
-/
module

public import proofs.«01_k».proof.Proof.PromptMix.Block

@[expose] public section

noncomputable section

namespace Cert.PromptMix

open Idealize.ShloMosaic Idealize.ShloMosaic.TcCoe Idealize.SL.Sem Cert.Kernel8Ideal Cert.Kernel8Ideal.Gen

variable {F : FTy → Type} [FloatOps F]
variable (c : Dev nD) (i : grid0.Coords) (arg2 : Memref sig .tc .vmem S128x4224 .f32) (harg2 : arg2.IsWhole) (arg3 : Memref sig .tc .vmem S1x4x128x128 .f32) (harg3 : arg3.IsWhole) (arg4 : Memref sig .tc .vmem S1x4x128 .f32) (harg4 : arg4.IsWhole) (arg5 : Memref sig .tc .vmem S1x1x4 .f32) (harg5 : arg5.IsWhole) (arg6 : Memref sig .tc .vmem S1x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x1024 .bf16) (harg11 : arg11.IsWhole) (arg12 : Memref sig .tc .vmem S1x4x128x128 .f32) (harg12 : arg12.IsWhole) (arg13 : Memref sig .tc .vmem S1x4x128 .f32) (harg13 : arg13.IsWhole) (arg14 : Memref sig .tc .vmem S1x1x4 .f32) (harg14 : arg14.IsWhole) (arg15 : Memref sig .tc .vmem S1x4x128x128 .f32) (harg15 : arg15.IsWhole) (hc0 : cond0_0 i) (hc1 : ¬cond0_1 i)
    (x0 : Vec F S128x4224 .f32) (x1 : Vec F S1x4x128x128 .f32) (x2 : Vec F S1x4x128 .f32) (x3 : Vec F S1x1x4 .f32) (x4 : Vec F S1x4x128x128 .f32) (x5 : Vec F S1x128 .f32) (x6 : Vec F S1x512 .f32) (x7 : Vec F S1x512 .f32) (x8 : Vec F S1x512 .f32)

/-- The matrix memory. -/
theorem listC_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.1
      = piecesC arg2 harg2 arg7 harg7 x0 x5 (ldM arg14 (firstM arg5 harg5 x3)) (ldU arg12 (firstC arg3 harg3 x1)) ++ firstC arg3 harg3 x1 := by
  sl_kernel_rfl

/-- The normalisers. -/
theorem listN_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.1
      = piecesN arg2 harg2 arg7 harg7 x0 x5 (ldM arg14 (firstM arg5 harg5 x3)) (ldN arg13 (firstN arg4 harg4 x2)) ++ firstN arg4 harg4 x2 := by
  sl_kernel_rfl

/-- The stabilisers. -/
theorem listM_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.1
      = piecesM arg2 harg2 arg7 harg7 x0 x5 (ldM arg14 (firstM arg5 harg5 x3)) ++ firstM arg5 harg5 x3 := by
  sl_kernel_rfl

end Cert.PromptMix
-- ==== Proof.PromptMix.CaseB.lean ====
/-
  Case B of the prompt mixer's grid step (a chunk between): what it leaves in the windows of the matrix memory
  is the list of pieces of Block.lean.
-/
module

public import proofs.«01_k».proof.Proof.PromptMix.Block

@[expose] public section

noncomputable section

namespace Cert.PromptMix

open Idealize.ShloMosaic Idealize.ShloMosaic.TcCoe Idealize.SL.Sem Cert.Kernel8Ideal Cert.Kernel8Ideal.Gen

variable {F : FTy → Type} [FloatOps F]
variable (c : Dev nD) (i : grid0.Coords) (arg2 : Memref sig .tc .vmem S128x4224 .f32) (harg2 : arg2.IsWhole) (arg3 : Memref sig .tc .vmem S1x4x128x128 .f32) (harg3 : arg3.IsWhole) (arg4 : Memref sig .tc .vmem S1x4x128 .f32) (harg4 : arg4.IsWhole) (arg5 : Memref sig .tc .vmem S1x1x4 .f32) (harg5 : arg5.IsWhole) (arg6 : Memref sig .tc .vmem S1x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x1024 .bf16) (harg11 : arg11.IsWhole) (arg12 : Memref sig .tc .vmem S1x4x128x128 .f32) (harg12 : arg12.IsWhole) (arg13 : Memref sig .tc .vmem S1x4x128 .f32) (harg13 : arg13.IsWhole) (arg14 : Memref sig .tc .vmem S1x1x4 .f32) (harg14 : arg14.IsWhole) (arg15 : Memref sig .tc .vmem S1x4x128x128 .f32) (harg15 : arg15.IsWhole) (hc0 : ¬cond0_0 i) (hc1 : ¬cond0_1 i)
    (x0 : Vec F S128x4224 .f32) (x1 : Vec F S1x4x128x128 .f32) (x2 : Vec F S1x4x128 .f32) (x3 : Vec F S1x1x4 .f32) (x4 : Vec F S1x4x128x128 .f32) (x5 : Vec F S1x128 .f32) (x6 : Vec F S1x512 .f32) (x7 : Vec F S1x512 .f32) (x8 : Vec F S1x512 .f32) (xo10 : Vec F S1x4x128x128 .f32) (xo11 : Vec F S1x4x128 .f32) (xo12 : Vec F S1x1x4 .f32) (xo13 : Vec F S1x4x128x128 .f32)

/-- The matrix memory. -/
theorem listC_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xo11 xo12 xo13).2.1
      = piecesC arg2 harg2 arg7 harg7 x0 x5 (reM arg14 harg14 xo12) (reU arg12 harg12 xo10) := by
  sl_kernel_rfl

/-- The normalisers. -/
theorem listN_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xo11 xo12 xo13).2.2.1
      = piecesN arg2 harg2 arg7 harg7 x0 x5 (reM arg14 harg14 xo12) (reN arg13 harg13 xo11) := by
  sl_kernel_rfl

/-- The stabilisers. -/
theorem listM_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xo11 xo12 xo13).2.2.2.1
      = piecesM arg2 harg2 arg7 harg7 x0 x5 (reM arg14 harg14 xo12) := by
  sl_kernel_rfl

end Cert.PromptMix
-- ==== Proof.PromptMix.CaseC.lean ====
/-
  Case C of the prompt mixer's grid step (a sequence's last chunk): what it leaves in the windows of the matrix memory
  is the list of pieces of Block.lean.
-/
module

public import proofs.«01_k».proof.Proof.PromptMix.Block

@[expose] public section

noncomputable section

namespace Cert.PromptMix

open Idealize.ShloMosaic Idealize.ShloMosaic.TcCoe Idealize.SL.Sem Cert.Kernel8Ideal Cert.Kernel8Ideal.Gen

variable {F : FTy → Type} [FloatOps F]
variable (c : Dev nD) (i : grid0.Coords) (arg2 : Memref sig .tc .vmem S128x4224 .f32) (harg2 : arg2.IsWhole) (arg3 : Memref sig .tc .vmem S1x4x128x128 .f32) (harg3 : arg3.IsWhole) (arg4 : Memref sig .tc .vmem S1x4x128 .f32) (harg4 : arg4.IsWhole) (arg5 : Memref sig .tc .vmem S1x1x4 .f32) (harg5 : arg5.IsWhole) (arg6 : Memref sig .tc .vmem S1x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x1024 .bf16) (harg11 : arg11.IsWhole) (arg12 : Memref sig .tc .vmem S1x4x128x128 .f32) (harg12 : arg12.IsWhole) (arg13 : Memref sig .tc .vmem S1x4x128 .f32) (harg13 : arg13.IsWhole) (arg14 : Memref sig .tc .vmem S1x1x4 .f32) (harg14 : arg14.IsWhole) (arg15 : Memref sig .tc .vmem S1x4x128x128 .f32) (harg15 : arg15.IsWhole) (hc0 : ¬cond0_0 i) (hc1 : cond0_1 i)
    (x0 : Vec F S128x4224 .f32) (x1 : Vec F S1x4x128x128 .f32) (x2 : Vec F S1x4x128 .f32) (x3 : Vec F S1x1x4 .f32) (x4 : Vec F S1x4x128x128 .f32) (x5 : Vec F S1x128 .f32) (x6 : Vec F S1x512 .f32) (x7 : Vec F S1x512 .f32) (x8 : Vec F S1x512 .f32) (xo10 : Vec F S1x4x128x128 .f32) (xo11 : Vec F S1x4x128 .f32) (xo12 : Vec F S1x1x4 .f32) (xo13 : Vec F S1x4x128x128 .f32)

/-- The matrix memory. -/
theorem listC_C :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xo11 xo12 xo13).2.1
      = piecesC arg2 harg2 arg7 harg7 x0 x5 (reM arg14 harg14 xo12) (reU arg12 harg12 xo10) := by
  sl_kernel_rfl

/-- The normalisers. -/
theorem listN_C :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xo11 xo12 xo13).2.2.1
      = piecesN arg2 harg2 arg7 harg7 x0 x5 (reM arg14 harg14 xo12) (reN arg13 harg13 xo11) := by
  sl_kernel_rfl

/-- The stabilisers. -/
theorem listM_C :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xo11 xo12 xo13).2.2.2.1
      = piecesM arg2 harg2 arg7 harg7 x0 x5 (reM arg14 harg14 xo12) := by
  sl_kernel_rfl

end Cert.PromptMix
-- ==== Proof.PromptMix.Math.lean ====
/-
  The mathematics of one chunk of 128 positions of the matrix memory, one head at a time.
-/
module

public import proofs.«01_k».proof.Proof.Sample.Math

@[expose] public section

noncomputable section

namespace Cert.PromptMix

open Idealize.ShloMosaic Cert.Sample

/-- Cumulative sums along time. -/
def cum (f : Fin 128 → EReal) (t : Fin 128) : EReal := ∑ s, if s ≤ t then f s else 0

theorem isR_cum {f : Fin 128 → EReal} (h : ∀ s, IsR (f s)) (t : Fin 128) : IsR (cum f t) := by
  refine isR_sum _ _ fun s _ => ?_
  split
  · exact h s
  · exact isR_zero

/-- The log decay from step `s` to step `t`. -/
def dm (b i : Fin 128 → EReal) (t s : Fin 128) : EReal := if s ≤ t then b t - b s + i s else ⊥
/-- The stabiliser. -/
def mx (b i : Fin 128 → EReal) (m0 : EReal) (t : Fin 128) : EReal :=
  max (b t + m0) (Finset.univ.fold max ⊥ fun s => dm b i t s)
/-- The weight of the incoming state. -/
def dec (b i : Fin 128 → EReal) (m0 : EReal) (t : Fin 128) : EReal :=
  Ideal.exp (b t + m0 - mx b i m0 t)
/-- The weight of step `s` at step `t`. -/
def wt (b i : Fin 128 → EReal) (m0 : EReal) (t s : Fin 128) : EReal :=
  Ideal.exp (dm b i t s - mx b i m0 t)

/-- The outgoing matrix memory. -/
def cNew (b i : Fin 128 → EReal) (m0 : EReal) (k v : Fin 128 → Fin 128 → EReal)
    (C : Fin 128 → Fin 128 → EReal) (c e : Fin 128) : EReal :=
  dec b i m0 127 * C c e + ∑ s, wt b i m0 127 s * k s c * v s e
/-- The outgoing normaliser. -/
def nNew (b i : Fin 128 → EReal) (m0 : EReal) (k : Fin 128 → Fin 128 → EReal)
    (n : Fin 128 → EReal) (c : Fin 128) : EReal :=
  dec b i m0 127 * n c + ∑ s, wt b i m0 127 s * k s c

end Cert.PromptMix
-- ==== Proof.PromptMix.Reading.lean ====
/-
  The chunk's functions read at an index over extended reals: each is the mathematics of Math.lean
  at the chunk's position and lane.
-/
module

public import proofs.«01_k».proof.Proof.PromptMix.Unit
public import proofs.«01_k».proof.Proof.PromptMix.Math

@[expose] public section

noncomputable section

namespace Cert.PromptMix

open Idealize.ShloMosaic Cert.Sample Cert.Kernel8Ideal Cert.Kernel8Ideal.Facts₀

variable [Facts₀]

/-! ## Scalars -/

theorem absf_max (x : Ideal .f32) : FloatOps.absf x = max x (-x) := rfl
theorem sleN (s r : Fin 128) : IntOp.cmpi .sle (BitVec.ofNat 32 s.val) (BitVec.ofNat 32 r.val)
    = if s ≤ r then 1#1 else 0#1 := by
  have hs : (BitVec.ofNat 32 s.val).toInt = s.val := by
    rw [BitVec.toInt_ofNat', Int.bmod_eq_of_le] <;> omega
  have hr : (BitVec.ofNat 32 r.val).toInt = r.val := by
    rw [BitVec.toInt_ofNat', Int.bmod_eq_of_le] <;> omega
  show BitVec.ofBool (decide ((BitVec.ofNat 32 s.val).toInt ≤ (BitVec.ofNat 32 r.val).toInt)) = _
  rw [hs, hr]
  by_cases e : s ≤ r
  · rw [if_pos e, decide_eq_true (by exact_mod_cast e)]; rfl
  · rw [if_neg e, decide_eq_false (by exact_mod_cast e)]; rfl
theorem select_sleN {α : Type} (s r : Fin 128) (x y : α) :
    Scalar.select (IntOp.cmpi .sle (BitVec.ofNat 32 s.val) (BitVec.ofNat 32 r.val)) x y
      = if s ≤ r then x else y := by
  rw [sleN]; split <;> rfl
theorem sitofp_sleN (s r : Fin 128) :
    (FloatOps.sitofp .f32 (BitVec.setWidth 32
      (IntOp.cmpi .sle (BitVec.ofNat 32 s.val) (BitVec.ofNat 32 r.val))) : Ideal .f32)
      = if s ≤ r then (1 : EReal) else 0 := by
  rw [sleN]
  show (((BitVec.setWidth 32 _).toInt : ℝ) : EReal) = _
  split <;> simp

/-- The lane of head `h`'s forget gate. -/
abbrev laneF (h : Fin 4) : Fin 128 := ⟨4 + h.val, by omega⟩
/-- The lane of head `h`'s input gate. -/
abbrev laneI (h : Fin 4) : Fin 128 := ⟨h.val, by omega⟩

/-! ## Shared pieces -/

theorem cumRows_apply (x : FVec Ideal S128x128 .f32) (r : Fin 128) (l : Fin 128)
    : cumRows x (ix2 r l) = cum (fun s => x (ix2 s l)) r := by
  pointwise [cumRows, tril, causal, rowN, colN]
  simp only [sitofp_sleN]
  unfold cum
  refine Finset.sum_congr rfl fun s _ => ?_
  split <;> simp

theorem logSig_apply (x : FVec Ideal S128x128 .f32) (r : Fin 128) (l : Fin 128) :
    logSig x (ix2 r l) = lgs (x (ix2 r l)) := by
  pointwise [logSig]
  rw [if_neg (by simp), absf_max, lgs]
  simp only [zero_sub]

theorem gateCol_apply (h : Fin 4) (x : FVec Ideal S128x128 .f32) (r : Fin 128) :
    gateCol h x (ix2 r 0) = x (ix2 r (laneI h)) := by
  pointwise [gateCol]

theorem headCol_apply (h : Fin 4) (x : FVec Ideal S128x128 .f32) (r : Fin 128) :
    headCol h x (ix2 r 0) = x (ix2 r (laneF h)) := by
  pointwise [headCol]

/-! ## The gates -/

theorem gates_F (h : Fin 4) (gt : FVec Ideal S128x128 .f32) (b : FVec Ideal S1x128 .f32) (r : Fin 128)
    : gates gt b (ix2 r (laneF h))
      = cum (fun s => lgs (gt (ix2 s (laneF h)) + b (ix2 0 (laneF h)))) r := by
  have hF : ∀ s : Fin 128, isF (ix2 s (laneF h)) = 1#1 := by
    intro s; pointwise [isF, lane]; fin_cases h <;> rfl
  have key : ∀ s : Fin 128, (select isF (logSig (addf gt (onRows b))) (broadcast S128x128 c0)
      : FVec Ideal S128x128 .f32) (ix2 s (laneF h)) = lgs (gt (ix2 s (laneF h)) + b (ix2 0 (laneF h))) := by
    intro s
    show Scalar.select (isF (ix2 s (laneF h))) _ _ = _
    rw [hF, ValueIdx.select_one, logSig_apply]
    congr 1
    pointwise [onRows]
  show Scalar.select (isF (ix2 r (laneF h))) _ _ = _
  rw [hF, ValueIdx.select_one, cumRows_apply]
  simp only [key]

theorem gates_I (h : Fin 4) (gt : FVec Ideal S128x128 .f32) (b : FVec Ideal S1x128 .f32) (r : Fin 128) :
    gates gt b (ix2 r (laneI h)) = gt (ix2 r (laneI h)) := by
  have hF : isF (ix2 r (laneI h)) = 0#1 := by
    pointwise [isF, lane]; fin_cases h <;> rfl
  show Scalar.select (isF (ix2 r (laneI h))) _ _ = _
  rw [hF, ValueIdx.select_zero]
  pointwise [lane]
  fin_cases h <;> rfl

/-! ## The stabiliser and its weights -/

section Gates

variable (z : FVec Ideal S128x128 .f32) (m0 : FVec Ideal S1x4 .f32) (h : Fin 4)

/-- Head `h`'s cumulated log forget gates. -/
abbrev bAt (t : Fin 128) : EReal := z (ix2 t (laneF h))
/-- Head `h`'s input gates. -/
abbrev iAt (t : Fin 128) : EReal := z (ix2 t (laneI h))

variable (hb : ∀ t, IsR (bAt z h t)) (hi : ∀ t, IsR (iAt z h t))
include hb hi

omit hb hi in
theorem pick_apply (r : Fin 128) (l : Fin 128) : (pick h : FVec Ideal S128x128 .f32) (ix2 r l)
    = if l = laneF h then (1 : EReal) else if l = laneI h then -1 else 0 := by
  have hm : Ideal.ofBits .f32 0xBF800000#32 = (-1 : EReal) := by
    simp [Ideal.ofBits, Ideal.ieee]
    rw [← EReal.coe_mul, ← EReal.coe_one]
    congr 1
    norm_num
  have hs : ∀ (n : Nat) (hn : n < 128) (x y : EReal),
      Scalar.select (IntOp.cmpi .eq (BitVec.ofNat 32 l.val) (BitVec.ofNat 32 n)) x y
        = if l = ⟨n, hn⟩ then x else y := by
    intro n hn x y
    show Scalar.select (BitVec.ofBool (BitVec.ofNat 32 l.val == BitVec.ofNat 32 n)) x y = _
    by_cases e : l = ⟨n, hn⟩
    · rw [if_pos e, e]; simp [Scalar.select]
    · rw [if_neg e]
      have : (BitVec.ofNat 32 l.val == BitVec.ofNat 32 n) = false := by
        rw [beq_eq_false_iff_ne]
        intro hh
        apply e; apply Fin.ext
        have := congrArg BitVec.toNat hh
        simp only [BitVec.toNat_ofNat] at this
        show l.val = n
        omega
      rw [this]; rfl
  pointwise [pick, lane]
  rw [hs _ (by omega), hs _ (by omega), hm]

omit hb hi in
theorem pick_sum (t : Fin 128) (x : Fin 128 → EReal) :
    ∑ l, (pick h : FVec Ideal S128x128 .f32) (ix2 t l) * x l = x (laneF h) - x (laneI h) := by
  have hne : laneF h ≠ laneI h := by
    intro e; have := congrArg Fin.val e; simp only [laneF, laneI] at this; omega
  simp only [pick_apply]
  rw [Finset.sum_eq_add (laneF h) (laneI h) hne]
  · rw [if_pos rfl, if_neg hne.symm, if_pos rfl, one_mul, neg_one_mul, sub_eq_add_neg]
  · rintro l - ⟨h1, h2⟩; rw [if_neg h1, if_neg h2, zero_mul]
  · intro hh; exact absurd (Finset.mem_univ _) hh
  · intro hh; exact absurd (Finset.mem_univ _) hh

theorem dMat_apply (t s : Fin 128) : dMat h z (ix2 t s) = dm (bAt z h) (iAt z h) t s := by
  pointwise [dMat, causal, rowN, colN]
  rw [select_sleN, ninf, dm, pick_sum, headCol_apply]
  split
  · obtain ⟨x, hx⟩ := hb t; obtain ⟨y, hy⟩ := hb s; obtain ⟨w, hw⟩ := hi s
    simp only [bAt, iAt] at hx hy hw ⊢
    rw [hx, hy, hw]; norm_cast; ring_nf
  · rfl

omit hb hi in
theorem rCol_apply (t : Fin 128) : rCol h z m0 (ix2 t 0) = bAt z h t + m0 (ix2 0 h) := by
  pointwise [rCol]
  rw [headCol_apply]

theorem mCol_apply (t : Fin 128) :
    mCol h z m0 (ix2 t 0) = mx (bAt z h) (iAt z h) (m0 (ix2 0 h)) t := by
  pointwise [mCol]
  rw [rCol_apply, mx, ninf]
  simp only [dMat_apply z h hb hi]

theorem decCol_apply (t : Fin 128) :
    decCol h z m0 (ix2 t 0) = dec (bAt z h) (iAt z h) (m0 (ix2 0 h)) t := by
  pointwise [decCol]
  rw [rCol_apply, mCol_apply z m0 h hb hi, dec]

theorem wCol_apply (s : Fin 128) :
    wCol h z m0 (ix2 s 0) = wt (bAt z h) (iAt z h) (m0 (ix2 0 h)) 127 s := by
  pointwise [wCol, lastCell]
  have h7 : s ≤ 127 := Fin.le_last s
  rw [mCol_apply z m0 h hb hi, gateCol_apply, headCol_apply, headCol_apply, wt, dm, if_pos h7]

/-! ## The matrix memory -/

variable (q k v o : FVec Ideal S128x128 .f32) (C : FVec Ideal S128x128 .f32)
  (n : FVec Ideal S4x128 .f32)

/-- A block's entry by time step and lane. -/
abbrev ent (x : FVec Ideal S128x128 .f32) (t : Fin 128) (c : Fin 128) : EReal := x (ix2 t c)
/-- A square block's entry. -/
abbrev ent2 (x : FVec Ideal S128x128 .f32) (c e : Fin 128) : EReal := x (ix2 c e)

theorem newC_apply (c e : Fin 128) : newC h z m0 k v C (ix2 c e)
    = cNew (bAt z h) (iAt z h) (m0 (ix2 0 h)) (ent k) (ent v) (ent2 C) c e := by
  pointwise [newC, onLanes, bf, lastCell]
  rw [decCol_apply z m0 h hb hi, cNew]
  congr 1
  refine Finset.sum_congr rfl fun s _ => ?_
  rw [wCol_apply z m0 h hb hi, ← mul_assoc, mul_comm (k _) (wt _ _ _ _ _)]

theorem newN_apply (c : Fin 128) : newN h z m0 k n (ix2 0 c)
    = nNew (bAt z h) (iAt z h) (m0 (ix2 0 h)) (ent k) (fun c => n (ix2 h c)) c := by
  pointwise [newN, onLanes, lastCell, nRow]
  rw [decCol_apply z m0 h hb hi, nNew]
  congr 1
  refine Finset.sum_congr rfl fun s _ => ?_
  rw [wCol_apply z m0 h hb hi]

theorem mLast_apply (l : Fin 4) : mLast h z m0 (ix2 0 l)
    = mx (bAt z h) (iAt z h) (m0 (ix2 0 h)) 127 := by
  pointwise [mLast, lastCell]
  rw [mCol_apply z m0 h hb hi]

omit hb hi in
theorem newM_at : newM z m0 (ix2 0 h) = mLast h z m0 (ix2 0 h) := by
  pointwise [newM, lane4]
  fin_cases h <;> rfl

theorem newM_apply : newM z m0 (ix2 0 h) = mx (bAt z h) (iAt z h) (m0 (ix2 0 h)) 127 := by
  rw [newM_at, mLast_apply z m0 h hb hi]

omit hb hi in
theorem newNAll_at (ks : Fin 4 → FVec Ideal S128x128 .f32) (c : Fin 128) :
    newNAll z m0 (ks 0) (ks 1) (ks 2) (ks 3) n (ix2 h c) = newN h z m0 (ks h) n (ix2 0 c) := by
  pointwise [newNAll]
  fin_cases h <;> rfl

theorem newNAll_apply (ks : Fin 4 → FVec Ideal S128x128 .f32) (c : Fin 128) :
    newNAll z m0 (ks 0) (ks 1) (ks 2) (ks 3) n (ix2 h c)
      = nNew (bAt z h) (iAt z h) (m0 (ix2 0 h)) (ent (ks h)) (fun c => n (ix2 h c)) c := by
  rw [newNAll_at, newN_apply z m0 h hb hi]

end Gates

end Cert.PromptMix
-- ==== Proof.PromptMix.Loads.lean ====
/-
  What the prompt mixer's step reads and writes, entry by entry: loads are entries of the windows,
  and the windows of the matrix memory hold the chunk's functions.
-/
module

public import proofs.«01_k».proof.Proof.PromptMix.CaseA
public import proofs.«01_k».proof.Proof.PromptMix.CaseB
public import proofs.«01_k».proof.Proof.PromptMix.CaseC
public import proofs.«01_k».proof.Proof.PromptMix.Reading
public import proofs.«01_k».proof.Proof.Sample.Loads

@[expose] public section

noncomputable section

namespace Cert.PromptMix

open Idealize.ShloMosaic Idealize.ShloMosaic.TcCoe Idealize.SL.Sem Cert.Kernel8Ideal Cert.Kernel8Ideal.Gen
open Cert.Sample (IsR lgs isR_lgs canon_map_at)

/-! ## Places -/

theorem embU (h : Fin 4) (c e : Fin 128) :
    (rectU h).emb (ix4 (0 : Fin 1) (0 : Fin 1) c e) = ix4 (0 : Fin 1) h c e := by
  funext a
  match a with
  | ⟨0, _⟩ => exact Fin.ext (by show 0 + 1 * 0 = 0; omega)
  | ⟨1, _⟩ => exact Fin.ext (by show h.val + 1 * 0 = h.val; omega)
  | ⟨2, _⟩ => exact Fin.ext (by show 0 + 1 * c.val = c.val; omega)
  | ⟨3, _⟩ => exact Fin.ext (by show 0 + 1 * e.val = e.val; omega)

theorem embN (j : S1x4x128.Idx) : rectN.emb j = j := funext fun a => Fin.ext (by
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega)
theorem embM (j : S1x1x4.Idx) : rectM.emb j = j := funext fun a => Fin.ext (by
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega)
theorem embA (j : S1x4x128x128.Idx) : rectA.emb j = j := funext fun a => Fin.ext (by
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega
  | ⟨3, _⟩ => show 0 + 1 * (j 3).val = (j 3).val; omega)
theorem embP (o : Nat) (ho : o + 128 ≤ 4224) (t e : Fin 128) :
    (rectP o ho).emb (ix2 t e) = ix2 t (⟨o + e.val, by omega⟩ : Fin 4224) := by
  funext a
  match a with
  | ⟨0, _⟩ => exact Fin.ext (by show 0 + 1 * t.val = t.val; omega)
  | ⟨1, _⟩ => exact Fin.ext (by show o + 1 * e.val = o + e.val; omega)

theorem notU {h h' : Fin 4} (hn : h' ≠ h) (c e : Fin 128) :
    ix4 (0 : Fin 1) h c e ∉ (rectU h').set := fun hm => hn (by
  have m1 : h'.val ≤ h.val ∧ h.val < h'.val + 1 := Rect.mem_set_unit.mp hm 1
  exact Fin.ext (by omega))

theorem mem_heads (h : Fin 4) : h ∈ heads := by revert h; decide

/-! ## Loads -/

section
variable {F : FTy → Type} [FloatOps F]

theorem ldP_apply (a : Memref sig .tc .vmem S128x4224 .f32) (ha : a.IsWhole)
    (x : Vec F S128x4224 .f32) (o : Nat) (ho : o + 128 ≤ 4224) (t e : Fin 128) :
    ldP a ha x o ho (ix2 t e) = x (ix2 t (⟨o + e.val, by omega⟩ : Fin 4224)) := by
  refine (congrFun (shapeCast_self _ _) _).trans ?_
  rw [View.readAt_eq_ld, ha.read_unread, ← embP o ho t e]
  rfl

theorem ldH_apply (a : Memref sig .tc .vmem S128x4224 .f32) (ha : a.IsWhole)
    (x : Vec F S128x4224 .f32) (j : Fin 8) (h : Fin 4) (t e : Fin 128) :
    ldH a ha x j h (ix2 t e)
      = x (ix2 t (⟨512 * j.val + 128 * h.val + e.val, by omega⟩ : Fin 4224)) := by
  rw [ldH, ldP_apply]

theorem ldB_apply (a : Memref sig .tc .vmem S1x128 .f32) (ha : a.IsWhole)
    (x : Vec F S1x128 .f32) (e : Fin 128) :
    ldB a ha x (ix2 (0 : Fin 1) e) = x (ix2 (0 : Fin 1) e) := by
  refine (congrFun (shapeCast_self _ _) _).trans ?_
  rw [View.readAt_eq_ld, ha.read_unread]
  refine congrArg x (funext fun a => ?_)
  match a with
  | ⟨0, _⟩ => exact Fin.ext (by show 0 + 1 * 0 = 0; omega)
  | ⟨1, _⟩ => exact Fin.ext (by show 0 + 1 * e.val = e.val; omega)

theorem flat_apply (x : FVec F S1x1x128x128 .f32) (c e : Fin 128) :
    flat x (ix2 c e) = x (ix4 (0 : Fin 1) (0 : Fin 1) c e) := by
  pointwise [flat]
theorem unflat_apply (x : FVec F S128x128 .f32) (c e : Fin 128) :
    unflat x (ix4 (0 : Fin 1) (0 : Fin 1) c e) = x (ix2 c e) := by
  pointwise [unflat]
theorem castN (v : FVec F S1x4x128 .f32) (h : Fin 4) (c : Fin 128) :
    shapeCast S4x128 v shapeCasts_S1x4x128_S4x128 (ix2 h c) = v (ix3 (0 : Fin 1) h c) := by
  pointwise []
theorem castN' (v : FVec F S4x128 .f32) (h : Fin 4) (c : Fin 128) :
    shapeCast S1x4x128 v shapeCasts_S4x128_S1x4x128 (ix3 (0 : Fin 1) h c) = v (ix2 h c) := by
  pointwise []
theorem castM (v : FVec F S1x1x4 .f32) (h : Fin 4) :
    shapeCast S1x4 v shapeCasts_S1x1x4_S1x4 (ix2 (0 : Fin 1) h)
      = v (ix3 (0 : Fin 1) (0 : Fin 1) h) := by
  pointwise []
theorem castM' (v : FVec F S1x4 .f32) (h : Fin 4) :
    shapeCast S1x1x4 v shapeCasts_S1x4_S1x1x4 (ix3 (0 : Fin 1) (0 : Fin 1) h)
      = v (ix2 (0 : Fin 1) h) := by
  pointwise []

theorem allC_eq (a : Memref sig .tc .vmem S1x4x128x128 .f32) (ha : a.IsWhole)
    (x : Vec F S1x4x128x128 .f32) : allC a ha x = x := by
  rw [allC, View.readAt_eq_ld, ha.read_unread]
  exact funext fun j => congrArg x (embA j)
theorem allN_eq (a : Memref sig .tc .vmem S1x4x128 .f32) (ha : a.IsWhole)
    (x : Vec F S1x4x128 .f32) : allN a ha x = x := by
  rw [allN, View.readAt_eq_ld, ha.read_unread]
  exact funext fun j => congrArg x (embN j)
theorem allM_eq (a : Memref sig .tc .vmem S1x1x4 .f32) (ha : a.IsWhole)
    (x : Vec F S1x1x4 .f32) : allM a ha x = x := by
  rw [allM, View.readAt_eq_ld, ha.read_unread]
  exact funext fun j => congrArg x (embM j)

theorem canon_firstC (a : Memref sig .tc .vmem S1x4x128x128 .f32) (ha : a.IsWhole)
    (x : Vec F S1x4x128x128 .f32) : View.canon (firstC a ha x) = x := by
  rw [firstC, View.canon_cons_unit_lit _ _ _ (by decide), allC_eq]
theorem canon_firstN (a : Memref sig .tc .vmem S1x4x128 .f32) (ha : a.IsWhole)
    (x : Vec F S1x4x128 .f32) : View.canon (firstN a ha x) = x := by
  rw [firstN, View.canon_cons_unit_lit _ _ _ (by decide), allN_eq]
theorem canon_firstM (a : Memref sig .tc .vmem S1x1x4 .f32) (ha : a.IsWhole)
    (x : Vec F S1x1x4 .f32) : View.canon (firstM a ha x) = x := by
  rw [firstM, View.canon_cons_unit_lit _ _ _ (by decide)]
  exact (shapeCast_self _ _).trans (allM_eq a ha x)

theorem ldU_apply (a b : Memref sig .tc .vmem S1x4x128x128 .f32) (hb : b.IsWhole)
    (x : Vec F S1x4x128x128 .f32) (h : Fin 4) (c e : Fin 128) :
    ldU a (firstC b hb x) h (ix2 c e) = x (ix4 (0 : Fin 1) h c e) := by
  rw [ldU, flat_apply, View.readCov_eq_canon', ← embU h c e, canon_firstC]
  rfl
theorem ldN_apply (a b : Memref sig .tc .vmem S1x4x128 .f32) (hb : b.IsWhole)
    (x : Vec F S1x4x128 .f32) (h : Fin 4) (c : Fin 128) :
    ldN a (firstN b hb x) (ix2 h c) = x (ix3 (0 : Fin 1) h c) := by
  rw [ldN, castN, View.readCov_eq_canon', canon_firstN]
  exact congrArg x (embN _)
theorem ldM_apply (a b : Memref sig .tc .vmem S1x1x4 .f32) (hb : b.IsWhole)
    (x : Vec F S1x1x4 .f32) (h : Fin 4) :
    ldM a (firstM b hb x) (ix2 (0 : Fin 1) h) = x (ix3 (0 : Fin 1) (0 : Fin 1) h) := by
  rw [ldM, castM, View.readCov_eq_canon', canon_firstM]
  exact congrArg x (embM _)
theorem reU_apply (a : Memref sig .tc .vmem S1x4x128x128 .f32) (ha : a.IsWhole)
    (x : Vec F S1x4x128x128 .f32) (h : Fin 4) (c e : Fin 128) :
    reU a ha x h (ix2 c e) = x (ix4 (0 : Fin 1) h c e) := by
  rw [reU, flat_apply, View.readAt_eq_ld, ha.read_unread, ← embU h c e]
  rfl
theorem reN_apply (a : Memref sig .tc .vmem S1x4x128 .f32) (ha : a.IsWhole)
    (x : Vec F S1x4x128 .f32) (h : Fin 4) (c : Fin 128) :
    reN a ha x (ix2 h c) = x (ix3 (0 : Fin 1) h c) := by
  rw [reN, castN, allN_eq]
theorem reM_apply (a : Memref sig .tc .vmem S1x1x4 .f32) (ha : a.IsWhole)
    (x : Vec F S1x1x4 .f32) (h : Fin 4) :
    reM a ha x (ix2 (0 : Fin 1) h) = x (ix3 (0 : Fin 1) (0 : Fin 1) h) := by
  rw [reM, castM, allM_eq]
end

/-! ## The chunk's numbers -/

section
variable (x0 : FVec Ideal S128x4224 .f32) (x5 : FVec Ideal S1x128 .f32) (h : Fin 4)

/-- The log forget gates. -/
def chF (s : Fin 128) : EReal :=
  lgs (x0 (ix2 s (⟨4100 + h.val, by omega⟩ : Fin 4224)) + x5 (ix2 (0 : Fin 1) (laneF h)))
/-- The input gates. -/
def chI (s : Fin 128) : EReal := x0 (ix2 s (⟨4096 + h.val, by omega⟩ : Fin 4224))
/-- The scaled keys. -/
def chK (s d : Fin 128) : EReal :=
  x0 (ix2 s (⟨512 + 128 * h.val + d.val, by omega⟩ : Fin 4224)) * Ideal.ofBits .f32 0x3DB504F3#32
/-- The values. -/
def chV (s e : Fin 128) : EReal := x0 (ix2 s (⟨1024 + 128 * h.val + e.val, by omega⟩ : Fin 4224))
end

section
variable
  (arg2 : Memref sig .tc .vmem S128x4224 .f32) (harg2 : arg2.IsWhole)
  (arg7 : Memref sig .tc .vmem S1x128 .f32) (harg7 : arg7.IsWhole)
  (x0 : FVec Ideal S128x4224 .f32) (x5 : FVec Ideal S1x128 .f32)
  (m : FVec Ideal S1x4 .f32) (n : FVec Ideal S4x128 .f32) (C : Fin 4 → FVec Ideal S128x128 .f32)

theorem z_F (h : Fin 4) : bAt (ldZ arg2 harg2 x0 arg7 harg7 x5) h = cum (chF x0 x5 h) := by
  funext t
  rw [bAt, ldZ, gates_F]
  refine congrFun (congrArg cum (funext fun s => ?_)) t
  rw [ldP_apply, ldB_apply, chF]
  have e : (⟨4096 + (laneF h).val, by omega⟩ : Fin 4224) = ⟨4100 + h.val, by omega⟩ :=
    Fin.ext (by show 4096 + (4 + h.val) = 4100 + h.val; omega)
  rw [e]

theorem z_I (h : Fin 4) : iAt (ldZ arg2 harg2 x0 arg7 harg7 x5) h = chI x0 h := by
  funext t
  rw [iAt, ldZ, gates_I, ldP_apply, chI]

theorem k_eq (h : Fin 4) : ent (kScale (ldH (F := Ideal) arg2 harg2 x0 1 h)) = chK x0 h := by
  funext s d
  show kScale (ldH (F := Ideal) arg2 harg2 x0 1 h) (ix2 s d) = _
  have e : kScale (ldH (F := Ideal) arg2 harg2 x0 1 h) (ix2 s d)
      = ldH (F := Ideal) arg2 harg2 x0 1 h (ix2 s d) * Ideal.ofBits .f32 0x3DB504F3#32 := by
    generalize ldH (F := Ideal) arg2 harg2 x0 1 h = y
    pointwise [kScale]
  rw [e, ldH_apply]; rfl

theorem v_eq (h : Fin 4) : ent (ldH (F := Ideal) arg2 harg2 x0 2 h) = chV x0 h := by
  funext s e
  show ldH (F := Ideal) arg2 harg2 x0 2 h (ix2 s e) = _
  rw [ldH_apply]; rfl

variable (hf : ∀ h s, IsR (chF x0 x5 h s)) (hi : ∀ h s, IsR (chI x0 h s))
include hf hi

theorem vC_at (h : Fin 4) (d e : Fin 128) : vC arg2 harg2 arg7 harg7 x0 x5 m C h (ix2 d e)
    = cNew (cum (chF x0 x5 h)) (chI x0 h) (m (ix2 0 h)) (chK x0 h) (chV x0 h)
        (fun d e => C h (ix2 d e)) d e := by
  have hb := z_F arg2 harg2 arg7 harg7 x0 x5 h
  have hI := z_I arg2 harg2 arg7 harg7 x0 x5 h
  rw [vC, newC_apply _ _ _ (by rw [hb]; exact isR_cum (hf h)) (by rw [hI]; exact hi h), hb, hI,
    k_eq, v_eq]
theorem vN_at (h : Fin 4) (d : Fin 128) : vN arg2 harg2 arg7 harg7 x0 x5 m n (ix2 h d)
    = nNew (cum (chF x0 x5 h)) (chI x0 h) (m (ix2 0 h)) (chK x0 h) (fun d => n (ix2 h d)) d := by
  have hb := z_F arg2 harg2 arg7 harg7 x0 x5 h
  have hI := z_I arg2 harg2 arg7 harg7 x0 x5 h
  rw [vN, newNAll_apply _ _ _ (by rw [hb]; exact isR_cum (hf h)) (by rw [hI]; exact hi h) n
    (fun h => kScale (ldH arg2 harg2 x0 1 h)), hb, hI, k_eq]
theorem vM_at (h : Fin 4) : vM arg2 harg2 arg7 harg7 x0 x5 m (ix2 0 h)
    = mx (cum (chF x0 x5 h)) (chI x0 h) (m (ix2 0 h)) 127 := by
  have hb := z_F arg2 harg2 arg7 harg7 x0 x5 h
  have hI := z_I arg2 harg2 arg7 harg7 x0 x5 h
  rw [vM, newM_apply _ _ _ (by rw [hb]; exact isR_cum (hf h)) (by rw [hI]; exact hi h), hb, hI]
omit hf hi

theorem canonC (rest : List (View.Piece (Elt Ideal) S1x4x128x128 .f32)) (h : Fin 4) (d e : Fin 128) :
    View.canon (piecesC arg2 harg2 arg7 harg7 x0 x5 m C ++ rest) (ix4 (0 : Fin 1) h d e)
      = vC arg2 harg2 arg7 harg7 x0 x5 m C h (ix2 d e) := by
  have hc := canon_map_at (Val := Elt Ideal) (e := .f32) heads rectU
    (fun h => unflat (vC arg2 harg2 arg7 harg7 x0 x5 m C h)) rest h (mem_heads h)
    (ix4 (0 : Fin 1) (0 : Fin 1) d e) (fun k _ hk => by rw [embU]; exact notU hk d e)
  rw [embU, unflat_apply] at hc
  exact hc
theorem canonN (rest : List (View.Piece (Elt Ideal) S1x4x128 .f32)) (h : Fin 4) (d : Fin 128) :
    View.canon (piecesN arg2 harg2 arg7 harg7 x0 x5 m n ++ rest) (ix3 (0 : Fin 1) h d)
      = vN arg2 harg2 arg7 harg7 x0 x5 m n (ix2 h d) := by
  rw [← castN' (F := Ideal) (vN arg2 harg2 arg7 harg7 x0 x5 m n)]
  exact (congrArg _ (embN _).symm).trans (View.canon_cons_emb _ _ _ _)
theorem canonM (rest : List (View.Piece (Elt Ideal) S1x1x4 .f32)) (h : Fin 4) :
    View.canon (piecesM arg2 harg2 arg7 harg7 x0 x5 m ++ rest) (ix3 (0 : Fin 1) (0 : Fin 1) h)
      = vM arg2 harg2 arg7 harg7 x0 x5 m (ix2 0 h) := by
  rw [← castM' (F := Ideal) (vM arg2 harg2 arg7 harg7 x0 x5 m)]
  exact (congrArg _ (embM _).symm).trans (View.canon_cons_emb _ _ _ _)
end

/-! ## What each case leaves -/

section
variable (c : Dev nD) (i : grid0.Coords) (arg2 : Memref sig .tc .vmem S128x4224 .f32) (harg2 : arg2.IsWhole) (arg3 : Memref sig .tc .vmem S1x4x128x128 .f32) (harg3 : arg3.IsWhole) (arg4 : Memref sig .tc .vmem S1x4x128 .f32) (harg4 : arg4.IsWhole) (arg5 : Memref sig .tc .vmem S1x1x4 .f32) (harg5 : arg5.IsWhole) (arg6 : Memref sig .tc .vmem S1x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x1024 .bf16) (harg11 : arg11.IsWhole) (arg12 : Memref sig .tc .vmem S1x4x128x128 .f32) (harg12 : arg12.IsWhole) (arg13 : Memref sig .tc .vmem S1x4x128 .f32) (harg13 : arg13.IsWhole) (arg14 : Memref sig .tc .vmem S1x1x4 .f32) (harg14 : arg14.IsWhole) (arg15 : Memref sig .tc .vmem S1x4x128x128 .f32) (harg15 : arg15.IsWhole) (hc0 : cond0_0 i) (hc1 : ¬cond0_1 i)
    (x0 : Vec Ideal S128x4224 .f32) (x1 : Vec Ideal S1x4x128x128 .f32) (x2 : Vec Ideal S1x4x128 .f32) (x3 : Vec Ideal S1x1x4 .f32) (x4 : Vec Ideal S1x4x128x128 .f32) (x5 : Vec Ideal S1x128 .f32) (x6 : Vec Ideal S1x512 .f32) (x7 : Vec Ideal S1x512 .f32) (x8 : Vec Ideal S1x512 .f32)
  (hf : ∀ h s, IsR (chF x0 x5 h s)) (hi : ∀ h s, IsR (chI x0 h s))
include hf hi

theorem outC_A (h : Fin 4) (d e : Fin 128) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 (ix4 (0 : Fin 1) h d e)
      = cNew (cum (chF x0 x5 h)) (chI x0 h) (x3 (ix3 (0 : Fin 1) (0 : Fin 1) h)) (chK x0 h) (chV x0 h)
        (fun d e => x1 (ix4 (0 : Fin 1) h d e)) d e := by
  refine (congrFun (View.read_writes_junk_eq_canon VO0_10 _) _).trans ?_
  refine (congrArg (fun L => View.canon L _) (listC_A ..)).trans ?_
  refine (canonC arg2 harg2 arg7 harg7 x0 x5 (ldM arg14 (firstM arg5 harg5 x3)) (ldU arg12 (firstC arg3 harg3 x1)) (firstC arg3 harg3 x1) h d e).trans ?_
  rw [vC_at _ _ _ _ _ _ _ _ hf hi, ldM_apply]
  simp only [ldU_apply]

theorem outN_A (h : Fin 4) (d : Fin 128) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 (ix3 (0 : Fin 1) h d)
      = nNew (cum (chF x0 x5 h)) (chI x0 h) (x3 (ix3 (0 : Fin 1) (0 : Fin 1) h)) (chK x0 h)
        (fun d => x2 (ix3 (0 : Fin 1) h d)) d := by
  refine (congrFun (View.read_writes_junk_eq_canon VO0_11 _) _).trans ?_
  refine (congrArg (fun L => View.canon L _) (listN_A ..)).trans ?_
  refine (canonN arg2 harg2 arg7 harg7 x0 x5 (ldM arg14 (firstM arg5 harg5 x3)) (ldN arg13 (firstN arg4 harg4 x2)) (firstN arg4 harg4 x2) h d).trans ?_
  rw [vN_at _ _ _ _ _ _ _ _ hf hi, ldM_apply]
  simp only [ldN_apply]

theorem outM_A (h : Fin 4) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 (ix3 (0 : Fin 1) (0 : Fin 1) h)
      = mx (cum (chF x0 x5 h)) (chI x0 h) (x3 (ix3 (0 : Fin 1) (0 : Fin 1) h)) 127 := by
  refine (congrFun (View.read_writes_junk_eq_canon VO0_12 _) _).trans ?_
  refine (congrArg (fun L => View.canon L _) (listM_A ..)).trans ?_
  refine (canonM arg2 harg2 arg7 harg7 x0 x5 (ldM arg14 (firstM arg5 harg5 x3)) (firstM arg5 harg5 x3) h).trans ?_
  rw [vM_at _ _ _ _ _ _ _ hf hi, ldM_apply]

end

section
variable (c : Dev nD) (i : grid0.Coords) (arg2 : Memref sig .tc .vmem S128x4224 .f32) (harg2 : arg2.IsWhole) (arg3 : Memref sig .tc .vmem S1x4x128x128 .f32) (harg3 : arg3.IsWhole) (arg4 : Memref sig .tc .vmem S1x4x128 .f32) (harg4 : arg4.IsWhole) (arg5 : Memref sig .tc .vmem S1x1x4 .f32) (harg5 : arg5.IsWhole) (arg6 : Memref sig .tc .vmem S1x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x1024 .bf16) (harg11 : arg11.IsWhole) (arg12 : Memref sig .tc .vmem S1x4x128x128 .f32) (harg12 : arg12.IsWhole) (arg13 : Memref sig .tc .vmem S1x4x128 .f32) (harg13 : arg13.IsWhole) (arg14 : Memref sig .tc .vmem S1x1x4 .f32) (harg14 : arg14.IsWhole) (arg15 : Memref sig .tc .vmem S1x4x128x128 .f32) (harg15 : arg15.IsWhole) (hc0 : ¬cond0_0 i) (hc1 : ¬cond0_1 i)
    (x0 : Vec Ideal S128x4224 .f32) (x1 : Vec Ideal S1x4x128x128 .f32) (x2 : Vec Ideal S1x4x128 .f32) (x3 : Vec Ideal S1x1x4 .f32) (x4 : Vec Ideal S1x4x128x128 .f32) (x5 : Vec Ideal S1x128 .f32) (x6 : Vec Ideal S1x512 .f32) (x7 : Vec Ideal S1x512 .f32) (x8 : Vec Ideal S1x512 .f32) (xo10 : Vec Ideal S1x4x128x128 .f32) (xo11 : Vec Ideal S1x4x128 .f32) (xo12 : Vec Ideal S1x1x4 .f32) (xo13 : Vec Ideal S1x4x128x128 .f32)
  (hf : ∀ h s, IsR (chF x0 x5 h s)) (hi : ∀ h s, IsR (chI x0 h s))
include hf hi

theorem outC_B (h : Fin 4) (d e : Fin 128) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xo11 xo12 xo13 (ix4 (0 : Fin 1) h d e)
      = cNew (cum (chF x0 x5 h)) (chI x0 h) (xo12 (ix3 (0 : Fin 1) (0 : Fin 1) h)) (chK x0 h) (chV x0 h)
        (fun d e => xo10 (ix4 (0 : Fin 1) h d e)) d e := by
  refine (congrFun (View.read_writes_junk_eq_canon VO0_10 _) _).trans ?_
  refine (congrArg (fun L => View.canon L _) ((listC_B ..).trans (List.append_nil _).symm)).trans ?_
  refine (canonC arg2 harg2 arg7 harg7 x0 x5 (reM arg14 harg14 xo12) (reU arg12 harg12 xo10) [] h d e).trans ?_
  rw [vC_at _ _ _ _ _ _ _ _ hf hi, reM_apply]
  simp only [reU_apply]

theorem outN_B (h : Fin 4) (d : Fin 128) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xo11 xo12 xo13 (ix3 (0 : Fin 1) h d)
      = nNew (cum (chF x0 x5 h)) (chI x0 h) (xo12 (ix3 (0 : Fin 1) (0 : Fin 1) h)) (chK x0 h)
        (fun d => xo11 (ix3 (0 : Fin 1) h d)) d := by
  refine (congrFun (View.read_writes_junk_eq_canon VO0_11 _) _).trans ?_
  refine (congrArg (fun L => View.canon L _) ((listN_B ..).trans (List.append_nil _).symm)).trans ?_
  refine (canonN arg2 harg2 arg7 harg7 x0 x5 (reM arg14 harg14 xo12) (reN arg13 harg13 xo11) [] h d).trans ?_
  rw [vN_at _ _ _ _ _ _ _ _ hf hi, reM_apply]
  simp only [reN_apply]

theorem outM_B (h : Fin 4) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xo11 xo12 xo13 (ix3 (0 : Fin 1) (0 : Fin 1) h)
      = mx (cum (chF x0 x5 h)) (chI x0 h) (xo12 (ix3 (0 : Fin 1) (0 : Fin 1) h)) 127 := by
  refine (congrFun (View.read_writes_junk_eq_canon VO0_12 _) _).trans ?_
  refine (congrArg (fun L => View.canon L _) ((listM_B ..).trans (List.append_nil _).symm)).trans ?_
  refine (canonM arg2 harg2 arg7 harg7 x0 x5 (reM arg14 harg14 xo12) [] h).trans ?_
  rw [vM_at _ _ _ _ _ _ _ hf hi, reM_apply]

end

section
variable (c : Dev nD) (i : grid0.Coords) (arg2 : Memref sig .tc .vmem S128x4224 .f32) (harg2 : arg2.IsWhole) (arg3 : Memref sig .tc .vmem S1x4x128x128 .f32) (harg3 : arg3.IsWhole) (arg4 : Memref sig .tc .vmem S1x4x128 .f32) (harg4 : arg4.IsWhole) (arg5 : Memref sig .tc .vmem S1x1x4 .f32) (harg5 : arg5.IsWhole) (arg6 : Memref sig .tc .vmem S1x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x1024 .bf16) (harg11 : arg11.IsWhole) (arg12 : Memref sig .tc .vmem S1x4x128x128 .f32) (harg12 : arg12.IsWhole) (arg13 : Memref sig .tc .vmem S1x4x128 .f32) (harg13 : arg13.IsWhole) (arg14 : Memref sig .tc .vmem S1x1x4 .f32) (harg14 : arg14.IsWhole) (arg15 : Memref sig .tc .vmem S1x4x128x128 .f32) (harg15 : arg15.IsWhole) (hc0 : ¬cond0_0 i) (hc1 : cond0_1 i)
    (x0 : Vec Ideal S128x4224 .f32) (x1 : Vec Ideal S1x4x128x128 .f32) (x2 : Vec Ideal S1x4x128 .f32) (x3 : Vec Ideal S1x1x4 .f32) (x4 : Vec Ideal S1x4x128x128 .f32) (x5 : Vec Ideal S1x128 .f32) (x6 : Vec Ideal S1x512 .f32) (x7 : Vec Ideal S1x512 .f32) (x8 : Vec Ideal S1x512 .f32) (xo10 : Vec Ideal S1x4x128x128 .f32) (xo11 : Vec Ideal S1x4x128 .f32) (xo12 : Vec Ideal S1x1x4 .f32) (xo13 : Vec Ideal S1x4x128x128 .f32)
  (hf : ∀ h s, IsR (chF x0 x5 h s)) (hi : ∀ h s, IsR (chI x0 h s))
include hf hi

theorem outC_C (h : Fin 4) (d e : Fin 128) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xo11 xo12 xo13 (ix4 (0 : Fin 1) h d e)
      = cNew (cum (chF x0 x5 h)) (chI x0 h) (xo12 (ix3 (0 : Fin 1) (0 : Fin 1) h)) (chK x0 h) (chV x0 h)
        (fun d e => xo10 (ix4 (0 : Fin 1) h d e)) d e := by
  refine (congrFun (View.read_writes_junk_eq_canon VO0_10 _) _).trans ?_
  refine (congrArg (fun L => View.canon L _) ((listC_C ..).trans (List.append_nil _).symm)).trans ?_
  refine (canonC arg2 harg2 arg7 harg7 x0 x5 (reM arg14 harg14 xo12) (reU arg12 harg12 xo10) [] h d e).trans ?_
  rw [vC_at _ _ _ _ _ _ _ _ hf hi, reM_apply]
  simp only [reU_apply]

theorem outN_C (h : Fin 4) (d : Fin 128) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xo11 xo12 xo13 (ix3 (0 : Fin 1) h d)
      = nNew (cum (chF x0 x5 h)) (chI x0 h) (xo12 (ix3 (0 : Fin 1) (0 : Fin 1) h)) (chK x0 h)
        (fun d => xo11 (ix3 (0 : Fin 1) h d)) d := by
  refine (congrFun (View.read_writes_junk_eq_canon VO0_11 _) _).trans ?_
  refine (congrArg (fun L => View.canon L _) ((listN_C ..).trans (List.append_nil _).symm)).trans ?_
  refine (canonN arg2 harg2 arg7 harg7 x0 x5 (reM arg14 harg14 xo12) (reN arg13 harg13 xo11) [] h d).trans ?_
  rw [vN_at _ _ _ _ _ _ _ _ hf hi, reM_apply]
  simp only [reN_apply]

theorem outM_C (h : Fin 4) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xo11 xo12 xo13 (ix3 (0 : Fin 1) (0 : Fin 1) h)
      = mx (cum (chF x0 x5 h)) (chI x0 h) (xo12 (ix3 (0 : Fin 1) (0 : Fin 1) h)) 127 := by
  refine (congrFun (View.read_writes_junk_eq_canon VO0_12 _) _).trans ?_
  refine (congrArg (fun L => View.canon L _) ((listM_C ..).trans (List.append_nil _).symm)).trans ?_
  refine (canonM arg2 harg2 arg7 harg7 x0 x5 (reM arg14 harg14 xo12) [] h).trans ?_
  rw [vM_at _ _ _ _ _ _ _ hf hi, reM_apply]

end

end Cert.PromptMix
-- ==== Proof.PromptMix.Host.lean ====
/-
  The prompt mixer's host operations before its region, and which part of each array a step's
  windows hold.
-/
module

public import proofs.«01_k».proof.Proof.PromptMix.Loads
public import proofs.«01_k».proof.Proof.Sample.Host

@[expose] public section

noncomputable section

namespace Cert.PromptMix

open Idealize.ShloMosaic Idealize.ShloMosaic.TcCoe Idealize.SL.Sem Cert.Kernel8Ideal Cert.Kernel8Ideal.Gen
open Cert.Sample (fold_pick)

variable {F : FTy → Type} [FloatOps F]
variable (m : (ℓ : Loc nD τ sig) → Buf (Elt F) ℓ) (c : Dev nD)

/-- The projection's columns regrouped: the gates' eight columns last, padded with zeros. -/
def regroup (x : FVec F S16384x4104 .f32) : FVec F S16384x4224 .f32 :=
  concatenate S16384x4224 1
    [⟨S16384x2048, extractStridedSlice S16384x2048 ![0, 0] x slices_S16384x4104_S16384x2048_0_0⟩,
     ⟨S16384x2048, extractStridedSlice S16384x2048 ![0, 2056] x slices_S16384x4104_S16384x2048_0_2056⟩,
     ⟨S16384x8, extractStridedSlice S16384x8 ![0, 2048] x slices_S16384x4104_S16384x8_0_2048⟩,
     ⟨S16384x120, broadcastInDim S16384x120 ![] bcast_S_S16384x120 (constant S_ .f32 0x00000000#32)⟩]
    concatenates_S16384x2048_S16384x2048_S16384x8_S16384x120_S16384x4224_d1

/-- The forget gates' bias in lanes four to seven of a row of zeros. -/
def biasRow (x : FVec F S4 .f32) : FVec F S1x128 .f32 :=
  Host.scatter scatter_S1x128_S2_S4_0_0_01_0 (fun _ b => b)
    (broadcastInDim S1x128 ![] bcast_S_S1x128 (constant S_ .f32 0x00000000#32))
    (concatenate S2 0 [⟨S1, broadcastInDim S1 ![] bcast_S_S1 (constantI S_ 32 0#32)⟩,
      ⟨S1, broadcastInDim S1 ![] bcast_S_S1 (constantI S_ 32 4#32)⟩] concatenates_S1_S1_S2_d0) x

theorem V_v4 : V m c main_v4 = regroup (m ((c : Thread nD τ).loc main_arg0)) := by
  sl_kernel_rfl
theorem V_v9 : V m c main_v9 = biasRow (m ((c : Thread nD τ).loc main_arg5)) := by
  sl_kernel_rfl
theorem V_v25 : V m c main_v25 = shapeCast S1x1x4 (m ((c : Thread nD τ).loc main_arg3)) shapeCasts_S1x4_S1x1x4 := by
  sl_kernel_rfl

/-! ## Entries -/

theorem regroup_lo (x : FVec F S16384x4104 .f32) (r : Fin 16384) (l : Fin 2048) :
    regroup x (ix2 r (⟨l.val, by omega⟩ : Fin 4224)) = x (ix2 r (⟨l.val, by omega⟩ : Fin 4104)) := by
  pointwise [regroup]
theorem regroup_gt (x : FVec F S16384x4104 .f32) (r : Fin 16384) (l : Fin 8) :
    regroup x (ix2 r (⟨4096 + l.val, by omega⟩ : Fin 4224))
      = x (ix2 r (⟨2048 + l.val, by omega⟩ : Fin 4104)) := by
  pointwise [regroup]
  rw [dif_neg (by omega), dif_neg (by omega), dif_pos (by omega)]
  refine congrArg (fun k => x (ix2 r k)) (Fin.ext ?_)
  show 2048 + (4096 + l.val - 2048 - 2048) = 2048 + l.val
  omega

/-- Where the bias's four entries go. -/
theorem biasRow_place (n : Fin 4) :
    scatter_S1x128_S2_S4_0_0_01_0.resultIdx? (S4.rowMajor.symm n)
      (concatenate S2 0 [⟨S1, broadcastInDim S1 ![] bcast_S_S1 (constantI S_ 32 0#32)⟩,
        ⟨S1, broadcastInDim S1 ![] bcast_S_S1 (constantI S_ 32 4#32)⟩] concatenates_S1_S1_S2_d0)
      = some (ix2 (0 : Fin 1) (laneF n)) := by
  revert n
  decide +kernel
theorem biasRow_at (x : FVec F S4 .f32) (h : Fin 4) :
    biasRow x (ix2 (0 : Fin 1) (laneF h)) = x (ix1 h) := by
  rw [biasRow, ← Idealize.ShloMosaic.Routing.scatterIn_finRange, Idealize.ShloMosaic.Routing.scatterIn_at]
  have hn : ∀ n h : Fin 4, (ix2 (0 : Fin 1) (laneF n) = ix2 (0 : Fin 1) (laneF h)) ↔ n = h := by
    decide +kernel
  have h0 : ∀ n : Fin 4, (S4.rowMajor.symm n 0).val = n.val := by decide
  have hx : ∀ n : Fin 4, S4.rowMajor.symm n = ix1 n := fun n => funext fun a => by
    obtain rfl : a = (0 : Fin 1) := Subsingleton.elim (α := Fin 1) _ _
    exact Fin.ext (h0 n)
  refine (fold_pick _ _ h (fun n => ?_) _).trans (congrArg x (hx h))
  rw [biasRow_place, Option.some.injEq, hn]

/-! ## Blocks -/

theorem idx0 : ∀ t : Fin grid0.N, win0_0.index t 0 = t.val ∧ win0_0.index t 1 = 0 := by decide +kernel
theorem emb0 (t : Fin grid0.N) (a : Fin 128) (b : Fin 4224) :
    ((cfg0.win 0).blk t).view.emb (ix2 a b)
      = ix2 (⟨128 * t.val + a.val, by have := t.isLt; have h : grid0.N = 128 := rfl; omega⟩ : Fin 16384) b := by
  obtain ⟨e0, e1⟩ := idx0 t
  funext a'
  match a' with
  | ⟨0, _⟩ => exact Fin.ext (by show win0_0.index t 0 * 128 + 1 * a.val = 128 * t.val + a.val; omega)
  | ⟨1, _⟩ => exact Fin.ext (by show win0_0.index t 1 * 4224 + 1 * b.val = b.val; omega)
theorem idx5 : ∀ t : Fin grid0.N, win0_5.index t 0 = 0 ∧ win0_5.index t 1 = 0 := by decide +kernel
theorem emb5 (t : Fin grid0.N) (a : Fin 1) (b : Fin 128) :
    ((cfg0.win 5).blk t).view.emb (ix2 a b) = ix2 a b := by
  obtain ⟨e0, e1⟩ := idx5 t
  funext a'
  match a' with
  | ⟨0, _⟩ => exact Fin.ext (by show win0_5.index t 0 * 1 + 1 * a.val = a.val; omega)
  | ⟨1, _⟩ => exact Fin.ext (by show win0_5.index t 1 * 128 + 1 * b.val = b.val; omega)
theorem idx1 : ∀ t : Fin grid0.N, win0_1.index t 0 = 0 ∧ win0_1.index t 1 = 0 ∧ win0_1.index t 2 = 0 ∧ win0_1.index t 3 = 0 := by decide +kernel
theorem emb1 (t : Fin grid0.N) (a : Fin 1) (b : Fin 4) (d : Fin 128) (e : Fin 128) :
    ((cfg0.win 1).blk t).view.emb (ix4 a b d e)
      = ix4 a b d e := by
  obtain ⟨e0, e1, e2, e3⟩ := idx1 t
  funext a'
  match a' with
  | ⟨0, _⟩ => exact Fin.ext (by show win0_1.index t 0 * 1 + 1 * a.val = a.val; omega)
  | ⟨1, _⟩ => exact Fin.ext (by show win0_1.index t 1 * 4 + 1 * b.val = b.val; omega)
  | ⟨2, _⟩ => exact Fin.ext (by show win0_1.index t 2 * 128 + 1 * d.val = d.val; omega)
  | ⟨3, _⟩ => exact Fin.ext (by show win0_1.index t 3 * 128 + 1 * e.val = e.val; omega)
theorem idx2 : ∀ t : Fin grid0.N, win0_2.index t 0 = 0 ∧ win0_2.index t 1 = 0 ∧ win0_2.index t 2 = 0 := by decide +kernel
theorem emb2 (t : Fin grid0.N) (a : Fin 1) (b : Fin 4) (d : Fin 128) :
    ((cfg0.win 2).blk t).view.emb (ix3 a b d)
      = ix3 a b d := by
  obtain ⟨e0, e1, e2⟩ := idx2 t
  funext a'
  match a' with
  | ⟨0, _⟩ => exact Fin.ext (by show win0_2.index t 0 * 1 + 1 * a.val = a.val; omega)
  | ⟨1, _⟩ => exact Fin.ext (by show win0_2.index t 1 * 4 + 1 * b.val = b.val; omega)
  | ⟨2, _⟩ => exact Fin.ext (by show win0_2.index t 2 * 128 + 1 * d.val = d.val; omega)
theorem idx3 : ∀ t : Fin grid0.N, win0_3.index t 0 = 0 ∧ win0_3.index t 1 = 0 ∧ win0_3.index t 2 = 0 := by decide +kernel
theorem emb3 (t : Fin grid0.N) (a : Fin 1) (b : Fin 1) (d : Fin 4) :
    ((cfg0.win 3).blk t).view.emb (ix3 a b d)
      = ix3 a b d := by
  obtain ⟨e0, e1, e2⟩ := idx3 t
  funext a'
  match a' with
  | ⟨0, _⟩ => exact Fin.ext (by show win0_3.index t 0 * 1 + 1 * a.val = a.val; omega)
  | ⟨1, _⟩ => exact Fin.ext (by show win0_3.index t 1 * 1 + 1 * b.val = b.val; omega)
  | ⟨2, _⟩ => exact Fin.ext (by show win0_3.index t 2 * 4 + 1 * d.val = d.val; omega)
theorem idx10 : ∀ t : Fin grid0.N, win0_10.index t 0 = t.val / 16 ∧ win0_10.index t 1 = 0 ∧ win0_10.index t 2 = 0 ∧ win0_10.index t 3 = 0 := by decide +kernel
theorem emb10 (t : Fin grid0.N) (a : Fin 1) (b : Fin 4) (d : Fin 128) (e : Fin 128) :
    ((cfg0.win 10).blk t).view.emb (ix4 a b d e)
      = ix4 (⟨t.val / 16, by have := t.isLt; have h : grid0.N = 128 := rfl; omega⟩ : Fin 8) b d e := by
  obtain ⟨e0, e1, e2, e3⟩ := idx10 t
  have ha := a.isLt
  funext a'
  match a' with
  | ⟨0, _⟩ => exact Fin.ext (by show win0_10.index t 0 * 1 + 1 * a.val = t.val / 16; omega)
  | ⟨1, _⟩ => exact Fin.ext (by show win0_10.index t 1 * 4 + 1 * b.val = b.val; omega)
  | ⟨2, _⟩ => exact Fin.ext (by show win0_10.index t 2 * 128 + 1 * d.val = d.val; omega)
  | ⟨3, _⟩ => exact Fin.ext (by show win0_10.index t 3 * 128 + 1 * e.val = e.val; omega)
theorem idx11 : ∀ t : Fin grid0.N, win0_11.index t 0 = t.val / 16 ∧ win0_11.index t 1 = 0 ∧ win0_11.index t 2 = 0 := by decide +kernel
theorem emb11 (t : Fin grid0.N) (a : Fin 1) (b : Fin 4) (d : Fin 128) :
    ((cfg0.win 11).blk t).view.emb (ix3 a b d)
      = ix3 (⟨t.val / 16, by have := t.isLt; have h : grid0.N = 128 := rfl; omega⟩ : Fin 8) b d := by
  obtain ⟨e0, e1, e2⟩ := idx11 t
  have ha := a.isLt
  funext a'
  match a' with
  | ⟨0, _⟩ => exact Fin.ext (by show win0_11.index t 0 * 1 + 1 * a.val = t.val / 16; omega)
  | ⟨1, _⟩ => exact Fin.ext (by show win0_11.index t 1 * 4 + 1 * b.val = b.val; omega)
  | ⟨2, _⟩ => exact Fin.ext (by show win0_11.index t 2 * 128 + 1 * d.val = d.val; omega)
theorem idx12 : ∀ t : Fin grid0.N, win0_12.index t 0 = t.val / 16 ∧ win0_12.index t 1 = 0 ∧ win0_12.index t 2 = 0 := by decide +kernel
theorem emb12 (t : Fin grid0.N) (a : Fin 1) (b : Fin 1) (d : Fin 4) :
    ((cfg0.win 12).blk t).view.emb (ix3 a b d)
      = ix3 (⟨t.val / 16, by have := t.isLt; have h : grid0.N = 128 := rfl; omega⟩ : Fin 8) b d := by
  obtain ⟨e0, e1, e2⟩ := idx12 t
  have ha := a.isLt
  funext a'
  match a' with
  | ⟨0, _⟩ => exact Fin.ext (by show win0_12.index t 0 * 1 + 1 * a.val = t.val / 16; omega)
  | ⟨1, _⟩ => exact Fin.ext (by show win0_12.index t 1 * 1 + 1 * b.val = b.val; omega)
  | ⟨2, _⟩ => exact Fin.ext (by show win0_12.index t 2 * 4 + 1 * d.val = d.val; omega)

end Cert.PromptMix
-- ==== Proof.PromptMix.Sequence.lean ====
/-
  The matrix memory position by position, and its form over any run of positions: the stabiliser is
  the largest log weight, and the memory a weighted sum whose weights are relative to it.  One
  statement covers a chunk of 128 positions and the whole prompt.
-/
module

public import proofs.«01_k».proof.Proof.PromptMix.Math

@[expose] public section

noncomputable section

namespace Cert.PromptMix

open Idealize.ShloMosaic Cert.Sample

variable (lf i : ℕ → ℝ) (m0 : ℝ)

/-- The log forget gates before position `T`, summed. -/
def tot (T : ℕ) : ℝ := ∑ s ∈ Finset.range T, lf s

/-- The stabiliser after `T` positions. -/
def stab : ℕ → ℝ
  | 0 => m0
  | T + 1 => max (stab T + lf T) (i T)

/-- One entry of the memory after `T` positions, `k` what each position adds. -/
def mem (n0 : EReal) (k : ℕ → EReal) : ℕ → EReal
  | 0 => n0
  | T + 1 => Ideal.exp ((stab lf i m0 T + lf T - stab lf i m0 (T + 1) : ℝ) : EReal) * mem n0 k T
      + Ideal.exp ((i T - stab lf i m0 (T + 1) : ℝ) : EReal) * k T

theorem tot_succ (T : ℕ) : tot lf (T + 1) = tot lf T + lf T := Finset.sum_range_succ _ _

theorem stab_le (S T : ℕ) (x : ℝ) : stab lf i m0 (S + T) ≤ x ↔
    tot lf (S + T) - tot lf S + stab lf i m0 S ≤ x
      ∧ ∀ s < T, tot lf (S + T) - tot lf (S + s + 1) + i (S + s) ≤ x := by
  induction T generalizing x with
  | zero => simp
  | succ T ih =>
    rw [← Nat.add_assoc, stab, max_le_iff, ← le_sub_iff_add_le, ih, tot_succ]
    constructor
    · rintro ⟨⟨h1, h2⟩, h3⟩
      refine ⟨by linarith, fun s hs => ?_⟩
      rcases Nat.lt_succ_iff_lt_or_eq.mp hs with h | h
      · have := h2 s h; linarith
      · subst h
        rw [tot_succ]; linarith
    · rintro ⟨h1, h2⟩
      refine ⟨⟨by linarith, fun s hs => ?_⟩, ?_⟩
      · have := h2 s (by omega); linarith
      · have := h2 T (by omega)
        rw [tot_succ] at this; linarith

theorem exp_mul (a b : ℝ) (x : EReal) : Ideal.exp (a : EReal) * (Ideal.exp (b : EReal) * x)
    = Ideal.exp ((a + b : ℝ) : EReal) * x := by
  rw [← mul_assoc, exp_coe, exp_coe, exp_coe, ← EReal.coe_mul, ← Real.exp_add]

theorem exp_mul_add (a : ℝ) (x y : EReal) : Ideal.exp (a : EReal) * (x + y)
    = Ideal.exp (a : EReal) * x + Ideal.exp (a : EReal) * y := by
  rw [exp_coe]
  exact EReal.left_distrib_of_nonneg_of_ne_top (by exact_mod_cast (Real.exp_pos a).le)
    (EReal.coe_ne_top _) x y

theorem exp_mul_sum (a : ℝ) (f : ℕ → EReal) (T : ℕ) :
    Ideal.exp (a : EReal) * ∑ s ∈ Finset.range T, f s
      = ∑ s ∈ Finset.range T, Ideal.exp (a : EReal) * f s := by
  induction T with
  | zero => simp
  | succ T ih => rw [Finset.sum_range_succ, Finset.sum_range_succ, exp_mul_add, ih]

theorem mem_run (n0 : EReal) (k : ℕ → EReal) (S T : ℕ) : mem lf i m0 n0 k (S + T)
    = Ideal.exp ((tot lf (S + T) - tot lf S + stab lf i m0 S - stab lf i m0 (S + T) : ℝ) : EReal)
        * mem lf i m0 n0 k S
      + ∑ s ∈ Finset.range T, Ideal.exp ((tot lf (S + T) - tot lf (S + s + 1) + i (S + s)
          - stab lf i m0 (S + T) : ℝ) : EReal) * k (S + s) := by
  induction T with
  | zero =>
    rw [Finset.sum_range_zero, Nat.add_zero, add_zero, sub_self, zero_add, sub_self, exp_coe,
      Real.exp_zero, EReal.coe_one, one_mul]
  | succ T ih =>
    rw [← Nat.add_assoc, mem, ih, exp_mul_add, exp_mul_sum, Finset.sum_range_succ, add_assoc,
      exp_mul]
    congr 1
    · congr 3
      rw [tot_succ]; ring
    · congr 1
      · refine Finset.sum_congr rfl fun s _ => ?_
        rw [exp_mul]
        congr 3
        rw [tot_succ lf (S + T)]; ring
      · congr 3
        ring

/-! ## Over extended reals -/

theorem run_stab (S T : ℕ) :
    max (((tot lf (S + T) - tot lf S : ℝ) : EReal) + (stab lf i m0 S : EReal))
      (Finset.univ.fold max ⊥ fun s : Fin T => ((tot lf (S + T) - tot lf S : ℝ) : EReal)
        - ((tot lf (S + s.val + 1) - tot lf S : ℝ) : EReal) + (i (S + s.val) : EReal))
      = (stab lf i m0 (S + T) : EReal) := by
  refine eq_of_forall_ge_iff fun c => ?_
  rw [max_le_iff, Finset.fold_max_le]
  simp only [bot_le, true_and, Finset.mem_univ, forall_const, ← EReal.coe_sub, ← EReal.coe_add]
  induction c using EReal.rec with
  | bot => simp only [le_bot_iff, EReal.coe_ne_bot, false_and]
  | top => simp
  | coe x =>
    simp only [EReal.coe_le_coe_iff]
    rw [stab_le]
    refine and_congr Iff.rfl ⟨fun h s hs => ?_, fun h s => ?_⟩
    · have := h ⟨s, hs⟩
      simp only [] at this
      linarith
    · have := h s.val s.isLt
      linarith

theorem run_mem (n0 : EReal) (k : ℕ → EReal) (S T : ℕ) :
    Ideal.exp (((tot lf (S + T) - tot lf S : ℝ) : EReal) + (stab lf i m0 S : EReal)
        - (stab lf i m0 (S + T) : EReal)) * mem lf i m0 n0 k S
      + ∑ s : Fin T, Ideal.exp (((tot lf (S + T) - tot lf S : ℝ) : EReal)
          - ((tot lf (S + s.val + 1) - tot lf S : ℝ) : EReal) + (i (S + s.val) : EReal)
          - (stab lf i m0 (S + T) : EReal)) * k (S + s.val)
      = mem lf i m0 n0 k (S + T) := by
  rw [mem_run lf i m0 n0 k S T, Finset.sum_range]
  simp only [← EReal.coe_sub, ← EReal.coe_add]
  congr 1
  refine Finset.sum_congr rfl fun s _ => ?_
  congr 3
  ring

/-! ## A chunk -/

section
variable (f ig : Fin 128 → EReal) (S : ℕ) (hf : ∀ s, f s = (lf (S + s.val) : EReal))
  (hi : ∀ s, ig s = (i (S + s.val) : EReal))
include hf

theorem sum_tot (t : ℕ) : ∑ s ∈ Finset.range t, lf (S + s) = tot lf (S + t) - tot lf S := by
  rw [tot, Finset.sum_range_add]
  exact (add_sub_cancel_left _ _).symm

theorem chunk_cum (t : Fin 128) : cum f t = ((tot lf (S + t.val + 1) - tot lf S : ℝ) : EReal) := by
  rw [Nat.add_assoc, ← sum_tot lf f S hf, coe_sum, cum, Finset.sum_ite, Finset.sum_const_zero, add_zero]
  refine Finset.sum_bij (fun s _ => s.val) ?_ ?_ ?_ ?_
  · intro s hs
    have := (Finset.mem_filter.mp hs).2
    exact Finset.mem_range.mpr (Nat.lt_succ_of_le this)
  · intro a _ b _ h; exact Fin.ext h
  · intro n hn
    have := Finset.mem_range.mp hn
    exact ⟨⟨n, by omega⟩, Finset.mem_filter.mpr ⟨Finset.mem_univ _, Nat.le_of_lt_succ this⟩, rfl⟩
  · intro s _; exact hf s

include hi

theorem chunk_dm (s : Fin 128) : dm (cum f) ig 127 s
    = ((tot lf (S + 128) - tot lf S : ℝ) : EReal)
        - ((tot lf (S + s.val + 1) - tot lf S : ℝ) : EReal) + (i (S + s.val) : EReal) := by
  have h7 : s ≤ 127 := Fin.le_last s
  rw [dm, if_pos h7, chunk_cum lf f S hf, chunk_cum lf f S hf, hi]
  rfl

theorem chunk_mx : mx (cum f) ig (stab lf i m0 S : EReal) 127 = (stab lf i m0 (S + 128) : EReal) := by
  rw [mx, chunk_cum lf f S hf, ← run_stab lf i m0 S 128]
  simp only [chunk_dm lf i f ig S hf hi]
  rfl

theorem chunk_nNew (n0 : EReal) (kk : ℕ → EReal) (k : Fin 128 → Fin 128 → EReal)
    (n : Fin 128 → EReal) (c : Fin 128) (hk : ∀ s, k s c = kk (S + s.val))
    (hn : n c = mem lf i m0 n0 kk S) :
    nNew (cum f) ig (stab lf i m0 S : EReal) k n c = mem lf i m0 n0 kk (S + 128) := by
  rw [nNew, dec, chunk_mx lf i m0 f ig S hf hi, chunk_cum lf f S hf, hn,
    ← run_mem lf i m0 n0 kk S 128]
  simp only [wt, chunk_dm lf i f ig S hf hi, chunk_mx lf i m0 f ig S hf hi, hk]
  rfl

theorem chunk_cNew (n0 : EReal) (kk : ℕ → EReal) (k v : Fin 128 → Fin 128 → EReal)
    (C : Fin 128 → Fin 128 → EReal) (c e : Fin 128) (hk : ∀ s, k s c * v s e = kk (S + s.val))
    (hn : C c e = mem lf i m0 n0 kk S) :
    cNew (cum f) ig (stab lf i m0 S : EReal) k v C c e = mem lf i m0 n0 kk (S + 128) := by
  rw [cNew, dec, chunk_mx lf i m0 f ig S hf hi, chunk_cum lf f S hf, hn,
    ← run_mem lf i m0 n0 kk S 128]
  simp only [wt, chunk_dm lf i f ig S hf hi, chunk_mx lf i m0 f ig S hf hi, mul_assoc, hk]
  rfl
end

end Cert.PromptMix
-- ==== Proof.PromptMix.Reference.lean ====
/-
  The reference over the whole prompt, entry by entry: its stabiliser, normaliser and matrix memory
  are the position-by-position recurrence after all 2048 positions.
-/
module

public import proofs.«01_k».proof.Proof.PromptMix.Sequence
public import proofs.«01_k».proof.Proof.Sample.Window
public import proofs.«01_k».proof.Proof.Gen.Reference8Ideal.Read

@[expose] public section

noncomputable section

namespace Cert.PromptMix

open Idealize.ShloMosaic Cert.Reference8Ideal Cert.Reference8Ideal.Read
open Cert.Sample (IsR isR_coe lgs coe_sum ninf reduceWindowAdd_eq exp_coe)

/-! ## Sequences of 2048 numbers -/

/-- A sequence continued by zeros. -/
def nat (f : Fin 2048 → EReal) (s : ℕ) : EReal := if h : s < 2048 then f ⟨s, h⟩ else 0
/-- A sequence's real parts, continued by zeros. -/
def re (f : Fin 2048 → EReal) (s : ℕ) : ℝ := (nat f s).toReal

theorem nat_at (f : Fin 2048 → EReal) (s : Fin 2048) : nat f s.val = f s := dif_pos s.isLt
theorem coe_toReal {x : EReal} (h : IsR x) : ((x.toReal : ℝ) : EReal) = x := by
  obtain ⟨r, rfl⟩ := h
  rw [EReal.toReal_coe]
theorem nat_real {f : Fin 2048 → EReal} (hf : ∀ s, IsR (f s)) (s : ℕ) :
    nat f s = (re f s : EReal) := by
  rw [re, coe_toReal]
  unfold nat
  split
  · exact hf _
  · exact ⟨0, rfl⟩
theorem re_at {f : Fin 2048 → EReal} (hf : ∀ s, IsR (f s)) (s : Fin 2048) :
    f s = (re f s.val : EReal) := by rw [← nat_real hf, nat_at]

theorem sum_split (g : ℕ → EReal) (n a b : ℕ) (h : n = a + b) :
    ∑ k ∈ Finset.range n, g k = ∑ k ∈ Finset.range a, g k + ∑ k ∈ Finset.range b, g (a + k) := by
  rw [h, Finset.sum_range_add]

/-- 2048 window positions padded 2047 low: the positions up to `t`. -/
theorem window_tot (f : Fin 2048 → EReal) (hf : ∀ s, IsR (f s)) (t : Fin 2048) :
    (∑ n : Fin 2048, if h : 2047 ≤ t.val + n.val then f ⟨t.val + n.val - 2047, by omega⟩ else 0)
      = ((tot (re f) (t.val + 1) : ℝ) : EReal) := by
  have ht := t.isLt
  have e : ∀ n : Fin 2048,
      (if h : 2047 ≤ t.val + n.val then f ⟨t.val + n.val - 2047, by omega⟩ else 0)
        = (fun n : ℕ => if 2047 ≤ t.val + n then nat f (t.val + n - 2047) else 0) n.val := by
    intro n
    show _ = if 2047 ≤ t.val + n.val then nat f (t.val + n.val - 2047) else 0
    split
    · exact (nat_at f ⟨t.val + n.val - 2047, by omega⟩).symm
    · rfl
  rw [Finset.sum_congr rfl fun n _ => e n]
  rw [Fin.sum_univ_eq_sum_range
    (fun n : ℕ => if 2047 ≤ t.val + n then nat f (t.val + n - 2047) else 0) 2048]
  rw [sum_split _ 2048 (2047 - t.val) (t.val + 1) (by omega), Finset.sum_eq_zero, zero_add, tot,
    coe_sum]
  · refine Finset.sum_congr rfl fun n _ => ?_
    rw [if_pos (by omega), ← nat_real hf]
    exact congrArg (nat f) (by omega)
  · intro n hn
    have := Finset.mem_range.mp hn
    rw [if_neg (by omega)]

theorem cumsum (x : FVec Ideal S8x2048x4 .f32) (b : Fin 8) (t : Fin 2048) (h : Fin 4)
    (init : FVec Ideal S_ .f32) (h0 : init (Shape.Idx.first Gen.h_S_) = (0 : EReal))
    (hx : ∀ s, IsR (x (ix3 b s h))) :
    Host.reduceWindowAdd ![1, 2048, 1] ![1, 1, 1] ![0, 2047, 0] ![0, 0, 0] x init
      Gen.reduceWindows_S8x2048x4_S8x2048x4_w1s1p0_0_w2048s1p2047_0_w1s1p0_0 Gen.h_S_ (ix3 b t h)
      = ((tot (re fun s => x (ix3 b s h)) (t.val + 1) : ℝ) : EReal) := by
  rw [reduceWindowAdd_eq _ _ _ _ _ _ _ _ _ h0, ← window_tot _ hx]
  refine Finset.sum_congr rfl fun (n : Fin 2048) _ => ?_
  have e0 : ((Shape.rowMajor (⟨3, ![1, 2048, 1]⟩ : Shape)).symm n 0).val = 0 := by
    have : ((Shape.rowMajor (⟨3, ![1, 2048, 1]⟩ : Shape)).symm n 0).val < 1 := Fin.isLt _
    omega
  have e2 : ((Shape.rowMajor (⟨3, ![1, 2048, 1]⟩ : Shape)).symm n 2).val = 0 := by
    have : ((Shape.rowMajor (⟨3, ![1, 2048, 1]⟩ : Shape)).symm n 2).val < 1 := Fin.isLt _
    omega
  have e1 : ((Shape.rowMajor (⟨3, ![1, 2048, 1]⟩ : Shape)).symm n 1).val = n.val := by
    have hv := Shape.rowMajor_val_three ((Shape.rowMajor (⟨3, ![1, 2048, 1]⟩ : Shape)).symm n)
    have ha := congrArg Fin.val ((Shape.rowMajor (⟨3, ![1, 2048, 1]⟩ : Shape)).apply_symm_apply n)
    have hv' : n.val = (((Shape.rowMajor (⟨3, ![1, 2048, 1]⟩ : Shape)).symm n 0).val * 2048
      + ((Shape.rowMajor (⟨3, ![1, 2048, 1]⟩ : Shape)).symm n 1).val) * 1
      + ((Shape.rowMajor (⟨3, ![1, 2048, 1]⟩ : Shape)).symm n 2).val := ha.symm.trans hv
    omega
  have hb := b.isLt; have ht := t.isLt; have hh := h.isLt; have hnl := n.isLt
  by_cases h7 : 2047 ≤ t.val + n.val
  · rw [dif_pos h7, dif_pos]
    · refine congrArg x (funext fun a => Fin.ext ?_)
      match a with
      | ⟨0, _⟩ => show b.val * 1 + ((Shape.rowMajor (⟨3, ![1, 2048, 1]⟩ : Shape)).symm n 0).val - 0 = b.val; omega
      | ⟨1, _⟩ => show t.val * 1 + ((Shape.rowMajor (⟨3, ![1, 2048, 1]⟩ : Shape)).symm n 1).val - 2047 = t.val + n.val - 2047; omega
      | ⟨2, _⟩ => show h.val * 1 + ((Shape.rowMajor (⟨3, ![1, 2048, 1]⟩ : Shape)).symm n 2).val - 0 = h.val; omega
    · intro a
      match a with
      | ⟨0, _⟩ => show 0 ≤ b.val * 1 + ((Shape.rowMajor (⟨3, ![1, 2048, 1]⟩ : Shape)).symm n 0).val ∧ b.val * 1 + ((Shape.rowMajor (⟨3, ![1, 2048, 1]⟩ : Shape)).symm n 0).val - 0 < 8; omega
      | ⟨1, _⟩ => show 2047 ≤ t.val * 1 + ((Shape.rowMajor (⟨3, ![1, 2048, 1]⟩ : Shape)).symm n 1).val ∧ t.val * 1 + ((Shape.rowMajor (⟨3, ![1, 2048, 1]⟩ : Shape)).symm n 1).val - 2047 < 2048; omega
      | ⟨2, _⟩ => show 0 ≤ h.val * 1 + ((Shape.rowMajor (⟨3, ![1, 2048, 1]⟩ : Shape)).symm n 2).val ∧ h.val * 1 + ((Shape.rowMajor (⟨3, ![1, 2048, 1]⟩ : Shape)).symm n 2).val - 0 < 4; omega
  · rw [dif_neg h7, dif_neg]
    intro hall
    have h1 : 2047 ≤ t.val * 1 + ((Shape.rowMajor (⟨3, ![1, 2048, 1]⟩ : Shape)).symm n 1).val := (hall 1).1
    omega

/-! ## The prompt's numbers -/

/-- Row `t` of sequence `b`. -/
abbrev rowP (b : Fin 8) (t : Fin 2048) : Fin 16384 := ⟨b.val * 2048 + t.val, by omega⟩

section
variable (x0 : FVec Ideal S16384x4104 .f32) (x1 : FVec Ideal S1x4x128x128 .f32)
  (x2 : FVec Ideal S1x4x128 .f32) (x3 : FVec Ideal S1x4 .f32) (x5 : FVec Ideal S4 .f32)
  (b : Fin 8) (h : Fin 4)

/-- The log forget gates. -/
def lfR (t : Fin 2048) : EReal :=
  lgs (x0 (ix2 (rowP b t) (⟨2052 + h.val, by omega⟩ : Fin 4104)) + x5 (ix1 h))
/-- The input gates. -/
def iR (t : Fin 2048) : EReal := x0 (ix2 (rowP b t) (⟨2048 + h.val, by omega⟩ : Fin 4104))
/-- The scaled keys. -/
def kR (d : Fin 128) (t : Fin 2048) : EReal :=
  x0 (ix2 (rowP b t) (⟨512 + (h.val * 128 + d.val), by omega⟩ : Fin 4104))
    * Ideal.ofBits .f32 0x3DB504F3#32
/-- The values. -/
def vR (e : Fin 128) (t : Fin 2048) : EReal :=
  x0 (ix2 (rowP b t) (⟨1024 + (h.val * 128 + e.val), by omega⟩ : Fin 4104))

/-- The stabiliser after `T` positions. -/
def mR (T : ℕ) : ℝ :=
  stab (re (lfR x0 x5 b h)) (re (iR x0 b h)) (x3 (ix2 (0 : Fin 1) h)).toReal T
/-- The normaliser after `T` positions. -/
def nR (d : Fin 128) (T : ℕ) : EReal :=
  mem (re (lfR x0 x5 b h)) (re (iR x0 b h)) (x3 (ix2 (0 : Fin 1) h)).toReal
    (x2 (ix3 (0 : Fin 1) h d)) (nat (kR x0 b h d)) T
/-- The matrix memory after `T` positions. -/
def cR (d e : Fin 128) (T : ℕ) : EReal :=
  mem (re (lfR x0 x5 b h)) (re (iR x0 b h)) (x3 (ix2 (0 : Fin 1) h)).toReal
    (x1 (ix4 (0 : Fin 1) h d e)) (nat fun t => kR x0 b h d t * vR x0 b h e t) T

theorem stab_whole (lf i : ℕ → ℝ) (m0 : ℝ) (T : ℕ) :
    max ((tot lf T : EReal) + (m0 : EReal))
      (Finset.univ.fold max ⊥ fun s : Fin T => (tot lf T : EReal) - (tot lf (s.val + 1) : EReal)
        + (i s.val : EReal)) = (stab lf i m0 T : EReal) := by
  have e := run_stab lf i m0 0 T
  have h0 : tot lf 0 = 0 := Finset.sum_range_zero _
  simpa only [Nat.zero_add, h0, sub_zero, stab] using e
theorem mem_whole (lf i : ℕ → ℝ) (m0 : ℝ) (n0 : EReal) (k : ℕ → EReal) (T : ℕ) :
    Ideal.exp ((tot lf T : EReal) + (m0 : EReal) - (stab lf i m0 T : EReal)) * n0
      + ∑ s : Fin T, Ideal.exp ((tot lf T : EReal) - (tot lf (s.val + 1) : EReal)
          + (i s.val : EReal) - (stab lf i m0 T : EReal)) * k s.val
      = mem lf i m0 n0 k T := by
  have e := run_mem lf i m0 n0 k 0 T
  have h0 : tot lf 0 = 0 := Finset.sum_range_zero _
  simpa only [Nat.zero_add, h0, sub_zero, stab, mem] using e

theorem v12_at (t) : val_main_v12 (F := Ideal) x0 x5 (ix3 b t h) = lfR x0 x5 b h t := by
  pointwise [val_main_v12, val_main_call0_v1, val_main_call0_call0_v11, val_main_call0_call0_v10,
    val_main_call0_call0_v9, val_main_call0_call0_v8, val_main_call0_call0_v7,
    val_main_call0_call0_v6, val_main_call0_call0_v5, val_main_call0_call0_v4,
    val_main_call0_call0_v3, val_main_call0_call0_v2, val_main_call0_call0_v1,
    val_main_call0_call0_v0, val_main_call0_call0_cst, val_main_call0_v0, val_main_v11,
    val_main_v10, val_main_v9, val_main_v8, val_main_v0]
  rw [lfR, lgs, if_neg (fun h => h rfl)]
  rfl
theorem v7_at (t) : val_main_v7 (F := Ideal) x0 (ix3 b t h) = iR x0 b h t := by
  pointwise [val_main_v7, val_main_v0]; rfl
theorem v4_at (t d) : val_main_v4 (F := Ideal) x0 (ix4 b t h d) = kR x0 b h d t := by
  pointwise [val_main_v4, val_main_v3, val_main_cst, val_main_v2, val_main_v1, val_main_v0]; rfl
theorem v6_at (t e) : val_main_v6 (F := Ideal) x0 (ix4 b t h e) = vR x0 b h e t := by
  pointwise [val_main_v6, val_main_v5, val_main_v0]; rfl

variable (hf : ∀ t, IsR (lfR x0 x5 b h t)) (hi : ∀ t, IsR (iR x0 b h t))
  (hm : IsR (x3 (ix2 (0 : Fin 1) h)))
include hf

theorem v13_at (t : Fin 2048) : val_main_v13 (F := Ideal) x0 x5 (ix3 b t h)
    = ((tot (re (lfR x0 x5 b h)) (t.val + 1) : ℝ) : EReal) := by
  rw [val_main_v13, cumsum]
  · simp only [v12_at]
  · pointwise [val_main_call1_call0_v0, val_main_call1_call0_cst]
  · intro s; rw [v12_at]; exact hf s
theorem v15_at : val_main_v15 (F := Ideal) x0 x5 (ix2 b h)
    = ((tot (re (lfR x0 x5 b h)) 2048 : ℝ) : EReal) := by
  pointwise [val_main_v15, val_main_v14]
  exact v13_at x0 x5 b h hf ⟨2047, by omega⟩

include hi
theorem v19_at (t : Fin 2048) : val_main_v19 (F := Ideal) x0 x5 (ix3 b t h)
    = ((tot (re (lfR x0 x5 b h)) 2048 : ℝ) : EReal)
      - ((tot (re (lfR x0 x5 b h)) (t.val + 1) : ℝ) : EReal)
      + ((re (iR x0 b h) t.val : ℝ) : EReal) := by
  pointwise [val_main_v19, val_main_v18, val_main_v17, val_main_v16]
  rw [v15_at x0 x5 b h hf, v13_at x0 x5 b h hf, v7_at, ← re_at hi]

include hm
theorem v23_at : val_main_v23 (F := Ideal) x0 x3 x5 (ix2 b h)
    = (mR x0 x3 x5 b h 2048 : EReal) := by
  pointwise [val_main_v23, val_main_v22, val_main_v21, val_main_v20, val_main_cst_0]
  simp only [v19_at x0 x5 b h hf hi]
  rw [v15_at x0 x5 b h hf, ninf, mR, ← stab_whole, coe_toReal hm]
theorem v108_at : val_main_v108 (F := Ideal) x0 x3 x5 (ix3 b (0 : Fin 1) h)
    = (mR x0 x3 x5 b h 2048 : EReal) := by
  pointwise [val_main_v108]
  exact v23_at x0 x3 x5 b h hf hi hm
theorem v27_at : val_main_v27 (F := Ideal) x0 x3 x5 (ix2 b h)
    = Ideal.exp (((tot (re (lfR x0 x5 b h)) 2048 : ℝ) : EReal) + x3 (ix2 (0 : Fin 1) h)
      - (mR x0 x3 x5 b h 2048 : EReal)) := by
  pointwise [val_main_v27, val_main_v26, val_main_v25, val_main_v24]
  rw [v15_at x0 x5 b h hf, v23_at x0 x3 x5 b h hf hi hm]
theorem v31_at (t : Fin 2048) : val_main_v31 (F := Ideal) x0 x3 x5 (ix3 b t h)
    = Ideal.exp (((tot (re (lfR x0 x5 b h)) 2048 : ℝ) : EReal)
      - ((tot (re (lfR x0 x5 b h)) (t.val + 1) : ℝ) : EReal)
      + ((re (iR x0 b h) t.val : ℝ) : EReal) - (mR x0 x3 x5 b h 2048 : EReal)) := by
  pointwise [val_main_v31, val_main_v30, val_main_v29, val_main_v28]
  rw [v19_at x0 x5 b h hf hi, v23_at x0 x3 x5 b h hf hi hm]
theorem v34_at (t d) : val_main_v34 (F := Ideal) x0 x3 x5 (ix4 b t h d)
    = Ideal.exp (((tot (re (lfR x0 x5 b h)) 2048 : ℝ) : EReal)
      - ((tot (re (lfR x0 x5 b h)) (t.val + 1) : ℝ) : EReal)
      + ((re (iR x0 b h) t.val : ℝ) : EReal) - (mR x0 x3 x5 b h 2048 : EReal))
      * kR x0 b h d t := by
  pointwise [val_main_v34, val_main_v33, val_main_v32]
  rw [v31_at x0 x3 x5 b h hf hi hm, v4_at]

theorem v46_at (d) : val_main_v46 (F := Ideal) x0 x2 x3 x5 (ix3 b h d)
    = nR x0 x2 x3 x5 b h d 2048 := by
  pointwise [val_main_v46, val_main_v45, val_main_v44, val_main_v43, val_main_v42, val_main_v41,
    val_main_cst_1]
  rw [v27_at x0 x3 x5 b h hf hi hm, nR, ← mem_whole, coe_toReal hm]
  simp only [v34_at x0 x3 x5 b h hf hi hm, nat_at]
  rfl
theorem v40_at (d e) : val_main_v40 (F := Ideal) x0 x1 x3 x5 (ix4 b h d e)
    = cR x0 x1 x3 x5 b h d e 2048 := by
  pointwise [val_main_v40, val_main_v39, val_main_v38, val_main_v37, val_main_v36, val_main_v35]
  rw [v27_at x0 x3 x5 b h hf hi hm, cR, ← mem_whole, coe_toReal hm]
  simp only [v34_at x0 x3 x5 b h hf hi hm, v6_at, nat_at, mul_assoc]
  rfl
end

end Cert.PromptMix
-- ==== Proof.PromptMix.Arrays.lean ====
/-
  The prompt mixer's memories, step by step: after a sequence's chunk `j` they hold the recurrence after
  `128 (j + 1)` positions, so what the last chunk writes back is the reference's result.
-/
module

public import proofs.«01_k».proof.Proof.PromptMix.Host
public import proofs.«01_k».proof.Proof.PromptMix.Reference
public import proofs.«01_k».proof.Proof.Gen.Kernel8Ideal.Value

@[expose] public section

noncomputable section

namespace Cert.PromptMix

open Idealize.ShloMosaic Idealize.ShloMosaic.TcCoe Idealize.SL.Sem Cert.Kernel8Ideal Cert.Kernel8Ideal.Gen
open Cert.Kernel8Ideal.Value
open Cert.Sample (IsR lgs)

variable (m : (ℓ : Loc nD τ sig) → Buf (Elt Ideal) ℓ) (c : Dev nD)

/-- The arguments. -/
abbrev y0 := m ((c : Thread nD τ).loc main_arg0)
abbrev y1 := m ((c : Thread nD τ).loc main_arg1)
abbrev y2 := m ((c : Thread nD τ).loc main_arg2)
abbrev y3 := m ((c : Thread nD τ).loc main_arg3)
abbrev y5 := m ((c : Thread nD τ).loc main_arg5)

/-- The sequence step `n` works on. -/
abbrev seqN (n : ℕ) (hn : n < grid0.N) : Fin 8 :=
  ⟨n / 16, by have h : grid0.N = 128 := rfl; omega⟩
/-- The position of row `s` of step `n`. -/
abbrev posN (n : ℕ) (s : Fin 128) : Fin 2048 := ⟨128 * (n % 16) + s.val, by omega⟩

/-! ## What the input windows hold -/

theorem in_lo (t : Fin grid0.N) (s : Fin 128) (l : Fin 2048) :
    iblk m c 0 t (ix2 s (⟨l.val, by omega⟩ : Fin 4224))
      = y0 m c (ix2 (rowP (seqN t.val t.isLt) (posN t.val s)) (⟨l.val, by omega⟩ : Fin 4104)) := by
  show V m c main_v4 (((cfg0.win 0).blk t).view.emb (ix2 _ _)) = _
  rw [emb0, V_v4]
  refine (regroup_lo (F := Ideal) _ _ l).trans (congrArg (fun r => y0 m c (ix2 r _)) (Fin.ext ?_))
  show 128 * t.val + s.val = t.val / 16 * 2048 + (128 * (t.val % 16) + s.val)
  omega
theorem in_gt (t : Fin grid0.N) (s : Fin 128) (l : Fin 8) :
    iblk m c 0 t (ix2 s (⟨4096 + l.val, by omega⟩ : Fin 4224))
      = y0 m c (ix2 (rowP (seqN t.val t.isLt) (posN t.val s)) (⟨2048 + l.val, by omega⟩ : Fin 4104)) := by
  show V m c main_v4 (((cfg0.win 0).blk t).view.emb (ix2 _ _)) = _
  rw [emb0, V_v4]
  refine (regroup_gt (F := Ideal) _ _ l).trans (congrArg (fun r => y0 m c (ix2 r _)) (Fin.ext ?_))
  show 128 * t.val + s.val = t.val / 16 * 2048 + (128 * (t.val % 16) + s.val)
  omega
theorem in_C (t : Fin grid0.N) (h : Fin 4) (d e : Fin 128) :
    iblk m c 1 t (ix4 (0 : Fin 1) h d e) = y1 m c (ix4 (0 : Fin 1) h d e) := by
  show V m c main_arg1 (((cfg0.win 1).blk t).view.emb (ix4 _ _ _ _)) = _
  rw [emb1, V_main_arg1]
theorem in_n (t : Fin grid0.N) (h : Fin 4) (d : Fin 128) :
    iblk m c 2 t (ix3 (0 : Fin 1) h d) = y2 m c (ix3 (0 : Fin 1) h d) := by
  show V m c main_arg2 (((cfg0.win 2).blk t).view.emb (ix3 _ _ _)) = _
  rw [emb2, V_main_arg2]
theorem lane_at {F : FTy → Type} [FloatOps F] (x : FVec F S1x4 .f32) (h : Fin 4) :
    shapeCast S1x1x4 x shapeCasts_S1x4_S1x1x4 (ix3 (0 : Fin 1) (0 : Fin 1) h)
      = x (ix2 (0 : Fin 1) h) := by
  pointwise
theorem in_m (t : Fin grid0.N) (h : Fin 4) :
    iblk m c 3 t (ix3 (0 : Fin 1) (0 : Fin 1) h) = y3 m c (ix2 (0 : Fin 1) h) := by
  show V m c main_v25 (((cfg0.win 3).blk t).view.emb (ix3 _ _ _)) = _
  rw [emb3, V_v25]
  exact lane_at (F := Ideal) _ h
theorem in_bias (t : Fin grid0.N) (h : Fin 4) :
    iblk m c 5 t (ix2 (0 : Fin 1) (laneF h)) = y5 m c (ix1 h) := by
  show V m c main_v9 (((cfg0.win 5).blk t).view.emb (ix2 _ _)) = _
  rw [emb5, V_v9]
  exact biasRow_at (F := Ideal) _ h

theorem chF_at (t : Fin grid0.N) (h : Fin 4) (s : Fin 128) :
    chF (iblk m c 0 t) (iblk m c 5 t) h s = lfR (y0 m c) (y5 m c) (seqN t.val t.isLt) h (posN t.val s) := by
  have e := in_gt m c t s (⟨4 + h.val, by omega⟩ : Fin 8)
  have l1 : (⟨4096 + (4 + h.val), by omega⟩ : Fin 4224) = ⟨4100 + h.val, by omega⟩ :=
    Fin.ext (by show 4096 + (4 + h.val) = 4100 + h.val; omega)
  have l2 : (⟨2048 + (4 + h.val), by omega⟩ : Fin 4104) = ⟨2052 + h.val, by omega⟩ :=
    Fin.ext (by show 2048 + (4 + h.val) = 2052 + h.val; omega)
  have e' : iblk m c 0 t (ix2 s (⟨4100 + h.val, by omega⟩ : Fin 4224))
      = y0 m c (ix2 (rowP (seqN t.val t.isLt) (posN t.val s)) (⟨2052 + h.val, by omega⟩ : Fin 4104)) :=
    ((congrArg (fun l => iblk m c 0 t (ix2 s l)) l1).symm.trans e).trans
      (congrArg (fun l => y0 m c (ix2 (rowP (seqN t.val t.isLt) (posN t.val s)) l)) l2)
  exact congrArg lgs (congrArg₂ (· + ·) e' (in_bias m c t h))
theorem chI_at (t : Fin grid0.N) (h : Fin 4) (s : Fin 128) :
    chI (iblk m c 0 t) h s = iR (y0 m c) (seqN t.val t.isLt) h (posN t.val s) :=
  in_gt m c t s (⟨h.val, by omega⟩ : Fin 8)
theorem chK_at (t : Fin grid0.N) (h : Fin 4) (s d : Fin 128) :
    chK (iblk m c 0 t) h s d = kR (y0 m c) (seqN t.val t.isLt) h d (posN t.val s) := by
  have l1 : (⟨512 + (h.val * 128 + d.val), by omega⟩ : Fin 4224) = ⟨512 + 128 * h.val + d.val, by omega⟩ :=
    Fin.ext (by show 512 + (h.val * 128 + d.val) = 512 + 128 * h.val + d.val; omega)
  exact congrArg (· * Ideal.ofBits .f32 0x3DB504F3#32)
    ((congrArg (fun l => iblk m c 0 t (ix2 s l)) l1).symm.trans
      (in_lo m c t s (⟨512 + (h.val * 128 + d.val), by omega⟩ : Fin 2048)))
theorem chV_at (t : Fin grid0.N) (h : Fin 4) (s e : Fin 128) :
    chV (iblk m c 0 t) h s e = vR (y0 m c) (seqN t.val t.isLt) h e (posN t.val s) := by
  have l1 : (⟨1024 + (h.val * 128 + e.val), by omega⟩ : Fin 4224) = ⟨1024 + 128 * h.val + e.val, by omega⟩ :=
    Fin.ext (by show 1024 + (h.val * 128 + e.val) = 1024 + 128 * h.val + e.val; omega)
  exact (congrArg (fun l => iblk m c 0 t (ix2 s l)) l1).symm.trans
      (in_lo m c t s (⟨1024 + (h.val * 128 + e.val), by omega⟩ : Fin 2048))

/-- Real gates and a real initial stabiliser. -/
structure Gates (z0 : FVec Ideal Reference8Ideal.S16384x4104 .f32) (z3 : FVec Ideal Reference8Ideal.S1x4 .f32)
    (z5 : FVec Ideal Reference8Ideal.S4 .f32) : Prop where
  f : ∀ b h t, IsR (lfR z0 z5 b h t)
  i : ∀ b h t, IsR (iR z0 b h t)
  m : ∀ h, IsR (z3 (ix2 (0 : Fin 1) h))

/-- The memories after step `n`. -/
structure Held (n : ℕ) (hn : n < cfg0.N) (T : ℕ) : Prop where
  M : ∀ h, (outsAt0 m c n hn).2.2.2.1 (ix3 (0 : Fin 1) (0 : Fin 1) h)
    = (mR (y0 m c) (y3 m c) (y5 m c) (seqN n hn) h T : EReal)
  N : ∀ h d, (outsAt0 m c n hn).2.2.1 (ix3 (0 : Fin 1) h d)
    = nR (y0 m c) (y2 m c) (y3 m c) (y5 m c) (seqN n hn) h d T
  C : ∀ h d e, (outsAt0 m c n hn).2.1 (ix4 (0 : Fin 1) h d e)
    = cR (y0 m c) (y1 m c) (y3 m c) (y5 m c) (seqN n hn) h d e T

theorem inj10 : ∀ t t' : Fin grid0.N, t.val % 16 = 15 → t'.val % 16 = 15 →
    win0_10.index t = win0_10.index t' → t = t' := by
  intro t t' h h' e
  have e0 := congrFun e 0
  rw [(idx10 t).1, (idx10 t').1] at e0
  exact Fin.ext (by omega)

theorem flush10 : ∀ t : Fin grid0.N, (cfg0.win 10).flush t = true ↔ t.val % 16 = 15 := by
  decide +kernel

theorem blocks10 (t : Fin cfg0.N) (hf : t.val % 16 = 15) :
    ((cfg0.win 10).blk t).view.read (Elt Ideal) ((dats m 0 c).arrAt 10 cfg0.N) = (dats m 0 c).flushed 10 t :=
  (dats m 0 c).read_blk_arrAt_eq_flushed 10
    (fun t t' h h' hne => (cfg0.win 10).disjoint_blk fun e =>
      hne (inj10 t t' ((flush10 t).mp h) ((flush10 t').mp h') e))
    cfg0.N t t.isLt ((flush10 t).mpr hf)

theorem inj11 : ∀ t t' : Fin grid0.N, t.val % 16 = 15 → t'.val % 16 = 15 →
    win0_11.index t = win0_11.index t' → t = t' := by
  intro t t' h h' e
  have e0 := congrFun e 0
  rw [(idx11 t).1, (idx11 t').1] at e0
  exact Fin.ext (by omega)

theorem flush11 : ∀ t : Fin grid0.N, (cfg0.win 11).flush t = true ↔ t.val % 16 = 15 := by
  decide +kernel

theorem blocks11 (t : Fin cfg0.N) (hf : t.val % 16 = 15) :
    ((cfg0.win 11).blk t).view.read (Elt Ideal) ((dats m 0 c).arrAt 11 cfg0.N) = (dats m 0 c).flushed 11 t :=
  (dats m 0 c).read_blk_arrAt_eq_flushed 11
    (fun t t' h h' hne => (cfg0.win 11).disjoint_blk fun e =>
      hne (inj11 t t' ((flush11 t).mp h) ((flush11 t').mp h') e))
    cfg0.N t t.isLt ((flush11 t).mpr hf)

theorem inj12 : ∀ t t' : Fin grid0.N, t.val % 16 = 15 → t'.val % 16 = 15 →
    win0_12.index t = win0_12.index t' → t = t' := by
  intro t t' h h' e
  have e0 := congrFun e 0
  rw [(idx12 t).1, (idx12 t').1] at e0
  exact Fin.ext (by omega)

theorem flush12 : ∀ t : Fin grid0.N, (cfg0.win 12).flush t = true ↔ t.val % 16 = 15 := by
  decide +kernel

theorem blocks12 (t : Fin cfg0.N) (hf : t.val % 16 = 15) :
    ((cfg0.win 12).blk t).view.read (Elt Ideal) ((dats m 0 c).arrAt 12 cfg0.N) = (dats m 0 c).flushed 12 t :=
  (dats m 0 c).read_blk_arrAt_eq_flushed 12
    (fun t t' h h' hne => (cfg0.win 12).disjoint_blk fun e =>
      hne (inj12 t t' ((flush12 t).mp h) ((flush12 t').mp h') e))
    cfg0.N t t.isLt ((flush12 t).mpr hf)

/-- The last step of sequence `b`. -/
abbrev lastP (b : Fin 8) : Fin grid0.N :=
  ⟨16 * b.val + 15, by have h : grid0.N = 128 := rfl; omega⟩

theorem last_mod (b : Fin 8) : (lastP b).val % 16 = 15 := by show (16 * b.val + 15) % 16 = 15; omega

theorem seq_last (b : Fin 8) : seqN (lastP b).val (lastP b).isLt = b :=
  Fin.ext (by show (16 * b.val + 15) / 16 = b.val; omega)

theorem all_last (b : Fin 8) : 128 * ((lastP b).val % 16) + 128 = 2048 := by rw [last_mod]

variable (G : Gates (y0 m c) (y3 m c) (y5 m c))
include G

theorem hf_at (t : Fin grid0.N) (h : Fin 4) (s : Fin 128) :
    chF (iblk m c 0 t) (iblk m c 5 t) h s
      = (re (lfR (y0 m c) (y5 m c) (seqN t.val t.isLt) h) (128 * (t.val % 16) + s.val) : EReal) := by
  rw [chF_at]
  exact re_at (G.f _ h) (posN t.val s)
theorem hi_at (t : Fin grid0.N) (h : Fin 4) (s : Fin 128) :
    chI (iblk m c 0 t) h s
      = (re (iR (y0 m c) (seqN t.val t.isLt) h) (128 * (t.val % 16) + s.val) : EReal) := by
  rw [chI_at]
  exact re_at (G.i _ h) (posN t.val s)
theorem hfR (t : Fin grid0.N) (h : Fin 4) (s : Fin 128) :
    IsR (chF (iblk m c 0 t) (iblk m c 5 t) h s) := ⟨_, hf_at m c G t h s⟩
theorem hiR (t : Fin grid0.N) (h : Fin 4) (s : Fin 128) :
    IsR (chI (iblk m c 0 t) h s) := ⟨_, hi_at m c G t h s⟩

/-! ## One chunk -/

theorem step_M (t : Fin grid0.N) (h : Fin 4) (M : EReal)
    (hM : M = (mR (y0 m c) (y3 m c) (y5 m c) (seqN t.val t.isLt) h (128 * (t.val % 16)) : EReal)) :
    mx (cum (chF (iblk m c 0 t) (iblk m c 5 t) h)) (chI (iblk m c 0 t) h) M 127
      = (mR (y0 m c) (y3 m c) (y5 m c) (seqN t.val t.isLt) h (128 * (t.val % 16) + 128) : EReal) := by
  rw [hM]
  exact chunk_mx _ _ _ _ _ _ (hf_at m c G t h) (hi_at m c G t h)
theorem step_N (t : Fin grid0.N) (h : Fin 4) (d : Fin 128) (M : EReal) (N : Fin 128 → EReal)
    (hM : M = (mR (y0 m c) (y3 m c) (y5 m c) (seqN t.val t.isLt) h (128 * (t.val % 16)) : EReal))
    (hN : N d = nR (y0 m c) (y2 m c) (y3 m c) (y5 m c) (seqN t.val t.isLt) h d (128 * (t.val % 16))) :
    nNew (cum (chF (iblk m c 0 t) (iblk m c 5 t) h)) (chI (iblk m c 0 t) h) M
        (chK (iblk m c 0 t) h) N d
      = nR (y0 m c) (y2 m c) (y3 m c) (y5 m c) (seqN t.val t.isLt) h d (128 * (t.val % 16) + 128) := by
  rw [hM]
  exact chunk_nNew _ _ _ _ _ _ (hf_at m c G t h) (hi_at m c G t h) _ _ _ _ _
    (fun s => (chK_at m c t h s d).trans (nat_at _ (posN t.val s)).symm) hN
theorem step_C (t : Fin grid0.N) (h : Fin 4) (d e : Fin 128) (M : EReal) (C : Fin 128 → Fin 128 → EReal)
    (hM : M = (mR (y0 m c) (y3 m c) (y5 m c) (seqN t.val t.isLt) h (128 * (t.val % 16)) : EReal))
    (hC : C d e = cR (y0 m c) (y1 m c) (y3 m c) (y5 m c) (seqN t.val t.isLt) h d e (128 * (t.val % 16))) :
    cNew (cum (chF (iblk m c 0 t) (iblk m c 5 t) h)) (chI (iblk m c 0 t) h) M
        (chK (iblk m c 0 t) h) (chV (iblk m c 0 t) h) C d e
      = cR (y0 m c) (y1 m c) (y3 m c) (y5 m c) (seqN t.val t.isLt) h d e (128 * (t.val % 16) + 128) := by
  rw [hM]
  exact chunk_cNew _ _ _ _ _ _ (hf_at m c G t h) (hi_at m c G t h) _ _ _ _ _ _ _
    (fun s => (congrArg₂ (· * ·) (chK_at m c t h s d) (chV_at m c t h s e)).trans
      (nat_at (fun p => kR (y0 m c) (seqN t.val t.isLt) h d p * vR (y0 m c) (seqN t.val t.isLt) h e p)
        (posN t.val s)).symm) hC

/-! ## All chunks -/

theorem held_A (t : Fin cfg0.N) (h0 : t.val % 16 = 0) (h1 : ¬t.val % 16 = 15) :
    Held m c t.val t.isLt (128 * (t.val % 16) + 128) := by
  have hM : ∀ h, iblk m c 3 t (ix3 (0 : Fin 1) (0 : Fin 1) h)
      = (mR (y0 m c) (y3 m c) (y5 m c) (seqN t.val t.isLt) h (128 * (t.val % 16)) : EReal) := by
    intro h
    rw [in_m, h0]
    exact (coe_toReal (G.m h)).symm
  have hN : ∀ h d, iblk m c 2 t (ix3 (0 : Fin 1) h d)
      = nR (y0 m c) (y2 m c) (y3 m c) (y5 m c) (seqN t.val t.isLt) h d (128 * (t.val % 16)) := by
    intro h d
    rw [in_n, h0]
    rfl
  have hC : ∀ h d e, iblk m c 1 t (ix4 (0 : Fin 1) h d e)
      = cR (y0 m c) (y1 m c) (y3 m c) (y5 m c) (seqN t.val t.isLt) h d e (128 * (t.val % 16)) := by
    intro h d e
    rw [in_C, h0]
    rfl
  refine ⟨fun h => ?_, fun h d => ?_, fun h d e => ?_⟩
  · refine (congrFun (congrArg (·.2.2.2.1) (outsAt0_A m c t h0 h1)) _).trans ?_
    dsimp only
    exact (outM_A (hf := hfR m c G t) (hi := hiR m c G t) ..).trans (step_M m c G t h _ (hM h))
  · refine (congrFun (congrArg (·.2.2.1) (outsAt0_A m c t h0 h1)) _).trans ?_
    dsimp only
    exact (outN_A (hf := hfR m c G t) (hi := hiR m c G t) ..).trans (step_N m c G t h d _ _ (hM h) (hN h d))
  · refine (congrFun (congrArg (·.2.1) (outsAt0_A m c t h0 h1)) _).trans ?_
    dsimp only
    exact (outC_A (hf := hfR m c G t) (hi := hiR m c G t) ..).trans (step_C m c G t h d e _ _ (hM h) (hC h d e))

theorem held_B (t : Fin cfg0.N) (h0 : ¬t.val % 16 = 0) (h1 : ¬t.val % 16 = 15)
    (P : Held m c (t.val - 1) (Nat.lt_of_le_of_lt (Nat.sub_le _ _) t.isLt) (128 * ((t.val - 1) % 16) + 128)) :
    Held m c t.val t.isLt (128 * (t.val % 16) + 128) := by
  have hb : seqN (t.val - 1) (Nat.lt_of_le_of_lt (Nat.sub_le _ _) t.isLt) = seqN t.val t.isLt :=
    Fin.ext (by show (t.val - 1) / 16 = t.val / 16; omega)
  have hT : 128 * ((t.val - 1) % 16) + 128 = 128 * (t.val % 16) := by omega
  obtain ⟨hM, hN, hC⟩ := P
  rw [hb, hT] at hM hN hC
  refine ⟨fun h => ?_, fun h d => ?_, fun h d e => ?_⟩
  · refine (congrFun (congrArg (·.2.2.2.1) (outsAt0_B m c t h0 h1)) _).trans ?_
    dsimp only
    exact (outM_B (hf := hfR m c G t) (hi := hiR m c G t) ..).trans (step_M m c G t h _ (hM h))
  · refine (congrFun (congrArg (·.2.2.1) (outsAt0_B m c t h0 h1)) _).trans ?_
    dsimp only
    exact (outN_B (hf := hfR m c G t) (hi := hiR m c G t) ..).trans (step_N m c G t h d _ _ (hM h) (hN h d))
  · refine (congrFun (congrArg (·.2.1) (outsAt0_B m c t h0 h1)) _).trans ?_
    dsimp only
    exact (outC_B (hf := hfR m c G t) (hi := hiR m c G t) ..).trans (step_C m c G t h d e _ _ (hM h) (hC h d e))

theorem held_C (t : Fin cfg0.N) (h0 : ¬t.val % 16 = 0) (h1 : t.val % 16 = 15)
    (P : Held m c (t.val - 1) (Nat.lt_of_le_of_lt (Nat.sub_le _ _) t.isLt) (128 * ((t.val - 1) % 16) + 128)) :
    Held m c t.val t.isLt (128 * (t.val % 16) + 128) := by
  have hb : seqN (t.val - 1) (Nat.lt_of_le_of_lt (Nat.sub_le _ _) t.isLt) = seqN t.val t.isLt :=
    Fin.ext (by show (t.val - 1) / 16 = t.val / 16; omega)
  have hT : 128 * ((t.val - 1) % 16) + 128 = 128 * (t.val % 16) := by omega
  obtain ⟨hM, hN, hC⟩ := P
  rw [hb, hT] at hM hN hC
  refine ⟨fun h => ?_, fun h d => ?_, fun h d e => ?_⟩
  · refine (congrFun (congrArg (·.2.2.2.1) (outsAt0_C m c t h0 h1)) _).trans ?_
    dsimp only
    exact (outM_C (hf := hfR m c G t) (hi := hiR m c G t) ..).trans (step_M m c G t h _ (hM h))
  · refine (congrFun (congrArg (·.2.2.1) (outsAt0_C m c t h0 h1)) _).trans ?_
    dsimp only
    exact (outN_C (hf := hfR m c G t) (hi := hiR m c G t) ..).trans (step_N m c G t h d _ _ (hM h) (hN h d))
  · refine (congrFun (congrArg (·.2.1) (outsAt0_C m c t h0 h1)) _).trans ?_
    dsimp only
    exact (outC_C (hf := hfR m c G t) (hi := hiR m c G t) ..).trans (step_C m c G t h d e _ _ (hM h) (hC h d e))

theorem held (n : ℕ) : ∀ hn : n < cfg0.N, Held m c n hn (128 * (n % 16) + 128) := by
  induction n with
  | zero => intro hn; exact held_A m c G ⟨0, hn⟩ (by rfl) (by show ¬ 0 % 16 = 15; omega)
  | succ n ih =>
    intro hn
    by_cases h0 : (n + 1) % 16 = 0
    · exact held_A m c G ⟨n + 1, hn⟩ h0 (by show ¬ (n + 1) % 16 = 15; omega)
    · by_cases h1 : (n + 1) % 16 = 15
      · exact held_C m c G ⟨n + 1, hn⟩ h0 h1 (ih (Nat.lt_of_succ_lt hn))
      · exact held_B m c G ⟨n + 1, hn⟩ h0 h1 (ih (Nat.lt_of_succ_lt hn))

/-! ## The result arrays -/

theorem C_entry (b : Fin 8) (h : Fin 4) (d : Fin 128) (e : Fin 128) :
    (dats m 0 c).arrAt 10 cfg0.N (ix4 b h d e)
      = Reference8Ideal.Read.val_main_v40 (F := Ideal) (y0 m c) (y1 m c) (y3 m c) (y5 m c) (ix4 b h d e) := by
  have hk := congrFun (blocks10 m c (lastP b) (last_mod b)) (ix4 (0 : Fin 1) h d e)
  rw [flushed10] at hk
  have hv := (held m c G (lastP b).val (lastP b).isLt).C h d e
  rw [seq_last, all_last] at hv
  refine Eq.trans (Eq.trans ?_ hk) (Eq.trans ?_ (Eq.trans hv
    (v40_at (y0 m c) (y1 m c) (y3 m c) (y5 m c) b h (G.f b h) (G.i b h) (G.m h) d e).symm))
  · refine congrArg _ (Eq.trans ?_ (emb10 (lastP b) (0 : Fin 1) h d e).symm)
    exact congrArg (fun b => ix4 b h d e) (seq_last b).symm
  · rfl
theorem N_entry (b : Fin 8) (h : Fin 4) (d : Fin 128) :
    (dats m 0 c).arrAt 11 cfg0.N (ix3 b h d)
      = Reference8Ideal.Read.val_main_v46 (F := Ideal) (y0 m c) (y2 m c) (y3 m c) (y5 m c) (ix3 b h d) := by
  have hk := congrFun (blocks11 m c (lastP b) (last_mod b)) (ix3 (0 : Fin 1) h d)
  rw [flushed11] at hk
  have hv := (held m c G (lastP b).val (lastP b).isLt).N h d
  rw [seq_last, all_last] at hv
  refine Eq.trans (Eq.trans ?_ hk) (Eq.trans ?_ (Eq.trans hv
    (v46_at (y0 m c) (y2 m c) (y3 m c) (y5 m c) b h (G.f b h) (G.i b h) (G.m h) d).symm))
  · refine congrArg _ (Eq.trans ?_ (emb11 (lastP b) (0 : Fin 1) h d).symm)
    exact congrArg (fun b => ix3 b h d) (seq_last b).symm
  · rfl
theorem M_entry (b : Fin 8) (h : Fin 4) :
    (dats m 0 c).arrAt 12 cfg0.N (ix3 b (0 : Fin 1) h)
      = Reference8Ideal.Read.val_main_v108 (F := Ideal) (y0 m c) (y3 m c) (y5 m c) (ix3 b (0 : Fin 1) h) := by
  have hk := congrFun (blocks12 m c (lastP b) (last_mod b)) (ix3 (0 : Fin 1) (0 : Fin 1) h)
  rw [flushed12] at hk
  have hv := (held m c G (lastP b).val (lastP b).isLt).M h
  rw [seq_last, all_last] at hv
  refine Eq.trans (Eq.trans ?_ hk) (Eq.trans ?_ (Eq.trans hv
    (v108_at (y0 m c) (y3 m c) (y5 m c) b h (G.f b h) (G.i b h) (G.m h)).symm))
  · refine congrArg _ (Eq.trans ?_ (emb12 (lastP b) (0 : Fin 1) (0 : Fin 1) h).symm)
    exact congrArg (fun b => ix3 b (0 : Fin 1) h) (seq_last b).symm
  · rfl

theorem C_arr : (dats m 0 c).arrAt 10 cfg0.N
    = Reference8Ideal.Read.val_main_v40 (F := Ideal) (y0 m c) (y1 m c) (y3 m c) (y5 m c) := by
  funext i
  rw [show i = ix4 (i 0) (i 1) (i 2) (i 3) from (ix4_eta i).symm]
  exact C_entry m c G (i 0) (i 1) (i 2) (i 3)
theorem N_arr : (dats m 0 c).arrAt 11 cfg0.N
    = Reference8Ideal.Read.val_main_v46 (F := Ideal) (y0 m c) (y2 m c) (y3 m c) (y5 m c) := by
  funext i
  rw [show i = ix3 (i 0) (i 1) (i 2) from (ix3_eta i).symm]
  exact N_entry m c G (i 0) (i 1) (i 2)
theorem M_arr : (dats m 0 c).arrAt 12 cfg0.N
    = Reference8Ideal.Read.val_main_v108 (F := Ideal) (y0 m c) (y3 m c) (y5 m c) := by
  funext i
  have h1 : i 1 = (0 : Fin 1) := Subsingleton.elim (α := Fin 1) _ _
  rw [show i = ix3 (i 0) (i 1) (i 2) from (ix3_eta i).symm, h1]
  exact M_entry m c G (i 0) (i 2)

end Cert.PromptMix

end
-- ==== Proof.PromptMix.State.lean ====
/-
  The pieces that one grid step of the prompt mixer stores for the gated linear recurrence: per head
  its state with the value axis first, transposed from the input by the first chunk and back by the
  last one.
-/
module

public import proofs.«01_k».proof.Proof.PromptMix.Block

@[expose] public section

noncomputable section

namespace Cert.PromptMix

open Idealize.ShloMosaic Idealize.ShloMosaic.TcCoe Idealize.SL.Sem Cert.Kernel8Ideal Cert.Kernel8Ideal.Gen

variable {F : FTy → Type} [FloatOps F]

/-! ## The recurrence of one head -/

/-- The logistic function. -/
def logis (x : FVec F S128x128 .f32) : FVec F S128x128 .f32 :=
  divf (broadcast S128x128 c1)
    (addf (broadcast S128x128 c1) (exp (subf (broadcast S128x128 c0) x)))
/-- The last time step. -/
def lastRow (x : FVec F S128x128 .f32) : FVec F S1x128 .f32 :=
  extractStridedSlice S1x128 ![127, 0] x slices_S128x128_o127_0_S1x128
/-- The recurrence's forget gates. -/
def fGate (f : FVec F S128x128 .f32) (lb : FVec F S1x128 .f32) : FVec F S128x128 .f32 :=
  addf (onRows lb)
    (mulf (onRows (subf (broadcast S1x128 c1) lb)) (logis f))
/-- The recurrence's keys. -/
def kGate (f : FVec F S128x128 .f32) (lb : FVec F S1x128 .f32) : FVec F S128x128 .f32 :=
  mulf (onRows (subf (broadcast S1x128 c1) lb)) (logis (subf (broadcast S128x128 c0) f))
/-- The cumulated log forget gates. -/
def aSeq (f : FVec F S128x128 .f32) (lb : FVec F S1x128 .f32) : FVec F S128x128 .f32 :=
  cumRows (log (fGate f lb))
/-- The recurrence's outgoing state, value axis first. -/
def newS (f iv : FVec F S128x128 .f32) (lb : FVec F S1x128 .f32)
    (S : FVec F S128x128 .f32) : FVec F S128x128 .f32 :=
  addf (mulf (broadcastTo S128x128 (exp (lastRow (aSeq f lb))) broadcasts_S1x128_S128x128) S)
    (matmul dot_S128x128_S128x128_S128x128_0_0_1_1_n_n none (bf iv)
      (bf (mulf (kGate f lb) (exp (subf (onRows (lastRow (aSeq f lb))) (aSeq f lb)))))
      (constant S128x128 .f32 0x00000000#32))

/-! ## What a head loads and stores -/

theorem inbR (h : Fin 4) :
    ∀ a, (![0, 128 * h.val] : Fin 2 → Nat) a + S1x128.size a ≤ S1x512.size a := fun a =>
  match a with
  | ⟨0, _⟩ => Nat.le_refl 1
  | ⟨1, _⟩ => (by omega : 128 * h.val + 128 ≤ 512)
/-- Head `h`'s part of a row over the heads. -/
abbrev rectR (h : Fin 4) : Rect S1x512 := Rect.unit ![0, 128 * h.val] S1x128.size (inbR h)
/-- Head `h`'s part of a row over the heads, loaded. -/
def ldR (a : Memref sig .tc .vmem S1x512 .f32) (ha : a.IsWhole) (x : Vec F S1x512 .f32)
    (h : Fin 4) : FVec F S1x128 .f32 :=
  shapeCast S1x128 (View.readAt (Elt F) a.view (rectR h).toLoadRect (ha.unread x))
    shapeCasts_S1x128_S1x128
/-- A head's matrix transposed. -/
def flip (x : FVec F S1x1x128x128 .f32) : FVec F S1x1x128x128 .f32 :=
  unflat (transpose S128x128 [1, 0] (flat x) transposes_S128x128_p1_0_S128x128)
/-- The first pieces of the recurrence's state: each head's initial matrix, value axis first. -/
def firstS (a : Memref sig .tc .vmem S1x4x128x128 .f32) (ha : a.IsWhole)
    (x : Vec F S1x4x128x128 .f32) : List (View.Piece (Elt F) S1x4x128x128 .f32) :=
  heads.map fun h => ⟨rectU h,
    flip (View.readAt (Elt F) a.view (rectU h).toLoadRect (ha.unread x))⟩
/-- Each head's matrix of the list read back, transposed and stored again, head after head. -/
def flips (a : Memref sig .tc .vmem S1x4x128x128 .f32)
    (L : List (View.Piece (Elt F) S1x4x128x128 .f32)) :
    List (Fin 4) → List (View.Piece (Elt F) S1x4x128x128 .f32)
  | [] => L
  | u :: us => ⟨rectU u, flip (a.view.readCov (flips a L us) (rectU u).toLoadRect)⟩
      :: flips a L us

section
variable
  (arg2 : Memref sig .tc .vmem S128x4224 .f32) (harg2 : arg2.IsWhole)
  (arg10 : Memref sig .tc .vmem S1x512 .f32) (harg10 : arg10.IsWhole)
  (x0 : Vec F S128x4224 .f32) (x8 : Vec F S1x512 .f32) (S : Fin 4 → FVec F S128x128 .f32)

/-- A head's outgoing state, value axis first. -/
def vS (h : Fin 4) : FVec F S128x128 .f32 :=
  newS (ldH arg2 harg2 x0 5 h) (ldH arg2 harg2 x0 6 h) (ldR arg10 harg10 x8 h) (S h)
/-- The pieces of the state. -/
def piecesS : List (View.Piece (Elt F) S1x4x128x128 .f32) :=
  heads.map fun h => ⟨rectU h, unflat (vS arg2 harg2 arg10 harg10 x0 x8 S h)⟩
end

end Cert.PromptMix
-- ==== Proof.PromptMix.StateA.lean ====
/-
  Case A of the prompt mixer's grid step (a sequence's first chunk): what it leaves in the window of the
  recurrence's state is the list of pieces of State.lean.
-/
module

public import proofs.«01_k».proof.Proof.PromptMix.State

@[expose] public section

noncomputable section

namespace Cert.PromptMix

open Idealize.ShloMosaic Idealize.ShloMosaic.TcCoe Idealize.SL.Sem Cert.Kernel8Ideal Cert.Kernel8Ideal.Gen

variable {F : FTy → Type} [FloatOps F]

theorem listS_A (c : Dev nD) (i : grid0.Coords) (arg2 : Memref sig .tc .vmem S128x4224 .f32) (harg2 : arg2.IsWhole) (arg3 : Memref sig .tc .vmem S1x4x128x128 .f32) (harg3 : arg3.IsWhole) (arg4 : Memref sig .tc .vmem S1x4x128 .f32) (harg4 : arg4.IsWhole) (arg5 : Memref sig .tc .vmem S1x1x4 .f32) (harg5 : arg5.IsWhole) (arg6 : Memref sig .tc .vmem S1x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x1024 .bf16) (harg11 : arg11.IsWhole) (arg12 : Memref sig .tc .vmem S1x4x128x128 .f32) (harg12 : arg12.IsWhole) (arg13 : Memref sig .tc .vmem S1x4x128 .f32) (harg13 : arg13.IsWhole) (arg14 : Memref sig .tc .vmem S1x1x4 .f32) (harg14 : arg14.IsWhole) (arg15 : Memref sig .tc .vmem S1x4x128x128 .f32) (harg15 : arg15.IsWhole) (hc0 : cond0_0 i) (hc1 : ¬cond0_1 i)
    (x0 : Vec F S128x4224 .f32) (x1 : Vec F S1x4x128x128 .f32) (x2 : Vec F S1x4x128 .f32) (x3 : Vec F S1x1x4 .f32) (x4 : Vec F S1x4x128x128 .f32) (x5 : Vec F S1x128 .f32) (x6 : Vec F S1x512 .f32) (x7 : Vec F S1x512 .f32) (x8 : Vec F S1x512 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.2.1
      = piecesS arg2 harg2 arg10 harg10 x0 x8 (ldU arg15 (firstS arg6 harg6 x4)) ++ firstS arg6 harg6 x4 := by
  sl_kernel_rfl

end Cert.PromptMix
-- ==== Proof.PromptMix.StateB.lean ====
/-
  Case B of the prompt mixer's grid step (a chunk between): what it leaves in the window of the
  recurrence's state is the list of pieces of State.lean.
-/
module

public import proofs.«01_k».proof.Proof.PromptMix.State

@[expose] public section

noncomputable section

namespace Cert.PromptMix

open Idealize.ShloMosaic Idealize.ShloMosaic.TcCoe Idealize.SL.Sem Cert.Kernel8Ideal Cert.Kernel8Ideal.Gen

variable {F : FTy → Type} [FloatOps F]

theorem listS_B (c : Dev nD) (i : grid0.Coords) (arg2 : Memref sig .tc .vmem S128x4224 .f32) (harg2 : arg2.IsWhole) (arg3 : Memref sig .tc .vmem S1x4x128x128 .f32) (harg3 : arg3.IsWhole) (arg4 : Memref sig .tc .vmem S1x4x128 .f32) (harg4 : arg4.IsWhole) (arg5 : Memref sig .tc .vmem S1x1x4 .f32) (harg5 : arg5.IsWhole) (arg6 : Memref sig .tc .vmem S1x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x1024 .bf16) (harg11 : arg11.IsWhole) (arg12 : Memref sig .tc .vmem S1x4x128x128 .f32) (harg12 : arg12.IsWhole) (arg13 : Memref sig .tc .vmem S1x4x128 .f32) (harg13 : arg13.IsWhole) (arg14 : Memref sig .tc .vmem S1x1x4 .f32) (harg14 : arg14.IsWhole) (arg15 : Memref sig .tc .vmem S1x4x128x128 .f32) (harg15 : arg15.IsWhole) (hc0 : ¬cond0_0 i) (hc1 : ¬cond0_1 i)
    (x0 : Vec F S128x4224 .f32) (x1 : Vec F S1x4x128x128 .f32) (x2 : Vec F S1x4x128 .f32) (x3 : Vec F S1x1x4 .f32) (x4 : Vec F S1x4x128x128 .f32) (x5 : Vec F S1x128 .f32) (x6 : Vec F S1x512 .f32) (x7 : Vec F S1x512 .f32) (x8 : Vec F S1x512 .f32) (xo10 : Vec F S1x4x128x128 .f32) (xo11 : Vec F S1x4x128 .f32) (xo12 : Vec F S1x1x4 .f32) (xo13 : Vec F S1x4x128x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xo11 xo12 xo13).2.2.2.2.1
      = piecesS arg2 harg2 arg10 harg10 x0 x8 (reU arg15 harg15 xo13) := by
  sl_kernel_rfl

end Cert.PromptMix
-- ==== Proof.PromptMix.StateC.lean ====
/-
  Case C of the prompt mixer's grid step (a sequence's last chunk): what it leaves in the window of the
  recurrence's state is the list of pieces of State.lean.
-/
module

public import proofs.«01_k».proof.Proof.PromptMix.State

@[expose] public section

noncomputable section

namespace Cert.PromptMix

open Idealize.ShloMosaic Idealize.ShloMosaic.TcCoe Idealize.SL.Sem Cert.Kernel8Ideal Cert.Kernel8Ideal.Gen

variable {F : FTy → Type} [FloatOps F]

theorem listS_C (c : Dev nD) (i : grid0.Coords) (arg2 : Memref sig .tc .vmem S128x4224 .f32) (harg2 : arg2.IsWhole) (arg3 : Memref sig .tc .vmem S1x4x128x128 .f32) (harg3 : arg3.IsWhole) (arg4 : Memref sig .tc .vmem S1x4x128 .f32) (harg4 : arg4.IsWhole) (arg5 : Memref sig .tc .vmem S1x1x4 .f32) (harg5 : arg5.IsWhole) (arg6 : Memref sig .tc .vmem S1x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x1024 .bf16) (harg11 : arg11.IsWhole) (arg12 : Memref sig .tc .vmem S1x4x128x128 .f32) (harg12 : arg12.IsWhole) (arg13 : Memref sig .tc .vmem S1x4x128 .f32) (harg13 : arg13.IsWhole) (arg14 : Memref sig .tc .vmem S1x1x4 .f32) (harg14 : arg14.IsWhole) (arg15 : Memref sig .tc .vmem S1x4x128x128 .f32) (harg15 : arg15.IsWhole) (hc0 : ¬cond0_0 i) (hc1 : cond0_1 i)
    (x0 : Vec F S128x4224 .f32) (x1 : Vec F S1x4x128x128 .f32) (x2 : Vec F S1x4x128 .f32) (x3 : Vec F S1x1x4 .f32) (x4 : Vec F S1x4x128x128 .f32) (x5 : Vec F S1x128 .f32) (x6 : Vec F S1x512 .f32) (x7 : Vec F S1x512 .f32) (x8 : Vec F S1x512 .f32) (xo10 : Vec F S1x4x128x128 .f32) (xo11 : Vec F S1x4x128 .f32) (xo12 : Vec F S1x1x4 .f32) (xo13 : Vec F S1x4x128x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xo11 xo12 xo13).2.2.2.2.1
      = flips arg15 (piecesS arg2 harg2 arg10 harg10 x0 x8 (reU arg15 harg15 xo13)) heads := by
  sl_kernel_rfl

end Cert.PromptMix
-- ==== Proof.PromptMix.Recurrence.lean ====
/-
  The gated linear recurrence position by position, and its form over any run of positions: one
  statement covers a chunk of 128 positions and the whole prompt.
-/
module

public import proofs.«01_k».proof.Proof.PromptMix.Sequence

@[expose] public section

noncomputable section

namespace Cert.PromptMix

open Idealize.ShloMosaic Cert.Sample

/-- The cumulated log forget gate. -/
def al (lb : Fin 128 → EReal) (f : Fin 128 → Fin 128 → EReal) (t c : Fin 128) : EReal :=
  cum (fun s => Ideal.log (fg (lb c) (f s c))) t
/-- The outgoing state. -/
def sNew (lb : Fin 128 → EReal) (f v : Fin 128 → Fin 128 → EReal) (S : Fin 128 → Fin 128 → EReal)
    (c e : Fin 128) : EReal :=
  Ideal.exp (al lb f 127 c) * S c e
    + ∑ s, Ideal.exp (al lb f 127 c - al lb f s c) * kg (lb c) (f s c) * v s e

variable (lf : ℕ → ℝ)

/-- One entry of the state after `T` positions, `k` what each position adds. -/
def lin (s0 : EReal) (k : ℕ → EReal) : ℕ → EReal
  | 0 => s0
  | T + 1 => Ideal.exp (lf T : EReal) * lin s0 k T + k T

theorem lin_run (s0 : EReal) (k : ℕ → EReal) (S T : ℕ) : lin lf s0 k (S + T)
    = Ideal.exp ((tot lf (S + T) - tot lf S : ℝ) : EReal) * lin lf s0 k S
      + ∑ s ∈ Finset.range T, Ideal.exp ((tot lf (S + T) - tot lf (S + s + 1) : ℝ) : EReal)
          * k (S + s) := by
  induction T with
  | zero =>
    rw [Finset.sum_range_zero, Nat.add_zero, add_zero, sub_self, exp_coe, Real.exp_zero,
      EReal.coe_one, one_mul]
  | succ T ih =>
    rw [← Nat.add_assoc, lin, ih, exp_mul_add, exp_mul_sum, Finset.sum_range_succ, add_assoc,
      exp_mul]
    congr 1
    · congr 3
      rw [tot_succ]; ring
    · congr 1
      · refine Finset.sum_congr rfl fun s _ => ?_
        rw [exp_mul]
        congr 3
        rw [tot_succ lf (S + T)]; ring
      · rw [sub_self, exp_coe, Real.exp_zero, EReal.coe_one, one_mul]

theorem run_lin (s0 : EReal) (k : ℕ → EReal) (S T : ℕ) :
    Ideal.exp ((tot lf (S + T) - tot lf S : ℝ) : EReal) * lin lf s0 k S
      + ∑ s : Fin T, Ideal.exp (((tot lf (S + T) - tot lf S : ℝ) : EReal)
          - ((tot lf (S + s.val + 1) - tot lf S : ℝ) : EReal)) * k (S + s.val)
      = lin lf s0 k (S + T) := by
  rw [lin_run lf s0 k S T, Finset.sum_range]
  simp only [← EReal.coe_sub]
  congr 1
  refine Finset.sum_congr rfl fun s _ => ?_
  congr 3
  ring

/-- The state after a chunk. -/
theorem chunk_sNew (lb : Fin 128 → EReal) (f v : Fin 128 → Fin 128 → EReal)
    (X : Fin 128 → Fin 128 → EReal) (c e : Fin 128) (S : ℕ) (s0 : EReal) (kk : ℕ → EReal)
    (hf : ∀ s, Ideal.log (fg (lb c) (f s c)) = (lf (S + s.val) : EReal))
    (hk : ∀ s, kg (lb c) (f s c) * v s e = kk (S + s.val))
    (hX : X c e = lin lf s0 kk S) : sNew lb f v X c e = lin lf s0 kk (S + 128) := by
  have ha : ∀ t, al lb f t c = ((tot lf (S + t.val + 1) - tot lf S : ℝ) : EReal) :=
    fun t => chunk_cum lf (fun s => Ideal.log (fg (lb c) (f s c))) S hf t
  rw [sNew, ha, hX, ← run_lin lf s0 kk S 128]
  simp only [ha, mul_assoc, hk]
  rfl

/-- The state after all positions. -/
theorem lin_whole (s0 : EReal) (k : ℕ → EReal) (T : ℕ) :
    Ideal.exp (tot lf T : EReal) * s0
      + ∑ s : Fin T, Ideal.exp ((tot lf T : EReal) - (tot lf (s.val + 1) : EReal)) * k s.val
      = lin lf s0 k T := by
  have e := run_lin lf s0 k 0 T
  have h0 : tot lf 0 = 0 := Finset.sum_range_zero _
  simpa only [Nat.zero_add, h0, sub_zero, lin] using e

end Cert.PromptMix
-- ==== Proof.PromptMix.StateLoads.lean ====
/-
  The recurrence's state in the prompt mixer, entry by entry: what a chunk leaves is the recurrence
  over its 128 positions.
-/
module

public import proofs.«01_k».proof.Proof.PromptMix.StateA
public import proofs.«01_k».proof.Proof.PromptMix.StateB
public import proofs.«01_k».proof.Proof.PromptMix.StateC
public import proofs.«01_k».proof.Proof.PromptMix.Loads
public import proofs.«01_k».proof.Proof.PromptMix.Recurrence

@[expose] public section

noncomputable section

namespace Cert.PromptMix

open Idealize.ShloMosaic Idealize.ShloMosaic.TcCoe Idealize.SL.Sem Cert.Kernel8Ideal Cert.Kernel8Ideal.Gen
open Cert.Sample (IsR sg fg kg canon_map_at)

/-! ## The functions of one head -/

section
variable (f iv : FVec Ideal S128x128 .f32) (lb : FVec Ideal S1x128 .f32)

/-- A row's entry by lane. -/
abbrev ent1 (x : FVec Ideal S1x128 .f32) (c : Fin 128) : EReal := x (ix2 0 c)

theorem logis_apply (x : FVec Ideal S128x128 .f32) (r l : Fin 128) :
    logis x (ix2 r l) = sg (x (ix2 r l)) := by
  pointwise [logis]
  simp only [sg, zero_sub]
theorem fGate_apply (t c : Fin 128) :
    fGate f lb (ix2 t c) = fg (ent1 lb c) (ent f t c) := by
  pointwise [fGate, onRows]
  rw [logis_apply, fg]
theorem kGate_apply (t c : Fin 128) :
    kGate f lb (ix2 t c) = kg (ent1 lb c) (ent f t c) := by
  pointwise [kGate, onRows]
  rw [logis_apply, kg]
  pointwise []
  rw [zero_sub]
theorem aSeq_apply (t c : Fin 128) :
    aSeq f lb (ix2 t c) = al (ent1 lb) (ent f) t c := by
  have h : ∀ s, log (fGate f lb) (ix2 s c) = Ideal.log (fg (ent1 lb c) (ent f s c)) := fun s => by
    rw [← fGate_apply]; rfl
  rw [aSeq, cumRows_apply, al]
  simp only [h]
theorem newS_apply (S : FVec Ideal S128x128 .f32) (c e : Fin 128) : newS f iv lb S (ix2 e c)
    = sNew (ent1 lb) (ent f) (ent iv) (fun c e => S (ix2 e c)) c e := by
  pointwise [newS, bf, onRows, lastRow]
  simp only [aSeq_apply f lb, kGate_apply f lb]
  unfold sNew
  congr 1
  exact Finset.sum_congr rfl fun s _ => by simp only [ent]; ac_rfl
end

/-! ## Loads and pieces -/

section
variable {F : FTy → Type} [FloatOps F]

theorem embR (h : Fin 4) (e : Fin 128) : (rectR h).emb (ix2 (0 : Fin 1) e)
    = ix2 (0 : Fin 1) (⟨128 * h.val + e.val, by omega⟩ : Fin 512) := by
  funext a
  match a with
  | ⟨0, _⟩ => exact Fin.ext (by show 0 + 1 * 0 = 0; omega)
  | ⟨1, _⟩ => exact Fin.ext (by show 128 * h.val + 1 * e.val = 128 * h.val + e.val; omega)
theorem ldR_apply (a : Memref sig .tc .vmem S1x512 .f32) (ha : a.IsWhole)
    (x : Vec F S1x512 .f32) (h : Fin 4) (e : Fin 128) : ldR a ha x h (ix2 (0 : Fin 1) e)
      = x (ix2 (0 : Fin 1) (⟨128 * h.val + e.val, by omega⟩ : Fin 512)) := by
  refine (congrFun (shapeCast_self _ _) _).trans ?_
  rw [View.readAt_eq_ld, ha.read_unread, ← embR h e]
  rfl
theorem flip_apply (x : FVec F S1x1x128x128 .f32) (c e : Fin 128) :
    flip x (ix4 (0 : Fin 1) (0 : Fin 1) c e) = x (ix4 (0 : Fin 1) (0 : Fin 1) e c) := by
  rw [flip, unflat_apply, ← flat_apply x]
  generalize flat x = y
  pointwise []
theorem canon_firstS (a : Memref sig .tc .vmem S1x4x128x128 .f32) (ha : a.IsWhole)
    (x : Vec F S1x4x128x128 .f32) (h : Fin 4) (c e : Fin 128) :
    View.canon (firstS a ha x) (ix4 (0 : Fin 1) h e c) = x (ix4 (0 : Fin 1) h c e) := by
  have hc := canon_map_at (Val := Elt F) (e := .f32) heads rectU
    (fun u => flip (View.readAt (Elt F) a.view (rectU u).toLoadRect (ha.unread x)))
    [] h (mem_heads _) (ix4 (0 : Fin 1) (0 : Fin 1) e c)
    (fun k _ hk => by rw [embU]; exact notU hk e c)
  rw [List.append_nil, embU] at hc
  rw [firstS, hc, flip_apply, View.readAt_eq_ld, ha.read_unread, ← embU h c e]
  rfl
theorem ldS_apply (a b : Memref sig .tc .vmem S1x4x128x128 .f32) (hb : b.IsWhole)
    (x : Vec F S1x4x128x128 .f32) (h : Fin 4) (c e : Fin 128) :
    ldU a (firstS b hb x) h (ix2 e c) = x (ix4 (0 : Fin 1) h c e) := by
  rw [ldU, flat_apply, View.readCov_eq_canon', ← canon_firstS b hb x h c e, ← embU h e c]
  rfl

/-- The piece that stores head `k`'s matrix transposed. -/
abbrev flipAt (a : Memref sig .tc .vmem S1x4x128x128 .f32)
    (L : List (View.Piece (Elt F) S1x4x128x128 .f32)) (k : Fin 4) :
    View.Piece (Elt F) S1x4x128x128 .f32 :=
  ⟨rectU k, flip (a.view.readCov L (rectU k).toLoadRect)⟩

theorem canon_flips (a : Memref sig .tc .vmem S1x4x128x128 .f32)
    (L : List (View.Piece (Elt F) S1x4x128x128 .f32)) (h : Fin 4) (us : List (Fin 4))
    (hn : us.Nodup) (c e : Fin 128) :
    (h ∉ us → View.canon (flips a L us) (ix4 (0 : Fin 1) h c e) = View.canon L (ix4 (0 : Fin 1) h c e))
      ∧ (h ∈ us → View.canon (flips a L us) (ix4 (0 : Fin 1) h c e)
          = View.canon L (ix4 (0 : Fin 1) h e c)) := by
  induction us generalizing c e with
  | nil => exact ⟨fun _ => rfl, fun hm => absurd hm List.not_mem_nil⟩
  | cons k us ih =>
    have hn' := List.nodup_cons.mp hn
    constructor
    · intro hm
      have hk : k ≠ h := fun hk => hm (by rw [hk]; exact List.mem_cons_self)
      have hd : ix4 (0 : Fin 1) h c e ∉ (rectU k).set := notU hk c e
      refine (View.canon_cons_of_not_mem (flipAt a (flips a L us) k) _ hd).trans ?_
      exact (ih hn'.2 c e).1 fun h' => hm (List.mem_cons_of_mem _ h')
    · intro hm
      by_cases hk : k = h
      · subst hk
        rw [flips, ← embU k c e]
        refine (View.canon_cons_emb _ _ _ _).trans ?_
        rw [flip_apply, View.readCov_eq_canon']
        refine Eq.trans (congrArg (View.canon (flips a L us)) (embU k e c)) ?_
        exact (ih hn'.2 e c).1 hn'.1
      · have hd : ix4 (0 : Fin 1) h c e ∉ (rectU k).set := notU hk c e
        refine (View.canon_cons_of_not_mem (flipAt a (flips a L us) k) _ hd).trans ?_
        exact (ih hn'.2 c e).2 ((List.mem_cons.mp hm).resolve_left fun h' => hk h'.symm)
end

/-! ## The chunk's numbers -/

section
variable (x0 : FVec Ideal S128x4224 .f32) (x8 : FVec Ideal S1x512 .f32) (h : Fin 4)

/-- The gate inputs. -/
def chG (s c : Fin 128) : EReal := x0 (ix2 s (⟨2560 + 128 * h.val + c.val, by omega⟩ : Fin 4224))
/-- The values. -/
def chW (s e : Fin 128) : EReal := x0 (ix2 s (⟨3072 + 128 * h.val + e.val, by omega⟩ : Fin 4224))
/-- The forget floor. -/
def chL (c : Fin 128) : EReal := x8 (ix2 (0 : Fin 1) (⟨128 * h.val + c.val, by omega⟩ : Fin 512))
end

section
variable
  (arg2 : Memref sig .tc .vmem S128x4224 .f32) (harg2 : arg2.IsWhole)
  (arg10 : Memref sig .tc .vmem S1x512 .f32) (harg10 : arg10.IsWhole)
  (x0 : FVec Ideal S128x4224 .f32) (x8 : FVec Ideal S1x512 .f32) (S : Fin 4 → FVec Ideal S128x128 .f32)

theorem g_eq (h : Fin 4) : ent (ldH (F := Ideal) arg2 harg2 x0 5 h) = chG x0 h := by
  funext s c
  show ldH (F := Ideal) arg2 harg2 x0 5 h (ix2 s c) = _
  rw [ldH_apply]; rfl
theorem w_eq (h : Fin 4) : ent (ldH (F := Ideal) arg2 harg2 x0 6 h) = chW x0 h := by
  funext s e
  show ldH (F := Ideal) arg2 harg2 x0 6 h (ix2 s e) = _
  rw [ldH_apply]; rfl
theorem l_eq (h : Fin 4) : ent1 (ldR (F := Ideal) arg10 harg10 x8 h) = chL x8 h := by
  funext c
  show ldR (F := Ideal) arg10 harg10 x8 h (ix2 (0 : Fin 1) c) = _
  rw [ldR_apply]; rfl

theorem vS_at (h : Fin 4) (c e : Fin 128) : vS arg2 harg2 arg10 harg10 x0 x8 S h (ix2 e c)
    = sNew (chL x8 h) (chG x0 h) (chW x0 h) (fun c e => S h (ix2 e c)) c e := by
  rw [vS, newS_apply, g_eq, w_eq, l_eq]
theorem canonS (rest : List (View.Piece (Elt Ideal) S1x4x128x128 .f32)) (h : Fin 4) (e c : Fin 128) :
    View.canon (piecesS arg2 harg2 arg10 harg10 x0 x8 S ++ rest) (ix4 (0 : Fin 1) h e c)
      = vS arg2 harg2 arg10 harg10 x0 x8 S h (ix2 e c) := by
  have hc := canon_map_at (Val := Elt Ideal) (e := .f32) heads rectU
    (fun h => unflat (vS arg2 harg2 arg10 harg10 x0 x8 S h)) rest h (mem_heads h)
    (ix4 (0 : Fin 1) (0 : Fin 1) e c) (fun k _ hk => by rw [embU]; exact notU hk e c)
  rw [embU, unflat_apply] at hc
  exact hc
end

/-! ## What each case leaves -/

theorem outS_A (c : Dev nD) (i : grid0.Coords) (arg2 : Memref sig .tc .vmem S128x4224 .f32) (harg2 : arg2.IsWhole) (arg3 : Memref sig .tc .vmem S1x4x128x128 .f32) (harg3 : arg3.IsWhole) (arg4 : Memref sig .tc .vmem S1x4x128 .f32) (harg4 : arg4.IsWhole) (arg5 : Memref sig .tc .vmem S1x1x4 .f32) (harg5 : arg5.IsWhole) (arg6 : Memref sig .tc .vmem S1x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x1024 .bf16) (harg11 : arg11.IsWhole) (arg12 : Memref sig .tc .vmem S1x4x128x128 .f32) (harg12 : arg12.IsWhole) (arg13 : Memref sig .tc .vmem S1x4x128 .f32) (harg13 : arg13.IsWhole) (arg14 : Memref sig .tc .vmem S1x1x4 .f32) (harg14 : arg14.IsWhole) (arg15 : Memref sig .tc .vmem S1x4x128x128 .f32) (harg15 : arg15.IsWhole) (hc0 : cond0_0 i) (hc1 : ¬cond0_1 i)
    (x0 : Vec Ideal S128x4224 .f32) (x1 : Vec Ideal S1x4x128x128 .f32) (x2 : Vec Ideal S1x4x128 .f32) (x3 : Vec Ideal S1x1x4 .f32) (x4 : Vec Ideal S1x4x128x128 .f32) (x5 : Vec Ideal S1x128 .f32) (x6 : Vec Ideal S1x512 .f32) (x7 : Vec Ideal S1x512 .f32) (x8 : Vec Ideal S1x512 .f32) (h : Fin 4) (r e : Fin 128) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 (ix4 (0 : Fin 1) h e r)
      = sNew (chL x8 h) (chG x0 h) (chW x0 h) (fun r e => x4 (ix4 (0 : Fin 1) h r e)) r e := by
  refine (congrFun (View.read_writes_junk_eq_canon VO0_13 _) _).trans ?_
  refine (congrArg (fun L => View.canon L _) (listS_A ..)).trans ?_
  refine (canonS arg2 harg2 arg10 harg10 x0 x8 (ldU arg15 (firstS arg6 harg6 x4)) (firstS arg6 harg6 x4) h e r).trans ?_
  rw [vS_at]
  simp only [ldS_apply]

theorem outS_B (c : Dev nD) (i : grid0.Coords) (arg2 : Memref sig .tc .vmem S128x4224 .f32) (harg2 : arg2.IsWhole) (arg3 : Memref sig .tc .vmem S1x4x128x128 .f32) (harg3 : arg3.IsWhole) (arg4 : Memref sig .tc .vmem S1x4x128 .f32) (harg4 : arg4.IsWhole) (arg5 : Memref sig .tc .vmem S1x1x4 .f32) (harg5 : arg5.IsWhole) (arg6 : Memref sig .tc .vmem S1x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x1024 .bf16) (harg11 : arg11.IsWhole) (arg12 : Memref sig .tc .vmem S1x4x128x128 .f32) (harg12 : arg12.IsWhole) (arg13 : Memref sig .tc .vmem S1x4x128 .f32) (harg13 : arg13.IsWhole) (arg14 : Memref sig .tc .vmem S1x1x4 .f32) (harg14 : arg14.IsWhole) (arg15 : Memref sig .tc .vmem S1x4x128x128 .f32) (harg15 : arg15.IsWhole) (hc0 : ¬cond0_0 i) (hc1 : ¬cond0_1 i)
    (x0 : Vec Ideal S128x4224 .f32) (x1 : Vec Ideal S1x4x128x128 .f32) (x2 : Vec Ideal S1x4x128 .f32) (x3 : Vec Ideal S1x1x4 .f32) (x4 : Vec Ideal S1x4x128x128 .f32) (x5 : Vec Ideal S1x128 .f32) (x6 : Vec Ideal S1x512 .f32) (x7 : Vec Ideal S1x512 .f32) (x8 : Vec Ideal S1x512 .f32) (xo10 : Vec Ideal S1x4x128x128 .f32) (xo11 : Vec Ideal S1x4x128 .f32) (xo12 : Vec Ideal S1x1x4 .f32) (xo13 : Vec Ideal S1x4x128x128 .f32) (h : Fin 4) (r e : Fin 128) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xo11 xo12 xo13 (ix4 (0 : Fin 1) h e r)
      = sNew (chL x8 h) (chG x0 h) (chW x0 h) (fun r e => xo13 (ix4 (0 : Fin 1) h e r)) r e := by
  refine (congrFun (View.read_writes_junk_eq_canon VO0_13 _) _).trans ?_
  refine (congrArg (fun L => View.canon L _) ((listS_B ..).trans (List.append_nil _).symm)).trans ?_
  refine (canonS arg2 harg2 arg10 harg10 x0 x8 (reU arg15 harg15 xo13) [] h e r).trans ?_
  rw [vS_at]
  simp only [reU_apply]

theorem outS_C (c : Dev nD) (i : grid0.Coords) (arg2 : Memref sig .tc .vmem S128x4224 .f32) (harg2 : arg2.IsWhole) (arg3 : Memref sig .tc .vmem S1x4x128x128 .f32) (harg3 : arg3.IsWhole) (arg4 : Memref sig .tc .vmem S1x4x128 .f32) (harg4 : arg4.IsWhole) (arg5 : Memref sig .tc .vmem S1x1x4 .f32) (harg5 : arg5.IsWhole) (arg6 : Memref sig .tc .vmem S1x4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x1024 .bf16) (harg11 : arg11.IsWhole) (arg12 : Memref sig .tc .vmem S1x4x128x128 .f32) (harg12 : arg12.IsWhole) (arg13 : Memref sig .tc .vmem S1x4x128 .f32) (harg13 : arg13.IsWhole) (arg14 : Memref sig .tc .vmem S1x1x4 .f32) (harg14 : arg14.IsWhole) (arg15 : Memref sig .tc .vmem S1x4x128x128 .f32) (harg15 : arg15.IsWhole) (hc0 : ¬cond0_0 i) (hc1 : cond0_1 i)
    (x0 : Vec Ideal S128x4224 .f32) (x1 : Vec Ideal S1x4x128x128 .f32) (x2 : Vec Ideal S1x4x128 .f32) (x3 : Vec Ideal S1x1x4 .f32) (x4 : Vec Ideal S1x4x128x128 .f32) (x5 : Vec Ideal S1x128 .f32) (x6 : Vec Ideal S1x512 .f32) (x7 : Vec Ideal S1x512 .f32) (x8 : Vec Ideal S1x512 .f32) (xo10 : Vec Ideal S1x4x128x128 .f32) (xo11 : Vec Ideal S1x4x128 .f32) (xo12 : Vec Ideal S1x1x4 .f32) (xo13 : Vec Ideal S1x4x128x128 .f32) (h : Fin 4) (r e : Fin 128) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xo11 xo12 xo13 (ix4 (0 : Fin 1) h r e)
      = sNew (chL x8 h) (chG x0 h) (chW x0 h) (fun r e => xo13 (ix4 (0 : Fin 1) h e r)) r e := by
  refine (congrFun (View.read_writes_junk_eq_canon VO0_13 _) _).trans ?_
  refine (congrArg (fun L => View.canon L _) (listS_C ..)).trans ?_
  refine ((canon_flips arg15 (piecesS arg2 harg2 arg10 harg10 x0 x8 (reU arg15 harg15 xo13)) h heads (by decide) r e).2
    (mem_heads h)).trans ?_
  refine (congrArg (fun L => View.canon L _) (List.append_nil _).symm).trans ?_
  refine (canonS arg2 harg2 arg10 harg10 x0 x8 (reU arg15 harg15 xo13) [] h e r).trans ?_
  rw [vS_at]
  simp only [reU_apply]

end Cert.PromptMix
-- ==== Proof.PromptMix.StateReference.lean ====
/-
  The reference's recurrent state over the whole prompt, entry by entry: the recurrence position by
  position after all 2048, its forget floor one softmax weight of two logits.
-/
module

public import proofs.«01_k».proof.Proof.PromptMix.Reference
public import proofs.«01_k».proof.Proof.PromptMix.Recurrence

@[expose] public section

noncomputable section

namespace Cert.PromptMix

open Idealize.ShloMosaic Cert.Reference8Ideal Cert.Reference8Ideal.Read
open Cert.Sample (IsR isR_coe reduceWindowAdd_eq exp_coe div_coe fg kg sg Unit01 log_fg ninf)

/-! ## A cumulative sum over the prompt, lane by lane -/

theorem cumsum4 (x : FVec Ideal S8x2048x4x128 .f32) (b : Fin 8) (t : Fin 2048) (h : Fin 4)
    (c : Fin 128) (init : FVec Ideal S_ .f32) (h0 : init (Shape.Idx.first Gen.h_S_) = (0 : EReal))
    (hx : ∀ s, IsR (x (ix4 b s h c))) :
    Host.reduceWindowAdd ![1, 2048, 1, 1] ![1, 1, 1, 1] ![0, 2047, 0, 0] ![0, 0, 0, 0] x init
      Gen.reduceWindows_S8x2048x4x128_S8x2048x4x128_w1s1p0_0_w2048s1p2047_0_w1s1p0_0_w1s1p0_0
      Gen.h_S_ (ix4 b t h c)
      = ((tot (re fun s => x (ix4 b s h c)) (t.val + 1) : ℝ) : EReal) := by
  rw [reduceWindowAdd_eq _ _ _ _ _ _ _ _ _ h0, ← window_tot _ hx]
  refine Finset.sum_congr rfl fun (n : Fin 2048) _ => ?_
  set p := (Shape.rowMajor (⟨4, ![1, 2048, 1, 1]⟩ : Shape)).symm n with hp
  have e0 : (p 0).val = 0 := by have : (p 0).val < 1 := Fin.isLt _; omega
  have e2 : (p 2).val = 0 := by have : (p 2).val < 1 := Fin.isLt _; omega
  have e3 : (p 3).val = 0 := by have : (p 3).val < 1 := Fin.isLt _; omega
  have e1 : (p 1).val = n.val := by
    have hv := Shape.rowMajor_val_four p
    have ha := congrArg Fin.val
      ((Shape.rowMajor (⟨4, ![1, 2048, 1, 1]⟩ : Shape)).apply_symm_apply n)
    have hv' : n.val = (((p 0).val * 2048 + (p 1).val) * 1 + (p 2).val) * 1 + (p 3).val :=
      ha.symm.trans hv
    omega
  have hb := b.isLt; have ht := t.isLt; have hh := h.isLt; have hc := c.isLt; have hnl := n.isLt
  by_cases h7 : 2047 ≤ t.val + n.val
  · rw [dif_pos h7, dif_pos]
    · refine congrArg x (funext fun a => Fin.ext ?_)
      match a with
      | ⟨0, _⟩ => show b.val * 1 + (p 0).val - 0 = b.val; omega
      | ⟨1, _⟩ => show t.val * 1 + (p 1).val - 2047 = t.val + n.val - 2047; omega
      | ⟨2, _⟩ => show h.val * 1 + (p 2).val - 0 = h.val; omega
      | ⟨3, _⟩ => show c.val * 1 + (p 3).val - 0 = c.val; omega
    · intro a
      match a with
      | ⟨0, _⟩ => show 0 ≤ b.val * 1 + (p 0).val ∧ b.val * 1 + (p 0).val - 0 < 8; omega
      | ⟨1, _⟩ => show 2047 ≤ t.val * 1 + (p 1).val ∧ t.val * 1 + (p 1).val - 2047 < 2048; omega
      | ⟨2, _⟩ => show 0 ≤ h.val * 1 + (p 2).val ∧ h.val * 1 + (p 2).val - 0 < 4; omega
      | ⟨3, _⟩ => show 0 ≤ c.val * 1 + (p 3).val ∧ c.val * 1 + (p 3).val - 0 < 128; omega
  · rw [dif_neg h7, dif_neg]
    intro hall
    have h1 : 2047 ≤ t.val * 1 + (p 1).val := (hall 1).1
    omega

/-! ## The forget floor -/

section
variable (x8 : FVec Ideal S2x512 .f32) (h : Fin 4)

/-- The forget floor of a head's lane. -/
def lbP (c : Fin 128) : EReal := val_main_v65 (F := Ideal) x8 (ix2 h c)

theorem v62_at (c : Fin 512) : val_main_v62 (F := Ideal) x8 (ix2 (0 : Fin 2) c)
    = val_main_v61 (F := Ideal) x8 (ix2 (0 : Fin 2) c) := by
  rw [val_main_v62, reduceWindowAdd_eq]
  · have e0 : ∀ n : Fin 2, ((Shape.rowMajor (⟨2, ![2, 1]⟩ : Shape)).symm n 0).val = n.val := by
      decide
    have e1 : ∀ n : Fin 2, ((Shape.rowMajor (⟨2, ![2, 1]⟩ : Shape)).symm n 1).val = 0 := by decide
    have hc := c.isLt
    refine (Finset.sum_eq_single (1 : Fin 2) ?_ ?_).trans ?_
    · intro n _ hn
      have hn0 : n.val = 0 := by omega
      have f0 := e0 n
      refine dif_neg fun hall => ?_
      have h1 : 1 ≤ 0 * 1 + ((Shape.rowMajor (⟨2, ![2, 1]⟩ : Shape)).symm n 0).val := (hall 0).1
      omega
    · exact fun h => absurd (Finset.mem_univ _) h
    · have f0 : _ = 1 := e0 1
      have f1 := e1 1
      refine (dif_pos ?_).trans ?_
      · intro a
        match a with
        | ⟨0, _⟩ =>
          show 1 ≤ 0 * 1 + ((Shape.rowMajor (⟨2, ![2, 1]⟩ : Shape)).symm (1 : Fin 2) 0).val
            ∧ 0 * 1 + ((Shape.rowMajor (⟨2, ![2, 1]⟩ : Shape)).symm (1 : Fin 2) 0).val - 1 < 2
          omega
        | ⟨1, _⟩ =>
          show 0 ≤ c.val * 1 + ((Shape.rowMajor (⟨2, ![2, 1]⟩ : Shape)).symm (1 : Fin 2) 1).val
            ∧ c.val * 1 + ((Shape.rowMajor (⟨2, ![2, 1]⟩ : Shape)).symm (1 : Fin 2) 1).val - 0 < 512
          omega
      · refine congrArg (val_main_v61 (F := Ideal) x8) (funext fun a => Fin.ext ?_)
        match a with
        | ⟨0, _⟩ =>
          show 0 * 1 + ((Shape.rowMajor (⟨2, ![2, 1]⟩ : Shape)).symm (1 : Fin 2) 0).val - 1 = 0
          omega
        | ⟨1, _⟩ =>
          show c.val * 1 + ((Shape.rowMajor (⟨2, ![2, 1]⟩ : Shape)).symm (1 : Fin 2) 1).val - 0 = c.val
          omega
  · pointwise [val_main_call2_call0_v0, val_main_call2_call0_cst]

theorem lbP_at (c : Fin 128) : lbP x8 h c
    = val_main_v61 (F := Ideal) x8 (ix2 (0 : Fin 2) (⟨h.val * 128 + c.val, by omega⟩ : Fin 512)) := by
  rw [← v62_at]
  pointwise [lbP, val_main_v65, val_main_v64, val_main_v63]

/-- A softmax over two finite logits is strictly between zero and one. -/
theorem lbP_unit (hx : ∀ r c, IsR (x8 (ix2 r c))) (c : Fin 128) : Unit01 (lbP x8 h c) := by
  rw [lbP_at]
  generalize (⟨h.val * 128 + c.val, _⟩ : Fin 512) = k
  pointwise [val_main_v61, val_main_v60, val_main_v59, val_main_v58, val_main_v57, val_main_v56,
    val_main_v55, val_main_v54, val_main_v53, val_main_v52, val_main_v51, val_main_cst_2,
    val_main_cst_3, val_main_cst_4]
  obtain ⟨a, ha⟩ := hx 0 k
  obtain ⟨d, hd⟩ := hx 1 k
  set M : EReal := max (Ideal.ofBits FTy.f32 4286578688#32)
    (Finset.fold max (Ideal.ofBits FTy.f32 4286578688#32) (fun x => x8 (ix2 x k))
      Finset.univ) with hM
  show Unit01 (Ideal.div (Ideal.exp (x8 (ix2 0 k) - M))
    (∑ x : Fin 2, Ideal.exp (x8 (ix2 x k) - M)))
  obtain ⟨m, hm⟩ : IsR M := by
    rw [hM, ninf, show (Finset.univ : Finset (Fin 2)) = {0, 1} from rfl, Finset.fold_insert (by decide),
      Finset.fold_singleton, ha, hd]
    simp only [max_bot_left, max_bot_right]
    exact IsR.max ⟨_, rfl⟩ ⟨_, rfl⟩
  rw [hm]
  rw [Fin.sum_univ_two, ha, hd, ← EReal.coe_sub, ← EReal.coe_sub, exp_coe, exp_coe,
    ← EReal.coe_add, div_coe _ _ (by positivity)]
  refine ⟨_, rfl, by positivity, ?_⟩
  rw [div_lt_one (by positivity)]
  linarith [Real.exp_pos (d - m)]
end

/-! ## The state -/

section
variable (x0 : FVec Ideal S16384x4104 .f32) (x4 : FVec Ideal S1x4x128x128 .f32)
  (x8 : FVec Ideal S2x512 .f32) (b : Fin 8) (h : Fin 4)

/-- The recurrence's gate inputs. -/
def gR (c : Fin 128) (t : Fin 2048) : EReal :=
  x0 (ix2 (rowP b t) (⟨2568 + (h.val * 128 + c.val), by omega⟩ : Fin 4104))
/-- The recurrence's values. -/
def wR (e : Fin 128) (t : Fin 2048) : EReal :=
  x0 (ix2 (rowP b t) (⟨3080 + (h.val * 128 + e.val), by omega⟩ : Fin 4104))
/-- The log forget gates. -/
def lfS (c : Fin 128) (t : Fin 2048) : EReal := Ideal.log (fg (lbP x8 h c) (gR x0 b h c t))
/-- What each position adds to the state. -/
def kS (c e : Fin 128) (t : Fin 2048) : EReal := kg (lbP x8 h c) (gR x0 b h c t) * wR x0 b h e t
/-- The state after `T` positions. -/
def sR (c e : Fin 128) (T : ℕ) : EReal :=
  lin (re (lfS x0 x8 b h c)) (x4 (ix4 (0 : Fin 1) h c e)) (nat (kS x0 x8 b h c e)) T

theorem v48_at (t c) : val_main_v48 (F := Ideal) x0 (ix4 b t h c) = gR x0 b h c t := by
  pointwise [val_main_v48, val_main_v47, val_main_v0]; rfl
theorem v50_at (t e) : val_main_v50 (F := Ideal) x0 (ix4 b t h e) = wR x0 b h e t := by
  pointwise [val_main_v50, val_main_v49, val_main_v0]; rfl
theorem v79_at (t c) : val_main_v79 (F := Ideal) x0 x8 (ix4 b t h c)
    = fg (lbP x8 h c) (gR x0 b h c t) := by
  pointwise [val_main_v79, val_main_v78, val_main_v77, val_main_v76, val_main_v75, val_main_v74,
    val_main_v73, val_main_v72, val_main_cst_7, val_main_v71, val_main_v70, val_main_cst_6,
    val_main_v69, val_main_v68, val_main_v67, val_main_v66, val_main_cst_5]
  rw [v48_at, fg, sg]
  rfl
theorem v99_at (t c) : val_main_v99 (F := Ideal) x0 x8 (ix4 b t h c)
    = kg (lbP x8 h c) (gR x0 b h c t) := by
  pointwise [val_main_v99, val_main_v98, val_main_v97, val_main_v96, val_main_v95, val_main_cst_10,
    val_main_v94, val_main_v93, val_main_cst_9, val_main_v92, val_main_v91, val_main_v90,
    val_main_v89, val_main_v88, val_main_cst_8]
  rw [v48_at, kg, sg]
  rfl
theorem v80_at (t c) : val_main_v80 (F := Ideal) x0 x8 (ix4 b t h c) = lfS x0 x8 b h c t := by
  pointwise [val_main_v80]
  rw [v79_at, lfS]
theorem lfS_real (hl : ∀ c, Unit01 (lbP x8 h c)) (hg : ∀ c t, IsR (gR x0 b h c t)) (c : Fin 128)
    (t : Fin 2048) : IsR (lfS x0 x8 b h c t) := by
  obtain ⟨r, hr, _⟩ := log_fg (hl c) (hg c t)
  exact ⟨r, hr⟩

variable (hf : ∀ c t, IsR (lfS x0 x8 b h c t))
include hf

theorem v81_at (t : Fin 2048) (c : Fin 128) : val_main_v81 (F := Ideal) x0 x8 (ix4 b t h c)
    = ((tot (re (lfS x0 x8 b h c)) (t.val + 1) : ℝ) : EReal) := by
  rw [val_main_v81, cumsum4]
  · simp only [v80_at]
  · pointwise [val_main_call3_call0_v0, val_main_call3_call0_cst]
  · intro s; rw [v80_at]; exact hf c s
theorem v83_at (c) : val_main_v83 (F := Ideal) x0 x8 (ix3 b h c)
    = ((tot (re (lfS x0 x8 b h c)) 2048 : ℝ) : EReal) := by
  pointwise [val_main_v83, val_main_v82]
  exact v81_at x0 x8 b h hf ⟨2047, by omega⟩ c
theorem v100_at (t : Fin 2048) (c) : val_main_v100 (F := Ideal) x0 x8 (ix4 b t h c)
    = Ideal.exp (((tot (re (lfS x0 x8 b h c)) 2048 : ℝ) : EReal)
      - ((tot (re (lfS x0 x8 b h c)) (t.val + 1) : ℝ) : EReal))
      * kg (lbP x8 h c) (gR x0 b h c t) := by
  pointwise [val_main_v100, val_main_v87, val_main_v86, val_main_v85, val_main_v84]
  rw [v83_at x0 x8 b h hf, v81_at x0 x8 b h hf, v99_at]
theorem v107_at (c e) : val_main_v107 (F := Ideal) x0 x4 x8 (ix4 b h c e)
    = sR x0 x4 x8 b h c e 2048 := by
  pointwise [val_main_v107, val_main_v106, val_main_v105, val_main_v104, val_main_v103,
    val_main_v102, val_main_v101]
  rw [v83_at x0 x8 b h hf, sR, ← lin_whole]
  simp only [v100_at x0 x8 b h hf, v50_at, nat_at, mul_assoc]
  rfl
end

end Cert.PromptMix
-- ==== Proof.PromptMix.StateArrays.lean ====
/-
  The prompt mixer's recurrent state, step by step: between a sequence's chunks it is held with the value
  axis first, and the last chunk writes back the recurrence after 2048 positions.
-/
module

public import proofs.«01_k».proof.Proof.PromptMix.Arrays
public import proofs.«01_k».proof.Proof.PromptMix.StateLoads
public import proofs.«01_k».proof.Proof.PromptMix.StateReference

@[expose] public section

noncomputable section

namespace Cert.PromptMix

open Idealize.ShloMosaic Idealize.ShloMosaic.TcCoe Idealize.SL.Sem Cert.Kernel8Ideal Cert.Kernel8Ideal.Gen
open Cert.Kernel8Ideal.Value
open Cert.Sample (IsR fg kg Unit01)

/-! ## The host's operations and the blocks -/

section
variable {F : FTy → Type} [FloatOps F]
variable (m : (ℓ : Loc nD τ sig) → Buf (Elt F) ℓ) (c : Dev nD)

theorem V_v24 : V m c main_v24 = shapeCast S1x512
    (shapeCast S512 (Reference8Ideal.Read.val_main_v63 (F := F) (m ((c : Thread nD τ).loc main_arg8))) shapeCasts_S1x512_S512)
    shapeCasts_S512_S1x512 := by
  sl_kernel_rfl
theorem regroup_hi (x : FVec F S16384x4104 .f32) (r : Fin 16384) (l : Fin 2048) :
    regroup x (ix2 r (⟨2048 + l.val, by omega⟩ : Fin 4224))
      = x (ix2 r (⟨2056 + l.val, by omega⟩ : Fin 4104)) := by
  pointwise [regroup]
end

theorem lbRow_at (x : FVec Ideal S2x512 .f32) (h : Fin 4) (e : Fin 128) :
    shapeCast S1x512 (shapeCast S512 (Reference8Ideal.Read.val_main_v63 (F := Ideal) x)
      shapeCasts_S1x512_S512) shapeCasts_S512_S1x512
      (ix2 (0 : Fin 1) (⟨128 * h.val + e.val, by omega⟩ : Fin 512)) = lbP x h e := by
  rw [lbP_at, ← v62_at]
  pointwise [Reference8Ideal.Read.val_main_v63]
  refine congrArg (fun k => Reference8Ideal.Read.val_main_v62 (F := Ideal) x (ix2 0 k)) (Fin.ext ?_)
  show 128 * h.val + e.val = h.val * 128 + e.val
  omega

theorem idx4 : ∀ t : Fin grid0.N, win0_4.index t 0 = 0 ∧ win0_4.index t 1 = 0 ∧ win0_4.index t 2 = 0 ∧ win0_4.index t 3 = 0 := by decide +kernel
theorem emb4 (t : Fin grid0.N) (a : Fin 1) (b : Fin 4) (d : Fin 128) (e : Fin 128) :
    ((cfg0.win 4).blk t).view.emb (ix4 a b d e)
      = ix4 a b d e := by
  obtain ⟨e0, e1, e2, e3⟩ := idx4 t
  funext a'
  match a' with
  | ⟨0, _⟩ => exact Fin.ext (by show win0_4.index t 0 * 1 + 1 * a.val = a.val; omega)
  | ⟨1, _⟩ => exact Fin.ext (by show win0_4.index t 1 * 4 + 1 * b.val = b.val; omega)
  | ⟨2, _⟩ => exact Fin.ext (by show win0_4.index t 2 * 128 + 1 * d.val = d.val; omega)
  | ⟨3, _⟩ => exact Fin.ext (by show win0_4.index t 3 * 128 + 1 * e.val = e.val; omega)
theorem idx8 : ∀ t : Fin grid0.N, win0_8.index t 0 = 0 ∧ win0_8.index t 1 = 0 := by decide +kernel
theorem emb8 (t : Fin grid0.N) (a : Fin 1) (b : Fin 512) :
    ((cfg0.win 8).blk t).view.emb (ix2 a b)
      = ix2 a b := by
  obtain ⟨e0, e1⟩ := idx8 t
  funext a'
  match a' with
  | ⟨0, _⟩ => exact Fin.ext (by show win0_8.index t 0 * 1 + 1 * a.val = a.val; omega)
  | ⟨1, _⟩ => exact Fin.ext (by show win0_8.index t 1 * 512 + 1 * b.val = b.val; omega)
theorem idx13 : ∀ t : Fin grid0.N, win0_13.index t 0 = t.val / 16 ∧ win0_13.index t 1 = 0 ∧ win0_13.index t 2 = 0 ∧ win0_13.index t 3 = 0 := by decide +kernel
theorem emb13 (t : Fin grid0.N) (a : Fin 1) (b : Fin 4) (d : Fin 128) (e : Fin 128) :
    ((cfg0.win 13).blk t).view.emb (ix4 a b d e)
      = ix4 (⟨t.val / 16, by have := t.isLt; have h : grid0.N = 128 := rfl; omega⟩ : Fin 8) b d e := by
  obtain ⟨e0, e1, e2, e3⟩ := idx13 t
  have ha := a.isLt
  funext a'
  match a' with
  | ⟨0, _⟩ => exact Fin.ext (by show win0_13.index t 0 * 1 + 1 * a.val = t.val / 16; omega)
  | ⟨1, _⟩ => exact Fin.ext (by show win0_13.index t 1 * 4 + 1 * b.val = b.val; omega)
  | ⟨2, _⟩ => exact Fin.ext (by show win0_13.index t 2 * 128 + 1 * d.val = d.val; omega)
  | ⟨3, _⟩ => exact Fin.ext (by show win0_13.index t 3 * 128 + 1 * e.val = e.val; omega)

variable (m : (ℓ : Loc nD τ sig) → Buf (Elt Ideal) ℓ) (c : Dev nD)

/-- The initial state and the floor's logits. -/
abbrev y4 := m ((c : Thread nD τ).loc main_arg4)
abbrev y8 := m ((c : Thread nD τ).loc main_arg8)

/-! ## What the input windows hold -/

theorem in_hi (t : Fin grid0.N) (s : Fin 128) (l : Fin 2048) :
    iblk m c 0 t (ix2 s (⟨2048 + l.val, by omega⟩ : Fin 4224))
      = y0 m c (ix2 (rowP (seqN t.val t.isLt) (posN t.val s)) (⟨2056 + l.val, by omega⟩ : Fin 4104)) := by
  show V m c main_v4 (((cfg0.win 0).blk t).view.emb (ix2 _ _)) = _
  rw [emb0, V_v4]
  refine (regroup_hi (F := Ideal) _ _ l).trans (congrArg (fun r => y0 m c (ix2 r _)) (Fin.ext ?_))
  show 128 * t.val + s.val = t.val / 16 * 2048 + (128 * (t.val % 16) + s.val)
  omega
theorem in_S (t : Fin grid0.N) (h : Fin 4) (r e : Fin 128) :
    iblk m c 4 t (ix4 (0 : Fin 1) h r e) = y4 m c (ix4 (0 : Fin 1) h r e) := by
  show V m c main_arg4 (((cfg0.win 4).blk t).view.emb (ix4 _ _ _ _)) = _
  rw [emb4, V_main_arg4]
theorem chL_at (t : Fin grid0.N) (h : Fin 4) (r : Fin 128) :
    chL (iblk m c 8 t) h r = lbP (y8 m c) h r := by
  show V m c main_v24 (((cfg0.win 8).blk t).view.emb (ix2 _ _)) = _
  rw [emb8, V_v24]
  exact lbRow_at _ h r
theorem chG_at (t : Fin grid0.N) (h : Fin 4) (s r : Fin 128) :
    chG (iblk m c 0 t) h s r = gR (y0 m c) (seqN t.val t.isLt) h r (posN t.val s) := by
  have e := in_hi m c t s (⟨512 + (h.val * 128 + r.val), by omega⟩ : Fin 2048)
  have l1 : (⟨2048 + (512 + (h.val * 128 + r.val)), by omega⟩ : Fin 4224)
      = ⟨2560 + 128 * h.val + r.val, by omega⟩ :=
    Fin.ext (by show 2048 + (512 + (h.val * 128 + r.val)) = 2560 + 128 * h.val + r.val; omega)
  have l2 : (⟨2056 + (512 + (h.val * 128 + r.val)), by omega⟩ : Fin 4104)
      = ⟨2568 + (h.val * 128 + r.val), by omega⟩ :=
    Fin.ext (by show 2056 + (512 + (h.val * 128 + r.val)) = 2568 + (h.val * 128 + r.val); omega)
  exact ((congrArg (fun l => iblk m c 0 t (ix2 s l)) l1).symm.trans e).trans
    (congrArg (fun l => y0 m c (ix2 (rowP (seqN t.val t.isLt) (posN t.val s)) l)) l2)
theorem chW_at (t : Fin grid0.N) (h : Fin 4) (s e : Fin 128) :
    chW (iblk m c 0 t) h s e = wR (y0 m c) (seqN t.val t.isLt) h e (posN t.val s) := by
  have e' := in_hi m c t s (⟨1024 + (h.val * 128 + e.val), by omega⟩ : Fin 2048)
  have l1 : (⟨2048 + (1024 + (h.val * 128 + e.val)), by omega⟩ : Fin 4224)
      = ⟨3072 + 128 * h.val + e.val, by omega⟩ :=
    Fin.ext (by show 2048 + (1024 + (h.val * 128 + e.val)) = 3072 + 128 * h.val + e.val; omega)
  have l2 : (⟨2056 + (1024 + (h.val * 128 + e.val)), by omega⟩ : Fin 4104)
      = ⟨3080 + (h.val * 128 + e.val), by omega⟩ :=
    Fin.ext (by show 2056 + (1024 + (h.val * 128 + e.val)) = 3080 + (h.val * 128 + e.val); omega)
  exact ((congrArg (fun l => iblk m c 0 t (ix2 s l)) l1).symm.trans e').trans
    (congrArg (fun l => y0 m c (ix2 (rowP (seqN t.val t.isLt) (posN t.val s)) l)) l2)

/-- Real gate inputs, and a forget floor strictly between zero and one. -/
structure Floors (z0 : FVec Ideal Reference8Ideal.S16384x4104 .f32)
    (z8 : FVec Ideal Reference8Ideal.S2x512 .f32) : Prop where
  l : ∀ h r, Unit01 (lbP z8 h r)
  g : ∀ b h r t, IsR (gR z0 b h r t)

/-- The state after step `n`, value axis first. -/
def HeldS (n : ℕ) (hn : n < cfg0.N) (T : ℕ) : Prop :=
  ∀ h r e, (outsAt0 m c n hn).2.2.2.2 (ix4 (0 : Fin 1) h e r)
    = sR (y0 m c) (y4 m c) (y8 m c) (seqN n hn) h r e T

theorem inj13 : ∀ t t' : Fin grid0.N, t.val % 16 = 15 → t'.val % 16 = 15 →
    win0_13.index t = win0_13.index t' → t = t' := by
  intro t t' h h' e
  have e0 := congrFun e 0
  rw [(idx13 t).1, (idx13 t').1] at e0
  exact Fin.ext (by omega)

theorem flush13 : ∀ t : Fin grid0.N, (cfg0.win 13).flush t = true ↔ t.val % 16 = 15 := by
  decide +kernel

theorem blocks13 (t : Fin cfg0.N) (hf : t.val % 16 = 15) :
    ((cfg0.win 13).blk t).view.read (Elt Ideal) ((dats m 0 c).arrAt 13 cfg0.N) = (dats m 0 c).flushed 13 t :=
  (dats m 0 c).read_blk_arrAt_eq_flushed 13
    (fun t t' h h' hne => (cfg0.win 13).disjoint_blk fun e =>
      hne (inj13 t t' ((flush13 t).mp h) ((flush13 t').mp h') e))
    cfg0.N t t.isLt ((flush13 t).mpr hf)

variable (G : Floors (y0 m c) (y8 m c))
include G

/-! ## One chunk -/

theorem lfS_isR (b : Fin 8) (h : Fin 4) (r : Fin 128) (t : Fin 2048) :
    IsR (lfS (y0 m c) (y8 m c) b h r t) := lfS_real _ _ b h (G.l h) (G.g b h) r t
theorem step_S (t : Fin grid0.N) (h : Fin 4) (r e : Fin 128) (X : Fin 128 → Fin 128 → EReal)
    (hX : X r e = sR (y0 m c) (y4 m c) (y8 m c) (seqN t.val t.isLt) h r e (128 * (t.val % 16))) :
    sNew (chL (iblk m c 8 t) h) (chG (iblk m c 0 t) h) (chW (iblk m c 0 t) h) X r e
      = sR (y0 m c) (y4 m c) (y8 m c) (seqN t.val t.isLt) h r e (128 * (t.val % 16) + 128) := by
  refine chunk_sNew (re (lfS (y0 m c) (y8 m c) (seqN t.val t.isLt) h r)) _ _ _ _ _ _ _ _
    (nat (kS (y0 m c) (y8 m c) (seqN t.val t.isLt) h r e)) (fun s => ?_) (fun s => ?_) hX
  · rw [chL_at, chG_at]
    exact re_at (lfS_isR m c G _ h r) (posN t.val s)
  · rw [chL_at, chG_at, chW_at]
    exact (nat_at (kS (y0 m c) (y8 m c) (seqN t.val t.isLt) h r e) (posN t.val s)).symm

/-! ## All chunks -/

theorem heldS_A (t : Fin cfg0.N) (h0 : t.val % 16 = 0) (h1 : ¬t.val % 16 = 15) :
    HeldS m c t.val t.isLt (128 * (t.val % 16) + 128) := by
  intro h r e
  refine (congrFun (congrArg (·.2.2.2.2) (outsAt0_A m c t h0 h1)) _).trans ?_
  dsimp only
  refine (outS_A ..).trans
    (step_S m c G t h r e _ ?_)
  rw [in_S, h0]
  rfl
theorem heldS_B (t : Fin cfg0.N) (h0 : ¬t.val % 16 = 0) (h1 : ¬t.val % 16 = 15)
    (P : HeldS m c (t.val - 1) (Nat.lt_of_le_of_lt (Nat.sub_le _ _) t.isLt) (128 * ((t.val - 1) % 16) + 128)) :
    HeldS m c t.val t.isLt (128 * (t.val % 16) + 128) := by
  have hb : seqN (t.val - 1) (Nat.lt_of_le_of_lt (Nat.sub_le _ _) t.isLt) = seqN t.val t.isLt :=
    Fin.ext (by show (t.val - 1) / 16 = t.val / 16; omega)
  have hT : 128 * ((t.val - 1) % 16) + 128 = 128 * (t.val % 16) := by omega
  unfold HeldS at P
  rw [hb, hT] at P
  intro h r e
  refine (congrFun (congrArg (·.2.2.2.2) (outsAt0_B m c t h0 h1)) _).trans ?_
  dsimp only
  exact (outS_B ..).trans
    (step_S m c G t h r e _ (P h r e))
theorem heldS_C (t : Fin cfg0.N) (h0 : ¬t.val % 16 = 0) (h1 : t.val % 16 = 15)
    (P : HeldS m c (t.val - 1) (Nat.lt_of_le_of_lt (Nat.sub_le _ _) t.isLt) (128 * ((t.val - 1) % 16) + 128)) :
    ∀ h r e, (outsAt0 m c t.val t.isLt).2.2.2.2 (ix4 (0 : Fin 1) h r e)
      = sR (y0 m c) (y4 m c) (y8 m c) (seqN t.val t.isLt) h r e (128 * (t.val % 16) + 128) := by
  have hb : seqN (t.val - 1) (Nat.lt_of_le_of_lt (Nat.sub_le _ _) t.isLt) = seqN t.val t.isLt :=
    Fin.ext (by show (t.val - 1) / 16 = t.val / 16; omega)
  have hT : 128 * ((t.val - 1) % 16) + 128 = 128 * (t.val % 16) := by omega
  unfold HeldS at P
  rw [hb, hT] at P
  intro h r e
  refine (congrFun (congrArg (·.2.2.2.2) (outsAt0_C m c t h0 h1)) _).trans ?_
  dsimp only
  exact (outS_C ..).trans
    (step_S m c G t h r e _ (P h r e))

theorem heldS (n : ℕ) : ∀ hn : n < cfg0.N, ¬n % 16 = 15 → HeldS m c n hn (128 * (n % 16) + 128) := by
  induction n with
  | zero => intro hn h1; exact heldS_A m c G ⟨0, hn⟩ (by rfl) h1
  | succ n ih =>
    intro hn h1
    by_cases h0 : (n + 1) % 16 = 0
    · exact heldS_A m c G ⟨n + 1, hn⟩ h0 h1
    · exact heldS_B m c G ⟨n + 1, hn⟩ h0 h1 (ih (Nat.lt_of_succ_lt hn) (by omega))

/-! ## The result array -/

theorem S_entry (b : Fin 8) (h : Fin 4) (r e : Fin 128) :
    (dats m 0 c).arrAt 13 cfg0.N (ix4 b h r e)
      = Reference8Ideal.Read.val_main_v107 (F := Ideal) (y0 m c) (y4 m c) (y8 m c) (ix4 b h r e) := by
  have hk := congrFun (blocks13 m c (lastP b) (last_mod b)) (ix4 (0 : Fin 1) h r e)
  rw [flushed13] at hk
  have h15 := last_mod b
  have hv := heldS_C m c G (lastP b) (by omega) h15
    (heldS m c G ((lastP b).val - 1) _ (by omega)) h r e
  rw [seq_last, all_last] at hv
  refine Eq.trans (Eq.trans ?_ hk) (Eq.trans ?_ (Eq.trans hv
    (v107_at (y0 m c) (y4 m c) (y8 m c) b h (lfS_isR m c G b h) r e).symm))
  · refine congrArg _ (Eq.trans ?_ (emb13 (lastP b) (0 : Fin 1) h r e).symm)
    exact congrArg (fun b => ix4 b h r e) (seq_last b).symm
  · rfl
theorem S_arr : (dats m 0 c).arrAt 13 cfg0.N
    = Reference8Ideal.Read.val_main_v107 (F := Ideal) (y0 m c) (y4 m c) (y8 m c) := by
  funext i
  rw [show i = ix4 (i 0) (i 1) (i 2) (i 3) from (ix4_eta i).symm]
  exact S_entry m c G (i 0) (i 1) (i 2) (i 3)

end Cert.PromptMix

end
-- ==== Proof.PromptMix.Finite.lean ====
/-
  What the precondition gives: every entry of the projection, of the initial stabiliser, of the
  forget bias and of the floor's logits is a real number, hence so are the gates, and the forget
  floor is strictly between zero and one.
-/
module

public import proofs.«01_k».proof.Proof.PromptMix.StateArrays
public import proofs.«01_k».proof.Proof.Sample.Finite
public import proofs.«01_k».proof.Pre_finite_start

@[expose] public section

noncomputable section

namespace Cert.PromptMix

open Idealize.ShloMosaic
open Cert.Sample (IsR isR_of_lt isR_lgs)

/-- The shapes the precondition names. -/
instance preFacts : Cert.Pre_finite_start.Facts where
  bcast_S_S16384x4104 := by decide
  reducesTo_S16384x4104_S_d0_1 := by decide
  h_S_ := by decide
  bcast_S_S1x4 := by decide
  reducesTo_S1x4_S_d0_1 := by decide
  bcast_S_S4 := by decide
  reducesTo_S4_S_d0 := by decide
  bcast_S_S2x512 := by decide
  reducesTo_S2x512_S_d0_1 := by decide

variable (x0 : FVec Ideal Cert.Pre_finite_start.S16384x4104 .f32)
  (x1 : FVec Ideal Cert.Pre_finite_start.S1x4x128x128 .f32)
  (x2 : FVec Ideal Cert.Pre_finite_start.S1x4x128 .f32)
  (x3 : FVec Ideal Cert.Pre_finite_start.S1x4 .f32)
  (x4 : FVec Ideal Cert.Pre_finite_start.S1x4x128x128 .f32)
  (x5 : FVec Ideal Cert.Pre_finite_start.S4 .f32)
  (x6 x7 : FVec Ideal Cert.Pre_finite_start.S4x128 .f32)
  (x8 : FVec Ideal Cert.Pre_finite_start.S2x512 .f32)

/-- Under the precondition the gates and the initial stabiliser are real. -/
theorem gates_of_pre
    (h : Cert.Pre_finite_start.fn (F := Ideal) x0 x1 x2 x3 x4 x5 x6 x7 x8 = fun _ => 1#1) :
    Gates x0 x3 x5 := by
  have e := congrFun h (fun a => a.elim0)
  obtain ⟨e02, -⟩ := IntOp.andi_eq_one.mp e
  obtain ⟨e01, e2⟩ := IntOp.andi_eq_one.mp e02
  obtain ⟨e0, e1⟩ := IntOp.andi_eq_one.mp e01
  haveI : Subsingleton Cert.Pre_finite_start.S_.Idx := ⟨fun a b => funext fun k => k.elim0⟩
  have h0 : ∀ i, IsR (x0 i) := fun i => isR_of_lt _ (Host.reduce_andi_all _ _ _ _ _ e0 i)
  have h3 : ∀ i, IsR (x3 i) := fun i => isR_of_lt _ (Host.reduce_andi_all _ _ _ _ _ e1 i)
  have h5 : ∀ i, IsR (x5 i) := fun i => isR_of_lt _ (Host.reduce_andi_all _ _ _ _ _ e2 i)
  exact ⟨fun b h t => isR_lgs ((h0 _).add (h5 _)), fun b h t => h0 _, fun h => h3 _⟩
/-- Under the precondition the recurrence's gate inputs are real and its floor is a proper weight. -/
theorem floors_of_pre
    (h : Cert.Pre_finite_start.fn (F := Ideal) x0 x1 x2 x3 x4 x5 x6 x7 x8 = fun _ => 1#1) :
    Floors x0 x8 := by
  have e := congrFun h (fun a => a.elim0)
  obtain ⟨e02, e8⟩ := IntOp.andi_eq_one.mp e
  obtain ⟨e01, -⟩ := IntOp.andi_eq_one.mp e02
  obtain ⟨e0, -⟩ := IntOp.andi_eq_one.mp e01
  haveI : Subsingleton Cert.Pre_finite_start.S_.Idx := ⟨fun a b => funext fun k => k.elim0⟩
  have h0 : ∀ i, IsR (x0 i) := fun i => isR_of_lt _ (Host.reduce_andi_all _ _ _ _ _ e0 i)
  have h8 : ∀ i, IsR (x8 i) := fun i => isR_of_lt _ (Host.reduce_andi_all _ _ _ _ _ e8 i)
  exact ⟨fun h r => lbP_unit x8 h (fun a b => h8 _) r, fun b h r t => h0 _⟩

end Cert.PromptMix

end
-- ==== Proof.PromptMix.Algebraic.lean ====
/-
  The prompt mixer's kernel and its reference give the same memories.
-/
module

public import proofs.«01_k».proof.Defs
public import proofs.«01_k».proof.Proof.PromptMix.Finite
public import proofs.«01_k».proof.Proof.Gen.Reference8Ideal.Run

@[expose] public section

noncomputable section

namespace Cert.PromptMix

open Cert.Kernel8Ideal Cert.Kernel8Ideal.Gen Idealize.ShloMosaic Idealize.ShloMosaic.TcCoe Idealize.SL.Sem
open Idealize.ShloMosaic.StableHlo
open Cert.Reference8Ideal.Read (val_main_v40 val_main_v40_eq val_main_v46 val_main_v46_eq val_main_v108 val_main_v108_eq val_main_v107 val_main_v107_eq)

/-- The two programs agree on the memories wherever the gates, the initial stabiliser and the floor's logits are finite. -/
theorem algebraic :
    Cert.algebraic_Kernel8Ideal_Reference8Ideal_pre_finite_start (hKernel8Ideal := Cert.Kernel8Ideal.Gen.facts)
      (hReference8Ideal := Cert.Reference8Ideal.Gen.facts) (hPre_finite_start := preFacts) := by
  intro m g m' g' hpre hargs
  refine ⟨fun c => val_main_v40 (F := Ideal) (m (c.tc.loc main_arg0)) (m (c.tc.loc main_arg1)) (m (c.tc.loc main_arg3)) (m (c.tc.loc main_arg5)),
    fun c => val_main_v46 (F := Ideal) (m (c.tc.loc main_arg0)) (m (c.tc.loc main_arg2)) (m (c.tc.loc main_arg3)) (m (c.tc.loc main_arg5)),
    fun c => val_main_v108 (F := Ideal) (m (c.tc.loc main_arg0)) (m (c.tc.loc main_arg3)) (m (c.tc.loc main_arg5)),
    fun c => val_main_v107 (F := Ideal) (m (c.tc.loc main_arg0)) (m (c.tc.loc main_arg4)) (m (c.tc.loc main_arg8)), ?_, ?_⟩
  · refine (θ_run Cert.Kernel8Ideal.defs _ _).mono (fun r h c => ?_) (Cert.Kernel8Ideal.Value.run_blocks (F := Ideal) m g)
    have G := gates_of_pre _ _ _ _ _ _ _ _ _ (hpre c)
    have L := floors_of_pre _ _ _ _ _ _ _ _ _ (hpre c)
    obtain ⟨-, h0, h1, h2, h3, hk⟩ := h c
    exact ⟨h0.trans (C_arr m c G), h1.trans (N_arr m c G), h2.trans (M_arr m c G), h3.trans (S_arr m c L), hk⟩
  · refine (θ_run Cert.Reference8Ideal.defs _ _).mono (fun r h c => ?_) (Cert.Reference8Ideal.Value.run (F := Ideal) m' g')
    obtain ⟨h0, h1, h2, h3, hk⟩ := h c
    obtain ⟨a0, a1, a2, a3, a4, a5, a6, a7, a8⟩ := hargs c
    have e0 := h0.trans (val_main_v40_eq (F := Ideal) m' c)
    have e1 := h1.trans (val_main_v46_eq (F := Ideal) m' c)
    have e2 := h2.trans (val_main_v108_eq (F := Ideal) m' c)
    have e3 := h3.trans (val_main_v107_eq (F := Ideal) m' c)
    have f0 : val_main_v40 (F := Ideal) (m' (c.tc.loc Cert.Reference8Ideal.main_arg0)) (m' (c.tc.loc Cert.Reference8Ideal.main_arg1)) (m' (c.tc.loc Cert.Reference8Ideal.main_arg3)) (m' (c.tc.loc Cert.Reference8Ideal.main_arg5))
        = val_main_v40 (F := Ideal) (m (c.tc.loc main_arg0)) (m (c.tc.loc main_arg1)) (m (c.tc.loc main_arg3)) (m (c.tc.loc main_arg5)) := by
      rw [a0, a1, a3, a5]
    have f1 : val_main_v46 (F := Ideal) (m' (c.tc.loc Cert.Reference8Ideal.main_arg0)) (m' (c.tc.loc Cert.Reference8Ideal.main_arg2)) (m' (c.tc.loc Cert.Reference8Ideal.main_arg3)) (m' (c.tc.loc Cert.Reference8Ideal.main_arg5))
        = val_main_v46 (F := Ideal) (m (c.tc.loc main_arg0)) (m (c.tc.loc main_arg2)) (m (c.tc.loc main_arg3)) (m (c.tc.loc main_arg5)) := by
      rw [a0, a2, a3, a5]
    have f2 : val_main_v108 (F := Ideal) (m' (c.tc.loc Cert.Reference8Ideal.main_arg0)) (m' (c.tc.loc Cert.Reference8Ideal.main_arg3)) (m' (c.tc.loc Cert.Reference8Ideal.main_arg5))
        = val_main_v108 (F := Ideal) (m (c.tc.loc main_arg0)) (m (c.tc.loc main_arg3)) (m (c.tc.loc main_arg5)) := by
      rw [a0, a3, a5]
    have f3 : val_main_v107 (F := Ideal) (m' (c.tc.loc Cert.Reference8Ideal.main_arg0)) (m' (c.tc.loc Cert.Reference8Ideal.main_arg4)) (m' (c.tc.loc Cert.Reference8Ideal.main_arg8))
        = val_main_v107 (F := Ideal) (m (c.tc.loc main_arg0)) (m (c.tc.loc main_arg4)) (m (c.tc.loc main_arg8)) := by
      rw [a0, a4, a8]
    exact ⟨e0.trans f0, e1.trans f1, e2.trans f2, e3.trans f3, hk⟩

end Cert.PromptMix

end
-- ==== Proof.lean ====
/-
  The certificate: every program runs to its end and leaves its arguments as they were, the
  idealizations rewrite nothing, and kernel and reference give the same results over the reals.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel3.Frame
public import proofs.«01_k».proof.Proof.Gen.Kernel4.Frame
public import proofs.«01_k».proof.Proof.Sample.Algebraic
public import proofs.«01_k».proof.Proof.Ffn.Algebraic
public import proofs.«01_k».proof.Proof.Out.Algebraic
public import proofs.«01_k».proof.Proof.In.Algebraic
public import proofs.«01_k».proof.Proof.Prompt.Same
public import proofs.«01_k».proof.Proof.Prompt.Algebraic
public import proofs.«01_k».proof.Proof.Gen.Kernel6.Frame
public import proofs.«01_k».proof.Proof.Gen.Kernel7.Frame
public import proofs.«01_k».proof.Proof.Gen.Kernel8Ideal.Frame
public import proofs.«01_k».proof.Proof.Gen.Kernel8.Frame
public import proofs.«01_k».proof.Proof.Gen.Reference8Ideal.Run
public import proofs.«01_k».proof.Proof.PromptOut.Algebraic
public import proofs.«01_k».proof.Proof.PromptIn.Algebraic
public import proofs.«01_k».proof.Proof.PromptMix.Algebraic
public import Idealize.ShloMosaic.Lib.Quiescent

@[expose] public section

noncomputable section

namespace Cert.Proof

open Idealize.ShloMosaic Idealize.SL.Sem

/-- The mixer's reference ends with its arguments as they were. -/
theorem frame_reference : Cert.quiescent_ReferenceIdeal (hReferenceIdeal := Cert.ReferenceIdeal.Gen.facts) :=
  fun m ρ _ => (θ_run Cert.ReferenceIdeal.defs _ _).mono (fun r h => ⟨fun c => (h c).2.2.2.2.2,
      sem_eq_zero_of_no_sems (by decide) r.2⟩)
    (Cert.ReferenceIdeal.Value.run (F := Ideal) m ρ)

/-- The feed-forward network's reference ends with its arguments as they were. -/
theorem frame_reference2 : Cert.quiescent_Reference2Ideal (hReference2Ideal := Cert.Reference2Ideal.Gen.facts) :=
  fun m ρ _ => (θ_run Cert.Reference2Ideal.defs _ _).mono (fun r h => ⟨fun c => (h c).2.2,
      sem_eq_zero_of_no_sems (by decide) r.2⟩)
    (Cert.Reference2Ideal.Value.run (F := Ideal) m ρ)

/-- The output projection's reference ends with its arguments as they were. -/
theorem frame_reference3 : Cert.quiescent_Reference3Ideal (hReference3Ideal := Cert.Reference3Ideal.Gen.facts) :=
  fun m ρ _ => (θ_run Cert.Reference3Ideal.defs _ _).mono (fun r h => ⟨fun c => (h c).2,
      sem_eq_zero_of_no_sems (by decide) r.2⟩)
    (Cert.Reference3Ideal.Value.run (F := Ideal) m ρ)

/-- The input projection's reference ends with its arguments as they were. -/
theorem frame_reference4 : Cert.quiescent_Reference4Ideal (hReference4Ideal := Cert.Reference4Ideal.Gen.facts) :=
  fun m ρ _ => (θ_run Cert.Reference4Ideal.defs _ _).mono (fun r h => ⟨fun c => (h c).2,
      sem_eq_zero_of_no_sems (by decide) r.2⟩)
    (Cert.Reference4Ideal.Value.run (F := Ideal) m ρ)

/-- The prompt's feed-forward network's reference ends with its arguments as they were. -/
theorem frame_reference5 : Cert.quiescent_Reference5Ideal (hReference5Ideal := Cert.Reference5Ideal.Gen.facts) :=
  fun m ρ _ => (θ_run Cert.Reference5Ideal.defs _ _).mono (fun r h => ⟨fun c => (h c).2.2,
      sem_eq_zero_of_no_sems (by decide) r.2⟩)
    (Cert.Reference5Ideal.Value.run (F := Ideal) m ρ)

/-- The prompt's feed-forward kernel, whose text is its idealization's, ends with its arguments as they were. -/
theorem frame_kernel5 : Cert.quiescent_Kernel5 (hKernel5 := Cert.Kernel5.Gen.facts) := by
  intro m ρ _
  rw [Cert.Prompt.defs_same]
  exact (θ_run Cert.Kernel5Ideal.defs _ _).mono (fun _ h => h) (Cert.Prompt.frame (F := Bits) m ρ)

/-- The prompt's output projection's reference ends with its arguments as they were. -/
theorem frame_reference6 : Cert.quiescent_Reference6Ideal (hReference6Ideal := Cert.Reference6Ideal.Gen.facts) :=
  fun m ρ _ => (θ_run Cert.Reference6Ideal.defs _ _).mono (fun r h => ⟨fun c => (h c).2,
      sem_eq_zero_of_no_sems (by decide) r.2⟩)
    (Cert.Reference6Ideal.Value.run (F := Ideal) m ρ)

/-- The prompt's input projection's reference ends with its arguments as they were. -/
theorem frame_reference7 : Cert.quiescent_Reference7Ideal (hReference7Ideal := Cert.Reference7Ideal.Gen.facts) :=
  fun m ρ _ => (θ_run Cert.Reference7Ideal.defs _ _).mono (fun r h => ⟨fun c => (h c).2,
      sem_eq_zero_of_no_sems (by decide) r.2⟩)
    (Cert.Reference7Ideal.Value.run (F := Ideal) m ρ)

/-- The prompt's mixer's reference ends with its arguments as they were. -/
theorem frame_reference8 : Cert.quiescent_Reference8Ideal (hReference8Ideal := Cert.Reference8Ideal.Gen.facts) :=
  fun m ρ _ => (θ_run Cert.Reference8Ideal.defs _ _).mono (fun r h => ⟨fun c => (h c).2.2.2.2,
      sem_eq_zero_of_no_sems (by decide) r.2⟩)
    (Cert.Reference8Ideal.Value.run (F := Ideal) m ρ)

/-- Every program ends with its arguments as they were, and the two of each call agree on the results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Sample.preFacts, Cert.PromptMix.preFacts,
  fun m ρ _ => Cert.Kernel.Gen.frame m ρ, fun m ρ _ => Cert.KernelIdeal.Gen.frame m ρ,
  fun m ρ _ => Cert.KernelIdeal.Gen.frame m ρ, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  frame_kernel5, fun m ρ _ => Cert.Prompt.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ,
  fun m ρ _ => Cert.Kernel8Ideal.Gen.frame m ρ, frame_reference8, fun m ρ _ => frame_reference8 m ρ trivial,
  trivial, Cert.Sample.algebraic, trivial, Cert.Ffn.algebraic, trivial, Cert.Out.algebraic,
  trivial, Cert.In.algebraic, trivial, Cert.Prompt.algebraic,
  trivial, Cert.PromptOut.algebraic, trivial, Cert.PromptIn.algebraic,
  trivial, Cert.PromptMix.algebraic⟩

end Cert.Proof

end
